-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxRefIdeal (m : (ℓ : Loc Cert.SquareDxRefIdeal.nD Cert.SquareDxRefIdeal.τ Cert.SquareDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_InADx (m : (ℓ : Loc Cert.InADx.nD Cert.InADx.τ Cert.InADx.sig) → Buf (Elt Bits) ℓ) : Prop :=
  True

def Pre_InADxIdeal (m : (ℓ : Loc Cert.InADxIdeal.nD Cert.InADxIdeal.τ Cert.InADxIdeal.sig) → Buf (Elt Ideal) ℓ) : Prop :=
  True

def Pre_InADxRefIdeal (m : (ℓ : Loc Cert.InADxRefIdeal.nD Cert.InADxRefIdeal.τ Cert.InADxRefIdeal.sig) → Buf (Elt Ideal) ℓ) : Prop :=
  True

def Pre_InBDx (m : (ℓ : Loc Cert.InBDx.nD Cert.InBDx.τ Cert.InBDx.sig) → Buf (Elt Bits) ℓ) : Prop :=
  True

def Pre_InBDxIdeal (m : (ℓ : Loc Cert.InBDxIdeal.nD Cert.InBDxIdeal.τ Cert.InBDxIdeal.sig) → Buf (Elt Ideal) ℓ) : Prop :=
  True

def Pre_InBDxRefIdeal (m : (ℓ : Loc Cert.InBDxRefIdeal.nD Cert.InBDxRefIdeal.τ Cert.InBDxRefIdeal.sig) → Buf (Elt Ideal) ℓ) : Prop :=
  True

def Pre_InCDx (m : (ℓ : Loc Cert.InCDx.nD Cert.InCDx.τ Cert.InCDx.sig) → Buf (Elt Bits) ℓ) : Prop :=
  True

def Pre_InCDxIdeal (m : (ℓ : Loc Cert.InCDxIdeal.nD Cert.InCDxIdeal.τ Cert.InCDxIdeal.sig) → Buf (Elt Ideal) ℓ) : Prop :=
  True

def Pre_InCDxRefIdeal (m : (ℓ : Loc Cert.InCDxRefIdeal.nD Cert.InCDxRefIdeal.τ Cert.InCDxRefIdeal.sig) → Buf (Elt Ideal) ℓ) : Prop :=
  True

def Pre_InGDx (m : (ℓ : Loc Cert.InGDx.nD Cert.InGDx.τ Cert.InGDx.sig) → Buf (Elt Bits) ℓ) : Prop :=
  True

def Pre_InGDxIdeal (m : (ℓ : Loc Cert.InGDxIdeal.nD Cert.InGDxIdeal.τ Cert.InGDxIdeal.sig) → Buf (Elt Ideal) ℓ) : Prop :=
  True

def Pre_InGDxRefIdeal (m : (ℓ : Loc Cert.InGDxRefIdeal.nD Cert.InGDxRefIdeal.τ Cert.InGDxRefIdeal.sig) → Buf (Elt Ideal) ℓ) : Prop :=
  True

def Pre_InADw (m : (ℓ : Loc Cert.InADw.nD Cert.InADw.τ Cert.InADw.sig) → Buf (Elt Bits) ℓ) : Prop :=
  True

def Pre_InADwIdeal (m : (ℓ : Loc Cert.InADwIdeal.nD Cert.InADwIdeal.τ Cert.InADwIdeal.sig) → Buf (Elt Ideal) ℓ) : Prop :=
  True

def Pre_InADwRefIdeal (m : (ℓ : Loc Cert.InADwRefIdeal.nD Cert.InADwRefIdeal.τ Cert.InADwRefIdeal.sig) → Buf (Elt Ideal) ℓ) : Prop :=
  True

def Pre_InCDw (m : (ℓ : Loc Cert.InCDw.nD Cert.InCDw.τ Cert.InCDw.sig) → Buf (Elt Bits) ℓ) : Prop :=
  True

def Pre_InCDwIdeal (m : (ℓ : Loc Cert.InCDwIdeal.nD Cert.InCDwIdeal.τ Cert.InCDwIdeal.sig) → Buf (Elt Ideal) ℓ) : Prop :=
  True

def Pre_InCDwRefIdeal (m : (ℓ : Loc Cert.InCDwRefIdeal.nD Cert.InCDwRefIdeal.τ Cert.InCDwRefIdeal.sig) → Buf (Elt Ideal) ℓ) : Prop :=
  True

def Pre_InGDw (m : (ℓ : Loc Cert.InGDw.nD Cert.InGDw.τ Cert.InGDw.sig) → Buf (Elt Bits) ℓ) : Prop :=
  True

def Pre_InGDwIdeal (m : (ℓ : Loc Cert.InGDwIdeal.nD Cert.InGDwIdeal.τ Cert.InGDwIdeal.sig) → Buf (Elt Ideal) ℓ) : Prop :=
  True

def Pre_InGDwRefIdeal (m : (ℓ : Loc Cert.InGDwRefIdeal.nD Cert.InGDwRefIdeal.τ Cert.InGDwRefIdeal.sig) → Buf (Elt Ideal) ℓ) : Prop :=
  True

def Pre_AOutDx (m : (ℓ : Loc Cert.AOutDx.nD Cert.AOutDx.τ Cert.AOutDx.sig) → Buf (Elt Bits) ℓ) : Prop :=
  True

def Pre_AOutDxIdeal (m : (ℓ : Loc Cert.AOutDxIdeal.nD Cert.AOutDxIdeal.τ Cert.AOutDxIdeal.sig) → Buf (Elt Ideal) ℓ) : Prop :=
  True

def Pre_AOutDxRefIdeal (m : (ℓ : Loc Cert.AOutDxRefIdeal.nD Cert.AOutDxRefIdeal.τ Cert.AOutDxRefIdeal.sig) → Buf (Elt Ideal) ℓ) : Prop :=
  True

def Pre_AOutDw (m : (ℓ : Loc Cert.AOutDw.nD Cert.AOutDw.τ Cert.AOutDw.sig) → Buf (Elt Bits) ℓ) : Prop :=
  True

def Pre_AOutDwIdeal (m : (ℓ : Loc Cert.AOutDwIdeal.nD Cert.AOutDwIdeal.τ Cert.AOutDwIdeal.sig) → Buf (Elt Ideal) ℓ) : Prop :=
  True

def Pre_AOutDwRefIdeal (m : (ℓ : Loc Cert.AOutDwRefIdeal.nD Cert.AOutDwRefIdeal.τ Cert.AOutDwRefIdeal.sig) → Buf (Elt Ideal) ℓ) : Prop :=
  True

def Pre_COutDx (m : (ℓ : Loc Cert.COutDx.nD Cert.COutDx.τ Cert.COutDx.sig) → Buf (Elt Bits) ℓ) : Prop :=
  True

def Pre_COutDxIdeal (m : (ℓ : Loc Cert.COutDxIdeal.nD Cert.COutDxIdeal.τ Cert.COutDxIdeal.sig) → Buf (Elt Ideal) ℓ) : Prop :=
  True

def Pre_COutDxRefIdeal (m : (ℓ : Loc Cert.COutDxRefIdeal.nD Cert.COutDxRefIdeal.τ Cert.COutDxRefIdeal.sig) → Buf (Elt Ideal) ℓ) : Prop :=
  True

def Pre_COutDw (m : (ℓ : Loc Cert.COutDw.nD Cert.COutDw.τ Cert.COutDw.sig) → Buf (Elt Bits) ℓ) : Prop :=
  True

def Pre_COutDwIdeal (m : (ℓ : Loc Cert.COutDwIdeal.nD Cert.COutDwIdeal.τ Cert.COutDwIdeal.sig) → Buf (Elt Ideal) ℓ) : Prop :=
  True

def Pre_COutDwRefIdeal (m : (ℓ : Loc Cert.COutDwRefIdeal.nD Cert.COutDwRefIdeal.τ Cert.COutDwRefIdeal.sig) → Buf (Elt Ideal) ℓ) : Prop :=
  True

def Pre_XkvDx (m : (ℓ : Loc Cert.XkvDx.nD Cert.XkvDx.τ Cert.XkvDx.sig) → Buf (Elt Bits) ℓ) : Prop :=
  True

def Pre_XkvDxIdeal (m : (ℓ : Loc Cert.XkvDxIdeal.nD Cert.XkvDxIdeal.τ Cert.XkvDxIdeal.sig) → Buf (Elt Ideal) ℓ) : Prop :=
  True

def Pre_XkvDxRefIdeal (m : (ℓ : Loc Cert.XkvDxRefIdeal.nD Cert.XkvDxRefIdeal.τ Cert.XkvDxRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_SquareFwd (m : (ℓ : Loc Cert.SquareFwd.nD Cert.SquareFwd.τ Cert.SquareFwd.sig) → Buf (Elt Bits) ℓ) : Prop :=
  True

def Pre_SquareFwdIdeal (m : (ℓ : Loc Cert.SquareFwdIdeal.nD Cert.SquareFwdIdeal.τ Cert.SquareFwdIdeal.sig) → Buf (Elt Ideal) ℓ) : Prop :=
  True

def Pre_SquareFwdRefIdeal (m : (ℓ : Loc Cert.SquareFwdRefIdeal.nD Cert.SquareFwdRefIdeal.τ Cert.SquareFwdRefIdeal.sig) → Buf (Elt Ideal) ℓ) : Prop :=
  True

def Pre_InCFwd (m : (ℓ : Loc Cert.InCFwd.nD Cert.InCFwd.τ Cert.InCFwd.sig) → Buf (Elt Bits) ℓ) : Prop :=
  True

def Pre_InCFwdIdeal (m : (ℓ : Loc Cert.InCFwdIdeal.nD Cert.InCFwdIdeal.τ Cert.InCFwdIdeal.sig) → Buf (Elt Ideal) ℓ) : Prop :=
  True

def Pre_InCFwdRefIdeal (m : (ℓ : Loc Cert.InCFwdRefIdeal.nD Cert.InCFwdRefIdeal.τ Cert.InCFwdRefIdeal.sig) → Buf (Elt Ideal) ℓ) : Prop :=
  True

def Pre_InGFwd (m : (ℓ : Loc Cert.InGFwd.nD Cert.InGFwd.τ Cert.InGFwd.sig) → Buf (Elt Bits) ℓ) : Prop :=
  True

def Pre_InGFwdIdeal (m : (ℓ : Loc Cert.InGFwdIdeal.nD Cert.InGFwdIdeal.τ Cert.InGFwdIdeal.sig) → Buf (Elt Ideal) ℓ) : Prop :=
  True

def Pre_InGFwdRefIdeal (m : (ℓ : Loc Cert.InGFwdRefIdeal.nD Cert.InGFwdRefIdeal.τ Cert.InGFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_AOutFwd (m : (ℓ : Loc Cert.AOutFwd.nD Cert.AOutFwd.τ Cert.AOutFwd.sig) → Buf (Elt Bits) ℓ) : Prop :=
  True

def Pre_AOutFwdIdeal (m : (ℓ : Loc Cert.AOutFwdIdeal.nD Cert.AOutFwdIdeal.τ Cert.AOutFwdIdeal.sig) → Buf (Elt Ideal) ℓ) : Prop :=
  True

def Pre_AOutFwdRefIdeal (m : (ℓ : Loc Cert.AOutFwdRefIdeal.nD Cert.AOutFwdRefIdeal.τ Cert.AOutFwdRefIdeal.sig) → Buf (Elt Ideal) ℓ) : Prop :=
  True

def Pre_COutFwd (m : (ℓ : Loc Cert.COutFwd.nD Cert.COutFwd.τ Cert.COutFwd.sig) → Buf (Elt Bits) ℓ) : Prop :=
  True

def Pre_COutFwdIdeal (m : (ℓ : Loc Cert.COutFwdIdeal.nD Cert.COutFwdIdeal.τ Cert.COutFwdIdeal.sig) → Buf (Elt Ideal) ℓ) : Prop :=
  True

def Pre_COutFwdRefIdeal (m : (ℓ : Loc Cert.COutFwdRefIdeal.nD Cert.COutFwdRefIdeal.τ Cert.COutFwdRefIdeal.sig) → Buf (Elt Ideal) ℓ) : Prop :=
  True

def Pre_XkvFwd (m : (ℓ : Loc Cert.XkvFwd.nD Cert.XkvFwd.τ Cert.XkvFwd.sig) → Buf (Elt Bits) ℓ) : Prop :=
  True

def Pre_XkvFwdIdeal (m : (ℓ : Loc Cert.XkvFwdIdeal.nD Cert.XkvFwdIdeal.τ Cert.XkvFwdIdeal.sig) → Buf (Elt Ideal) ℓ) : Prop :=
  True

def Pre_XkvFwdRefIdeal (m : (ℓ : Loc Cert.XkvFwdRefIdeal.nD Cert.XkvFwdRefIdeal.τ Cert.XkvFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_NormBwdLast (m : (ℓ : Loc Cert.NormBwdLast.nD Cert.NormBwdLast.τ Cert.NormBwdLast.sig) → Buf (Elt Bits) ℓ) : Prop :=
  True

def Pre_NormBwdLastIdeal (m : (ℓ : Loc Cert.NormBwdLastIdeal.nD Cert.NormBwdLastIdeal.τ Cert.NormBwdLastIdeal.sig) → Buf (Elt Ideal) ℓ) : Prop :=
  True

def Pre_NormBwdLastRefIdeal (m : (ℓ : Loc Cert.NormBwdLastRefIdeal.nD Cert.NormBwdLastRefIdeal.τ Cert.NormBwdLastRefIdeal.sig) → Buf (Elt Ideal) ℓ) : Prop :=
  True

def Pre_NormBwdFirst (m : (ℓ : Loc Cert.NormBwdFirst.nD Cert.NormBwdFirst.τ Cert.NormBwdFirst.sig) → Buf (Elt Bits) ℓ) : Prop :=
  True

def Pre_NormBwdFirstIdeal (m : (ℓ : Loc Cert.NormBwdFirstIdeal.nD Cert.NormBwdFirstIdeal.τ Cert.NormBwdFirstIdeal.sig) → Buf (Elt Ideal) ℓ) : Prop :=
  True

def Pre_NormBwdFirstRefIdeal (m : (ℓ : Loc Cert.NormBwdFirstRefIdeal.nD Cert.NormBwdFirstRefIdeal.τ Cert.NormBwdFirstRefIdeal.sig) → Buf (Elt Ideal) ℓ) : Prop :=
  True

def Pre_NormBwdMem (m : (ℓ : Loc Cert.NormBwdMem.nD Cert.NormBwdMem.τ Cert.NormBwdMem.sig) → Buf (Elt Bits) ℓ) : Prop :=
  True

def Pre_NormBwdMemIdeal (m : (ℓ : Loc Cert.NormBwdMemIdeal.nD Cert.NormBwdMemIdeal.τ Cert.NormBwdMemIdeal.sig) → Buf (Elt Ideal) ℓ) : Prop :=
  True

def Pre_NormBwdMemRefIdeal (m : (ℓ : Loc Cert.NormBwdMemRefIdeal.nD Cert.NormBwdMemRefIdeal.τ Cert.NormBwdMemRefIdeal.sig) → Buf (Elt Ideal) ℓ) : Prop :=
  True

def Pre_NormFwdLast (m : (ℓ : Loc Cert.NormFwdLast.nD Cert.NormFwdLast.τ Cert.NormFwdLast.sig) → Buf (Elt Bits) ℓ) : Prop :=
  True

def Pre_NormFwdLastIdeal (m : (ℓ : Loc Cert.NormFwdLastIdeal.nD Cert.NormFwdLastIdeal.τ Cert.NormFwdLastIdeal.sig) → Buf (Elt Ideal) ℓ) : Prop :=
  True

def Pre_NormFwdLastRefIdeal (m : (ℓ : Loc Cert.NormFwdLastRefIdeal.nD Cert.NormFwdLastRefIdeal.τ Cert.NormFwdLastRefIdeal.sig) → Buf (Elt Ideal) ℓ) : Prop :=
  True

def Pre_NormFwdFirst (m : (ℓ : Loc Cert.NormFwdFirst.nD Cert.NormFwdFirst.τ Cert.NormFwdFirst.sig) → Buf (Elt Bits) ℓ) : Prop :=
  True

def Pre_NormFwdFirstIdeal (m : (ℓ : Loc Cert.NormFwdFirstIdeal.nD Cert.NormFwdFirstIdeal.τ Cert.NormFwdFirstIdeal.sig) → Buf (Elt Ideal) ℓ) : Prop :=
  True

def Pre_NormFwdFirstRefIdeal (m : (ℓ : Loc Cert.NormFwdFirstRefIdeal.nD Cert.NormFwdFirstRefIdeal.τ Cert.NormFwdFirstRefIdeal.sig) → Buf (Elt Ideal) ℓ) : Prop :=
  True

def Pre_NormFwdMem (m : (ℓ : Loc Cert.NormFwdMem.nD Cert.NormFwdMem.τ Cert.NormFwdMem.sig) → Buf (Elt Bits) ℓ) : Prop :=
  True

def Pre_NormFwdMemIdeal (m : (ℓ : Loc Cert.NormFwdMemIdeal.nD Cert.NormFwdMemIdeal.τ Cert.NormFwdMemIdeal.sig) → Buf (Elt Ideal) ℓ) : Prop :=
  True

def Pre_NormFwdMemRefIdeal (m : (ℓ : Loc Cert.NormFwdMemRefIdeal.nD Cert.NormFwdMemRefIdeal.τ Cert.NormFwdMemRefIdeal.sig) → Buf (Elt Ideal) ℓ) : Prop :=
  True

def Pre_ConvNormBwd (m : (ℓ : Loc Cert.ConvNormBwd.nD Cert.ConvNormBwd.τ Cert.ConvNormBwd.sig) → Buf (Elt Bits) ℓ) : Prop :=
  True

def Pre_ConvNormBwdIdeal (m : (ℓ : Loc Cert.ConvNormBwdIdeal.nD Cert.ConvNormBwdIdeal.τ Cert.ConvNormBwdIdeal.sig) → Buf (Elt Ideal) ℓ) : Prop :=
  True

def Pre_ConvNormBwdIdeal_finite_grad [hPre_finite_grad : Cert.Pre_finite_grad.Facts] (m : (ℓ : Loc Cert.ConvNormBwdIdeal.nD Cert.ConvNormBwdIdeal.τ Cert.ConvNormBwdIdeal.sig) → Buf (Elt Ideal) ℓ) : Prop :=
  ∀ c : Dev Cert.ConvNormBwdIdeal.nD,
    (Cert.Pre_finite_grad.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3))).1 = (fun _ => 1#1)
    ∧ (Cert.Pre_finite_grad.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3))).2 = (fun _ => 1#1)

def Pre_ConvNormBwdRefIdeal (m : (ℓ : Loc Cert.ConvNormBwdRefIdeal.nD Cert.ConvNormBwdRefIdeal.τ Cert.ConvNormBwdRefIdeal.sig) → Buf (Elt Ideal) ℓ) : Prop :=
  True

def Pre_ConvNormBwdRefIdeal_finite_grad [hPre_finite_grad : Cert.Pre_finite_grad.Facts] (m : (ℓ : Loc Cert.ConvNormBwdRefIdeal.nD Cert.ConvNormBwdRefIdeal.τ Cert.ConvNormBwdRefIdeal.sig) → Buf (Elt Ideal) ℓ) : Prop :=
  ∀ c : Dev Cert.ConvNormBwdRefIdeal.nD,
    (Cert.Pre_finite_grad.fn (F := Ideal) (m ((c.tc : Thread Cert.ConvNormBwdRefIdeal.nD Cert.ConvNormBwdRefIdeal.τ).loc Cert.ConvNormBwdRefIdeal.main_arg0)) (m ((c.tc : Thread Cert.ConvNormBwdRefIdeal.nD Cert.ConvNormBwdRefIdeal.τ).loc Cert.ConvNormBwdRefIdeal.main_arg1)) (m ((c.tc : Thread Cert.ConvNormBwdRefIdeal.nD Cert.ConvNormBwdRefIdeal.τ).loc Cert.ConvNormBwdRefIdeal.main_arg2)) (m ((c.tc : Thread Cert.ConvNormBwdRefIdeal.nD Cert.ConvNormBwdRefIdeal.τ).loc Cert.ConvNormBwdRefIdeal.main_arg3))).1 = (fun _ => 1#1)
    ∧ (Cert.Pre_finite_grad.fn (F := Ideal) (m ((c.tc : Thread Cert.ConvNormBwdRefIdeal.nD Cert.ConvNormBwdRefIdeal.τ).loc Cert.ConvNormBwdRefIdeal.main_arg0)) (m ((c.tc : Thread Cert.ConvNormBwdRefIdeal.nD Cert.ConvNormBwdRefIdeal.τ).loc Cert.ConvNormBwdRefIdeal.main_arg1)) (m ((c.tc : Thread Cert.ConvNormBwdRefIdeal.nD Cert.ConvNormBwdRefIdeal.τ).loc Cert.ConvNormBwdRefIdeal.main_arg2)) (m ((c.tc : Thread Cert.ConvNormBwdRefIdeal.nD Cert.ConvNormBwdRefIdeal.τ).loc Cert.ConvNormBwdRefIdeal.main_arg3))).2 = (fun _ => 1#1)

def Pre_GatingFwd (m : (ℓ : Loc Cert.GatingFwd.nD Cert.GatingFwd.τ Cert.GatingFwd.sig) → Buf (Elt Bits) ℓ) : Prop :=
  True

def Pre_GatingFwdIdeal (m : (ℓ : Loc Cert.GatingFwdIdeal.nD Cert.GatingFwdIdeal.τ Cert.GatingFwdIdeal.sig) → Buf (Elt Ideal) ℓ) : Prop :=
  True

def Pre_GatingFwdRefIdeal (m : (ℓ : Loc Cert.GatingFwdRefIdeal.nD Cert.GatingFwdRefIdeal.τ Cert.GatingFwdRefIdeal.sig) → Buf (Elt Ideal) ℓ) : Prop :=
  True

def Pre_AttnCombine (m : (ℓ : Loc Cert.AttnCombine.nD Cert.AttnCombine.τ Cert.AttnCombine.sig) → Buf (Elt Bits) ℓ) : Prop :=
  True

def Pre_AttnCombineIdeal (m : (ℓ : Loc Cert.AttnCombineIdeal.nD Cert.AttnCombineIdeal.τ Cert.AttnCombineIdeal.sig) → Buf (Elt Ideal) ℓ) : Prop :=
  True

def Pre_AttnCombineIdeal_finite_lse [hPre_finite_lse : Cert.Pre_finite_lse.Facts] (m : (ℓ : Loc Cert.AttnCombineIdeal.nD Cert.AttnCombineIdeal.τ Cert.AttnCombineIdeal.sig) → Buf (Elt Ideal) ℓ) : Prop :=
  ∀ c : Dev Cert.AttnCombineIdeal.nD,
    (Cert.Pre_finite_lse.fn (F := Ideal) (m ((c.tc : Thread Cert.AttnCombineIdeal.nD Cert.AttnCombineIdeal.τ).loc Cert.AttnCombineIdeal.main_arg0)) (m ((c.tc : Thread Cert.AttnCombineIdeal.nD Cert.AttnCombineIdeal.τ).loc Cert.AttnCombineIdeal.main_arg1)) (m ((c.tc : Thread Cert.AttnCombineIdeal.nD Cert.AttnCombineIdeal.τ).loc Cert.AttnCombineIdeal.main_arg2)) (m ((c.tc : Thread Cert.AttnCombineIdeal.nD Cert.AttnCombineIdeal.τ).loc Cert.AttnCombineIdeal.main_arg3)) (m ((c.tc : Thread Cert.AttnCombineIdeal.nD Cert.AttnCombineIdeal.τ).loc Cert.AttnCombineIdeal.main_arg4)) (m ((c.tc : Thread Cert.AttnCombineIdeal.nD Cert.AttnCombineIdeal.τ).loc Cert.AttnCombineIdeal.main_arg5))).1 = (fun _ => 1#1)
    ∧ (Cert.Pre_finite_lse.fn (F := Ideal) (m ((c.tc : Thread Cert.AttnCombineIdeal.nD Cert.AttnCombineIdeal.τ).loc Cert.AttnCombineIdeal.main_arg0)) (m ((c.tc : Thread Cert.AttnCombineIdeal.nD Cert.AttnCombineIdeal.τ).loc Cert.AttnCombineIdeal.main_arg1)) (m ((c.tc : Thread Cert.AttnCombineIdeal.nD Cert.AttnCombineIdeal.τ).loc Cert.AttnCombineIdeal.main_arg2)) (m ((c.tc : Thread Cert.AttnCombineIdeal.nD Cert.AttnCombineIdeal.τ).loc Cert.AttnCombineIdeal.main_arg3)) (m ((c.tc : Thread Cert.AttnCombineIdeal.nD Cert.AttnCombineIdeal.τ).loc Cert.AttnCombineIdeal.main_arg4)) (m ((c.tc : Thread Cert.AttnCombineIdeal.nD Cert.AttnCombineIdeal.τ).loc Cert.AttnCombineIdeal.main_arg5))).2.1 = (fun _ => 1#1)
    ∧ (Cert.Pre_finite_lse.fn (F := Ideal) (m ((c.tc : Thread Cert.AttnCombineIdeal.nD Cert.AttnCombineIdeal.τ).loc Cert.AttnCombineIdeal.main_arg0)) (m ((c.tc : Thread Cert.AttnCombineIdeal.nD Cert.AttnCombineIdeal.τ).loc Cert.AttnCombineIdeal.main_arg1)) (m ((c.tc : Thread Cert.AttnCombineIdeal.nD Cert.AttnCombineIdeal.τ).loc Cert.AttnCombineIdeal.main_arg2)) (m ((c.tc : Thread Cert.AttnCombineIdeal.nD Cert.AttnCombineIdeal.τ).loc Cert.AttnCombineIdeal.main_arg3)) (m ((c.tc : Thread Cert.AttnCombineIdeal.nD Cert.AttnCombineIdeal.τ).loc Cert.AttnCombineIdeal.main_arg4)) (m ((c.tc : Thread Cert.AttnCombineIdeal.nD Cert.AttnCombineIdeal.τ).loc Cert.AttnCombineIdeal.main_arg5))).2.2 = (fun _ => 1#1)

def Pre_AttnCombineRefIdeal (m : (ℓ : Loc Cert.AttnCombineRefIdeal.nD Cert.AttnCombineRefIdeal.τ Cert.AttnCombineRefIdeal.sig) → Buf (Elt Ideal) ℓ) : Prop :=
  True

def Pre_AttnCombineRefIdeal_finite_lse [hPre_finite_lse : Cert.Pre_finite_lse.Facts] (m : (ℓ : Loc Cert.AttnCombineRefIdeal.nD Cert.AttnCombineRefIdeal.τ Cert.AttnCombineRefIdeal.sig) → Buf (Elt Ideal) ℓ) : Prop :=
  ∀ c : Dev Cert.AttnCombineRefIdeal.nD,
    (Cert.Pre_finite_lse.fn (F := Ideal) (m ((c.tc : Thread Cert.AttnCombineRefIdeal.nD Cert.AttnCombineRefIdeal.τ).loc Cert.AttnCombineRefIdeal.main_arg0)) (m ((c.tc : Thread Cert.AttnCombineRefIdeal.nD Cert.AttnCombineRefIdeal.τ).loc Cert.AttnCombineRefIdeal.main_arg1)) (m ((c.tc : Thread Cert.AttnCombineRefIdeal.nD Cert.AttnCombineRefIdeal.τ).loc Cert.AttnCombineRefIdeal.main_arg2)) (m ((c.tc : Thread Cert.AttnCombineRefIdeal.nD Cert.AttnCombineRefIdeal.τ).loc Cert.AttnCombineRefIdeal.main_arg3)) (m ((c.tc : Thread Cert.AttnCombineRefIdeal.nD Cert.AttnCombineRefIdeal.τ).loc Cert.AttnCombineRefIdeal.main_arg4)) (m ((c.tc : Thread Cert.AttnCombineRefIdeal.nD Cert.AttnCombineRefIdeal.τ).loc Cert.AttnCombineRefIdeal.main_arg5))).1 = (fun _ => 1#1)
    ∧ (Cert.Pre_finite_lse.fn (F := Ideal) (m ((c.tc : Thread Cert.AttnCombineRefIdeal.nD Cert.AttnCombineRefIdeal.τ).loc Cert.AttnCombineRefIdeal.main_arg0)) (m ((c.tc : Thread Cert.AttnCombineRefIdeal.nD Cert.AttnCombineRefIdeal.τ).loc Cert.AttnCombineRefIdeal.main_arg1)) (m ((c.tc : Thread Cert.AttnCombineRefIdeal.nD Cert.AttnCombineRefIdeal.τ).loc Cert.AttnCombineRefIdeal.main_arg2)) (m ((c.tc : Thread Cert.AttnCombineRefIdeal.nD Cert.AttnCombineRefIdeal.τ).loc Cert.AttnCombineRefIdeal.main_arg3)) (m ((c.tc : Thread Cert.AttnCombineRefIdeal.nD Cert.AttnCombineRefIdeal.τ).loc Cert.AttnCombineRefIdeal.main_arg4)) (m ((c.tc : Thread Cert.AttnCombineRefIdeal.nD Cert.AttnCombineRefIdeal.τ).loc Cert.AttnCombineRefIdeal.main_arg5))).2.1 = (fun _ => 1#1)
    ∧ (Cert.Pre_finite_lse.fn (F := Ideal) (m ((c.tc : Thread Cert.AttnCombineRefIdeal.nD Cert.AttnCombineRefIdeal.τ).loc Cert.AttnCombineRefIdeal.main_arg0)) (m ((c.tc : Thread Cert.AttnCombineRefIdeal.nD Cert.AttnCombineRefIdeal.τ).loc Cert.AttnCombineRefIdeal.main_arg1)) (m ((c.tc : Thread Cert.AttnCombineRefIdeal.nD Cert.AttnCombineRefIdeal.τ).loc Cert.AttnCombineRefIdeal.main_arg2)) (m ((c.tc : Thread Cert.AttnCombineRefIdeal.nD Cert.AttnCombineRefIdeal.τ).loc Cert.AttnCombineRefIdeal.main_arg3)) (m ((c.tc : Thread Cert.AttnCombineRefIdeal.nD Cert.AttnCombineRefIdeal.τ).loc Cert.AttnCombineRefIdeal.main_arg4)) (m ((c.tc : Thread Cert.AttnCombineRefIdeal.nD Cert.AttnCombineRefIdeal.τ).loc Cert.AttnCombineRefIdeal.main_arg5))).2.2 = (fun _ => 1#1)

def Pre_AttnRowdot (m : (ℓ : Loc Cert.AttnRowdot.nD Cert.AttnRowdot.τ Cert.AttnRowdot.sig) → Buf (Elt Bits) ℓ) : Prop :=
  True

def Pre_AttnRowdotIdeal (m : (ℓ : Loc Cert.AttnRowdotIdeal.nD Cert.AttnRowdotIdeal.τ Cert.AttnRowdotIdeal.sig) → Buf (Elt Ideal) ℓ) : Prop :=
  True

def Pre_AttnRowdotRefIdeal (m : (ℓ : Loc Cert.AttnRowdotRefIdeal.nD Cert.AttnRowdotRefIdeal.τ Cert.AttnRowdotRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumRefIdeal (m : (ℓ : Loc Cert.LossSumRefIdeal.nD Cert.LossSumRefIdeal.τ Cert.LossSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ r.2.sem = fun _ => 0)

def quiescent_SquareDxRefIdeal [hSquareDxRefIdeal : Cert.SquareDxRefIdeal.Facts] : Prop :=
  ∀ (m : (ℓ : Loc Cert.SquareDxRefIdeal.nD Cert.SquareDxRefIdeal.τ Cert.SquareDxRefIdeal.sig) → Buf (Elt Ideal) ℓ) (g : Dev Cert.SquareDxRefIdeal.nD → PrngReg), Pre_SquareDxRefIdeal m →
    θ_run (Cert.SquareDxRefIdeal.defs (F := Ideal)) (onTc (τ := Cert.SquareDxRefIdeal.τ) (Cert.SquareDxRefIdeal.main (F := Ideal))) ⟨m, fun _ => 0, g⟩ (fun r => (∀ c : Dev Cert.SquareDxRefIdeal.nD,
      r.2.mem ((c.tc : Thread Cert.SquareDxRefIdeal.nD Cert.SquareDxRefIdeal.τ).loc Cert.SquareDxRefIdeal.main_arg0) = m ((c.tc : Thread Cert.SquareDxRefIdeal.nD Cert.SquareDxRefIdeal.τ).loc Cert.SquareDxRefIdeal.main_arg0)
      ∧ r.2.mem ((c.tc : Thread Cert.SquareDxRefIdeal.nD Cert.SquareDxRefIdeal.τ).loc Cert.SquareDxRefIdeal.main_arg1) = m ((c.tc : Thread Cert.SquareDxRefIdeal.nD Cert.SquareDxRefIdeal.τ).loc Cert.SquareDxRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_InADx [hInADx : Cert.InADx.Facts] : Prop :=
  ∀ (m : (ℓ : Loc Cert.InADx.nD Cert.InADx.τ Cert.InADx.sig) → Buf (Elt Bits) ℓ) (g : Dev Cert.InADx.nD → PrngReg), Pre_InADx m →
    θ_run (Cert.InADx.defs (F := Bits)) (onTc (τ := Cert.InADx.τ) (Cert.InADx.main (F := Bits))) ⟨m, fun _ => 0, g⟩ (fun r => (∀ c : Dev Cert.InADx.nD,
      r.2.mem ((c.tc : Thread Cert.InADx.nD Cert.InADx.τ).loc Cert.InADx.main_arg0) = m ((c.tc : Thread Cert.InADx.nD Cert.InADx.τ).loc Cert.InADx.main_arg0)
      ∧ r.2.mem ((c.tc : Thread Cert.InADx.nD Cert.InADx.τ).loc Cert.InADx.main_arg1) = m ((c.tc : Thread Cert.InADx.nD Cert.InADx.τ).loc Cert.InADx.main_arg1))
      ∧ r.2.sem = fun _ => 0)

def quiescent_InADxIdeal [hInADxIdeal : Cert.InADxIdeal.Facts] : Prop :=
  ∀ (m : (ℓ : Loc Cert.InADxIdeal.nD Cert.InADxIdeal.τ Cert.InADxIdeal.sig) → Buf (Elt Ideal) ℓ) (g : Dev Cert.InADxIdeal.nD → PrngReg), Pre_InADxIdeal m →
    θ_run (Cert.InADxIdeal.defs (F := Ideal)) (onTc (τ := Cert.InADxIdeal.τ) (Cert.InADxIdeal.main (F := Ideal))) ⟨m, fun _ => 0, g⟩ (fun r => (∀ c : Dev Cert.InADxIdeal.nD,
      r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
      ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ r.2.sem = fun _ => 0)

def quiescent_InADxRefIdeal [hInADxRefIdeal : Cert.InADxRefIdeal.Facts] : Prop :=
  ∀ (m : (ℓ : Loc Cert.InADxRefIdeal.nD Cert.InADxRefIdeal.τ Cert.InADxRefIdeal.sig) → Buf (Elt Ideal) ℓ) (g : Dev Cert.InADxRefIdeal.nD → PrngReg), Pre_InADxRefIdeal m →
    θ_run (Cert.InADxRefIdeal.defs (F := Ideal)) (onTc (τ := Cert.InADxRefIdeal.τ) (Cert.InADxRefIdeal.main (F := Ideal))) ⟨m, fun _ => 0, g⟩ (fun r => (∀ c : Dev Cert.InADxRefIdeal.nD,
      r.2.mem ((c.tc : Thread Cert.InADxRefIdeal.nD Cert.InADxRefIdeal.τ).loc Cert.InADxRefIdeal.main_arg0) = m ((c.tc : Thread Cert.InADxRefIdeal.nD Cert.InADxRefIdeal.τ).loc Cert.InADxRefIdeal.main_arg0)
      ∧ r.2.mem ((c.tc : Thread Cert.InADxRefIdeal.nD Cert.InADxRefIdeal.τ).loc Cert.InADxRefIdeal.main_arg1) = m ((c.tc : Thread Cert.InADxRefIdeal.nD Cert.InADxRefIdeal.τ).loc Cert.InADxRefIdeal.main_arg1))
      ∧ r.2.sem = fun _ => 0)

def quiescent_InBDx [hInBDx : Cert.InBDx.Facts] : Prop :=
  ∀ (m : (ℓ : Loc Cert.InBDx.nD Cert.InBDx.τ Cert.InBDx.sig) → Buf (Elt Bits) ℓ) (g : Dev Cert.InBDx.nD → PrngReg), Pre_InBDx m →
    θ_run (Cert.InBDx.defs (F := Bits)) (onTc (τ := Cert.InBDx.τ) (Cert.InBDx.main (F := Bits))) ⟨m, fun _ => 0, g⟩ (fun r => (∀ c : Dev Cert.InBDx.nD,
      r.2.mem ((c.tc : Thread Cert.InBDx.nD Cert.InBDx.τ).loc Cert.InBDx.main_arg0) = m ((c.tc : Thread Cert.InBDx.nD Cert.InBDx.τ).loc Cert.InBDx.main_arg0)
      ∧ r.2.mem ((c.tc : Thread Cert.InBDx.nD Cert.InBDx.τ).loc Cert.InBDx.main_arg1) = m ((c.tc : Thread Cert.InBDx.nD Cert.InBDx.τ).loc Cert.InBDx.main_arg1)
      ∧ r.2.mem ((c.tc : Thread Cert.InBDx.nD Cert.InBDx.τ).loc Cert.InBDx.main_arg2) = m ((c.tc : Thread Cert.InBDx.nD Cert.InBDx.τ).loc Cert.InBDx.main_arg2))
      ∧ r.2.sem = fun _ => 0)

def quiescent_InBDxIdeal [hInBDxIdeal : Cert.InBDxIdeal.Facts] : Prop :=
  ∀ (m : (ℓ : Loc Cert.InBDxIdeal.nD Cert.InBDxIdeal.τ Cert.InBDxIdeal.sig) → Buf (Elt Ideal) ℓ) (g : Dev Cert.InBDxIdeal.nD → PrngReg), Pre_InBDxIdeal m →
    θ_run (Cert.InBDxIdeal.defs (F := Ideal)) (onTc (τ := Cert.InBDxIdeal.τ) (Cert.InBDxIdeal.main (F := Ideal))) ⟨m, fun _ => 0, g⟩ (fun r => (∀ c : Dev Cert.InBDxIdeal.nD,
      r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
      ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1)
      ∧ r.2.mem ((c.tc : Thread Cert.InBDxIdeal.nD Cert.InBDxIdeal.τ).loc Cert.InBDxIdeal.main_arg2) = m ((c.tc : Thread Cert.InBDxIdeal.nD Cert.InBDxIdeal.τ).loc Cert.InBDxIdeal.main_arg2))
      ∧ r.2.sem = fun _ => 0)

def quiescent_InBDxRefIdeal [hInBDxRefIdeal : Cert.InBDxRefIdeal.Facts] : Prop :=
  ∀ (m : (ℓ : Loc Cert.InBDxRefIdeal.nD Cert.InBDxRefIdeal.τ Cert.InBDxRefIdeal.sig) → Buf (Elt Ideal) ℓ) (g : Dev Cert.InBDxRefIdeal.nD → PrngReg), Pre_InBDxRefIdeal m →
    θ_run (Cert.InBDxRefIdeal.defs (F := Ideal)) (onTc (τ := Cert.InBDxRefIdeal.τ) (Cert.InBDxRefIdeal.main (F := Ideal))) ⟨m, fun _ => 0, g⟩ (fun r => (∀ c : Dev Cert.InBDxRefIdeal.nD,
      r.2.mem ((c.tc : Thread Cert.InBDxRefIdeal.nD Cert.InBDxRefIdeal.τ).loc Cert.InBDxRefIdeal.main_arg0) = m ((c.tc : Thread Cert.InBDxRefIdeal.nD Cert.InBDxRefIdeal.τ).loc Cert.InBDxRefIdeal.main_arg0)
      ∧ r.2.mem ((c.tc : Thread Cert.InBDxRefIdeal.nD Cert.InBDxRefIdeal.τ).loc Cert.InBDxRefIdeal.main_arg1) = m ((c.tc : Thread Cert.InBDxRefIdeal.nD Cert.InBDxRefIdeal.τ).loc Cert.InBDxRefIdeal.main_arg1)
      ∧ r.2.mem ((c.tc : Thread Cert.InBDxRefIdeal.nD Cert.InBDxRefIdeal.τ).loc Cert.InBDxRefIdeal.main_arg2) = m ((c.tc : Thread Cert.InBDxRefIdeal.nD Cert.InBDxRefIdeal.τ).loc Cert.InBDxRefIdeal.main_arg2))
      ∧ r.2.sem = fun _ => 0)

def quiescent_InCDx [hInCDx : Cert.InCDx.Facts] : Prop :=
  ∀ (m : (ℓ : Loc Cert.InCDx.nD Cert.InCDx.τ Cert.InCDx.sig) → Buf (Elt Bits) ℓ) (g : Dev Cert.InCDx.nD → PrngReg), Pre_InCDx m →
    θ_run (Cert.InCDx.defs (F := Bits)) (onTc (τ := Cert.InCDx.τ) (Cert.InCDx.main (F := Bits))) ⟨m, fun _ => 0, g⟩ (fun r => (∀ c : Dev Cert.InCDx.nD,
      r.2.mem ((c.tc : Thread Cert.InCDx.nD Cert.InCDx.τ).loc Cert.InCDx.main_arg0) = m ((c.tc : Thread Cert.InCDx.nD Cert.InCDx.τ).loc Cert.InCDx.main_arg0)
      ∧ r.2.mem ((c.tc : Thread Cert.InCDx.nD Cert.InCDx.τ).loc Cert.InCDx.main_arg1) = m ((c.tc : Thread Cert.InCDx.nD Cert.InCDx.τ).loc Cert.InCDx.main_arg1)
      ∧ r.2.mem ((c.tc : Thread Cert.InCDx.nD Cert.InCDx.τ).loc Cert.InCDx.main_arg2) = m ((c.tc : Thread Cert.InCDx.nD Cert.InCDx.τ).loc Cert.InCDx.main_arg2))
      ∧ r.2.sem = fun _ => 0)

def quiescent_InCDxIdeal [hInCDxIdeal : Cert.InCDxIdeal.Facts] : Prop :=
  ∀ (m : (ℓ : Loc Cert.InCDxIdeal.nD Cert.InCDxIdeal.τ Cert.InCDxIdeal.sig) → Buf (Elt Ideal) ℓ) (g : Dev Cert.InCDxIdeal.nD → PrngReg), Pre_InCDxIdeal m →
    θ_run (Cert.InCDxIdeal.defs (F := Ideal)) (onTc (τ := Cert.InCDxIdeal.τ) (Cert.InCDxIdeal.main (F := Ideal))) ⟨m, fun _ => 0, g⟩ (fun r => (∀ c : Dev Cert.InCDxIdeal.nD,
      r.2.mem ((c.tc : Thread Cert.InCDxIdeal.nD Cert.InCDxIdeal.τ).loc Cert.InCDxIdeal.main_arg0) = m ((c.tc : Thread Cert.InCDxIdeal.nD Cert.InCDxIdeal.τ).loc Cert.InCDxIdeal.main_arg0)
      ∧ r.2.mem ((c.tc : Thread Cert.InCDxIdeal.nD Cert.InCDxIdeal.τ).loc Cert.InCDxIdeal.main_arg1) = m ((c.tc : Thread Cert.InCDxIdeal.nD Cert.InCDxIdeal.τ).loc Cert.InCDxIdeal.main_arg1)
      ∧ r.2.mem ((c.tc : Thread Cert.InCDxIdeal.nD Cert.InCDxIdeal.τ).loc Cert.InCDxIdeal.main_arg2) = m ((c.tc : Thread Cert.InCDxIdeal.nD Cert.InCDxIdeal.τ).loc Cert.InCDxIdeal.main_arg2))
      ∧ r.2.sem = fun _ => 0)

def quiescent_InCDxRefIdeal [hInCDxRefIdeal : Cert.InCDxRefIdeal.Facts] : Prop :=
  ∀ (m : (ℓ : Loc Cert.InCDxRefIdeal.nD Cert.InCDxRefIdeal.τ Cert.InCDxRefIdeal.sig) → Buf (Elt Ideal) ℓ) (g : Dev Cert.InCDxRefIdeal.nD → PrngReg), Pre_InCDxRefIdeal m →
    θ_run (Cert.InCDxRefIdeal.defs (F := Ideal)) (onTc (τ := Cert.InCDxRefIdeal.τ) (Cert.InCDxRefIdeal.main (F := Ideal))) ⟨m, fun _ => 0, g⟩ (fun r => (∀ c : Dev Cert.InCDxRefIdeal.nD,
      r.2.mem ((c.tc : Thread Cert.InCDxRefIdeal.nD Cert.InCDxRefIdeal.τ).loc Cert.InCDxRefIdeal.main_arg0) = m ((c.tc : Thread Cert.InCDxRefIdeal.nD Cert.InCDxRefIdeal.τ).loc Cert.InCDxRefIdeal.main_arg0)
      ∧ r.2.mem ((c.tc : Thread Cert.InCDxRefIdeal.nD Cert.InCDxRefIdeal.τ).loc Cert.InCDxRefIdeal.main_arg1) = m ((c.tc : Thread Cert.InCDxRefIdeal.nD Cert.InCDxRefIdeal.τ).loc Cert.InCDxRefIdeal.main_arg1)
      ∧ r.2.mem ((c.tc : Thread Cert.InCDxRefIdeal.nD Cert.InCDxRefIdeal.τ).loc Cert.InCDxRefIdeal.main_arg2) = m ((c.tc : Thread Cert.InCDxRefIdeal.nD Cert.InCDxRefIdeal.τ).loc Cert.InCDxRefIdeal.main_arg2))
      ∧ r.2.sem = fun _ => 0)

def quiescent_InGDx [hInGDx : Cert.InGDx.Facts] : Prop :=
  ∀ (m : (ℓ : Loc Cert.InGDx.nD Cert.InGDx.τ Cert.InGDx.sig) → Buf (Elt Bits) ℓ) (g : Dev Cert.InGDx.nD → PrngReg), Pre_InGDx m →
    θ_run (Cert.InGDx.defs (F := Bits)) (onTc (τ := Cert.InGDx.τ) (Cert.InGDx.main (F := Bits))) ⟨m, fun _ => 0, g⟩ (fun r => (∀ c : Dev Cert.InGDx.nD,
      r.2.mem ((c.tc : Thread Cert.InGDx.nD Cert.InGDx.τ).loc Cert.InGDx.main_arg0) = m ((c.tc : Thread Cert.InGDx.nD Cert.InGDx.τ).loc Cert.InGDx.main_arg0)
      ∧ r.2.mem ((c.tc : Thread Cert.InGDx.nD Cert.InGDx.τ).loc Cert.InGDx.main_arg1) = m ((c.tc : Thread Cert.InGDx.nD Cert.InGDx.τ).loc Cert.InGDx.main_arg1)
      ∧ r.2.mem ((c.tc : Thread Cert.InGDx.nD Cert.InGDx.τ).loc Cert.InGDx.main_arg2) = m ((c.tc : Thread Cert.InGDx.nD Cert.InGDx.τ).loc Cert.InGDx.main_arg2))
      ∧ r.2.sem = fun _ => 0)

def quiescent_InGDxIdeal [hInGDxIdeal : Cert.InGDxIdeal.Facts] : Prop :=
  ∀ (m : (ℓ : Loc Cert.InGDxIdeal.nD Cert.InGDxIdeal.τ Cert.InGDxIdeal.sig) → Buf (Elt Ideal) ℓ) (g : Dev Cert.InGDxIdeal.nD → PrngReg), Pre_InGDxIdeal m →
    θ_run (Cert.InGDxIdeal.defs (F := Ideal)) (onTc (τ := Cert.InGDxIdeal.τ) (Cert.InGDxIdeal.main (F := Ideal))) ⟨m, fun _ => 0, g⟩ (fun r => (∀ c : Dev Cert.InGDxIdeal.nD,
      r.2.mem ((c.tc : Thread Cert.InGDxIdeal.nD Cert.InGDxIdeal.τ).loc Cert.InGDxIdeal.main_arg0) = m ((c.tc : Thread Cert.InGDxIdeal.nD Cert.InGDxIdeal.τ).loc Cert.InGDxIdeal.main_arg0)
      ∧ r.2.mem ((c.tc : Thread Cert.InGDxIdeal.nD Cert.InGDxIdeal.τ).loc Cert.InGDxIdeal.main_arg1) = m ((c.tc : Thread Cert.InGDxIdeal.nD Cert.InGDxIdeal.τ).loc Cert.InGDxIdeal.main_arg1)
      ∧ r.2.mem ((c.tc : Thread Cert.InGDxIdeal.nD Cert.InGDxIdeal.τ).loc Cert.InGDxIdeal.main_arg2) = m ((c.tc : Thread Cert.InGDxIdeal.nD Cert.InGDxIdeal.τ).loc Cert.InGDxIdeal.main_arg2))
      ∧ r.2.sem = fun _ => 0)

def quiescent_InGDxRefIdeal [hInGDxRefIdeal : Cert.InGDxRefIdeal.Facts] : Prop :=
  ∀ (m : (ℓ : Loc Cert.InGDxRefIdeal.nD Cert.InGDxRefIdeal.τ Cert.InGDxRefIdeal.sig) → Buf (Elt Ideal) ℓ) (g : Dev Cert.InGDxRefIdeal.nD → PrngReg), Pre_InGDxRefIdeal m →
    θ_run (Cert.InGDxRefIdeal.defs (F := Ideal)) (onTc (τ := Cert.InGDxRefIdeal.τ) (Cert.InGDxRefIdeal.main (F := Ideal))) ⟨m, fun _ => 0, g⟩ (fun r => (∀ c : Dev Cert.InGDxRefIdeal.nD,
      r.2.mem ((c.tc : Thread Cert.InGDxRefIdeal.nD Cert.InGDxRefIdeal.τ).loc Cert.InGDxRefIdeal.main_arg0) = m ((c.tc : Thread Cert.InGDxRefIdeal.nD Cert.InGDxRefIdeal.τ).loc Cert.InGDxRefIdeal.main_arg0)
      ∧ r.2.mem ((c.tc : Thread Cert.InGDxRefIdeal.nD Cert.InGDxRefIdeal.τ).loc Cert.InGDxRefIdeal.main_arg1) = m ((c.tc : Thread Cert.InGDxRefIdeal.nD Cert.InGDxRefIdeal.τ).loc Cert.InGDxRefIdeal.main_arg1)
      ∧ r.2.mem ((c.tc : Thread Cert.InGDxRefIdeal.nD Cert.InGDxRefIdeal.τ).loc Cert.InGDxRefIdeal.main_arg2) = m ((c.tc : Thread Cert.InGDxRefIdeal.nD Cert.InGDxRefIdeal.τ).loc Cert.InGDxRefIdeal.main_arg2))
      ∧ r.2.sem = fun _ => 0)

def quiescent_InADw [hInADw : Cert.InADw.Facts] : Prop :=
  ∀ (m : (ℓ : Loc Cert.InADw.nD Cert.InADw.τ Cert.InADw.sig) → Buf (Elt Bits) ℓ) (g : Dev Cert.InADw.nD → PrngReg), Pre_InADw m →
    θ_run (Cert.InADw.defs (F := Bits)) (onTc (τ := Cert.InADw.τ) (Cert.InADw.main (F := Bits))) ⟨m, fun _ => 0, g⟩ (fun r => (∀ c : Dev Cert.InADw.nD,
      r.2.mem ((c.tc : Thread Cert.InADw.nD Cert.InADw.τ).loc Cert.InADw.main_arg0) = m ((c.tc : Thread Cert.InADw.nD Cert.InADw.τ).loc Cert.InADw.main_arg0)
      ∧ r.2.mem ((c.tc : Thread Cert.InADw.nD Cert.InADw.τ).loc Cert.InADw.main_arg1) = m ((c.tc : Thread Cert.InADw.nD Cert.InADw.τ).loc Cert.InADw.main_arg1))
      ∧ r.2.sem = fun _ => 0)

def quiescent_InADwIdeal [hInADwIdeal : Cert.InADwIdeal.Facts] : Prop :=
  ∀ (m : (ℓ : Loc Cert.InADwIdeal.nD Cert.InADwIdeal.τ Cert.InADwIdeal.sig) → Buf (Elt Ideal) ℓ) (g : Dev Cert.InADwIdeal.nD → PrngReg), Pre_InADwIdeal m →
    θ_run (Cert.InADwIdeal.defs (F := Ideal)) (onTc (τ := Cert.InADwIdeal.τ) (Cert.InADwIdeal.main (F := Ideal))) ⟨m, fun _ => 0, g⟩ (fun r => (∀ c : Dev Cert.InADwIdeal.nD,
      r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
      ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ r.2.sem = fun _ => 0)

def quiescent_InADwRefIdeal [hInADwRefIdeal : Cert.InADwRefIdeal.Facts] : Prop :=
  ∀ (m : (ℓ : Loc Cert.InADwRefIdeal.nD Cert.InADwRefIdeal.τ Cert.InADwRefIdeal.sig) → Buf (Elt Ideal) ℓ) (g : Dev Cert.InADwRefIdeal.nD → PrngReg), Pre_InADwRefIdeal m →
    θ_run (Cert.InADwRefIdeal.defs (F := Ideal)) (onTc (τ := Cert.InADwRefIdeal.τ) (Cert.InADwRefIdeal.main (F := Ideal))) ⟨m, fun _ => 0, g⟩ (fun r => (∀ c : Dev Cert.InADwRefIdeal.nD,
      r.2.mem ((c.tc : Thread Cert.InADwRefIdeal.nD Cert.InADwRefIdeal.τ).loc Cert.InADwRefIdeal.main_arg0) = m ((c.tc : Thread Cert.InADwRefIdeal.nD Cert.InADwRefIdeal.τ).loc Cert.InADwRefIdeal.main_arg0)
      ∧ r.2.mem ((c.tc : Thread Cert.InADwRefIdeal.nD Cert.InADwRefIdeal.τ).loc Cert.InADwRefIdeal.main_arg1) = m ((c.tc : Thread Cert.InADwRefIdeal.nD Cert.InADwRefIdeal.τ).loc Cert.InADwRefIdeal.main_arg1))
      ∧ r.2.sem = fun _ => 0)

def quiescent_InCDw [hInCDw : Cert.InCDw.Facts] : Prop :=
  ∀ (m : (ℓ : Loc Cert.InCDw.nD Cert.InCDw.τ Cert.InCDw.sig) → Buf (Elt Bits) ℓ) (g : Dev Cert.InCDw.nD → PrngReg), Pre_InCDw m →
    θ_run (Cert.InCDw.defs (F := Bits)) (onTc (τ := Cert.InCDw.τ) (Cert.InCDw.main (F := Bits))) ⟨m, fun _ => 0, g⟩ (fun r => (∀ c : Dev Cert.InCDw.nD,
      r.2.mem ((c.tc : Thread Cert.InCDw.nD Cert.InCDw.τ).loc Cert.InCDw.main_arg0) = m ((c.tc : Thread Cert.InCDw.nD Cert.InCDw.τ).loc Cert.InCDw.main_arg0)
      ∧ r.2.mem ((c.tc : Thread Cert.InCDw.nD Cert.InCDw.τ).loc Cert.InCDw.main_arg1) = m ((c.tc : Thread Cert.InCDw.nD Cert.InCDw.τ).loc Cert.InCDw.main_arg1))
      ∧ r.2.sem = fun _ => 0)

def quiescent_InCDwIdeal [hInCDwIdeal : Cert.InCDwIdeal.Facts] : Prop :=
  ∀ (m : (ℓ : Loc Cert.InCDwIdeal.nD Cert.InCDwIdeal.τ Cert.InCDwIdeal.sig) → Buf (Elt Ideal) ℓ) (g : Dev Cert.InCDwIdeal.nD → PrngReg), Pre_InCDwIdeal m →
    θ_run (Cert.InCDwIdeal.defs (F := Ideal)) (onTc (τ := Cert.InCDwIdeal.τ) (Cert.InCDwIdeal.main (F := Ideal))) ⟨m, fun _ => 0, g⟩ (fun r => (∀ c : Dev Cert.InCDwIdeal.nD,
      r.2.mem ((c.tc : Thread Cert.InCDwIdeal.nD Cert.InCDwIdeal.τ).loc Cert.InCDwIdeal.main_arg0) = m ((c.tc : Thread Cert.InCDwIdeal.nD Cert.InCDwIdeal.τ).loc Cert.InCDwIdeal.main_arg0)
      ∧ r.2.mem ((c.tc : Thread Cert.InCDwIdeal.nD Cert.InCDwIdeal.τ).loc Cert.InCDwIdeal.main_arg1) = m ((c.tc : Thread Cert.InCDwIdeal.nD Cert.InCDwIdeal.τ).loc Cert.InCDwIdeal.main_arg1))
      ∧ r.2.sem = fun _ => 0)

def quiescent_InCDwRefIdeal [hInCDwRefIdeal : Cert.InCDwRefIdeal.Facts] : Prop :=
  ∀ (m : (ℓ : Loc Cert.InCDwRefIdeal.nD Cert.InCDwRefIdeal.τ Cert.InCDwRefIdeal.sig) → Buf (Elt Ideal) ℓ) (g : Dev Cert.InCDwRefIdeal.nD → PrngReg), Pre_InCDwRefIdeal m →
    θ_run (Cert.InCDwRefIdeal.defs (F := Ideal)) (onTc (τ := Cert.InCDwRefIdeal.τ) (Cert.InCDwRefIdeal.main (F := Ideal))) ⟨m, fun _ => 0, g⟩ (fun r => (∀ c : Dev Cert.InCDwRefIdeal.nD,
      r.2.mem ((c.tc : Thread Cert.InCDwRefIdeal.nD Cert.InCDwRefIdeal.τ).loc Cert.InCDwRefIdeal.main_arg0) = m ((c.tc : Thread Cert.InCDwRefIdeal.nD Cert.InCDwRefIdeal.τ).loc Cert.InCDwRefIdeal.main_arg0)
      ∧ r.2.mem ((c.tc : Thread Cert.InCDwRefIdeal.nD Cert.InCDwRefIdeal.τ).loc Cert.InCDwRefIdeal.main_arg1) = m ((c.tc : Thread Cert.InCDwRefIdeal.nD Cert.InCDwRefIdeal.τ).loc Cert.InCDwRefIdeal.main_arg1))
      ∧ r.2.sem = fun _ => 0)

def quiescent_InGDw [hInGDw : Cert.InGDw.Facts] : Prop :=
  ∀ (m : (ℓ : Loc Cert.InGDw.nD Cert.InGDw.τ Cert.InGDw.sig) → Buf (Elt Bits) ℓ) (g : Dev Cert.InGDw.nD → PrngReg), Pre_InGDw m →
    θ_run (Cert.InGDw.defs (F := Bits)) (onTc (τ := Cert.InGDw.τ) (Cert.InGDw.main (F := Bits))) ⟨m, fun _ => 0, g⟩ (fun r => (∀ c : Dev Cert.InGDw.nD,
      r.2.mem ((c.tc : Thread Cert.InGDw.nD Cert.InGDw.τ).loc Cert.InGDw.main_arg0) = m ((c.tc : Thread Cert.InGDw.nD Cert.InGDw.τ).loc Cert.InGDw.main_arg0)
      ∧ r.2.mem ((c.tc : Thread Cert.InGDw.nD Cert.InGDw.τ).loc Cert.InGDw.main_arg1) = m ((c.tc : Thread Cert.InGDw.nD Cert.InGDw.τ).loc Cert.InGDw.main_arg1))
      ∧ r.2.sem = fun _ => 0)

def quiescent_InGDwIdeal [hInGDwIdeal : Cert.InGDwIdeal.Facts] : Prop :=
  ∀ (m : (ℓ : Loc Cert.InGDwIdeal.nD Cert.InGDwIdeal.τ Cert.InGDwIdeal.sig) → Buf (Elt Ideal) ℓ) (g : Dev Cert.InGDwIdeal.nD → PrngReg), Pre_InGDwIdeal m →
    θ_run (Cert.InGDwIdeal.defs (F := Ideal)) (onTc (τ := Cert.InGDwIdeal.τ) (Cert.InGDwIdeal.main (F := Ideal))) ⟨m, fun _ => 0, g⟩ (fun r => (∀ c : Dev Cert.InGDwIdeal.nD,
      r.2.mem ((c.tc : Thread Cert.InGDwIdeal.nD Cert.InGDwIdeal.τ).loc Cert.InGDwIdeal.main_arg0) = m ((c.tc : Thread Cert.InGDwIdeal.nD Cert.InGDwIdeal.τ).loc Cert.InGDwIdeal.main_arg0)
      ∧ r.2.mem ((c.tc : Thread Cert.InGDwIdeal.nD Cert.InGDwIdeal.τ).loc Cert.InGDwIdeal.main_arg1) = m ((c.tc : Thread Cert.InGDwIdeal.nD Cert.InGDwIdeal.τ).loc Cert.InGDwIdeal.main_arg1))
      ∧ r.2.sem = fun _ => 0)

def quiescent_InGDwRefIdeal [hInGDwRefIdeal : Cert.InGDwRefIdeal.Facts] : Prop :=
  ∀ (m : (ℓ : Loc Cert.InGDwRefIdeal.nD Cert.InGDwRefIdeal.τ Cert.InGDwRefIdeal.sig) → Buf (Elt Ideal) ℓ) (g : Dev Cert.InGDwRefIdeal.nD → PrngReg), Pre_InGDwRefIdeal m →
    θ_run (Cert.InGDwRefIdeal.defs (F := Ideal)) (onTc (τ := Cert.InGDwRefIdeal.τ) (Cert.InGDwRefIdeal.main (F := Ideal))) ⟨m, fun _ => 0, g⟩ (fun r => (∀ c : Dev Cert.InGDwRefIdeal.nD,
      r.2.mem ((c.tc : Thread Cert.InGDwRefIdeal.nD Cert.InGDwRefIdeal.τ).loc Cert.InGDwRefIdeal.main_arg0) = m ((c.tc : Thread Cert.InGDwRefIdeal.nD Cert.InGDwRefIdeal.τ).loc Cert.InGDwRefIdeal.main_arg0)
      ∧ r.2.mem ((c.tc : Thread Cert.InGDwRefIdeal.nD Cert.InGDwRefIdeal.τ).loc Cert.InGDwRefIdeal.main_arg1) = m ((c.tc : Thread Cert.InGDwRefIdeal.nD Cert.InGDwRefIdeal.τ).loc Cert.InGDwRefIdeal.main_arg1))
      ∧ r.2.sem = fun _ => 0)

def quiescent_AOutDx [hAOutDx : Cert.AOutDx.Facts] : Prop :=
  ∀ (m : (ℓ : Loc Cert.AOutDx.nD Cert.AOutDx.τ Cert.AOutDx.sig) → Buf (Elt Bits) ℓ) (g : Dev Cert.AOutDx.nD → PrngReg), Pre_AOutDx m →
    θ_run (Cert.AOutDx.defs (F := Bits)) (onTc (τ := Cert.AOutDx.τ) (Cert.AOutDx.main (F := Bits))) ⟨m, fun _ => 0, g⟩ (fun r => (∀ c : Dev Cert.AOutDx.nD,
      r.2.mem ((c.tc : Thread Cert.AOutDx.nD Cert.AOutDx.τ).loc Cert.AOutDx.main_arg0) = m ((c.tc : Thread Cert.AOutDx.nD Cert.AOutDx.τ).loc Cert.AOutDx.main_arg0)
      ∧ r.2.mem ((c.tc : Thread Cert.AOutDx.nD Cert.AOutDx.τ).loc Cert.AOutDx.main_arg1) = m ((c.tc : Thread Cert.AOutDx.nD Cert.AOutDx.τ).loc Cert.AOutDx.main_arg1))
      ∧ r.2.sem = fun _ => 0)

def quiescent_AOutDxIdeal [hAOutDxIdeal : Cert.AOutDxIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg), Pre_AOutDxIdeal m →
    θ_run (Cert.AOutDxIdeal.defs (F := Ideal)) (onTc (τ := Cert.AOutDxIdeal.τ) (Cert.AOutDxIdeal.main (F := Ideal))) ⟨m, fun _ => 0, g⟩ (fun r => (∀ c : Dev Cert.AOutDxIdeal.nD,
      r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
      ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ r.2.sem = fun _ => 0)

def quiescent_AOutDxRefIdeal [hAOutDxRefIdeal : Cert.AOutDxRefIdeal.Facts] : Prop :=
  ∀ (m : (ℓ : Loc Cert.AOutDxRefIdeal.nD Cert.AOutDxRefIdeal.τ Cert.AOutDxRefIdeal.sig) → Buf (Elt Ideal) ℓ) (g : Dev Cert.AOutDxRefIdeal.nD → PrngReg), Pre_AOutDxRefIdeal m →
    θ_run (Cert.AOutDxRefIdeal.defs (F := Ideal)) (onTc (τ := Cert.AOutDxRefIdeal.τ) (Cert.AOutDxRefIdeal.main (F := Ideal))) ⟨m, fun _ => 0, g⟩ (fun r => (∀ c : Dev Cert.AOutDxRefIdeal.nD,
      r.2.mem ((c.tc : Thread Cert.AOutDxRefIdeal.nD Cert.AOutDxRefIdeal.τ).loc Cert.AOutDxRefIdeal.main_arg0) = m ((c.tc : Thread Cert.AOutDxRefIdeal.nD Cert.AOutDxRefIdeal.τ).loc Cert.AOutDxRefIdeal.main_arg0)
      ∧ r.2.mem ((c.tc : Thread Cert.AOutDxRefIdeal.nD Cert.AOutDxRefIdeal.τ).loc Cert.AOutDxRefIdeal.main_arg1) = m ((c.tc : Thread Cert.AOutDxRefIdeal.nD Cert.AOutDxRefIdeal.τ).loc Cert.AOutDxRefIdeal.main_arg1))
      ∧ r.2.sem = fun _ => 0)

def quiescent_AOutDw [hAOutDw : Cert.AOutDw.Facts] : Prop :=
  ∀ (m : (ℓ : Loc Cert.AOutDw.nD Cert.AOutDw.τ Cert.AOutDw.sig) → Buf (Elt Bits) ℓ) (g : Dev Cert.AOutDw.nD → PrngReg), Pre_AOutDw m →
    θ_run (Cert.AOutDw.defs (F := Bits)) (onTc (τ := Cert.AOutDw.τ) (Cert.AOutDw.main (F := Bits))) ⟨m, fun _ => 0, g⟩ (fun r => (∀ c : Dev Cert.AOutDw.nD,
      r.2.mem ((c.tc : Thread Cert.AOutDw.nD Cert.AOutDw.τ).loc Cert.AOutDw.main_arg0) = m ((c.tc : Thread Cert.AOutDw.nD Cert.AOutDw.τ).loc Cert.AOutDw.main_arg0)
      ∧ r.2.mem ((c.tc : Thread Cert.AOutDw.nD Cert.AOutDw.τ).loc Cert.AOutDw.main_arg1) = m ((c.tc : Thread Cert.AOutDw.nD Cert.AOutDw.τ).loc Cert.AOutDw.main_arg1))
      ∧ r.2.sem = fun _ => 0)

def quiescent_AOutDwIdeal [hAOutDwIdeal : Cert.AOutDwIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg), Pre_AOutDwIdeal m →
    θ_run (Cert.AOutDwIdeal.defs (F := Ideal)) (onTc (τ := Cert.AOutDwIdeal.τ) (Cert.AOutDwIdeal.main (F := Ideal))) ⟨m, fun _ => 0, g⟩ (fun r => (∀ c : Dev Cert.AOutDwIdeal.nD,
      r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
      ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1))
      ∧ r.2.sem = fun _ => 0)

def quiescent_AOutDwRefIdeal [hAOutDwRefIdeal : Cert.AOutDwRefIdeal.Facts] : Prop :=
  ∀ (m : (ℓ : Loc Cert.AOutDwRefIdeal.nD Cert.AOutDwRefIdeal.τ Cert.AOutDwRefIdeal.sig) → Buf (Elt Ideal) ℓ) (g : Dev Cert.AOutDwRefIdeal.nD → PrngReg), Pre_AOutDwRefIdeal m →
    θ_run (Cert.AOutDwRefIdeal.defs (F := Ideal)) (onTc (τ := Cert.AOutDwRefIdeal.τ) (Cert.AOutDwRefIdeal.main (F := Ideal))) ⟨m, fun _ => 0, g⟩ (fun r => (∀ c : Dev Cert.AOutDwRefIdeal.nD,
      r.2.mem ((c.tc : Thread Cert.AOutDwRefIdeal.nD Cert.AOutDwRefIdeal.τ).loc Cert.AOutDwRefIdeal.main_arg0) = m ((c.tc : Thread Cert.AOutDwRefIdeal.nD Cert.AOutDwRefIdeal.τ).loc Cert.AOutDwRefIdeal.main_arg0)
      ∧ r.2.mem ((c.tc : Thread Cert.AOutDwRefIdeal.nD Cert.AOutDwRefIdeal.τ).loc Cert.AOutDwRefIdeal.main_arg1) = m ((c.tc : Thread Cert.AOutDwRefIdeal.nD Cert.AOutDwRefIdeal.τ).loc Cert.AOutDwRefIdeal.main_arg1))
      ∧ r.2.sem = fun _ => 0)

def quiescent_COutDx [hCOutDx : Cert.COutDx.Facts] : Prop :=
  ∀ (m : (ℓ : Loc Cert.COutDx.nD Cert.COutDx.τ Cert.COutDx.sig) → Buf (Elt Bits) ℓ) (g : Dev Cert.COutDx.nD → PrngReg), Pre_COutDx m →
    θ_run (Cert.COutDx.defs (F := Bits)) (onTc (τ := Cert.COutDx.τ) (Cert.COutDx.main (F := Bits))) ⟨m, fun _ => 0, g⟩ (fun r => (∀ c : Dev Cert.COutDx.nD,
      r.2.mem ((c.tc : Thread Cert.COutDx.nD Cert.COutDx.τ).loc Cert.COutDx.main_arg0) = m ((c.tc : Thread Cert.COutDx.nD Cert.COutDx.τ).loc Cert.COutDx.main_arg0)
      ∧ r.2.mem ((c.tc : Thread Cert.COutDx.nD Cert.COutDx.τ).loc Cert.COutDx.main_arg1) = m ((c.tc : Thread Cert.COutDx.nD Cert.COutDx.τ).loc Cert.COutDx.main_arg1))
      ∧ r.2.sem = fun _ => 0)

def quiescent_COutDxIdeal [hCOutDxIdeal : Cert.COutDxIdeal.Facts] : Prop :=
  ∀ (m : (ℓ : Loc Cert.COutDxIdeal.nD Cert.COutDxIdeal.τ Cert.COutDxIdeal.sig) → Buf (Elt Ideal) ℓ) (g : Dev Cert.COutDxIdeal.nD → PrngReg), Pre_COutDxIdeal m →
    θ_run (Cert.COutDxIdeal.defs (F := Ideal)) (onTc (τ := Cert.COutDxIdeal.τ) (Cert.COutDxIdeal.main (F := Ideal))) ⟨m, fun _ => 0, g⟩ (fun r => (∀ c : Dev Cert.COutDxIdeal.nD,
      r.2.mem ((c.tc : Thread Cert.COutDxIdeal.nD Cert.COutDxIdeal.τ).loc Cert.COutDxIdeal.main_arg0) = m ((c.tc : Thread Cert.COutDxIdeal.nD Cert.COutDxIdeal.τ).loc Cert.COutDxIdeal.main_arg0)
      ∧ r.2.mem ((c.tc : Thread Cert.COutDxIdeal.nD Cert.COutDxIdeal.τ).loc Cert.COutDxIdeal.main_arg1) = m ((c.tc : Thread Cert.COutDxIdeal.nD Cert.COutDxIdeal.τ).loc Cert.COutDxIdeal.main_arg1))
      ∧ r.2.sem = fun _ => 0)

def quiescent_COutDxRefIdeal [hCOutDxRefIdeal : Cert.COutDxRefIdeal.Facts] : Prop :=
  ∀ (m : (ℓ : Loc Cert.COutDxRefIdeal.nD Cert.COutDxRefIdeal.τ Cert.COutDxRefIdeal.sig) → Buf (Elt Ideal) ℓ) (g : Dev Cert.COutDxRefIdeal.nD → PrngReg), Pre_COutDxRefIdeal m →
    θ_run (Cert.COutDxRefIdeal.defs (F := Ideal)) (onTc (τ := Cert.COutDxRefIdeal.τ) (Cert.COutDxRefIdeal.main (F := Ideal))) ⟨m, fun _ => 0, g⟩ (fun r => (∀ c : Dev Cert.COutDxRefIdeal.nD,
      r.2.mem ((c.tc : Thread Cert.COutDxRefIdeal.nD Cert.COutDxRefIdeal.τ).loc Cert.COutDxRefIdeal.main_arg0) = m ((c.tc : Thread Cert.COutDxRefIdeal.nD Cert.COutDxRefIdeal.τ).loc Cert.COutDxRefIdeal.main_arg0)
      ∧ r.2.mem ((c.tc : Thread Cert.COutDxRefIdeal.nD Cert.COutDxRefIdeal.τ).loc Cert.COutDxRefIdeal.main_arg1) = m ((c.tc : Thread Cert.COutDxRefIdeal.nD Cert.COutDxRefIdeal.τ).loc Cert.COutDxRefIdeal.main_arg1))
      ∧ r.2.sem = fun _ => 0)

def quiescent_COutDw [hCOutDw : Cert.COutDw.Facts] : Prop :=
  ∀ (m : (ℓ : Loc Cert.COutDw.nD Cert.COutDw.τ Cert.COutDw.sig) → Buf (Elt Bits) ℓ) (g : Dev Cert.COutDw.nD → PrngReg), Pre_COutDw m →
    θ_run (Cert.COutDw.defs (F := Bits)) (onTc (τ := Cert.COutDw.τ) (Cert.COutDw.main (F := Bits))) ⟨m, fun _ => 0, g⟩ (fun r => (∀ c : Dev Cert.COutDw.nD,
      r.2.mem ((c.tc : Thread Cert.COutDw.nD Cert.COutDw.τ).loc Cert.COutDw.main_arg0) = m ((c.tc : Thread Cert.COutDw.nD Cert.COutDw.τ).loc Cert.COutDw.main_arg0)
      ∧ r.2.mem ((c.tc : Thread Cert.COutDw.nD Cert.COutDw.τ).loc Cert.COutDw.main_arg1) = m ((c.tc : Thread Cert.COutDw.nD Cert.COutDw.τ).loc Cert.COutDw.main_arg1))
      ∧ r.2.sem = fun _ => 0)

def quiescent_COutDwIdeal [hCOutDwIdeal : Cert.COutDwIdeal.Facts] : Prop :=
  ∀ (m : (ℓ : Loc Cert.COutDwIdeal.nD Cert.COutDwIdeal.τ Cert.COutDwIdeal.sig) → Buf (Elt Ideal) ℓ) (g : Dev Cert.COutDwIdeal.nD → PrngReg), Pre_COutDwIdeal m →
    θ_run (Cert.COutDwIdeal.defs (F := Ideal)) (onTc (τ := Cert.COutDwIdeal.τ) (Cert.COutDwIdeal.main (F := Ideal))) ⟨m, fun _ => 0, g⟩ (fun r => (∀ c : Dev Cert.COutDwIdeal.nD,
      r.2.mem ((c.tc : Thread Cert.COutDwIdeal.nD Cert.COutDwIdeal.τ).loc Cert.COutDwIdeal.main_arg0) = m ((c.tc : Thread Cert.COutDwIdeal.nD Cert.COutDwIdeal.τ).loc Cert.COutDwIdeal.main_arg0)
      ∧ r.2.mem ((c.tc : Thread Cert.COutDwIdeal.nD Cert.COutDwIdeal.τ).loc Cert.COutDwIdeal.main_arg1) = m ((c.tc : Thread Cert.COutDwIdeal.nD Cert.COutDwIdeal.τ).loc Cert.COutDwIdeal.main_arg1))
      ∧ r.2.sem = fun _ => 0)

def quiescent_COutDwRefIdeal [hCOutDwRefIdeal : Cert.COutDwRefIdeal.Facts] : Prop :=
  ∀ (m : (ℓ : Loc Cert.COutDwRefIdeal.nD Cert.COutDwRefIdeal.τ Cert.COutDwRefIdeal.sig) → Buf (Elt Ideal) ℓ) (g : Dev Cert.COutDwRefIdeal.nD → PrngReg), Pre_COutDwRefIdeal m →
    θ_run (Cert.COutDwRefIdeal.defs (F := Ideal)) (onTc (τ := Cert.COutDwRefIdeal.τ) (Cert.COutDwRefIdeal.main (F := Ideal))) ⟨m, fun _ => 0, g⟩ (fun r => (∀ c : Dev Cert.COutDwRefIdeal.nD,
      r.2.mem ((c.tc : Thread Cert.COutDwRefIdeal.nD Cert.COutDwRefIdeal.τ).loc Cert.COutDwRefIdeal.main_arg0) = m ((c.tc : Thread Cert.COutDwRefIdeal.nD Cert.COutDwRefIdeal.τ).loc Cert.COutDwRefIdeal.main_arg0)
      ∧ r.2.mem ((c.tc : Thread Cert.COutDwRefIdeal.nD Cert.COutDwRefIdeal.τ).loc Cert.COutDwRefIdeal.main_arg1) = m ((c.tc : Thread Cert.COutDwRefIdeal.nD Cert.COutDwRefIdeal.τ).loc Cert.COutDwRefIdeal.main_arg1))
      ∧ r.2.sem = fun _ => 0)

def quiescent_XkvDx [hXkvDx : Cert.XkvDx.Facts] : Prop :=
  ∀ (m : (ℓ : Loc Cert.XkvDx.nD Cert.XkvDx.τ Cert.XkvDx.sig) → Buf (Elt Bits) ℓ) (g : Dev Cert.XkvDx.nD → PrngReg), Pre_XkvDx m →
    θ_run (Cert.XkvDx.defs (F := Bits)) (onTc (τ := Cert.XkvDx.τ) (Cert.XkvDx.main (F := Bits))) ⟨m, fun _ => 0, g⟩ (fun r => (∀ c : Dev Cert.XkvDx.nD,
      r.2.mem ((c.tc : Thread Cert.XkvDx.nD Cert.XkvDx.τ).loc Cert.XkvDx.main_arg0) = m ((c.tc : Thread Cert.XkvDx.nD Cert.XkvDx.τ).loc Cert.XkvDx.main_arg0)
      ∧ r.2.mem ((c.tc : Thread Cert.XkvDx.nD Cert.XkvDx.τ).loc Cert.XkvDx.main_arg1) = m ((c.tc : Thread Cert.XkvDx.nD Cert.XkvDx.τ).loc Cert.XkvDx.main_arg1))
      ∧ r.2.sem = fun _ => 0)

def quiescent_XkvDxIdeal [hXkvDxIdeal : Cert.XkvDxIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg), Pre_XkvDxIdeal m →
    θ_run (Cert.XkvDxIdeal.defs (F := Ideal)) (onTc (τ := Cert.XkvDxIdeal.τ) (Cert.XkvDxIdeal.main (F := Ideal))) ⟨m, fun _ => 0, g⟩ (fun r => (∀ c : Dev Cert.XkvDxIdeal.nD,
      r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
      ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1))
      ∧ r.2.sem = fun _ => 0)

def quiescent_XkvDxRefIdeal [hXkvDxRefIdeal : Cert.XkvDxRefIdeal.Facts] : Prop :=
  ∀ (m : (ℓ : Loc Cert.XkvDxRefIdeal.nD Cert.XkvDxRefIdeal.τ Cert.XkvDxRefIdeal.sig) → Buf (Elt Ideal) ℓ) (g : Dev Cert.XkvDxRefIdeal.nD → PrngReg), Pre_XkvDxRefIdeal m →
    θ_run (Cert.XkvDxRefIdeal.defs (F := Ideal)) (onTc (τ := Cert.XkvDxRefIdeal.τ) (Cert.XkvDxRefIdeal.main (F := Ideal))) ⟨m, fun _ => 0, g⟩ (fun r => (∀ c : Dev Cert.XkvDxRefIdeal.nD,
      r.2.mem ((c.tc : Thread Cert.XkvDxRefIdeal.nD Cert.XkvDxRefIdeal.τ).loc Cert.XkvDxRefIdeal.main_arg0) = m ((c.tc : Thread Cert.XkvDxRefIdeal.nD Cert.XkvDxRefIdeal.τ).loc Cert.XkvDxRefIdeal.main_arg0)
      ∧ r.2.mem ((c.tc : Thread Cert.XkvDxRefIdeal.nD Cert.XkvDxRefIdeal.τ).loc Cert.XkvDxRefIdeal.main_arg1) = m ((c.tc : Thread Cert.XkvDxRefIdeal.nD Cert.XkvDxRefIdeal.τ).loc Cert.XkvDxRefIdeal.main_arg1))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_SquareFwd [hSquareFwd : Cert.SquareFwd.Facts] : Prop :=
  ∀ (m : (ℓ : Loc Cert.SquareFwd.nD Cert.SquareFwd.τ Cert.SquareFwd.sig) → Buf (Elt Bits) ℓ) (g : Dev Cert.SquareFwd.nD → PrngReg), Pre_SquareFwd m →
    θ_run (Cert.SquareFwd.defs (F := Bits)) (onTc (τ := Cert.SquareFwd.τ) (Cert.SquareFwd.main (F := Bits))) ⟨m, fun _ => 0, g⟩ (fun r => (∀ c : Dev Cert.SquareFwd.nD,
      r.2.mem ((c.tc : Thread Cert.SquareFwd.nD Cert.SquareFwd.τ).loc Cert.SquareFwd.main_arg0) = m ((c.tc : Thread Cert.SquareFwd.nD Cert.SquareFwd.τ).loc Cert.SquareFwd.main_arg0)
      ∧ r.2.mem ((c.tc : Thread Cert.SquareFwd.nD Cert.SquareFwd.τ).loc Cert.SquareFwd.main_arg1) = m ((c.tc : Thread Cert.SquareFwd.nD Cert.SquareFwd.τ).loc Cert.SquareFwd.main_arg1))
      ∧ r.2.sem = fun _ => 0)

def quiescent_SquareFwdIdeal [hSquareFwdIdeal : Cert.SquareFwdIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg), Pre_SquareFwdIdeal m →
    θ_run (Cert.SquareFwdIdeal.defs (F := Ideal)) (onTc (τ := Cert.SquareFwdIdeal.τ) (Cert.SquareFwdIdeal.main (F := Ideal))) ⟨m, fun _ => 0, g⟩ (fun r => (∀ c : Dev Cert.SquareFwdIdeal.nD,
      r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
      ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1))
      ∧ r.2.sem = fun _ => 0)

def quiescent_SquareFwdRefIdeal [hSquareFwdRefIdeal : Cert.SquareFwdRefIdeal.Facts] : Prop :=
  ∀ (m : (ℓ : Loc Cert.SquareFwdRefIdeal.nD Cert.SquareFwdRefIdeal.τ Cert.SquareFwdRefIdeal.sig) → Buf (Elt Ideal) ℓ) (g : Dev Cert.SquareFwdRefIdeal.nD → PrngReg), Pre_SquareFwdRefIdeal m →
    θ_run (Cert.SquareFwdRefIdeal.defs (F := Ideal)) (onTc (τ := Cert.SquareFwdRefIdeal.τ) (Cert.SquareFwdRefIdeal.main (F := Ideal))) ⟨m, fun _ => 0, g⟩ (fun r => (∀ c : Dev Cert.SquareFwdRefIdeal.nD,
      r.2.mem ((c.tc : Thread Cert.SquareFwdRefIdeal.nD Cert.SquareFwdRefIdeal.τ).loc Cert.SquareFwdRefIdeal.main_arg0) = m ((c.tc : Thread Cert.SquareFwdRefIdeal.nD Cert.SquareFwdRefIdeal.τ).loc Cert.SquareFwdRefIdeal.main_arg0)
      ∧ r.2.mem ((c.tc : Thread Cert.SquareFwdRefIdeal.nD Cert.SquareFwdRefIdeal.τ).loc Cert.SquareFwdRefIdeal.main_arg1) = m ((c.tc : Thread Cert.SquareFwdRefIdeal.nD Cert.SquareFwdRefIdeal.τ).loc Cert.SquareFwdRefIdeal.main_arg1))
      ∧ r.2.sem = fun _ => 0)

def quiescent_InCFwd [hInCFwd : Cert.InCFwd.Facts] : Prop :=
  ∀ (m : (ℓ : Loc Cert.InCFwd.nD Cert.InCFwd.τ Cert.InCFwd.sig) → Buf (Elt Bits) ℓ) (g : Dev Cert.InCFwd.nD → PrngReg), Pre_InCFwd m →
    θ_run (Cert.InCFwd.defs (F := Bits)) (onTc (τ := Cert.InCFwd.τ) (Cert.InCFwd.main (F := Bits))) ⟨m, fun _ => 0, g⟩ (fun r => (∀ c : Dev Cert.InCFwd.nD,
      r.2.mem ((c.tc : Thread Cert.InCFwd.nD Cert.InCFwd.τ).loc Cert.InCFwd.main_arg0) = m ((c.tc : Thread Cert.InCFwd.nD Cert.InCFwd.τ).loc Cert.InCFwd.main_arg0)
      ∧ r.2.mem ((c.tc : Thread Cert.InCFwd.nD Cert.InCFwd.τ).loc Cert.InCFwd.main_arg1) = m ((c.tc : Thread Cert.InCFwd.nD Cert.InCFwd.τ).loc Cert.InCFwd.main_arg1))
      ∧ r.2.sem = fun _ => 0)

def quiescent_InCFwdIdeal [hInCFwdIdeal : Cert.InCFwdIdeal.Facts] : Prop :=
  ∀ (m : (ℓ : Loc Cert.InCFwdIdeal.nD Cert.InCFwdIdeal.τ Cert.InCFwdIdeal.sig) → Buf (Elt Ideal) ℓ) (g : Dev Cert.InCFwdIdeal.nD → PrngReg), Pre_InCFwdIdeal m →
    θ_run (Cert.InCFwdIdeal.defs (F := Ideal)) (onTc (τ := Cert.InCFwdIdeal.τ) (Cert.InCFwdIdeal.main (F := Ideal))) ⟨m, fun _ => 0, g⟩ (fun r => (∀ c : Dev Cert.InCFwdIdeal.nD,
      r.2.mem ((c.tc : Thread Cert.InCFwdIdeal.nD Cert.InCFwdIdeal.τ).loc Cert.InCFwdIdeal.main_arg0) = m ((c.tc : Thread Cert.InCFwdIdeal.nD Cert.InCFwdIdeal.τ).loc Cert.InCFwdIdeal.main_arg0)
      ∧ r.2.mem ((c.tc : Thread Cert.InCFwdIdeal.nD Cert.InCFwdIdeal.τ).loc Cert.InCFwdIdeal.main_arg1) = m ((c.tc : Thread Cert.InCFwdIdeal.nD Cert.InCFwdIdeal.τ).loc Cert.InCFwdIdeal.main_arg1))
      ∧ r.2.sem = fun _ => 0)

def quiescent_InCFwdRefIdeal [hInCFwdRefIdeal : Cert.InCFwdRefIdeal.Facts] : Prop :=
  ∀ (m : (ℓ : Loc Cert.InCFwdRefIdeal.nD Cert.InCFwdRefIdeal.τ Cert.InCFwdRefIdeal.sig) → Buf (Elt Ideal) ℓ) (g : Dev Cert.InCFwdRefIdeal.nD → PrngReg), Pre_InCFwdRefIdeal m →
    θ_run (Cert.InCFwdRefIdeal.defs (F := Ideal)) (onTc (τ := Cert.InCFwdRefIdeal.τ) (Cert.InCFwdRefIdeal.main (F := Ideal))) ⟨m, fun _ => 0, g⟩ (fun r => (∀ c : Dev Cert.InCFwdRefIdeal.nD,
      r.2.mem ((c.tc : Thread Cert.InCFwdRefIdeal.nD Cert.InCFwdRefIdeal.τ).loc Cert.InCFwdRefIdeal.main_arg0) = m ((c.tc : Thread Cert.InCFwdRefIdeal.nD Cert.InCFwdRefIdeal.τ).loc Cert.InCFwdRefIdeal.main_arg0)
      ∧ r.2.mem ((c.tc : Thread Cert.InCFwdRefIdeal.nD Cert.InCFwdRefIdeal.τ).loc Cert.InCFwdRefIdeal.main_arg1) = m ((c.tc : Thread Cert.InCFwdRefIdeal.nD Cert.InCFwdRefIdeal.τ).loc Cert.InCFwdRefIdeal.main_arg1))
      ∧ r.2.sem = fun _ => 0)

def quiescent_InGFwd [hInGFwd : Cert.InGFwd.Facts] : Prop :=
  ∀ (m : (ℓ : Loc Cert.InGFwd.nD Cert.InGFwd.τ Cert.InGFwd.sig) → Buf (Elt Bits) ℓ) (g : Dev Cert.InGFwd.nD → PrngReg), Pre_InGFwd m →
    θ_run (Cert.InGFwd.defs (F := Bits)) (onTc (τ := Cert.InGFwd.τ) (Cert.InGFwd.main (F := Bits))) ⟨m, fun _ => 0, g⟩ (fun r => (∀ c : Dev Cert.InGFwd.nD,
      r.2.mem ((c.tc : Thread Cert.InGFwd.nD Cert.InGFwd.τ).loc Cert.InGFwd.main_arg0) = m ((c.tc : Thread Cert.InGFwd.nD Cert.InGFwd.τ).loc Cert.InGFwd.main_arg0)
      ∧ r.2.mem ((c.tc : Thread Cert.InGFwd.nD Cert.InGFwd.τ).loc Cert.InGFwd.main_arg1) = m ((c.tc : Thread Cert.InGFwd.nD Cert.InGFwd.τ).loc Cert.InGFwd.main_arg1))
      ∧ r.2.sem = fun _ => 0)

def quiescent_InGFwdIdeal [hInGFwdIdeal : Cert.InGFwdIdeal.Facts] : Prop :=
  ∀ (m : (ℓ : Loc Cert.InGFwdIdeal.nD Cert.InGFwdIdeal.τ Cert.InGFwdIdeal.sig) → Buf (Elt Ideal) ℓ) (g : Dev Cert.InGFwdIdeal.nD → PrngReg), Pre_InGFwdIdeal m →
    θ_run (Cert.InGFwdIdeal.defs (F := Ideal)) (onTc (τ := Cert.InGFwdIdeal.τ) (Cert.InGFwdIdeal.main (F := Ideal))) ⟨m, fun _ => 0, g⟩ (fun r => (∀ c : Dev Cert.InGFwdIdeal.nD,
      r.2.mem ((c.tc : Thread Cert.InGFwdIdeal.nD Cert.InGFwdIdeal.τ).loc Cert.InGFwdIdeal.main_arg0) = m ((c.tc : Thread Cert.InGFwdIdeal.nD Cert.InGFwdIdeal.τ).loc Cert.InGFwdIdeal.main_arg0)
      ∧ r.2.mem ((c.tc : Thread Cert.InGFwdIdeal.nD Cert.InGFwdIdeal.τ).loc Cert.InGFwdIdeal.main_arg1) = m ((c.tc : Thread Cert.InGFwdIdeal.nD Cert.InGFwdIdeal.τ).loc Cert.InGFwdIdeal.main_arg1))
      ∧ r.2.sem = fun _ => 0)

def quiescent_InGFwdRefIdeal [hInGFwdRefIdeal : Cert.InGFwdRefIdeal.Facts] : Prop :=
  ∀ (m : (ℓ : Loc Cert.InGFwdRefIdeal.nD Cert.InGFwdRefIdeal.τ Cert.InGFwdRefIdeal.sig) → Buf (Elt Ideal) ℓ) (g : Dev Cert.InGFwdRefIdeal.nD → PrngReg), Pre_InGFwdRefIdeal m →
    θ_run (Cert.InGFwdRefIdeal.defs (F := Ideal)) (onTc (τ := Cert.InGFwdRefIdeal.τ) (Cert.InGFwdRefIdeal.main (F := Ideal))) ⟨m, fun _ => 0, g⟩ (fun r => (∀ c : Dev Cert.InGFwdRefIdeal.nD,
      r.2.mem ((c.tc : Thread Cert.InGFwdRefIdeal.nD Cert.InGFwdRefIdeal.τ).loc Cert.InGFwdRefIdeal.main_arg0) = m ((c.tc : Thread Cert.InGFwdRefIdeal.nD Cert.InGFwdRefIdeal.τ).loc Cert.InGFwdRefIdeal.main_arg0)
      ∧ r.2.mem ((c.tc : Thread Cert.InGFwdRefIdeal.nD Cert.InGFwdRefIdeal.τ).loc Cert.InGFwdRefIdeal.main_arg1) = m ((c.tc : Thread Cert.InGFwdRefIdeal.nD Cert.InGFwdRefIdeal.τ).loc Cert.InGFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_AOutFwd [hAOutFwd : Cert.AOutFwd.Facts] : Prop :=
  ∀ (m : (ℓ : Loc Cert.AOutFwd.nD Cert.AOutFwd.τ Cert.AOutFwd.sig) → Buf (Elt Bits) ℓ) (g : Dev Cert.AOutFwd.nD → PrngReg), Pre_AOutFwd m →
    θ_run (Cert.AOutFwd.defs (F := Bits)) (onTc (τ := Cert.AOutFwd.τ) (Cert.AOutFwd.main (F := Bits))) ⟨m, fun _ => 0, g⟩ (fun r => (∀ c : Dev Cert.AOutFwd.nD,
      r.2.mem ((c.tc : Thread Cert.AOutFwd.nD Cert.AOutFwd.τ).loc Cert.AOutFwd.main_arg0) = m ((c.tc : Thread Cert.AOutFwd.nD Cert.AOutFwd.τ).loc Cert.AOutFwd.main_arg0)
      ∧ r.2.mem ((c.tc : Thread Cert.AOutFwd.nD Cert.AOutFwd.τ).loc Cert.AOutFwd.main_arg1) = m ((c.tc : Thread Cert.AOutFwd.nD Cert.AOutFwd.τ).loc Cert.AOutFwd.main_arg1))
      ∧ r.2.sem = fun _ => 0)

def quiescent_AOutFwdIdeal [hAOutFwdIdeal : Cert.AOutFwdIdeal.Facts] : Prop :=
  ∀ (m : (ℓ : Loc Cert.AOutFwdIdeal.nD Cert.AOutFwdIdeal.τ Cert.AOutFwdIdeal.sig) → Buf (Elt Ideal) ℓ) (g : Dev Cert.AOutFwdIdeal.nD → PrngReg), Pre_AOutFwdIdeal m →
    θ_run (Cert.AOutFwdIdeal.defs (F := Ideal)) (onTc (τ := Cert.AOutFwdIdeal.τ) (Cert.AOutFwdIdeal.main (F := Ideal))) ⟨m, fun _ => 0, g⟩ (fun r => (∀ c : Dev Cert.AOutFwdIdeal.nD,
      r.2.mem ((c.tc : Thread Cert.AOutFwdIdeal.nD Cert.AOutFwdIdeal.τ).loc Cert.AOutFwdIdeal.main_arg0) = m ((c.tc : Thread Cert.AOutFwdIdeal.nD Cert.AOutFwdIdeal.τ).loc Cert.AOutFwdIdeal.main_arg0)
      ∧ r.2.mem ((c.tc : Thread Cert.AOutFwdIdeal.nD Cert.AOutFwdIdeal.τ).loc Cert.AOutFwdIdeal.main_arg1) = m ((c.tc : Thread Cert.AOutFwdIdeal.nD Cert.AOutFwdIdeal.τ).loc Cert.AOutFwdIdeal.main_arg1))
      ∧ r.2.sem = fun _ => 0)

def quiescent_AOutFwdRefIdeal [hAOutFwdRefIdeal : Cert.AOutFwdRefIdeal.Facts] : Prop :=
  ∀ (m : (ℓ : Loc Cert.AOutFwdRefIdeal.nD Cert.AOutFwdRefIdeal.τ Cert.AOutFwdRefIdeal.sig) → Buf (Elt Ideal) ℓ) (g : Dev Cert.AOutFwdRefIdeal.nD → PrngReg), Pre_AOutFwdRefIdeal m →
    θ_run (Cert.AOutFwdRefIdeal.defs (F := Ideal)) (onTc (τ := Cert.AOutFwdRefIdeal.τ) (Cert.AOutFwdRefIdeal.main (F := Ideal))) ⟨m, fun _ => 0, g⟩ (fun r => (∀ c : Dev Cert.AOutFwdRefIdeal.nD,
      r.2.mem ((c.tc : Thread Cert.AOutFwdRefIdeal.nD Cert.AOutFwdRefIdeal.τ).loc Cert.AOutFwdRefIdeal.main_arg0) = m ((c.tc : Thread Cert.AOutFwdRefIdeal.nD Cert.AOutFwdRefIdeal.τ).loc Cert.AOutFwdRefIdeal.main_arg0)
      ∧ r.2.mem ((c.tc : Thread Cert.AOutFwdRefIdeal.nD Cert.AOutFwdRefIdeal.τ).loc Cert.AOutFwdRefIdeal.main_arg1) = m ((c.tc : Thread Cert.AOutFwdRefIdeal.nD Cert.AOutFwdRefIdeal.τ).loc Cert.AOutFwdRefIdeal.main_arg1))
      ∧ r.2.sem = fun _ => 0)

def quiescent_COutFwd [hCOutFwd : Cert.COutFwd.Facts] : Prop :=
  ∀ (m : (ℓ : Loc Cert.COutFwd.nD Cert.COutFwd.τ Cert.COutFwd.sig) → Buf (Elt Bits) ℓ) (g : Dev Cert.COutFwd.nD → PrngReg), Pre_COutFwd m →
    θ_run (Cert.COutFwd.defs (F := Bits)) (onTc (τ := Cert.COutFwd.τ) (Cert.COutFwd.main (F := Bits))) ⟨m, fun _ => 0, g⟩ (fun r => (∀ c : Dev Cert.COutFwd.nD,
      r.2.mem ((c.tc : Thread Cert.COutFwd.nD Cert.COutFwd.τ).loc Cert.COutFwd.main_arg0) = m ((c.tc : Thread Cert.COutFwd.nD Cert.COutFwd.τ).loc Cert.COutFwd.main_arg0)
      ∧ r.2.mem ((c.tc : Thread Cert.COutFwd.nD Cert.COutFwd.τ).loc Cert.COutFwd.main_arg1) = m ((c.tc : Thread Cert.COutFwd.nD Cert.COutFwd.τ).loc Cert.COutFwd.main_arg1))
      ∧ r.2.sem = fun _ => 0)

def quiescent_COutFwdIdeal [hCOutFwdIdeal : Cert.COutFwdIdeal.Facts] : Prop :=
  ∀ (m : (ℓ : Loc Cert.COutFwdIdeal.nD Cert.COutFwdIdeal.τ Cert.COutFwdIdeal.sig) → Buf (Elt Ideal) ℓ) (g : Dev Cert.COutFwdIdeal.nD → PrngReg), Pre_COutFwdIdeal m →
    θ_run (Cert.COutFwdIdeal.defs (F := Ideal)) (onTc (τ := Cert.COutFwdIdeal.τ) (Cert.COutFwdIdeal.main (F := Ideal))) ⟨m, fun _ => 0, g⟩ (fun r => (∀ c : Dev Cert.COutFwdIdeal.nD,
      r.2.mem ((c.tc : Thread Cert.COutFwdIdeal.nD Cert.COutFwdIdeal.τ).loc Cert.COutFwdIdeal.main_arg0) = m ((c.tc : Thread Cert.COutFwdIdeal.nD Cert.COutFwdIdeal.τ).loc Cert.COutFwdIdeal.main_arg0)
      ∧ r.2.mem ((c.tc : Thread Cert.COutFwdIdeal.nD Cert.COutFwdIdeal.τ).loc Cert.COutFwdIdeal.main_arg1) = m ((c.tc : Thread Cert.COutFwdIdeal.nD Cert.COutFwdIdeal.τ).loc Cert.COutFwdIdeal.main_arg1))
      ∧ r.2.sem = fun _ => 0)

def quiescent_COutFwdRefIdeal [hCOutFwdRefIdeal : Cert.COutFwdRefIdeal.Facts] : Prop :=
  ∀ (m : (ℓ : Loc Cert.COutFwdRefIdeal.nD Cert.COutFwdRefIdeal.τ Cert.COutFwdRefIdeal.sig) → Buf (Elt Ideal) ℓ) (g : Dev Cert.COutFwdRefIdeal.nD → PrngReg), Pre_COutFwdRefIdeal m →
    θ_run (Cert.COutFwdRefIdeal.defs (F := Ideal)) (onTc (τ := Cert.COutFwdRefIdeal.τ) (Cert.COutFwdRefIdeal.main (F := Ideal))) ⟨m, fun _ => 0, g⟩ (fun r => (∀ c : Dev Cert.COutFwdRefIdeal.nD,
      r.2.mem ((c.tc : Thread Cert.COutFwdRefIdeal.nD Cert.COutFwdRefIdeal.τ).loc Cert.COutFwdRefIdeal.main_arg0) = m ((c.tc : Thread Cert.COutFwdRefIdeal.nD Cert.COutFwdRefIdeal.τ).loc Cert.COutFwdRefIdeal.main_arg0)
      ∧ r.2.mem ((c.tc : Thread Cert.COutFwdRefIdeal.nD Cert.COutFwdRefIdeal.τ).loc Cert.COutFwdRefIdeal.main_arg1) = m ((c.tc : Thread Cert.COutFwdRefIdeal.nD Cert.COutFwdRefIdeal.τ).loc Cert.COutFwdRefIdeal.main_arg1))
      ∧ r.2.sem = fun _ => 0)

def quiescent_XkvFwd [hXkvFwd : Cert.XkvFwd.Facts] : Prop :=
  ∀ (m : (ℓ : Loc Cert.XkvFwd.nD Cert.XkvFwd.τ Cert.XkvFwd.sig) → Buf (Elt Bits) ℓ) (g : Dev Cert.XkvFwd.nD → PrngReg), Pre_XkvFwd m →
    θ_run (Cert.XkvFwd.defs (F := Bits)) (onTc (τ := Cert.XkvFwd.τ) (Cert.XkvFwd.main (F := Bits))) ⟨m, fun _ => 0, g⟩ (fun r => (∀ c : Dev Cert.XkvFwd.nD,
      r.2.mem ((c.tc : Thread Cert.XkvFwd.nD Cert.XkvFwd.τ).loc Cert.XkvFwd.main_arg0) = m ((c.tc : Thread Cert.XkvFwd.nD Cert.XkvFwd.τ).loc Cert.XkvFwd.main_arg0)
      ∧ r.2.mem ((c.tc : Thread Cert.XkvFwd.nD Cert.XkvFwd.τ).loc Cert.XkvFwd.main_arg1) = m ((c.tc : Thread Cert.XkvFwd.nD Cert.XkvFwd.τ).loc Cert.XkvFwd.main_arg1))
      ∧ r.2.sem = fun _ => 0)

def quiescent_XkvFwdIdeal [hXkvFwdIdeal : Cert.XkvFwdIdeal.Facts] : Prop :=
  ∀ (m : (ℓ : Loc Cert.XkvFwdIdeal.nD Cert.XkvFwdIdeal.τ Cert.XkvFwdIdeal.sig) → Buf (Elt Ideal) ℓ) (g : Dev Cert.XkvFwdIdeal.nD → PrngReg), Pre_XkvFwdIdeal m →
    θ_run (Cert.XkvFwdIdeal.defs (F := Ideal)) (onTc (τ := Cert.XkvFwdIdeal.τ) (Cert.XkvFwdIdeal.main (F := Ideal))) ⟨m, fun _ => 0, g⟩ (fun r => (∀ c : Dev Cert.XkvFwdIdeal.nD,
      r.2.mem ((c.tc : Thread Cert.XkvFwdIdeal.nD Cert.XkvFwdIdeal.τ).loc Cert.XkvFwdIdeal.main_arg0) = m ((c.tc : Thread Cert.XkvFwdIdeal.nD Cert.XkvFwdIdeal.τ).loc Cert.XkvFwdIdeal.main_arg0)
      ∧ r.2.mem ((c.tc : Thread Cert.XkvFwdIdeal.nD Cert.XkvFwdIdeal.τ).loc Cert.XkvFwdIdeal.main_arg1) = m ((c.tc : Thread Cert.XkvFwdIdeal.nD Cert.XkvFwdIdeal.τ).loc Cert.XkvFwdIdeal.main_arg1))
      ∧ r.2.sem = fun _ => 0)

def quiescent_XkvFwdRefIdeal [hXkvFwdRefIdeal : Cert.XkvFwdRefIdeal.Facts] : Prop :=
  ∀ (m : (ℓ : Loc Cert.XkvFwdRefIdeal.nD Cert.XkvFwdRefIdeal.τ Cert.XkvFwdRefIdeal.sig) → Buf (Elt Ideal) ℓ) (g : Dev Cert.XkvFwdRefIdeal.nD → PrngReg), Pre_XkvFwdRefIdeal m →
    θ_run (Cert.XkvFwdRefIdeal.defs (F := Ideal)) (onTc (τ := Cert.XkvFwdRefIdeal.τ) (Cert.XkvFwdRefIdeal.main (F := Ideal))) ⟨m, fun _ => 0, g⟩ (fun r => (∀ c : Dev Cert.XkvFwdRefIdeal.nD,
      r.2.mem ((c.tc : Thread Cert.XkvFwdRefIdeal.nD Cert.XkvFwdRefIdeal.τ).loc Cert.XkvFwdRefIdeal.main_arg0) = m ((c.tc : Thread Cert.XkvFwdRefIdeal.nD Cert.XkvFwdRefIdeal.τ).loc Cert.XkvFwdRefIdeal.main_arg0)
      ∧ r.2.mem ((c.tc : Thread Cert.XkvFwdRefIdeal.nD Cert.XkvFwdRefIdeal.τ).loc Cert.XkvFwdRefIdeal.main_arg1) = m ((c.tc : Thread Cert.XkvFwdRefIdeal.nD Cert.XkvFwdRefIdeal.τ).loc Cert.XkvFwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_NormBwdLast [hNormBwdLast : Cert.NormBwdLast.Facts] : Prop :=
  ∀ (m : (ℓ : Loc Cert.NormBwdLast.nD Cert.NormBwdLast.τ Cert.NormBwdLast.sig) → Buf (Elt Bits) ℓ) (g : Dev Cert.NormBwdLast.nD → PrngReg), Pre_NormBwdLast m →
    θ_run (Cert.NormBwdLast.defs (F := Bits)) (onTc (τ := Cert.NormBwdLast.τ) (Cert.NormBwdLast.main (F := Bits))) ⟨m, fun _ => 0, g⟩ (fun r => (∀ c : Dev Cert.NormBwdLast.nD,
      r.2.mem ((c.tc : Thread Cert.NormBwdLast.nD Cert.NormBwdLast.τ).loc Cert.NormBwdLast.main_arg0) = m ((c.tc : Thread Cert.NormBwdLast.nD Cert.NormBwdLast.τ).loc Cert.NormBwdLast.main_arg0)
      ∧ r.2.mem ((c.tc : Thread Cert.NormBwdLast.nD Cert.NormBwdLast.τ).loc Cert.NormBwdLast.main_arg1) = m ((c.tc : Thread Cert.NormBwdLast.nD Cert.NormBwdLast.τ).loc Cert.NormBwdLast.main_arg1)
      ∧ r.2.mem ((c.tc : Thread Cert.NormBwdLast.nD Cert.NormBwdLast.τ).loc Cert.NormBwdLast.main_arg2) = m ((c.tc : Thread Cert.NormBwdLast.nD Cert.NormBwdLast.τ).loc Cert.NormBwdLast.main_arg2))
      ∧ r.2.sem = fun _ => 0)

def quiescent_NormBwdLastIdeal [hNormBwdLastIdeal : Cert.NormBwdLastIdeal.Facts] : Prop :=
  ∀ (m : (ℓ : Loc Cert.NormBwdLastIdeal.nD Cert.NormBwdLastIdeal.τ Cert.NormBwdLastIdeal.sig) → Buf (Elt Ideal) ℓ) (g : Dev Cert.NormBwdLastIdeal.nD → PrngReg), Pre_NormBwdLastIdeal m →
    θ_run (Cert.NormBwdLastIdeal.defs (F := Ideal)) (onTc (τ := Cert.NormBwdLastIdeal.τ) (Cert.NormBwdLastIdeal.main (F := Ideal))) ⟨m, fun _ => 0, g⟩ (fun r => (∀ c : Dev Cert.NormBwdLastIdeal.nD,
      r.2.mem ((c.tc : Thread Cert.NormBwdLastIdeal.nD Cert.NormBwdLastIdeal.τ).loc Cert.NormBwdLastIdeal.main_arg0) = m ((c.tc : Thread Cert.NormBwdLastIdeal.nD Cert.NormBwdLastIdeal.τ).loc Cert.NormBwdLastIdeal.main_arg0)
      ∧ r.2.mem ((c.tc : Thread Cert.NormBwdLastIdeal.nD Cert.NormBwdLastIdeal.τ).loc Cert.NormBwdLastIdeal.main_arg1) = m ((c.tc : Thread Cert.NormBwdLastIdeal.nD Cert.NormBwdLastIdeal.τ).loc Cert.NormBwdLastIdeal.main_arg1)
      ∧ r.2.mem ((c.tc : Thread Cert.NormBwdLastIdeal.nD Cert.NormBwdLastIdeal.τ).loc Cert.NormBwdLastIdeal.main_arg2) = m ((c.tc : Thread Cert.NormBwdLastIdeal.nD Cert.NormBwdLastIdeal.τ).loc Cert.NormBwdLastIdeal.main_arg2))
      ∧ r.2.sem = fun _ => 0)

def quiescent_NormBwdLastRefIdeal [hNormBwdLastRefIdeal : Cert.NormBwdLastRefIdeal.Facts] : Prop :=
  ∀ (m : (ℓ : Loc Cert.NormBwdLastRefIdeal.nD Cert.NormBwdLastRefIdeal.τ Cert.NormBwdLastRefIdeal.sig) → Buf (Elt Ideal) ℓ) (g : Dev Cert.NormBwdLastRefIdeal.nD → PrngReg), Pre_NormBwdLastRefIdeal m →
    θ_run (Cert.NormBwdLastRefIdeal.defs (F := Ideal)) (onTc (τ := Cert.NormBwdLastRefIdeal.τ) (Cert.NormBwdLastRefIdeal.main (F := Ideal))) ⟨m, fun _ => 0, g⟩ (fun r => (∀ c : Dev Cert.NormBwdLastRefIdeal.nD,
      r.2.mem ((c.tc : Thread Cert.NormBwdLastRefIdeal.nD Cert.NormBwdLastRefIdeal.τ).loc Cert.NormBwdLastRefIdeal.main_arg0) = m ((c.tc : Thread Cert.NormBwdLastRefIdeal.nD Cert.NormBwdLastRefIdeal.τ).loc Cert.NormBwdLastRefIdeal.main_arg0)
      ∧ r.2.mem ((c.tc : Thread Cert.NormBwdLastRefIdeal.nD Cert.NormBwdLastRefIdeal.τ).loc Cert.NormBwdLastRefIdeal.main_arg1) = m ((c.tc : Thread Cert.NormBwdLastRefIdeal.nD Cert.NormBwdLastRefIdeal.τ).loc Cert.NormBwdLastRefIdeal.main_arg1)
      ∧ r.2.mem ((c.tc : Thread Cert.NormBwdLastRefIdeal.nD Cert.NormBwdLastRefIdeal.τ).loc Cert.NormBwdLastRefIdeal.main_arg2) = m ((c.tc : Thread Cert.NormBwdLastRefIdeal.nD Cert.NormBwdLastRefIdeal.τ).loc Cert.NormBwdLastRefIdeal.main_arg2))
      ∧ r.2.sem = fun _ => 0)

def quiescent_NormBwdFirst [hNormBwdFirst : Cert.NormBwdFirst.Facts] : Prop :=
  ∀ (m : (ℓ : Loc Cert.NormBwdFirst.nD Cert.NormBwdFirst.τ Cert.NormBwdFirst.sig) → Buf (Elt Bits) ℓ) (g : Dev Cert.NormBwdFirst.nD → PrngReg), Pre_NormBwdFirst m →
    θ_run (Cert.NormBwdFirst.defs (F := Bits)) (onTc (τ := Cert.NormBwdFirst.τ) (Cert.NormBwdFirst.main (F := Bits))) ⟨m, fun _ => 0, g⟩ (fun r => (∀ c : Dev Cert.NormBwdFirst.nD,
      r.2.mem ((c.tc : Thread Cert.NormBwdFirst.nD Cert.NormBwdFirst.τ).loc Cert.NormBwdFirst.main_arg0) = m ((c.tc : Thread Cert.NormBwdFirst.nD Cert.NormBwdFirst.τ).loc Cert.NormBwdFirst.main_arg0)
      ∧ r.2.mem ((c.tc : Thread Cert.NormBwdFirst.nD Cert.NormBwdFirst.τ).loc Cert.NormBwdFirst.main_arg1) = m ((c.tc : Thread Cert.NormBwdFirst.nD Cert.NormBwdFirst.τ).loc Cert.NormBwdFirst.main_arg1)
      ∧ r.2.mem ((c.tc : Thread Cert.NormBwdFirst.nD Cert.NormBwdFirst.τ).loc Cert.NormBwdFirst.main_arg2) = m ((c.tc : Thread Cert.NormBwdFirst.nD Cert.NormBwdFirst.τ).loc Cert.NormBwdFirst.main_arg2)
      ∧ r.2.mem ((c.tc : Thread Cert.NormBwdFirst.nD Cert.NormBwdFirst.τ).loc Cert.NormBwdFirst.main_arg3) = m ((c.tc : Thread Cert.NormBwdFirst.nD Cert.NormBwdFirst.τ).loc Cert.NormBwdFirst.main_arg3))
      ∧ r.2.sem = fun _ => 0)

def quiescent_NormBwdFirstIdeal [hNormBwdFirstIdeal : Cert.NormBwdFirstIdeal.Facts] : Prop :=
  ∀ (m : (ℓ : Loc Cert.NormBwdFirstIdeal.nD Cert.NormBwdFirstIdeal.τ Cert.NormBwdFirstIdeal.sig) → Buf (Elt Ideal) ℓ) (g : Dev Cert.NormBwdFirstIdeal.nD → PrngReg), Pre_NormBwdFirstIdeal m →
    θ_run (Cert.NormBwdFirstIdeal.defs (F := Ideal)) (onTc (τ := Cert.NormBwdFirstIdeal.τ) (Cert.NormBwdFirstIdeal.main (F := Ideal))) ⟨m, fun _ => 0, g⟩ (fun r => (∀ c : Dev Cert.NormBwdFirstIdeal.nD,
      r.2.mem ((c.tc : Thread Cert.NormBwdFirstIdeal.nD Cert.NormBwdFirstIdeal.τ).loc Cert.NormBwdFirstIdeal.main_arg0) = m ((c.tc : Thread Cert.NormBwdFirstIdeal.nD Cert.NormBwdFirstIdeal.τ).loc Cert.NormBwdFirstIdeal.main_arg0)
      ∧ r.2.mem ((c.tc : Thread Cert.NormBwdFirstIdeal.nD Cert.NormBwdFirstIdeal.τ).loc Cert.NormBwdFirstIdeal.main_arg1) = m ((c.tc : Thread Cert.NormBwdFirstIdeal.nD Cert.NormBwdFirstIdeal.τ).loc Cert.NormBwdFirstIdeal.main_arg1)
      ∧ r.2.mem ((c.tc : Thread Cert.NormBwdFirstIdeal.nD Cert.NormBwdFirstIdeal.τ).loc Cert.NormBwdFirstIdeal.main_arg2) = m ((c.tc : Thread Cert.NormBwdFirstIdeal.nD Cert.NormBwdFirstIdeal.τ).loc Cert.NormBwdFirstIdeal.main_arg2)
      ∧ r.2.mem ((c.tc : Thread Cert.NormBwdFirstIdeal.nD Cert.NormBwdFirstIdeal.τ).loc Cert.NormBwdFirstIdeal.main_arg3) = m ((c.tc : Thread Cert.NormBwdFirstIdeal.nD Cert.NormBwdFirstIdeal.τ).loc Cert.NormBwdFirstIdeal.main_arg3))
      ∧ r.2.sem = fun _ => 0)

def quiescent_NormBwdFirstRefIdeal [hNormBwdFirstRefIdeal : Cert.NormBwdFirstRefIdeal.Facts] : Prop :=
  ∀ (m : (ℓ : Loc Cert.NormBwdFirstRefIdeal.nD Cert.NormBwdFirstRefIdeal.τ Cert.NormBwdFirstRefIdeal.sig) → Buf (Elt Ideal) ℓ) (g : Dev Cert.NormBwdFirstRefIdeal.nD → PrngReg), Pre_NormBwdFirstRefIdeal m →
    θ_run (Cert.NormBwdFirstRefIdeal.defs (F := Ideal)) (onTc (τ := Cert.NormBwdFirstRefIdeal.τ) (Cert.NormBwdFirstRefIdeal.main (F := Ideal))) ⟨m, fun _ => 0, g⟩ (fun r => (∀ c : Dev Cert.NormBwdFirstRefIdeal.nD,
      r.2.mem ((c.tc : Thread Cert.NormBwdFirstRefIdeal.nD Cert.NormBwdFirstRefIdeal.τ).loc Cert.NormBwdFirstRefIdeal.main_arg0) = m ((c.tc : Thread Cert.NormBwdFirstRefIdeal.nD Cert.NormBwdFirstRefIdeal.τ).loc Cert.NormBwdFirstRefIdeal.main_arg0)
      ∧ r.2.mem ((c.tc : Thread Cert.NormBwdFirstRefIdeal.nD Cert.NormBwdFirstRefIdeal.τ).loc Cert.NormBwdFirstRefIdeal.main_arg1) = m ((c.tc : Thread Cert.NormBwdFirstRefIdeal.nD Cert.NormBwdFirstRefIdeal.τ).loc Cert.NormBwdFirstRefIdeal.main_arg1)
      ∧ r.2.mem ((c.tc : Thread Cert.NormBwdFirstRefIdeal.nD Cert.NormBwdFirstRefIdeal.τ).loc Cert.NormBwdFirstRefIdeal.main_arg2) = m ((c.tc : Thread Cert.NormBwdFirstRefIdeal.nD Cert.NormBwdFirstRefIdeal.τ).loc Cert.NormBwdFirstRefIdeal.main_arg2)
      ∧ r.2.mem ((c.tc : Thread Cert.NormBwdFirstRefIdeal.nD Cert.NormBwdFirstRefIdeal.τ).loc Cert.NormBwdFirstRefIdeal.main_arg3) = m ((c.tc : Thread Cert.NormBwdFirstRefIdeal.nD Cert.NormBwdFirstRefIdeal.τ).loc Cert.NormBwdFirstRefIdeal.main_arg3))
      ∧ r.2.sem = fun _ => 0)

def quiescent_NormBwdMem [hNormBwdMem : Cert.NormBwdMem.Facts] : Prop :=
  ∀ (m : (ℓ : Loc Cert.NormBwdMem.nD Cert.NormBwdMem.τ Cert.NormBwdMem.sig) → Buf (Elt Bits) ℓ) (g : Dev Cert.NormBwdMem.nD → PrngReg), Pre_NormBwdMem m →
    θ_run (Cert.NormBwdMem.defs (F := Bits)) (onTc (τ := Cert.NormBwdMem.τ) (Cert.NormBwdMem.main (F := Bits))) ⟨m, fun _ => 0, g⟩ (fun r => (∀ c : Dev Cert.NormBwdMem.nD,
      r.2.mem ((c.tc : Thread Cert.NormBwdMem.nD Cert.NormBwdMem.τ).loc Cert.NormBwdMem.main_arg0) = m ((c.tc : Thread Cert.NormBwdMem.nD Cert.NormBwdMem.τ).loc Cert.NormBwdMem.main_arg0)
      ∧ r.2.mem ((c.tc : Thread Cert.NormBwdMem.nD Cert.NormBwdMem.τ).loc Cert.NormBwdMem.main_arg1) = m ((c.tc : Thread Cert.NormBwdMem.nD Cert.NormBwdMem.τ).loc Cert.NormBwdMem.main_arg1)
      ∧ r.2.mem ((c.tc : Thread Cert.NormBwdMem.nD Cert.NormBwdMem.τ).loc Cert.NormBwdMem.main_arg2) = m ((c.tc : Thread Cert.NormBwdMem.nD Cert.NormBwdMem.τ).loc Cert.NormBwdMem.main_arg2))
      ∧ r.2.sem = fun _ => 0)

def quiescent_NormBwdMemIdeal [hNormBwdMemIdeal : Cert.NormBwdMemIdeal.Facts] : Prop :=
  ∀ (m : (ℓ : Loc Cert.NormBwdMemIdeal.nD Cert.NormBwdMemIdeal.τ Cert.NormBwdMemIdeal.sig) → Buf (Elt Ideal) ℓ) (g : Dev Cert.NormBwdMemIdeal.nD → PrngReg), Pre_NormBwdMemIdeal m →
    θ_run (Cert.NormBwdMemIdeal.defs (F := Ideal)) (onTc (τ := Cert.NormBwdMemIdeal.τ) (Cert.NormBwdMemIdeal.main (F := Ideal))) ⟨m, fun _ => 0, g⟩ (fun r => (∀ c : Dev Cert.NormBwdMemIdeal.nD,
      r.2.mem ((c.tc : Thread Cert.NormBwdMemIdeal.nD Cert.NormBwdMemIdeal.τ).loc Cert.NormBwdMemIdeal.main_arg0) = m ((c.tc : Thread Cert.NormBwdMemIdeal.nD Cert.NormBwdMemIdeal.τ).loc Cert.NormBwdMemIdeal.main_arg0)
      ∧ r.2.mem ((c.tc : Thread Cert.NormBwdMemIdeal.nD Cert.NormBwdMemIdeal.τ).loc Cert.NormBwdMemIdeal.main_arg1) = m ((c.tc : Thread Cert.NormBwdMemIdeal.nD Cert.NormBwdMemIdeal.τ).loc Cert.NormBwdMemIdeal.main_arg1)
      ∧ r.2.mem ((c.tc : Thread Cert.NormBwdMemIdeal.nD Cert.NormBwdMemIdeal.τ).loc Cert.NormBwdMemIdeal.main_arg2) = m ((c.tc : Thread Cert.NormBwdMemIdeal.nD Cert.NormBwdMemIdeal.τ).loc Cert.NormBwdMemIdeal.main_arg2))
      ∧ r.2.sem = fun _ => 0)

def quiescent_NormBwdMemRefIdeal [hNormBwdMemRefIdeal : Cert.NormBwdMemRefIdeal.Facts] : Prop :=
  ∀ (m : (ℓ : Loc Cert.NormBwdMemRefIdeal.nD Cert.NormBwdMemRefIdeal.τ Cert.NormBwdMemRefIdeal.sig) → Buf (Elt Ideal) ℓ) (g : Dev Cert.NormBwdMemRefIdeal.nD → PrngReg), Pre_NormBwdMemRefIdeal m →
    θ_run (Cert.NormBwdMemRefIdeal.defs (F := Ideal)) (onTc (τ := Cert.NormBwdMemRefIdeal.τ) (Cert.NormBwdMemRefIdeal.main (F := Ideal))) ⟨m, fun _ => 0, g⟩ (fun r => (∀ c : Dev Cert.NormBwdMemRefIdeal.nD,
      r.2.mem ((c.tc : Thread Cert.NormBwdMemRefIdeal.nD Cert.NormBwdMemRefIdeal.τ).loc Cert.NormBwdMemRefIdeal.main_arg0) = m ((c.tc : Thread Cert.NormBwdMemRefIdeal.nD Cert.NormBwdMemRefIdeal.τ).loc Cert.NormBwdMemRefIdeal.main_arg0)
      ∧ r.2.mem ((c.tc : Thread Cert.NormBwdMemRefIdeal.nD Cert.NormBwdMemRefIdeal.τ).loc Cert.NormBwdMemRefIdeal.main_arg1) = m ((c.tc : Thread Cert.NormBwdMemRefIdeal.nD Cert.NormBwdMemRefIdeal.τ).loc Cert.NormBwdMemRefIdeal.main_arg1)
      ∧ r.2.mem ((c.tc : Thread Cert.NormBwdMemRefIdeal.nD Cert.NormBwdMemRefIdeal.τ).loc Cert.NormBwdMemRefIdeal.main_arg2) = m ((c.tc : Thread Cert.NormBwdMemRefIdeal.nD Cert.NormBwdMemRefIdeal.τ).loc Cert.NormBwdMemRefIdeal.main_arg2))
      ∧ r.2.sem = fun _ => 0)

def quiescent_NormFwdLast [hNormFwdLast : Cert.NormFwdLast.Facts] : Prop :=
  ∀ (m : (ℓ : Loc Cert.NormFwdLast.nD Cert.NormFwdLast.τ Cert.NormFwdLast.sig) → Buf (Elt Bits) ℓ) (g : Dev Cert.NormFwdLast.nD → PrngReg), Pre_NormFwdLast m →
    θ_run (Cert.NormFwdLast.defs (F := Bits)) (onTc (τ := Cert.NormFwdLast.τ) (Cert.NormFwdLast.main (F := Bits))) ⟨m, fun _ => 0, g⟩ (fun r => (∀ c : Dev Cert.NormFwdLast.nD,
      r.2.mem ((c.tc : Thread Cert.NormFwdLast.nD Cert.NormFwdLast.τ).loc Cert.NormFwdLast.main_arg0) = m ((c.tc : Thread Cert.NormFwdLast.nD Cert.NormFwdLast.τ).loc Cert.NormFwdLast.main_arg0)
      ∧ r.2.mem ((c.tc : Thread Cert.NormFwdLast.nD Cert.NormFwdLast.τ).loc Cert.NormFwdLast.main_arg1) = m ((c.tc : Thread Cert.NormFwdLast.nD Cert.NormFwdLast.τ).loc Cert.NormFwdLast.main_arg1)
      ∧ r.2.mem ((c.tc : Thread Cert.NormFwdLast.nD Cert.NormFwdLast.τ).loc Cert.NormFwdLast.main_arg2) = m ((c.tc : Thread Cert.NormFwdLast.nD Cert.NormFwdLast.τ).loc Cert.NormFwdLast.main_arg2))
      ∧ r.2.sem = fun _ => 0)

def quiescent_NormFwdLastIdeal [hNormFwdLastIdeal : Cert.NormFwdLastIdeal.Facts] : Prop :=
  ∀ (m : (ℓ : Loc Cert.NormFwdLastIdeal.nD Cert.NormFwdLastIdeal.τ Cert.NormFwdLastIdeal.sig) → Buf (Elt Ideal) ℓ) (g : Dev Cert.NormFwdLastIdeal.nD → PrngReg), Pre_NormFwdLastIdeal m →
    θ_run (Cert.NormFwdLastIdeal.defs (F := Ideal)) (onTc (τ := Cert.NormFwdLastIdeal.τ) (Cert.NormFwdLastIdeal.main (F := Ideal))) ⟨m, fun _ => 0, g⟩ (fun r => (∀ c : Dev Cert.NormFwdLastIdeal.nD,
      r.2.mem ((c.tc : Thread Cert.NormFwdLastIdeal.nD Cert.NormFwdLastIdeal.τ).loc Cert.NormFwdLastIdeal.main_arg0) = m ((c.tc : Thread Cert.NormFwdLastIdeal.nD Cert.NormFwdLastIdeal.τ).loc Cert.NormFwdLastIdeal.main_arg0)
      ∧ r.2.mem ((c.tc : Thread Cert.NormFwdLastIdeal.nD Cert.NormFwdLastIdeal.τ).loc Cert.NormFwdLastIdeal.main_arg1) = m ((c.tc : Thread Cert.NormFwdLastIdeal.nD Cert.NormFwdLastIdeal.τ).loc Cert.NormFwdLastIdeal.main_arg1)
      ∧ r.2.mem ((c.tc : Thread Cert.NormFwdLastIdeal.nD Cert.NormFwdLastIdeal.τ).loc Cert.NormFwdLastIdeal.main_arg2) = m ((c.tc : Thread Cert.NormFwdLastIdeal.nD Cert.NormFwdLastIdeal.τ).loc Cert.NormFwdLastIdeal.main_arg2))
      ∧ r.2.sem = fun _ => 0)

def quiescent_NormFwdLastRefIdeal [hNormFwdLastRefIdeal : Cert.NormFwdLastRefIdeal.Facts] : Prop :=
  ∀ (m : (ℓ : Loc Cert.NormFwdLastRefIdeal.nD Cert.NormFwdLastRefIdeal.τ Cert.NormFwdLastRefIdeal.sig) → Buf (Elt Ideal) ℓ) (g : Dev Cert.NormFwdLastRefIdeal.nD → PrngReg), Pre_NormFwdLastRefIdeal m →
    θ_run (Cert.NormFwdLastRefIdeal.defs (F := Ideal)) (onTc (τ := Cert.NormFwdLastRefIdeal.τ) (Cert.NormFwdLastRefIdeal.main (F := Ideal))) ⟨m, fun _ => 0, g⟩ (fun r => (∀ c : Dev Cert.NormFwdLastRefIdeal.nD,
      r.2.mem ((c.tc : Thread Cert.NormFwdLastRefIdeal.nD Cert.NormFwdLastRefIdeal.τ).loc Cert.NormFwdLastRefIdeal.main_arg0) = m ((c.tc : Thread Cert.NormFwdLastRefIdeal.nD Cert.NormFwdLastRefIdeal.τ).loc Cert.NormFwdLastRefIdeal.main_arg0)
      ∧ r.2.mem ((c.tc : Thread Cert.NormFwdLastRefIdeal.nD Cert.NormFwdLastRefIdeal.τ).loc Cert.NormFwdLastRefIdeal.main_arg1) = m ((c.tc : Thread Cert.NormFwdLastRefIdeal.nD Cert.NormFwdLastRefIdeal.τ).loc Cert.NormFwdLastRefIdeal.main_arg1)
      ∧ r.2.mem ((c.tc : Thread Cert.NormFwdLastRefIdeal.nD Cert.NormFwdLastRefIdeal.τ).loc Cert.NormFwdLastRefIdeal.main_arg2) = m ((c.tc : Thread Cert.NormFwdLastRefIdeal.nD Cert.NormFwdLastRefIdeal.τ).loc Cert.NormFwdLastRefIdeal.main_arg2))
      ∧ r.2.sem = fun _ => 0)

def quiescent_NormFwdFirst [hNormFwdFirst : Cert.NormFwdFirst.Facts] : Prop :=
  ∀ (m : (ℓ : Loc Cert.NormFwdFirst.nD Cert.NormFwdFirst.τ Cert.NormFwdFirst.sig) → Buf (Elt Bits) ℓ) (g : Dev Cert.NormFwdFirst.nD → PrngReg), Pre_NormFwdFirst m →
    θ_run (Cert.NormFwdFirst.defs (F := Bits)) (onTc (τ := Cert.NormFwdFirst.τ) (Cert.NormFwdFirst.main (F := Bits))) ⟨m, fun _ => 0, g⟩ (fun r => (∀ c : Dev Cert.NormFwdFirst.nD,
      r.2.mem ((c.tc : Thread Cert.NormFwdFirst.nD Cert.NormFwdFirst.τ).loc Cert.NormFwdFirst.main_arg0) = m ((c.tc : Thread Cert.NormFwdFirst.nD Cert.NormFwdFirst.τ).loc Cert.NormFwdFirst.main_arg0)
      ∧ r.2.mem ((c.tc : Thread Cert.NormFwdFirst.nD Cert.NormFwdFirst.τ).loc Cert.NormFwdFirst.main_arg1) = m ((c.tc : Thread Cert.NormFwdFirst.nD Cert.NormFwdFirst.τ).loc Cert.NormFwdFirst.main_arg1))
      ∧ r.2.sem = fun _ => 0)

def quiescent_NormFwdFirstIdeal [hNormFwdFirstIdeal : Cert.NormFwdFirstIdeal.Facts] : Prop :=
  ∀ (m : (ℓ : Loc Cert.NormFwdFirstIdeal.nD Cert.NormFwdFirstIdeal.τ Cert.NormFwdFirstIdeal.sig) → Buf (Elt Ideal) ℓ) (g : Dev Cert.NormFwdFirstIdeal.nD → PrngReg), Pre_NormFwdFirstIdeal m →
    θ_run (Cert.NormFwdFirstIdeal.defs (F := Ideal)) (onTc (τ := Cert.NormFwdFirstIdeal.τ) (Cert.NormFwdFirstIdeal.main (F := Ideal))) ⟨m, fun _ => 0, g⟩ (fun r => (∀ c : Dev Cert.NormFwdFirstIdeal.nD,
      r.2.mem ((c.tc : Thread Cert.NormFwdFirstIdeal.nD Cert.NormFwdFirstIdeal.τ).loc Cert.NormFwdFirstIdeal.main_arg0) = m ((c.tc : Thread Cert.NormFwdFirstIdeal.nD Cert.NormFwdFirstIdeal.τ).loc Cert.NormFwdFirstIdeal.main_arg0)
      ∧ r.2.mem ((c.tc : Thread Cert.NormFwdFirstIdeal.nD Cert.NormFwdFirstIdeal.τ).loc Cert.NormFwdFirstIdeal.main_arg1) = m ((c.tc : Thread Cert.NormFwdFirstIdeal.nD Cert.NormFwdFirstIdeal.τ).loc Cert.NormFwdFirstIdeal.main_arg1))
      ∧ r.2.sem = fun _ => 0)

def quiescent_NormFwdFirstRefIdeal [hNormFwdFirstRefIdeal : Cert.NormFwdFirstRefIdeal.Facts] : Prop :=
  ∀ (m : (ℓ : Loc Cert.NormFwdFirstRefIdeal.nD Cert.NormFwdFirstRefIdeal.τ Cert.NormFwdFirstRefIdeal.sig) → Buf (Elt Ideal) ℓ) (g : Dev Cert.NormFwdFirstRefIdeal.nD → PrngReg), Pre_NormFwdFirstRefIdeal m →
    θ_run (Cert.NormFwdFirstRefIdeal.defs (F := Ideal)) (onTc (τ := Cert.NormFwdFirstRefIdeal.τ) (Cert.NormFwdFirstRefIdeal.main (F := Ideal))) ⟨m, fun _ => 0, g⟩ (fun r => (∀ c : Dev Cert.NormFwdFirstRefIdeal.nD,
      r.2.mem ((c.tc : Thread Cert.NormFwdFirstRefIdeal.nD Cert.NormFwdFirstRefIdeal.τ).loc Cert.NormFwdFirstRefIdeal.main_arg0) = m ((c.tc : Thread Cert.NormFwdFirstRefIdeal.nD Cert.NormFwdFirstRefIdeal.τ).loc Cert.NormFwdFirstRefIdeal.main_arg0)
      ∧ r.2.mem ((c.tc : Thread Cert.NormFwdFirstRefIdeal.nD Cert.NormFwdFirstRefIdeal.τ).loc Cert.NormFwdFirstRefIdeal.main_arg1) = m ((c.tc : Thread Cert.NormFwdFirstRefIdeal.nD Cert.NormFwdFirstRefIdeal.τ).loc Cert.NormFwdFirstRefIdeal.main_arg1))
      ∧ r.2.sem = fun _ => 0)

def quiescent_NormFwdMem [hNormFwdMem : Cert.NormFwdMem.Facts] : Prop :=
  ∀ (m : (ℓ : Loc Cert.NormFwdMem.nD Cert.NormFwdMem.τ Cert.NormFwdMem.sig) → Buf (Elt Bits) ℓ) (g : Dev Cert.NormFwdMem.nD → PrngReg), Pre_NormFwdMem m →
    θ_run (Cert.NormFwdMem.defs (F := Bits)) (onTc (τ := Cert.NormFwdMem.τ) (Cert.NormFwdMem.main (F := Bits))) ⟨m, fun _ => 0, g⟩ (fun r => (∀ c : Dev Cert.NormFwdMem.nD,
      r.2.mem ((c.tc : Thread Cert.NormFwdMem.nD Cert.NormFwdMem.τ).loc Cert.NormFwdMem.main_arg0) = m ((c.tc : Thread Cert.NormFwdMem.nD Cert.NormFwdMem.τ).loc Cert.NormFwdMem.main_arg0)
      ∧ r.2.mem ((c.tc : Thread Cert.NormFwdMem.nD Cert.NormFwdMem.τ).loc Cert.NormFwdMem.main_arg1) = m ((c.tc : Thread Cert.NormFwdMem.nD Cert.NormFwdMem.τ).loc Cert.NormFwdMem.main_arg1))
      ∧ r.2.sem = fun _ => 0)

def quiescent_NormFwdMemIdeal [hNormFwdMemIdeal : Cert.NormFwdMemIdeal.Facts] : Prop :=
  ∀ (m : (ℓ : Loc Cert.NormFwdMemIdeal.nD Cert.NormFwdMemIdeal.τ Cert.NormFwdMemIdeal.sig) → Buf (Elt Ideal) ℓ) (g : Dev Cert.NormFwdMemIdeal.nD → PrngReg), Pre_NormFwdMemIdeal m →
    θ_run (Cert.NormFwdMemIdeal.defs (F := Ideal)) (onTc (τ := Cert.NormFwdMemIdeal.τ) (Cert.NormFwdMemIdeal.main (F := Ideal))) ⟨m, fun _ => 0, g⟩ (fun r => (∀ c : Dev Cert.NormFwdMemIdeal.nD,
      r.2.mem ((c.tc : Thread Cert.NormFwdMemIdeal.nD Cert.NormFwdMemIdeal.τ).loc Cert.NormFwdMemIdeal.main_arg0) = m ((c.tc : Thread Cert.NormFwdMemIdeal.nD Cert.NormFwdMemIdeal.τ).loc Cert.NormFwdMemIdeal.main_arg0)
      ∧ r.2.mem ((c.tc : Thread Cert.NormFwdMemIdeal.nD Cert.NormFwdMemIdeal.τ).loc Cert.NormFwdMemIdeal.main_arg1) = m ((c.tc : Thread Cert.NormFwdMemIdeal.nD Cert.NormFwdMemIdeal.τ).loc Cert.NormFwdMemIdeal.main_arg1))
      ∧ r.2.sem = fun _ => 0)

def quiescent_NormFwdMemRefIdeal [hNormFwdMemRefIdeal : Cert.NormFwdMemRefIdeal.Facts] : Prop :=
  ∀ (m : (ℓ : Loc Cert.NormFwdMemRefIdeal.nD Cert.NormFwdMemRefIdeal.τ Cert.NormFwdMemRefIdeal.sig) → Buf (Elt Ideal) ℓ) (g : Dev Cert.NormFwdMemRefIdeal.nD → PrngReg), Pre_NormFwdMemRefIdeal m →
    θ_run (Cert.NormFwdMemRefIdeal.defs (F := Ideal)) (onTc (τ := Cert.NormFwdMemRefIdeal.τ) (Cert.NormFwdMemRefIdeal.main (F := Ideal))) ⟨m, fun _ => 0, g⟩ (fun r => (∀ c : Dev Cert.NormFwdMemRefIdeal.nD,
      r.2.mem ((c.tc : Thread Cert.NormFwdMemRefIdeal.nD Cert.NormFwdMemRefIdeal.τ).loc Cert.NormFwdMemRefIdeal.main_arg0) = m ((c.tc : Thread Cert.NormFwdMemRefIdeal.nD Cert.NormFwdMemRefIdeal.τ).loc Cert.NormFwdMemRefIdeal.main_arg0)
      ∧ r.2.mem ((c.tc : Thread Cert.NormFwdMemRefIdeal.nD Cert.NormFwdMemRefIdeal.τ).loc Cert.NormFwdMemRefIdeal.main_arg1) = m ((c.tc : Thread Cert.NormFwdMemRefIdeal.nD Cert.NormFwdMemRefIdeal.τ).loc Cert.NormFwdMemRefIdeal.main_arg1))
      ∧ r.2.sem = fun _ => 0)

def quiescent_ConvNormBwd [hConvNormBwd : Cert.ConvNormBwd.Facts] : Prop :=
  ∀ (m : (ℓ : Loc Cert.ConvNormBwd.nD Cert.ConvNormBwd.τ Cert.ConvNormBwd.sig) → Buf (Elt Bits) ℓ) (g : Dev Cert.ConvNormBwd.nD → PrngReg), Pre_ConvNormBwd m →
    θ_run (Cert.ConvNormBwd.defs (F := Bits)) (onTc (τ := Cert.ConvNormBwd.τ) (Cert.ConvNormBwd.main (F := Bits))) ⟨m, fun _ => 0, g⟩ (fun r => (∀ c : Dev Cert.ConvNormBwd.nD,
      r.2.mem ((c.tc : Thread Cert.ConvNormBwd.nD Cert.ConvNormBwd.τ).loc Cert.ConvNormBwd.main_arg0) = m ((c.tc : Thread Cert.ConvNormBwd.nD Cert.ConvNormBwd.τ).loc Cert.ConvNormBwd.main_arg0)
      ∧ r.2.mem ((c.tc : Thread Cert.ConvNormBwd.nD Cert.ConvNormBwd.τ).loc Cert.ConvNormBwd.main_arg1) = m ((c.tc : Thread Cert.ConvNormBwd.nD Cert.ConvNormBwd.τ).loc Cert.ConvNormBwd.main_arg1)
      ∧ r.2.mem ((c.tc : Thread Cert.ConvNormBwd.nD Cert.ConvNormBwd.τ).loc Cert.ConvNormBwd.main_arg2) = m ((c.tc : Thread Cert.ConvNormBwd.nD Cert.ConvNormBwd.τ).loc Cert.ConvNormBwd.main_arg2)
      ∧ r.2.mem ((c.tc : Thread Cert.ConvNormBwd.nD Cert.ConvNormBwd.τ).loc Cert.ConvNormBwd.main_arg3) = m ((c.tc : Thread Cert.ConvNormBwd.nD Cert.ConvNormBwd.τ).loc Cert.ConvNormBwd.main_arg3))
      ∧ r.2.sem = fun _ => 0)

def quiescent_ConvNormBwdIdeal [hConvNormBwdIdeal : Cert.ConvNormBwdIdeal.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ r.2.sem = fun _ => 0)

def quiescent_ConvNormBwdIdeal_pre_finite_grad [hConvNormBwdIdeal : Cert.ConvNormBwdIdeal.Facts] [hPre_finite_grad : Cert.Pre_finite_grad.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal_finite_grad m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ r.2.sem = fun _ => 0)

def quiescent_ConvNormBwdRefIdeal [hConvNormBwdRefIdeal : Cert.ConvNormBwdRefIdeal.Facts] : Prop :=
  ∀ (m : (ℓ : Loc Cert.ConvNormBwdRefIdeal.nD Cert.ConvNormBwdRefIdeal.τ Cert.ConvNormBwdRefIdeal.sig) → Buf (Elt Ideal) ℓ) (g : Dev Cert.ConvNormBwdRefIdeal.nD → PrngReg), Pre_ConvNormBwdRefIdeal m →
    θ_run (Cert.ConvNormBwdRefIdeal.defs (F := Ideal)) (onTc (τ := Cert.ConvNormBwdRefIdeal.τ) (Cert.ConvNormBwdRefIdeal.main (F := Ideal))) ⟨m, fun _ => 0, g⟩ (fun r => (∀ c : Dev Cert.ConvNormBwdRefIdeal.nD,
      r.2.mem ((c.tc : Thread Cert.ConvNormBwdRefIdeal.nD Cert.ConvNormBwdRefIdeal.τ).loc Cert.ConvNormBwdRefIdeal.main_arg0) = m ((c.tc : Thread Cert.ConvNormBwdRefIdeal.nD Cert.ConvNormBwdRefIdeal.τ).loc Cert.ConvNormBwdRefIdeal.main_arg0)
      ∧ r.2.mem ((c.tc : Thread Cert.ConvNormBwdRefIdeal.nD Cert.ConvNormBwdRefIdeal.τ).loc Cert.ConvNormBwdRefIdeal.main_arg1) = m ((c.tc : Thread Cert.ConvNormBwdRefIdeal.nD Cert.ConvNormBwdRefIdeal.τ).loc Cert.ConvNormBwdRefIdeal.main_arg1)
      ∧ r.2.mem ((c.tc : Thread Cert.ConvNormBwdRefIdeal.nD Cert.ConvNormBwdRefIdeal.τ).loc Cert.ConvNormBwdRefIdeal.main_arg2) = m ((c.tc : Thread Cert.ConvNormBwdRefIdeal.nD Cert.ConvNormBwdRefIdeal.τ).loc Cert.ConvNormBwdRefIdeal.main_arg2)
      ∧ r.2.mem ((c.tc : Thread Cert.ConvNormBwdRefIdeal.nD Cert.ConvNormBwdRefIdeal.τ).loc Cert.ConvNormBwdRefIdeal.main_arg3) = m ((c.tc : Thread Cert.ConvNormBwdRefIdeal.nD Cert.ConvNormBwdRefIdeal.τ).loc Cert.ConvNormBwdRefIdeal.main_arg3))
      ∧ r.2.sem = fun _ => 0)

def quiescent_ConvNormBwdRefIdeal_pre_finite_grad [hConvNormBwdRefIdeal : Cert.ConvNormBwdRefIdeal.Facts] [hPre_finite_grad : Cert.Pre_finite_grad.Facts] : Prop :=
  ∀ (m : (ℓ : Loc Cert.ConvNormBwdRefIdeal.nD Cert.ConvNormBwdRefIdeal.τ Cert.ConvNormBwdRefIdeal.sig) → Buf (Elt Ideal) ℓ) (g : Dev Cert.ConvNormBwdRefIdeal.nD → PrngReg), Pre_ConvNormBwdRefIdeal_finite_grad m →
    θ_run (Cert.ConvNormBwdRefIdeal.defs (F := Ideal)) (onTc (τ := Cert.ConvNormBwdRefIdeal.τ) (Cert.ConvNormBwdRefIdeal.main (F := Ideal))) ⟨m, fun _ => 0, g⟩ (fun r => (∀ c : Dev Cert.ConvNormBwdRefIdeal.nD,
      r.2.mem ((c.tc : Thread Cert.ConvNormBwdRefIdeal.nD Cert.ConvNormBwdRefIdeal.τ).loc Cert.ConvNormBwdRefIdeal.main_arg0) = m ((c.tc : Thread Cert.ConvNormBwdRefIdeal.nD Cert.ConvNormBwdRefIdeal.τ).loc Cert.ConvNormBwdRefIdeal.main_arg0)
      ∧ r.2.mem ((c.tc : Thread Cert.ConvNormBwdRefIdeal.nD Cert.ConvNormBwdRefIdeal.τ).loc Cert.ConvNormBwdRefIdeal.main_arg1) = m ((c.tc : Thread Cert.ConvNormBwdRefIdeal.nD Cert.ConvNormBwdRefIdeal.τ).loc Cert.ConvNormBwdRefIdeal.main_arg1)
      ∧ r.2.mem ((c.tc : Thread Cert.ConvNormBwdRefIdeal.nD Cert.ConvNormBwdRefIdeal.τ).loc Cert.ConvNormBwdRefIdeal.main_arg2) = m ((c.tc : Thread Cert.ConvNormBwdRefIdeal.nD Cert.ConvNormBwdRefIdeal.τ).loc Cert.ConvNormBwdRefIdeal.main_arg2)
      ∧ r.2.mem ((c.tc : Thread Cert.ConvNormBwdRefIdeal.nD Cert.ConvNormBwdRefIdeal.τ).loc Cert.ConvNormBwdRefIdeal.main_arg3) = m ((c.tc : Thread Cert.ConvNormBwdRefIdeal.nD Cert.ConvNormBwdRefIdeal.τ).loc Cert.ConvNormBwdRefIdeal.main_arg3))
      ∧ r.2.sem = fun _ => 0)

def quiescent_GatingFwd [hGatingFwd : Cert.GatingFwd.Facts] : Prop :=
  ∀ (m : (ℓ : Loc Cert.GatingFwd.nD Cert.GatingFwd.τ Cert.GatingFwd.sig) → Buf (Elt Bits) ℓ) (g : Dev Cert.GatingFwd.nD → PrngReg), Pre_GatingFwd m →
    θ_run (Cert.GatingFwd.defs (F := Bits)) (onTc (τ := Cert.GatingFwd.τ) (Cert.GatingFwd.main (F := Bits))) ⟨m, fun _ => 0, g⟩ (fun r => (∀ c : Dev Cert.GatingFwd.nD,
      r.2.mem ((c.tc : Thread Cert.GatingFwd.nD Cert.GatingFwd.τ).loc Cert.GatingFwd.main_arg0) = m ((c.tc : Thread Cert.GatingFwd.nD Cert.GatingFwd.τ).loc Cert.GatingFwd.main_arg0)
      ∧ r.2.mem ((c.tc : Thread Cert.GatingFwd.nD Cert.GatingFwd.τ).loc Cert.GatingFwd.main_arg1) = m ((c.tc : Thread Cert.GatingFwd.nD Cert.GatingFwd.τ).loc Cert.GatingFwd.main_arg1)
      ∧ r.2.mem ((c.tc : Thread Cert.GatingFwd.nD Cert.GatingFwd.τ).loc Cert.GatingFwd.main_arg2) = m ((c.tc : Thread Cert.GatingFwd.nD Cert.GatingFwd.τ).loc Cert.GatingFwd.main_arg2)
      ∧ r.2.mem ((c.tc : Thread Cert.GatingFwd.nD Cert.GatingFwd.τ).loc Cert.GatingFwd.main_arg3) = m ((c.tc : Thread Cert.GatingFwd.nD Cert.GatingFwd.τ).loc Cert.GatingFwd.main_arg3)
      ∧ r.2.mem ((c.tc : Thread Cert.GatingFwd.nD Cert.GatingFwd.τ).loc Cert.GatingFwd.main_arg4) = m ((c.tc : Thread Cert.GatingFwd.nD Cert.GatingFwd.τ).loc Cert.GatingFwd.main_arg4))
      ∧ r.2.sem = fun _ => 0)

def quiescent_GatingFwdIdeal [hGatingFwdIdeal : Cert.GatingFwdIdeal.Facts] : Prop :=
  ∀ (m : (ℓ : Loc Cert.GatingFwdIdeal.nD Cert.GatingFwdIdeal.τ Cert.GatingFwdIdeal.sig) → Buf (Elt Ideal) ℓ) (g : Dev Cert.GatingFwdIdeal.nD → PrngReg), Pre_GatingFwdIdeal m →
    θ_run (Cert.GatingFwdIdeal.defs (F := Ideal)) (onTc (τ := Cert.GatingFwdIdeal.τ) (Cert.GatingFwdIdeal.main (F := Ideal))) ⟨m, fun _ => 0, g⟩ (fun r => (∀ c : Dev Cert.GatingFwdIdeal.nD,
      r.2.mem ((c.tc : Thread Cert.GatingFwdIdeal.nD Cert.GatingFwdIdeal.τ).loc Cert.GatingFwdIdeal.main_arg0) = m ((c.tc : Thread Cert.GatingFwdIdeal.nD Cert.GatingFwdIdeal.τ).loc Cert.GatingFwdIdeal.main_arg0)
      ∧ r.2.mem ((c.tc : Thread Cert.GatingFwdIdeal.nD Cert.GatingFwdIdeal.τ).loc Cert.GatingFwdIdeal.main_arg1) = m ((c.tc : Thread Cert.GatingFwdIdeal.nD Cert.GatingFwdIdeal.τ).loc Cert.GatingFwdIdeal.main_arg1)
      ∧ r.2.mem ((c.tc : Thread Cert.GatingFwdIdeal.nD Cert.GatingFwdIdeal.τ).loc Cert.GatingFwdIdeal.main_arg2) = m ((c.tc : Thread Cert.GatingFwdIdeal.nD Cert.GatingFwdIdeal.τ).loc Cert.GatingFwdIdeal.main_arg2)
      ∧ r.2.mem ((c.tc : Thread Cert.GatingFwdIdeal.nD Cert.GatingFwdIdeal.τ).loc Cert.GatingFwdIdeal.main_arg3) = m ((c.tc : Thread Cert.GatingFwdIdeal.nD Cert.GatingFwdIdeal.τ).loc Cert.GatingFwdIdeal.main_arg3)
      ∧ r.2.mem ((c.tc : Thread Cert.GatingFwdIdeal.nD Cert.GatingFwdIdeal.τ).loc Cert.GatingFwdIdeal.main_arg4) = m ((c.tc : Thread Cert.GatingFwdIdeal.nD Cert.GatingFwdIdeal.τ).loc Cert.GatingFwdIdeal.main_arg4))
      ∧ r.2.sem = fun _ => 0)

def quiescent_GatingFwdRefIdeal [hGatingFwdRefIdeal : Cert.GatingFwdRefIdeal.Facts] : Prop :=
  ∀ (m : (ℓ : Loc Cert.GatingFwdRefIdeal.nD Cert.GatingFwdRefIdeal.τ Cert.GatingFwdRefIdeal.sig) → Buf (Elt Ideal) ℓ) (g : Dev Cert.GatingFwdRefIdeal.nD → PrngReg), Pre_GatingFwdRefIdeal m →
    θ_run (Cert.GatingFwdRefIdeal.defs (F := Ideal)) (onTc (τ := Cert.GatingFwdRefIdeal.τ) (Cert.GatingFwdRefIdeal.main (F := Ideal))) ⟨m, fun _ => 0, g⟩ (fun r => (∀ c : Dev Cert.GatingFwdRefIdeal.nD,
      r.2.mem ((c.tc : Thread Cert.GatingFwdRefIdeal.nD Cert.GatingFwdRefIdeal.τ).loc Cert.GatingFwdRefIdeal.main_arg0) = m ((c.tc : Thread Cert.GatingFwdRefIdeal.nD Cert.GatingFwdRefIdeal.τ).loc Cert.GatingFwdRefIdeal.main_arg0)
      ∧ r.2.mem ((c.tc : Thread Cert.GatingFwdRefIdeal.nD Cert.GatingFwdRefIdeal.τ).loc Cert.GatingFwdRefIdeal.main_arg1) = m ((c.tc : Thread Cert.GatingFwdRefIdeal.nD Cert.GatingFwdRefIdeal.τ).loc Cert.GatingFwdRefIdeal.main_arg1)
      ∧ r.2.mem ((c.tc : Thread Cert.GatingFwdRefIdeal.nD Cert.GatingFwdRefIdeal.τ).loc Cert.GatingFwdRefIdeal.main_arg2) = m ((c.tc : Thread Cert.GatingFwdRefIdeal.nD Cert.GatingFwdRefIdeal.τ).loc Cert.GatingFwdRefIdeal.main_arg2)
      ∧ r.2.mem ((c.tc : Thread Cert.GatingFwdRefIdeal.nD Cert.GatingFwdRefIdeal.τ).loc Cert.GatingFwdRefIdeal.main_arg3) = m ((c.tc : Thread Cert.GatingFwdRefIdeal.nD Cert.GatingFwdRefIdeal.τ).loc Cert.GatingFwdRefIdeal.main_arg3)
      ∧ r.2.mem ((c.tc : Thread Cert.GatingFwdRefIdeal.nD Cert.GatingFwdRefIdeal.τ).loc Cert.GatingFwdRefIdeal.main_arg4) = m ((c.tc : Thread Cert.GatingFwdRefIdeal.nD Cert.GatingFwdRefIdeal.τ).loc Cert.GatingFwdRefIdeal.main_arg4))
      ∧ r.2.sem = fun _ => 0)

def quiescent_AttnCombine [hAttnCombine : Cert.AttnCombine.Facts] : Prop :=
  ∀ (m : (ℓ : Loc Cert.AttnCombine.nD Cert.AttnCombine.τ Cert.AttnCombine.sig) → Buf (Elt Bits) ℓ) (g : Dev Cert.AttnCombine.nD → PrngReg), Pre_AttnCombine m →
    θ_run (Cert.AttnCombine.defs (F := Bits)) (onTc (τ := Cert.AttnCombine.τ) (Cert.AttnCombine.main (F := Bits))) ⟨m, fun _ => 0, g⟩ (fun r => (∀ c : Dev Cert.AttnCombine.nD,
      r.2.mem ((c.tc : Thread Cert.AttnCombine.nD Cert.AttnCombine.τ).loc Cert.AttnCombine.main_arg0) = m ((c.tc : Thread Cert.AttnCombine.nD Cert.AttnCombine.τ).loc Cert.AttnCombine.main_arg0)
      ∧ r.2.mem ((c.tc : Thread Cert.AttnCombine.nD Cert.AttnCombine.τ).loc Cert.AttnCombine.main_arg1) = m ((c.tc : Thread Cert.AttnCombine.nD Cert.AttnCombine.τ).loc Cert.AttnCombine.main_arg1)
      ∧ r.2.mem ((c.tc : Thread Cert.AttnCombine.nD Cert.AttnCombine.τ).loc Cert.AttnCombine.main_arg2) = m ((c.tc : Thread Cert.AttnCombine.nD Cert.AttnCombine.τ).loc Cert.AttnCombine.main_arg2)
      ∧ r.2.mem ((c.tc : Thread Cert.AttnCombine.nD Cert.AttnCombine.τ).loc Cert.AttnCombine.main_arg3) = m ((c.tc : Thread Cert.AttnCombine.nD Cert.AttnCombine.τ).loc Cert.AttnCombine.main_arg3)
      ∧ r.2.mem ((c.tc : Thread Cert.AttnCombine.nD Cert.AttnCombine.τ).loc Cert.AttnCombine.main_arg4) = m ((c.tc : Thread Cert.AttnCombine.nD Cert.AttnCombine.τ).loc Cert.AttnCombine.main_arg4)
      ∧ r.2.mem ((c.tc : Thread Cert.AttnCombine.nD Cert.AttnCombine.τ).loc Cert.AttnCombine.main_arg5) = m ((c.tc : Thread Cert.AttnCombine.nD Cert.AttnCombine.τ).loc Cert.AttnCombine.main_arg5))
      ∧ r.2.sem = fun _ => 0)

def quiescent_AttnCombineIdeal [hAttnCombineIdeal : Cert.AttnCombineIdeal.Facts] : Prop :=
  ∀ (m : (ℓ : Loc Cert.AttnCombineIdeal.nD Cert.AttnCombineIdeal.τ Cert.AttnCombineIdeal.sig) → Buf (Elt Ideal) ℓ) (g : Dev Cert.AttnCombineIdeal.nD → PrngReg), Pre_AttnCombineIdeal m →
    θ_run (Cert.AttnCombineIdeal.defs (F := Ideal)) (onTc (τ := Cert.AttnCombineIdeal.τ) (Cert.AttnCombineIdeal.main (F := Ideal))) ⟨m, fun _ => 0, g⟩ (fun r => (∀ c : Dev Cert.AttnCombineIdeal.nD,
      r.2.mem ((c.tc : Thread Cert.AttnCombineIdeal.nD Cert.AttnCombineIdeal.τ).loc Cert.AttnCombineIdeal.main_arg0) = m ((c.tc : Thread Cert.AttnCombineIdeal.nD Cert.AttnCombineIdeal.τ).loc Cert.AttnCombineIdeal.main_arg0)
      ∧ r.2.mem ((c.tc : Thread Cert.AttnCombineIdeal.nD Cert.AttnCombineIdeal.τ).loc Cert.AttnCombineIdeal.main_arg1) = m ((c.tc : Thread Cert.AttnCombineIdeal.nD Cert.AttnCombineIdeal.τ).loc Cert.AttnCombineIdeal.main_arg1)
      ∧ r.2.mem ((c.tc : Thread Cert.AttnCombineIdeal.nD Cert.AttnCombineIdeal.τ).loc Cert.AttnCombineIdeal.main_arg2) = m ((c.tc : Thread Cert.AttnCombineIdeal.nD Cert.AttnCombineIdeal.τ).loc Cert.AttnCombineIdeal.main_arg2)
      ∧ r.2.mem ((c.tc : Thread Cert.AttnCombineIdeal.nD Cert.AttnCombineIdeal.τ).loc Cert.AttnCombineIdeal.main_arg3) = m ((c.tc : Thread Cert.AttnCombineIdeal.nD Cert.AttnCombineIdeal.τ).loc Cert.AttnCombineIdeal.main_arg3)
      ∧ r.2.mem ((c.tc : Thread Cert.AttnCombineIdeal.nD Cert.AttnCombineIdeal.τ).loc Cert.AttnCombineIdeal.main_arg4) = m ((c.tc : Thread Cert.AttnCombineIdeal.nD Cert.AttnCombineIdeal.τ).loc Cert.AttnCombineIdeal.main_arg4)
      ∧ r.2.mem ((c.tc : Thread Cert.AttnCombineIdeal.nD Cert.AttnCombineIdeal.τ).loc Cert.AttnCombineIdeal.main_arg5) = m ((c.tc : Thread Cert.AttnCombineIdeal.nD Cert.AttnCombineIdeal.τ).loc Cert.AttnCombineIdeal.main_arg5))
      ∧ r.2.sem = fun _ => 0)

def quiescent_AttnCombineIdeal_pre_finite_lse [hAttnCombineIdeal : Cert.AttnCombineIdeal.Facts] [hPre_finite_lse : Cert.Pre_finite_lse.Facts] : Prop :=
  ∀ (m : (ℓ : Loc Cert.AttnCombineIdeal.nD Cert.AttnCombineIdeal.τ Cert.AttnCombineIdeal.sig) → Buf (Elt Ideal) ℓ) (g : Dev Cert.AttnCombineIdeal.nD → PrngReg), Pre_AttnCombineIdeal_finite_lse m →
    θ_run (Cert.AttnCombineIdeal.defs (F := Ideal)) (onTc (τ := Cert.AttnCombineIdeal.τ) (Cert.AttnCombineIdeal.main (F := Ideal))) ⟨m, fun _ => 0, g⟩ (fun r => (∀ c : Dev Cert.AttnCombineIdeal.nD,
      r.2.mem ((c.tc : Thread Cert.AttnCombineIdeal.nD Cert.AttnCombineIdeal.τ).loc Cert.AttnCombineIdeal.main_arg0) = m ((c.tc : Thread Cert.AttnCombineIdeal.nD Cert.AttnCombineIdeal.τ).loc Cert.AttnCombineIdeal.main_arg0)
      ∧ r.2.mem ((c.tc : Thread Cert.AttnCombineIdeal.nD Cert.AttnCombineIdeal.τ).loc Cert.AttnCombineIdeal.main_arg1) = m ((c.tc : Thread Cert.AttnCombineIdeal.nD Cert.AttnCombineIdeal.τ).loc Cert.AttnCombineIdeal.main_arg1)
      ∧ r.2.mem ((c.tc : Thread Cert.AttnCombineIdeal.nD Cert.AttnCombineIdeal.τ).loc Cert.AttnCombineIdeal.main_arg2) = m ((c.tc : Thread Cert.AttnCombineIdeal.nD Cert.AttnCombineIdeal.τ).loc Cert.AttnCombineIdeal.main_arg2)
      ∧ r.2.mem ((c.tc : Thread Cert.AttnCombineIdeal.nD Cert.AttnCombineIdeal.τ).loc Cert.AttnCombineIdeal.main_arg3) = m ((c.tc : Thread Cert.AttnCombineIdeal.nD Cert.AttnCombineIdeal.τ).loc Cert.AttnCombineIdeal.main_arg3)
      ∧ r.2.mem ((c.tc : Thread Cert.AttnCombineIdeal.nD Cert.AttnCombineIdeal.τ).loc Cert.AttnCombineIdeal.main_arg4) = m ((c.tc : Thread Cert.AttnCombineIdeal.nD Cert.AttnCombineIdeal.τ).loc Cert.AttnCombineIdeal.main_arg4)
      ∧ r.2.mem ((c.tc : Thread Cert.AttnCombineIdeal.nD Cert.AttnCombineIdeal.τ).loc Cert.AttnCombineIdeal.main_arg5) = m ((c.tc : Thread Cert.AttnCombineIdeal.nD Cert.AttnCombineIdeal.τ).loc Cert.AttnCombineIdeal.main_arg5))
      ∧ r.2.sem = fun _ => 0)

def quiescent_AttnCombineRefIdeal [hAttnCombineRefIdeal : Cert.AttnCombineRefIdeal.Facts] : Prop :=
  ∀ (m : (ℓ : Loc Cert.AttnCombineRefIdeal.nD Cert.AttnCombineRefIdeal.τ Cert.AttnCombineRefIdeal.sig) → Buf (Elt Ideal) ℓ) (g : Dev Cert.AttnCombineRefIdeal.nD → PrngReg), Pre_AttnCombineRefIdeal m →
    θ_run (Cert.AttnCombineRefIdeal.defs (F := Ideal)) (onTc (τ := Cert.AttnCombineRefIdeal.τ) (Cert.AttnCombineRefIdeal.main (F := Ideal))) ⟨m, fun _ => 0, g⟩ (fun r => (∀ c : Dev Cert.AttnCombineRefIdeal.nD,
      r.2.mem ((c.tc : Thread Cert.AttnCombineRefIdeal.nD Cert.AttnCombineRefIdeal.τ).loc Cert.AttnCombineRefIdeal.main_arg0) = m ((c.tc : Thread Cert.AttnCombineRefIdeal.nD Cert.AttnCombineRefIdeal.τ).loc Cert.AttnCombineRefIdeal.main_arg0)
      ∧ r.2.mem ((c.tc : Thread Cert.AttnCombineRefIdeal.nD Cert.AttnCombineRefIdeal.τ).loc Cert.AttnCombineRefIdeal.main_arg1) = m ((c.tc : Thread Cert.AttnCombineRefIdeal.nD Cert.AttnCombineRefIdeal.τ).loc Cert.AttnCombineRefIdeal.main_arg1)
      ∧ r.2.mem ((c.tc : Thread Cert.AttnCombineRefIdeal.nD Cert.AttnCombineRefIdeal.τ).loc Cert.AttnCombineRefIdeal.main_arg2) = m ((c.tc : Thread Cert.AttnCombineRefIdeal.nD Cert.AttnCombineRefIdeal.τ).loc Cert.AttnCombineRefIdeal.main_arg2)
      ∧ r.2.mem ((c.tc : Thread Cert.AttnCombineRefIdeal.nD Cert.AttnCombineRefIdeal.τ).loc Cert.AttnCombineRefIdeal.main_arg3) = m ((c.tc : Thread Cert.AttnCombineRefIdeal.nD Cert.AttnCombineRefIdeal.τ).loc Cert.AttnCombineRefIdeal.main_arg3)
      ∧ r.2.mem ((c.tc : Thread Cert.AttnCombineRefIdeal.nD Cert.AttnCombineRefIdeal.τ).loc Cert.AttnCombineRefIdeal.main_arg4) = m ((c.tc : Thread Cert.AttnCombineRefIdeal.nD Cert.AttnCombineRefIdeal.τ).loc Cert.AttnCombineRefIdeal.main_arg4)
      ∧ r.2.mem ((c.tc : Thread Cert.AttnCombineRefIdeal.nD Cert.AttnCombineRefIdeal.τ).loc Cert.AttnCombineRefIdeal.main_arg5) = m ((c.tc : Thread Cert.AttnCombineRefIdeal.nD Cert.AttnCombineRefIdeal.τ).loc Cert.AttnCombineRefIdeal.main_arg5))
      ∧ r.2.sem = fun _ => 0)

def quiescent_AttnCombineRefIdeal_pre_finite_lse [hAttnCombineRefIdeal : Cert.AttnCombineRefIdeal.Facts] [hPre_finite_lse : Cert.Pre_finite_lse.Facts] : Prop :=
  ∀ (m : (ℓ : Loc Cert.AttnCombineRefIdeal.nD Cert.AttnCombineRefIdeal.τ Cert.AttnCombineRefIdeal.sig) → Buf (Elt Ideal) ℓ) (g : Dev Cert.AttnCombineRefIdeal.nD → PrngReg), Pre_AttnCombineRefIdeal_finite_lse m →
    θ_run (Cert.AttnCombineRefIdeal.defs (F := Ideal)) (onTc (τ := Cert.AttnCombineRefIdeal.τ) (Cert.AttnCombineRefIdeal.main (F := Ideal))) ⟨m, fun _ => 0, g⟩ (fun r => (∀ c : Dev Cert.AttnCombineRefIdeal.nD,
      r.2.mem ((c.tc : Thread Cert.AttnCombineRefIdeal.nD Cert.AttnCombineRefIdeal.τ).loc Cert.AttnCombineRefIdeal.main_arg0) = m ((c.tc : Thread Cert.AttnCombineRefIdeal.nD Cert.AttnCombineRefIdeal.τ).loc Cert.AttnCombineRefIdeal.main_arg0)
      ∧ r.2.mem ((c.tc : Thread Cert.AttnCombineRefIdeal.nD Cert.AttnCombineRefIdeal.τ).loc Cert.AttnCombineRefIdeal.main_arg1) = m ((c.tc : Thread Cert.AttnCombineRefIdeal.nD Cert.AttnCombineRefIdeal.τ).loc Cert.AttnCombineRefIdeal.main_arg1)
      ∧ r.2.mem ((c.tc : Thread Cert.AttnCombineRefIdeal.nD Cert.AttnCombineRefIdeal.τ).loc Cert.AttnCombineRefIdeal.main_arg2) = m ((c.tc : Thread Cert.AttnCombineRefIdeal.nD Cert.AttnCombineRefIdeal.τ).loc Cert.AttnCombineRefIdeal.main_arg2)
      ∧ r.2.mem ((c.tc : Thread Cert.AttnCombineRefIdeal.nD Cert.AttnCombineRefIdeal.τ).loc Cert.AttnCombineRefIdeal.main_arg3) = m ((c.tc : Thread Cert.AttnCombineRefIdeal.nD Cert.AttnCombineRefIdeal.τ).loc Cert.AttnCombineRefIdeal.main_arg3)
      ∧ r.2.mem ((c.tc : Thread Cert.AttnCombineRefIdeal.nD Cert.AttnCombineRefIdeal.τ).loc Cert.AttnCombineRefIdeal.main_arg4) = m ((c.tc : Thread Cert.AttnCombineRefIdeal.nD Cert.AttnCombineRefIdeal.τ).loc Cert.AttnCombineRefIdeal.main_arg4)
      ∧ r.2.mem ((c.tc : Thread Cert.AttnCombineRefIdeal.nD Cert.AttnCombineRefIdeal.τ).loc Cert.AttnCombineRefIdeal.main_arg5) = m ((c.tc : Thread Cert.AttnCombineRefIdeal.nD Cert.AttnCombineRefIdeal.τ).loc Cert.AttnCombineRefIdeal.main_arg5))
      ∧ r.2.sem = fun _ => 0)

def quiescent_AttnRowdot [hAttnRowdot : Cert.AttnRowdot.Facts] : Prop :=
  ∀ (m : (ℓ : Loc Cert.AttnRowdot.nD Cert.AttnRowdot.τ Cert.AttnRowdot.sig) → Buf (Elt Bits) ℓ) (g : Dev Cert.AttnRowdot.nD → PrngReg), Pre_AttnRowdot m →
    θ_run (Cert.AttnRowdot.defs (F := Bits)) (onTc (τ := Cert.AttnRowdot.τ) (Cert.AttnRowdot.main (F := Bits))) ⟨m, fun _ => 0, g⟩ (fun r => (∀ c : Dev Cert.AttnRowdot.nD,
      r.2.mem ((c.tc : Thread Cert.AttnRowdot.nD Cert.AttnRowdot.τ).loc Cert.AttnRowdot.main_arg0) = m ((c.tc : Thread Cert.AttnRowdot.nD Cert.AttnRowdot.τ).loc Cert.AttnRowdot.main_arg0)
      ∧ r.2.mem ((c.tc : Thread Cert.AttnRowdot.nD Cert.AttnRowdot.τ).loc Cert.AttnRowdot.main_arg1) = m ((c.tc : Thread Cert.AttnRowdot.nD Cert.AttnRowdot.τ).loc Cert.AttnRowdot.main_arg1))
      ∧ r.2.sem = fun _ => 0)

def quiescent_AttnRowdotIdeal [hAttnRowdotIdeal : Cert.AttnRowdotIdeal.Facts] : Prop :=
  ∀ (m : (ℓ : Loc Cert.AttnRowdotIdeal.nD Cert.AttnRowdotIdeal.τ Cert.AttnRowdotIdeal.sig) → Buf (Elt Ideal) ℓ) (g : Dev Cert.AttnRowdotIdeal.nD → PrngReg), Pre_AttnRowdotIdeal m →
    θ_run (Cert.AttnRowdotIdeal.defs (F := Ideal)) (onTc (τ := Cert.AttnRowdotIdeal.τ) (Cert.AttnRowdotIdeal.main (F := Ideal))) ⟨m, fun _ => 0, g⟩ (fun r => (∀ c : Dev Cert.AttnRowdotIdeal.nD,
      r.2.mem ((c.tc : Thread Cert.AttnRowdotIdeal.nD Cert.AttnRowdotIdeal.τ).loc Cert.AttnRowdotIdeal.main_arg0) = m ((c.tc : Thread Cert.AttnRowdotIdeal.nD Cert.AttnRowdotIdeal.τ).loc Cert.AttnRowdotIdeal.main_arg0)
      ∧ r.2.mem ((c.tc : Thread Cert.AttnRowdotIdeal.nD Cert.AttnRowdotIdeal.τ).loc Cert.AttnRowdotIdeal.main_arg1) = m ((c.tc : Thread Cert.AttnRowdotIdeal.nD Cert.AttnRowdotIdeal.τ).loc Cert.AttnRowdotIdeal.main_arg1))
      ∧ r.2.sem = fun _ => 0)

def quiescent_AttnRowdotRefIdeal [hAttnRowdotRefIdeal : Cert.AttnRowdotRefIdeal.Facts] : Prop :=
  ∀ (m : (ℓ : Loc Cert.AttnRowdotRefIdeal.nD Cert.AttnRowdotRefIdeal.τ Cert.AttnRowdotRefIdeal.sig) → Buf (Elt Ideal) ℓ) (g : Dev Cert.AttnRowdotRefIdeal.nD → PrngReg), Pre_AttnRowdotRefIdeal m →
    θ_run (Cert.AttnRowdotRefIdeal.defs (F := Ideal)) (onTc (τ := Cert.AttnRowdotRefIdeal.τ) (Cert.AttnRowdotRefIdeal.main (F := Ideal))) ⟨m, fun _ => 0, g⟩ (fun r => (∀ c : Dev Cert.AttnRowdotRefIdeal.nD,
      r.2.mem ((c.tc : Thread Cert.AttnRowdotRefIdeal.nD Cert.AttnRowdotRefIdeal.τ).loc Cert.AttnRowdotRefIdeal.main_arg0) = m ((c.tc : Thread Cert.AttnRowdotRefIdeal.nD Cert.AttnRowdotRefIdeal.τ).loc Cert.AttnRowdotRefIdeal.main_arg0)
      ∧ r.2.mem ((c.tc : Thread Cert.AttnRowdotRefIdeal.nD Cert.AttnRowdotRefIdeal.τ).loc Cert.AttnRowdotRefIdeal.main_arg1) = m ((c.tc : Thread Cert.AttnRowdotRefIdeal.nD Cert.AttnRowdotRefIdeal.τ).loc Cert.AttnRowdotRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ r.2.sem = fun _ => 0)

def quiescent_LossSumRefIdeal [hLossSumRefIdeal : Cert.LossSumRefIdeal.Facts] : Prop :=
  ∀ (m : (ℓ : Loc Cert.LossSumRefIdeal.nD Cert.LossSumRefIdeal.τ Cert.LossSumRefIdeal.sig) → Buf (Elt Ideal) ℓ) (g : Dev Cert.LossSumRefIdeal.nD → PrngReg), Pre_LossSumRefIdeal m →
    θ_run (Cert.LossSumRefIdeal.defs (F := Ideal)) (onTc (τ := Cert.LossSumRefIdeal.τ) (Cert.LossSumRefIdeal.main (F := Ideal))) ⟨m, fun _ => 0, g⟩ (fun r => (∀ c : Dev Cert.LossSumRefIdeal.nD,
      r.2.mem ((c.tc : Thread Cert.LossSumRefIdeal.nD Cert.LossSumRefIdeal.τ).loc Cert.LossSumRefIdeal.main_arg0) = m ((c.tc : Thread Cert.LossSumRefIdeal.nD Cert.LossSumRefIdeal.τ).loc Cert.LossSumRefIdeal.main_arg0))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v5) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v1) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_SquareDx_SquareDxIdeal : Prop :=
  True

def algebraic_SquareDxIdeal_SquareDxRefIdeal [hSquareDxIdeal : Cert.SquareDxIdeal.Facts] [hSquareDxRefIdeal : Cert.SquareDxRefIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxRefIdeal.nD Cert.SquareDxRefIdeal.τ Cert.SquareDxRefIdeal.sig) → Buf (Elt Ideal) ℓ) (g' : Dev Cert.SquareDxRefIdeal.nD → PrngReg), Pre_SquareDxIdeal m →
    (∀ c : Dev Cert.SquareDxIdeal.nD,
      m' ((c.tc : Thread Cert.SquareDxRefIdeal.nD Cert.SquareDxRefIdeal.τ).loc Cert.SquareDxRefIdeal.main_arg0) = m ((c.tc : Thread Cert.SquareDxIdeal.nD Cert.SquareDxIdeal.τ).loc Cert.SquareDxIdeal.main_arg0)
      ∧ m' ((c.tc : Thread Cert.SquareDxRefIdeal.nD Cert.SquareDxRefIdeal.τ).loc Cert.SquareDxRefIdeal.main_arg1) = m ((c.tc : Thread Cert.SquareDxIdeal.nD Cert.SquareDxIdeal.τ).loc Cert.SquareDxIdeal.main_arg1)) →
    ∃ (v0 : (c : Dev Cert.SquareDxIdeal.nD) → Buf (Elt Ideal) ((c.tc : Thread Cert.SquareDxIdeal.nD Cert.SquareDxIdeal.τ).loc Cert.SquareDxIdeal.main_v1)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v1) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ θ_run (Cert.SquareDxRefIdeal.defs (F := Ideal)) (onTc (τ := Cert.SquareDxRefIdeal.τ) (Cert.SquareDxRefIdeal.main (F := Ideal))) ⟨m', fun _ => 0, g'⟩ (fun r => ∀ c : Dev Cert.SquareDxRefIdeal.nD,
          r.2.mem ((c.tc : Thread Cert.SquareDxRefIdeal.nD Cert.SquareDxRefIdeal.τ).loc Cert.SquareDxRefIdeal.main_v5) = v0 c
          ∧ r.2.mem ((c.tc : Thread Cert.SquareDxRefIdeal.nD Cert.SquareDxRefIdeal.τ).loc Cert.SquareDxRefIdeal.main_arg0) = m' ((c.tc : Thread Cert.SquareDxRefIdeal.nD Cert.SquareDxRefIdeal.τ).loc Cert.SquareDxRefIdeal.main_arg0)
          ∧ r.2.mem ((c.tc : Thread Cert.SquareDxRefIdeal.nD Cert.SquareDxRefIdeal.τ).loc Cert.SquareDxRefIdeal.main_arg1) = m' ((c.tc : Thread Cert.SquareDxRefIdeal.nD Cert.SquareDxRefIdeal.τ).loc Cert.SquareDxRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v6) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_InADx_InADxIdeal : Prop :=
  True

def algebraic_InADxIdeal_InADxRefIdeal [hInADxIdeal : Cert.InADxIdeal.Facts] [hInADxRefIdeal : Cert.InADxRefIdeal.Facts] : Prop :=
  ∀ (m : (ℓ : Loc Cert.InADxIdeal.nD Cert.InADxIdeal.τ Cert.InADxIdeal.sig) → Buf (Elt Ideal) ℓ) (g : Dev Cert.InADxIdeal.nD → PrngReg)
    (m' : (ℓ : Loc Cert.InADxRefIdeal.nD Cert.InADxRefIdeal.τ Cert.InADxRefIdeal.sig) → Buf (Elt Ideal) ℓ) (g' : Dev Cert.InADxRefIdeal.nD → PrngReg), Pre_InADxIdeal m →
    (∀ c : Dev Cert.InADxIdeal.nD,
      m' ((c.tc : Thread Cert.InADxRefIdeal.nD Cert.InADxRefIdeal.τ).loc Cert.InADxRefIdeal.main_arg0) = m ((c.tc : Thread Cert.InADxIdeal.nD Cert.InADxIdeal.τ).loc Cert.InADxIdeal.main_arg0)
      ∧ m' ((c.tc : Thread Cert.InADxRefIdeal.nD Cert.InADxRefIdeal.τ).loc Cert.InADxRefIdeal.main_arg1) = m ((c.tc : Thread Cert.InADxIdeal.nD Cert.InADxIdeal.τ).loc Cert.InADxIdeal.main_arg1)) →
    ∃ (v0 : (c : Dev Cert.InADxIdeal.nD) → Buf (Elt Ideal) ((c.tc : Thread Cert.InADxIdeal.nD Cert.InADxIdeal.τ).loc Cert.InADxIdeal.main_v1)),
      θ_run (Cert.InADxIdeal.defs (F := Ideal)) (onTc (τ := Cert.InADxIdeal.τ) (Cert.InADxIdeal.main (F := Ideal))) ⟨m, fun _ => 0, g⟩ (fun r => ∀ c : Dev Cert.InADxIdeal.nD,
          r.2.mem ((c.tc : Thread Cert.InADxIdeal.nD Cert.InADxIdeal.τ).loc Cert.InADxIdeal.main_v1) = v0 c
          ∧ r.2.mem ((c.tc : Thread Cert.InADxIdeal.nD Cert.InADxIdeal.τ).loc Cert.InADxIdeal.main_arg0) = m ((c.tc : Thread Cert.InADxIdeal.nD Cert.InADxIdeal.τ).loc Cert.InADxIdeal.main_arg0)
          ∧ r.2.mem ((c.tc : Thread Cert.InADxIdeal.nD Cert.InADxIdeal.τ).loc Cert.InADxIdeal.main_arg1) = m ((c.tc : Thread Cert.InADxIdeal.nD Cert.InADxIdeal.τ).loc Cert.InADxIdeal.main_arg1))
      ∧ θ_run (Cert.InADxRefIdeal.defs (F := Ideal)) (onTc (τ := Cert.InADxRefIdeal.τ) (Cert.InADxRefIdeal.main (F := Ideal))) ⟨m', fun _ => 0, g'⟩ (fun r => ∀ c : Dev Cert.InADxRefIdeal.nD,
          r.2.mem ((c.tc : Thread Cert.InADxRefIdeal.nD Cert.InADxRefIdeal.τ).loc Cert.InADxRefIdeal.main_v4) = v0 c
          ∧ r.2.mem ((c.tc : Thread Cert.InADxRefIdeal.nD Cert.InADxRefIdeal.τ).loc Cert.InADxRefIdeal.main_arg0) = m' ((c.tc : Thread Cert.InADxRefIdeal.nD Cert.InADxRefIdeal.τ).loc Cert.InADxRefIdeal.main_arg0)
          ∧ r.2.mem ((c.tc : Thread Cert.InADxRefIdeal.nD Cert.InADxRefIdeal.τ).loc Cert.InADxRefIdeal.main_arg1) = m' ((c.tc : Thread Cert.InADxRefIdeal.nD Cert.InADxRefIdeal.τ).loc Cert.InADxRefIdeal.main_arg1))

def preserves_InBDx_InBDxIdeal : Prop :=
  True

def algebraic_InBDxIdeal_InBDxRefIdeal [hInBDxIdeal : Cert.InBDxIdeal.Facts] [hInBDxRefIdeal : Cert.InBDxRefIdeal.Facts] : Prop :=
  ∀ (m : (ℓ : Loc Cert.InBDxIdeal.nD Cert.InBDxIdeal.τ Cert.InBDxIdeal.sig) → Buf (Elt Ideal) ℓ) (g : Dev Cert.InBDxIdeal.nD → PrngReg)
    (m' : (ℓ : Loc Cert.InBDxRefIdeal.nD Cert.InBDxRefIdeal.τ Cert.InBDxRefIdeal.sig) → Buf (Elt Ideal) ℓ) (g' : Dev Cert.InBDxRefIdeal.nD → PrngReg), Pre_InBDxIdeal m →
    (∀ c : Dev Cert.InBDxIdeal.nD,
      m' ((c.tc : Thread Cert.InBDxRefIdeal.nD Cert.InBDxRefIdeal.τ).loc Cert.InBDxRefIdeal.main_arg0) = m ((c.tc : Thread Cert.InBDxIdeal.nD Cert.InBDxIdeal.τ).loc Cert.InBDxIdeal.main_arg0)
      ∧ m' ((c.tc : Thread Cert.InBDxRefIdeal.nD Cert.InBDxRefIdeal.τ).loc Cert.InBDxRefIdeal.main_arg1) = m ((c.tc : Thread Cert.InBDxIdeal.nD Cert.InBDxIdeal.τ).loc Cert.InBDxIdeal.main_arg1)
      ∧ m' ((c.tc : Thread Cert.InBDxRefIdeal.nD Cert.InBDxRefIdeal.τ).loc Cert.InBDxRefIdeal.main_arg2) = m ((c.tc : Thread Cert.InBDxIdeal.nD Cert.InBDxIdeal.τ).loc Cert.InBDxIdeal.main_arg2)) →
    ∃ (v0 : (c : Dev Cert.InBDxIdeal.nD) → Buf (Elt Ideal) ((c.tc : Thread Cert.InBDxIdeal.nD Cert.InBDxIdeal.τ).loc Cert.InBDxIdeal.main_v1)),
      θ_run (Cert.InBDxIdeal.defs (F := Ideal)) (onTc (τ := Cert.InBDxIdeal.τ) (Cert.InBDxIdeal.main (F := Ideal))) ⟨m, fun _ => 0, g⟩ (fun r => ∀ c : Dev Cert.InBDxIdeal.nD,
          r.2.mem ((c.tc : Thread Cert.InBDxIdeal.nD Cert.InBDxIdeal.τ).loc Cert.InBDxIdeal.main_v1) = v0 c
          ∧ r.2.mem ((c.tc : Thread Cert.InBDxIdeal.nD Cert.InBDxIdeal.τ).loc Cert.InBDxIdeal.main_arg0) = m ((c.tc : Thread Cert.InBDxIdeal.nD Cert.InBDxIdeal.τ).loc Cert.InBDxIdeal.main_arg0)
          ∧ r.2.mem ((c.tc : Thread Cert.InBDxIdeal.nD Cert.InBDxIdeal.τ).loc Cert.InBDxIdeal.main_arg1) = m ((c.tc : Thread Cert.InBDxIdeal.nD Cert.InBDxIdeal.τ).loc Cert.InBDxIdeal.main_arg1)
          ∧ r.2.mem ((c.tc : Thread Cert.InBDxIdeal.nD Cert.InBDxIdeal.τ).loc Cert.InBDxIdeal.main_arg2) = m ((c.tc : Thread Cert.InBDxIdeal.nD Cert.InBDxIdeal.τ).loc Cert.InBDxIdeal.main_arg2))
      ∧ θ_run (Cert.InBDxRefIdeal.defs (F := Ideal)) (onTc (τ := Cert.InBDxRefIdeal.τ) (Cert.InBDxRefIdeal.main (F := Ideal))) ⟨m', fun _ => 0, g'⟩ (fun r => ∀ c : Dev Cert.InBDxRefIdeal.nD,
          r.2.mem ((c.tc : Thread Cert.InBDxRefIdeal.nD Cert.InBDxRefIdeal.τ).loc Cert.InBDxRefIdeal.main_v5) = v0 c
          ∧ r.2.mem ((c.tc : Thread Cert.InBDxRefIdeal.nD Cert.InBDxRefIdeal.τ).loc Cert.InBDxRefIdeal.main_arg0) = m' ((c.tc : Thread Cert.InBDxRefIdeal.nD Cert.InBDxRefIdeal.τ).loc Cert.InBDxRefIdeal.main_arg0)
          ∧ r.2.mem ((c.tc : Thread Cert.InBDxRefIdeal.nD Cert.InBDxRefIdeal.τ).loc Cert.InBDxRefIdeal.main_arg1) = m' ((c.tc : Thread Cert.InBDxRefIdeal.nD Cert.InBDxRefIdeal.τ).loc Cert.InBDxRefIdeal.main_arg1)
          ∧ r.2.mem ((c.tc : Thread Cert.InBDxRefIdeal.nD Cert.InBDxRefIdeal.τ).loc Cert.InBDxRefIdeal.main_arg2) = m' ((c.tc : Thread Cert.InBDxRefIdeal.nD Cert.InBDxRefIdeal.τ).loc Cert.InBDxRefIdeal.main_arg2))

def preserves_InCDx_InCDxIdeal : Prop :=
  True

def algebraic_InCDxIdeal_InCDxRefIdeal [hInCDxIdeal : Cert.InCDxIdeal.Facts] [hInCDxRefIdeal : Cert.InCDxRefIdeal.Facts] : Prop :=
  ∀ (m : (ℓ : Loc Cert.InCDxIdeal.nD Cert.InCDxIdeal.τ Cert.InCDxIdeal.sig) → Buf (Elt Ideal) ℓ) (g : Dev Cert.InCDxIdeal.nD → PrngReg)
    (m' : (ℓ : Loc Cert.InCDxRefIdeal.nD Cert.InCDxRefIdeal.τ Cert.InCDxRefIdeal.sig) → Buf (Elt Ideal) ℓ) (g' : Dev Cert.InCDxRefIdeal.nD → PrngReg), Pre_InCDxIdeal m →
    (∀ c : Dev Cert.InCDxIdeal.nD,
      m' ((c.tc : Thread Cert.InCDxRefIdeal.nD Cert.InCDxRefIdeal.τ).loc Cert.InCDxRefIdeal.main_arg0) = m ((c.tc : Thread Cert.InCDxIdeal.nD Cert.InCDxIdeal.τ).loc Cert.InCDxIdeal.main_arg0)
      ∧ m' ((c.tc : Thread Cert.InCDxRefIdeal.nD Cert.InCDxRefIdeal.τ).loc Cert.InCDxRefIdeal.main_arg1) = m ((c.tc : Thread Cert.InCDxIdeal.nD Cert.InCDxIdeal.τ).loc Cert.InCDxIdeal.main_arg1)
      ∧ m' ((c.tc : Thread Cert.InCDxRefIdeal.nD Cert.InCDxRefIdeal.τ).loc Cert.InCDxRefIdeal.main_arg2) = m ((c.tc : Thread Cert.InCDxIdeal.nD Cert.InCDxIdeal.τ).loc Cert.InCDxIdeal.main_arg2)) →
    ∃ (v0 : (c : Dev Cert.InCDxIdeal.nD) → Buf (Elt Ideal) ((c.tc : Thread Cert.InCDxIdeal.nD Cert.InCDxIdeal.τ).loc Cert.InCDxIdeal.main_v1)),
      θ_run (Cert.InCDxIdeal.defs (F := Ideal)) (onTc (τ := Cert.InCDxIdeal.τ) (Cert.InCDxIdeal.main (F := Ideal))) ⟨m, fun _ => 0, g⟩ (fun r => ∀ c : Dev Cert.InCDxIdeal.nD,
          r.2.mem ((c.tc : Thread Cert.InCDxIdeal.nD Cert.InCDxIdeal.τ).loc Cert.InCDxIdeal.main_v1) = v0 c
          ∧ r.2.mem ((c.tc : Thread Cert.InCDxIdeal.nD Cert.InCDxIdeal.τ).loc Cert.InCDxIdeal.main_arg0) = m ((c.tc : Thread Cert.InCDxIdeal.nD Cert.InCDxIdeal.τ).loc Cert.InCDxIdeal.main_arg0)
          ∧ r.2.mem ((c.tc : Thread Cert.InCDxIdeal.nD Cert.InCDxIdeal.τ).loc Cert.InCDxIdeal.main_arg1) = m ((c.tc : Thread Cert.InCDxIdeal.nD Cert.InCDxIdeal.τ).loc Cert.InCDxIdeal.main_arg1)
          ∧ r.2.mem ((c.tc : Thread Cert.InCDxIdeal.nD Cert.InCDxIdeal.τ).loc Cert.InCDxIdeal.main_arg2) = m ((c.tc : Thread Cert.InCDxIdeal.nD Cert.InCDxIdeal.τ).loc Cert.InCDxIdeal.main_arg2))
      ∧ θ_run (Cert.InCDxRefIdeal.defs (F := Ideal)) (onTc (τ := Cert.InCDxRefIdeal.τ) (Cert.InCDxRefIdeal.main (F := Ideal))) ⟨m', fun _ => 0, g'⟩ (fun r => ∀ c : Dev Cert.InCDxRefIdeal.nD,
          r.2.mem ((c.tc : Thread Cert.InCDxRefIdeal.nD Cert.InCDxRefIdeal.τ).loc Cert.InCDxRefIdeal.main_v5) = v0 c
          ∧ r.2.mem ((c.tc : Thread Cert.InCDxRefIdeal.nD Cert.InCDxRefIdeal.τ).loc Cert.InCDxRefIdeal.main_arg0) = m' ((c.tc : Thread Cert.InCDxRefIdeal.nD Cert.InCDxRefIdeal.τ).loc Cert.InCDxRefIdeal.main_arg0)
          ∧ r.2.mem ((c.tc : Thread Cert.InCDxRefIdeal.nD Cert.InCDxRefIdeal.τ).loc Cert.InCDxRefIdeal.main_arg1) = m' ((c.tc : Thread Cert.InCDxRefIdeal.nD Cert.InCDxRefIdeal.τ).loc Cert.InCDxRefIdeal.main_arg1)
          ∧ r.2.mem ((c.tc : Thread Cert.InCDxRefIdeal.nD Cert.InCDxRefIdeal.τ).loc Cert.InCDxRefIdeal.main_arg2) = m' ((c.tc : Thread Cert.InCDxRefIdeal.nD Cert.InCDxRefIdeal.τ).loc Cert.InCDxRefIdeal.main_arg2))

def preserves_InGDx_InGDxIdeal : Prop :=
  True

def algebraic_InGDxIdeal_InGDxRefIdeal [hInGDxIdeal : Cert.InGDxIdeal.Facts] [hInGDxRefIdeal : Cert.InGDxRefIdeal.Facts] : Prop :=
  ∀ (m : (ℓ : Loc Cert.InGDxIdeal.nD Cert.InGDxIdeal.τ Cert.InGDxIdeal.sig) → Buf (Elt Ideal) ℓ) (g : Dev Cert.InGDxIdeal.nD → PrngReg)
    (m' : (ℓ : Loc Cert.InGDxRefIdeal.nD Cert.InGDxRefIdeal.τ Cert.InGDxRefIdeal.sig) → Buf (Elt Ideal) ℓ) (g' : Dev Cert.InGDxRefIdeal.nD → PrngReg), Pre_InGDxIdeal m →
    (∀ c : Dev Cert.InGDxIdeal.nD,
      m' ((c.tc : Thread Cert.InGDxRefIdeal.nD Cert.InGDxRefIdeal.τ).loc Cert.InGDxRefIdeal.main_arg0) = m ((c.tc : Thread Cert.InGDxIdeal.nD Cert.InGDxIdeal.τ).loc Cert.InGDxIdeal.main_arg0)
      ∧ m' ((c.tc : Thread Cert.InGDxRefIdeal.nD Cert.InGDxRefIdeal.τ).loc Cert.InGDxRefIdeal.main_arg1) = m ((c.tc : Thread Cert.InGDxIdeal.nD Cert.InGDxIdeal.τ).loc Cert.InGDxIdeal.main_arg1)
      ∧ m' ((c.tc : Thread Cert.InGDxRefIdeal.nD Cert.InGDxRefIdeal.τ).loc Cert.InGDxRefIdeal.main_arg2) = m ((c.tc : Thread Cert.InGDxIdeal.nD Cert.InGDxIdeal.τ).loc Cert.InGDxIdeal.main_arg2)) →
    ∃ (v0 : (c : Dev Cert.InGDxIdeal.nD) → Buf (Elt Ideal) ((c.tc : Thread Cert.InGDxIdeal.nD Cert.InGDxIdeal.τ).loc Cert.InGDxIdeal.main_v1)),
      θ_run (Cert.InGDxIdeal.defs (F := Ideal)) (onTc (τ := Cert.InGDxIdeal.τ) (Cert.InGDxIdeal.main (F := Ideal))) ⟨m, fun _ => 0, g⟩ (fun r => ∀ c : Dev Cert.InGDxIdeal.nD,
          r.2.mem ((c.tc : Thread Cert.InGDxIdeal.nD Cert.InGDxIdeal.τ).loc Cert.InGDxIdeal.main_v1) = v0 c
          ∧ r.2.mem ((c.tc : Thread Cert.InGDxIdeal.nD Cert.InGDxIdeal.τ).loc Cert.InGDxIdeal.main_arg0) = m ((c.tc : Thread Cert.InGDxIdeal.nD Cert.InGDxIdeal.τ).loc Cert.InGDxIdeal.main_arg0)
          ∧ r.2.mem ((c.tc : Thread Cert.InGDxIdeal.nD Cert.InGDxIdeal.τ).loc Cert.InGDxIdeal.main_arg1) = m ((c.tc : Thread Cert.InGDxIdeal.nD Cert.InGDxIdeal.τ).loc Cert.InGDxIdeal.main_arg1)
          ∧ r.2.mem ((c.tc : Thread Cert.InGDxIdeal.nD Cert.InGDxIdeal.τ).loc Cert.InGDxIdeal.main_arg2) = m ((c.tc : Thread Cert.InGDxIdeal.nD Cert.InGDxIdeal.τ).loc Cert.InGDxIdeal.main_arg2))
      ∧ θ_run (Cert.InGDxRefIdeal.defs (F := Ideal)) (onTc (τ := Cert.InGDxRefIdeal.τ) (Cert.InGDxRefIdeal.main (F := Ideal))) ⟨m', fun _ => 0, g'⟩ (fun r => ∀ c : Dev Cert.InGDxRefIdeal.nD,
          r.2.mem ((c.tc : Thread Cert.InGDxRefIdeal.nD Cert.InGDxRefIdeal.τ).loc Cert.InGDxRefIdeal.main_v6) = v0 c
          ∧ r.2.mem ((c.tc : Thread Cert.InGDxRefIdeal.nD Cert.InGDxRefIdeal.τ).loc Cert.InGDxRefIdeal.main_arg0) = m' ((c.tc : Thread Cert.InGDxRefIdeal.nD Cert.InGDxRefIdeal.τ).loc Cert.InGDxRefIdeal.main_arg0)
          ∧ r.2.mem ((c.tc : Thread Cert.InGDxRefIdeal.nD Cert.InGDxRefIdeal.τ).loc Cert.InGDxRefIdeal.main_arg1) = m' ((c.tc : Thread Cert.InGDxRefIdeal.nD Cert.InGDxRefIdeal.τ).loc Cert.InGDxRefIdeal.main_arg1)
          ∧ r.2.mem ((c.tc : Thread Cert.InGDxRefIdeal.nD Cert.InGDxRefIdeal.τ).loc Cert.InGDxRefIdeal.main_arg2) = m' ((c.tc : Thread Cert.InGDxRefIdeal.nD Cert.InGDxRefIdeal.τ).loc Cert.InGDxRefIdeal.main_arg2))

def preserves_InADw_InADwIdeal : Prop :=
  True

def algebraic_InADwIdeal_InADwRefIdeal [hInADwIdeal : Cert.InADwIdeal.Facts] [hInADwRefIdeal : Cert.InADwRefIdeal.Facts] : Prop :=
  ∀ (m : (ℓ : Loc Cert.InADwIdeal.nD Cert.InADwIdeal.τ Cert.InADwIdeal.sig) → Buf (Elt Ideal) ℓ) (g : Dev Cert.InADwIdeal.nD → PrngReg)
    (m' : (ℓ : Loc Cert.InADwRefIdeal.nD Cert.InADwRefIdeal.τ Cert.InADwRefIdeal.sig) → Buf (Elt Ideal) ℓ) (g' : Dev Cert.InADwRefIdeal.nD → PrngReg), Pre_InADwIdeal m →
    (∀ c : Dev Cert.InADwIdeal.nD,
      m' ((c.tc : Thread Cert.InADwRefIdeal.nD Cert.InADwRefIdeal.τ).loc Cert.InADwRefIdeal.main_arg0) = m ((c.tc : Thread Cert.InADwIdeal.nD Cert.InADwIdeal.τ).loc Cert.InADwIdeal.main_arg0)
      ∧ m' ((c.tc : Thread Cert.InADwRefIdeal.nD Cert.InADwRefIdeal.τ).loc Cert.InADwRefIdeal.main_arg1) = m ((c.tc : Thread Cert.InADwIdeal.nD Cert.InADwIdeal.τ).loc Cert.InADwIdeal.main_arg1)) →
    ∃ (v0 : (c : Dev Cert.InADwIdeal.nD) → Buf (Elt Ideal) ((c.tc : Thread Cert.InADwIdeal.nD Cert.InADwIdeal.τ).loc Cert.InADwIdeal.main_v0)),
      θ_run (Cert.InADwIdeal.defs (F := Ideal)) (onTc (τ := Cert.InADwIdeal.τ) (Cert.InADwIdeal.main (F := Ideal))) ⟨m, fun _ => 0, g⟩ (fun r => ∀ c : Dev Cert.InADwIdeal.nD,
          r.2.mem ((c.tc : Thread Cert.InADwIdeal.nD Cert.InADwIdeal.τ).loc Cert.InADwIdeal.main_v0) = v0 c
          ∧ r.2.mem ((c.tc : Thread Cert.InADwIdeal.nD Cert.InADwIdeal.τ).loc Cert.InADwIdeal.main_arg0) = m ((c.tc : Thread Cert.InADwIdeal.nD Cert.InADwIdeal.τ).loc Cert.InADwIdeal.main_arg0)
          ∧ r.2.mem ((c.tc : Thread Cert.InADwIdeal.nD Cert.InADwIdeal.τ).loc Cert.InADwIdeal.main_arg1) = m ((c.tc : Thread Cert.InADwIdeal.nD Cert.InADwIdeal.τ).loc Cert.InADwIdeal.main_arg1))
      ∧ θ_run (Cert.InADwRefIdeal.defs (F := Ideal)) (onTc (τ := Cert.InADwRefIdeal.τ) (Cert.InADwRefIdeal.main (F := Ideal))) ⟨m', fun _ => 0, g'⟩ (fun r => ∀ c : Dev Cert.InADwRefIdeal.nD,
          r.2.mem ((c.tc : Thread Cert.InADwRefIdeal.nD Cert.InADwRefIdeal.τ).loc Cert.InADwRefIdeal.main_v5) = v0 c
          ∧ r.2.mem ((c.tc : Thread Cert.InADwRefIdeal.nD Cert.InADwRefIdeal.τ).loc Cert.InADwRefIdeal.main_arg0) = m' ((c.tc : Thread Cert.InADwRefIdeal.nD Cert.InADwRefIdeal.τ).loc Cert.InADwRefIdeal.main_arg0)
          ∧ r.2.mem ((c.tc : Thread Cert.InADwRefIdeal.nD Cert.InADwRefIdeal.τ).loc Cert.InADwRefIdeal.main_arg1) = m' ((c.tc : Thread Cert.InADwRefIdeal.nD Cert.InADwRefIdeal.τ).loc Cert.InADwRefIdeal.main_arg1))

def preserves_InCDw_InCDwIdeal : Prop :=
  True

def algebraic_InCDwIdeal_InCDwRefIdeal [hInCDwIdeal : Cert.InCDwIdeal.Facts] [hInCDwRefIdeal : Cert.InCDwRefIdeal.Facts] : Prop :=
  ∀ (m : (ℓ : Loc Cert.InCDwIdeal.nD Cert.InCDwIdeal.τ Cert.InCDwIdeal.sig) → Buf (Elt Ideal) ℓ) (g : Dev Cert.InCDwIdeal.nD → PrngReg)
    (m' : (ℓ : Loc Cert.InCDwRefIdeal.nD Cert.InCDwRefIdeal.τ Cert.InCDwRefIdeal.sig) → Buf (Elt Ideal) ℓ) (g' : Dev Cert.InCDwRefIdeal.nD → PrngReg), Pre_InCDwIdeal m →
    (∀ c : Dev Cert.InCDwIdeal.nD,
      m' ((c.tc : Thread Cert.InCDwRefIdeal.nD Cert.InCDwRefIdeal.τ).loc Cert.InCDwRefIdeal.main_arg0) = m ((c.tc : Thread Cert.InCDwIdeal.nD Cert.InCDwIdeal.τ).loc Cert.InCDwIdeal.main_arg0)
      ∧ m' ((c.tc : Thread Cert.InCDwRefIdeal.nD Cert.InCDwRefIdeal.τ).loc Cert.InCDwRefIdeal.main_arg1) = m ((c.tc : Thread Cert.InCDwIdeal.nD Cert.InCDwIdeal.τ).loc Cert.InCDwIdeal.main_arg1)) →
    ∃ (v0 : (c : Dev Cert.InCDwIdeal.nD) → Buf (Elt Ideal) ((c.tc : Thread Cert.InCDwIdeal.nD Cert.InCDwIdeal.τ).loc Cert.InCDwIdeal.main_v0)),
      θ_run (Cert.InCDwIdeal.defs (F := Ideal)) (onTc (τ := Cert.InCDwIdeal.τ) (Cert.InCDwIdeal.main (F := Ideal))) ⟨m, fun _ => 0, g⟩ (fun r => ∀ c : Dev Cert.InCDwIdeal.nD,
          r.2.mem ((c.tc : Thread Cert.InCDwIdeal.nD Cert.InCDwIdeal.τ).loc Cert.InCDwIdeal.main_v0) = v0 c
          ∧ r.2.mem ((c.tc : Thread Cert.InCDwIdeal.nD Cert.InCDwIdeal.τ).loc Cert.InCDwIdeal.main_arg0) = m ((c.tc : Thread Cert.InCDwIdeal.nD Cert.InCDwIdeal.τ).loc Cert.InCDwIdeal.main_arg0)
          ∧ r.2.mem ((c.tc : Thread Cert.InCDwIdeal.nD Cert.InCDwIdeal.τ).loc Cert.InCDwIdeal.main_arg1) = m ((c.tc : Thread Cert.InCDwIdeal.nD Cert.InCDwIdeal.τ).loc Cert.InCDwIdeal.main_arg1))
      ∧ θ_run (Cert.InCDwRefIdeal.defs (F := Ideal)) (onTc (τ := Cert.InCDwRefIdeal.τ) (Cert.InCDwRefIdeal.main (F := Ideal))) ⟨m', fun _ => 0, g'⟩ (fun r => ∀ c : Dev Cert.InCDwRefIdeal.nD,
          r.2.mem ((c.tc : Thread Cert.InCDwRefIdeal.nD Cert.InCDwRefIdeal.τ).loc Cert.InCDwRefIdeal.main_v5) = v0 c
          ∧ r.2.mem ((c.tc : Thread Cert.InCDwRefIdeal.nD Cert.InCDwRefIdeal.τ).loc Cert.InCDwRefIdeal.main_arg0) = m' ((c.tc : Thread Cert.InCDwRefIdeal.nD Cert.InCDwRefIdeal.τ).loc Cert.InCDwRefIdeal.main_arg0)
          ∧ r.2.mem ((c.tc : Thread Cert.InCDwRefIdeal.nD Cert.InCDwRefIdeal.τ).loc Cert.InCDwRefIdeal.main_arg1) = m' ((c.tc : Thread Cert.InCDwRefIdeal.nD Cert.InCDwRefIdeal.τ).loc Cert.InCDwRefIdeal.main_arg1))

def preserves_InGDw_InGDwIdeal : Prop :=
  True

def algebraic_InGDwIdeal_InGDwRefIdeal [hInGDwIdeal : Cert.InGDwIdeal.Facts] [hInGDwRefIdeal : Cert.InGDwRefIdeal.Facts] : Prop :=
  ∀ (m : (ℓ : Loc Cert.InGDwIdeal.nD Cert.InGDwIdeal.τ Cert.InGDwIdeal.sig) → Buf (Elt Ideal) ℓ) (g : Dev Cert.InGDwIdeal.nD → PrngReg)
    (m' : (ℓ : Loc Cert.InGDwRefIdeal.nD Cert.InGDwRefIdeal.τ Cert.InGDwRefIdeal.sig) → Buf (Elt Ideal) ℓ) (g' : Dev Cert.InGDwRefIdeal.nD → PrngReg), Pre_InGDwIdeal m →
    (∀ c : Dev Cert.InGDwIdeal.nD,
      m' ((c.tc : Thread Cert.InGDwRefIdeal.nD Cert.InGDwRefIdeal.τ).loc Cert.InGDwRefIdeal.main_arg0) = m ((c.tc : Thread Cert.InGDwIdeal.nD Cert.InGDwIdeal.τ).loc Cert.InGDwIdeal.main_arg0)
      ∧ m' ((c.tc : Thread Cert.InGDwRefIdeal.nD Cert.InGDwRefIdeal.τ).loc Cert.InGDwRefIdeal.main_arg1) = m ((c.tc : Thread Cert.InGDwIdeal.nD Cert.InGDwIdeal.τ).loc Cert.InGDwIdeal.main_arg1)) →
    ∃ (v0 : (c : Dev Cert.InGDwIdeal.nD) → Buf (Elt Ideal) ((c.tc : Thread Cert.InGDwIdeal.nD Cert.InGDwIdeal.τ).loc Cert.InGDwIdeal.main_v0)),
      θ_run (Cert.InGDwIdeal.defs (F := Ideal)) (onTc (τ := Cert.InGDwIdeal.τ) (Cert.InGDwIdeal.main (F := Ideal))) ⟨m, fun _ => 0, g⟩ (fun r => ∀ c : Dev Cert.InGDwIdeal.nD,
          r.2.mem ((c.tc : Thread Cert.InGDwIdeal.nD Cert.InGDwIdeal.τ).loc Cert.InGDwIdeal.main_v0) = v0 c
          ∧ r.2.mem ((c.tc : Thread Cert.InGDwIdeal.nD Cert.InGDwIdeal.τ).loc Cert.InGDwIdeal.main_arg0) = m ((c.tc : Thread Cert.InGDwIdeal.nD Cert.InGDwIdeal.τ).loc Cert.InGDwIdeal.main_arg0)
          ∧ r.2.mem ((c.tc : Thread Cert.InGDwIdeal.nD Cert.InGDwIdeal.τ).loc Cert.InGDwIdeal.main_arg1) = m ((c.tc : Thread Cert.InGDwIdeal.nD Cert.InGDwIdeal.τ).loc Cert.InGDwIdeal.main_arg1))
      ∧ θ_run (Cert.InGDwRefIdeal.defs (F := Ideal)) (onTc (τ := Cert.InGDwRefIdeal.τ) (Cert.InGDwRefIdeal.main (F := Ideal))) ⟨m', fun _ => 0, g'⟩ (fun r => ∀ c : Dev Cert.InGDwRefIdeal.nD,
          r.2.mem ((c.tc : Thread Cert.InGDwRefIdeal.nD Cert.InGDwRefIdeal.τ).loc Cert.InGDwRefIdeal.main_v5) = v0 c
          ∧ r.2.mem ((c.tc : Thread Cert.InGDwRefIdeal.nD Cert.InGDwRefIdeal.τ).loc Cert.InGDwRefIdeal.main_arg0) = m' ((c.tc : Thread Cert.InGDwRefIdeal.nD Cert.InGDwRefIdeal.τ).loc Cert.InGDwRefIdeal.main_arg0)
          ∧ r.2.mem ((c.tc : Thread Cert.InGDwRefIdeal.nD Cert.InGDwRefIdeal.τ).loc Cert.InGDwRefIdeal.main_arg1) = m' ((c.tc : Thread Cert.InGDwRefIdeal.nD Cert.InGDwRefIdeal.τ).loc Cert.InGDwRefIdeal.main_arg1))

def preserves_AOutDx_AOutDxIdeal : Prop :=
  True

def algebraic_AOutDxIdeal_AOutDxRefIdeal [hAOutDxIdeal : Cert.AOutDxIdeal.Facts] [hAOutDxRefIdeal : Cert.AOutDxRefIdeal.Facts] : Prop :=
  ∀ (m : (ℓ : Loc Cert.AOutDxIdeal.nD Cert.AOutDxIdeal.τ Cert.AOutDxIdeal.sig) → Buf (Elt Ideal) ℓ) (g : Dev Cert.AOutDxIdeal.nD → PrngReg)
    (m' : (ℓ : Loc Cert.AOutDxRefIdeal.nD Cert.AOutDxRefIdeal.τ Cert.AOutDxRefIdeal.sig) → Buf (Elt Ideal) ℓ) (g' : Dev Cert.AOutDxRefIdeal.nD → PrngReg), Pre_AOutDxIdeal m →
    (∀ c : Dev Cert.AOutDxIdeal.nD,
      m' ((c.tc : Thread Cert.AOutDxRefIdeal.nD Cert.AOutDxRefIdeal.τ).loc Cert.AOutDxRefIdeal.main_arg0) = m ((c.tc : Thread Cert.AOutDxIdeal.nD Cert.AOutDxIdeal.τ).loc Cert.AOutDxIdeal.main_arg0)
      ∧ m' ((c.tc : Thread Cert.AOutDxRefIdeal.nD Cert.AOutDxRefIdeal.τ).loc Cert.AOutDxRefIdeal.main_arg1) = m ((c.tc : Thread Cert.AOutDxIdeal.nD Cert.AOutDxIdeal.τ).loc Cert.AOutDxIdeal.main_arg1)) →
    ∃ (v0 : (c : Dev Cert.AOutDxIdeal.nD) → Buf (Elt Ideal) ((c.tc : Thread Cert.AOutDxIdeal.nD Cert.AOutDxIdeal.τ).loc Cert.AOutDxIdeal.main_v1)),
      θ_run (Cert.AOutDxIdeal.defs (F := Ideal)) (onTc (τ := Cert.AOutDxIdeal.τ) (Cert.AOutDxIdeal.main (F := Ideal))) ⟨m, fun _ => 0, g⟩ (fun r => ∀ c : Dev Cert.AOutDxIdeal.nD,
          r.2.mem ((c.tc : Thread Cert.AOutDxIdeal.nD Cert.AOutDxIdeal.τ).loc Cert.AOutDxIdeal.main_v1) = v0 c
          ∧ r.2.mem ((c.tc : Thread Cert.AOutDxIdeal.nD Cert.AOutDxIdeal.τ).loc Cert.AOutDxIdeal.main_arg0) = m ((c.tc : Thread Cert.AOutDxIdeal.nD Cert.AOutDxIdeal.τ).loc Cert.AOutDxIdeal.main_arg0)
          ∧ r.2.mem ((c.tc : Thread Cert.AOutDxIdeal.nD Cert.AOutDxIdeal.τ).loc Cert.AOutDxIdeal.main_arg1) = m ((c.tc : Thread Cert.AOutDxIdeal.nD Cert.AOutDxIdeal.τ).loc Cert.AOutDxIdeal.main_arg1))
      ∧ θ_run (Cert.AOutDxRefIdeal.defs (F := Ideal)) (onTc (τ := Cert.AOutDxRefIdeal.τ) (Cert.AOutDxRefIdeal.main (F := Ideal))) ⟨m', fun _ => 0, g'⟩ (fun r => ∀ c : Dev Cert.AOutDxRefIdeal.nD,
          r.2.mem ((c.tc : Thread Cert.AOutDxRefIdeal.nD Cert.AOutDxRefIdeal.τ).loc Cert.AOutDxRefIdeal.main_v5) = v0 c
          ∧ r.2.mem ((c.tc : Thread Cert.AOutDxRefIdeal.nD Cert.AOutDxRefIdeal.τ).loc Cert.AOutDxRefIdeal.main_arg0) = m' ((c.tc : Thread Cert.AOutDxRefIdeal.nD Cert.AOutDxRefIdeal.τ).loc Cert.AOutDxRefIdeal.main_arg0)
          ∧ r.2.mem ((c.tc : Thread Cert.AOutDxRefIdeal.nD Cert.AOutDxRefIdeal.τ).loc Cert.AOutDxRefIdeal.main_arg1) = m' ((c.tc : Thread Cert.AOutDxRefIdeal.nD Cert.AOutDxRefIdeal.τ).loc Cert.AOutDxRefIdeal.main_arg1))

def preserves_AOutDw_AOutDwIdeal : Prop :=
  True

def algebraic_AOutDwIdeal_AOutDwRefIdeal [hAOutDwIdeal : Cert.AOutDwIdeal.Facts] [hAOutDwRefIdeal : Cert.AOutDwRefIdeal.Facts] : Prop :=
  ∀ (m : (ℓ : Loc Cert.AOutDwIdeal.nD Cert.AOutDwIdeal.τ Cert.AOutDwIdeal.sig) → Buf (Elt Ideal) ℓ) (g : Dev Cert.AOutDwIdeal.nD → PrngReg)
    (m' : (ℓ : Loc Cert.AOutDwRefIdeal.nD Cert.AOutDwRefIdeal.τ Cert.AOutDwRefIdeal.sig) → Buf (Elt Ideal) ℓ) (g' : Dev Cert.AOutDwRefIdeal.nD → PrngReg), Pre_AOutDwIdeal m →
    (∀ c : Dev Cert.AOutDwIdeal.nD,
      m' ((c.tc : Thread Cert.AOutDwRefIdeal.nD Cert.AOutDwRefIdeal.τ).loc Cert.AOutDwRefIdeal.main_arg0) = m ((c.tc : Thread Cert.AOutDwIdeal.nD Cert.AOutDwIdeal.τ).loc Cert.AOutDwIdeal.main_arg0)
      ∧ m' ((c.tc : Thread Cert.AOutDwRefIdeal.nD Cert.AOutDwRefIdeal.τ).loc Cert.AOutDwRefIdeal.main_arg1) = m ((c.tc : Thread Cert.AOutDwIdeal.nD Cert.AOutDwIdeal.τ).loc Cert.AOutDwIdeal.main_arg1)) →
    ∃ (v0 : (c : Dev Cert.AOutDwIdeal.nD) → Buf (Elt Ideal) ((c.tc : Thread Cert.AOutDwIdeal.nD Cert.AOutDwIdeal.τ).loc Cert.AOutDwIdeal.main_v0)),
      θ_run (Cert.AOutDwIdeal.defs (F := Ideal)) (onTc (τ := Cert.AOutDwIdeal.τ) (Cert.AOutDwIdeal.main (F := Ideal))) ⟨m, fun _ => 0, g⟩ (fun r => ∀ c : Dev Cert.AOutDwIdeal.nD,
          r.2.mem ((c.tc : Thread Cert.AOutDwIdeal.nD Cert.AOutDwIdeal.τ).loc Cert.AOutDwIdeal.main_v0) = v0 c
          ∧ r.2.mem ((c.tc : Thread Cert.AOutDwIdeal.nD Cert.AOutDwIdeal.τ).loc Cert.AOutDwIdeal.main_arg0) = m ((c.tc : Thread Cert.AOutDwIdeal.nD Cert.AOutDwIdeal.τ).loc Cert.AOutDwIdeal.main_arg0)
          ∧ r.2.mem ((c.tc : Thread Cert.AOutDwIdeal.nD Cert.AOutDwIdeal.τ).loc Cert.AOutDwIdeal.main_arg1) = m ((c.tc : Thread Cert.AOutDwIdeal.nD Cert.AOutDwIdeal.τ).loc Cert.AOutDwIdeal.main_arg1))
      ∧ θ_run (Cert.AOutDwRefIdeal.defs (F := Ideal)) (onTc (τ := Cert.AOutDwRefIdeal.τ) (Cert.AOutDwRefIdeal.main (F := Ideal))) ⟨m', fun _ => 0, g'⟩ (fun r => ∀ c : Dev Cert.AOutDwRefIdeal.nD,
          r.2.mem ((c.tc : Thread Cert.AOutDwRefIdeal.nD Cert.AOutDwRefIdeal.τ).loc Cert.AOutDwRefIdeal.main_v5) = v0 c
          ∧ r.2.mem ((c.tc : Thread Cert.AOutDwRefIdeal.nD Cert.AOutDwRefIdeal.τ).loc Cert.AOutDwRefIdeal.main_arg0) = m' ((c.tc : Thread Cert.AOutDwRefIdeal.nD Cert.AOutDwRefIdeal.τ).loc Cert.AOutDwRefIdeal.main_arg0)
          ∧ r.2.mem ((c.tc : Thread Cert.AOutDwRefIdeal.nD Cert.AOutDwRefIdeal.τ).loc Cert.AOutDwRefIdeal.main_arg1) = m' ((c.tc : Thread Cert.AOutDwRefIdeal.nD Cert.AOutDwRefIdeal.τ).loc Cert.AOutDwRefIdeal.main_arg1))

def preserves_COutDx_COutDxIdeal : Prop :=
  True

def algebraic_COutDxIdeal_COutDxRefIdeal [hCOutDxIdeal : Cert.COutDxIdeal.Facts] [hCOutDxRefIdeal : Cert.COutDxRefIdeal.Facts] : Prop :=
  ∀ (m : (ℓ : Loc Cert.COutDxIdeal.nD Cert.COutDxIdeal.τ Cert.COutDxIdeal.sig) → Buf (Elt Ideal) ℓ) (g : Dev Cert.COutDxIdeal.nD → PrngReg)
    (m' : (ℓ : Loc Cert.COutDxRefIdeal.nD Cert.COutDxRefIdeal.τ Cert.COutDxRefIdeal.sig) → Buf (Elt Ideal) ℓ) (g' : Dev Cert.COutDxRefIdeal.nD → PrngReg), Pre_COutDxIdeal m →
    (∀ c : Dev Cert.COutDxIdeal.nD,
      m' ((c.tc : Thread Cert.COutDxRefIdeal.nD Cert.COutDxRefIdeal.τ).loc Cert.COutDxRefIdeal.main_arg0) = m ((c.tc : Thread Cert.COutDxIdeal.nD Cert.COutDxIdeal.τ).loc Cert.COutDxIdeal.main_arg0)
      ∧ m' ((c.tc : Thread Cert.COutDxRefIdeal.nD Cert.COutDxRefIdeal.τ).loc Cert.COutDxRefIdeal.main_arg1) = m ((c.tc : Thread Cert.COutDxIdeal.nD Cert.COutDxIdeal.τ).loc Cert.COutDxIdeal.main_arg1)) →
    ∃ (v0 : (c : Dev Cert.COutDxIdeal.nD) → Buf (Elt Ideal) ((c.tc : Thread Cert.COutDxIdeal.nD Cert.COutDxIdeal.τ).loc Cert.COutDxIdeal.main_v1)),
      θ_run (Cert.COutDxIdeal.defs (F := Ideal)) (onTc (τ := Cert.COutDxIdeal.τ) (Cert.COutDxIdeal.main (F := Ideal))) ⟨m, fun _ => 0, g⟩ (fun r => ∀ c : Dev Cert.COutDxIdeal.nD,
          r.2.mem ((c.tc : Thread Cert.COutDxIdeal.nD Cert.COutDxIdeal.τ).loc Cert.COutDxIdeal.main_v1) = v0 c
          ∧ r.2.mem ((c.tc : Thread Cert.COutDxIdeal.nD Cert.COutDxIdeal.τ).loc Cert.COutDxIdeal.main_arg0) = m ((c.tc : Thread Cert.COutDxIdeal.nD Cert.COutDxIdeal.τ).loc Cert.COutDxIdeal.main_arg0)
          ∧ r.2.mem ((c.tc : Thread Cert.COutDxIdeal.nD Cert.COutDxIdeal.τ).loc Cert.COutDxIdeal.main_arg1) = m ((c.tc : Thread Cert.COutDxIdeal.nD Cert.COutDxIdeal.τ).loc Cert.COutDxIdeal.main_arg1))
      ∧ θ_run (Cert.COutDxRefIdeal.defs (F := Ideal)) (onTc (τ := Cert.COutDxRefIdeal.τ) (Cert.COutDxRefIdeal.main (F := Ideal))) ⟨m', fun _ => 0, g'⟩ (fun r => ∀ c : Dev Cert.COutDxRefIdeal.nD,
          r.2.mem ((c.tc : Thread Cert.COutDxRefIdeal.nD Cert.COutDxRefIdeal.τ).loc Cert.COutDxRefIdeal.main_v5) = v0 c
          ∧ r.2.mem ((c.tc : Thread Cert.COutDxRefIdeal.nD Cert.COutDxRefIdeal.τ).loc Cert.COutDxRefIdeal.main_arg0) = m' ((c.tc : Thread Cert.COutDxRefIdeal.nD Cert.COutDxRefIdeal.τ).loc Cert.COutDxRefIdeal.main_arg0)
          ∧ r.2.mem ((c.tc : Thread Cert.COutDxRefIdeal.nD Cert.COutDxRefIdeal.τ).loc Cert.COutDxRefIdeal.main_arg1) = m' ((c.tc : Thread Cert.COutDxRefIdeal.nD Cert.COutDxRefIdeal.τ).loc Cert.COutDxRefIdeal.main_arg1))

def preserves_COutDw_COutDwIdeal : Prop :=
  True

def algebraic_COutDwIdeal_COutDwRefIdeal [hCOutDwIdeal : Cert.COutDwIdeal.Facts] [hCOutDwRefIdeal : Cert.COutDwRefIdeal.Facts] : Prop :=
  ∀ (m : (ℓ : Loc Cert.COutDwIdeal.nD Cert.COutDwIdeal.τ Cert.COutDwIdeal.sig) → Buf (Elt Ideal) ℓ) (g : Dev Cert.COutDwIdeal.nD → PrngReg)
    (m' : (ℓ : Loc Cert.COutDwRefIdeal.nD Cert.COutDwRefIdeal.τ Cert.COutDwRefIdeal.sig) → Buf (Elt Ideal) ℓ) (g' : Dev Cert.COutDwRefIdeal.nD → PrngReg), Pre_COutDwIdeal m →
    (∀ c : Dev Cert.COutDwIdeal.nD,
      m' ((c.tc : Thread Cert.COutDwRefIdeal.nD Cert.COutDwRefIdeal.τ).loc Cert.COutDwRefIdeal.main_arg0) = m ((c.tc : Thread Cert.COutDwIdeal.nD Cert.COutDwIdeal.τ).loc Cert.COutDwIdeal.main_arg0)
      ∧ m' ((c.tc : Thread Cert.COutDwRefIdeal.nD Cert.COutDwRefIdeal.τ).loc Cert.COutDwRefIdeal.main_arg1) = m ((c.tc : Thread Cert.COutDwIdeal.nD Cert.COutDwIdeal.τ).loc Cert.COutDwIdeal.main_arg1)) →
    ∃ (v0 : (c : Dev Cert.COutDwIdeal.nD) → Buf (Elt Ideal) ((c.tc : Thread Cert.COutDwIdeal.nD Cert.COutDwIdeal.τ).loc Cert.COutDwIdeal.main_v0)),
      θ_run (Cert.COutDwIdeal.defs (F := Ideal)) (onTc (τ := Cert.COutDwIdeal.τ) (Cert.COutDwIdeal.main (F := Ideal))) ⟨m, fun _ => 0, g⟩ (fun r => ∀ c : Dev Cert.COutDwIdeal.nD,
          r.2.mem ((c.tc : Thread Cert.COutDwIdeal.nD Cert.COutDwIdeal.τ).loc Cert.COutDwIdeal.main_v0) = v0 c
          ∧ r.2.mem ((c.tc : Thread Cert.COutDwIdeal.nD Cert.COutDwIdeal.τ).loc Cert.COutDwIdeal.main_arg0) = m ((c.tc : Thread Cert.COutDwIdeal.nD Cert.COutDwIdeal.τ).loc Cert.COutDwIdeal.main_arg0)
          ∧ r.2.mem ((c.tc : Thread Cert.COutDwIdeal.nD Cert.COutDwIdeal.τ).loc Cert.COutDwIdeal.main_arg1) = m ((c.tc : Thread Cert.COutDwIdeal.nD Cert.COutDwIdeal.τ).loc Cert.COutDwIdeal.main_arg1))
      ∧ θ_run (Cert.COutDwRefIdeal.defs (F := Ideal)) (onTc (τ := Cert.COutDwRefIdeal.τ) (Cert.COutDwRefIdeal.main (F := Ideal))) ⟨m', fun _ => 0, g'⟩ (fun r => ∀ c : Dev Cert.COutDwRefIdeal.nD,
          r.2.mem ((c.tc : Thread Cert.COutDwRefIdeal.nD Cert.COutDwRefIdeal.τ).loc Cert.COutDwRefIdeal.main_v4) = v0 c
          ∧ r.2.mem ((c.tc : Thread Cert.COutDwRefIdeal.nD Cert.COutDwRefIdeal.τ).loc Cert.COutDwRefIdeal.main_arg0) = m' ((c.tc : Thread Cert.COutDwRefIdeal.nD Cert.COutDwRefIdeal.τ).loc Cert.COutDwRefIdeal.main_arg0)
          ∧ r.2.mem ((c.tc : Thread Cert.COutDwRefIdeal.nD Cert.COutDwRefIdeal.τ).loc Cert.COutDwRefIdeal.main_arg1) = m' ((c.tc : Thread Cert.COutDwRefIdeal.nD Cert.COutDwRefIdeal.τ).loc Cert.COutDwRefIdeal.main_arg1))

def preserves_XkvDx_XkvDxIdeal : Prop :=
  True

def algebraic_XkvDxIdeal_XkvDxRefIdeal [hXkvDxIdeal : Cert.XkvDxIdeal.Facts] [hXkvDxRefIdeal : Cert.XkvDxRefIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg)
    (m' : (ℓ : Loc Cert.XkvDxRefIdeal.nD Cert.XkvDxRefIdeal.τ Cert.XkvDxRefIdeal.sig) → Buf (Elt Ideal) ℓ) (g' : Dev Cert.XkvDxRefIdeal.nD → PrngReg), Pre_XkvDxIdeal m →
    (∀ c : Dev Cert.XkvDxIdeal.nD,
      m' ((c.tc : Thread Cert.XkvDxRefIdeal.nD Cert.XkvDxRefIdeal.τ).loc Cert.XkvDxRefIdeal.main_arg0) = m ((c.tc : Thread Cert.XkvDxIdeal.nD Cert.XkvDxIdeal.τ).loc Cert.XkvDxIdeal.main_arg0)
      ∧ m' ((c.tc : Thread Cert.XkvDxRefIdeal.nD Cert.XkvDxRefIdeal.τ).loc Cert.XkvDxRefIdeal.main_arg1) = m ((c.tc : Thread Cert.XkvDxIdeal.nD Cert.XkvDxIdeal.τ).loc Cert.XkvDxIdeal.main_arg1)) →
    ∃ (v0 : (c : Dev Cert.XkvDxIdeal.nD) → Buf (Elt Ideal) ((c.tc : Thread Cert.XkvDxIdeal.nD Cert.XkvDxIdeal.τ).loc Cert.XkvDxIdeal.main_v1)),
      θ_run (Cert.XkvDxIdeal.defs (F := Ideal)) (onTc (τ := Cert.XkvDxIdeal.τ) (Cert.XkvDxIdeal.main (F := Ideal))) ⟨m, fun _ => 0, g⟩ (fun r => ∀ c : Dev Cert.XkvDxIdeal.nD,
          r.2.mem ((c.tc : Thread Cert.XkvDxIdeal.nD Cert.XkvDxIdeal.τ).loc Cert.XkvDxIdeal.main_v1) = v0 c
          ∧ r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
          ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1))
      ∧ θ_run (Cert.XkvDxRefIdeal.defs (F := Ideal)) (onTc (τ := Cert.XkvDxRefIdeal.τ) (Cert.XkvDxRefIdeal.main (F := Ideal))) ⟨m', fun _ => 0, g'⟩ (fun r => ∀ c : Dev Cert.XkvDxRefIdeal.nD,
          r.2.mem ((c.tc : Thread Cert.XkvDxRefIdeal.nD Cert.XkvDxRefIdeal.τ).loc Cert.XkvDxRefIdeal.main_v3) = v0 c
          ∧ r.2.mem ((c.tc : Thread Cert.XkvDxRefIdeal.nD Cert.XkvDxRefIdeal.τ).loc Cert.XkvDxRefIdeal.main_arg0) = m' ((c.tc : Thread Cert.XkvDxRefIdeal.nD Cert.XkvDxRefIdeal.τ).loc Cert.XkvDxRefIdeal.main_arg0)
          ∧ r.2.mem ((c.tc : Thread Cert.XkvDxRefIdeal.nD Cert.XkvDxRefIdeal.τ).loc Cert.XkvDxRefIdeal.main_arg1) = m' ((c.tc : Thread Cert.XkvDxRefIdeal.nD Cert.XkvDxRefIdeal.τ).loc Cert.XkvDxRefIdeal.main_arg1))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v4) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_SquareFwd_SquareFwdIdeal : Prop :=
  True

def algebraic_SquareFwdIdeal_SquareFwdRefIdeal [hSquareFwdIdeal : Cert.SquareFwdIdeal.Facts] [hSquareFwdRefIdeal : Cert.SquareFwdRefIdeal.Facts] : Prop :=
  ∀ (m : (ℓ : Loc Cert.SquareFwdIdeal.nD Cert.SquareFwdIdeal.τ Cert.SquareFwdIdeal.sig) → Buf (Elt Ideal) ℓ) (g : Dev Cert.SquareFwdIdeal.nD → PrngReg)
    (m' : (ℓ : Loc Cert.SquareFwdRefIdeal.nD Cert.SquareFwdRefIdeal.τ Cert.SquareFwdRefIdeal.sig) → Buf (Elt Ideal) ℓ) (g' : Dev Cert.SquareFwdRefIdeal.nD → PrngReg), Pre_SquareFwdIdeal m →
    (∀ c : Dev Cert.SquareFwdIdeal.nD,
      m' ((c.tc : Thread Cert.SquareFwdRefIdeal.nD Cert.SquareFwdRefIdeal.τ).loc Cert.SquareFwdRefIdeal.main_arg0) = m ((c.tc : Thread Cert.SquareFwdIdeal.nD Cert.SquareFwdIdeal.τ).loc Cert.SquareFwdIdeal.main_arg0)
      ∧ m' ((c.tc : Thread Cert.SquareFwdRefIdeal.nD Cert.SquareFwdRefIdeal.τ).loc Cert.SquareFwdRefIdeal.main_arg1) = m ((c.tc : Thread Cert.SquareFwdIdeal.nD Cert.SquareFwdIdeal.τ).loc Cert.SquareFwdIdeal.main_arg1)) →
    ∃ (v0 : (c : Dev Cert.SquareFwdIdeal.nD) → Buf (Elt Ideal) ((c.tc : Thread Cert.SquareFwdIdeal.nD Cert.SquareFwdIdeal.τ).loc Cert.SquareFwdIdeal.main_v0)),
      θ_run (Cert.SquareFwdIdeal.defs (F := Ideal)) (onTc (τ := Cert.SquareFwdIdeal.τ) (Cert.SquareFwdIdeal.main (F := Ideal))) ⟨m, fun _ => 0, g⟩ (fun r => ∀ c : Dev Cert.SquareFwdIdeal.nD,
          r.2.mem ((c.tc : Thread Cert.SquareFwdIdeal.nD Cert.SquareFwdIdeal.τ).loc Cert.SquareFwdIdeal.main_v0) = v0 c
          ∧ r.2.mem ((c.tc : Thread Cert.SquareFwdIdeal.nD Cert.SquareFwdIdeal.τ).loc Cert.SquareFwdIdeal.main_arg0) = m ((c.tc : Thread Cert.SquareFwdIdeal.nD Cert.SquareFwdIdeal.τ).loc Cert.SquareFwdIdeal.main_arg0)
          ∧ r.2.mem ((c.tc : Thread Cert.SquareFwdIdeal.nD Cert.SquareFwdIdeal.τ).loc Cert.SquareFwdIdeal.main_arg1) = m ((c.tc : Thread Cert.SquareFwdIdeal.nD Cert.SquareFwdIdeal.τ).loc Cert.SquareFwdIdeal.main_arg1))
      ∧ θ_run (Cert.SquareFwdRefIdeal.defs (F := Ideal)) (onTc (τ := Cert.SquareFwdRefIdeal.τ) (Cert.SquareFwdRefIdeal.main (F := Ideal))) ⟨m', fun _ => 0, g'⟩ (fun r => ∀ c : Dev Cert.SquareFwdRefIdeal.nD,
          r.2.mem ((c.tc : Thread Cert.SquareFwdRefIdeal.nD Cert.SquareFwdRefIdeal.τ).loc Cert.SquareFwdRefIdeal.main_v3) = v0 c
          ∧ r.2.mem ((c.tc : Thread Cert.SquareFwdRefIdeal.nD Cert.SquareFwdRefIdeal.τ).loc Cert.SquareFwdRefIdeal.main_arg0) = m' ((c.tc : Thread Cert.SquareFwdRefIdeal.nD Cert.SquareFwdRefIdeal.τ).loc Cert.SquareFwdRefIdeal.main_arg0)
          ∧ r.2.mem ((c.tc : Thread Cert.SquareFwdRefIdeal.nD Cert.SquareFwdRefIdeal.τ).loc Cert.SquareFwdRefIdeal.main_arg1) = m' ((c.tc : Thread Cert.SquareFwdRefIdeal.nD Cert.SquareFwdRefIdeal.τ).loc Cert.SquareFwdRefIdeal.main_arg1))

def preserves_InCFwd_InCFwdIdeal : Prop :=
  True

def algebraic_InCFwdIdeal_InCFwdRefIdeal [hInCFwdIdeal : Cert.InCFwdIdeal.Facts] [hInCFwdRefIdeal : Cert.InCFwdRefIdeal.Facts] : Prop :=
  ∀ (m : (ℓ : Loc Cert.InCFwdIdeal.nD Cert.InCFwdIdeal.τ Cert.InCFwdIdeal.sig) → Buf (Elt Ideal) ℓ) (g : Dev Cert.InCFwdIdeal.nD → PrngReg)
    (m' : (ℓ : Loc Cert.InCFwdRefIdeal.nD Cert.InCFwdRefIdeal.τ Cert.InCFwdRefIdeal.sig) → Buf (Elt Ideal) ℓ) (g' : Dev Cert.InCFwdRefIdeal.nD → PrngReg), Pre_InCFwdIdeal m →
    (∀ c : Dev Cert.InCFwdIdeal.nD,
      m' ((c.tc : Thread Cert.InCFwdRefIdeal.nD Cert.InCFwdRefIdeal.τ).loc Cert.InCFwdRefIdeal.main_arg0) = m ((c.tc : Thread Cert.InCFwdIdeal.nD Cert.InCFwdIdeal.τ).loc Cert.InCFwdIdeal.main_arg0)
      ∧ m' ((c.tc : Thread Cert.InCFwdRefIdeal.nD Cert.InCFwdRefIdeal.τ).loc Cert.InCFwdRefIdeal.main_arg1) = m ((c.tc : Thread Cert.InCFwdIdeal.nD Cert.InCFwdIdeal.τ).loc Cert.InCFwdIdeal.main_arg1)) →
    ∃ (v0 : (c : Dev Cert.InCFwdIdeal.nD) → Buf (Elt Ideal) ((c.tc : Thread Cert.InCFwdIdeal.nD Cert.InCFwdIdeal.τ).loc Cert.InCFwdIdeal.main_v0)),
      θ_run (Cert.InCFwdIdeal.defs (F := Ideal)) (onTc (τ := Cert.InCFwdIdeal.τ) (Cert.InCFwdIdeal.main (F := Ideal))) ⟨m, fun _ => 0, g⟩ (fun r => ∀ c : Dev Cert.InCFwdIdeal.nD,
          r.2.mem ((c.tc : Thread Cert.InCFwdIdeal.nD Cert.InCFwdIdeal.τ).loc Cert.InCFwdIdeal.main_v0) = v0 c
          ∧ r.2.mem ((c.tc : Thread Cert.InCFwdIdeal.nD Cert.InCFwdIdeal.τ).loc Cert.InCFwdIdeal.main_arg0) = m ((c.tc : Thread Cert.InCFwdIdeal.nD Cert.InCFwdIdeal.τ).loc Cert.InCFwdIdeal.main_arg0)
          ∧ r.2.mem ((c.tc : Thread Cert.InCFwdIdeal.nD Cert.InCFwdIdeal.τ).loc Cert.InCFwdIdeal.main_arg1) = m ((c.tc : Thread Cert.InCFwdIdeal.nD Cert.InCFwdIdeal.τ).loc Cert.InCFwdIdeal.main_arg1))
      ∧ θ_run (Cert.InCFwdRefIdeal.defs (F := Ideal)) (onTc (τ := Cert.InCFwdRefIdeal.τ) (Cert.InCFwdRefIdeal.main (F := Ideal))) ⟨m', fun _ => 0, g'⟩ (fun r => ∀ c : Dev Cert.InCFwdRefIdeal.nD,
          r.2.mem ((c.tc : Thread Cert.InCFwdRefIdeal.nD Cert.InCFwdRefIdeal.τ).loc Cert.InCFwdRefIdeal.main_v3) = v0 c
          ∧ r.2.mem ((c.tc : Thread Cert.InCFwdRefIdeal.nD Cert.InCFwdRefIdeal.τ).loc Cert.InCFwdRefIdeal.main_arg0) = m' ((c.tc : Thread Cert.InCFwdRefIdeal.nD Cert.InCFwdRefIdeal.τ).loc Cert.InCFwdRefIdeal.main_arg0)
          ∧ r.2.mem ((c.tc : Thread Cert.InCFwdRefIdeal.nD Cert.InCFwdRefIdeal.τ).loc Cert.InCFwdRefIdeal.main_arg1) = m' ((c.tc : Thread Cert.InCFwdRefIdeal.nD Cert.InCFwdRefIdeal.τ).loc Cert.InCFwdRefIdeal.main_arg1))

def preserves_InGFwd_InGFwdIdeal : Prop :=
  True

def algebraic_InGFwdIdeal_InGFwdRefIdeal [hInGFwdIdeal : Cert.InGFwdIdeal.Facts] [hInGFwdRefIdeal : Cert.InGFwdRefIdeal.Facts] : Prop :=
  ∀ (m : (ℓ : Loc Cert.InGFwdIdeal.nD Cert.InGFwdIdeal.τ Cert.InGFwdIdeal.sig) → Buf (Elt Ideal) ℓ) (g : Dev Cert.InGFwdIdeal.nD → PrngReg)
    (m' : (ℓ : Loc Cert.InGFwdRefIdeal.nD Cert.InGFwdRefIdeal.τ Cert.InGFwdRefIdeal.sig) → Buf (Elt Ideal) ℓ) (g' : Dev Cert.InGFwdRefIdeal.nD → PrngReg), Pre_InGFwdIdeal m →
    (∀ c : Dev Cert.InGFwdIdeal.nD,
      m' ((c.tc : Thread Cert.InGFwdRefIdeal.nD Cert.InGFwdRefIdeal.τ).loc Cert.InGFwdRefIdeal.main_arg0) = m ((c.tc : Thread Cert.InGFwdIdeal.nD Cert.InGFwdIdeal.τ).loc Cert.InGFwdIdeal.main_arg0)
      ∧ m' ((c.tc : Thread Cert.InGFwdRefIdeal.nD Cert.InGFwdRefIdeal.τ).loc Cert.InGFwdRefIdeal.main_arg1) = m ((c.tc : Thread Cert.InGFwdIdeal.nD Cert.InGFwdIdeal.τ).loc Cert.InGFwdIdeal.main_arg1)) →
    ∃ (v0 : (c : Dev Cert.InGFwdIdeal.nD) → Buf (Elt Ideal) ((c.tc : Thread Cert.InGFwdIdeal.nD Cert.InGFwdIdeal.τ).loc Cert.InGFwdIdeal.main_v0)),
      θ_run (Cert.InGFwdIdeal.defs (F := Ideal)) (onTc (τ := Cert.InGFwdIdeal.τ) (Cert.InGFwdIdeal.main (F := Ideal))) ⟨m, fun _ => 0, g⟩ (fun r => ∀ c : Dev Cert.InGFwdIdeal.nD,
          r.2.mem ((c.tc : Thread Cert.InGFwdIdeal.nD Cert.InGFwdIdeal.τ).loc Cert.InGFwdIdeal.main_v0) = v0 c
          ∧ r.2.mem ((c.tc : Thread Cert.InGFwdIdeal.nD Cert.InGFwdIdeal.τ).loc Cert.InGFwdIdeal.main_arg0) = m ((c.tc : Thread Cert.InGFwdIdeal.nD Cert.InGFwdIdeal.τ).loc Cert.InGFwdIdeal.main_arg0)
          ∧ r.2.mem ((c.tc : Thread Cert.InGFwdIdeal.nD Cert.InGFwdIdeal.τ).loc Cert.InGFwdIdeal.main_arg1) = m ((c.tc : Thread Cert.InGFwdIdeal.nD Cert.InGFwdIdeal.τ).loc Cert.InGFwdIdeal.main_arg1))
      ∧ θ_run (Cert.InGFwdRefIdeal.defs (F := Ideal)) (onTc (τ := Cert.InGFwdRefIdeal.τ) (Cert.InGFwdRefIdeal.main (F := Ideal))) ⟨m', fun _ => 0, g'⟩ (fun r => ∀ c : Dev Cert.InGFwdRefIdeal.nD,
          r.2.mem ((c.tc : Thread Cert.InGFwdRefIdeal.nD Cert.InGFwdRefIdeal.τ).loc Cert.InGFwdRefIdeal.main_v3) = v0 c
          ∧ r.2.mem ((c.tc : Thread Cert.InGFwdRefIdeal.nD Cert.InGFwdRefIdeal.τ).loc Cert.InGFwdRefIdeal.main_arg0) = m' ((c.tc : Thread Cert.InGFwdRefIdeal.nD Cert.InGFwdRefIdeal.τ).loc Cert.InGFwdRefIdeal.main_arg0)
          ∧ r.2.mem ((c.tc : Thread Cert.InGFwdRefIdeal.nD Cert.InGFwdRefIdeal.τ).loc Cert.InGFwdRefIdeal.main_arg1) = m' ((c.tc : Thread Cert.InGFwdRefIdeal.nD Cert.InGFwdRefIdeal.τ).loc Cert.InGFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v3) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def preserves_AOutFwd_AOutFwdIdeal : Prop :=
  True

def algebraic_AOutFwdIdeal_AOutFwdRefIdeal [hAOutFwdIdeal : Cert.AOutFwdIdeal.Facts] [hAOutFwdRefIdeal : Cert.AOutFwdRefIdeal.Facts] : Prop :=
  ∀ (m : (ℓ : Loc Cert.AOutFwdIdeal.nD Cert.AOutFwdIdeal.τ Cert.AOutFwdIdeal.sig) → Buf (Elt Ideal) ℓ) (g : Dev Cert.AOutFwdIdeal.nD → PrngReg)
    (m' : (ℓ : Loc Cert.AOutFwdRefIdeal.nD Cert.AOutFwdRefIdeal.τ Cert.AOutFwdRefIdeal.sig) → Buf (Elt Ideal) ℓ) (g' : Dev Cert.AOutFwdRefIdeal.nD → PrngReg), Pre_AOutFwdIdeal m →
    (∀ c : Dev Cert.AOutFwdIdeal.nD,
      m' ((c.tc : Thread Cert.AOutFwdRefIdeal.nD Cert.AOutFwdRefIdeal.τ).loc Cert.AOutFwdRefIdeal.main_arg0) = m ((c.tc : Thread Cert.AOutFwdIdeal.nD Cert.AOutFwdIdeal.τ).loc Cert.AOutFwdIdeal.main_arg0)
      ∧ m' ((c.tc : Thread Cert.AOutFwdRefIdeal.nD Cert.AOutFwdRefIdeal.τ).loc Cert.AOutFwdRefIdeal.main_arg1) = m ((c.tc : Thread Cert.AOutFwdIdeal.nD Cert.AOutFwdIdeal.τ).loc Cert.AOutFwdIdeal.main_arg1)) →
    ∃ (v0 : (c : Dev Cert.AOutFwdIdeal.nD) → Buf (Elt Ideal) ((c.tc : Thread Cert.AOutFwdIdeal.nD Cert.AOutFwdIdeal.τ).loc Cert.AOutFwdIdeal.main_v0)),
      θ_run (Cert.AOutFwdIdeal.defs (F := Ideal)) (onTc (τ := Cert.AOutFwdIdeal.τ) (Cert.AOutFwdIdeal.main (F := Ideal))) ⟨m, fun _ => 0, g⟩ (fun r => ∀ c : Dev Cert.AOutFwdIdeal.nD,
          r.2.mem ((c.tc : Thread Cert.AOutFwdIdeal.nD Cert.AOutFwdIdeal.τ).loc Cert.AOutFwdIdeal.main_v0) = v0 c
          ∧ r.2.mem ((c.tc : Thread Cert.AOutFwdIdeal.nD Cert.AOutFwdIdeal.τ).loc Cert.AOutFwdIdeal.main_arg0) = m ((c.tc : Thread Cert.AOutFwdIdeal.nD Cert.AOutFwdIdeal.τ).loc Cert.AOutFwdIdeal.main_arg0)
          ∧ r.2.mem ((c.tc : Thread Cert.AOutFwdIdeal.nD Cert.AOutFwdIdeal.τ).loc Cert.AOutFwdIdeal.main_arg1) = m ((c.tc : Thread Cert.AOutFwdIdeal.nD Cert.AOutFwdIdeal.τ).loc Cert.AOutFwdIdeal.main_arg1))
      ∧ θ_run (Cert.AOutFwdRefIdeal.defs (F := Ideal)) (onTc (τ := Cert.AOutFwdRefIdeal.τ) (Cert.AOutFwdRefIdeal.main (F := Ideal))) ⟨m', fun _ => 0, g'⟩ (fun r => ∀ c : Dev Cert.AOutFwdRefIdeal.nD,
          r.2.mem ((c.tc : Thread Cert.AOutFwdRefIdeal.nD Cert.AOutFwdRefIdeal.τ).loc Cert.AOutFwdRefIdeal.main_v3) = v0 c
          ∧ r.2.mem ((c.tc : Thread Cert.AOutFwdRefIdeal.nD Cert.AOutFwdRefIdeal.τ).loc Cert.AOutFwdRefIdeal.main_arg0) = m' ((c.tc : Thread Cert.AOutFwdRefIdeal.nD Cert.AOutFwdRefIdeal.τ).loc Cert.AOutFwdRefIdeal.main_arg0)
          ∧ r.2.mem ((c.tc : Thread Cert.AOutFwdRefIdeal.nD Cert.AOutFwdRefIdeal.τ).loc Cert.AOutFwdRefIdeal.main_arg1) = m' ((c.tc : Thread Cert.AOutFwdRefIdeal.nD Cert.AOutFwdRefIdeal.τ).loc Cert.AOutFwdRefIdeal.main_arg1))

def preserves_COutFwd_COutFwdIdeal : Prop :=
  True

def algebraic_COutFwdIdeal_COutFwdRefIdeal [hCOutFwdIdeal : Cert.COutFwdIdeal.Facts] [hCOutFwdRefIdeal : Cert.COutFwdRefIdeal.Facts] : Prop :=
  ∀ (m : (ℓ : Loc Cert.COutFwdIdeal.nD Cert.COutFwdIdeal.τ Cert.COutFwdIdeal.sig) → Buf (Elt Ideal) ℓ) (g : Dev Cert.COutFwdIdeal.nD → PrngReg)
    (m' : (ℓ : Loc Cert.COutFwdRefIdeal.nD Cert.COutFwdRefIdeal.τ Cert.COutFwdRefIdeal.sig) → Buf (Elt Ideal) ℓ) (g' : Dev Cert.COutFwdRefIdeal.nD → PrngReg), Pre_COutFwdIdeal m →
    (∀ c : Dev Cert.COutFwdIdeal.nD,
      m' ((c.tc : Thread Cert.COutFwdRefIdeal.nD Cert.COutFwdRefIdeal.τ).loc Cert.COutFwdRefIdeal.main_arg0) = m ((c.tc : Thread Cert.COutFwdIdeal.nD Cert.COutFwdIdeal.τ).loc Cert.COutFwdIdeal.main_arg0)
      ∧ m' ((c.tc : Thread Cert.COutFwdRefIdeal.nD Cert.COutFwdRefIdeal.τ).loc Cert.COutFwdRefIdeal.main_arg1) = m ((c.tc : Thread Cert.COutFwdIdeal.nD Cert.COutFwdIdeal.τ).loc Cert.COutFwdIdeal.main_arg1)) →
    ∃ (v0 : (c : Dev Cert.COutFwdIdeal.nD) → Buf (Elt Ideal) ((c.tc : Thread Cert.COutFwdIdeal.nD Cert.COutFwdIdeal.τ).loc Cert.COutFwdIdeal.main_v0)),
      θ_run (Cert.COutFwdIdeal.defs (F := Ideal)) (onTc (τ := Cert.COutFwdIdeal.τ) (Cert.COutFwdIdeal.main (F := Ideal))) ⟨m, fun _ => 0, g⟩ (fun r => ∀ c : Dev Cert.COutFwdIdeal.nD,
          r.2.mem ((c.tc : Thread Cert.COutFwdIdeal.nD Cert.COutFwdIdeal.τ).loc Cert.COutFwdIdeal.main_v0) = v0 c
          ∧ r.2.mem ((c.tc : Thread Cert.COutFwdIdeal.nD Cert.COutFwdIdeal.τ).loc Cert.COutFwdIdeal.main_arg0) = m ((c.tc : Thread Cert.COutFwdIdeal.nD Cert.COutFwdIdeal.τ).loc Cert.COutFwdIdeal.main_arg0)
          ∧ r.2.mem ((c.tc : Thread Cert.COutFwdIdeal.nD Cert.COutFwdIdeal.τ).loc Cert.COutFwdIdeal.main_arg1) = m ((c.tc : Thread Cert.COutFwdIdeal.nD Cert.COutFwdIdeal.τ).loc Cert.COutFwdIdeal.main_arg1))
      ∧ θ_run (Cert.COutFwdRefIdeal.defs (F := Ideal)) (onTc (τ := Cert.COutFwdRefIdeal.τ) (Cert.COutFwdRefIdeal.main (F := Ideal))) ⟨m', fun _ => 0, g'⟩ (fun r => ∀ c : Dev Cert.COutFwdRefIdeal.nD,
          r.2.mem ((c.tc : Thread Cert.COutFwdRefIdeal.nD Cert.COutFwdRefIdeal.τ).loc Cert.COutFwdRefIdeal.main_v2) = v0 c
          ∧ r.2.mem ((c.tc : Thread Cert.COutFwdRefIdeal.nD Cert.COutFwdRefIdeal.τ).loc Cert.COutFwdRefIdeal.main_arg0) = m' ((c.tc : Thread Cert.COutFwdRefIdeal.nD Cert.COutFwdRefIdeal.τ).loc Cert.COutFwdRefIdeal.main_arg0)
          ∧ r.2.mem ((c.tc : Thread Cert.COutFwdRefIdeal.nD Cert.COutFwdRefIdeal.τ).loc Cert.COutFwdRefIdeal.main_arg1) = m' ((c.tc : Thread Cert.COutFwdRefIdeal.nD Cert.COutFwdRefIdeal.τ).loc Cert.COutFwdRefIdeal.main_arg1))

def preserves_XkvFwd_XkvFwdIdeal : Prop :=
  True

def algebraic_XkvFwdIdeal_XkvFwdRefIdeal [hXkvFwdIdeal : Cert.XkvFwdIdeal.Facts] [hXkvFwdRefIdeal : Cert.XkvFwdRefIdeal.Facts] : Prop :=
  ∀ (m : (ℓ : Loc Cert.XkvFwdIdeal.nD Cert.XkvFwdIdeal.τ Cert.XkvFwdIdeal.sig) → Buf (Elt Ideal) ℓ) (g : Dev Cert.XkvFwdIdeal.nD → PrngReg)
    (m' : (ℓ : Loc Cert.XkvFwdRefIdeal.nD Cert.XkvFwdRefIdeal.τ Cert.XkvFwdRefIdeal.sig) → Buf (Elt Ideal) ℓ) (g' : Dev Cert.XkvFwdRefIdeal.nD → PrngReg), Pre_XkvFwdIdeal m →
    (∀ c : Dev Cert.XkvFwdIdeal.nD,
      m' ((c.tc : Thread Cert.XkvFwdRefIdeal.nD Cert.XkvFwdRefIdeal.τ).loc Cert.XkvFwdRefIdeal.main_arg0) = m ((c.tc : Thread Cert.XkvFwdIdeal.nD Cert.XkvFwdIdeal.τ).loc Cert.XkvFwdIdeal.main_arg0)
      ∧ m' ((c.tc : Thread Cert.XkvFwdRefIdeal.nD Cert.XkvFwdRefIdeal.τ).loc Cert.XkvFwdRefIdeal.main_arg1) = m ((c.tc : Thread Cert.XkvFwdIdeal.nD Cert.XkvFwdIdeal.τ).loc Cert.XkvFwdIdeal.main_arg1)) →
    ∃ (v0 : (c : Dev Cert.XkvFwdIdeal.nD) → Buf (Elt Ideal) ((c.tc : Thread Cert.XkvFwdIdeal.nD Cert.XkvFwdIdeal.τ).loc Cert.XkvFwdIdeal.main_v0)),
      θ_run (Cert.XkvFwdIdeal.defs (F := Ideal)) (onTc (τ := Cert.XkvFwdIdeal.τ) (Cert.XkvFwdIdeal.main (F := Ideal))) ⟨m, fun _ => 0, g⟩ (fun r => ∀ c : Dev Cert.XkvFwdIdeal.nD,
          r.2.mem ((c.tc : Thread Cert.XkvFwdIdeal.nD Cert.XkvFwdIdeal.τ).loc Cert.XkvFwdIdeal.main_v0) = v0 c
          ∧ r.2.mem ((c.tc : Thread Cert.XkvFwdIdeal.nD Cert.XkvFwdIdeal.τ).loc Cert.XkvFwdIdeal.main_arg0) = m ((c.tc : Thread Cert.XkvFwdIdeal.nD Cert.XkvFwdIdeal.τ).loc Cert.XkvFwdIdeal.main_arg0)
          ∧ r.2.mem ((c.tc : Thread Cert.XkvFwdIdeal.nD Cert.XkvFwdIdeal.τ).loc Cert.XkvFwdIdeal.main_arg1) = m ((c.tc : Thread Cert.XkvFwdIdeal.nD Cert.XkvFwdIdeal.τ).loc Cert.XkvFwdIdeal.main_arg1))
      ∧ θ_run (Cert.XkvFwdRefIdeal.defs (F := Ideal)) (onTc (τ := Cert.XkvFwdRefIdeal.τ) (Cert.XkvFwdRefIdeal.main (F := Ideal))) ⟨m', fun _ => 0, g'⟩ (fun r => ∀ c : Dev Cert.XkvFwdRefIdeal.nD,
          r.2.mem ((c.tc : Thread Cert.XkvFwdRefIdeal.nD Cert.XkvFwdRefIdeal.τ).loc Cert.XkvFwdRefIdeal.main_v3) = v0 c
          ∧ r.2.mem ((c.tc : Thread Cert.XkvFwdRefIdeal.nD Cert.XkvFwdRefIdeal.τ).loc Cert.XkvFwdRefIdeal.main_arg0) = m' ((c.tc : Thread Cert.XkvFwdRefIdeal.nD Cert.XkvFwdRefIdeal.τ).loc Cert.XkvFwdRefIdeal.main_arg0)
          ∧ r.2.mem ((c.tc : Thread Cert.XkvFwdRefIdeal.nD Cert.XkvFwdRefIdeal.τ).loc Cert.XkvFwdRefIdeal.main_arg1) = m' ((c.tc : Thread Cert.XkvFwdRefIdeal.nD Cert.XkvFwdRefIdeal.τ).loc Cert.XkvFwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v1_0)) (v1 : (c : Dev Cert.MergeBwdIdeal.nD) → Buf (Elt Ideal) ((c.tc : Thread Cert.MergeBwdIdeal.nD Cert.MergeBwdIdeal.τ).loc Cert.MergeBwdIdeal.main_v1_1)) (v2 : (c : Dev Cert.MergeBwdIdeal.nD) → Buf (Elt Ideal) ((c.tc : Thread Cert.MergeBwdIdeal.nD Cert.MergeBwdIdeal.τ).loc Cert.MergeBwdIdeal.main_v1_2)) (v3 : (c : Dev Cert.MergeBwdIdeal.nD) → Buf (Elt Ideal) ((c.tc : Thread Cert.MergeBwdIdeal.nD Cert.MergeBwdIdeal.τ).loc Cert.MergeBwdIdeal.main_v1_3)) (v4 : (c : Dev Cert.MergeBwdIdeal.nD) → Buf (Elt Ideal) ((c.tc : Thread Cert.MergeBwdIdeal.nD Cert.MergeBwdIdeal.τ).loc Cert.MergeBwdIdeal.main_v1_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v1_0) = v0 c
          ∧ r.2.mem ((c.tc : Thread Cert.MergeBwdIdeal.nD Cert.MergeBwdIdeal.τ).loc Cert.MergeBwdIdeal.main_v1_1) = v1 c
          ∧ r.2.mem ((c.tc : Thread Cert.MergeBwdIdeal.nD Cert.MergeBwdIdeal.τ).loc Cert.MergeBwdIdeal.main_v1_2) = v2 c
          ∧ r.2.mem ((c.tc : Thread Cert.MergeBwdIdeal.nD Cert.MergeBwdIdeal.τ).loc Cert.MergeBwdIdeal.main_v1_3) = v3 c
          ∧ r.2.mem ((c.tc : Thread Cert.MergeBwdIdeal.nD Cert.MergeBwdIdeal.τ).loc Cert.MergeBwdIdeal.main_v1_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v48) = v0 c
          ∧ r.2.mem ((c.tc : Thread Cert.MergeBwdRefIdeal.nD Cert.MergeBwdRefIdeal.τ).loc Cert.MergeBwdRefIdeal.main_v49) = v1 c
          ∧ r.2.mem ((c.tc : Thread Cert.MergeBwdRefIdeal.nD Cert.MergeBwdRefIdeal.τ).loc Cert.MergeBwdRefIdeal.main_v50) = v2 c
          ∧ r.2.mem ((c.tc : Thread Cert.MergeBwdRefIdeal.nD Cert.MergeBwdRefIdeal.τ).loc Cert.MergeBwdRefIdeal.main_v51) = v3 c
          ∧ r.2.mem ((c.tc : Thread Cert.MergeBwdRefIdeal.nD Cert.MergeBwdRefIdeal.τ).loc Cert.MergeBwdRefIdeal.main_v52) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v1)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v1) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v25) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v2_0)) (v1 : (c : Dev Cert.NormBwdIdeal.nD) → Buf (Elt Ideal) ((c.tc : Thread Cert.NormBwdIdeal.nD Cert.NormBwdIdeal.τ).loc Cert.NormBwdIdeal.main_v2_1)) (v2 : (c : Dev Cert.NormBwdIdeal.nD) → Buf (Elt Ideal) ((c.tc : Thread Cert.NormBwdIdeal.nD Cert.NormBwdIdeal.τ).loc Cert.NormBwdIdeal.main_v2_2)) (v3 : (c : Dev Cert.NormBwdIdeal.nD) → Buf (Elt Ideal) ((c.tc : Thread Cert.NormBwdIdeal.nD Cert.NormBwdIdeal.τ).loc Cert.NormBwdIdeal.main_v2_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v2_0) = v0 c
          ∧ r.2.mem ((c.tc : Thread Cert.NormBwdIdeal.nD Cert.NormBwdIdeal.τ).loc Cert.NormBwdIdeal.main_v2_1) = v1 c
          ∧ r.2.mem ((c.tc : Thread Cert.NormBwdIdeal.nD Cert.NormBwdIdeal.τ).loc Cert.NormBwdIdeal.main_v2_2) = v2 c
          ∧ r.2.mem ((c.tc : Thread Cert.NormBwdIdeal.nD Cert.NormBwdIdeal.τ).loc Cert.NormBwdIdeal.main_v2_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v37) = v0 c
          ∧ r.2.mem ((c.tc : Thread Cert.NormBwdRefIdeal.nD Cert.NormBwdRefIdeal.τ).loc Cert.NormBwdRefIdeal.main_v75) = v1 c
          ∧ r.2.mem ((c.tc : Thread Cert.NormBwdRefIdeal.nD Cert.NormBwdRefIdeal.τ).loc Cert.NormBwdRefIdeal.main_v76) = v2 c
          ∧ r.2.mem ((c.tc : Thread Cert.NormBwdRefIdeal.nD Cert.NormBwdRefIdeal.τ).loc Cert.NormBwdRefIdeal.main_v77) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v2_0)) (v1 : (c : Dev Cert.NormFwdIdeal.nD) → Buf (Elt Ideal) ((c.tc : Thread Cert.NormFwdIdeal.nD Cert.NormFwdIdeal.τ).loc Cert.NormFwdIdeal.main_v2_1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2_0) = v0 c
          ∧ r.2.mem ((c.tc : Thread Cert.NormFwdIdeal.nD Cert.NormFwdIdeal.τ).loc Cert.NormFwdIdeal.main_v2_1) = v1 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_v28) = v1 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v25) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1))

def preserves_NormBwdLast_NormBwdLastIdeal : Prop :=
  True

def algebraic_NormBwdLastIdeal_NormBwdLastRefIdeal [hNormBwdLastIdeal : Cert.NormBwdLastIdeal.Facts] [hNormBwdLastRefIdeal : Cert.NormBwdLastRefIdeal.Facts] : Prop :=
  ∀ (m : (ℓ : Loc Cert.NormBwdLastIdeal.nD Cert.NormBwdLastIdeal.τ Cert.NormBwdLastIdeal.sig) → Buf (Elt Ideal) ℓ) (g : Dev Cert.NormBwdLastIdeal.nD → PrngReg)
    (m' : (ℓ : Loc Cert.NormBwdLastRefIdeal.nD Cert.NormBwdLastRefIdeal.τ Cert.NormBwdLastRefIdeal.sig) → Buf (Elt Ideal) ℓ) (g' : Dev Cert.NormBwdLastRefIdeal.nD → PrngReg), Pre_NormBwdLastIdeal m →
    (∀ c : Dev Cert.NormBwdLastIdeal.nD,
      m' ((c.tc : Thread Cert.NormBwdLastRefIdeal.nD Cert.NormBwdLastRefIdeal.τ).loc Cert.NormBwdLastRefIdeal.main_arg0) = m ((c.tc : Thread Cert.NormBwdLastIdeal.nD Cert.NormBwdLastIdeal.τ).loc Cert.NormBwdLastIdeal.main_arg0)
      ∧ m' ((c.tc : Thread Cert.NormBwdLastRefIdeal.nD Cert.NormBwdLastRefIdeal.τ).loc Cert.NormBwdLastRefIdeal.main_arg1) = m ((c.tc : Thread Cert.NormBwdLastIdeal.nD Cert.NormBwdLastIdeal.τ).loc Cert.NormBwdLastIdeal.main_arg1)
      ∧ m' ((c.tc : Thread Cert.NormBwdLastRefIdeal.nD Cert.NormBwdLastRefIdeal.τ).loc Cert.NormBwdLastRefIdeal.main_arg2) = m ((c.tc : Thread Cert.NormBwdLastIdeal.nD Cert.NormBwdLastIdeal.τ).loc Cert.NormBwdLastIdeal.main_arg2)) →
    ∃ (v0 : (c : Dev Cert.NormBwdLastIdeal.nD) → Buf (Elt Ideal) ((c.tc : Thread Cert.NormBwdLastIdeal.nD Cert.NormBwdLastIdeal.τ).loc Cert.NormBwdLastIdeal.main_v1_0)) (v1 : (c : Dev Cert.NormBwdLastIdeal.nD) → Buf (Elt Ideal) ((c.tc : Thread Cert.NormBwdLastIdeal.nD Cert.NormBwdLastIdeal.τ).loc Cert.NormBwdLastIdeal.main_v1_1)),
      θ_run (Cert.NormBwdLastIdeal.defs (F := Ideal)) (onTc (τ := Cert.NormBwdLastIdeal.τ) (Cert.NormBwdLastIdeal.main (F := Ideal))) ⟨m, fun _ => 0, g⟩ (fun r => ∀ c : Dev Cert.NormBwdLastIdeal.nD,
          r.2.mem ((c.tc : Thread Cert.NormBwdLastIdeal.nD Cert.NormBwdLastIdeal.τ).loc Cert.NormBwdLastIdeal.main_v1_0) = v0 c
          ∧ r.2.mem ((c.tc : Thread Cert.NormBwdLastIdeal.nD Cert.NormBwdLastIdeal.τ).loc Cert.NormBwdLastIdeal.main_v1_1) = v1 c
          ∧ r.2.mem ((c.tc : Thread Cert.NormBwdLastIdeal.nD Cert.NormBwdLastIdeal.τ).loc Cert.NormBwdLastIdeal.main_arg0) = m ((c.tc : Thread Cert.NormBwdLastIdeal.nD Cert.NormBwdLastIdeal.τ).loc Cert.NormBwdLastIdeal.main_arg0)
          ∧ r.2.mem ((c.tc : Thread Cert.NormBwdLastIdeal.nD Cert.NormBwdLastIdeal.τ).loc Cert.NormBwdLastIdeal.main_arg1) = m ((c.tc : Thread Cert.NormBwdLastIdeal.nD Cert.NormBwdLastIdeal.τ).loc Cert.NormBwdLastIdeal.main_arg1)
          ∧ r.2.mem ((c.tc : Thread Cert.NormBwdLastIdeal.nD Cert.NormBwdLastIdeal.τ).loc Cert.NormBwdLastIdeal.main_arg2) = m ((c.tc : Thread Cert.NormBwdLastIdeal.nD Cert.NormBwdLastIdeal.τ).loc Cert.NormBwdLastIdeal.main_arg2))
      ∧ θ_run (Cert.NormBwdLastRefIdeal.defs (F := Ideal)) (onTc (τ := Cert.NormBwdLastRefIdeal.τ) (Cert.NormBwdLastRefIdeal.main (F := Ideal))) ⟨m', fun _ => 0, g'⟩ (fun r => ∀ c : Dev Cert.NormBwdLastRefIdeal.nD,
          r.2.mem ((c.tc : Thread Cert.NormBwdLastRefIdeal.nD Cert.NormBwdLastRefIdeal.τ).loc Cert.NormBwdLastRefIdeal.main_v37) = v0 c
          ∧ r.2.mem ((c.tc : Thread Cert.NormBwdLastRefIdeal.nD Cert.NormBwdLastRefIdeal.τ).loc Cert.NormBwdLastRefIdeal.main_v38) = v1 c
          ∧ r.2.mem ((c.tc : Thread Cert.NormBwdLastRefIdeal.nD Cert.NormBwdLastRefIdeal.τ).loc Cert.NormBwdLastRefIdeal.main_arg0) = m' ((c.tc : Thread Cert.NormBwdLastRefIdeal.nD Cert.NormBwdLastRefIdeal.τ).loc Cert.NormBwdLastRefIdeal.main_arg0)
          ∧ r.2.mem ((c.tc : Thread Cert.NormBwdLastRefIdeal.nD Cert.NormBwdLastRefIdeal.τ).loc Cert.NormBwdLastRefIdeal.main_arg1) = m' ((c.tc : Thread Cert.NormBwdLastRefIdeal.nD Cert.NormBwdLastRefIdeal.τ).loc Cert.NormBwdLastRefIdeal.main_arg1)
          ∧ r.2.mem ((c.tc : Thread Cert.NormBwdLastRefIdeal.nD Cert.NormBwdLastRefIdeal.τ).loc Cert.NormBwdLastRefIdeal.main_arg2) = m' ((c.tc : Thread Cert.NormBwdLastRefIdeal.nD Cert.NormBwdLastRefIdeal.τ).loc Cert.NormBwdLastRefIdeal.main_arg2))

def preserves_NormBwdFirst_NormBwdFirstIdeal : Prop :=
  True

def algebraic_NormBwdFirstIdeal_NormBwdFirstRefIdeal [hNormBwdFirstIdeal : Cert.NormBwdFirstIdeal.Facts] [hNormBwdFirstRefIdeal : Cert.NormBwdFirstRefIdeal.Facts] : Prop :=
  ∀ (m : (ℓ : Loc Cert.NormBwdFirstIdeal.nD Cert.NormBwdFirstIdeal.τ Cert.NormBwdFirstIdeal.sig) → Buf (Elt Ideal) ℓ) (g : Dev Cert.NormBwdFirstIdeal.nD → PrngReg)
    (m' : (ℓ : Loc Cert.NormBwdFirstRefIdeal.nD Cert.NormBwdFirstRefIdeal.τ Cert.NormBwdFirstRefIdeal.sig) → Buf (Elt Ideal) ℓ) (g' : Dev Cert.NormBwdFirstRefIdeal.nD → PrngReg), Pre_NormBwdFirstIdeal m →
    (∀ c : Dev Cert.NormBwdFirstIdeal.nD,
      m' ((c.tc : Thread Cert.NormBwdFirstRefIdeal.nD Cert.NormBwdFirstRefIdeal.τ).loc Cert.NormBwdFirstRefIdeal.main_arg0) = m ((c.tc : Thread Cert.NormBwdFirstIdeal.nD Cert.NormBwdFirstIdeal.τ).loc Cert.NormBwdFirstIdeal.main_arg0)
      ∧ m' ((c.tc : Thread Cert.NormBwdFirstRefIdeal.nD Cert.NormBwdFirstRefIdeal.τ).loc Cert.NormBwdFirstRefIdeal.main_arg1) = m ((c.tc : Thread Cert.NormBwdFirstIdeal.nD Cert.NormBwdFirstIdeal.τ).loc Cert.NormBwdFirstIdeal.main_arg1)
      ∧ m' ((c.tc : Thread Cert.NormBwdFirstRefIdeal.nD Cert.NormBwdFirstRefIdeal.τ).loc Cert.NormBwdFirstRefIdeal.main_arg2) = m ((c.tc : Thread Cert.NormBwdFirstIdeal.nD Cert.NormBwdFirstIdeal.τ).loc Cert.NormBwdFirstIdeal.main_arg2)
      ∧ m' ((c.tc : Thread Cert.NormBwdFirstRefIdeal.nD Cert.NormBwdFirstRefIdeal.τ).loc Cert.NormBwdFirstRefIdeal.main_arg3) = m ((c.tc : Thread Cert.NormBwdFirstIdeal.nD Cert.NormBwdFirstIdeal.τ).loc Cert.NormBwdFirstIdeal.main_arg3)) →
    ∃ (v0 : (c : Dev Cert.NormBwdFirstIdeal.nD) → Buf (Elt Ideal) ((c.tc : Thread Cert.NormBwdFirstIdeal.nD Cert.NormBwdFirstIdeal.τ).loc Cert.NormBwdFirstIdeal.main_v1_0)) (v1 : (c : Dev Cert.NormBwdFirstIdeal.nD) → Buf (Elt Ideal) ((c.tc : Thread Cert.NormBwdFirstIdeal.nD Cert.NormBwdFirstIdeal.τ).loc Cert.NormBwdFirstIdeal.main_v1_1)),
      θ_run (Cert.NormBwdFirstIdeal.defs (F := Ideal)) (onTc (τ := Cert.NormBwdFirstIdeal.τ) (Cert.NormBwdFirstIdeal.main (F := Ideal))) ⟨m, fun _ => 0, g⟩ (fun r => ∀ c : Dev Cert.NormBwdFirstIdeal.nD,
          r.2.mem ((c.tc : Thread Cert.NormBwdFirstIdeal.nD Cert.NormBwdFirstIdeal.τ).loc Cert.NormBwdFirstIdeal.main_v1_0) = v0 c
          ∧ r.2.mem ((c.tc : Thread Cert.NormBwdFirstIdeal.nD Cert.NormBwdFirstIdeal.τ).loc Cert.NormBwdFirstIdeal.main_v1_1) = v1 c
          ∧ r.2.mem ((c.tc : Thread Cert.NormBwdFirstIdeal.nD Cert.NormBwdFirstIdeal.τ).loc Cert.NormBwdFirstIdeal.main_arg0) = m ((c.tc : Thread Cert.NormBwdFirstIdeal.nD Cert.NormBwdFirstIdeal.τ).loc Cert.NormBwdFirstIdeal.main_arg0)
          ∧ r.2.mem ((c.tc : Thread Cert.NormBwdFirstIdeal.nD Cert.NormBwdFirstIdeal.τ).loc Cert.NormBwdFirstIdeal.main_arg1) = m ((c.tc : Thread Cert.NormBwdFirstIdeal.nD Cert.NormBwdFirstIdeal.τ).loc Cert.NormBwdFirstIdeal.main_arg1)
          ∧ r.2.mem ((c.tc : Thread Cert.NormBwdFirstIdeal.nD Cert.NormBwdFirstIdeal.τ).loc Cert.NormBwdFirstIdeal.main_arg2) = m ((c.tc : Thread Cert.NormBwdFirstIdeal.nD Cert.NormBwdFirstIdeal.τ).loc Cert.NormBwdFirstIdeal.main_arg2)
          ∧ r.2.mem ((c.tc : Thread Cert.NormBwdFirstIdeal.nD Cert.NormBwdFirstIdeal.τ).loc Cert.NormBwdFirstIdeal.main_arg3) = m ((c.tc : Thread Cert.NormBwdFirstIdeal.nD Cert.NormBwdFirstIdeal.τ).loc Cert.NormBwdFirstIdeal.main_arg3))
      ∧ θ_run (Cert.NormBwdFirstRefIdeal.defs (F := Ideal)) (onTc (τ := Cert.NormBwdFirstRefIdeal.τ) (Cert.NormBwdFirstRefIdeal.main (F := Ideal))) ⟨m', fun _ => 0, g'⟩ (fun r => ∀ c : Dev Cert.NormBwdFirstRefIdeal.nD,
          r.2.mem ((c.tc : Thread Cert.NormBwdFirstRefIdeal.nD Cert.NormBwdFirstRefIdeal.τ).loc Cert.NormBwdFirstRefIdeal.main_v37) = v0 c
          ∧ r.2.mem ((c.tc : Thread Cert.NormBwdFirstRefIdeal.nD Cert.NormBwdFirstRefIdeal.τ).loc Cert.NormBwdFirstRefIdeal.main_v38) = v1 c
          ∧ r.2.mem ((c.tc : Thread Cert.NormBwdFirstRefIdeal.nD Cert.NormBwdFirstRefIdeal.τ).loc Cert.NormBwdFirstRefIdeal.main_arg0) = m' ((c.tc : Thread Cert.NormBwdFirstRefIdeal.nD Cert.NormBwdFirstRefIdeal.τ).loc Cert.NormBwdFirstRefIdeal.main_arg0)
          ∧ r.2.mem ((c.tc : Thread Cert.NormBwdFirstRefIdeal.nD Cert.NormBwdFirstRefIdeal.τ).loc Cert.NormBwdFirstRefIdeal.main_arg1) = m' ((c.tc : Thread Cert.NormBwdFirstRefIdeal.nD Cert.NormBwdFirstRefIdeal.τ).loc Cert.NormBwdFirstRefIdeal.main_arg1)
          ∧ r.2.mem ((c.tc : Thread Cert.NormBwdFirstRefIdeal.nD Cert.NormBwdFirstRefIdeal.τ).loc Cert.NormBwdFirstRefIdeal.main_arg2) = m' ((c.tc : Thread Cert.NormBwdFirstRefIdeal.nD Cert.NormBwdFirstRefIdeal.τ).loc Cert.NormBwdFirstRefIdeal.main_arg2)
          ∧ r.2.mem ((c.tc : Thread Cert.NormBwdFirstRefIdeal.nD Cert.NormBwdFirstRefIdeal.τ).loc Cert.NormBwdFirstRefIdeal.main_arg3) = m' ((c.tc : Thread Cert.NormBwdFirstRefIdeal.nD Cert.NormBwdFirstRefIdeal.τ).loc Cert.NormBwdFirstRefIdeal.main_arg3))

def preserves_NormBwdMem_NormBwdMemIdeal : Prop :=
  True

def algebraic_NormBwdMemIdeal_NormBwdMemRefIdeal [hNormBwdMemIdeal : Cert.NormBwdMemIdeal.Facts] [hNormBwdMemRefIdeal : Cert.NormBwdMemRefIdeal.Facts] : Prop :=
  ∀ (m : (ℓ : Loc Cert.NormBwdMemIdeal.nD Cert.NormBwdMemIdeal.τ Cert.NormBwdMemIdeal.sig) → Buf (Elt Ideal) ℓ) (g : Dev Cert.NormBwdMemIdeal.nD → PrngReg)
    (m' : (ℓ : Loc Cert.NormBwdMemRefIdeal.nD Cert.NormBwdMemRefIdeal.τ Cert.NormBwdMemRefIdeal.sig) → Buf (Elt Ideal) ℓ) (g' : Dev Cert.NormBwdMemRefIdeal.nD → PrngReg), Pre_NormBwdMemIdeal m →
    (∀ c : Dev Cert.NormBwdMemIdeal.nD,
      m' ((c.tc : Thread Cert.NormBwdMemRefIdeal.nD Cert.NormBwdMemRefIdeal.τ).loc Cert.NormBwdMemRefIdeal.main_arg0) = m ((c.tc : Thread Cert.NormBwdMemIdeal.nD Cert.NormBwdMemIdeal.τ).loc Cert.NormBwdMemIdeal.main_arg0)
      ∧ m' ((c.tc : Thread Cert.NormBwdMemRefIdeal.nD Cert.NormBwdMemRefIdeal.τ).loc Cert.NormBwdMemRefIdeal.main_arg1) = m ((c.tc : Thread Cert.NormBwdMemIdeal.nD Cert.NormBwdMemIdeal.τ).loc Cert.NormBwdMemIdeal.main_arg1)
      ∧ m' ((c.tc : Thread Cert.NormBwdMemRefIdeal.nD Cert.NormBwdMemRefIdeal.τ).loc Cert.NormBwdMemRefIdeal.main_arg2) = m ((c.tc : Thread Cert.NormBwdMemIdeal.nD Cert.NormBwdMemIdeal.τ).loc Cert.NormBwdMemIdeal.main_arg2)) →
    ∃ (v0 : (c : Dev Cert.NormBwdMemIdeal.nD) → Buf (Elt Ideal) ((c.tc : Thread Cert.NormBwdMemIdeal.nD Cert.NormBwdMemIdeal.τ).loc Cert.NormBwdMemIdeal.main_v1)),
      θ_run (Cert.NormBwdMemIdeal.defs (F := Ideal)) (onTc (τ := Cert.NormBwdMemIdeal.τ) (Cert.NormBwdMemIdeal.main (F := Ideal))) ⟨m, fun _ => 0, g⟩ (fun r => ∀ c : Dev Cert.NormBwdMemIdeal.nD,
          r.2.mem ((c.tc : Thread Cert.NormBwdMemIdeal.nD Cert.NormBwdMemIdeal.τ).loc Cert.NormBwdMemIdeal.main_v1) = v0 c
          ∧ r.2.mem ((c.tc : Thread Cert.NormBwdMemIdeal.nD Cert.NormBwdMemIdeal.τ).loc Cert.NormBwdMemIdeal.main_arg0) = m ((c.tc : Thread Cert.NormBwdMemIdeal.nD Cert.NormBwdMemIdeal.τ).loc Cert.NormBwdMemIdeal.main_arg0)
          ∧ r.2.mem ((c.tc : Thread Cert.NormBwdMemIdeal.nD Cert.NormBwdMemIdeal.τ).loc Cert.NormBwdMemIdeal.main_arg1) = m ((c.tc : Thread Cert.NormBwdMemIdeal.nD Cert.NormBwdMemIdeal.τ).loc Cert.NormBwdMemIdeal.main_arg1)
          ∧ r.2.mem ((c.tc : Thread Cert.NormBwdMemIdeal.nD Cert.NormBwdMemIdeal.τ).loc Cert.NormBwdMemIdeal.main_arg2) = m ((c.tc : Thread Cert.NormBwdMemIdeal.nD Cert.NormBwdMemIdeal.τ).loc Cert.NormBwdMemIdeal.main_arg2))
      ∧ θ_run (Cert.NormBwdMemRefIdeal.defs (F := Ideal)) (onTc (τ := Cert.NormBwdMemRefIdeal.τ) (Cert.NormBwdMemRefIdeal.main (F := Ideal))) ⟨m', fun _ => 0, g'⟩ (fun r => ∀ c : Dev Cert.NormBwdMemRefIdeal.nD,
          r.2.mem ((c.tc : Thread Cert.NormBwdMemRefIdeal.nD Cert.NormBwdMemRefIdeal.τ).loc Cert.NormBwdMemRefIdeal.main_v17) = v0 c
          ∧ r.2.mem ((c.tc : Thread Cert.NormBwdMemRefIdeal.nD Cert.NormBwdMemRefIdeal.τ).loc Cert.NormBwdMemRefIdeal.main_arg0) = m' ((c.tc : Thread Cert.NormBwdMemRefIdeal.nD Cert.NormBwdMemRefIdeal.τ).loc Cert.NormBwdMemRefIdeal.main_arg0)
          ∧ r.2.mem ((c.tc : Thread Cert.NormBwdMemRefIdeal.nD Cert.NormBwdMemRefIdeal.τ).loc Cert.NormBwdMemRefIdeal.main_arg1) = m' ((c.tc : Thread Cert.NormBwdMemRefIdeal.nD Cert.NormBwdMemRefIdeal.τ).loc Cert.NormBwdMemRefIdeal.main_arg1)
          ∧ r.2.mem ((c.tc : Thread Cert.NormBwdMemRefIdeal.nD Cert.NormBwdMemRefIdeal.τ).loc Cert.NormBwdMemRefIdeal.main_arg2) = m' ((c.tc : Thread Cert.NormBwdMemRefIdeal.nD Cert.NormBwdMemRefIdeal.τ).loc Cert.NormBwdMemRefIdeal.main_arg2))

def preserves_NormFwdLast_NormFwdLastIdeal : Prop :=
  True

def algebraic_NormFwdLastIdeal_NormFwdLastRefIdeal [hNormFwdLastIdeal : Cert.NormFwdLastIdeal.Facts] [hNormFwdLastRefIdeal : Cert.NormFwdLastRefIdeal.Facts] : Prop :=
  ∀ (m : (ℓ : Loc Cert.NormFwdLastIdeal.nD Cert.NormFwdLastIdeal.τ Cert.NormFwdLastIdeal.sig) → Buf (Elt Ideal) ℓ) (g : Dev Cert.NormFwdLastIdeal.nD → PrngReg)
    (m' : (ℓ : Loc Cert.NormFwdLastRefIdeal.nD Cert.NormFwdLastRefIdeal.τ Cert.NormFwdLastRefIdeal.sig) → Buf (Elt Ideal) ℓ) (g' : Dev Cert.NormFwdLastRefIdeal.nD → PrngReg), Pre_NormFwdLastIdeal m →
    (∀ c : Dev Cert.NormFwdLastIdeal.nD,
      m' ((c.tc : Thread Cert.NormFwdLastRefIdeal.nD Cert.NormFwdLastRefIdeal.τ).loc Cert.NormFwdLastRefIdeal.main_arg0) = m ((c.tc : Thread Cert.NormFwdLastIdeal.nD Cert.NormFwdLastIdeal.τ).loc Cert.NormFwdLastIdeal.main_arg0)
      ∧ m' ((c.tc : Thread Cert.NormFwdLastRefIdeal.nD Cert.NormFwdLastRefIdeal.τ).loc Cert.NormFwdLastRefIdeal.main_arg1) = m ((c.tc : Thread Cert.NormFwdLastIdeal.nD Cert.NormFwdLastIdeal.τ).loc Cert.NormFwdLastIdeal.main_arg1)
      ∧ m' ((c.tc : Thread Cert.NormFwdLastRefIdeal.nD Cert.NormFwdLastRefIdeal.τ).loc Cert.NormFwdLastRefIdeal.main_arg2) = m ((c.tc : Thread Cert.NormFwdLastIdeal.nD Cert.NormFwdLastIdeal.τ).loc Cert.NormFwdLastIdeal.main_arg2)) →
    ∃ (v0 : (c : Dev Cert.NormFwdLastIdeal.nD) → Buf (Elt Ideal) ((c.tc : Thread Cert.NormFwdLastIdeal.nD Cert.NormFwdLastIdeal.τ).loc Cert.NormFwdLastIdeal.main_v1)),
      θ_run (Cert.NormFwdLastIdeal.defs (F := Ideal)) (onTc (τ := Cert.NormFwdLastIdeal.τ) (Cert.NormFwdLastIdeal.main (F := Ideal))) ⟨m, fun _ => 0, g⟩ (fun r => ∀ c : Dev Cert.NormFwdLastIdeal.nD,
          r.2.mem ((c.tc : Thread Cert.NormFwdLastIdeal.nD Cert.NormFwdLastIdeal.τ).loc Cert.NormFwdLastIdeal.main_v1) = v0 c
          ∧ r.2.mem ((c.tc : Thread Cert.NormFwdLastIdeal.nD Cert.NormFwdLastIdeal.τ).loc Cert.NormFwdLastIdeal.main_arg0) = m ((c.tc : Thread Cert.NormFwdLastIdeal.nD Cert.NormFwdLastIdeal.τ).loc Cert.NormFwdLastIdeal.main_arg0)
          ∧ r.2.mem ((c.tc : Thread Cert.NormFwdLastIdeal.nD Cert.NormFwdLastIdeal.τ).loc Cert.NormFwdLastIdeal.main_arg1) = m ((c.tc : Thread Cert.NormFwdLastIdeal.nD Cert.NormFwdLastIdeal.τ).loc Cert.NormFwdLastIdeal.main_arg1)
          ∧ r.2.mem ((c.tc : Thread Cert.NormFwdLastIdeal.nD Cert.NormFwdLastIdeal.τ).loc Cert.NormFwdLastIdeal.main_arg2) = m ((c.tc : Thread Cert.NormFwdLastIdeal.nD Cert.NormFwdLastIdeal.τ).loc Cert.NormFwdLastIdeal.main_arg2))
      ∧ θ_run (Cert.NormFwdLastRefIdeal.defs (F := Ideal)) (onTc (τ := Cert.NormFwdLastRefIdeal.τ) (Cert.NormFwdLastRefIdeal.main (F := Ideal))) ⟨m', fun _ => 0, g'⟩ (fun r => ∀ c : Dev Cert.NormFwdLastRefIdeal.nD,
          r.2.mem ((c.tc : Thread Cert.NormFwdLastRefIdeal.nD Cert.NormFwdLastRefIdeal.τ).loc Cert.NormFwdLastRefIdeal.main_v14) = v0 c
          ∧ r.2.mem ((c.tc : Thread Cert.NormFwdLastRefIdeal.nD Cert.NormFwdLastRefIdeal.τ).loc Cert.NormFwdLastRefIdeal.main_arg0) = m' ((c.tc : Thread Cert.NormFwdLastRefIdeal.nD Cert.NormFwdLastRefIdeal.τ).loc Cert.NormFwdLastRefIdeal.main_arg0)
          ∧ r.2.mem ((c.tc : Thread Cert.NormFwdLastRefIdeal.nD Cert.NormFwdLastRefIdeal.τ).loc Cert.NormFwdLastRefIdeal.main_arg1) = m' ((c.tc : Thread Cert.NormFwdLastRefIdeal.nD Cert.NormFwdLastRefIdeal.τ).loc Cert.NormFwdLastRefIdeal.main_arg1)
          ∧ r.2.mem ((c.tc : Thread Cert.NormFwdLastRefIdeal.nD Cert.NormFwdLastRefIdeal.τ).loc Cert.NormFwdLastRefIdeal.main_arg2) = m' ((c.tc : Thread Cert.NormFwdLastRefIdeal.nD Cert.NormFwdLastRefIdeal.τ).loc Cert.NormFwdLastRefIdeal.main_arg2))

def preserves_NormFwdFirst_NormFwdFirstIdeal : Prop :=
  True

def algebraic_NormFwdFirstIdeal_NormFwdFirstRefIdeal [hNormFwdFirstIdeal : Cert.NormFwdFirstIdeal.Facts] [hNormFwdFirstRefIdeal : Cert.NormFwdFirstRefIdeal.Facts] : Prop :=
  ∀ (m : (ℓ : Loc Cert.NormFwdFirstIdeal.nD Cert.NormFwdFirstIdeal.τ Cert.NormFwdFirstIdeal.sig) → Buf (Elt Ideal) ℓ) (g : Dev Cert.NormFwdFirstIdeal.nD → PrngReg)
    (m' : (ℓ : Loc Cert.NormFwdFirstRefIdeal.nD Cert.NormFwdFirstRefIdeal.τ Cert.NormFwdFirstRefIdeal.sig) → Buf (Elt Ideal) ℓ) (g' : Dev Cert.NormFwdFirstRefIdeal.nD → PrngReg), Pre_NormFwdFirstIdeal m →
    (∀ c : Dev Cert.NormFwdFirstIdeal.nD,
      m' ((c.tc : Thread Cert.NormFwdFirstRefIdeal.nD Cert.NormFwdFirstRefIdeal.τ).loc Cert.NormFwdFirstRefIdeal.main_arg0) = m ((c.tc : Thread Cert.NormFwdFirstIdeal.nD Cert.NormFwdFirstIdeal.τ).loc Cert.NormFwdFirstIdeal.main_arg0)
      ∧ m' ((c.tc : Thread Cert.NormFwdFirstRefIdeal.nD Cert.NormFwdFirstRefIdeal.τ).loc Cert.NormFwdFirstRefIdeal.main_arg1) = m ((c.tc : Thread Cert.NormFwdFirstIdeal.nD Cert.NormFwdFirstIdeal.τ).loc Cert.NormFwdFirstIdeal.main_arg1)) →
    ∃ (v0 : (c : Dev Cert.NormFwdFirstIdeal.nD) → Buf (Elt Ideal) ((c.tc : Thread Cert.NormFwdFirstIdeal.nD Cert.NormFwdFirstIdeal.τ).loc Cert.NormFwdFirstIdeal.main_v1)),
      θ_run (Cert.NormFwdFirstIdeal.defs (F := Ideal)) (onTc (τ := Cert.NormFwdFirstIdeal.τ) (Cert.NormFwdFirstIdeal.main (F := Ideal))) ⟨m, fun _ => 0, g⟩ (fun r => ∀ c : Dev Cert.NormFwdFirstIdeal.nD,
          r.2.mem ((c.tc : Thread Cert.NormFwdFirstIdeal.nD Cert.NormFwdFirstIdeal.τ).loc Cert.NormFwdFirstIdeal.main_v1) = v0 c
          ∧ r.2.mem ((c.tc : Thread Cert.NormFwdFirstIdeal.nD Cert.NormFwdFirstIdeal.τ).loc Cert.NormFwdFirstIdeal.main_arg0) = m ((c.tc : Thread Cert.NormFwdFirstIdeal.nD Cert.NormFwdFirstIdeal.τ).loc Cert.NormFwdFirstIdeal.main_arg0)
          ∧ r.2.mem ((c.tc : Thread Cert.NormFwdFirstIdeal.nD Cert.NormFwdFirstIdeal.τ).loc Cert.NormFwdFirstIdeal.main_arg1) = m ((c.tc : Thread Cert.NormFwdFirstIdeal.nD Cert.NormFwdFirstIdeal.τ).loc Cert.NormFwdFirstIdeal.main_arg1))
      ∧ θ_run (Cert.NormFwdFirstRefIdeal.defs (F := Ideal)) (onTc (τ := Cert.NormFwdFirstRefIdeal.τ) (Cert.NormFwdFirstRefIdeal.main (F := Ideal))) ⟨m', fun _ => 0, g'⟩ (fun r => ∀ c : Dev Cert.NormFwdFirstRefIdeal.nD,
          r.2.mem ((c.tc : Thread Cert.NormFwdFirstRefIdeal.nD Cert.NormFwdFirstRefIdeal.τ).loc Cert.NormFwdFirstRefIdeal.main_v13) = v0 c
          ∧ r.2.mem ((c.tc : Thread Cert.NormFwdFirstRefIdeal.nD Cert.NormFwdFirstRefIdeal.τ).loc Cert.NormFwdFirstRefIdeal.main_arg0) = m' ((c.tc : Thread Cert.NormFwdFirstRefIdeal.nD Cert.NormFwdFirstRefIdeal.τ).loc Cert.NormFwdFirstRefIdeal.main_arg0)
          ∧ r.2.mem ((c.tc : Thread Cert.NormFwdFirstRefIdeal.nD Cert.NormFwdFirstRefIdeal.τ).loc Cert.NormFwdFirstRefIdeal.main_arg1) = m' ((c.tc : Thread Cert.NormFwdFirstRefIdeal.nD Cert.NormFwdFirstRefIdeal.τ).loc Cert.NormFwdFirstRefIdeal.main_arg1))

def preserves_NormFwdMem_NormFwdMemIdeal : Prop :=
  True

def algebraic_NormFwdMemIdeal_NormFwdMemRefIdeal [hNormFwdMemIdeal : Cert.NormFwdMemIdeal.Facts] [hNormFwdMemRefIdeal : Cert.NormFwdMemRefIdeal.Facts] : Prop :=
  ∀ (m : (ℓ : Loc Cert.NormFwdMemIdeal.nD Cert.NormFwdMemIdeal.τ Cert.NormFwdMemIdeal.sig) → Buf (Elt Ideal) ℓ) (g : Dev Cert.NormFwdMemIdeal.nD → PrngReg)
    (m' : (ℓ : Loc Cert.NormFwdMemRefIdeal.nD Cert.NormFwdMemRefIdeal.τ Cert.NormFwdMemRefIdeal.sig) → Buf (Elt Ideal) ℓ) (g' : Dev Cert.NormFwdMemRefIdeal.nD → PrngReg), Pre_NormFwdMemIdeal m →
    (∀ c : Dev Cert.NormFwdMemIdeal.nD,
      m' ((c.tc : Thread Cert.NormFwdMemRefIdeal.nD Cert.NormFwdMemRefIdeal.τ).loc Cert.NormFwdMemRefIdeal.main_arg0) = m ((c.tc : Thread Cert.NormFwdMemIdeal.nD Cert.NormFwdMemIdeal.τ).loc Cert.NormFwdMemIdeal.main_arg0)
      ∧ m' ((c.tc : Thread Cert.NormFwdMemRefIdeal.nD Cert.NormFwdMemRefIdeal.τ).loc Cert.NormFwdMemRefIdeal.main_arg1) = m ((c.tc : Thread Cert.NormFwdMemIdeal.nD Cert.NormFwdMemIdeal.τ).loc Cert.NormFwdMemIdeal.main_arg1)) →
    ∃ (v0 : (c : Dev Cert.NormFwdMemIdeal.nD) → Buf (Elt Ideal) ((c.tc : Thread Cert.NormFwdMemIdeal.nD Cert.NormFwdMemIdeal.τ).loc Cert.NormFwdMemIdeal.main_v1)),
      θ_run (Cert.NormFwdMemIdeal.defs (F := Ideal)) (onTc (τ := Cert.NormFwdMemIdeal.τ) (Cert.NormFwdMemIdeal.main (F := Ideal))) ⟨m, fun _ => 0, g⟩ (fun r => ∀ c : Dev Cert.NormFwdMemIdeal.nD,
          r.2.mem ((c.tc : Thread Cert.NormFwdMemIdeal.nD Cert.NormFwdMemIdeal.τ).loc Cert.NormFwdMemIdeal.main_v1) = v0 c
          ∧ r.2.mem ((c.tc : Thread Cert.NormFwdMemIdeal.nD Cert.NormFwdMemIdeal.τ).loc Cert.NormFwdMemIdeal.main_arg0) = m ((c.tc : Thread Cert.NormFwdMemIdeal.nD Cert.NormFwdMemIdeal.τ).loc Cert.NormFwdMemIdeal.main_arg0)
          ∧ r.2.mem ((c.tc : Thread Cert.NormFwdMemIdeal.nD Cert.NormFwdMemIdeal.τ).loc Cert.NormFwdMemIdeal.main_arg1) = m ((c.tc : Thread Cert.NormFwdMemIdeal.nD Cert.NormFwdMemIdeal.τ).loc Cert.NormFwdMemIdeal.main_arg1))
      ∧ θ_run (Cert.NormFwdMemRefIdeal.defs (F := Ideal)) (onTc (τ := Cert.NormFwdMemRefIdeal.τ) (Cert.NormFwdMemRefIdeal.main (F := Ideal))) ⟨m', fun _ => 0, g'⟩ (fun r => ∀ c : Dev Cert.NormFwdMemRefIdeal.nD,
          r.2.mem ((c.tc : Thread Cert.NormFwdMemRefIdeal.nD Cert.NormFwdMemRefIdeal.τ).loc Cert.NormFwdMemRefIdeal.main_v13) = v0 c
          ∧ r.2.mem ((c.tc : Thread Cert.NormFwdMemRefIdeal.nD Cert.NormFwdMemRefIdeal.τ).loc Cert.NormFwdMemRefIdeal.main_arg0) = m' ((c.tc : Thread Cert.NormFwdMemRefIdeal.nD Cert.NormFwdMemRefIdeal.τ).loc Cert.NormFwdMemRefIdeal.main_arg0)
          ∧ r.2.mem ((c.tc : Thread Cert.NormFwdMemRefIdeal.nD Cert.NormFwdMemRefIdeal.τ).loc Cert.NormFwdMemRefIdeal.main_arg1) = m' ((c.tc : Thread Cert.NormFwdMemRefIdeal.nD Cert.NormFwdMemRefIdeal.τ).loc Cert.NormFwdMemRefIdeal.main_arg1))

def preserves_ConvNormBwd_ConvNormBwdIdeal : Prop :=
  True

def algebraic_ConvNormBwdIdeal_ConvNormBwdRefIdeal_pre_finite_grad [hConvNormBwdIdeal : Cert.ConvNormBwdIdeal.Facts] [hConvNormBwdRefIdeal : Cert.ConvNormBwdRefIdeal.Facts] [hPre_finite_grad : Cert.Pre_finite_grad.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg)
    (m' : (ℓ : Loc Cert.ConvNormBwdRefIdeal.nD Cert.ConvNormBwdRefIdeal.τ Cert.ConvNormBwdRefIdeal.sig) → Buf (Elt Ideal) ℓ) (g' : Dev Cert.ConvNormBwdRefIdeal.nD → PrngReg), Pre_ConvNormBwdIdeal_finite_grad m →
    (∀ c : Dev Cert.ConvNormBwdIdeal.nD,
      m' ((c.tc : Thread Cert.ConvNormBwdRefIdeal.nD Cert.ConvNormBwdRefIdeal.τ).loc Cert.ConvNormBwdRefIdeal.main_arg0) = m ((c.tc : Thread Cert.ConvNormBwdIdeal.nD Cert.ConvNormBwdIdeal.τ).loc Cert.ConvNormBwdIdeal.main_arg0)
      ∧ m' ((c.tc : Thread Cert.ConvNormBwdRefIdeal.nD Cert.ConvNormBwdRefIdeal.τ).loc Cert.ConvNormBwdRefIdeal.main_arg1) = m ((c.tc : Thread Cert.ConvNormBwdIdeal.nD Cert.ConvNormBwdIdeal.τ).loc Cert.ConvNormBwdIdeal.main_arg1)
      ∧ m' ((c.tc : Thread Cert.ConvNormBwdRefIdeal.nD Cert.ConvNormBwdRefIdeal.τ).loc Cert.ConvNormBwdRefIdeal.main_arg2) = m ((c.tc : Thread Cert.ConvNormBwdIdeal.nD Cert.ConvNormBwdIdeal.τ).loc Cert.ConvNormBwdIdeal.main_arg2)
      ∧ m' ((c.tc : Thread Cert.ConvNormBwdRefIdeal.nD Cert.ConvNormBwdRefIdeal.τ).loc Cert.ConvNormBwdRefIdeal.main_arg3) = m ((c.tc : Thread Cert.ConvNormBwdIdeal.nD Cert.ConvNormBwdIdeal.τ).loc Cert.ConvNormBwdIdeal.main_arg3)) →
    ∃ (v0 : (c : Dev Cert.ConvNormBwdIdeal.nD) → Buf (Elt Ideal) ((c.tc : Thread Cert.ConvNormBwdIdeal.nD Cert.ConvNormBwdIdeal.τ).loc Cert.ConvNormBwdIdeal.main_v2_0)) (v1 : (c : Dev Cert.ConvNormBwdIdeal.nD) → Buf (Elt Ideal) ((c.tc : Thread Cert.ConvNormBwdIdeal.nD Cert.ConvNormBwdIdeal.τ).loc Cert.ConvNormBwdIdeal.main_v2_1)) (v2 : (c : Dev Cert.ConvNormBwdIdeal.nD) → Buf (Elt Ideal) ((c.tc : Thread Cert.ConvNormBwdIdeal.nD Cert.ConvNormBwdIdeal.τ).loc Cert.ConvNormBwdIdeal.main_v2_2)) (v3 : (c : Dev Cert.ConvNormBwdIdeal.nD) → Buf (Elt Ideal) ((c.tc : Thread Cert.ConvNormBwdIdeal.nD Cert.ConvNormBwdIdeal.τ).loc Cert.ConvNormBwdIdeal.main_v2_3)),
      θ_run (Cert.ConvNormBwdIdeal.defs (F := Ideal)) (onTc (τ := Cert.ConvNormBwdIdeal.τ) (Cert.ConvNormBwdIdeal.main (F := Ideal))) ⟨m, fun _ => 0, g⟩ (fun r => ∀ c : Dev Cert.ConvNormBwdIdeal.nD,
          r.2.mem ((c.tc : Thread Cert.ConvNormBwdIdeal.nD Cert.ConvNormBwdIdeal.τ).loc Cert.ConvNormBwdIdeal.main_v2_0) = v0 c
          ∧ r.2.mem ((c.tc : Thread Cert.ConvNormBwdIdeal.nD Cert.ConvNormBwdIdeal.τ).loc Cert.ConvNormBwdIdeal.main_v2_1) = v1 c
          ∧ r.2.mem ((c.tc : Thread Cert.ConvNormBwdIdeal.nD Cert.ConvNormBwdIdeal.τ).loc Cert.ConvNormBwdIdeal.main_v2_2) = v2 c
          ∧ r.2.mem ((c.tc : Thread Cert.ConvNormBwdIdeal.nD Cert.ConvNormBwdIdeal.τ).loc Cert.ConvNormBwdIdeal.main_v2_3) = v3 c
          ∧ r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
          ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
          ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
          ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3))
      ∧ θ_run (Cert.ConvNormBwdRefIdeal.defs (F := Ideal)) (onTc (τ := Cert.ConvNormBwdRefIdeal.τ) (Cert.ConvNormBwdRefIdeal.main (F := Ideal))) ⟨m', fun _ => 0, g'⟩ (fun r => ∀ c : Dev Cert.ConvNormBwdRefIdeal.nD,
          r.2.mem ((c.tc : Thread Cert.ConvNormBwdRefIdeal.nD Cert.ConvNormBwdRefIdeal.τ).loc Cert.ConvNormBwdRefIdeal.main_v64) = v0 c
          ∧ r.2.mem ((c.tc : Thread Cert.ConvNormBwdRefIdeal.nD Cert.ConvNormBwdRefIdeal.τ).loc Cert.ConvNormBwdRefIdeal.main_v65) = v1 c
          ∧ r.2.mem ((c.tc : Thread Cert.ConvNormBwdRefIdeal.nD Cert.ConvNormBwdRefIdeal.τ).loc Cert.ConvNormBwdRefIdeal.main_v66) = v2 c
          ∧ r.2.mem ((c.tc : Thread Cert.ConvNormBwdRefIdeal.nD Cert.ConvNormBwdRefIdeal.τ).loc Cert.ConvNormBwdRefIdeal.main_v68) = v3 c
          ∧ r.2.mem ((c.tc : Thread Cert.ConvNormBwdRefIdeal.nD Cert.ConvNormBwdRefIdeal.τ).loc Cert.ConvNormBwdRefIdeal.main_arg0) = m' ((c.tc : Thread Cert.ConvNormBwdRefIdeal.nD Cert.ConvNormBwdRefIdeal.τ).loc Cert.ConvNormBwdRefIdeal.main_arg0)
          ∧ r.2.mem ((c.tc : Thread Cert.ConvNormBwdRefIdeal.nD Cert.ConvNormBwdRefIdeal.τ).loc Cert.ConvNormBwdRefIdeal.main_arg1) = m' ((c.tc : Thread Cert.ConvNormBwdRefIdeal.nD Cert.ConvNormBwdRefIdeal.τ).loc Cert.ConvNormBwdRefIdeal.main_arg1)
          ∧ r.2.mem ((c.tc : Thread Cert.ConvNormBwdRefIdeal.nD Cert.ConvNormBwdRefIdeal.τ).loc Cert.ConvNormBwdRefIdeal.main_arg2) = m' ((c.tc : Thread Cert.ConvNormBwdRefIdeal.nD Cert.ConvNormBwdRefIdeal.τ).loc Cert.ConvNormBwdRefIdeal.main_arg2)
          ∧ r.2.mem ((c.tc : Thread Cert.ConvNormBwdRefIdeal.nD Cert.ConvNormBwdRefIdeal.τ).loc Cert.ConvNormBwdRefIdeal.main_arg3) = m' ((c.tc : Thread Cert.ConvNormBwdRefIdeal.nD Cert.ConvNormBwdRefIdeal.τ).loc Cert.ConvNormBwdRefIdeal.main_arg3))

def preserves_GatingFwd_GatingFwdIdeal : Prop :=
  True

def algebraic_GatingFwdIdeal_GatingFwdRefIdeal [hGatingFwdIdeal : Cert.GatingFwdIdeal.Facts] [hGatingFwdRefIdeal : Cert.GatingFwdRefIdeal.Facts] : Prop :=
  ∀ (m : (ℓ : Loc Cert.GatingFwdIdeal.nD Cert.GatingFwdIdeal.τ Cert.GatingFwdIdeal.sig) → Buf (Elt Ideal) ℓ) (g : Dev Cert.GatingFwdIdeal.nD → PrngReg)
    (m' : (ℓ : Loc Cert.GatingFwdRefIdeal.nD Cert.GatingFwdRefIdeal.τ Cert.GatingFwdRefIdeal.sig) → Buf (Elt Ideal) ℓ) (g' : Dev Cert.GatingFwdRefIdeal.nD → PrngReg), Pre_GatingFwdIdeal m →
    (∀ c : Dev Cert.GatingFwdIdeal.nD,
      m' ((c.tc : Thread Cert.GatingFwdRefIdeal.nD Cert.GatingFwdRefIdeal.τ).loc Cert.GatingFwdRefIdeal.main_arg0) = m ((c.tc : Thread Cert.GatingFwdIdeal.nD Cert.GatingFwdIdeal.τ).loc Cert.GatingFwdIdeal.main_arg0)
      ∧ m' ((c.tc : Thread Cert.GatingFwdRefIdeal.nD Cert.GatingFwdRefIdeal.τ).loc Cert.GatingFwdRefIdeal.main_arg1) = m ((c.tc : Thread Cert.GatingFwdIdeal.nD Cert.GatingFwdIdeal.τ).loc Cert.GatingFwdIdeal.main_arg1)
      ∧ m' ((c.tc : Thread Cert.GatingFwdRefIdeal.nD Cert.GatingFwdRefIdeal.τ).loc Cert.GatingFwdRefIdeal.main_arg2) = m ((c.tc : Thread Cert.GatingFwdIdeal.nD Cert.GatingFwdIdeal.τ).loc Cert.GatingFwdIdeal.main_arg2)
      ∧ m' ((c.tc : Thread Cert.GatingFwdRefIdeal.nD Cert.GatingFwdRefIdeal.τ).loc Cert.GatingFwdRefIdeal.main_arg3) = m ((c.tc : Thread Cert.GatingFwdIdeal.nD Cert.GatingFwdIdeal.τ).loc Cert.GatingFwdIdeal.main_arg3)
      ∧ m' ((c.tc : Thread Cert.GatingFwdRefIdeal.nD Cert.GatingFwdRefIdeal.τ).loc Cert.GatingFwdRefIdeal.main_arg4) = m ((c.tc : Thread Cert.GatingFwdIdeal.nD Cert.GatingFwdIdeal.τ).loc Cert.GatingFwdIdeal.main_arg4)) →
    ∃ (v0 : (c : Dev Cert.GatingFwdIdeal.nD) → Buf (Elt Ideal) ((c.tc : Thread Cert.GatingFwdIdeal.nD Cert.GatingFwdIdeal.τ).loc Cert.GatingFwdIdeal.main_v2)),
      θ_run (Cert.GatingFwdIdeal.defs (F := Ideal)) (onTc (τ := Cert.GatingFwdIdeal.τ) (Cert.GatingFwdIdeal.main (F := Ideal))) ⟨m, fun _ => 0, g⟩ (fun r => ∀ c : Dev Cert.GatingFwdIdeal.nD,
          r.2.mem ((c.tc : Thread Cert.GatingFwdIdeal.nD Cert.GatingFwdIdeal.τ).loc Cert.GatingFwdIdeal.main_v2) = v0 c
          ∧ r.2.mem ((c.tc : Thread Cert.GatingFwdIdeal.nD Cert.GatingFwdIdeal.τ).loc Cert.GatingFwdIdeal.main_arg0) = m ((c.tc : Thread Cert.GatingFwdIdeal.nD Cert.GatingFwdIdeal.τ).loc Cert.GatingFwdIdeal.main_arg0)
          ∧ r.2.mem ((c.tc : Thread Cert.GatingFwdIdeal.nD Cert.GatingFwdIdeal.τ).loc Cert.GatingFwdIdeal.main_arg1) = m ((c.tc : Thread Cert.GatingFwdIdeal.nD Cert.GatingFwdIdeal.τ).loc Cert.GatingFwdIdeal.main_arg1)
          ∧ r.2.mem ((c.tc : Thread Cert.GatingFwdIdeal.nD Cert.GatingFwdIdeal.τ).loc Cert.GatingFwdIdeal.main_arg2) = m ((c.tc : Thread Cert.GatingFwdIdeal.nD Cert.GatingFwdIdeal.τ).loc Cert.GatingFwdIdeal.main_arg2)
          ∧ r.2.mem ((c.tc : Thread Cert.GatingFwdIdeal.nD Cert.GatingFwdIdeal.τ).loc Cert.GatingFwdIdeal.main_arg3) = m ((c.tc : Thread Cert.GatingFwdIdeal.nD Cert.GatingFwdIdeal.τ).loc Cert.GatingFwdIdeal.main_arg3)
          ∧ r.2.mem ((c.tc : Thread Cert.GatingFwdIdeal.nD Cert.GatingFwdIdeal.τ).loc Cert.GatingFwdIdeal.main_arg4) = m ((c.tc : Thread Cert.GatingFwdIdeal.nD Cert.GatingFwdIdeal.τ).loc Cert.GatingFwdIdeal.main_arg4))
      ∧ θ_run (Cert.GatingFwdRefIdeal.defs (F := Ideal)) (onTc (τ := Cert.GatingFwdRefIdeal.τ) (Cert.GatingFwdRefIdeal.main (F := Ideal))) ⟨m', fun _ => 0, g'⟩ (fun r => ∀ c : Dev Cert.GatingFwdRefIdeal.nD,
          r.2.mem ((c.tc : Thread Cert.GatingFwdRefIdeal.nD Cert.GatingFwdRefIdeal.τ).loc Cert.GatingFwdRefIdeal.main_v52) = v0 c
          ∧ r.2.mem ((c.tc : Thread Cert.GatingFwdRefIdeal.nD Cert.GatingFwdRefIdeal.τ).loc Cert.GatingFwdRefIdeal.main_arg0) = m' ((c.tc : Thread Cert.GatingFwdRefIdeal.nD Cert.GatingFwdRefIdeal.τ).loc Cert.GatingFwdRefIdeal.main_arg0)
          ∧ r.2.mem ((c.tc : Thread Cert.GatingFwdRefIdeal.nD Cert.GatingFwdRefIdeal.τ).loc Cert.GatingFwdRefIdeal.main_arg1) = m' ((c.tc : Thread Cert.GatingFwdRefIdeal.nD Cert.GatingFwdRefIdeal.τ).loc Cert.GatingFwdRefIdeal.main_arg1)
          ∧ r.2.mem ((c.tc : Thread Cert.GatingFwdRefIdeal.nD Cert.GatingFwdRefIdeal.τ).loc Cert.GatingFwdRefIdeal.main_arg2) = m' ((c.tc : Thread Cert.GatingFwdRefIdeal.nD Cert.GatingFwdRefIdeal.τ).loc Cert.GatingFwdRefIdeal.main_arg2)
          ∧ r.2.mem ((c.tc : Thread Cert.GatingFwdRefIdeal.nD Cert.GatingFwdRefIdeal.τ).loc Cert.GatingFwdRefIdeal.main_arg3) = m' ((c.tc : Thread Cert.GatingFwdRefIdeal.nD Cert.GatingFwdRefIdeal.τ).loc Cert.GatingFwdRefIdeal.main_arg3)
          ∧ r.2.mem ((c.tc : Thread Cert.GatingFwdRefIdeal.nD Cert.GatingFwdRefIdeal.τ).loc Cert.GatingFwdRefIdeal.main_arg4) = m' ((c.tc : Thread Cert.GatingFwdRefIdeal.nD Cert.GatingFwdRefIdeal.τ).loc Cert.GatingFwdRefIdeal.main_arg4))

def preserves_AttnCombine_AttnCombineIdeal : Prop :=
  True

def algebraic_AttnCombineIdeal_AttnCombineRefIdeal_pre_finite_lse [hAttnCombineIdeal : Cert.AttnCombineIdeal.Facts] [hAttnCombineRefIdeal : Cert.AttnCombineRefIdeal.Facts] [hPre_finite_lse : Cert.Pre_finite_lse.Facts] : Prop :=
  ∀ (m : (ℓ : Loc Cert.AttnCombineIdeal.nD Cert.AttnCombineIdeal.τ Cert.AttnCombineIdeal.sig) → Buf (Elt Ideal) ℓ) (g : Dev Cert.AttnCombineIdeal.nD → PrngReg)
    (m' : (ℓ : Loc Cert.AttnCombineRefIdeal.nD Cert.AttnCombineRefIdeal.τ Cert.AttnCombineRefIdeal.sig) → Buf (Elt Ideal) ℓ) (g' : Dev Cert.AttnCombineRefIdeal.nD → PrngReg), Pre_AttnCombineIdeal_finite_lse m →
    (∀ c : Dev Cert.AttnCombineIdeal.nD,
      m' ((c.tc : Thread Cert.AttnCombineRefIdeal.nD Cert.AttnCombineRefIdeal.τ).loc Cert.AttnCombineRefIdeal.main_arg0) = m ((c.tc : Thread Cert.AttnCombineIdeal.nD Cert.AttnCombineIdeal.τ).loc Cert.AttnCombineIdeal.main_arg0)
      ∧ m' ((c.tc : Thread Cert.AttnCombineRefIdeal.nD Cert.AttnCombineRefIdeal.τ).loc Cert.AttnCombineRefIdeal.main_arg1) = m ((c.tc : Thread Cert.AttnCombineIdeal.nD Cert.AttnCombineIdeal.τ).loc Cert.AttnCombineIdeal.main_arg1)
      ∧ m' ((c.tc : Thread Cert.AttnCombineRefIdeal.nD Cert.AttnCombineRefIdeal.τ).loc Cert.AttnCombineRefIdeal.main_arg2) = m ((c.tc : Thread Cert.AttnCombineIdeal.nD Cert.AttnCombineIdeal.τ).loc Cert.AttnCombineIdeal.main_arg2)
      ∧ m' ((c.tc : Thread Cert.AttnCombineRefIdeal.nD Cert.AttnCombineRefIdeal.τ).loc Cert.AttnCombineRefIdeal.main_arg3) = m ((c.tc : Thread Cert.AttnCombineIdeal.nD Cert.AttnCombineIdeal.τ).loc Cert.AttnCombineIdeal.main_arg3)
      ∧ m' ((c.tc : Thread Cert.AttnCombineRefIdeal.nD Cert.AttnCombineRefIdeal.τ).loc Cert.AttnCombineRefIdeal.main_arg4) = m ((c.tc : Thread Cert.AttnCombineIdeal.nD Cert.AttnCombineIdeal.τ).loc Cert.AttnCombineIdeal.main_arg4)
      ∧ m' ((c.tc : Thread Cert.AttnCombineRefIdeal.nD Cert.AttnCombineRefIdeal.τ).loc Cert.AttnCombineRefIdeal.main_arg5) = m ((c.tc : Thread Cert.AttnCombineIdeal.nD Cert.AttnCombineIdeal.τ).loc Cert.AttnCombineIdeal.main_arg5)) →
    ∃ (v0 : (c : Dev Cert.AttnCombineIdeal.nD) → Buf (Elt Ideal) ((c.tc : Thread Cert.AttnCombineIdeal.nD Cert.AttnCombineIdeal.τ).loc Cert.AttnCombineIdeal.main_v0_0)) (v1 : (c : Dev Cert.AttnCombineIdeal.nD) → Buf (Elt Ideal) ((c.tc : Thread Cert.AttnCombineIdeal.nD Cert.AttnCombineIdeal.τ).loc Cert.AttnCombineIdeal.main_v0_1)),
      θ_run (Cert.AttnCombineIdeal.defs (F := Ideal)) (onTc (τ := Cert.AttnCombineIdeal.τ) (Cert.AttnCombineIdeal.main (F := Ideal))) ⟨m, fun _ => 0, g⟩ (fun r => ∀ c : Dev Cert.AttnCombineIdeal.nD,
          r.2.mem ((c.tc : Thread Cert.AttnCombineIdeal.nD Cert.AttnCombineIdeal.τ).loc Cert.AttnCombineIdeal.main_v0_0) = v0 c
          ∧ r.2.mem ((c.tc : Thread Cert.AttnCombineIdeal.nD Cert.AttnCombineIdeal.τ).loc Cert.AttnCombineIdeal.main_v0_1) = v1 c
          ∧ r.2.mem ((c.tc : Thread Cert.AttnCombineIdeal.nD Cert.AttnCombineIdeal.τ).loc Cert.AttnCombineIdeal.main_arg0) = m ((c.tc : Thread Cert.AttnCombineIdeal.nD Cert.AttnCombineIdeal.τ).loc Cert.AttnCombineIdeal.main_arg0)
          ∧ r.2.mem ((c.tc : Thread Cert.AttnCombineIdeal.nD Cert.AttnCombineIdeal.τ).loc Cert.AttnCombineIdeal.main_arg1) = m ((c.tc : Thread Cert.AttnCombineIdeal.nD Cert.AttnCombineIdeal.τ).loc Cert.AttnCombineIdeal.main_arg1)
          ∧ r.2.mem ((c.tc : Thread Cert.AttnCombineIdeal.nD Cert.AttnCombineIdeal.τ).loc Cert.AttnCombineIdeal.main_arg2) = m ((c.tc : Thread Cert.AttnCombineIdeal.nD Cert.AttnCombineIdeal.τ).loc Cert.AttnCombineIdeal.main_arg2)
          ∧ r.2.mem ((c.tc : Thread Cert.AttnCombineIdeal.nD Cert.AttnCombineIdeal.τ).loc Cert.AttnCombineIdeal.main_arg3) = m ((c.tc : Thread Cert.AttnCombineIdeal.nD Cert.AttnCombineIdeal.τ).loc Cert.AttnCombineIdeal.main_arg3)
          ∧ r.2.mem ((c.tc : Thread Cert.AttnCombineIdeal.nD Cert.AttnCombineIdeal.τ).loc Cert.AttnCombineIdeal.main_arg4) = m ((c.tc : Thread Cert.AttnCombineIdeal.nD Cert.AttnCombineIdeal.τ).loc Cert.AttnCombineIdeal.main_arg4)
          ∧ r.2.mem ((c.tc : Thread Cert.AttnCombineIdeal.nD Cert.AttnCombineIdeal.τ).loc Cert.AttnCombineIdeal.main_arg5) = m ((c.tc : Thread Cert.AttnCombineIdeal.nD Cert.AttnCombineIdeal.τ).loc Cert.AttnCombineIdeal.main_arg5))
      ∧ θ_run (Cert.AttnCombineRefIdeal.defs (F := Ideal)) (onTc (τ := Cert.AttnCombineRefIdeal.τ) (Cert.AttnCombineRefIdeal.main (F := Ideal))) ⟨m', fun _ => 0, g'⟩ (fun r => ∀ c : Dev Cert.AttnCombineRefIdeal.nD,
          r.2.mem ((c.tc : Thread Cert.AttnCombineRefIdeal.nD Cert.AttnCombineRefIdeal.τ).loc Cert.AttnCombineRefIdeal.main_v12) = v0 c
          ∧ r.2.mem ((c.tc : Thread Cert.AttnCombineRefIdeal.nD Cert.AttnCombineRefIdeal.τ).loc Cert.AttnCombineRefIdeal.main_v13) = v1 c
          ∧ r.2.mem ((c.tc : Thread Cert.AttnCombineRefIdeal.nD Cert.AttnCombineRefIdeal.τ).loc Cert.AttnCombineRefIdeal.main_arg0) = m' ((c.tc : Thread Cert.AttnCombineRefIdeal.nD Cert.AttnCombineRefIdeal.τ).loc Cert.AttnCombineRefIdeal.main_arg0)
          ∧ r.2.mem ((c.tc : Thread Cert.AttnCombineRefIdeal.nD Cert.AttnCombineRefIdeal.τ).loc Cert.AttnCombineRefIdeal.main_arg1) = m' ((c.tc : Thread Cert.AttnCombineRefIdeal.nD Cert.AttnCombineRefIdeal.τ).loc Cert.AttnCombineRefIdeal.main_arg1)
          ∧ r.2.mem ((c.tc : Thread Cert.AttnCombineRefIdeal.nD Cert.AttnCombineRefIdeal.τ).loc Cert.AttnCombineRefIdeal.main_arg2) = m' ((c.tc : Thread Cert.AttnCombineRefIdeal.nD Cert.AttnCombineRefIdeal.τ).loc Cert.AttnCombineRefIdeal.main_arg2)
          ∧ r.2.mem ((c.tc : Thread Cert.AttnCombineRefIdeal.nD Cert.AttnCombineRefIdeal.τ).loc Cert.AttnCombineRefIdeal.main_arg3) = m' ((c.tc : Thread Cert.AttnCombineRefIdeal.nD Cert.AttnCombineRefIdeal.τ).loc Cert.AttnCombineRefIdeal.main_arg3)
          ∧ r.2.mem ((c.tc : Thread Cert.AttnCombineRefIdeal.nD Cert.AttnCombineRefIdeal.τ).loc Cert.AttnCombineRefIdeal.main_arg4) = m' ((c.tc : Thread Cert.AttnCombineRefIdeal.nD Cert.AttnCombineRefIdeal.τ).loc Cert.AttnCombineRefIdeal.main_arg4)
          ∧ r.2.mem ((c.tc : Thread Cert.AttnCombineRefIdeal.nD Cert.AttnCombineRefIdeal.τ).loc Cert.AttnCombineRefIdeal.main_arg5) = m' ((c.tc : Thread Cert.AttnCombineRefIdeal.nD Cert.AttnCombineRefIdeal.τ).loc Cert.AttnCombineRefIdeal.main_arg5))

def preserves_AttnRowdot_AttnRowdotIdeal : Prop :=
  True

def algebraic_AttnRowdotIdeal_AttnRowdotRefIdeal [hAttnRowdotIdeal : Cert.AttnRowdotIdeal.Facts] [hAttnRowdotRefIdeal : Cert.AttnRowdotRefIdeal.Facts] : Prop :=
  ∀ (m : (ℓ : Loc Cert.AttnRowdotIdeal.nD Cert.AttnRowdotIdeal.τ Cert.AttnRowdotIdeal.sig) → Buf (Elt Ideal) ℓ) (g : Dev Cert.AttnRowdotIdeal.nD → PrngReg)
    (m' : (ℓ : Loc Cert.AttnRowdotRefIdeal.nD Cert.AttnRowdotRefIdeal.τ Cert.AttnRowdotRefIdeal.sig) → Buf (Elt Ideal) ℓ) (g' : Dev Cert.AttnRowdotRefIdeal.nD → PrngReg), Pre_AttnRowdotIdeal m →
    (∀ c : Dev Cert.AttnRowdotIdeal.nD,
      m' ((c.tc : Thread Cert.AttnRowdotRefIdeal.nD Cert.AttnRowdotRefIdeal.τ).loc Cert.AttnRowdotRefIdeal.main_arg0) = m ((c.tc : Thread Cert.AttnRowdotIdeal.nD Cert.AttnRowdotIdeal.τ).loc Cert.AttnRowdotIdeal.main_arg0)
      ∧ m' ((c.tc : Thread Cert.AttnRowdotRefIdeal.nD Cert.AttnRowdotRefIdeal.τ).loc Cert.AttnRowdotRefIdeal.main_arg1) = m ((c.tc : Thread Cert.AttnRowdotIdeal.nD Cert.AttnRowdotIdeal.τ).loc Cert.AttnRowdotIdeal.main_arg1)) →
    ∃ (v0 : (c : Dev Cert.AttnRowdotIdeal.nD) → Buf (Elt Ideal) ((c.tc : Thread Cert.AttnRowdotIdeal.nD Cert.AttnRowdotIdeal.τ).loc Cert.AttnRowdotIdeal.main_v0)),
      θ_run (Cert.AttnRowdotIdeal.defs (F := Ideal)) (onTc (τ := Cert.AttnRowdotIdeal.τ) (Cert.AttnRowdotIdeal.main (F := Ideal))) ⟨m, fun _ => 0, g⟩ (fun r => ∀ c : Dev Cert.AttnRowdotIdeal.nD,
          r.2.mem ((c.tc : Thread Cert.AttnRowdotIdeal.nD Cert.AttnRowdotIdeal.τ).loc Cert.AttnRowdotIdeal.main_v0) = v0 c
          ∧ r.2.mem ((c.tc : Thread Cert.AttnRowdotIdeal.nD Cert.AttnRowdotIdeal.τ).loc Cert.AttnRowdotIdeal.main_arg0) = m ((c.tc : Thread Cert.AttnRowdotIdeal.nD Cert.AttnRowdotIdeal.τ).loc Cert.AttnRowdotIdeal.main_arg0)
          ∧ r.2.mem ((c.tc : Thread Cert.AttnRowdotIdeal.nD Cert.AttnRowdotIdeal.τ).loc Cert.AttnRowdotIdeal.main_arg1) = m ((c.tc : Thread Cert.AttnRowdotIdeal.nD Cert.AttnRowdotIdeal.τ).loc Cert.AttnRowdotIdeal.main_arg1))
      ∧ θ_run (Cert.AttnRowdotRefIdeal.defs (F := Ideal)) (onTc (τ := Cert.AttnRowdotRefIdeal.τ) (Cert.AttnRowdotRefIdeal.main (F := Ideal))) ⟨m', fun _ => 0, g'⟩ (fun r => ∀ c : Dev Cert.AttnRowdotRefIdeal.nD,
          r.2.mem ((c.tc : Thread Cert.AttnRowdotRefIdeal.nD Cert.AttnRowdotRefIdeal.τ).loc Cert.AttnRowdotRefIdeal.main_v13) = v0 c
          ∧ r.2.mem ((c.tc : Thread Cert.AttnRowdotRefIdeal.nD Cert.AttnRowdotRefIdeal.τ).loc Cert.AttnRowdotRefIdeal.main_arg0) = m' ((c.tc : Thread Cert.AttnRowdotRefIdeal.nD Cert.AttnRowdotRefIdeal.τ).loc Cert.AttnRowdotRefIdeal.main_arg0)
          ∧ r.2.mem ((c.tc : Thread Cert.AttnRowdotRefIdeal.nD Cert.AttnRowdotRefIdeal.τ).loc Cert.AttnRowdotRefIdeal.main_arg1) = m' ((c.tc : Thread Cert.AttnRowdotRefIdeal.nD Cert.AttnRowdotRefIdeal.τ).loc Cert.AttnRowdotRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v9) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_v1) = v0 c
          ∧ r.2.mem ((c.tc : Thread Cert.AdamGainRefIdeal.nD Cert.AdamGainRefIdeal.τ).loc Cert.AdamGainRefIdeal.main_v25) = v1 c
          ∧ r.2.mem ((c.tc : Thread Cert.AdamGainRefIdeal.nD Cert.AdamGainRefIdeal.τ).loc Cert.AdamGainRefIdeal.main_v6) = v2 c
          ∧ r.2.mem ((c.tc : Thread Cert.AdamGainRefIdeal.nD Cert.AdamGainRefIdeal.τ).loc Cert.AdamGainRefIdeal.main_v12) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v1) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v6) = v2 c
          ∧ r.2.mem ((c.tc : Thread Cert.AdamBranchRefIdeal.nD Cert.AdamBranchRefIdeal.τ).loc Cert.AdamBranchRefIdeal.main_v12) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v1) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v6) = v2 c
          ∧ r.2.mem ((c.tc : Thread Cert.AdamConvRefIdeal.nD Cert.AdamConvRefIdeal.τ).loc Cert.AdamConvRefIdeal.main_v12) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_LossSum_LossSumIdeal : Prop :=
  True

def algebraic_LossSumIdeal_LossSumRefIdeal [hLossSumIdeal : Cert.LossSumIdeal.Facts] [hLossSumRefIdeal : Cert.LossSumRefIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumRefIdeal.nD Cert.LossSumRefIdeal.τ Cert.LossSumRefIdeal.sig) → Buf (Elt Ideal) ℓ) (g' : Dev Cert.LossSumRefIdeal.nD → PrngReg), Pre_LossSumIdeal m →
    (∀ c : Dev Cert.LossSumIdeal.nD,
      m' ((c.tc : Thread Cert.LossSumRefIdeal.nD Cert.LossSumRefIdeal.τ).loc Cert.LossSumRefIdeal.main_arg0) = m ((c.tc : Thread Cert.LossSumIdeal.nD Cert.LossSumIdeal.τ).loc Cert.LossSumIdeal.main_arg0)) →
    ∃ (v0 : (c : Dev Cert.LossSumIdeal.nD) → Buf (Elt Ideal) ((c.tc : Thread Cert.LossSumIdeal.nD Cert.LossSumIdeal.τ).loc Cert.LossSumIdeal.main_v0)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v0) = v0 c
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0))
      ∧ θ_run (Cert.LossSumRefIdeal.defs (F := Ideal)) (onTc (τ := Cert.LossSumRefIdeal.τ) (Cert.LossSumRefIdeal.main (F := Ideal))) ⟨m', fun _ => 0, g'⟩ (fun r => ∀ c : Dev Cert.LossSumRefIdeal.nD,
          r.2.mem ((c.tc : Thread Cert.LossSumRefIdeal.nD Cert.LossSumRefIdeal.τ).loc Cert.LossSumRefIdeal.main_v1) = v0 c
          ∧ r.2.mem ((c.tc : Thread Cert.LossSumRefIdeal.nD Cert.LossSumRefIdeal.τ).loc Cert.LossSumRefIdeal.main_arg0) = m' ((c.tc : Thread Cert.LossSumRefIdeal.nD Cert.LossSumRefIdeal.τ).loc Cert.LossSumRefIdeal.main_arg0))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hSquareDx : Cert.SquareDx.Facts) (hSquareDxIdeal : Cert.SquareDxIdeal.Facts) (hSquareDxRefIdeal : Cert.SquareDxRefIdeal.Facts) (hSquareDw : Cert.SquareDw.Facts) (hSquareDwIdeal : Cert.SquareDwIdeal.Facts) (hSquareDwRefIdeal : Cert.SquareDwRefIdeal.Facts) (hInADx : Cert.InADx.Facts) (hInADxIdeal : Cert.InADxIdeal.Facts) (hInADxRefIdeal : Cert.InADxRefIdeal.Facts) (hInBDx : Cert.InBDx.Facts) (hInBDxIdeal : Cert.InBDxIdeal.Facts) (hInBDxRefIdeal : Cert.InBDxRefIdeal.Facts) (hInCDx : Cert.InCDx.Facts) (hInCDxIdeal : Cert.InCDxIdeal.Facts) (hInCDxRefIdeal : Cert.InCDxRefIdeal.Facts) (hInGDx : Cert.InGDx.Facts) (hInGDxIdeal : Cert.InGDxIdeal.Facts) (hInGDxRefIdeal : Cert.InGDxRefIdeal.Facts) (hInADw : Cert.InADw.Facts) (hInADwIdeal : Cert.InADwIdeal.Facts) (hInADwRefIdeal : Cert.InADwRefIdeal.Facts) (hInCDw : Cert.InCDw.Facts) (hInCDwIdeal : Cert.InCDwIdeal.Facts) (hInCDwRefIdeal : Cert.InCDwRefIdeal.Facts) (hInGDw : Cert.InGDw.Facts) (hInGDwIdeal : Cert.InGDwIdeal.Facts) (hInGDwRefIdeal : Cert.InGDwRefIdeal.Facts) (hAOutDx : Cert.AOutDx.Facts) (hAOutDxIdeal : Cert.AOutDxIdeal.Facts) (hAOutDxRefIdeal : Cert.AOutDxRefIdeal.Facts) (hAOutDw : Cert.AOutDw.Facts) (hAOutDwIdeal : Cert.AOutDwIdeal.Facts) (hAOutDwRefIdeal : Cert.AOutDwRefIdeal.Facts) (hCOutDx : Cert.COutDx.Facts) (hCOutDxIdeal : Cert.COutDxIdeal.Facts) (hCOutDxRefIdeal : Cert.COutDxRefIdeal.Facts) (hCOutDw : Cert.COutDw.Facts) (hCOutDwIdeal : Cert.COutDwIdeal.Facts) (hCOutDwRefIdeal : Cert.COutDwRefIdeal.Facts) (hXkvDx : Cert.XkvDx.Facts) (hXkvDxIdeal : Cert.XkvDxIdeal.Facts) (hXkvDxRefIdeal : Cert.XkvDxRefIdeal.Facts) (hXkvDw : Cert.XkvDw.Facts) (hXkvDwIdeal : Cert.XkvDwIdeal.Facts) (hXkvDwRefIdeal : Cert.XkvDwRefIdeal.Facts) (hSquareFwd : Cert.SquareFwd.Facts) (hSquareFwdIdeal : Cert.SquareFwdIdeal.Facts) (hSquareFwdRefIdeal : Cert.SquareFwdRefIdeal.Facts) (hInCFwd : Cert.InCFwd.Facts) (hInCFwdIdeal : Cert.InCFwdIdeal.Facts) (hInCFwdRefIdeal : Cert.InCFwdRefIdeal.Facts) (hInGFwd : Cert.InGFwd.Facts) (hInGFwdIdeal : Cert.InGFwdIdeal.Facts) (hInGFwdRefIdeal : Cert.InGFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hAOutFwd : Cert.AOutFwd.Facts) (hAOutFwdIdeal : Cert.AOutFwdIdeal.Facts) (hAOutFwdRefIdeal : Cert.AOutFwdRefIdeal.Facts) (hCOutFwd : Cert.COutFwd.Facts) (hCOutFwdIdeal : Cert.COutFwdIdeal.Facts) (hCOutFwdRefIdeal : Cert.COutFwdRefIdeal.Facts) (hXkvFwd : Cert.XkvFwd.Facts) (hXkvFwdIdeal : Cert.XkvFwdIdeal.Facts) (hXkvFwdRefIdeal : Cert.XkvFwdRefIdeal.Facts) (hMergeBwd : Cert.MergeBwd.Facts) (hMergeBwdIdeal : Cert.MergeBwdIdeal.Facts) (hMergeBwdRefIdeal : Cert.MergeBwdRefIdeal.Facts) (hMergeFwd : Cert.MergeFwd.Facts) (hMergeFwdIdeal : Cert.MergeFwdIdeal.Facts) (hMergeFwdRefIdeal : Cert.MergeFwdRefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hXattnFwd : Cert.XattnFwd.Facts) (hXattnFwdIdeal : Cert.XattnFwdIdeal.Facts) (hXattnFwdRefIdeal : Cert.XattnFwdRefIdeal.Facts) (hNormBwdLast : Cert.NormBwdLast.Facts) (hNormBwdLastIdeal : Cert.NormBwdLastIdeal.Facts) (hNormBwdLastRefIdeal : Cert.NormBwdLastRefIdeal.Facts) (hNormBwdFirst : Cert.NormBwdFirst.Facts) (hNormBwdFirstIdeal : Cert.NormBwdFirstIdeal.Facts) (hNormBwdFirstRefIdeal : Cert.NormBwdFirstRefIdeal.Facts) (hNormBwdMem : Cert.NormBwdMem.Facts) (hNormBwdMemIdeal : Cert.NormBwdMemIdeal.Facts) (hNormBwdMemRefIdeal : Cert.NormBwdMemRefIdeal.Facts) (hNormFwdLast : Cert.NormFwdLast.Facts) (hNormFwdLastIdeal : Cert.NormFwdLastIdeal.Facts) (hNormFwdLastRefIdeal : Cert.NormFwdLastRefIdeal.Facts) (hNormFwdFirst : Cert.NormFwdFirst.Facts) (hNormFwdFirstIdeal : Cert.NormFwdFirstIdeal.Facts) (hNormFwdFirstRefIdeal : Cert.NormFwdFirstRefIdeal.Facts) (hNormFwdMem : Cert.NormFwdMem.Facts) (hNormFwdMemIdeal : Cert.NormFwdMemIdeal.Facts) (hNormFwdMemRefIdeal : Cert.NormFwdMemRefIdeal.Facts) (hConvNormBwd : Cert.ConvNormBwd.Facts) (hConvNormBwdIdeal : Cert.ConvNormBwdIdeal.Facts) (hConvNormBwdRefIdeal : Cert.ConvNormBwdRefIdeal.Facts) (hGatingFwd : Cert.GatingFwd.Facts) (hGatingFwdIdeal : Cert.GatingFwdIdeal.Facts) (hGatingFwdRefIdeal : Cert.GatingFwdRefIdeal.Facts) (hAttnCombine : Cert.AttnCombine.Facts) (hAttnCombineIdeal : Cert.AttnCombineIdeal.Facts) (hAttnCombineRefIdeal : Cert.AttnCombineRefIdeal.Facts) (hAttnRowdot : Cert.AttnRowdot.Facts) (hAttnRowdotIdeal : Cert.AttnRowdotIdeal.Facts) (hAttnRowdotRefIdeal : Cert.AttnRowdotRefIdeal.Facts) (hLossHead : Cert.LossHead.Facts) (hLossHeadIdeal : Cert.LossHeadIdeal.Facts) (hLossHeadRefIdeal : Cert.LossHeadRefIdeal.Facts) (hAdamGain : Cert.AdamGain.Facts) (hAdamGainIdeal : Cert.AdamGainIdeal.Facts) (hAdamGainRefIdeal : Cert.AdamGainRefIdeal.Facts) (hAdamBranch : Cert.AdamBranch.Facts) (hAdamBranchIdeal : Cert.AdamBranchIdeal.Facts) (hAdamBranchRefIdeal : Cert.AdamBranchRefIdeal.Facts) (hAdamConv : Cert.AdamConv.Facts) (hAdamConvIdeal : Cert.AdamConvIdeal.Facts) (hAdamConvRefIdeal : Cert.AdamConvRefIdeal.Facts) (hLossSum : Cert.LossSum.Facts) (hLossSumIdeal : Cert.LossSumIdeal.Facts) (hLossSumRefIdeal : Cert.LossSumRefIdeal.Facts) (hPre_finite_qk : Cert.Pre_finite_qk.Facts) (hPre_finite_grad : Cert.Pre_finite_grad.Facts) (hPre_finite_lse : Cert.Pre_finite_lse.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_SquareDx (hSquareDx := hSquareDx)
    ∧ quiescent_SquareDxIdeal (hSquareDxIdeal := hSquareDxIdeal)
    ∧ quiescent_SquareDxRefIdeal (hSquareDxRefIdeal := hSquareDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_InADx (hInADx := hInADx)
    ∧ quiescent_InADxIdeal (hInADxIdeal := hInADxIdeal)
    ∧ quiescent_InADxRefIdeal (hInADxRefIdeal := hInADxRefIdeal)
    ∧ quiescent_InBDx (hInBDx := hInBDx)
    ∧ quiescent_InBDxIdeal (hInBDxIdeal := hInBDxIdeal)
    ∧ quiescent_InBDxRefIdeal (hInBDxRefIdeal := hInBDxRefIdeal)
    ∧ quiescent_InCDx (hInCDx := hInCDx)
    ∧ quiescent_InCDxIdeal (hInCDxIdeal := hInCDxIdeal)
    ∧ quiescent_InCDxRefIdeal (hInCDxRefIdeal := hInCDxRefIdeal)
    ∧ quiescent_InGDx (hInGDx := hInGDx)
    ∧ quiescent_InGDxIdeal (hInGDxIdeal := hInGDxIdeal)
    ∧ quiescent_InGDxRefIdeal (hInGDxRefIdeal := hInGDxRefIdeal)
    ∧ quiescent_InADw (hInADw := hInADw)
    ∧ quiescent_InADwIdeal (hInADwIdeal := hInADwIdeal)
    ∧ quiescent_InADwRefIdeal (hInADwRefIdeal := hInADwRefIdeal)
    ∧ quiescent_InCDw (hInCDw := hInCDw)
    ∧ quiescent_InCDwIdeal (hInCDwIdeal := hInCDwIdeal)
    ∧ quiescent_InCDwRefIdeal (hInCDwRefIdeal := hInCDwRefIdeal)
    ∧ quiescent_InGDw (hInGDw := hInGDw)
    ∧ quiescent_InGDwIdeal (hInGDwIdeal := hInGDwIdeal)
    ∧ quiescent_InGDwRefIdeal (hInGDwRefIdeal := hInGDwRefIdeal)
    ∧ quiescent_AOutDx (hAOutDx := hAOutDx)
    ∧ quiescent_AOutDxIdeal (hAOutDxIdeal := hAOutDxIdeal)
    ∧ quiescent_AOutDxRefIdeal (hAOutDxRefIdeal := hAOutDxRefIdeal)
    ∧ quiescent_AOutDw (hAOutDw := hAOutDw)
    ∧ quiescent_AOutDwIdeal (hAOutDwIdeal := hAOutDwIdeal)
    ∧ quiescent_AOutDwRefIdeal (hAOutDwRefIdeal := hAOutDwRefIdeal)
    ∧ quiescent_COutDx (hCOutDx := hCOutDx)
    ∧ quiescent_COutDxIdeal (hCOutDxIdeal := hCOutDxIdeal)
    ∧ quiescent_COutDxRefIdeal (hCOutDxRefIdeal := hCOutDxRefIdeal)
    ∧ quiescent_COutDw (hCOutDw := hCOutDw)
    ∧ quiescent_COutDwIdeal (hCOutDwIdeal := hCOutDwIdeal)
    ∧ quiescent_COutDwRefIdeal (hCOutDwRefIdeal := hCOutDwRefIdeal)
    ∧ quiescent_XkvDx (hXkvDx := hXkvDx)
    ∧ quiescent_XkvDxIdeal (hXkvDxIdeal := hXkvDxIdeal)
    ∧ quiescent_XkvDxRefIdeal (hXkvDxRefIdeal := hXkvDxRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_SquareFwd (hSquareFwd := hSquareFwd)
    ∧ quiescent_SquareFwdIdeal (hSquareFwdIdeal := hSquareFwdIdeal)
    ∧ quiescent_SquareFwdRefIdeal (hSquareFwdRefIdeal := hSquareFwdRefIdeal)
    ∧ quiescent_InCFwd (hInCFwd := hInCFwd)
    ∧ quiescent_InCFwdIdeal (hInCFwdIdeal := hInCFwdIdeal)
    ∧ quiescent_InCFwdRefIdeal (hInCFwdRefIdeal := hInCFwdRefIdeal)
    ∧ quiescent_InGFwd (hInGFwd := hInGFwd)
    ∧ quiescent_InGFwdIdeal (hInGFwdIdeal := hInGFwdIdeal)
    ∧ quiescent_InGFwdRefIdeal (hInGFwdRefIdeal := hInGFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_AOutFwd (hAOutFwd := hAOutFwd)
    ∧ quiescent_AOutFwdIdeal (hAOutFwdIdeal := hAOutFwdIdeal)
    ∧ quiescent_AOutFwdRefIdeal (hAOutFwdRefIdeal := hAOutFwdRefIdeal)
    ∧ quiescent_COutFwd (hCOutFwd := hCOutFwd)
    ∧ quiescent_COutFwdIdeal (hCOutFwdIdeal := hCOutFwdIdeal)
    ∧ quiescent_COutFwdRefIdeal (hCOutFwdRefIdeal := hCOutFwdRefIdeal)
    ∧ quiescent_XkvFwd (hXkvFwd := hXkvFwd)
    ∧ quiescent_XkvFwdIdeal (hXkvFwdIdeal := hXkvFwdIdeal)
    ∧ quiescent_XkvFwdRefIdeal (hXkvFwdRefIdeal := hXkvFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_NormBwdLast (hNormBwdLast := hNormBwdLast)
    ∧ quiescent_NormBwdLastIdeal (hNormBwdLastIdeal := hNormBwdLastIdeal)
    ∧ quiescent_NormBwdLastRefIdeal (hNormBwdLastRefIdeal := hNormBwdLastRefIdeal)
    ∧ quiescent_NormBwdFirst (hNormBwdFirst := hNormBwdFirst)
    ∧ quiescent_NormBwdFirstIdeal (hNormBwdFirstIdeal := hNormBwdFirstIdeal)
    ∧ quiescent_NormBwdFirstRefIdeal (hNormBwdFirstRefIdeal := hNormBwdFirstRefIdeal)
    ∧ quiescent_NormBwdMem (hNormBwdMem := hNormBwdMem)
    ∧ quiescent_NormBwdMemIdeal (hNormBwdMemIdeal := hNormBwdMemIdeal)
    ∧ quiescent_NormBwdMemRefIdeal (hNormBwdMemRefIdeal := hNormBwdMemRefIdeal)
    ∧ quiescent_NormFwdLast (hNormFwdLast := hNormFwdLast)
    ∧ quiescent_NormFwdLastIdeal (hNormFwdLastIdeal := hNormFwdLastIdeal)
    ∧ quiescent_NormFwdLastRefIdeal (hNormFwdLastRefIdeal := hNormFwdLastRefIdeal)
    ∧ quiescent_NormFwdFirst (hNormFwdFirst := hNormFwdFirst)
    ∧ quiescent_NormFwdFirstIdeal (hNormFwdFirstIdeal := hNormFwdFirstIdeal)
    ∧ quiescent_NormFwdFirstRefIdeal (hNormFwdFirstRefIdeal := hNormFwdFirstRefIdeal)
    ∧ quiescent_NormFwdMem (hNormFwdMem := hNormFwdMem)
    ∧ quiescent_NormFwdMemIdeal (hNormFwdMemIdeal := hNormFwdMemIdeal)
    ∧ quiescent_NormFwdMemRefIdeal (hNormFwdMemRefIdeal := hNormFwdMemRefIdeal)
    ∧ quiescent_ConvNormBwd (hConvNormBwd := hConvNormBwd)
    ∧ quiescent_ConvNormBwdIdeal (hConvNormBwdIdeal := hConvNormBwdIdeal)
    ∧ quiescent_ConvNormBwdIdeal_pre_finite_grad (hConvNormBwdIdeal := hConvNormBwdIdeal) (hPre_finite_grad := hPre_finite_grad)
    ∧ quiescent_ConvNormBwdRefIdeal (hConvNormBwdRefIdeal := hConvNormBwdRefIdeal)
    ∧ quiescent_ConvNormBwdRefIdeal_pre_finite_grad (hConvNormBwdRefIdeal := hConvNormBwdRefIdeal) (hPre_finite_grad := hPre_finite_grad)
    ∧ quiescent_GatingFwd (hGatingFwd := hGatingFwd)
    ∧ quiescent_GatingFwdIdeal (hGatingFwdIdeal := hGatingFwdIdeal)
    ∧ quiescent_GatingFwdRefIdeal (hGatingFwdRefIdeal := hGatingFwdRefIdeal)
    ∧ quiescent_AttnCombine (hAttnCombine := hAttnCombine)
    ∧ quiescent_AttnCombineIdeal (hAttnCombineIdeal := hAttnCombineIdeal)
    ∧ quiescent_AttnCombineIdeal_pre_finite_lse (hAttnCombineIdeal := hAttnCombineIdeal) (hPre_finite_lse := hPre_finite_lse)
    ∧ quiescent_AttnCombineRefIdeal (hAttnCombineRefIdeal := hAttnCombineRefIdeal)
    ∧ quiescent_AttnCombineRefIdeal_pre_finite_lse (hAttnCombineRefIdeal := hAttnCombineRefIdeal) (hPre_finite_lse := hPre_finite_lse)
    ∧ quiescent_AttnRowdot (hAttnRowdot := hAttnRowdot)
    ∧ quiescent_AttnRowdotIdeal (hAttnRowdotIdeal := hAttnRowdotIdeal)
    ∧ quiescent_AttnRowdotRefIdeal (hAttnRowdotRefIdeal := hAttnRowdotRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_LossSum (hLossSum := hLossSum)
    ∧ quiescent_LossSumIdeal (hLossSumIdeal := hLossSumIdeal)
    ∧ quiescent_LossSumRefIdeal (hLossSumRefIdeal := hLossSumRefIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_SquareDx_SquareDxIdeal
    ∧ algebraic_SquareDxIdeal_SquareDxRefIdeal (hSquareDxIdeal := hSquareDxIdeal) (hSquareDxRefIdeal := hSquareDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_InADx_InADxIdeal
    ∧ algebraic_InADxIdeal_InADxRefIdeal (hInADxIdeal := hInADxIdeal) (hInADxRefIdeal := hInADxRefIdeal)
    ∧ preserves_InBDx_InBDxIdeal
    ∧ algebraic_InBDxIdeal_InBDxRefIdeal (hInBDxIdeal := hInBDxIdeal) (hInBDxRefIdeal := hInBDxRefIdeal)
    ∧ preserves_InCDx_InCDxIdeal
    ∧ algebraic_InCDxIdeal_InCDxRefIdeal (hInCDxIdeal := hInCDxIdeal) (hInCDxRefIdeal := hInCDxRefIdeal)
    ∧ preserves_InGDx_InGDxIdeal
    ∧ algebraic_InGDxIdeal_InGDxRefIdeal (hInGDxIdeal := hInGDxIdeal) (hInGDxRefIdeal := hInGDxRefIdeal)
    ∧ preserves_InADw_InADwIdeal
    ∧ algebraic_InADwIdeal_InADwRefIdeal (hInADwIdeal := hInADwIdeal) (hInADwRefIdeal := hInADwRefIdeal)
    ∧ preserves_InCDw_InCDwIdeal
    ∧ algebraic_InCDwIdeal_InCDwRefIdeal (hInCDwIdeal := hInCDwIdeal) (hInCDwRefIdeal := hInCDwRefIdeal)
    ∧ preserves_InGDw_InGDwIdeal
    ∧ algebraic_InGDwIdeal_InGDwRefIdeal (hInGDwIdeal := hInGDwIdeal) (hInGDwRefIdeal := hInGDwRefIdeal)
    ∧ preserves_AOutDx_AOutDxIdeal
    ∧ algebraic_AOutDxIdeal_AOutDxRefIdeal (hAOutDxIdeal := hAOutDxIdeal) (hAOutDxRefIdeal := hAOutDxRefIdeal)
    ∧ preserves_AOutDw_AOutDwIdeal
    ∧ algebraic_AOutDwIdeal_AOutDwRefIdeal (hAOutDwIdeal := hAOutDwIdeal) (hAOutDwRefIdeal := hAOutDwRefIdeal)
    ∧ preserves_COutDx_COutDxIdeal
    ∧ algebraic_COutDxIdeal_COutDxRefIdeal (hCOutDxIdeal := hCOutDxIdeal) (hCOutDxRefIdeal := hCOutDxRefIdeal)
    ∧ preserves_COutDw_COutDwIdeal
    ∧ algebraic_COutDwIdeal_COutDwRefIdeal (hCOutDwIdeal := hCOutDwIdeal) (hCOutDwRefIdeal := hCOutDwRefIdeal)
    ∧ preserves_XkvDx_XkvDxIdeal
    ∧ algebraic_XkvDxIdeal_XkvDxRefIdeal (hXkvDxIdeal := hXkvDxIdeal) (hXkvDxRefIdeal := hXkvDxRefIdeal)
    ∧ preserves_XkvDw_XkvDwIdeal
    ∧ algebraic_XkvDwIdeal_XkvDwRefIdeal (hXkvDwIdeal := hXkvDwIdeal) (hXkvDwRefIdeal := hXkvDwRefIdeal)
    ∧ preserves_SquareFwd_SquareFwdIdeal
    ∧ algebraic_SquareFwdIdeal_SquareFwdRefIdeal (hSquareFwdIdeal := hSquareFwdIdeal) (hSquareFwdRefIdeal := hSquareFwdRefIdeal)
    ∧ preserves_InCFwd_InCFwdIdeal
    ∧ algebraic_InCFwdIdeal_InCFwdRefIdeal (hInCFwdIdeal := hInCFwdIdeal) (hInCFwdRefIdeal := hInCFwdRefIdeal)
    ∧ preserves_InGFwd_InGFwdIdeal
    ∧ algebraic_InGFwdIdeal_InGFwdRefIdeal (hInGFwdIdeal := hInGFwdIdeal) (hInGFwdRefIdeal := hInGFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_AOutFwd_AOutFwdIdeal
    ∧ algebraic_AOutFwdIdeal_AOutFwdRefIdeal (hAOutFwdIdeal := hAOutFwdIdeal) (hAOutFwdRefIdeal := hAOutFwdRefIdeal)
    ∧ preserves_COutFwd_COutFwdIdeal
    ∧ algebraic_COutFwdIdeal_COutFwdRefIdeal (hCOutFwdIdeal := hCOutFwdIdeal) (hCOutFwdRefIdeal := hCOutFwdRefIdeal)
    ∧ preserves_XkvFwd_XkvFwdIdeal
    ∧ algebraic_XkvFwdIdeal_XkvFwdRefIdeal (hXkvFwdIdeal := hXkvFwdIdeal) (hXkvFwdRefIdeal := hXkvFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_NormBwdLast_NormBwdLastIdeal
    ∧ algebraic_NormBwdLastIdeal_NormBwdLastRefIdeal (hNormBwdLastIdeal := hNormBwdLastIdeal) (hNormBwdLastRefIdeal := hNormBwdLastRefIdeal)
    ∧ preserves_NormBwdFirst_NormBwdFirstIdeal
    ∧ algebraic_NormBwdFirstIdeal_NormBwdFirstRefIdeal (hNormBwdFirstIdeal := hNormBwdFirstIdeal) (hNormBwdFirstRefIdeal := hNormBwdFirstRefIdeal)
    ∧ preserves_NormBwdMem_NormBwdMemIdeal
    ∧ algebraic_NormBwdMemIdeal_NormBwdMemRefIdeal (hNormBwdMemIdeal := hNormBwdMemIdeal) (hNormBwdMemRefIdeal := hNormBwdMemRefIdeal)
    ∧ preserves_NormFwdLast_NormFwdLastIdeal
    ∧ algebraic_NormFwdLastIdeal_NormFwdLastRefIdeal (hNormFwdLastIdeal := hNormFwdLastIdeal) (hNormFwdLastRefIdeal := hNormFwdLastRefIdeal)
    ∧ preserves_NormFwdFirst_NormFwdFirstIdeal
    ∧ algebraic_NormFwdFirstIdeal_NormFwdFirstRefIdeal (hNormFwdFirstIdeal := hNormFwdFirstIdeal) (hNormFwdFirstRefIdeal := hNormFwdFirstRefIdeal)
    ∧ preserves_NormFwdMem_NormFwdMemIdeal
    ∧ algebraic_NormFwdMemIdeal_NormFwdMemRefIdeal (hNormFwdMemIdeal := hNormFwdMemIdeal) (hNormFwdMemRefIdeal := hNormFwdMemRefIdeal)
    ∧ preserves_ConvNormBwd_ConvNormBwdIdeal
    ∧ algebraic_ConvNormBwdIdeal_ConvNormBwdRefIdeal_pre_finite_grad (hConvNormBwdIdeal := hConvNormBwdIdeal) (hConvNormBwdRefIdeal := hConvNormBwdRefIdeal) (hPre_finite_grad := hPre_finite_grad)
    ∧ preserves_GatingFwd_GatingFwdIdeal
    ∧ algebraic_GatingFwdIdeal_GatingFwdRefIdeal (hGatingFwdIdeal := hGatingFwdIdeal) (hGatingFwdRefIdeal := hGatingFwdRefIdeal)
    ∧ preserves_AttnCombine_AttnCombineIdeal
    ∧ algebraic_AttnCombineIdeal_AttnCombineRefIdeal_pre_finite_lse (hAttnCombineIdeal := hAttnCombineIdeal) (hAttnCombineRefIdeal := hAttnCombineRefIdeal) (hPre_finite_lse := hPre_finite_lse)
    ∧ preserves_AttnRowdot_AttnRowdotIdeal
    ∧ algebraic_AttnRowdotIdeal_AttnRowdotRefIdeal (hAttnRowdotIdeal := hAttnRowdotIdeal) (hAttnRowdotRefIdeal := hAttnRowdotRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamConv_AdamConvIdeal
    ∧ algebraic_AdamConvIdeal_AdamConvRefIdeal (hAdamConvIdeal := hAdamConvIdeal) (hAdamConvRefIdeal := hAdamConvRefIdeal)
    ∧ preserves_LossSum_LossSumIdeal
    ∧ algebraic_LossSumIdeal_LossSumRefIdeal (hLossSumIdeal := hLossSumIdeal) (hLossSumRefIdeal := hLossSumRefIdeal)
-- ==== Pre_finite_grad.lean ====
abbrev S8192x512 : Shape := ⟨2, ![8192, 512]⟩
abbrev S512 : Shape := ⟨1, ![512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S512 : S_.BroadcastsInDim S512 (![] : Fin 0 → Fin S512.rank)

variable [Facts]

def fn {F : FTy → Type} [FloatOps F] (main_arg0 : FVec F S8192x512 .bf16) (main_arg1 : FVec F S8192x512 .f32) (main_arg2 : FVec F S512 .f32) (main_arg3 : FVec F S512 .f32) : IVec S8192x512 1 × IVec S512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  (main_v3, main_v6)
-- ==== Pre_finite_lse.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)

variable [Facts]

def fn {F : FTy → Type} [FloatOps F] (main_arg0 : FVec F S8192x256 .f32) (main_arg1 : FVec F S8192x256 .f32) (main_arg2 : FVec F S8192x256 .f32) (main_arg3 : FVec F S8192x256 .f32) (main_arg4 : FVec F S8192x256 .f32) (main_arg5 : FVec F S8192x256 .f32) : IVec S8192x256 1 × IVec S8192x256 1 × IVec S8192x256 1 :=
  let main_v0 : FVec F S8192x256 .f32 := Host.absf main_arg3
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x256 .f32 := Host.absf main_arg4
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg5
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  (main_v2, main_v5, main_v8)
-- ==== Pre_finite_qk.lean ====
abbrev S8192x1024 : Shape := ⟨2, ![8192, 1024]⟩
abbrev S1024x2048 : Shape := ⟨2, ![1024, 2048]⟩
abbrev S1024x1024 : Shape := ⟨2, ![1024, 1024]⟩
abbrev S_ : Shape := ⟨0, ![]⟩

class Facts : Prop where
  slices_S1024x2048_S1024x1024_0_0 : S1024x2048.Slices ![0, 0] S1024x1024
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S1024x2048 .bf16) (main_arg2 : FVec F S8192x1024 .bf16) : IVec S8192x1024 1 × IVec S1024x1024 1 :=
  let main_v0 : FVec F S1024x1024 .bf16 := (extractStridedSlice S1024x1024 ![0, 0] · slices_S1024x2048_S1024x1024_0_0) main_arg1
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024x1024 .f32 := (extf .f32 · bitsLt_bf16_f32) main_v0
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  (main_v4, main_v8)
-- ==== Kernel.lean ====
abbrev S8192x1024 : Shape := ⟨2, ![8192, 1024]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | .local _ .vmem, ⟨9, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v133 : BitVec 32 := Scalar.extui v0
  let c0_i32_69 : BitVec 32 := 0#32
  let v134 : BitVec 1 := Scalar.cmpi .ne v133 c0_i32_69
  v134

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v135 : BitVec 1 := Scalar.xori v0 v_true
  let v136 : BitVec 32 := Scalar.extui v135
  let c0_i32_70 : BitVec 32 := 0#32
  let v137 : BitVec 1 := Scalar.cmpi .ne v136 c0_i32_70
  v137

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .hbm, ⟨3, _⟩ => ⟨S8192x1024, .f32⟩
  | .hbm, ⟨4, _⟩ => ⟨S1024x2048, .f32⟩
  | .hbm, ⟨5, _⟩ => ⟨S4x2048x4x256, .f32⟩
  | .hbm, ⟨6, _⟩ => ⟨S4x256x2048, .f32⟩
  | .hbm, ⟨7, _⟩ => ⟨S4x256x1024, .f32⟩
  | .hbm, ⟨8, _⟩ => ⟨S4x256x1024, .f32⟩
  | .hbm, ⟨9, _⟩ => ⟨S4x256x4x256, .f32⟩
  | .hbm, ⟨10, _⟩ => ⟨S4x256x4x256, .f32⟩
  | .hbm, ⟨11, _⟩ => ⟨S4x4x2048x256, .f32⟩
  | .hbm, ⟨12, _⟩ => ⟨S_, .f32⟩
  | .hbm, ⟨13, _⟩ => ⟨S4x4x2048x256, .f32⟩
  | .hbm, ⟨14, _⟩ => ⟨S4x4x2048x256, .f32⟩
  | .hbm, ⟨15, _⟩ => ⟨S_, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .i1⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S_, .f32⟩
  | .hbm, ⟨24, _⟩ => ⟨S4x4x2048, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .i1⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048, .f32⟩
  | .hbm, ⟨40, _⟩ => ⟨S4x4x2048x1, .f32⟩
  | .hbm, ⟨41, _⟩ => ⟨S4x4x2048x256, .f32⟩
  | .hbm, ⟨42, _⟩ => ⟨S4x4x2048x256, .f32⟩
  | .hbm, ⟨43, _⟩ => ⟨S4x4x2048x256, .f32⟩
  | .hbm, ⟨44, _⟩ => ⟨S_, .f32⟩
  | .hbm, ⟨45, _⟩ => ⟨S4x4x2048, .f32⟩
  | .hbm, ⟨46, _⟩ => ⟨S4x4x2048x1, .f32⟩
  | .hbm, ⟨47, _⟩ => ⟨S4x4x2048x256, .f32⟩
  | .hbm, ⟨48, _⟩ => ⟨S4x4x2048x256, .f32⟩
  | .hbm, ⟨49, _⟩ => ⟨S4x4x2048x1, .f32⟩
  | .hbm, ⟨50, _⟩ => ⟨S_, .f32⟩
  | .hbm, ⟨51, _⟩ => ⟨S4x4x2048x1, .f32⟩
  | .hbm, ⟨52, _⟩ => ⟨S4x4x2048x1, .f32⟩
  | .hbm, ⟨53, _⟩ => ⟨S4x4x256x2048, .f32⟩
  | .hbm, ⟨54, _⟩ => ⟨S4x2048x4x256, .f32⟩
  | .hbm, ⟨55, _⟩ => ⟨S8192x1024, .f32⟩
  | .hbm, ⟨56, _⟩ => ⟨S8192x1024, .f32⟩
  | .hbm, ⟨57, _⟩ => ⟨S4x2048x4x256, .f32⟩
  | .hbm, ⟨58, _⟩ => ⟨S4x4x256x2048, .f32⟩
  | .hbm, ⟨59, _⟩ => ⟨S4x4x2048x256, .f32⟩
  | .hbm, ⟨60, _⟩ => ⟨S4x4x256x256, .f32⟩
  | .hbm, ⟨61, _⟩ => ⟨S4x256x4x256, .f32⟩
  | .hbm, ⟨62, _⟩ => ⟨S4x4x2048x256, .f32⟩
  | .hbm, ⟨63, _⟩ => ⟨S4x4x2048x256, .f32⟩
  | .hbm, ⟨64, _⟩ => ⟨S4x4x2048x256, .f32⟩
  | .hbm, ⟨65, _⟩ => ⟨S_, .f32⟩
  | .hbm, ⟨66, _⟩ => ⟨S4x4x2048, .f32⟩
  | .hbm, ⟨67, _⟩ => ⟨S4x4x2048x1, .f32⟩
  | .hbm, ⟨68, _⟩ => ⟨S4x4x2048x1, .f32⟩
  | .hbm, ⟨69, _⟩ => ⟨S4x4x2048x256, .f32⟩
  | .hbm, ⟨70, _⟩ => ⟨S4x4x2048x256, .f32⟩
  | .hbm, ⟨71, _⟩ => ⟨S_, .f32⟩
  | .hbm, ⟨72, _⟩ => ⟨S4x4x2048, .f32⟩
  | .hbm, ⟨73, _⟩ => ⟨S4x4x2048x256, .f32⟩
  | .hbm, ⟨74, _⟩ => ⟨S4x4x2048x256, .f32⟩
  | .hbm, ⟨75, _⟩ => ⟨S4x4x2048x256, .f32⟩
  | .hbm, ⟨76, _⟩ => ⟨S_, .f32⟩
  | .hbm, ⟨77, _⟩ => ⟨S4x4x2048x256, .f32⟩
  | .hbm, ⟨78, _⟩ => ⟨S4x4x2048x256, .f32⟩
  | .hbm, ⟨79, _⟩ => ⟨S4x4x256x256, .f32⟩
  | .hbm, ⟨80, _⟩ => ⟨S4x256x4x256, .f32⟩
  | .hbm, ⟨81, _⟩ => ⟨S4x4x2048x256, .f32⟩
  | .hbm, ⟨82, _⟩ => ⟨S4x2048x4x256, .f32⟩
  | .hbm, ⟨83, _⟩ => ⟨S4x256x1024, .f32⟩
  | .hbm, ⟨84, _⟩ => ⟨S4x256x1024, .f32⟩
  | .hbm, ⟨85, _⟩ => ⟨S4x256x2048, .f32⟩
  | .hbm, ⟨86, _⟩ => ⟨S1024x2048, .f32⟩
  | .hbm, ⟨87, _⟩ => ⟨S8192x1024, .f32⟩
  | .hbm, ⟨88, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== UpDx.lean ====
abbrev S8192x5632 : Shape := ⟨2, ![8192, 5632]⟩
abbrev S1024x5632 : Shape := ⟨2, ![1024, 5632]⟩
abbrev S5632x1024 : Shape := ⟨2, ![5632, 1024]⟩
abbrev S8192x1024 : Shape := ⟨2, ![8192, 1024]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S5632x1024, .bf16⟩
  | .hbm, ⟨3, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | .hbm, ⟨8, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S1024x2816, .bf16⟩
  | .hbm, ⟨3, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareDx.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SquareDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InADx.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .bf16⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InADxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InBDx.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InCDx.lean ====
abbrev S8192x2304 : Shape := ⟨2, ![8192, 2304]⟩
abbrev S1024x2304 : Shape := ⟨2, ![1024, 2304]⟩
abbrev S8192x1024 : Shape := ⟨2, ![8192, 1024]⟩
abbrev S2304x1024 : Shape := ⟨2, ![2304, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .bf16⟩
  | .hbm, ⟨2, _⟩ => ⟨S8192x1024, .f32⟩
  | .hbm, ⟨3, _⟩ => ⟨S2304x1024, .bf16⟩
  | .hbm, ⟨4, _⟩ => ⟨S8192x1024, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InCDxRefIdeal.lean ====
abbrev S8192x2304 : Shape := ⟨2, ![8192, 2304]⟩
abbrev S1024x2304 : Shape := ⟨2, ![1024, 2304]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2304, .f32⟩
  | .hbm, ⟨6, _⟩ => ⟨S8192x2304, .f32⟩
  | .hbm, ⟨7, _⟩ => ⟨S8192x2304, .f32⟩
  | .hbm, ⟨8, _⟩ => ⟨S8192x1024, .f32⟩
  | .hbm, ⟨9, _⟩ => ⟨S8192x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InGDx.lean ====
abbrev S8192x3072 : Shape := ⟨2, ![8192, 3072]⟩
abbrev S1024x3072 : Shape := ⟨2, ![1024, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S3072x1024, .bf16⟩
  | .hbm, ⟨4, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InGDxRefIdeal.lean ====
abbrev S8192x3072 : Shape := ⟨2, ![8192, 3072]⟩
abbrev S1024x3072 : Shape := ⟨2, ![1024, 3072]⟩
abbrev S8192x1024 : Shape := ⟨2, ![8192, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InADw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InADwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InCDw.lean ====
abbrev S8192x1024 : Shape := ⟨2, ![8192, 1024]⟩
abbrev S8192x2304 : Shape := ⟨2, ![8192, 2304]⟩
abbrev S1024x2304 : Shape := ⟨2, ![1024, 2304]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S1024x2304, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCDwRefIdeal.lean ====
abbrev S8192x1024 : Shape := ⟨2, ![8192, 1024]⟩
abbrev S8192x2304 : Shape := ⟨2, ![8192, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2304, .bf16⟩
  | .hbm, ⟨2, _⟩ => ⟨S_, .f32⟩
  | .hbm, ⟨3, _⟩ => ⟨S1024x2304, .f32⟩
  | .hbm, ⟨4, _⟩ => ⟨S8192x1024, .f32⟩
  | .hbm, ⟨5, _⟩ => ⟨S8192x2304, .f32⟩
  | .hbm, ⟨6, _⟩ => ⟨S8192x2304, .f32⟩
  | .hbm, ⟨7, _⟩ => ⟨S2304x1024, .f32⟩
  | .hbm, ⟨8, _⟩ => ⟨S1024x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InGDw.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGDwRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AOutDx.lean ====
abbrev S8192x1024 : Shape := ⟨2, ![8192, 1024]⟩
abbrev S512x1024 : Shape := ⟨2, ![512, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S1024x512, .bf16⟩
  | .hbm, ⟨3, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutDxRefIdeal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | .hbm, ⟨8, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AOutDw.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AOutDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== COutDx.lean ====
abbrev S8192x1024 : Shape := ⟨2, ![8192, 1024]⟩
abbrev S256x1024 : Shape := ⟨2, ![256, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S1024x256, .bf16⟩
  | .hbm, ⟨3, _⟩ => ⟨S8192x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutDxRefIdeal.lean ====
abbrev S8192x1024 : Shape := ⟨2, ![8192, 1024]⟩
abbrev S256x1024 : Shape := ⟨2, ![256, 1024]⟩
abbrev S_ : Shape := ⟨0, ![]⟩
abbrev S8192x256 : Shape := ⟨2, ![8192, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S_, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S8192x256, .f32⟩
  | .hbm, ⟨8, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== COutDw.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== COutDwRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XkvDx.lean ====
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S2048x1024, .bf16⟩
  | .hbm, ⟨3, _⟩ => ⟨S1024x1024, .f32⟩
  | .local _ .vmem, ⟨0, _⟩ => ⟨S1024x2048, .f32⟩
  | .local _ .vmem, ⟨1, _⟩ => ⟨S2048x1024, .bf16⟩
  | .local _ .vmem, ⟨2, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvDxRefIdeal.lean ====
abbrev S1024x2048 : Shape := ⟨2, ![1024, 2048]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S_, .f32⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XkvDw.lean ====
abbrev S1024x1024 : Shape := ⟨2, ![1024, 1024]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x2048, .f32⟩
  | .local _ .vmem, ⟨0, _⟩ => ⟨S1024x1024, .bf16⟩
  | .local _ .vmem, ⟨1, _⟩ => ⟨S1024x2048, .f32⟩
  | .local _ .vmem, ⟨2, _⟩ => ⟨S1024x2048, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvDwRefIdeal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S_, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S2048x1024, .f32⟩
  | .hbm, ⟨7, _⟩ => ⟨S1024x2048, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SquareFwd.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareFwdIdeal.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareFwdRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InCFwd.lean ====
abbrev S8192x1024 : Shape := ⟨2, ![8192, 1024]⟩
abbrev S1024x2304 : Shape := ⟨2, ![1024, 2304]⟩
abbrev S8192x2304 : Shape := ⟨2, ![8192, 2304]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCFwdIdeal.lean ====
abbrev S8192x1024 : Shape := ⟨2, ![8192, 1024]⟩
abbrev S1024x2304 : Shape := ⟨2, ![1024, 2304]⟩
abbrev S8192x2304 : Shape := ⟨2, ![8192, 2304]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCFwdRefIdeal.lean ====
abbrev S8192x1024 : Shape := ⟨2, ![8192, 1024]⟩
abbrev S1024x2304 : Shape := ⟨2, ![1024, 2304]⟩
abbrev S8192x2304 : Shape := ⟨2, ![8192, 2304]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2304, .bf16⟩
  | .hbm, ⟨2, _⟩ => ⟨S8192x1024, .f32⟩
  | .hbm, ⟨3, _⟩ => ⟨S1024x2304, .f32⟩
  | .hbm, ⟨4, _⟩ => ⟨S8192x2304, .f32⟩
  | .hbm, ⟨5, _⟩ => ⟨S8192x2304, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InGFwd.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGFwdIdeal.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGFwdRefIdeal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UpFwd.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdIdeal.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AOutFwd.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutFwdIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AOutFwdRefIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== COutFwd.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .bf16⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutFwdIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .bf16⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== COutFwdRefIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | .hbm, ⟨4, _⟩ => ⟨S8192x1024, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XkvFwd.lean ====
abbrev S1024x1024 : Shape := ⟨2, ![1024, 1024]⟩
abbrev S1024x2048 : Shape := ⟨2, ![1024, 2048]⟩

abbrev nBuf : Space → Nat
  | .hbm => 3
  | .vmem => 3
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .bf16⟩
  | .local _ .vmem, ⟨0, _⟩ => ⟨S1024x1024, .bf16⟩
  | .local _ .vmem, ⟨1, _⟩ => ⟨S1024x2048, .bf16⟩
  | .local _ .vmem, ⟨2, _⟩ => ⟨S1024x2048, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XkvFwdRefIdeal.lean ====
abbrev S1024x1024 : Shape := ⟨2, ![1024, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MergeBwd.lean ====
abbrev S8192x1024 : Shape := ⟨2, ![8192, 1024]⟩
abbrev S8192x3072 : Shape := ⟨2, ![8192, 3072]⟩
abbrev S3x1024 : Shape := ⟨2, ![3, 1024]⟩
abbrev S1x3072 : Shape := ⟨2, ![1, 3072]⟩
abbrev S512x1024 : Shape := ⟨2, ![512, 1024]⟩
abbrev S512x3072 : Shape := ⟨2, ![512, 3072]⟩
abbrev S1x1024 : Shape := ⟨2, ![1, 1024]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1x3072, .f32⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x3072, .bf16⟩
  | .hbm, ⟨11, _⟩ => ⟨S1x3072, .f32⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S1x3072, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x3072, .bf16⟩
  | .local _ .vmem, ⟨18, _⟩ => ⟨S512x3072, .bf16⟩
  | .local _ .vmem, ⟨19, _⟩ => ⟨S1x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v85 : BitVec 32 := Scalar.extui v0
  let c0_i32_43 : BitVec 32 := 0#32
  let v86 : BitVec 1 := Scalar.cmpi .ne v85 c0_i32_43
  v86

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v87 : BitVec 1 := Scalar.xori v0 v_true
  let v88 : BitVec 32 := Scalar.extui v87
  let c0_i32_44 : BitVec 32 := 0#32
  let v89 : BitVec 1 := Scalar.cmpi .ne v88 c0_i32_44
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeBwdRefIdeal.lean ====
abbrev S8192x1024 : Shape := ⟨2, ![8192, 1024]⟩
abbrev S8192x3072 : Shape := ⟨2, ![8192, 3072]⟩
abbrev S3x1024 : Shape := ⟨2, ![3, 1024]⟩
abbrev S8192x3x1024 : Shape := ⟨3, ![8192, 3, 1024]⟩
abbrev S1x3x1024 : Shape := ⟨3, ![1, 3, 1024]⟩
abbrev S_ : Shape := ⟨0, ![]⟩
abbrev S8192x1x1024 : Shape := ⟨3, ![8192, 1, 1024]⟩
abbrev S1x3072 : Shape := ⟨2, ![1, 3072]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x3072, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x3x1024, .f32⟩
  | .hbm, ⟨11, _⟩ => ⟨S1x3x1024, .f32⟩
  | .hbm, ⟨12, _⟩ => ⟨S8192x3x1024, .f32⟩
  | .hbm, ⟨13, _⟩ => ⟨S8192x3x1024, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S_, .f32⟩
  | .hbm, ⟨23, _⟩ => ⟨S8192x3x1024, .f32⟩
  | .hbm, ⟨24, _⟩ => ⟨S8192x3x1024, .f32⟩
  | .hbm, ⟨25, _⟩ => ⟨S8192x3x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S_, .f32⟩
  | .hbm, ⟨42, _⟩ => ⟨S8192x3x1024, .f32⟩
  | .hbm, ⟨43, _⟩ => ⟨S8192x1024, .f32⟩
  | .hbm, ⟨44, _⟩ => ⟨S8192x1024, .f32⟩
  | .hbm, ⟨45, _⟩ => ⟨S8192x1x1024, .f32⟩
  | .hbm, ⟨46, _⟩ => ⟨S_, .f32⟩
  | .hbm, ⟨47, _⟩ => ⟨S8192x3x1024, .f32⟩
  | .hbm, ⟨48, _⟩ => ⟨S8192x3x1024, .f32⟩
  | .hbm, ⟨49, _⟩ => ⟨S8192x1024, .f32⟩
  | .hbm, ⟨50, _⟩ => ⟨S8192x1024, .f32⟩
  | .hbm, ⟨51, _⟩ => ⟨S8192x1x1024, .f32⟩
  | .hbm, ⟨52, _⟩ => ⟨S_, .f32⟩
  | .hbm, ⟨53, _⟩ => ⟨S8192x3x1024, .f32⟩
  | .hbm, ⟨54, _⟩ => ⟨S8192x3x1024, .f32⟩
  | .hbm, ⟨55, _⟩ => ⟨S8192x3x1024, .f32⟩
  | .hbm, ⟨56, _⟩ => ⟨S_, .f32⟩
  | .hbm, ⟨57, _⟩ => ⟨S3x1024, .f32⟩
  | .hbm, ⟨58, _⟩ => ⟨S1x3x1024, .f32⟩
  | .hbm, ⟨59, _⟩ => ⟨S_, .f32⟩
  | .hbm, ⟨60, _⟩ => ⟨S3x1024, .f32⟩
  | .hbm, ⟨61, _⟩ => ⟨S8192x3072, .f32⟩
  | .hbm, ⟨62, _⟩ => ⟨S8192x1024, .bf16⟩
  | .hbm, ⟨63, _⟩ => ⟨S8192x1024, .bf16⟩
  | .hbm, ⟨64, _⟩ => ⟨S8192x1024, .bf16⟩
  | .hbm, ⟨65, _⟩ => ⟨S8192x3072, .bf16⟩
  | .hbm, ⟨66, _⟩ => ⟨S1x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== MergeFwd.lean ====
abbrev S8192x3072 : Shape := ⟨2, ![8192, 3072]⟩
abbrev S3x1024 : Shape := ⟨2, ![3, 1024]⟩
abbrev S8192x1024 : Shape := ⟨2, ![8192, 1024]⟩
abbrev S1x3072 : Shape := ⟨2, ![1, 3072]⟩
abbrev S512x3072 : Shape := ⟨2, ![512, 3072]⟩
abbrev S512x1024 : Shape := ⟨2, ![512, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S1x3072, .f32⟩
  | .hbm, ⟨6, _⟩ => ⟨S8192x1024, .bf16⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdRefIdeal.lean ====
abbrev S8192x3072 : Shape := ⟨2, ![8192, 3072]⟩
abbrev S3x1024 : Shape := ⟨2, ![3, 1024]⟩
abbrev S8192x1024 : Shape := ⟨2, ![8192, 1024]⟩
abbrev S8192x3x1024 : Shape := ⟨3, ![8192, 3, 1024]⟩
abbrev S1x3x1024 : Shape := ⟨3, ![1, 3, 1024]⟩
abbrev S_ : Shape := ⟨0, ![]⟩
abbrev S8192x1x1024 : Shape := ⟨3, ![8192, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3x1024, .f32⟩
  | .hbm, ⟨10, _⟩ => ⟨S1x3x1024, .f32⟩
  | .hbm, ⟨11, _⟩ => ⟨S8192x3x1024, .f32⟩
  | .hbm, ⟨12, _⟩ => ⟨S8192x3x1024, .f32⟩
  | .hbm, ⟨13, _⟩ => ⟨S8192x3x1024, .f32⟩
  | .hbm, ⟨14, _⟩ => ⟨S8192x3x1024, .f32⟩
  | .hbm, ⟨15, _⟩ => ⟨S_, .f32⟩
  | .hbm, ⟨16, _⟩ => ⟨S8192x3x1024, .f32⟩
  | .hbm, ⟨17, _⟩ => ⟨S8192x3x1024, .f32⟩
  | .hbm, ⟨18, _⟩ => ⟨S_, .f32⟩
  | .hbm, ⟨19, _⟩ => ⟨S8192x3x1024, .f32⟩
  | .hbm, ⟨20, _⟩ => ⟨S8192x3x1024, .f32⟩
  | .hbm, ⟨21, _⟩ => ⟨S8192x1x1024, .f32⟩
  | .hbm, ⟨22, _⟩ => ⟨S8192x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== NormBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_26 : BitVec 32 := 0#32
  let v66 : BitVec 1 := Scalar.cmpi .ne v65 c0_i32_26
  v66

def k0_cond2 (i : grid0.Coords) : BitVec 1 :=
  let arg0 : BitVec 32 := BitVec.ofNat 32 (i 0).val
  let c0_i32_27 : BitVec 32 := 0#32
  let v67 : BitVec 1 := Scalar.cmpi .sgt arg0 c0_i32_27
  let v68 : BitVec 32 := Scalar.extui v67
  let c0_i32_28 : BitVec 32 := 0#32
  let v69 : BitVec 1 := Scalar.cmpi .ne v68 c0_i32_28
  v69

def k0_cond3 (i : grid0.Coords) : BitVec 1 :=
  let arg0 : BitVec 32 := BitVec.ofNat 32 (i 0).val
  let c0_i32_29 : BitVec 32 := 0#32
  let v70 : BitVec 1 := Scalar.cmpi .eq arg0 c0_i32_29
  let v71 : BitVec 32 := Scalar.extui v70
  let c0_i32_30 : BitVec 32 := 0#32
  let v72 : BitVec 1 := Scalar.cmpi .ne v71 c0_i32_30
  v72

def k0_cond4 (i : grid0.Coords) : BitVec 1 :=
  let arg0 : BitVec 32 := BitVec.ofNat 32 (i 0).val
  let c0_i32_31 : BitVec 32 := 0#32
  let v73 : BitVec 1 := Scalar.cmpi .sgt arg0 c0_i32_31
  let v74 : BitVec 32 := Scalar.extui v73
  let c0_i32_32 : BitVec 32 := 0#32
  let v75 : BitVec 1 := Scalar.cmpi .ne v74 c0_i32_32
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1024, .f32⟩
  | .hbm, ⟨4, _⟩ => ⟨S8192x1024, .bf16⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S1x1024, .f32⟩
  | .hbm, ⟨101, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== XattnFwd.lean ====
abbrev S8192x1024 : Shape := ⟨2, ![8192, 1024]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XattnFwdRefIdeal.lean ====
abbrev S8192x1024 : Shape := ⟨2, ![8192, 1024]⟩
abbrev S1024x2048 : Shape := ⟨2, ![1024, 2048]⟩
abbrev S4x2048x4x256 : Shape := ⟨4, ![4, 2048, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S4x2048x4x256, .f32⟩
  | .hbm, ⟨5, _⟩ => ⟨S4x256x2048, .f32⟩
  | .hbm, ⟨6, _⟩ => ⟨S4x256x1024, .f32⟩
  | .hbm, ⟨7, _⟩ => ⟨S4x256x1024, .f32⟩
  | .hbm, ⟨8, _⟩ => ⟨S4x256x4x256, .f32⟩
  | .hbm, ⟨9, _⟩ => ⟨S4x256x4x256, .f32⟩
  | .hbm, ⟨10, _⟩ => ⟨S4x4x2048x256, .f32⟩
  | .hbm, ⟨11, _⟩ => ⟨S_, .f32⟩
  | .hbm, ⟨12, _⟩ => ⟨S4x4x2048x256, .f32⟩
  | .hbm, ⟨13, _⟩ => ⟨S4x4x2048x256, .f32⟩
  | .hbm, ⟨14, _⟩ => ⟨S_, .f32⟩
  | .hbm, ⟨15, _⟩ => ⟨S4x4x2048, .f32⟩
  | .hbm, ⟨16, _⟩ => ⟨S_, .f32⟩
  | .hbm, ⟨17, _⟩ => ⟨S4x4x2048, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .f32⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S4x4x2048x1, .f32⟩
  | .hbm, ⟨26, _⟩ => ⟨S4x4x2048x256, .f32⟩
  | .hbm, ⟨27, _⟩ => ⟨S4x4x2048x256, .f32⟩
  | .hbm, ⟨28, _⟩ => ⟨S4x4x256x2048, .f32⟩
  | .hbm, ⟨29, _⟩ => ⟨S4x2048x4x256, .f32⟩
  | .hbm, ⟨30, _⟩ => ⟨S8192x1024, .f32⟩
  | .hbm, ⟨31, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== NormBwdLast.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024, .f32⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_12 : BitVec 32 := 0#32
  let v34 : BitVec 1 := Scalar.cmpi .ne v33 c0_i32_12
  v34

def k0_cond2 (i : grid0.Coords) : BitVec 1 :=
  let arg0 : BitVec 32 := BitVec.ofNat 32 (i 0).val
  let c0_i32_13 : BitVec 32 := 0#32
  let v35 : BitVec 1 := Scalar.cmpi .sgt arg0 c0_i32_13
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormBwdLastRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== NormBwdFirst.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdFirstRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormBwdMem.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormBwdMemRefIdeal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== NormFwdLast.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdLastRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== NormFwdFirst.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdFirstIdeal.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdFirstRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormFwdMem.lean ====
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdMemRefIdeal.lean ====
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1024x1024, .f32⟩
  | .hbm, ⟨14, _⟩ => ⟨S1024x1024, .f32⟩
  | .hbm, ⟨15, _⟩ => ⟨S1x1024, .f32⟩
  | .hbm, ⟨16, _⟩ => ⟨S1024x1024, .f32⟩
  | .hbm, ⟨17, _⟩ => ⟨S1024x1024, .f32⟩
  | .hbm, ⟨18, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ConvNormBwd.lean ====
abbrev S8192x512 : Shape := ⟨2, ![8192, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S1x512, .f32⟩
  | .hbm, ⟨8, _⟩ => ⟨S1x512, .f32⟩
  | .hbm, ⟨9, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v66 : BitVec 32 := Scalar.extui v0
  let c0_i32_25 : BitVec 32 := 0#32
  let v67 : BitVec 1 := Scalar.cmpi .ne v66 c0_i32_25
  v67

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v68 : BitVec 1 := Scalar.xori v0 v_true
  let v69 : BitVec 32 := Scalar.extui v68
  let c0_i32_26 : BitVec 32 := 0#32
  let v70 : BitVec 1 := Scalar.cmpi .ne v69 c0_i32_26
  v70

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v73 : BitVec 32 := Scalar.extui v0
  let c0_i32_28 : BitVec 32 := 0#32
  let v74 : BitVec 1 := Scalar.cmpi .ne v73 c0_i32_28
  v74

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_29 : BitVec 1 := 1#1
  let v75 : BitVec 1 := Scalar.xori v0 true_29
  let v76 : BitVec 32 := Scalar.extui v75
  let c0_i32_30 : BitVec 32 := 0#32
  let v77 : BitVec 1 := Scalar.cmpi .ne v76 c0_i32_30
  v77

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v80 : BitVec 32 := Scalar.extui v0
  let c0_i32_32 : BitVec 32 := 0#32
  let v81 : BitVec 1 := Scalar.cmpi .ne v80 c0_i32_32
  v81

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v82 : BitVec 1 := Scalar.xori v0 true_33
  let v83 : BitVec 32 := Scalar.extui v82
  let c0_i32_34 : BitVec 32 := 0#32
  let v84 : BitVec 1 := Scalar.cmpi .ne v83 c0_i32_34
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvNormBwdRefIdeal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S8192x512, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x1, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x512, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x512, .f32⟩
  | .hbm, ⟨101, _⟩ => ⟨S8192x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S512, .f32⟩
  | .hbm, ⟨106, _⟩ => ⟨S1x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== GatingFwd.lean ====
abbrev S8192x1024 : Shape := ⟨2, ![8192, 1024]⟩
abbrev S512 : Shape := ⟨1, ![512]⟩
abbrev S4x128x128 : Shape := ⟨3, ![4, 128, 128]⟩
abbrev S128x4 : Shape := ⟨2, ![128, 4]⟩
abbrev S1x512 : Shape := ⟨2, ![1, 512]⟩
abbrev S8192x512 : Shape := ⟨2, ![8192, 512]⟩
abbrev S512x1024 : Shape := ⟨2, ![512, 1024]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S128x4, .f32⟩
  | .hbm, ⟨5, _⟩ => ⟨S1x512, .f32⟩
  | .hbm, ⟨6, _⟩ => ⟨S1x512, .f32⟩
  | .hbm, ⟨7, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x4, .f32⟩
  | .local _ .vmem, ⟨6, _⟩ => ⟨S512x512, .bf16⟩
  | .local _ .vmem, ⟨7, _⟩ => ⟨S512x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatingFwdRefIdeal.lean ====
abbrev S8192x1024 : Shape := ⟨2, ![8192, 1024]⟩
abbrev S512 : Shape := ⟨1, ![512]⟩
abbrev S4x128x128 : Shape := ⟨3, ![4, 128, 128]⟩
abbrev S128x4 : Shape := ⟨2, ![128, 4]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S1x512 : Shape := ⟨2, ![1, 512]⟩
abbrev S4x16x128x4x128 : Shape := ⟨5, ![4, 16, 128, 4, 128]⟩
abbrev S128x128 : Shape := ⟨2, ![128, 128]⟩
abbrev S4x4x16x128x128 : Shape := ⟨5, ![4, 4, 16, 128, 128]⟩
abbrev S128x4x1 : Shape := ⟨3, ![128, 4, 1]⟩
abbrev S1x1x128x4x1 : Shape := ⟨5, ![1, 1, 128, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S128x4, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S1x512, .f32⟩
  | .hbm, ⟨49, _⟩ => ⟨S8192x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S4x16x128x4x128, .f32⟩
  | .hbm, ⟨55, _⟩ => ⟨S_, .i1⟩
  | .hbm, ⟨56, _⟩ => ⟨S128x128, .i1⟩
  | .hbm, ⟨57, _⟩ => ⟨S128x128, .i32⟩
  | .hbm, ⟨58, _⟩ => ⟨S_, .i32⟩
  | .hbm, ⟨59, _⟩ => ⟨S128x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S_, .i1⟩
  | .hbm, ⟨64, _⟩ => ⟨S128x128, .i1⟩
  | .hbm, ⟨65, _⟩ => ⟨S128x128, .i1⟩
  | .hbm, ⟨66, _⟩ => ⟨S_, .f32⟩
  | .hbm, ⟨67, _⟩ => ⟨S_, .f32⟩
  | .hbm, ⟨68, _⟩ => ⟨S4x128x128, .i1⟩
  | .hbm, ⟨69, _⟩ => ⟨S4x128x128, .f32⟩
  | .hbm, ⟨70, _⟩ => ⟨S4x128x128, .f32⟩
  | .hbm, ⟨71, _⟩ => ⟨S4x4x16x128x128, .f32⟩
  | .hbm, ⟨72, _⟩ => ⟨S4x16x128x4x128, .f32⟩
  | .hbm, ⟨73, _⟩ => ⟨S128x4x1, .f32⟩
  | .hbm, ⟨74, _⟩ => ⟨S1x1x128x4x1, .f32⟩
  | .hbm, ⟨75, _⟩ => ⟨S4x16x128x4x128, .f32⟩
  | .hbm, ⟨76, _⟩ => ⟨S4x16x128x4x128, .f32⟩
  | .hbm, ⟨77, _⟩ => ⟨S8192x512, .f32⟩
  | .hbm, ⟨78, _⟩ => ⟨S8192x512, .f32⟩
  | .hbm, ⟨79, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_v41 : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_c_0 : Ref sig .tc := ⟨.hbm, 63, rfl⟩
abbrev main_call0_v5 : Ref sig .tc := ⟨.hbm, 64, rfl⟩
abbrev main_v42 : Ref sig .tc := ⟨.hbm, 65, rfl⟩
abbrev main_cst_8 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== AttnCombine.lean ====
abbrev S8192x256 : Shape := ⟨2, ![8192, 256]⟩
abbrev S512x256 : Shape := ⟨2, ![512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnCombineRefIdeal.lean ====
abbrev S8192x256 : Shape := ⟨2, ![8192, 256]⟩

abbrev nBuf : Space → Nat
  | .hbm => 20
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== AttnRowdot.lean ====
abbrev S8192x256 : Shape := ⟨2, ![8192, 256]⟩
abbrev S512x256 : Shape := ⟨2, ![512, 256]⟩
abbrev S512x64 : Shape := ⟨2, ![512, 64]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S8192x256, .f32⟩
  | .local _ .vmem, ⟨0, _⟩ => ⟨S512x256, .bf16⟩
  | .local _ .vmem, ⟨1, _⟩ => ⟨S512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnRowdotRefIdeal.lean ====
abbrev S8192x256 : Shape := ⟨2, ![8192, 256]⟩
abbrev S_ : Shape := ⟨0, ![]⟩
abbrev S8192x4 : Shape := ⟨2, ![8192, 4]⟩
abbrev S8192x4x1 : Shape := ⟨3, ![8192, 4, 1]⟩
abbrev S8192x4x64 : Shape := ⟨3, ![8192, 4, 64]⟩

abbrev nBuf : Space → Nat
  | .hbm => 19
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S_, .f32⟩
  | .hbm, ⟨3, _⟩ => ⟨S8192x4, .f32⟩
  | .hbm, ⟨4, _⟩ => ⟨S8192x4x1, .f32⟩
  | .hbm, ⟨5, _⟩ => ⟨S8192x4x64, .f32⟩
  | .hbm, ⟨6, _⟩ => ⟨S8192x4x64, .f32⟩
  | .hbm, ⟨7, _⟩ => ⟨S8192x4x64, .f32⟩
  | .hbm, ⟨8, _⟩ => ⟨S8192x256, .f32⟩
  | .hbm, ⟨9, _⟩ => ⟨S8192x4x64, .f32⟩
  | .hbm, ⟨10, _⟩ => ⟨S8192x4x64, .f32⟩
  | .hbm, ⟨11, _⟩ => ⟨S_, .f32⟩
  | .hbm, ⟨12, _⟩ => ⟨S8192x4, .f32⟩
  | .hbm, ⟨13, _⟩ => ⟨S8192x4x1, .f32⟩
  | .hbm, ⟨14, _⟩ => ⟨S_, .f32⟩
  | .hbm, ⟨15, _⟩ => ⟨S8192x4, .f32⟩
  | .hbm, ⟨16, _⟩ => ⟨S8192x4x1, .f32⟩
  | .hbm, ⟨17, _⟩ => ⟨S8192x4x64, .f32⟩
  | .hbm, ⟨18, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossHead.lean ====
abbrev S8192x1024 : Shape := ⟨2, ![8192, 1024]⟩
abbrev S1x128 : Shape := ⟨2, ![1, 128]⟩
abbrev S512x1024 : Shape := ⟨2, ![512, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x128, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .sgt arg0 c0_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamGain.lean ====
abbrev S1x2x1024 : Shape := ⟨3, ![1, 2, 1024]⟩
abbrev S8x2x1024 : Shape := ⟨3, ![8, 2, 1024]⟩
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x2x1024, .f32⟩
  | .hbm, ⟨1, _⟩ => ⟨S8x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S1x2x1024, .f32⟩
  | .local _ .vmem, ⟨1, _⟩ => ⟨S8x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGainIdeal.lean ====
abbrev S1x2x1024 : Shape := ⟨3, ![1, 2, 1024]⟩
abbrev S8x2x1024 : Shape := ⟨3, ![8, 2, 1024]⟩
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x2x1024, .f32⟩
  | .hbm, ⟨1, _⟩ => ⟨S8x2x1024, .f32⟩
  | .hbm, ⟨2, _⟩ => ⟨S1x2x1024, .f32⟩
  | .hbm, ⟨3, _⟩ => ⟨S1x2x1024, .f32⟩
  | .hbm, ⟨4, _⟩ => ⟨S1x2x1024, .f32⟩
  | .hbm, ⟨5, _⟩ => ⟨S1x2x1024, .f32⟩
  | .hbm, ⟨6, _⟩ => ⟨S1x2x1024, .f32⟩
  | .hbm, ⟨7, _⟩ => ⟨S1x2x1024, .f32⟩
  | .local _ .vmem, ⟨0, _⟩ => ⟨S1x2x1024, .f32⟩
  | .local _ .vmem, ⟨1, _⟩ => ⟨S8x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x2x1024, .f32⟩
  | .local _ .vmem, ⟨7, _⟩ => ⟨S1x2x1024, .f32⟩
  | _, _ => ⟨S1x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamGainRefIdeal.lean ====
abbrev S1x2x1024 : Shape := ⟨3, ![1, 2, 1024]⟩
abbrev S8x2x1024 : Shape := ⟨3, ![8, 2, 1024]⟩
abbrev S_ : Shape := ⟨0, ![]⟩
abbrev S2x1024 : Shape := ⟨2, ![2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x2x1024, .f32⟩
  | .hbm, ⟨1, _⟩ => ⟨S8x2x1024, .f32⟩
  | .hbm, ⟨2, _⟩ => ⟨S1x2x1024, .f32⟩
  | .hbm, ⟨3, _⟩ => ⟨S1x2x1024, .f32⟩
  | .hbm, ⟨4, _⟩ => ⟨S_, .f32⟩
  | .hbm, ⟨5, _⟩ => ⟨S2x1024, .f32⟩
  | .hbm, ⟨6, _⟩ => ⟨S1x2x1024, .f32⟩
  | .hbm, ⟨7, _⟩ => ⟨S_, .f32⟩
  | .hbm, ⟨8, _⟩ => ⟨S1x2x1024, .f32⟩
  | .hbm, ⟨9, _⟩ => ⟨S1x2x1024, .f32⟩
  | .hbm, ⟨10, _⟩ => ⟨S_, .f32⟩
  | .hbm, ⟨11, _⟩ => ⟨S1x2x1024, .f32⟩
  | .hbm, ⟨12, _⟩ => ⟨S1x2x1024, .f32⟩
  | .hbm, ⟨13, _⟩ => ⟨S1x2x1024, .f32⟩
  | .hbm, ⟨14, _⟩ => ⟨S_, .f32⟩
  | .hbm, ⟨15, _⟩ => ⟨S1x2x1024, .f32⟩
  | .hbm, ⟨16, _⟩ => ⟨S1x2x1024, .f32⟩
  | .hbm, ⟨17, _⟩ => ⟨S1x2x1024, .f32⟩
  | .hbm, ⟨18, _⟩ => ⟨S_, .f32⟩
  | .hbm, ⟨19, _⟩ => ⟨S1x2x1024, .f32⟩
  | .hbm, ⟨20, _⟩ => ⟨S1x2x1024, .f32⟩
  | .hbm, ⟨21, _⟩ => ⟨S1x2x1024, .f32⟩
  | .hbm, ⟨22, _⟩ => ⟨S_, .f32⟩
  | .hbm, ⟨23, _⟩ => ⟨S1x2x1024, .f32⟩
  | .hbm, ⟨24, _⟩ => ⟨S1x2x1024, .f32⟩
  | .hbm, ⟨25, _⟩ => ⟨S_, .f32⟩
  | .hbm, ⟨26, _⟩ => ⟨S1x2x1024, .f32⟩
  | .hbm, ⟨27, _⟩ => ⟨S1x2x1024, .f32⟩
  | .hbm, ⟨28, _⟩ => ⟨S1x2x1024, .f32⟩
  | .hbm, ⟨29, _⟩ => ⟨S_, .f32⟩
  | .hbm, ⟨30, _⟩ => ⟨S1x2x1024, .f32⟩
  | .hbm, ⟨31, _⟩ => ⟨S1x2x1024, .f32⟩
  | .hbm, ⟨32, _⟩ => ⟨S1x2x1024, .f32⟩
  | .hbm, ⟨33, _⟩ => ⟨S_, .f32⟩
  | .hbm, ⟨34, _⟩ => ⟨S1x2x1024, .f32⟩
  | .hbm, ⟨35, _⟩ => ⟨S1x2x1024, .f32⟩
  | .hbm, ⟨36, _⟩ => ⟨S1x2x1024, .f32⟩
  | .hbm, ⟨37, _⟩ => ⟨S_, .f32⟩
  | .hbm, ⟨38, _⟩ => ⟨S1x2x1024, .f32⟩
  | .hbm, ⟨39, _⟩ => ⟨S1x2x1024, .f32⟩
  | _, _ => ⟨S1x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranch.lean ====
abbrev S1x2x512 : Shape := ⟨3, ![1, 2, 512]⟩
abbrev S8x2x512 : Shape := ⟨3, ![8, 2, 512]⟩
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x2x512, .f32⟩
  | .hbm, ⟨1, _⟩ => ⟨S8x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S1x2x512, .f32⟩
  | .local _ .vmem, ⟨1, _⟩ => ⟨S8x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S1x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBranchIdeal.lean ====
abbrev S1x2x512 : Shape := ⟨3, ![1, 2, 512]⟩
abbrev S8x2x512 : Shape := ⟨3, ![8, 2, 512]⟩
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x2x512, .f32⟩
  | .hbm, ⟨1, _⟩ => ⟨S8x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S1x2x512, .f32⟩
  | .local _ .vmem, ⟨1, _⟩ => ⟨S8x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S1x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamBranchRefIdeal.lean ====
abbrev S1x2x512 : Shape := ⟨3, ![1, 2, 512]⟩
abbrev S8x2x512 : Shape := ⟨3, ![8, 2, 512]⟩
abbrev S_ : Shape := ⟨0, ![]⟩
abbrev S2x512 : Shape := ⟨2, ![2, 512]⟩

abbrev nBuf : Space → Nat
  | .hbm => 40
  | .vmem => 0
  | .smem => 0
  | _ => 0

abbrev bufTy : (tb : Table) → Fin (tcTables nBuf tb) → BufTy
  | .hbm, ⟨0, _⟩ => ⟨S1x2x512, .f32⟩
  | .hbm, ⟨1, _⟩ => ⟨S8x2x512, .f32⟩
  | .hbm, ⟨2, _⟩ => ⟨S1x2x512, .f32⟩
  | .hbm, ⟨3, _⟩ => ⟨S1x2x512, .f32⟩
  | .hbm, ⟨4, _⟩ => ⟨S_, .f32⟩
  | .hbm, ⟨5, _⟩ => ⟨S2x512, .f32⟩
  | .hbm, ⟨6, _⟩ => ⟨S1x2x512, .f32⟩
  | .hbm, ⟨7, _⟩ => ⟨S_, .f32⟩
  | .hbm, ⟨8, _⟩ => ⟨S1x2x512, .f32⟩
  | .hbm, ⟨9, _⟩ => ⟨S1x2x512, .f32⟩
  | .hbm, ⟨10, _⟩ => ⟨S_, .f32⟩
  | .hbm, ⟨11, _⟩ => ⟨S1x2x512, .f32⟩
  | .hbm, ⟨12, _⟩ => ⟨S1x2x512, .f32⟩
  | .hbm, ⟨13, _⟩ => ⟨S1x2x512, .f32⟩
  | .hbm, ⟨14, _⟩ => ⟨S_, .f32⟩
  | .hbm, ⟨15, _⟩ => ⟨S1x2x512, .f32⟩
  | .hbm, ⟨16, _⟩ => ⟨S1x2x512, .f32⟩
  | .hbm, ⟨17, _⟩ => ⟨S1x2x512, .f32⟩
  | .hbm, ⟨18, _⟩ => ⟨S_, .f32⟩
  | .hbm, ⟨19, _⟩ => ⟨S1x2x512, .f32⟩
  | .hbm, ⟨20, _⟩ => ⟨S1x2x512, .f32⟩
  | .hbm, ⟨21, _⟩ => ⟨S1x2x512, .f32⟩
  | .hbm, ⟨22, _⟩ => ⟨S_, .f32⟩
  | .hbm, ⟨23, _⟩ => ⟨S1x2x512, .f32⟩
  | .hbm, ⟨24, _⟩ => ⟨S1x2x512, .f32⟩
  | .hbm, ⟨25, _⟩ => ⟨S_, .f32⟩
  | .hbm, ⟨26, _⟩ => ⟨S1x2x512, .f32⟩
  | .hbm, ⟨27, _⟩ => ⟨S1x2x512, .f32⟩
  | .hbm, ⟨28, _⟩ => ⟨S1x2x512, .f32⟩
  | .hbm, ⟨29, _⟩ => ⟨S_, .f32⟩
  | .hbm, ⟨30, _⟩ => ⟨S1x2x512, .f32⟩
  | .hbm, ⟨31, _⟩ => ⟨S1x2x512, .f32⟩
  | .hbm, ⟨32, _⟩ => ⟨S1x2x512, .f32⟩
  | .hbm, ⟨33, _⟩ => ⟨S_, .f32⟩
  | .hbm, ⟨34, _⟩ => ⟨S1x2x512, .f32⟩
  | .hbm, ⟨35, _⟩ => ⟨S1x2x512, .f32⟩
  | .hbm, ⟨36, _⟩ => ⟨S1x2x512, .f32⟩
  | .hbm, ⟨37, _⟩ => ⟨S_, .f32⟩
  | .hbm, ⟨38, _⟩ => ⟨S1x2x512, .f32⟩
  | .hbm, ⟨39, _⟩ => ⟨S1x2x512, .f32⟩
  | _, _ => ⟨S1x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S1x2x2816 : Shape := ⟨3, ![1, 2, 2816]⟩
abbrev S8x2x2816 : Shape := ⟨3, ![8, 2, 2816]⟩
abbrev S2x2816 : Shape := ⟨2, ![2, 2816]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2816, .f32⟩
  | .hbm, ⟨1, _⟩ => ⟨S8x2x2816, .f32⟩
  | .hbm, ⟨2, _⟩ => ⟨S1x2x2816, .f32⟩
  | .hbm, ⟨3, _⟩ => ⟨S1x2x2816, .f32⟩
  | .hbm, ⟨4, _⟩ => ⟨S1x2x2816, .f32⟩
  | .hbm, ⟨5, _⟩ => ⟨S1x2x2816, .f32⟩
  | .hbm, ⟨6, _⟩ => ⟨S1x2x2816, .f32⟩
  | .hbm, ⟨7, _⟩ => ⟨S1x2x2816, .f32⟩
  | .local _ .vmem, ⟨0, _⟩ => ⟨S1x2x2816, .f32⟩
  | .local _ .vmem, ⟨1, _⟩ => ⟨S8x2x2816, .f32⟩
  | .local _ .vmem, ⟨2, _⟩ => ⟨S1x2x2816, .f32⟩
  | .local _ .vmem, ⟨3, _⟩ => ⟨S1x2x2816, .f32⟩
  | .local _ .vmem, ⟨4, _⟩ => ⟨S1x2x2816, .f32⟩
  | .local _ .vmem, ⟨5, _⟩ => ⟨S1x2x2816, .f32⟩
  | .local _ .vmem, ⟨6, _⟩ => ⟨S1x2x2816, .f32⟩
  | .local _ .vmem, ⟨7, _⟩ => ⟨S1x2x2816, .f32⟩
  | _, _ => ⟨S1x2x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvRefIdeal.lean ====
abbrev S1x2x2816 : Shape := ⟨3, ![1, 2, 2816]⟩
abbrev S8x2x2816 : Shape := ⟨3, ![8, 2, 2816]⟩
abbrev S_ : Shape := ⟨0, ![]⟩
abbrev S2x2816 : Shape := ⟨2, ![2, 2816]⟩

abbrev nBuf : Space → Nat
  | .hbm => 40
  | .vmem => 0
  | .smem => 0
  | _ => 0

abbrev bufTy : (tb : Table) → Fin (tcTables nBuf tb) → BufTy
  | .hbm, ⟨0, _⟩ => ⟨S1x2x2816, .f32⟩
  | .hbm, ⟨1, _⟩ => ⟨S8x2x2816, .f32⟩
  | .hbm, ⟨2, _⟩ => ⟨S1x2x2816, .f32⟩
  | .hbm, ⟨3, _⟩ => ⟨S1x2x2816, .f32⟩
  | .hbm, ⟨4, _⟩ => ⟨S_, .f32⟩
  | .hbm, ⟨5, _⟩ => ⟨S2x2816, .f32⟩
  | .hbm, ⟨6, _⟩ => ⟨S1x2x2816, .f32⟩
  | .hbm, ⟨7, _⟩ => ⟨S_, .f32⟩
  | .hbm, ⟨8, _⟩ => ⟨S1x2x2816, .f32⟩
  | .hbm, ⟨9, _⟩ => ⟨S1x2x2816, .f32⟩
  | .hbm, ⟨10, _⟩ => ⟨S_, .f32⟩
  | .hbm, ⟨11, _⟩ => ⟨S1x2x2816, .f32⟩
  | .hbm, ⟨12, _⟩ => ⟨S1x2x2816, .f32⟩
  | .hbm, ⟨13, _⟩ => ⟨S1x2x2816, .f32⟩
  | .hbm, ⟨14, _⟩ => ⟨S_, .f32⟩
  | .hbm, ⟨15, _⟩ => ⟨S1x2x2816, .f32⟩
  | .hbm, ⟨16, _⟩ => ⟨S1x2x2816, .f32⟩
  | .hbm, ⟨17, _⟩ => ⟨S1x2x2816, .f32⟩
  | .hbm, ⟨18, _⟩ => ⟨S_, .f32⟩
  | .hbm, ⟨19, _⟩ => ⟨S1x2x2816, .f32⟩
  | .hbm, ⟨20, _⟩ => ⟨S1x2x2816, .f32⟩
  | .hbm, ⟨21, _⟩ => ⟨S1x2x2816, .f32⟩
  | .hbm, ⟨22, _⟩ => ⟨S_, .f32⟩
  | .hbm, ⟨23, _⟩ => ⟨S1x2x2816, .f32⟩
  | .hbm, ⟨24, _⟩ => ⟨S1x2x2816, .f32⟩
  | .hbm, ⟨25, _⟩ => ⟨S_, .f32⟩
  | .hbm, ⟨26, _⟩ => ⟨S1x2x2816, .f32⟩
  | .hbm, ⟨27, _⟩ => ⟨S1x2x2816, .f32⟩
  | .hbm, ⟨28, _⟩ => ⟨S1x2x2816, .f32⟩
  | .hbm, ⟨29, _⟩ => ⟨S_, .f32⟩
  | .hbm, ⟨30, _⟩ => ⟨S1x2x2816, .f32⟩
  | .hbm, ⟨31, _⟩ => ⟨S1x2x2816, .f32⟩
  | .hbm, ⟨32, _⟩ => ⟨S1x2x2816, .f32⟩
  | .hbm, ⟨33, _⟩ => ⟨S_, .f32⟩
  | .hbm, ⟨34, _⟩ => ⟨S1x2x2816, .f32⟩
  | .hbm, ⟨35, _⟩ => ⟨S1x2x2816, .f32⟩
  | .hbm, ⟨36, _⟩ => ⟨S1x2x2816, .f32⟩
  | .hbm, ⟨37, _⟩ => ⟨S_, .f32⟩
  | .hbm, ⟨38, _⟩ => ⟨S1x2x2816, .f32⟩
  | .hbm, ⟨39, _⟩ => ⟨S1x2x2816, .f32⟩
  | _, _ => ⟨S1x2x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== LossSum.lean ====
abbrev S8x128 : Shape := ⟨2, ![8, 128]⟩
abbrev S1x128 : Shape := ⟨2, ![1, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x128, .f32⟩
  | .hbm, ⟨1, _⟩ => ⟨S1x128, .f32⟩
  | .local _ .vmem, ⟨0, _⟩ => ⟨S8x128, .f32⟩
  | .local _ .vmem, ⟨1, _⟩ => ⟨S1x128, .f32⟩
  | _, _ => ⟨S8x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossSumRefIdeal.lean ====
abbrev S8x128 : Shape := ⟨2, ![8, 128]⟩
abbrev S_ : Shape := ⟨0, ![]⟩
abbrev S128 : Shape := ⟨1, ![128]⟩
abbrev S1x128 : Shape := ⟨2, ![1, 128]⟩

abbrev nBuf : Space → Nat
  | .hbm => 4
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S_, .f32⟩
  | .hbm, ⟨2, _⟩ => ⟨S128, .f32⟩
  | .hbm, ⟨3, _⟩ => ⟨S1x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Xattn.Spec.lean ====
/- The mathematics of the memory attention's gradient over the extended reals: one query row against the 256 keys and
   values of one head of one batch element, as the kernel groups it and as the reference groups it, and their equality. -/
module

public import Idealize.ShloMosaic.PureOps.Ideal.Laws
public import Idealize.ShloMosaic.Lib.IdealHost

@[expose] public section

noncomputable section

namespace Cert.Xattn

open Idealize.ShloMosaic

/-- The scale of the scores, as the programs spell it. -/
abbrev c16 : EReal := Ideal.ofBits .f32 0x3D800000#32

/-- The scale is the real number one sixteenth. -/
theorem c16_eq : c16 = ((1 / 16 : ℝ) : EReal) := by
  simp [c16, Ideal.ofBits, Ideal.ieee, -EReal.coe_mul]; norm_num

/-- One row of a head: 256 numbers. -/
abbrev Row := Fin 256 → EReal
/-- The 256 memory rows of a head. -/
abbrev Mat := Fin 256 → Fin 256 → EReal

/-- The scaled score of a query row against memory row `m`. -/
def score (q : Row) (k : Mat) (m : Fin 256) : EReal := (∑ e, q e * k m e) * c16
/-- The greatest score of the row. -/
def top (q : Row) (k : Mat) : EReal := (Finset.univ : Finset (Fin 256)).fold max ⊥ (score q k)
/-- The unnormalised softmax weight. -/
def wt (q : Row) (k : Mat) (m : Fin 256) : EReal := Ideal.exp (score q k m - top q k)
/-- The softmax normaliser. -/
def den (q : Row) (k : Mat) : EReal := ∑ m, wt q k m
/-- The softmax probability. -/
def prob (q : Row) (k : Mat) (m : Fin 256) : EReal := Ideal.div (wt q k m) (den q k)
/-- The gradient of the probability: the output's gradient row against the value rows. -/
def dprob (d : Row) (v : Mat) (m : Fin 256) : EReal := ∑ e, d e * v m e
/-- The gradient of the score, the way the kernel computes it. -/
def dscore (q d : Row) (k v : Mat) (m : Fin 256) : EReal :=
  prob q k m * (dprob d v m - ∑ j, prob q k j * dprob d v j)
/-- The gradient of the score, the way differentiating the quotient of the softmax writes it. -/
def dscoreRef (q d : Row) (k v : Mat) (m : Fin 256) : EReal :=
  (Ideal.div (dprob d v m) (den q k) + -(∑ j, dprob d v j * Ideal.div 1 (den q k * den q k) * wt q k j)) * wt q k m

/-- A nonnegative real factor on the right distributes over a finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A finite sum of reals is the extended real of the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scores of finite queries and keys are real. -/
theorem score_real (q : Fin 256 → ℝ) (k : Fin 256 → Fin 256 → ℝ) (m : Fin 256) :
    score (fun e => (q e : EReal)) (fun m e => (k m e : EReal)) m = (((∑ e, q e * k m e) * (1 / 16) : ℝ) : EReal) := by
  unfold score
  rw [c16_eq, EReal.coe_mul, ← sum_real]
  simp only [EReal.coe_mul]

/-- The running maximum of a nonempty family of reals, started at minus infinity, is real. -/
theorem fold_max_real {ι : Type} (s : Finset ι) (hs : s.Nonempty) (f : ι → ℝ) :
    ∃ r : ℝ, s.fold max ⊥ (fun i => (f i : EReal)) = (r : EReal) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max).symm⟩

/-- With finite queries and keys every weight is a positive real and so is their sum. -/
theorem wt_den_real (q : Row) (k : Mat) (hq : ∀ e, ∃ r : ℝ, q e = r) (hk : ∀ m e, ∃ r : ℝ, k m e = r) :
    ∃ (w : Fin 256 → ℝ) (z : ℝ), (∀ m, 0 < w m) ∧ 0 < z ∧ (∀ m, wt q k m = (w m : EReal)) ∧ den q k = (z : EReal) := by
  choose q' hq using hq
  choose k' hk using hk
  obtain rfl : q = fun e => (q' e : EReal) := funext hq
  obtain rfl : k = fun m e => (k' m e : EReal) := funext fun m => funext (hk m)
  obtain ⟨r, hr⟩ := fold_max_real Finset.univ ⟨0, Finset.mem_univ _⟩ fun m : Fin 256 => (∑ e, q' e * k' m e) * (1 / 16)
  have hw : ∀ m, wt (fun e => (q' e : EReal)) (fun m e => (k' m e : EReal)) m
      = ((Real.exp ((∑ e, q' e * k' m e) * (1 / 16) - r) : ℝ) : EReal) := by
    intro m
    unfold wt top
    rw [show score (fun e => (q' e : EReal)) (fun m e => (k' m e : EReal)) = fun m => (((∑ e, q' e * k' m e) * (1 / 16) : ℝ) : EReal)
      from funext (score_real q' k'), hr, ← EReal.coe_sub]
    rfl
  refine ⟨_, ∑ m, Real.exp ((∑ e, q' e * k' m e) * (1 / 16) - r), fun m => Real.exp_pos _,
    Finset.sum_pos (fun m _ => Real.exp_pos _) ⟨0, Finset.mem_univ _⟩, hw, ?_⟩
  unfold den
  rw [← sum_real]
  exact Finset.sum_congr rfl fun m _ => hw m

/-- A quotient by a positive real is the product with its inverse. -/
theorem div_real (x : EReal) (z : ℝ) (hz : 0 < z) : Ideal.div x (z : EReal) = x * ((z⁻¹ : ℝ) : EReal) := by
  unfold Ideal.div
  rw [if_neg (by exact_mod_cast hz.ne'), EReal.coe_inv]

/-- The two ways of writing the score's gradient agree for finite queries and keys, whatever the values and the output's
    gradient are. -/
theorem dscore_eq (q d : Row) (k v : Mat) (hq : ∀ e, ∃ r : ℝ, q e = r) (hk : ∀ m e, ∃ r : ℝ, k m e = r) (m : Fin 256) :
    dscore q d k v m = dscoreRef q d k v m := by
  obtain ⟨w, z, hw, hz, hwt, hden⟩ := wt_den_real q k hq hk
  have hp : ∀ j, prob q k j = ((w j * z⁻¹ : ℝ) : EReal) := fun j => by
    unfold prob; rw [hden, hwt, div_real _ _ hz, EReal.coe_mul]
  have hzi : 0 < z⁻¹ := inv_pos.mpr hz
  unfold dscore dscoreRef
  rw [hden, div_real _ _ hz, ← EReal.coe_mul, div_real _ _ (mul_pos hz hz), one_mul, hwt, hp]
  have hs : (∑ j, dprob d v j * (((z * z)⁻¹ : ℝ) : EReal) * wt q k j)
      = (∑ j, prob q k j * dprob d v j) * ((z⁻¹ : ℝ) : EReal) := by
    rw [sum_mul_real _ _ _ hzi.le]
    refine Finset.sum_congr rfl fun j _ => ?_
    rw [hp, hwt, mul_inv, EReal.coe_mul, EReal.coe_mul]
    ac_rfl
  rw [hs, ← EReal.neg_mul, ← EReal.right_distrib_of_nonneg_of_ne_top (EReal.coe_nonneg.mpr hzi.le) (EReal.coe_ne_top _),
    EReal.coe_mul, ← sub_eq_add_neg]
  ac_rfl

/-- The scale taken out of a product row sum, on the right. -/
theorem scale_out {ι : Type} (s : Finset ι) (f g : ι → EReal) :
    (∑ i ∈ s, f i * g i) * c16 = ∑ i ∈ s, f i * c16 * g i := by
  rw [c16_eq, sum_mul_real _ _ _ (by norm_num)]
  exact Finset.sum_congr rfl fun i _ => by ac_rfl

end Cert.Xattn

end
-- ==== Proof.Xattn.Payload.lean ====
/- What the kernel's body computes for one head at one grid point, read at an index: the query gradient's, the key
   gradient's and the value gradient's block as the sums of Spec.lean over the head's rows. -/
module

public import proofs.«01_k».proof.Proof.Gen.KernelIdeal.Skeleton
public import proofs.«01_k».proof.Proof.Xattn.Spec
public import Idealize.ShloMosaic.Lib.Pipeline.ValueKit

@[expose] public section

set_option maxRecDepth 16384

noncomputable section

namespace Cert.Xattn

open Idealize.ShloMosaic Idealize.ShloMosaic.TcCoe Cert.KernelIdeal Cert.KernelIdeal.Gen
open Idealize.ShloMosaic.ValueIdx (contrEquiv1 contrEquiv1_symm_val)

/-- Rows against rows: entry `(r, m)` is the sum over the common 256 columns. -/
theorem nt_apply (x : FVec Ideal S1024x256 .bf16) (y : FVec Ideal S256x256 .bf16) (r : Fin 1024) (m : Fin 256) :
    matmul dot_S1024x256_S256x256_S1024x256_1_1_0_0_n_n none x y (constant S1024x256 .f32 0x00000000#32) (ix2 r m)
      = ∑ e : Fin 256, x (ix2 r e) * y (ix2 m e) := by
  show FloatOps.matmul _ none x y _ _ = _
  rw [Ideal.matmul_constant_zero_apply,
    ← Equiv.sum_comp (contrEquiv1 dot_S1024x256_S256x256_S1024x256_1_1_0_0_n_n 256 rfl rfl).symm]
  refine Finset.sum_congr rfl fun c _ => ?_
  have hc := contrEquiv1_symm_val dot_S1024x256_S256x256_S1024x256_1_1_0_0_n_n 256 rfl rfl c
  congr 2 <;> funext a <;> apply Fin.ext
  · match a with
    | ⟨0, _⟩ => rfl
    | ⟨1, _⟩ => exact hc
  · match a with
    | ⟨0, _⟩ => rfl
    | ⟨1, _⟩ => exact hc

/-- Rows against columns: entry `(r, e)` is the sum over the 256 memory rows. -/
theorem nn_apply (x : FVec Ideal S1024x256 .bf16) (y : FVec Ideal S256x256 .bf16) (r : Fin 1024) (e : Fin 256) :
    matmul dot_S1024x256_S256x256_S1024x256_1_0_0_1_n_n none x y (constant S1024x256 .f32 0x00000000#32) (ix2 r e)
      = ∑ m : Fin 256, x (ix2 r m) * y (ix2 m e) := by
  show FloatOps.matmul _ none x y _ _ = _
  rw [Ideal.matmul_constant_zero_apply,
    ← Equiv.sum_comp (contrEquiv1 dot_S1024x256_S256x256_S1024x256_1_0_0_1_n_n 256 rfl rfl).symm]
  refine Finset.sum_congr rfl fun c _ => ?_
  have hc := contrEquiv1_symm_val dot_S1024x256_S256x256_S1024x256_1_0_0_1_n_n 256 rfl rfl c
  congr 2 <;> funext a <;> apply Fin.ext
  · match a with
    | ⟨0, _⟩ => rfl
    | ⟨1, _⟩ => exact hc
  · match a with
    | ⟨0, _⟩ => exact hc
    | ⟨1, _⟩ => rfl

/-- Columns against columns: entry `(m, e)` is the sum over the tile's 1024 rows. -/
theorem tn_apply (x : FVec Ideal S1024x256 .bf16) (y : FVec Ideal S1024x256 .bf16) (m e : Fin 256) :
    matmul dot_S1024x256_S1024x256_S256x256_0_0_1_1_n_n none x y (constant S256x256 .f32 0x00000000#32) (ix2 m e)
      = ∑ r : Fin 1024, x (ix2 r m) * y (ix2 r e) := by
  show FloatOps.matmul _ none x y _ _ = _
  rw [Ideal.matmul_constant_zero_apply,
    ← Equiv.sum_comp (contrEquiv1 dot_S1024x256_S1024x256_S256x256_0_0_1_1_n_n 1024 rfl rfl).symm]
  refine Finset.sum_congr rfl fun c _ => ?_
  have hc := contrEquiv1_symm_val dot_S1024x256_S1024x256_S256x256_0_0_1_1_n_n 1024 rfl rfl c
  congr 2 <;> funext a <;> apply Fin.ext
  · match a with
    | ⟨0, _⟩ => exact hc
    | ⟨1, _⟩ => rfl
  · match a with
    | ⟨0, _⟩ => exact hc
    | ⟨1, _⟩ => rfl

/-- A vector of 1024 row values spread along the rows reads the row's value. -/
theorem spread_apply (x : FVec Ideal S1024 .f32) (r : Fin 1024) (m : Fin 256) :
    broadcastTo S1024x256 (shapeCast S1024x1 x shapeCasts_S1024_S1024x1) broadcasts_S1024x1_S1024x256 (ix2 r m) = x (ix1 r) := by
  rw [broadcastTo_apply _ _ _ (ix2 r (0 : Fin 1)), shapeCast_apply _ _ _ (ix1 r)]
  · exact ((Shape.rowMajor_val_one _).trans (by simp)).trans (Shape.rowMajor_val_two _).symm
  · intro a
    match a with
    | ⟨0, _⟩ => rfl
    | ⟨1, _⟩ => rfl

/-- A row's sum. -/
theorem rowsum_apply (x : FVec Ideal S1024x256 .f32) (r : Fin 1024) :
    multiReduction .add [1] S1024 x 0x00000000#32 reduces_S1024x256_S1024 (.inl rfl) rfl (ix1 r) = ∑ m : Fin 256, x (ix2 r m) := by
  refine (Ideal.multiReduction_add_single (a := (1 : Fin S1024x256.rank)) x _ reduces_S1024x256_S1024 _ _ (ix1 r)).trans ?_
  refine Finset.sum_congr rfl fun m _ => congrArg x ?_
  funext a
  match a with
  | ⟨0, _⟩ => rfl
  | ⟨1, _⟩ => rfl

/-- Minus infinity, as the programs spell it. -/
theorem ofBits_neg_inf : Ideal.ofBits .f32 0xFF800000#32 = ⊥ := by
  simp [Ideal.ofBits, Ideal.ieee]

/-- A row's maximum, started at minus infinity. -/
theorem rowmax_apply (x : FVec Ideal S1024x256 .f32) (r : Fin 1024) :
    multiReduction .maximumf [1] S1024 x 0xFF800000#32 reduces_S1024x256_S1024 (.inl rfl) rfl (ix1 r)
      = (Finset.univ : Finset (Fin 256)).fold max ⊥ (fun m => x (ix2 r m)) := by
  refine (Ideal.multiReduction_maximumf_single (a := (1 : Fin S1024x256.rank)) x _ reduces_S1024x256_S1024 _ _ (ix1 r)).trans ?_
  rw [show (FloatOps.ofBits (F := Ideal) .f32 0xFF800000#32) = (⊥ : EReal) from ofBits_neg_inf]
  refine congrArg (fun f => Finset.fold max (⊥ : EReal) f (Finset.univ : Finset (Fin 256))) (funext fun m => congrArg x ?_)
  funext a
  match a with
  | ⟨0, _⟩ => rfl
  | ⟨1, _⟩ => rfl

/-- Row `r` of a block. -/
abbrev row {n : Nat} (x : FVec Ideal ⟨2, ![n, 256]⟩ .bf16) (r : Fin n) : Row := fun e => x (ix2 r e)
/-- A memory block as its rows. -/
abbrev mat (x : FVec Ideal S256x256 .bf16) : Mat := fun m e => x (ix2 m e)

/-- The softmax of the scores, entry by entry. -/
theorem pay6_apply (q : FVec Ideal S1024x256 .bf16) (k : FVec Ideal S256x256 .bf16) (r : Fin 1024) (m : Fin 256) :
    k0_pay6 (F := Ideal) q k (ix2 r m) = prob (row q r) (mat k) m := by
  have hs : ∀ m, mulf (matmul dot_S1024x256_S256x256_S1024x256_1_1_0_0_n_n none q k (constant S1024x256 .f32 0x00000000#32))
      (broadcast S1024x256 (Scalar.ofBits .f32 0x3D800000#32)) (ix2 r m) = score (row q r) (mat k) m := fun m => by
    show _ * c16 = _
    rw [nt_apply]
    rfl
  unfold k0_pay6
  dsimp only
  generalize (mulf (F := Ideal) _ _) = s at hs ⊢
  have he : ∀ m, exp (subf s (broadcastTo S1024x256 (shapeCast S1024x1 (multiReduction .maximumf [1] S1024 s 0xFF800000#32
      reduces_S1024x256_S1024 (.inl rfl) rfl) shapeCasts_S1024_S1024x1) broadcasts_S1024x1_S1024x256)) (ix2 r m)
        = wt (row q r) (mat k) m := fun m => by
    show Ideal.exp (s (ix2 r m) - _) = _
    rw [spread_apply, rowmax_apply, hs]
    unfold wt top
    rw [show (fun m => s (ix2 r m)) = score (row q r) (mat k) from funext hs]
  generalize (exp (F := Ideal) _) = e at he ⊢
  show Ideal.div (e (ix2 r m)) _ = _
  rw [spread_apply, rowsum_apply, he]
  unfold prob den
  rw [show (fun m => e (ix2 r m)) = wt (row q r) (mat k) from funext he]

/-- The gradient of the scores, entry by entry. -/
theorem pay7_apply (q d : FVec Ideal S1024x256 .bf16) (k v : FVec Ideal S256x256 .bf16) (r : Fin 1024) (m : Fin 256) :
    k0_pay7 (F := Ideal) q k v d (ix2 r m) = dscore (row q r) (row d r) (mat k) (mat v) m := by
  have hd : ∀ m, matmul dot_S1024x256_S256x256_S1024x256_1_1_0_0_n_n none d v (constant S1024x256 .f32 0x00000000#32) (ix2 r m)
      = dprob (row d r) (mat v) m := fun m => nt_apply d v r m
  have hp := pay6_apply q k r
  unfold k0_pay7
  dsimp only
  generalize matmul (F := Ideal) dot_S1024x256_S256x256_S1024x256_1_1_0_0_n_n none d v _ = g at hd ⊢
  generalize k0_pay6 (F := Ideal) q k = p at hp ⊢
  show p (ix2 r m) * (g (ix2 r m) - _) = _
  rw [spread_apply, rowsum_apply, hp, hd]
  unfold dscore
  congr 2
  refine Finset.sum_congr rfl fun j _ => ?_
  show p (ix2 r j) * g (ix2 r j) = _
  rw [hp, hd]

/-- One row of the head's query gradient. -/
def dqRow (q d : Row) (k v : Mat) (e : Fin 256) : EReal := (∑ m, dscore q d k v m * k m e) * c16

/-- The head's query gradient, entry by entry. -/
theorem pay8_apply (q d : FVec Ideal S1024x256 .bf16) (k v : FVec Ideal S256x256 .bf16) (r : Fin 1024) (e : Fin 256) :
    k0_pay8 (F := Ideal) q k v d (ix2 r e) = dqRow (row q r) (row d r) (mat k) (mat v) e := by
  unfold k0_pay8
  show _ * c16 = _
  rw [nn_apply]
  unfold dqRow
  congr 1
  exact Finset.sum_congr rfl fun m _ => by rw [pay7_apply]

/-- The tile's part of the head's key gradient, entry by entry. -/
theorem pay9_apply (q d : FVec Ideal S1024x256 .bf16) (k v : FVec Ideal S256x256 .bf16) (m e : Fin 256) :
    k0_pay9 (F := Ideal) q k v d (ix2 m e) = (∑ r : Fin 1024, dscore (row q r) (row d r) (mat k) (mat v) m * q (ix2 r e)) * c16 := by
  unfold k0_pay9
  show _ * c16 = _
  rw [tn_apply]
  congr 1
  exact Finset.sum_congr rfl fun r _ => by rw [pay7_apply]

/-- The tile's part of the head's value gradient, entry by entry. -/
theorem pay10_apply (q d : FVec Ideal S1024x256 .bf16) (k : FVec Ideal S256x256 .bf16) (m e : Fin 256) :
    k0_pay10 (F := Ideal) q k d (ix2 m e) = ∑ r : Fin 1024, prob (row q r) (mat k) m * d (ix2 r e) := by
  unfold k0_pay10
  rw [tn_apply]
  exact Finset.sum_congr rfl fun r _ => congrArg (· * d (ix2 r e)) (pay6_apply q k r m)

end Cert.Xattn

end
-- ==== Proof.Xattn.Block.lean ====
/- What one grid point computes from its three blocks, read at an index: head `h` of the query gradient's block, and
   the two halves of the key and value gradient's block. -/
module

public import proofs.«01_k».proof.Proof.Xattn.Payload

@[expose] public section

set_option maxRecDepth 16384

noncomputable section

namespace Cert.Xattn

open Idealize.ShloMosaic Idealize.ShloMosaic.TcCoe Cert.KernelIdeal Cert.KernelIdeal.Gen

/-- Column `e` of head `h` among the 1024 columns. -/
abbrev col (h : Fin 4) (e : Fin 256) : Fin 1024 := ⟨h.val * 256 + e.val, by omega⟩
/-- Column `e` of head `h` of the keys, among the 2048 columns. -/
abbrev colK (h : Fin 4) (e : Fin 256) : Fin 2048 := ⟨h.val * 256 + e.val, by omega⟩
/-- Column `e` of head `h` of the values, among the 2048 columns. -/
abbrev colV (h : Fin 4) (e : Fin 256) : Fin 2048 := ⟨1024 + h.val * 256 + e.val, by omega⟩

/-- Head `h` of row `r` of an array of 1024 columns. -/
abbrev rowOf {n : Nat} (X : (⟨2, ![n, 1024]⟩ : Shape).Idx → EReal) (r : Fin n) (h : Fin 4) : Row := fun e => X (ix2 r (col h e))
/-- Head `h` of the keys of a memory block. -/
abbrev keysOf (KV : FVec Ideal S256x2048 .bf16) (h : Fin 4) : Mat := fun m e => KV (ix2 m (colK h e))
/-- Head `h` of the values of a memory block. -/
abbrev valsOf (KV : FVec Ideal S256x2048 .bf16) (h : Fin 4) : Mat := fun m e => KV (ix2 m (colV h e))

section
variable (Q D : FVec Ideal S1024x1024 .bf16) (KV : FVec Ideal S256x2048 .bf16)

/-- The four head slices of a block of 1024 columns. -/
def sl (X : FVec Ideal S1024x1024 .bf16) : Fin 4 → FVec Ideal S1024x256 .bf16 :=
  ![View.ld (Val := Elt Ideal) (S := S1024x1024) (e' := .bf16) X (Rect.unit ![0, 0] ![1024, 256] inb_S1024x1024_S1024x256_0_0),
    View.ld (Val := Elt Ideal) (S := S1024x1024) (e' := .bf16) X (Rect.unit ![0, 256] ![1024, 256] inb_S1024x1024_S1024x256_0_256),
    View.ld (Val := Elt Ideal) (S := S1024x1024) (e' := .bf16) X (Rect.unit ![0, 512] ![1024, 256] inb_S1024x1024_S1024x256_0_512),
    View.ld (Val := Elt Ideal) (S := S1024x1024) (e' := .bf16) X (Rect.unit ![0, 768] ![1024, 256] inb_S1024x1024_S1024x256_0_768)]
/-- The four key slices of a memory block. -/
def slK : Fin 4 → FVec Ideal S256x256 .bf16 :=
  ![View.ld (Val := Elt Ideal) (S := S256x2048) (e' := .bf16) KV (Rect.unit ![0, 0] ![256, 256] inb_S256x2048_S256x256_0_0),
    View.ld (Val := Elt Ideal) (S := S256x2048) (e' := .bf16) KV (Rect.unit ![0, 256] ![256, 256] inb_S256x2048_S256x256_0_256),
    View.ld (Val := Elt Ideal) (S := S256x2048) (e' := .bf16) KV (Rect.unit ![0, 512] ![256, 256] inb_S256x2048_S256x256_0_512),
    View.ld (Val := Elt Ideal) (S := S256x2048) (e' := .bf16) KV (Rect.unit ![0, 768] ![256, 256] inb_S256x2048_S256x256_0_768)]
/-- The four value slices of a memory block. -/
def slV : Fin 4 → FVec Ideal S256x256 .bf16 :=
  ![View.ld (Val := Elt Ideal) (S := S256x2048) (e' := .bf16) KV (Rect.unit ![0, 1024] ![256, 256] inb_S256x2048_S256x256_0_1024),
    View.ld (Val := Elt Ideal) (S := S256x2048) (e' := .bf16) KV (Rect.unit ![0, 1280] ![256, 256] inb_S256x2048_S256x256_0_1280),
    View.ld (Val := Elt Ideal) (S := S256x2048) (e' := .bf16) KV (Rect.unit ![0, 1536] ![256, 256] inb_S256x2048_S256x256_0_1536),
    View.ld (Val := Elt Ideal) (S := S256x2048) (e' := .bf16) KV (Rect.unit ![0, 1792] ![256, 256] inb_S256x2048_S256x256_0_1792)]

/-- A load of 256 columns from column `c` on, at an index. -/
theorem ld_cols {n w : Nat} {e' : EltTy} (X : Vec Ideal ⟨2, ![n, w]⟩ e') (c : Nat)
    (inb : ∀ a : Fin 2, ![0, c] a + ![n, 256] a ≤ (⟨2, ![n, w]⟩ : Shape).size a)
    (r : Fin n) (e : Fin 256) (k : Fin w) (hk : k.val = c + e.val) :
    View.ld (Val := Elt Ideal) (S := ⟨2, ![n, w]⟩) (e' := e') X (Rect.unit ![0, c] ![n, 256] inb) (ix2 r e) = X (ix2 r k) := by
  refine View.ld_unit_apply_of _ _ _ _ _ _ fun a => ?_
  match a with
  | ⟨0, _⟩ => exact (Nat.zero_add _).symm
  | ⟨1, _⟩ => exact hk

/-- A head slice at an index. -/
theorem sl_apply (h : Fin 4) (r : Fin 1024) (e : Fin 256) : sl Q h (ix2 r e) = Q (ix2 r (col h e)) := by
  match h with
  | ⟨0, _⟩ => exact ld_cols (e' := .bf16) Q 0 inb_S1024x1024_S1024x256_0_0 r e _ rfl
  | ⟨1, _⟩ => exact ld_cols (e' := .bf16) Q 256 inb_S1024x1024_S1024x256_0_256 r e _ rfl
  | ⟨2, _⟩ => exact ld_cols (e' := .bf16) Q 512 inb_S1024x1024_S1024x256_0_512 r e _ rfl
  | ⟨3, _⟩ => exact ld_cols (e' := .bf16) Q 768 inb_S1024x1024_S1024x256_0_768 r e _ rfl
/-- A key slice at an index. -/
theorem slK_apply (h : Fin 4) (m e : Fin 256) : slK KV h (ix2 m e) = KV (ix2 m (colK h e)) := by
  match h with
  | ⟨0, _⟩ => exact ld_cols (e' := .bf16) KV 0 inb_S256x2048_S256x256_0_0 m e _ rfl
  | ⟨1, _⟩ => exact ld_cols (e' := .bf16) KV 256 inb_S256x2048_S256x256_0_256 m e _ rfl
  | ⟨2, _⟩ => exact ld_cols (e' := .bf16) KV 512 inb_S256x2048_S256x256_0_512 m e _ rfl
  | ⟨3, _⟩ => exact ld_cols (e' := .bf16) KV 768 inb_S256x2048_S256x256_0_768 m e _ rfl
/-- A value slice at an index. -/
theorem slV_apply (h : Fin 4) (m e : Fin 256) : slV KV h (ix2 m e) = KV (ix2 m (colV h e)) := by
  match h with
  | ⟨0, _⟩ => exact ld_cols (e' := .bf16) KV 1024 inb_S256x2048_S256x256_0_1024 m e _ rfl
  | ⟨1, _⟩ => exact ld_cols (e' := .bf16) KV 1280 inb_S256x2048_S256x256_0_1280 m e _ rfl
  | ⟨2, _⟩ => exact ld_cols (e' := .bf16) KV 1536 inb_S256x2048_S256x256_0_1536 m e _ rfl
  | ⟨3, _⟩ => exact ld_cols (e' := .bf16) KV 1792 inb_S256x2048_S256x256_0_1792 m e _ rfl

/-- The rows of a head slice. -/
theorem row_sl (h : Fin 4) (r : Fin 1024) : row (sl Q h) r = rowOf Q r h := funext fun e => sl_apply Q h r e
/-- The rows of a key slice. -/
theorem mat_slK (h : Fin 4) : mat (slK KV h) = keysOf KV h := funext fun m => funext fun e => slK_apply KV h m e
/-- The rows of a value slice. -/
theorem mat_slV (h : Fin 4) : mat (slV KV h) = valsOf KV h := funext fun m => funext fun e => slV_apply KV h m e

/-- Four blocks of 256 columns side by side. -/
theorem concat4_apply (x : Fin 4 → FVec Ideal S1024x256 .f32) (h : Fin 4) (r : Fin 1024) (e : Fin 256) :
    concatenate S1024x1024 1 [⟨S1024x256, x 0⟩, ⟨S1024x256, x 1⟩, ⟨S1024x256, x 2⟩, ⟨S1024x256, x 3⟩]
      concatenates_S1024x256_S1024x256_S1024x256_S1024x256_S1024x1024_d1 (ix2 r (col h e)) = x h (ix2 r e) := by
  have off : ∀ (c : Fin 256) (b : Fin 2), b.cast rfl ≠ (1 : Fin 2) → (ix2 r c b : ℕ) = (ix2 r (col h e) b : ℕ) := fun c b hb => by
    match b with
    | ⟨0, _⟩ => rfl
    | ⟨1, _⟩ => exact absurd rfl hb
  match h with
  | ⟨0, _⟩ => refine concatenate_apply_piece (t := S1024x1024) 1 _ _ _ 0 ?_ S1024x256 (x 0) ?_ (rfl : S1024x256.rank = S1024x1024.rank) 0 ?_ (ix2 r e) ?_ ?_ <;> [simp; rfl; rfl; exact off e; rfl]
  | ⟨1, _⟩ => refine concatenate_apply_piece (t := S1024x1024) 1 _ _ _ 1 ?_ S1024x256 (x 1) ?_ (rfl : S1024x256.rank = S1024x1024.rank) 256 ?_ (ix2 r e) ?_ ?_ <;> [simp; rfl; rfl; exact off e; rfl]
  | ⟨2, _⟩ => refine concatenate_apply_piece (t := S1024x1024) 1 _ _ _ 2 ?_ S1024x256 (x 2) ?_ (rfl : S1024x256.rank = S1024x1024.rank) 512 ?_ (ix2 r e) ?_ ?_ <;> [simp; rfl; rfl; exact off e; rfl]
  | ⟨3, _⟩ => refine concatenate_apply_piece (t := S1024x1024) 1 _ _ _ 3 ?_ S1024x256 (x 3) ?_ (rfl : S1024x256.rank = S1024x1024.rank) 768 ?_ (ix2 r e) ?_ ?_ <;> [simp; rfl; rfl; exact off e; rfl]

/-- Eight blocks of 256 columns side by side: the first four. -/
theorem concat8_left (x y : Fin 4 → FVec Ideal S256x256 .f32) (h : Fin 4) (m : Fin 256) (e : Fin 256) :
    concatenate S256x2048 1 [⟨S256x256, x 0⟩, ⟨S256x256, x 1⟩, ⟨S256x256, x 2⟩, ⟨S256x256, x 3⟩, ⟨S256x256, y 0⟩, ⟨S256x256, y 1⟩,
      ⟨S256x256, y 2⟩, ⟨S256x256, y 3⟩]
      concatenates_S256x256_S256x256_S256x256_S256x256_S256x256_S256x256_S256x256_S256x256_S256x2048_d1 (ix2 m (colK h e))
        = x h (ix2 m e) := by
  have off : ∀ (c : Fin 256) (b : Fin 2), b.cast rfl ≠ (1 : Fin 2) → (ix2 m c b : ℕ) = (ix2 m (colK h e) b : ℕ) := fun c b hb => by
    match b with
    | ⟨0, _⟩ => rfl
    | ⟨1, _⟩ => exact absurd rfl hb
  match h with
  | ⟨0, _⟩ => refine concatenate_apply_piece (t := S256x2048) 1 _ _ _ 0 ?_ S256x256 (x 0) ?_ (rfl : S256x256.rank = S256x2048.rank) 0 ?_ (ix2 m e) ?_ ?_ <;> [simp; rfl; rfl; exact off e; rfl]
  | ⟨1, _⟩ => refine concatenate_apply_piece (t := S256x2048) 1 _ _ _ 1 ?_ S256x256 (x 1) ?_ (rfl : S256x256.rank = S256x2048.rank) 256 ?_ (ix2 m e) ?_ ?_ <;> [simp; rfl; rfl; exact off e; rfl]
  | ⟨2, _⟩ => refine concatenate_apply_piece (t := S256x2048) 1 _ _ _ 2 ?_ S256x256 (x 2) ?_ (rfl : S256x256.rank = S256x2048.rank) 512 ?_ (ix2 m e) ?_ ?_ <;> [simp; rfl; rfl; exact off e; rfl]
  | ⟨3, _⟩ => refine concatenate_apply_piece (t := S256x2048) 1 _ _ _ 3 ?_ S256x256 (x 3) ?_ (rfl : S256x256.rank = S256x2048.rank) 768 ?_ (ix2 m e) ?_ ?_ <;> [simp; rfl; rfl; exact off e; rfl]

/-- Eight blocks of 256 columns side by side: the last four. -/
theorem concat8_right (x y : Fin 4 → FVec Ideal S256x256 .f32) (h : Fin 4) (m : Fin 256) (e : Fin 256) :
    concatenate S256x2048 1 [⟨S256x256, x 0⟩, ⟨S256x256, x 1⟩, ⟨S256x256, x 2⟩, ⟨S256x256, x 3⟩, ⟨S256x256, y 0⟩, ⟨S256x256, y 1⟩,
      ⟨S256x256, y 2⟩, ⟨S256x256, y 3⟩]
      concatenates_S256x256_S256x256_S256x256_S256x256_S256x256_S256x256_S256x256_S256x256_S256x2048_d1 (ix2 m (colV h e))
        = y h (ix2 m e) := by
  have off : ∀ (c : Fin 256) (b : Fin 2), b.cast rfl ≠ (1 : Fin 2) → (ix2 m c b : ℕ) = (ix2 m (colV h e) b : ℕ) := fun c b hb => by
    match b with
    | ⟨0, _⟩ => rfl
    | ⟨1, _⟩ => exact absurd rfl hb
  match h with
  | ⟨0, _⟩ => refine concatenate_apply_piece (t := S256x2048) 1 _ _ _ 4 ?_ S256x256 (y 0) ?_ (rfl : S256x256.rank = S256x2048.rank) 1024 ?_ (ix2 m e) ?_ ?_ <;> [simp; rfl; rfl; exact off e; rfl]
  | ⟨1, _⟩ => refine concatenate_apply_piece (t := S256x2048) 1 _ _ _ 5 ?_ S256x256 (y 1) ?_ (rfl : S256x256.rank = S256x2048.rank) 1280 ?_ (ix2 m e) ?_ ?_ <;> [simp; rfl; rfl; exact off e; rfl]
  | ⟨2, _⟩ => refine concatenate_apply_piece (t := S256x2048) 1 _ _ _ 6 ?_ S256x256 (y 2) ?_ (rfl : S256x256.rank = S256x2048.rank) 1536 ?_ (ix2 m e) ?_ ?_ <;> [simp; rfl; rfl; exact off e; rfl]
  | ⟨3, _⟩ => refine concatenate_apply_piece (t := S256x2048) 1 _ _ _ 7 ?_ S256x256 (y 3) ?_ (rfl : S256x256.rank = S256x2048.rank) 1792 ?_ (ix2 m e) ?_ ?_ <;> [simp; rfl; rfl; exact off e; rfl]

/-- The query gradient's block as the body stores it. -/
def dqBlk : FVec Ideal S1024x1024 .bf16 :=
  k0_pay3 (k0_pay8 (sl Q 0) (slK KV 0) (slV KV 0) (sl D 0)) (k0_pay13 (sl Q 1) (slK KV 1) (slV KV 1) (sl D 1))
    (k0_pay19 (slK KV 2) (slV KV 2) (sl D 2) (k0_pay16 (sl Q 2) (slK KV 2))) (slK KV 3) (slV KV 3) (sl D 3)
    (k0_pay22 (sl Q 3) (slK KV 3))

/-- The key and value gradient's part of this point as the body stores it. -/
def dkvBlk : FVec Ideal S256x2048 .f32 :=
  k0_pay4 (k0_pay9 (sl Q 0) (slK KV 0) (slV KV 0) (sl D 0)) (k0_pay10 (sl Q 0) (slK KV 0) (sl D 0))
    (k0_pay14 (sl Q 1) (slK KV 1) (slV KV 1) (sl D 1)) (k0_pay15 (sl Q 1) (slK KV 1) (sl D 1))
    (k0_pay20 (sl Q 2) (slV KV 2) (sl D 2) (k0_pay16 (sl Q 2) (slK KV 2))) (k0_pay21 (sl D 2) (k0_pay16 (sl Q 2) (slK KV 2)))
    (sl Q 3) (slV KV 3) (sl D 3) (k0_pay22 (sl Q 3) (slK KV 3))

/-- Head `h` of the query gradient's block. -/
theorem dqBlk_apply (h : Fin 4) (r : Fin 1024) (e : Fin 256) :
    dqBlk Q D KV (ix2 r (col h e)) = dqRow (rowOf Q r h) (rowOf D r h) (keysOf KV h) (valsOf KV h) e := by
  have key : dqBlk Q D KV (ix2 r (col h e)) = k0_pay8 (F := Ideal) (sl Q h) (slK KV h) (slV KV h) (sl D h) (ix2 r e) :=
    concat4_apply (fun h => k0_pay8 (F := Ideal) (sl Q h) (slK KV h) (slV KV h) (sl D h)) h r e
  rw [key, pay8_apply, row_sl, row_sl, mat_slK, mat_slV]

/-- Head `h` of the key gradient's block. -/
theorem dkvBlk_left (h : Fin 4) (m e : Fin 256) :
    dkvBlk Q D KV (ix2 m (colK h e))
      = (∑ r : Fin 1024, dscore (rowOf Q r h) (rowOf D r h) (keysOf KV h) (valsOf KV h) m * rowOf Q r h e) * c16 := by
  have key : dkvBlk Q D KV (ix2 m (colK h e)) = k0_pay9 (F := Ideal) (sl Q h) (slK KV h) (slV KV h) (sl D h) (ix2 m e) :=
    concat8_left (fun h => k0_pay9 (F := Ideal) (sl Q h) (slK KV h) (slV KV h) (sl D h))
      (fun h => k0_pay10 (F := Ideal) (sl Q h) (slK KV h) (sl D h)) h m e
  rw [key, pay9_apply]
  congr 1
  exact Finset.sum_congr rfl fun r _ => by rw [row_sl, row_sl, mat_slK, mat_slV, sl_apply]

/-- Head `h` of the value gradient's block. -/
theorem dkvBlk_right (h : Fin 4) (m e : Fin 256) :
    dkvBlk Q D KV (ix2 m (colV h e)) = ∑ r : Fin 1024, prob (rowOf Q r h) (keysOf KV h) m * rowOf D r h e := by
  have key : dkvBlk Q D KV (ix2 m (colV h e)) = k0_pay10 (F := Ideal) (sl Q h) (slK KV h) (sl D h) (ix2 m e) :=
    concat8_right (fun h => k0_pay9 (F := Ideal) (sl Q h) (slK KV h) (slV KV h) (sl D h))
      (fun h => k0_pay10 (F := Ideal) (sl Q h) (slK KV h) (sl D h)) h m e
  rw [key, pay10_apply]
  exact Finset.sum_congr rfl fun r _ => by rw [row_sl, mat_slK, sl_apply]

end

end Cert.Xattn

end
-- ==== Proof.Xattn.Arrays.lean ====
/- The kernel's two result arrays after the run, as functions of the three argument arrays. -/
module

public import proofs.«01_k».proof.Proof.Gen.KernelIdeal.Value
public import proofs.«01_k».proof.Proof.Xattn.Block

@[expose] public section

set_option maxRecDepth 16384

noncomputable section

namespace Cert.Xattn

open Idealize.ShloMosaic Idealize.ShloMosaic.TcCoe Idealize.SL.Sem Cert.KernelIdeal Cert.KernelIdeal.Gen
open Idealize.ShloMosaic.Pipeline (Dat)

/-- The memory row `mm` of batch element `b`. -/
abbrev memRow (b : Fin 4) (mm : Fin 256) : Fin 1024 := ⟨b.val * 256 + mm.val, by omega⟩
/-- The token row `s` of batch element `b`. -/
abbrev tokRow (b : Fin 4) (s : Fin 2048) : Fin 8192 := ⟨b.val * 2048 + s.val, by omega⟩
/-- Head `h` of the keys of batch element `b`. -/
abbrev keysAt (KV : Vec Ideal S1024x2048 .bf16) (b h : Fin 4) : Mat := fun mm e => KV (ix2 (memRow b mm) (colK h e))
/-- Head `h` of the values of batch element `b`. -/
abbrev valsAt (KV : Vec Ideal S1024x2048 .bf16) (b h : Fin 4) : Mat := fun mm e => KV (ix2 (memRow b mm) (colV h e))

/-- The query gradient at token row `R`, head `h`, lane `e`. -/
def gradQ (Q D : Vec Ideal S8192x1024 .bf16) (KV : Vec Ideal S1024x2048 .bf16) (R : Fin 8192) (h : Fin 4) (e : Fin 256) : EReal :=
  dqRow (rowOf Q R h) (rowOf D R h) (keysAt KV ⟨R.val / 2048, by omega⟩ h) (valsAt KV ⟨R.val / 2048, by omega⟩ h) e
/-- The key gradient at memory row `mm` of batch element `b`, head `h`, lane `e`. -/
def gradK (Q D : Vec Ideal S8192x1024 .bf16) (KV : Vec Ideal S1024x2048 .bf16) (b h : Fin 4) (mm e : Fin 256) : EReal :=
  (∑ s : Fin 2048, dscore (rowOf Q (tokRow b s) h) (rowOf D (tokRow b s) h) (keysAt KV b h) (valsAt KV b h) mm * rowOf Q (tokRow b s) h e) * c16
/-- The value gradient at memory row `mm` of batch element `b`, head `h`, lane `e`. -/
def gradV (Q D : Vec Ideal S8192x1024 .bf16) (KV : Vec Ideal S1024x2048 .bf16) (b h : Fin 4) (mm e : Fin 256) : EReal :=
  ∑ s : Fin 2048, prob (rowOf Q (tokRow b s) h) (keysAt KV b h) mm * rowOf D (tokRow b s) h e

/-- The query gradient as an array. -/
def gradQArr (Q D : Vec Ideal S8192x1024 .bf16) (KV : Vec Ideal S1024x2048 .bf16) : Vec Ideal S8192x1024 .bf16 := fun j =>
  gradQ Q D KV (j 0) ⟨(j 1).val / 256, by have : (j 1).val < 1024 := (j 1).isLt; omega⟩ ⟨(j 1).val % 256, Nat.mod_lt _ (by decide)⟩
/-- The key and value gradient as an array: the keys' 1024 columns, then the values'. -/
def gradKVArr (Q D : Vec Ideal S8192x1024 .bf16) (KV : Vec Ideal S1024x2048 .bf16) : Vec Ideal S1024x2048 .f32 := fun j =>
  have h0 : (j 0).val < 1024 := (j 0).isLt
  have h1 : (j 1).val < 2048 := (j 1).isLt
  if h : (j 1).val < 1024 then
    gradK Q D KV ⟨(j 0).val / 256, by omega⟩ ⟨(j 1).val / 256, by omega⟩ ⟨(j 0).val % 256, Nat.mod_lt _ (by decide)⟩ ⟨(j 1).val % 256, Nat.mod_lt _ (by decide)⟩
  else
    gradV Q D KV ⟨(j 0).val / 256, by omega⟩ ⟨(j 1).val / 256 - 4, by omega⟩ ⟨(j 0).val % 256, Nat.mod_lt _ (by decide)⟩ ⟨(j 1).val % 256, Nat.mod_lt _ (by decide)⟩

/-- The query gradient's array at a head's column. -/
theorem gradQArr_col (Q D : Vec Ideal S8192x1024 .bf16) (KV : Vec Ideal S1024x2048 .bf16) (R : Fin 8192) (h : Fin 4) (e : Fin 256) :
    gradQArr Q D KV (ix2 R (col h e)) = gradQ Q D KV R h e := by
  unfold gradQArr
  congr 1 <;> apply Fin.ext
  · show (h.val * 256 + e.val) / 256 = h.val; omega
  · show (h.val * 256 + e.val) % 256 = e.val; omega
/-- The key and value gradient's array at a head's key column. -/
theorem gradKVArr_colK (Q D : Vec Ideal S8192x1024 .bf16) (KV : Vec Ideal S1024x2048 .bf16) (b h : Fin 4) (mm e : Fin 256) :
    gradKVArr Q D KV (ix2 (memRow b mm) (colK h e)) = gradK Q D KV b h mm e := by
  refine (dif_pos (show h.val * 256 + e.val < 1024 by omega)).trans ?_
  congr 1 <;> apply Fin.ext
  · show (b.val * 256 + mm.val) / 256 = b.val; omega
  · show (h.val * 256 + e.val) / 256 = h.val; omega
  · show (b.val * 256 + mm.val) % 256 = mm.val; omega
  · show (h.val * 256 + e.val) % 256 = e.val; omega
/-- The key and value gradient's array at a head's value column. -/
theorem gradKVArr_colV (Q D : Vec Ideal S8192x1024 .bf16) (KV : Vec Ideal S1024x2048 .bf16) (b h : Fin 4) (mm e : Fin 256) :
    gradKVArr Q D KV (ix2 (memRow b mm) (colV h e)) = gradV Q D KV b h mm e := by
  refine (dif_neg (show ¬ 1024 + h.val * 256 + e.val < 1024 by omega)).trans ?_
  congr 1 <;> apply Fin.ext
  · show (b.val * 256 + mm.val) / 256 = b.val; omega
  · show (1024 + h.val * 256 + e.val) / 256 - 4 = h.val; omega
  · show (b.val * 256 + mm.val) % 256 = mm.val; omega
  · show (1024 + h.val * 256 + e.val) % 256 = e.val; omega

/-- Every column of 1024 is a head's. -/
theorem col_cases (k : Fin 1024) : ∃ h e, k = col h e := ⟨⟨k.val / 256, by omega⟩, ⟨k.val % 256, by omega⟩, Fin.ext (by simp; omega)⟩
/-- Every column of 2048 is a head's key column or a head's value column. -/
theorem colKV_cases (k : Fin 2048) : (∃ h e, k = colK h e) ∨ ∃ h e, k = colV h e := by
  by_cases hk : k.val < 1024
  · exact .inl ⟨⟨k.val / 256, by omega⟩, ⟨k.val % 256, by omega⟩, Fin.ext (by simp; omega)⟩
  · exact .inr ⟨⟨k.val / 256 - 4, by omega⟩, ⟨k.val % 256, by omega⟩, Fin.ext (by simp; omega)⟩
/-- Every memory row is a batch element's. -/
theorem memRow_cases (k : Fin 1024) : ∃ b mm, k = memRow b mm := ⟨⟨k.val / 256, by omega⟩, ⟨k.val % 256, by omega⟩, Fin.ext (by simp; omega)⟩

variable (m : (ℓ : Loc nD τ sig) → Buf (Elt Ideal) ℓ) (ρ : Dev nD → PrngReg)

/-- The blocks' places at every grid point. -/
theorem idx : ∀ t : Fin cfg0.N, win0_0.index t = ![t.val, 0] ∧ win0_1.index t = ![t.val / 2, 0] ∧ win0_2.index t = ![t.val, 0]
    ∧ win0_3.index t = ![t.val, 0] ∧ win0_4.index t = ![t.val / 2, 0] :=
  (by decide +kernel : ∀ t : Fin grid0.N, _)

/-- The query gradient's block at every point. -/
theorem out3 (c : Dev nD) (t : Fin cfg0.N) :
    (outsAt0 m c t.val t.isLt).1 = dqBlk (iblk m c 0 t) (iblk m c 2 t) (iblk m c 1 t) := by
  by_cases h0 : t.val % 2 = 0
  · rw [outsAt0_A m c t h0 (by omega)]
    frame_out
    rfl
  · rw [outsAt0_B m c t h0 (by omega)]
    frame_out
    rfl

/-- The key and value gradient's block after a batch element's first point. -/
theorem out4_A (c : Dev nD) (t : Fin cfg0.N) (h0 : t.val % 2 = 0) :
    (outsAt0 m c t.val t.isLt).2 = dkvBlk (iblk m c 0 t) (iblk m c 2 t) (iblk m c 1 t) := by
  rw [outsAt0_A m c t h0 (by omega)]
  frame_out
  rfl

/-- The key and value gradient's block after its second point. -/
theorem out4_B (c : Dev nD) (t : Fin cfg0.N) (h1 : t.val % 2 = 1) (y) :
    (outsAt0 m c t.val t.isLt).2 y = (outsAt0 m c (t.val - 1) (Nat.lt_of_le_of_lt (Nat.sub_le _ _) t.isLt)).2 y
      + dkvBlk (iblk m c 0 t) (iblk m c 2 t) (iblk m c 1 t) y := by
  rw [outsAt0_B m c t (by omega) h1]
  frame_out
  show shapeCast S256x2048 _ _ y + dkvBlk (iblk m c 0 t) (iblk m c 2 t) (iblk m c 1 t) y = _
  rw [shapeCast_apply _ _ y y rfl]

/-- The queries, as the run starts. -/
abbrev argQ (c : Dev nD) : Vec Ideal S8192x1024 .bf16 := m ((c.tc : Thread nD τ).loc main_arg0)
/-- The keys and values side by side, as the run starts. -/
abbrev argKV (c : Dev nD) : Vec Ideal S1024x2048 .bf16 := m ((c.tc : Thread nD τ).loc main_arg1)
/-- The gradient of the attention's output, as the run starts. -/
abbrev argD (c : Dev nD) : Vec Ideal S8192x1024 .bf16 := m ((c.tc : Thread nD τ).loc main_arg2)

/-- A query block at an index of the whole array. -/
theorem iblk0 (c : Dev nD) (t : Fin cfg0.N) (r : Fin 1024) (k : Fin 1024) :
    iblk m c 0 t (ix2 r k) = argQ m c (ix2 ⟨t.val * 1024 + r.val, by have : t.val < 8 := t.isLt; omega⟩ k) := by
  blk_point [iblk, V, idx t]
/-- An output gradient's block at an index of the whole array. -/
theorem iblk2 (c : Dev nD) (t : Fin cfg0.N) (r : Fin 1024) (k : Fin 1024) :
    iblk m c 2 t (ix2 r k) = argD m c (ix2 ⟨t.val * 1024 + r.val, by have : t.val < 8 := t.isLt; omega⟩ k) := by
  blk_point [iblk, V, idx t]
/-- A memory block at an index of the whole array. -/
theorem iblk1 (c : Dev nD) (t : Fin cfg0.N) (r : Fin 256) (k : Fin 2048) :
    iblk m c 1 t (ix2 r k) = argKV m c (ix2 ⟨t.val / 2 * 256 + r.val, by have : t.val < 8 := t.isLt; omega⟩ k) := by
  blk_point [iblk, V, idx t]

/-- Head `h` of a query block's row. -/
theorem row_iblk0 (c : Dev nD) (t : Fin cfg0.N) (r : Fin 1024) (h : Fin 4) (R : Fin 8192) (hR : R.val = t.val * 1024 + r.val) :
    rowOf (iblk m c 0 t) r h = rowOf (argQ m c) R h :=
  funext fun e => (iblk0 m c t r (col h e)).trans (congrArg (fun R => argQ m c (ix2 R (col h e))) (Fin.ext hR.symm))
/-- Head `h` of an output gradient's block's row. -/
theorem row_iblk2 (c : Dev nD) (t : Fin cfg0.N) (r : Fin 1024) (h : Fin 4) (R : Fin 8192) (hR : R.val = t.val * 1024 + r.val) :
    rowOf (iblk m c 2 t) r h = rowOf (argD m c) R h :=
  funext fun e => (iblk2 m c t r (col h e)).trans (congrArg (fun R => argD m c (ix2 R (col h e))) (Fin.ext hR.symm))
/-- Head `h` of a memory block's keys. -/
theorem keys_iblk1 (c : Dev nD) (t : Fin cfg0.N) (h b : Fin 4) (hb : b.val = t.val / 2) :
    keysOf (iblk m c 1 t) h = keysAt (argKV m c) b h :=
  funext fun mm => funext fun e => (iblk1 m c t mm (colK h e)).trans
    (congrArg (fun R => argKV m c (ix2 R (colK h e))) (Fin.ext (by show t.val / 2 * 256 + mm.val = b.val * 256 + mm.val; rw [hb])))
/-- Head `h` of a memory block's values. -/
theorem vals_iblk1 (c : Dev nD) (t : Fin cfg0.N) (h b : Fin 4) (hb : b.val = t.val / 2) :
    valsOf (iblk m c 1 t) h = valsAt (argKV m c) b h :=
  funext fun mm => funext fun e => (iblk1 m c t mm (colV h e)).trans
    (congrArg (fun R => argKV m c (ix2 R (colV h e))) (Fin.ext (by show t.val / 2 * 256 + mm.val = b.val * 256 + mm.val; rw [hb])))

/-- The query gradient's array after the run. -/
theorem final_q (c : Dev nD) : (dats m 0 c).arrAt 3 cfg0.N = gradQArr (argQ m c) (argD m c) (argKV m c) := by
  refine (dats m 0 c).arrAt_eq_of_covers 3 _ (by decide +kernel) fun t hf y => ?_
  blk_simp
  rw [after0_3, out3]
  obtain ⟨r, k, rfl⟩ : ∃ (r : Fin 1024) (k : Fin 1024), y = ix2 r k := ⟨y 0, y 1, (ix2_eta y).symm⟩
  obtain ⟨h, e, rfl⟩ := col_cases k
  have ht : t.val < 8 := t.isLt
  have hy : ((cfg0.win 3).blk t).view.emb (ix2 r (col h e)) = ix2 (⟨t.val * 1024 + r.val, by omega⟩ : Fin 8192) (col h e) := by
    blk_ext [idx t]
  rw [dqBlk_apply]
  refine Eq.trans ?_ (congrArg (gradQArr (argQ m c) (argD m c) (argKV m c)) hy.symm)
  rw [gradQArr_col]
  unfold gradQ
  have hb : (t.val * 1024 + r.val) / 2048 = t.val / 2 := by omega
  rw [row_iblk0 m c t r h ⟨t.val * 1024 + r.val, by omega⟩ rfl, row_iblk2 m c t r h ⟨t.val * 1024 + r.val, by omega⟩ rfl,
    keys_iblk1 m c t h ⟨(t.val * 1024 + r.val) / 2048, by omega⟩ hb, vals_iblk1 m c t h ⟨(t.val * 1024 + r.val) / 2048, by omega⟩ hb]

/-- A sum over the 2048 tokens of a batch element, tile by tile. -/
theorem sum_tiles (f : Fin 2048 → EReal) :
    (∑ r : Fin 1024, f ⟨r.val, by omega⟩) + ∑ r : Fin 1024, f ⟨1024 + r.val, by omega⟩ = ∑ s, f s := by
  rw [← Fin.sum_mul_add_fin 2 1024 f, Fin.sum_univ_two]
  congr 1 <;> refine Finset.sum_congr rfl fun r _ => congrArg f (Fin.ext ?_) <;> simp

/-- The two tiles of a batch element together: the sums over its 2048 tokens. -/
theorem two_tiles (Q0 Q1 D0 D1 : FVec Ideal S1024x1024 .bf16) (K0 K1 : FVec Ideal S256x2048 .bf16) (Q D : Vec Ideal S8192x1024 .bf16)
    (KV : Vec Ideal S1024x2048 .bf16) (b : Fin 4)
    (e0 : ∀ (h : Fin 4) (r : Fin 1024), rowOf Q0 r h = rowOf Q (tokRow b ⟨r.val, by omega⟩) h)
    (e1 : ∀ (h : Fin 4) (r : Fin 1024), rowOf Q1 r h = rowOf Q (tokRow b ⟨1024 + r.val, by omega⟩) h)
    (d0 : ∀ (h : Fin 4) (r : Fin 1024), rowOf D0 r h = rowOf D (tokRow b ⟨r.val, by omega⟩) h)
    (d1 : ∀ (h : Fin 4) (r : Fin 1024), rowOf D1 r h = rowOf D (tokRow b ⟨1024 + r.val, by omega⟩) h)
    (k0 : ∀ h, keysOf K0 h = keysAt KV b h) (k1 : ∀ h, keysOf K1 h = keysAt KV b h)
    (v0 : ∀ h, valsOf K0 h = valsAt KV b h) (v1 : ∀ h, valsOf K1 h = valsAt KV b h) (mm : Fin 256) (k : Fin 2048) :
    dkvBlk Q0 D0 K0 (ix2 mm k) + dkvBlk Q1 D1 K1 (ix2 mm k) = gradKVArr Q D KV (ix2 (memRow b mm) k) := by
  rcases colKV_cases k with ⟨h, e, rfl⟩ | ⟨h, e, rfl⟩
  · rw [dkvBlk_left, dkvBlk_left, gradKVArr_colK]
    unfold gradK
    rw [k0, k1, v0, v1, ← sum_tiles, c16_eq,
      EReal.right_distrib_of_nonneg_of_ne_top (EReal.coe_nonneg.mpr (by norm_num)) (EReal.coe_ne_top _)]
    congr 2 <;> refine Finset.sum_congr rfl fun r _ => ?_
    · rw [e0, d0]
    · rw [e1, d1]
  · rw [dkvBlk_right, dkvBlk_right, gradKVArr_colV]
    unfold gradV
    rw [k0, k1, ← sum_tiles]
    congr 1 <;> refine Finset.sum_congr rfl fun r _ => ?_
    · rw [e0, d0]
    · rw [e1, d1]

/-- The key and value gradient's array after the run. -/
theorem final_kv (c : Dev nD) : (dats m 0 c).arrAt 4 cfg0.N = gradKVArr (argQ m c) (argD m c) (argKV m c) := by
  refine (dats m 0 c).arrAt_eq_of_covers 4 _ (by decide +kernel) fun t hf y => ?_
  have h1 : t.val % 2 = 1 := (flush0_4 t).mp hf
  have ht : t.val < 8 := t.isLt
  blk_simp
  rw [after0_4, out4_B m c t h1]
  have hp := out4_A m c ⟨t.val - 1, Nat.lt_of_le_of_lt (Nat.sub_le _ _) t.isLt⟩ (by show (t.val - 1) % 2 = 0; omega)
  dsimp only at hp
  rw [hp]
  generalize hu : (⟨t.val - 1, _⟩ : Fin cfg0.N) = u
  have hu' : u.val = t.val - 1 := by rw [← hu]
  obtain ⟨mm, k, rfl⟩ : ∃ (r : Fin 256) (k : Fin 2048), y = ix2 r k := ⟨y 0, y 1, (ix2_eta y).symm⟩
  have hy : ((cfg0.win 4).blk t).view.emb (ix2 mm k) = ix2 (memRow ⟨t.val / 2, by omega⟩ mm) k := by
    blk_ext [idx t]
  refine Eq.trans ?_ (congrArg (gradKVArr (argQ m c) (argD m c) (argKV m c)) hy.symm)
  have hq0 : ∀ r : Fin 1024, t.val / 2 * 2048 + r.val = u.val * 1024 + r.val := fun r => by omega
  have hq1 : ∀ r : Fin 1024, t.val / 2 * 2048 + (1024 + r.val) = t.val * 1024 + r.val := fun r => by omega
  have hb : t.val / 2 = u.val / 2 := by omega
  exact two_tiles _ _ _ _ _ _ _ _ _ ⟨t.val / 2, by omega⟩
    (fun h r => row_iblk0 m c u r h _ (hq0 r)) (fun h r => row_iblk0 m c t r h _ (hq1 r))
    (fun h r => row_iblk2 m c u r h _ (hq0 r)) (fun h r => row_iblk2 m c t r h _ (hq1 r))
    (fun h => keys_iblk1 m c u h _ hb) (fun h => keys_iblk1 m c t h _ rfl)
    (fun h => vals_iblk1 m c u h _ hb) (fun h => vals_iblk1 m c t h _ rfl) mm k

end Cert.Xattn

end
-- ==== Proof.Xattn.RefVal.lean ====
/- The reference's two results, read at every index: the same sums as the kernel's arrays, wherever queries and keys are finite. -/
module

public import proofs.«01_k».proof.Proof.Gen.ReferenceIdeal.Read
public import proofs.«01_k».proof.Proof.Xattn.Arrays

@[expose] public section

noncomputable section

namespace Cert.Xattn

open Idealize.ShloMosaic Idealize.ShloMosaic.TcCoe Idealize.SL.Sem Cert.ReferenceIdeal Cert.ReferenceIdeal.Gen
open Cert.ReferenceIdeal.Read

variable (Q : (⟨S8192x1024, .bf16⟩ : BufTy).Contents (Elt Ideal)) (KV : (⟨S1024x2048, .bf16⟩ : BufTy).Contents (Elt Ideal))
  (D : (⟨S8192x1024, .bf16⟩ : BufTy).Contents (Elt Ideal))

/-- The query row of token `s` of batch element `b` at head `h`. -/
abbrev qAt (b h : Fin 4) (s : Fin 2048) : Row := fun e => Q (ix2 (tokRow b s) (col h e))

/-- The queries, split into heads. -/
theorem v2_at (b : Fin 4) (s : Fin 2048) (h : Fin 4) (e : Fin 256) :
    val_main_v2 (F := Ideal) Q (ix4 b s h e) = Q (ix2 (tokRow b s) (col h e)) := by
  rw [val_main_v2_apply, val_main_v0_apply]
  refine congrArg Q (funext fun a => ?_)
  match a with
  | ⟨0, _⟩ => exact Fin.ext (by simp; omega)
  | ⟨1, _⟩ => exact Fin.ext (by simp; omega)

/-- The keys, split into heads. -/
theorem v6_at (b : Fin 4) (m : Fin 256) (h : Fin 4) (e : Fin 256) :
    val_main_v6 (F := Ideal) KV (ix4 b m h e) = KV (ix2 (memRow b m) (colK h e)) := by
  rw [val_main_v6_apply, val_main_v4_apply, val_main_v3_apply, val_main_v1_apply]
  refine congrArg KV (funext fun a => ?_)
  match a with
  | ⟨0, _⟩ => exact Fin.ext (by simp; omega)
  | ⟨1, _⟩ => exact Fin.ext (by simp; omega)

/-- The values, split into heads. -/
theorem v7_at (b : Fin 4) (m : Fin 256) (h : Fin 4) (e : Fin 256) :
    val_main_v7 (F := Ideal) KV (ix4 b m h e) = KV (ix2 (memRow b m) (colV h e)) := by
  rw [val_main_v7_apply, val_main_v5_apply, val_main_v3_apply, val_main_v1_apply]
  refine congrArg KV (funext fun a => ?_)
  match a with
  | ⟨0, _⟩ => exact Fin.ext (by simp; omega)
  | ⟨1, _⟩ => exact Fin.ext (by simp; omega)

/-- The scaled scores. -/
theorem v10_at (b h : Fin 4) (s : Fin 2048) (m : Fin 256) :
    val_main_v10 (F := Ideal) Q KV (ix4 b h s m) = score (qAt Q b h s) (keysAt KV b h) m := by
  rw [val_main_v10_apply, val_main_v8_apply, val_main_v9_apply]
  refine congrArg (fun z : EReal => z * c16) (Finset.sum_congr rfl fun e _ => ?_)
  exact congrArg₂ (fun x y : EReal => x * y) (v2_at Q b s h e) (v6_at KV b m h e)

/-- The row maxima. -/
theorem v11_at (b h : Fin 4) (s : Fin 2048) :
    val_main_v11 (F := Ideal) Q KV (ix3 b h s) = top (qAt Q b h s) (keysAt KV b h) := by
  unfold val_main_v11 top
  have hs := fun m => v10_at Q KV b h s m
  generalize val_main_v10 (F := Ideal) Q KV = x at hs ⊢
  refine (Host.reduce_eq_fold_single (a := (3 : Fin S4x4x2048x256.rank)) (max : EReal → EReal → EReal) x _ _ (by decide) _ _).trans ?_
  rw [show val_main_cst_0 (F := Ideal) _ = (⊥ : EReal) from ofBits_neg_inf]
  refine congrArg (fun f => Finset.fold max (⊥ : EReal) f (Finset.univ : Finset (Fin 256))) (funext fun m => ?_)
  refine Eq.trans (congrArg x (funext fun a => ?_)) (hs m)
  match a with
  | ⟨0, _⟩ => rfl
  | ⟨1, _⟩ => rfl
  | ⟨2, _⟩ => rfl
  | ⟨3, _⟩ => rfl

/-- The softmax weights. -/
theorem v31_at (b h : Fin 4) (s : Fin 2048) (m : Fin 256) :
    val_main_v31 (F := Ideal) Q KV (ix4 b h s m) = wt (qAt Q b h s) (keysAt KV b h) m := by
  rw [val_main_v31_apply, val_main_v30_apply, v10_at, val_main_v29_apply, val_main_v28_apply, val_main_v18_apply]
  have hi : idx_main_v28 (idx_main_v29 (ix4 b h s m)) = ix3 b h s := funext fun a => match a with
    | ⟨0, _⟩ => rfl
    | ⟨1, _⟩ => rfl
    | ⟨2, _⟩ => rfl
  rw [hi, v11_at, val_main_v17_apply]
  show Ideal.exp (_ - max (Ideal.ofBits .f32 0xFF800000#32) _) = _
  rw [ofBits_neg_inf, max_eq_right bot_le]
  rfl

/-- The softmax normalisers. -/
theorem v32_at (b h : Fin 4) (s : Fin 2048) :
    val_main_v32 (F := Ideal) Q KV (ix3 b h s) = den (qAt Q b h s) (keysAt KV b h) := by
  rw [val_main_v32_apply, show val_main_cst_8 (F := Ideal) _ = (0 : EReal) from Ideal.ofBits_zero_f32, zero_add]
  refine Finset.sum_congr rfl fun m _ => ?_
  refine Eq.trans (congrArg _ (funext fun a => ?_)) (v31_at Q KV b h s m)
  match a with
  | ⟨0, _⟩ => rfl
  | ⟨1, _⟩ => rfl
  | ⟨2, _⟩ => rfl
  | ⟨3, _⟩ => rfl

/-- The normalisers as columns. -/
theorem v33_at (b h : Fin 4) (s : Fin 2048) (z : Fin 1) :
    val_main_v33 (F := Ideal) Q KV (ix4 b h s z) = den (qAt Q b h s) (keysAt KV b h) := by
  rw [val_main_v33_apply]
  refine Eq.trans (congrArg _ (funext fun a => ?_)) (v32_at Q KV b h s)
  match a with
  | ⟨0, _⟩ => rfl
  | ⟨1, _⟩ => rfl
  | ⟨2, _⟩ => rfl

/-- The probabilities. -/
theorem v35_at (b h : Fin 4) (s : Fin 2048) (m : Fin 256) :
    val_main_v35 (F := Ideal) Q KV (ix4 b h s m) = prob (qAt Q b h s) (keysAt KV b h) m := by
  rw [val_main_v35_apply, v31_at, val_main_v34_apply]
  have hi : idx_main_v34 (ix4 b h s m) = ix4 b h s (0 : Fin 1) := funext fun a => match a with
    | ⟨0, _⟩ => rfl
    | ⟨1, _⟩ => rfl
    | ⟨2, _⟩ => rfl
    | ⟨3, _⟩ => rfl
  rw [hi, v33_at]
  rfl

/-- The output's gradient, split into heads with the lanes before the tokens. -/
theorem v44_at (b h : Fin 4) (e : Fin 256) (s : Fin 2048) :
    val_main_v44 (F := Ideal) D (ix4 b h e s) = D (ix2 (tokRow b s) (col h e)) := by
  rw [val_main_v44_apply, val_main_v43_apply, val_main_v42_apply]
  refine congrArg D (funext fun a => ?_)
  match a with
  | ⟨0, _⟩ => exact Fin.ext (by simp; omega)
  | ⟨1, _⟩ => exact Fin.ext (by simp; omega)

/-- The gradient of the probabilities. -/
theorem v45_at (b h : Fin 4) (s : Fin 2048) (m : Fin 256) :
    val_main_v45 (F := Ideal) KV D (ix4 b h s m) = dprob (qAt D b h s) (valsAt KV b h) m := by
  rw [val_main_v45_apply]
  refine Finset.sum_congr rfl fun e _ => ?_
  refine congrArg₂ (fun x y : EReal => x * y) (Eq.trans (congrArg _ (funext fun a => ?_)) (v44_at D b h e s))
    (Eq.trans (congrArg _ (funext fun a => ?_)) (v7_at KV b m h e))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- One over the square of the normaliser, spread over the row. -/
theorem v48_at (b h : Fin 4) (s : Fin 2048) (m : Fin 256) :
    val_main_v48 (F := Ideal) Q KV (ix4 b h s m)
      = Ideal.div 1 (den (qAt Q b h s) (keysAt KV b h) * den (qAt Q b h s) (keysAt KV b h)) := by
  rw [val_main_v48_apply]
  have hi : idx_main_v48 (ix4 b h s m) = ix4 b h s (0 : Fin 1) := funext fun a => match a with
    | ⟨0, _⟩ => rfl
    | ⟨1, _⟩ => rfl
    | ⟨2, _⟩ => rfl
    | ⟨3, _⟩ => rfl
  rw [hi, val_main_v38_apply, val_main_v36_apply, v33_at, val_main_v37_apply]
  refine congrArg (fun z : EReal => Ideal.div z _) ?_
  exact Ideal.ofBits_one_f32

/-- The sum that the quotient's derivative subtracts. -/
theorem v51_at (b h : Fin 4) (s : Fin 2048) :
    val_main_v51 (F := Ideal) Q KV D (ix3 b h s)
      = ∑ j, dprob (qAt D b h s) (valsAt KV b h) j
          * Ideal.div 1 (den (qAt Q b h s) (keysAt KV b h) * den (qAt Q b h s) (keysAt KV b h)) * wt (qAt Q b h s) (keysAt KV b h) j := by
  rw [val_main_v51_apply, show val_main_cst_10 (F := Ideal) _ = (0 : EReal) from Ideal.ofBits_zero_f32, zero_add]
  refine Finset.sum_congr rfl fun m _ => ?_
  have hi : idx_main_v51 (ix3 b h s) m = ix4 b h s m := funext fun a => match a with
    | ⟨0, _⟩ => rfl
    | ⟨1, _⟩ => rfl
    | ⟨2, _⟩ => rfl
    | ⟨3, _⟩ => rfl
  rw [hi, val_main_v50_apply, val_main_v49_apply, v45_at, v48_at, v31_at]
  rfl

/-- The subtracted term, spread over the row. -/
theorem v57_at (b h : Fin 4) (s : Fin 2048) (m : Fin 256) :
    val_main_v57 (F := Ideal) Q KV D (ix4 b h s m) = -val_main_v51 (F := Ideal) Q KV D (ix3 b h s) := by
  rw [val_main_v57_apply, val_main_v56_apply, show val_main_cst_11 (F := Ideal) _ = (0 : EReal) from Ideal.ofBits_zero_f32, zero_add,
    Fin.sum_univ_one, val_main_v53_apply, val_main_v52_apply]
  refine congrArg (fun z : EReal => -z) (congrArg (val_main_v51 (F := Ideal) Q KV D) (funext fun a => ?_))
  match a with
  | ⟨0, _⟩ => exact Fin.ext (by simp <;> omega)
  | ⟨1, _⟩ => exact Fin.ext (by simp <;> omega)
  | ⟨2, _⟩ => exact Fin.ext (by simp <;> omega)

/-- The gradient of the scores, before its scale. -/
theorem v59_at (b h : Fin 4) (s : Fin 2048) (m : Fin 256) :
    val_main_v59 (F := Ideal) Q KV D (ix4 b h s m)
      = dscoreRef (qAt Q b h s) (qAt D b h s) (keysAt KV b h) (valsAt KV b h) m := by
  rw [val_main_v59_apply, val_main_v58_apply, val_main_v55_apply, v57_at, v51_at, v45_at, v31_at, val_main_v54_apply]
  have hi : idx_main_v54 (ix4 b h s m) = ix4 b h s (0 : Fin 1) := funext fun a => match a with
    | ⟨0, _⟩ => rfl
    | ⟨1, _⟩ => rfl
    | ⟨2, _⟩ => rfl
    | ⟨3, _⟩ => rfl
  rw [hi, v33_at]
  rfl

/-- The gradient of the scores. -/
theorem v61_at (b h : Fin 4) (s : Fin 2048) (m : Fin 256) :
    val_main_v61 (F := Ideal) Q KV D (ix4 b h s m)
      = dscoreRef (qAt Q b h s) (qAt D b h s) (keysAt KV b h) (valsAt KV b h) m * c16 := by
  rw [val_main_v61_apply, v59_at, val_main_v60_apply]
  rfl

section Finite

variable (hq : ∀ j, ∃ r : ℝ, Q j = (r : EReal)) (hk : ∀ b h m e, ∃ r : ℝ, keysAt KV b h m e = (r : EReal))
include hq hk

/-- With finite queries and keys the reference's gradient of the scores is the kernel's. -/
theorem v61_eq (b h : Fin 4) (s : Fin 2048) (m : Fin 256) :
    val_main_v61 (F := Ideal) Q KV D (ix4 b h s m)
      = dscore (qAt Q b h s) (qAt D b h s) (keysAt KV b h) (valsAt KV b h) m * c16 := by
  rw [v61_at, dscore_eq _ _ _ _ (fun e => hq _) (fun m e => hk b h m e)]

/-- The gradient of the keys. -/
theorem v62_at (b h : Fin 4) (m e : Fin 256) : val_main_v62 (F := Ideal) Q KV D (ix4 b h m e) = gradK Q D KV b h m e := by
  rw [val_main_v62_apply]
  unfold gradK
  rw [scale_out]
  refine Finset.sum_congr rfl fun s _ => ?_
  refine congrArg₂ (fun x y : EReal => x * y) (Eq.trans (congrArg _ (funext fun a => ?_)) (v61_eq Q KV D hq hk b h s m))
    (Eq.trans (congrArg _ (funext fun a => ?_)) (v2_at Q b s h e))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The gradient of the queries. -/
theorem v64_at (b h : Fin 4) (s : Fin 2048) (e : Fin 256) :
    val_main_v64 (F := Ideal) Q KV D (ix4 b h s e) = dqRow (qAt Q b h s) (qAt D b h s) (keysAt KV b h) (valsAt KV b h) e := by
  rw [val_main_v64_apply]
  unfold dqRow
  rw [scale_out]
  refine Finset.sum_congr rfl fun m _ => ?_
  refine congrArg₂ (fun x y : EReal => x * y) (Eq.trans (congrArg _ (funext fun a => ?_)) (v61_eq Q KV D hq hk b h s m))
    (Eq.trans (congrArg _ (funext fun a => ?_)) (v6_at KV b m h e))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's first result is the kernel's first array. -/
theorem ref_q : val_main_v71 (F := Ideal) Q KV D = gradQArr Q D KV := by
  funext j
  obtain ⟨R, k, rfl⟩ : ∃ R k, j = ix2 R k := ⟨j 0, j 1, (ix2_eta j).symm⟩
  obtain ⟨h, e, rfl⟩ := col_cases k
  rw [gradQArr_col, val_main_v71_apply, val_main_v70_apply, val_main_v65_apply]
  have hi : idx_main_v65 (idx_main_v70 (ix2 R (col h e))) = ix4 (⟨R.val / 2048, by omega⟩ : Fin 4) h (⟨R.val % 2048, by omega⟩ : Fin 2048) e := by
    funext a
    match a with
    | ⟨0, _⟩ => exact Fin.ext (by simp; omega)
    | ⟨1, _⟩ => exact Fin.ext (by simp; omega)
    | ⟨2, _⟩ => exact Fin.ext (by simp; omega)
    | ⟨3, _⟩ => exact Fin.ext (by simp; omega)
  rw [hi, v64_at Q KV D hq hk]
  have hR : tokRow ⟨R.val / 2048, by omega⟩ ⟨R.val % 2048, by omega⟩ = R := Fin.ext (by simp; omega)
  have hrow : ∀ X : (⟨S8192x1024, .bf16⟩ : BufTy).Contents (Elt Ideal),
      qAt X ⟨R.val / 2048, by omega⟩ h ⟨R.val % 2048, by omega⟩ = rowOf X R h :=
    fun X => funext fun e => congrArg (fun r => X (ix2 r (col h e))) hR
  unfold gradQ
  rw [hrow Q, hrow D]
  rfl

end Finite

/-- The gradient of the values. -/
theorem v46_at (b h : Fin 4) (e m : Fin 256) : val_main_v46 (F := Ideal) Q KV D (ix4 b h e m) = gradV Q D KV b h m e := by
  rw [val_main_v46_apply]
  unfold gradV
  refine Finset.sum_congr rfl fun s _ => ?_
  rw [mul_comm]
  refine congrArg₂ (fun x y : EReal => x * y) (Eq.trans (congrArg _ (funext fun a => ?_)) (v35_at Q KV b h s m))
    (Eq.trans (congrArg _ (funext fun a => ?_)) (v44_at D b h e s))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The gradient of the keys and of the values side by side: left half. -/
theorem v69_left (b h : Fin 4) (m e : Fin 256) :
    val_main_v69 (F := Ideal) Q KV D (ix2 (memRow b m) (colK h e)) = val_main_v62 (F := Ideal) Q KV D (ix4 b h m e) := by
  rw [val_main_v69_apply]
  have hi : idx_main_v69 (ix2 (memRow b m) (colK h e)) = ix3 b m (colK h e) := by
    funext a
    match a with
    | ⟨0, _⟩ => exact Fin.ext (by simp; omega)
    | ⟨1, _⟩ => exact Fin.ext (by simp; omega)
    | ⟨2, _⟩ => exact Fin.ext (by simp; omega)
  rw [hi]
  unfold val_main_v68
  refine (concatenate_pair_apply_left (t := S4x256x2048) (s₁ := S4x256x1024) (s₂ := S4x256x1024) 2 _ _ _ (ix3 b m (colK h e)) rfl (ix3 b m (col h e)) ?_).trans ?_
  · intro a
    match a with
    | ⟨0, _⟩ => rfl
    | ⟨1, _⟩ => rfl
    | ⟨2, _⟩ => rfl
  rw [val_main_v67_apply, val_main_v63_apply]
  refine congrArg (val_main_v62 (F := Ideal) Q KV D) (funext fun a => ?_)
  match a with
  | ⟨0, _⟩ => exact Fin.ext (by simp; omega)
  | ⟨1, _⟩ => exact Fin.ext (by simp; omega)
  | ⟨2, _⟩ => exact Fin.ext (by simp; omega)
  | ⟨3, _⟩ => exact Fin.ext (by simp; omega)

/-- The gradient of the keys and of the values side by side: right half. -/
theorem v69_right (b h : Fin 4) (m e : Fin 256) :
    val_main_v69 (F := Ideal) Q KV D (ix2 (memRow b m) (colV h e)) = val_main_v46 (F := Ideal) Q KV D (ix4 b h e m) := by
  rw [val_main_v69_apply]
  have hi : idx_main_v69 (ix2 (memRow b m) (colV h e)) = ix3 b m (colV h e) := by
    funext a
    match a with
    | ⟨0, _⟩ => exact Fin.ext (by simp; omega)
    | ⟨1, _⟩ => exact Fin.ext (by simp; omega)
    | ⟨2, _⟩ => exact Fin.ext (by simp; omega)
  rw [hi]
  unfold val_main_v68
  refine (concatenate_pair_apply_right (t := S4x256x2048) (s₁ := S4x256x1024) (s₂ := S4x256x1024) 2 _ _ _ (ix3 b m (colV h e)) rfl rfl (ix3 b m (col h e)) ?_ ?_).trans ?_
  · intro a ha
    match a, ha with
    | ⟨0, _⟩, _ => rfl
    | ⟨1, _⟩, _ => rfl
    | ⟨2, _⟩, ha => exact absurd rfl ha
  · show h.val * 256 + e.val + 1024 = 1024 + h.val * 256 + e.val
    omega
  rw [val_main_v66_apply, val_main_v47_apply]
  refine congrArg (val_main_v46 (F := Ideal) Q KV D) (funext fun a => ?_)
  match a with
  | ⟨0, _⟩ => exact Fin.ext (by simp; omega)
  | ⟨1, _⟩ => exact Fin.ext (by simp; omega)
  | ⟨2, _⟩ => exact Fin.ext (by simp; omega)
  | ⟨3, _⟩ => exact Fin.ext (by simp; omega)

/-- The reference's second result is the kernel's second array. -/
theorem ref_kv (hq : ∀ j, ∃ r : ℝ, Q j = (r : EReal)) (hk : ∀ b h m e, ∃ r : ℝ, keysAt KV b h m e = (r : EReal)) :
    val_main_v69 (F := Ideal) Q KV D = gradKVArr Q D KV := by
  funext j
  obtain ⟨R, k, rfl⟩ : ∃ R k, j = ix2 R k := ⟨j 0, j 1, (ix2_eta j).symm⟩
  obtain ⟨b, mm, rfl⟩ := memRow_cases R
  obtain ⟨h, e, rfl⟩ | ⟨h, e, rfl⟩ := colKV_cases k
  · rw [gradKVArr_colK, v69_left, v62_at Q KV D hq hk]
  · rw [gradKVArr_colV, v69_right, v46_at]

end Cert.Xattn
-- ==== Proof.Xattn.Claim.lean ====
/- The value claim of the memory attention's gradient, from the two runs. -/
module

public import proofs.«01_k».proof.Defs
public import Idealize.ShloMosaic.Lib.Claim
public import Idealize.ShloMosaic.Lib.Pointwise
public import proofs.«01_k».proof.Proof.Gen.ReferenceIdeal.Run
public import proofs.«01_k».proof.Proof.Xattn.RefVal

@[expose] public section

noncomputable section

namespace Cert.Xattn

open Idealize.ShloMosaic Idealize.ShloMosaic.TcCoe Idealize.SL.Sem

/-- The side conditions of the precondition. -/
theorem pre_facts : Cert.Pre_finite_qk.Facts where
  slices_S1024x2048_S1024x1024_0_0 := by decide
  bitsLt_bf16_f32 := by decide
  bcast_S_S8192x1024 := by decide
  bcast_S_S1024x1024 := by decide

/-- The bits of positive infinity. -/
theorem ofBits_inf : Ideal.ofBits .f32 0x7F800000#32 = ⊤ := by
  simp [Ideal.ofBits, Ideal.ieee]

/-- An extended real whose magnitude is below infinity is a real number. -/
theorem real_of_lt (x : EReal) (h : Ideal.cmp .olt (max x (-x)) ⊤ = 1#1) : ∃ r : ℝ, x = (r : EReal) := by
  have hlt : max x (-x) < ⊤ := by
    by_contra hn
    simp [Ideal.cmp, hn] at h
  induction x using EReal.rec with
  | bot => simp at hlt
  | coe r => exact ⟨r, rfl⟩
  | top => simp at hlt

section

variable (Q : FVec Ideal Cert.Pre_finite_qk.S8192x1024 .bf16) (KV : FVec Ideal Cert.Pre_finite_qk.S1024x2048 .bf16)
  (D : FVec Ideal Cert.Pre_finite_qk.S8192x1024 .bf16)

/-- The precondition's first half: every query is real. -/
theorem pre_q (h : (@Cert.Pre_finite_qk.fn pre_facts Ideal _ Q KV D).1 = fun _ => 1#1) (j) : ∃ r : ℝ, Q j = (r : EReal) := by
  refine real_of_lt (Q j) ?_
  rw [← ofBits_inf]
  exact congrFun h j

/-- The precondition's second half: every key is real. -/
theorem pre_k (h : (@Cert.Pre_finite_qk.fn pre_facts Ideal _ Q KV D).2 = fun _ => 1#1) (b g : Fin 4) (m e : Fin 256) :
    ∃ r : ℝ, keysAt KV b g m e = (r : EReal) := by
  refine real_of_lt _ ?_
  rw [← ofBits_inf]
  refine Eq.trans ?_ (congrFun h (ix2 (memRow b m) (col g e)))
  refine congrArg (fun z : EReal => Ideal.cmp .olt (max z (-z)) (Ideal.ofBits .f32 0x7F800000#32)) (congrArg KV (funext fun a => ?_))
  match a with
  | ⟨0, _⟩ => exact Fin.ext (by simp)
  | ⟨1, _⟩ => exact Fin.ext (by simp)

end

/-- The reference runs to its end and leaves its arguments and the counters as they were; it declares no semaphore. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2.2, sem_eq_zero_of_no_sems (by decide) r.2⟩) (Cert.ReferenceIdeal.Value.run (F := Ideal) m g)

/-- The kernel's memory attention gradient and the reference's agree wherever queries and keys are finite. -/
theorem value : @Cert.algebraic_KernelIdeal_ReferenceIdeal_pre_finite_qk Cert.KernelIdeal.Gen.facts Cert.ReferenceIdeal.Gen.facts pre_facts := by
  pair_intro
  · run_from Cert.KernelIdeal.Value.run_blocks m g
  · run_from Cert.ReferenceIdeal.Value.run m' g'
    · rw [final_q m c, Cert.ReferenceIdeal.Read.val_main_v71_eq, (hagree c).1, (hagree c).2.1, (hagree c).2.2]
      exact ref_q _ _ _ (pre_q _ _ _ (hpre c).1) (pre_k _ _ _ (hpre c).2)
    · rw [final_kv m c, Cert.ReferenceIdeal.Read.val_main_v69_eq, (hagree c).1, (hagree c).2.1, (hagree c).2.2]
      exact ref_kv _ _ _ (pre_q _ _ _ (hpre c).1) (pre_k _ _ _ (hpre c).2)

end Cert.Xattn
-- ==== Proof.Products.Sum.lean ====
/- Sums taken block by block: a product of two matrices computed in pieces of its contracted axis is the whole sum. -/
module

public import Idealize.ShloMosaic.Adequacy
public import Idealize.ShloMosaic.PureOps.Ideal
public import Idealize.ShloMosaic.Lib.Pipeline.ValueKit

@[expose] public section

noncomputable section

namespace Cert.Products

open Idealize.ShloMosaic Idealize.ShloMosaic.TcCoe
open Idealize.ShloMosaic.ValueIdx (contrEquiv1 contrEquiv1_symm_val)

section
variable {n k p : Nat} {e₁ e₂ : FTy}

/-- Rows against columns from zero: entry `(i, j)` is the sum over the common axis. -/
theorem nn_apply (wf) (x : FVec Ideal ⟨2, ![n, k]⟩ e₁) (y : FVec Ideal ⟨2, ![k, p]⟩ e₂) (i : Fin n) (j : Fin p) :
    matmul (F := Ideal) (⟨[1], [0], [0], [1], [], [], wf⟩ : DotDims ⟨2, ![n, k]⟩ ⟨2, ![k, p]⟩ ⟨2, ![n, p]⟩) none x y (constant _ .f32 0x00000000#32) (ix2 i j)
      = ∑ e : Fin k, x (ix2 i e) * y (ix2 e j) := by
  show FloatOps.matmul _ none x y _ _ = _
  rw [Ideal.matmul_constant_zero_apply,
    ← Equiv.sum_comp (contrEquiv1 (⟨[1], [0], [0], [1], [], [], wf⟩ : DotDims ⟨2, ![n, k]⟩ ⟨2, ![k, p]⟩ ⟨2, ![n, p]⟩) k rfl rfl).symm]
  refine Finset.sum_congr rfl fun c _ => ?_
  have hc := contrEquiv1_symm_val (⟨[1], [0], [0], [1], [], [], wf⟩ : DotDims ⟨2, ![n, k]⟩ ⟨2, ![k, p]⟩ ⟨2, ![n, p]⟩) k rfl rfl c
  congr 2 <;> funext a <;> apply Fin.ext
  · match a with
    | ⟨0, _⟩ => rfl
    | ⟨1, _⟩ => exact hc
  · match a with
    | ⟨0, _⟩ => exact hc
    | ⟨1, _⟩ => rfl

/-- Columns against columns from zero: entry `(i, j)` is the sum over the common rows. -/
theorem tn_apply (wf) (x : FVec Ideal ⟨2, ![k, n]⟩ e₁) (y : FVec Ideal ⟨2, ![k, p]⟩ e₂) (i : Fin n) (j : Fin p) :
    matmul (F := Ideal) (⟨[0], [0], [1], [1], [], [], wf⟩ : DotDims ⟨2, ![k, n]⟩ ⟨2, ![k, p]⟩ ⟨2, ![n, p]⟩) none x y (constant _ .f32 0x00000000#32) (ix2 i j)
      = ∑ e : Fin k, x (ix2 e i) * y (ix2 e j) := by
  show FloatOps.matmul _ none x y _ _ = _
  rw [Ideal.matmul_constant_zero_apply,
    ← Equiv.sum_comp (contrEquiv1 (⟨[0], [0], [1], [1], [], [], wf⟩ : DotDims ⟨2, ![k, n]⟩ ⟨2, ![k, p]⟩ ⟨2, ![n, p]⟩) k rfl rfl).symm]
  refine Finset.sum_congr rfl fun c _ => ?_
  have hc := contrEquiv1_symm_val (⟨[0], [0], [1], [1], [], [], wf⟩ : DotDims ⟨2, ![k, n]⟩ ⟨2, ![k, p]⟩ ⟨2, ![n, p]⟩) k rfl rfl c
  congr 2 <;> funext a <;> apply Fin.ext
  · match a with
    | ⟨0, _⟩ => exact hc
    | ⟨1, _⟩ => rfl
  · match a with
    | ⟨0, _⟩ => exact hc
    | ⟨1, _⟩ => rfl

end

/-- What a value reset at every multiple of `K` and otherwise added to holds at each point: the sum since the reset. -/
theorem sum_since {N : Nat} (K : Nat) (hK : 0 < K) (A M : (t : Nat) → t < N → EReal) (reset : ∀ t h, t % K = 0 → A t h = M t h)
    (step : ∀ t h, ¬ t % K = 0 → A t h = A (t - 1) (Nat.lt_of_le_of_lt (Nat.sub_le _ _) h) + M t h) :
    ∀ (q t : Nat) (h : t < N) (hq : t % K = q),
      A t h = ∑ s : Fin (q + 1), M (t - q + s.val) (by have := Nat.mod_le t K; have := s.isLt; omega)
  | 0, t, h, hq => by
    rw [reset t h hq, Fin.sum_univ_one]
    rfl
  | q + 1, t, h, hq => by
    have hp : (t - 1) % K = q := by
      have h1 := Nat.div_add_mod t K
      have h2 : q + 1 < K := hq ▸ Nat.mod_lt t hK
      have h3 : t - 1 = K * (t / K) + q := by omega
      rw [h3, Nat.mul_add_mod, Nat.mod_eq_of_lt (by omega)]
    have ht : q + 1 ≤ t := hq ▸ Nat.mod_le t K
    rw [step t h (by omega), sum_since K hK A M reset step q (t - 1) _ hp, Fin.sum_univ_castSucc (n := q + 1)]
    congr 1
    · refine Finset.sum_congr rfl fun s _ => ?_
      congr 1
      show t - 1 - q + s.val = t - (q + 1) + s.val
      omega
    · congr 1
      show t = t - (q + 1) + (q + 1)
      omega

/-- After a run's last point such a value is the whole sum, each point adding one block of it. -/
theorem sum_blocks {N L : Nat} (K B : Nat) (hK : 0 < K) (hL : L = K * B) (A M : (t : Nat) → t < N → EReal) (reset : ∀ t h, t % K = 0 → A t h = M t h)
    (step : ∀ t h, ¬ t % K = 0 → A t h = A (t - 1) (Nat.lt_of_le_of_lt (Nat.sub_le _ _) h) + M t h)
    (f : Fin L → EReal) (t : Nat) (h : t < N) (hlast : t % K = K - 1)
    (hM : ∀ u hu, u / K = t / K → M u hu = ∑ r : Fin B, f ⟨u % K * B + r.val, by
      rw [hL]; have hu := Nat.mod_lt u hK; have := r.isLt
      calc _ < u % K * B + B := by omega
        _ = (u % K + 1) * B := by ring
        _ ≤ K * B := Nat.mul_le_mul_right _ hu⟩) :
    A t h = ∑ l, f l := by
  obtain ⟨K, rfl⟩ : ∃ k, K = k + 1 := ⟨K - 1, by omega⟩
  rw [sum_since (K + 1) hK A M reset step K t h hlast, ← Fin.sum_mul_add_fin (K + 1) B f hL]
  refine Finset.sum_congr rfl fun s _ => ?_
  have h1 := Nat.div_add_mod t (K + 1)
  have h2 : t - K + s.val = (K + 1) * (t / (K + 1)) + s.val := by rw [hlast] at h1; omega
  have h3 : (t - K + s.val) / (K + 1) = t / (K + 1) := by
    rw [h2, Nat.mul_add_div (by omega), Nat.div_eq_of_lt s.isLt, Nat.add_zero]
  have h4 : (t - K + s.val) % (K + 1) = s.val := by
    rw [h2, Nat.mul_add_mod, Nat.mod_eq_of_lt s.isLt]
  rw [hM _ _ h3]
  exact Finset.sum_congr rfl fun r _ => congrArg f (Fin.ext (by show _ % _ * B + _ = _; rw [h4]))

end Cert.Products

end
-- ==== Proof.Products.UpDx.lean ====
/- The gradient of the up product's input: the gradient of its result times the transposed weight. -/
module

public import proofs.«01_k».proof.Defs
public import proofs.«01_k».proof.Proof.Gen.UpDx.Frame
public import proofs.«01_k».proof.Proof.Gen.UpDxIdeal.Value
public import proofs.«01_k».proof.Proof.Gen.UpDxRefIdeal.Read
public import proofs.«01_k».proof.Proof.Products.Sum

@[expose] public section

set_option maxRecDepth 16384

noncomputable section

namespace Cert.Products.UpDx

open Idealize.ShloMosaic Idealize.ShloMosaic.TcCoe Idealize.SL.Sem Cert.UpDxIdeal Cert.UpDxIdeal.Gen

/-- Entry `(r, i)`: row `r` of the gradient against row `i` of the weight. -/
def grad (G : Vec Ideal S8192x5632 .bf16) (W : Vec Ideal S1024x5632 .bf16) : Vec Ideal S8192x1024 .bf16 := fun j =>
  ∑ e : Fin 5632, G (ix2 (j 0) e) * W (ix2 (j 1) e)

variable (m : (ℓ : Loc nD τ sig) → Buf (Elt Ideal) ℓ)

/-- The gradient of the result, as the run starts. -/
abbrev argG (c : Dev nD) : Vec Ideal S8192x5632 .bf16 := m ((c.tc : Thread nD τ).loc main_arg0)
/-- The weight, as the run starts. -/
abbrev argW (c : Dev nD) : Vec Ideal S1024x5632 .bf16 := m ((c.tc : Thread nD τ).loc main_arg1)

/-- The blocks' places at every grid point. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, _)

/-- A gradient block at an index of the whole array. -/
theorem iblk0 (c : Dev nD) (t : Fin cfg0.N) (r : Fin 1024) (e : Fin 2816) :
    iblk m c 0 t (ix2 r e) = argG m c (ix2 ⟨t.val / 2 * 1024 + r.val, by have : t.val < 16 := t.isLt; omega⟩ ⟨t.val % 2 * 2816 + e.val, by omega⟩) := by
  blk_point [iblk, idx t]

/-- A block of the transposed weight at an index of the weight. -/
theorem iblk1 (c : Dev nD) (t : Fin cfg0.N) (e : Fin 2816) (i : Fin 1024) :
    iblk m c 1 t (ix2 e i) = argW m c (ix2 i ⟨t.val % 2 * 2816 + e.val, by omega⟩) := by
  blk_point [iblk, V, idx t]

/-- One point's product of its two blocks, at an index. -/
def blkProd (c : Dev nD) (y : S1024x1024.Idx) (t : Nat) (h : t < cfg0.N) : EReal := k0_pay1 (F := Ideal) (iblk m c 0 ⟨t, h⟩) (iblk m c 1 ⟨t, h⟩) y

/-- The scratch after a run's first point. -/
theorem acc_A (c : Dev nD) (y : S1024x1024.Idx) (t : Nat) (h : t < cfg0.N) (h0 : t % 2 = 0) :
    (outsAt0 m c t h).2 y = blkProd m c y t h := by
  rw [outsAt0_A m c ⟨t, h⟩ h0 (by show ¬ t % 2 = 1; omega) (by show ¬ t % 2 = 1; omega)]
  frame_out
  show shapeCast S1024x1024 (k0_pay1 (F := Ideal) (iblk m c 0 ⟨t, h⟩) (iblk m c 1 ⟨t, h⟩)) _ y = _
  exact shapeCast_apply _ _ y y rfl

/-- The scratch after a later point. -/
theorem acc_B (c : Dev nD) (y : S1024x1024.Idx) (t : Nat) (h : t < cfg0.N) (h0 : ¬ t % 2 = 0) :
    (outsAt0 m c t h).2 y = (outsAt0 m c (t - 1) (Nat.lt_of_le_of_lt (Nat.sub_le _ _) h)).2 y + blkProd m c y t h := by
  rw [outsAt0_B m c ⟨t, h⟩ h0 (by show t % 2 = 1; omega) (by show t % 2 = 1; omega)]
  frame_out
  show shapeCast S1024x1024 (addf (F := Ideal) _ (k0_pay1 (F := Ideal) (iblk m c 0 ⟨t, h⟩) (iblk m c 1 ⟨t, h⟩))) _ y = _
  refine (shapeCast_apply _ _ y y rfl).trans ?_
  exact congrArg (· + blkProd m c y t h) (congrFun (Memref.IsWhole.read_unread (Memref.isWhole_whole cc0_scratch0) _) y)

/-- The output block at a run's last point is the scratch. -/
theorem out_B (c : Dev nD) (y : S1024x1024.Idx) (t : Fin cfg0.N) (h1 : t.val % 2 = 1) :
    (outsAt0 m c t.val t.isLt).1 y = (outsAt0 m c t.val t.isLt).2 y := by
  rw [outsAt0_B m c t (by omega) h1 h1]
  frame_out
  rfl

/-- The result array after the run. -/
theorem final (c : Dev nD) : (dats m 0 c).arrAt 2 cfg0.N = grad (argG m c) (argW m c) := by
  refine (dats m 0 c).arrAt_eq_of_covers 2 _ (by decide +kernel) fun t hf y => ?_
  have h1 : t.val % 2 = 1 := (flush0_2 t).mp hf
  have ht : t.val < 16 := t.isLt
  blk_simp
  rw [after0_2, out_B m c y t h1]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val / 2 * 1024 + r.val, by omega⟩ : Fin 8192) i := by
    blk_ext [idx t]
  refine Eq.trans ?_ (congrArg (grad (argG m c) (argW m c)) hy.symm)
  refine sum_blocks 2 2816 (by decide) (by decide) (fun n h => (outsAt0 m c n h).2 (ix2 r i)) (blkProd m c (ix2 r i))
    (acc_A m c _) (acc_B m c _) (fun e => argG m c (ix2 ⟨t.val / 2 * 1024 + r.val, by omega⟩ e) * argW m c (ix2 i e)) t.val t.isLt h1 fun u hu hut => ?_
  unfold blkProd k0_pay1
  refine (nn_apply _ _ _ r i).trans (Finset.sum_congr rfl fun e _ => ?_)
  rw [iblk0 m c ⟨u, hu⟩ r e]
  refine congrArg₂ (· * ·) (congrArg (fun R => argG m c (ix2 R _)) (Fin.ext (by show u / 2 * 1024 + _ = _; rw [hut]))) ?_
  exact (shapeCast_apply _ _ _ (ix2 e i) rfl).trans (iblk1 m c ⟨u, hu⟩ e i)

/-- The reference's result. -/
theorem ref (G : Vec Ideal S8192x5632 .bf16) (W : Vec Ideal S1024x5632 .bf16) :
    Cert.UpDxRefIdeal.Read.val_main_v5 (F := Ideal) G W = grad G W := by
  funext j
  refine (Cert.UpDxRefIdeal.Read.val_main_v4_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_UpDxRefIdeal Cert.UpDxRefIdeal.Gen.facts := fun m g _ =>
  (θ_run Cert.UpDxRefIdeal.defs _ _).mono
    (fun r h => ⟨fun c => (h c).2, sem_eq_zero_of_no_sems (by decide) r.2⟩) (Cert.UpDxRefIdeal.Value.run (F := Ideal) m g)

/-- The kernel's product and the reference's agree. -/
theorem value : @Cert.algebraic_UpDxIdeal_UpDxRefIdeal Cert.UpDxIdeal.Gen.facts Cert.UpDxRefIdeal.Gen.facts := by
  pair_intro
  · run_from Cert.UpDxIdeal.Value.run_blocks m g
  · run_from Cert.UpDxRefIdeal.Value.run m' g'
    rw [final m c, Cert.UpDxRefIdeal.Read.val_main_v5_eq]
    exact ref _ _

end Cert.Products.UpDx

end
-- ==== Proof.Products.UpDw.lean ====
/- The gradient of the up product's weight: the transposed input times the gradient of the result. -/
module

public import proofs.«01_k».proof.Defs
public import proofs.«01_k».proof.Proof.Gen.UpDw.Frame
public import proofs.«01_k».proof.Proof.Gen.UpDwIdeal.Value
public import proofs.«01_k».proof.Proof.Gen.UpDwRefIdeal.Read
public import proofs.«01_k».proof.Proof.Products.Sum

@[expose] public section

set_option maxRecDepth 16384

noncomputable section

namespace Cert.Products.UpDw

open Idealize.ShloMosaic Idealize.ShloMosaic.TcCoe Idealize.SL.Sem Cert.UpDwIdeal Cert.UpDwIdeal.Gen

/-- Entry `(i, j)`: column `i` of the input against column `j` of the gradient. -/
def grad (H : Vec Ideal S8192x1024 .bf16) (G : Vec Ideal S8192x5632 .bf16) : Vec Ideal S1024x5632 .f32 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x1024 .bf16 := m ((c.tc : Thread nD τ).loc main_arg0)
/-- The gradient of the result, as the run starts. -/
abbrev argG (c : Dev nD) : Vec Ideal S8192x5632 .bf16 := m ((c.tc : Thread nD τ).loc main_arg1)

/-- The blocks' places at every grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- An input block at an index of the whole array. -/
theorem iblk0 (c : Dev nD) (t : Fin cfg0.N) (s : Fin 2048) (i : Fin 1024) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1408) :
    iblk m c 1 t (ix2 s j) = argG m c (ix2 ⟨t.val % 4 * 2048 + s.val, by omega⟩ ⟨t.val / 4 * 1408 + j.val, by have : t.val < 16 := t.isLt; omega⟩) := by
  blk_point [iblk, V, idx t]

/-- A product of two blocks at an index. -/
theorem prod_apply (X : Vec Ideal S2048x1024 .bf16) (Y : Vec Ideal S2048x1408 .bf16) (i : Fin 1024) (j : Fin 1408) :
    k0_pay1 (F := Ideal) X Y (ix2 i j) = ∑ s : Fin 2048, X (ix2 s i) * Y (ix2 s j) := tn_apply _ X Y i j

/-- One point's product of its two blocks, at an index. -/
def blkProd (c : Dev nD) (y : S1024x1408.Idx) (t : Nat) (h : t < cfg0.N) : EReal := k0_pay1 (F := Ideal) (iblk m c 0 ⟨t, h⟩) (iblk m c 1 ⟨t, h⟩) y

/-- The output block after a run's first point. -/
theorem acc_A (c : Dev nD) (y : S1024x1408.Idx) (t : Nat) (h : t < cfg0.N) (h0 : t % 4 = 0) :
    outsAt0 m c t h y = blkProd m c y t h := by
  rw [outsAt0_A m c ⟨t, h⟩ h0 (by show ¬ 1 ≤ t % 4; omega)]
  frame_out
  rfl

/-- The output block after a later point. -/
theorem acc_B (c : Dev nD) (y : S1024x1408.Idx) (t : Nat) (h : t < cfg0.N) (h0 : ¬ t % 4 = 0) :
    outsAt0 m c t h y = outsAt0 m c (t - 1) (Nat.lt_of_le_of_lt (Nat.sub_le _ _) h) y + blkProd m c y t h := by
  rw [outsAt0_B m c ⟨t, h⟩ h0 (by show 1 ≤ t % 4; omega)]
  frame_out
  exact congrArg (· + blkProd m c y t h) (shapeCast_apply _ _ y y rfl)

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  have ht : t.val < 16 := t.isLt
  blk_simp
  rw [after0_2]
  obtain ⟨i, j, rfl⟩ : ∃ (i : Fin 1024) (j : Fin 1408), y = ix2 i j := ⟨y 0, y 1, (ix2_eta y).symm⟩
  have hy : ((cfg0.win 2).blk t).view.emb (ix2 i j) = ix2 i (⟨t.val / 4 * 1408 + j.val, by omega⟩ : Fin 5632) := by
    blk_ext [idx t]
  refine Eq.trans ?_ (congrArg (grad (argH m c) (argG m c)) hy.symm)
  refine sum_blocks 4 2048 (by decide) (by decide) (fun n h => outsAt0 m c n h (ix2 i j)) (blkProd m c (ix2 i j))
    (acc_A m c _) (acc_B m c _) (fun s => argH m c (ix2 s i) * argG m c (ix2 s ⟨t.val / 4 * 1408 + j.val, by omega⟩)) t.val t.isLt h1 fun u hu hut => ?_
  refine (prod_apply _ _ i j).trans (Finset.sum_congr rfl fun s _ => ?_)
  exact congrArg₂ (· * ·) (iblk0 m c ⟨u, hu⟩ s i) ((iblk1 m c ⟨u, hu⟩ s j).trans
    (congrArg (fun C => argG m c (ix2 _ C)) (Fin.ext (by show u / 4 * 1408 + _ = _; rw [hut]))))

/-- The reference's result. -/
theorem ref (H : Vec Ideal S8192x1024 .bf16) (G : Vec Ideal S8192x5632 .bf16) :
    Cert.UpDwRefIdeal.Read.val_main_v5 (F := Ideal) H G = grad H G := by
  funext j
  refine (Cert.UpDwRefIdeal.Read.val_main_v5_apply H G j).trans ((Cert.UpDwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_UpDwRefIdeal Cert.UpDwRefIdeal.Gen.facts := fun m g _ =>
  (θ_run Cert.UpDwRefIdeal.defs _ _).mono
    (fun r h => ⟨fun c => (h c).2, sem_eq_zero_of_no_sems (by decide) r.2⟩) (Cert.UpDwRefIdeal.Value.run (F := Ideal) m g)

/-- The kernel's product and the reference's agree. -/
theorem value : @Cert.algebraic_UpDwIdeal_UpDwRefIdeal Cert.UpDwIdeal.Gen.facts Cert.UpDwRefIdeal.Gen.facts := by
  pair_intro
  · run_from Cert.UpDwIdeal.Value.run_blocks m g
  · run_from Cert.UpDwRefIdeal.Value.run m' g'
    rw [final m c, Cert.UpDwRefIdeal.Read.val_main_v5_eq]
    exact ref _ _

end Cert.Products.UpDw

end
-- ==== Proof.Products.DownDx.lean ====
/- The gradient of the down product's input: the gradient of its result times the transposed weight. -/
module

public import proofs.«01_k».proof.Defs
public import proofs.«01_k».proof.Proof.Gen.DownDx.Frame
public import proofs.«01_k».proof.Proof.Gen.DownDxIdeal.Value
public import proofs.«01_k».proof.Proof.Gen.DownDxRefIdeal.Read
public import proofs.«01_k».proof.Proof.Products.Sum

@[expose] public section

set_option maxRecDepth 16384

noncomputable section

namespace Cert.Products.DownDx

open Idealize.ShloMosaic Idealize.ShloMosaic.TcCoe Idealize.SL.Sem Cert.DownDxIdeal Cert.DownDxIdeal.Gen

/-- Entry `(r, i)`: row `r` of the gradient against row `i` of the weight. -/
def grad (G : Vec Ideal S8192x1024 .bf16) (W : Vec Ideal S2816x1024 .bf16) : Vec Ideal S8192x2816 .bf16 := fun j =>
  ∑ e : Fin 1024, G (ix2 (j 0) e) * W (ix2 (j 1) e)

variable (m : (ℓ : Loc nD τ sig) → Buf (Elt Ideal) ℓ)

/-- The gradient of the result, as the run starts. -/
abbrev argG (c : Dev nD) : Vec Ideal S8192x1024 .bf16 := m ((c.tc : Thread nD τ).loc main_arg0)
/-- The weight, as the run starts. -/
abbrev argW (c : Dev nD) : Vec Ideal S2816x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- A gradient block at an index of the whole array. -/
theorem iblk0 (c : Dev nD) (t : Fin cfg0.N) (r : Fin 1024) (e : Fin 1024) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 1024) (i : Fin 2816) :
    iblk m c 1 t (ix2 e i) = argW m c (ix2 i e) := by
  blk_point [iblk, V, idx t]

/-- The result array after the run. -/
theorem final (c : Dev nD) : (dats m 0 c).arrAt 2 cfg0.N = grad (argG m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 2816), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (grad (argG m c) (argW m c)) hy.symm)
  frame_out
  refine (nn_apply _ _ _ r i).trans (Finset.sum_congr rfl fun e _ => ?_)
  rw [iblk0 m c t r e]
  exact congrArg (_ * ·) ((shapeCast_apply _ _ _ (ix2 e i) rfl).trans (iblk1 m c t e i))

/-- The reference's result. -/
theorem ref (G : Vec Ideal S8192x1024 .bf16) (W : Vec Ideal S2816x1024 .bf16) :
    Cert.DownDxRefIdeal.Read.val_main_v5 (F := Ideal) G W = grad G W := by
  funext j
  refine (Cert.DownDxRefIdeal.Read.val_main_v4_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_DownDxRefIdeal Cert.DownDxRefIdeal.Gen.facts := fun m g _ =>
  (θ_run Cert.DownDxRefIdeal.defs _ _).mono
    (fun r h => ⟨fun c => (h c).2, sem_eq_zero_of_no_sems (by decide) r.2⟩) (Cert.DownDxRefIdeal.Value.run (F := Ideal) m g)

/-- The kernel's product and the reference's agree. -/
theorem value : @Cert.algebraic_DownDxIdeal_DownDxRefIdeal Cert.DownDxIdeal.Gen.facts Cert.DownDxRefIdeal.Gen.facts := by
  pair_intro
  · run_from Cert.DownDxIdeal.Value.run_blocks m g
  · run_from Cert.DownDxRefIdeal.Value.run m' g'
    rw [final m c, Cert.DownDxRefIdeal.Read.val_main_v5_eq]
    exact ref _ _

end Cert.Products.DownDx

end
-- ==== Proof.Products.DownDw.lean ====
/- The gradient of the down product's weight: the transposed input times the gradient of the result. -/
module

public import proofs.«01_k».proof.Defs
public import proofs.«01_k».proof.Proof.Gen.DownDw.Frame
public import proofs.«01_k».proof.Proof.Gen.DownDwIdeal.Value
public import proofs.«01_k».proof.Proof.Gen.DownDwRefIdeal.Read
public import proofs.«01_k».proof.Proof.Products.Sum

@[expose] public section

set_option maxRecDepth 16384

noncomputable section

namespace Cert.Products.DownDw

open Idealize.ShloMosaic Idealize.ShloMosaic.TcCoe Idealize.SL.Sem Cert.DownDwIdeal Cert.DownDwIdeal.Gen

/-- Entry `(i, j)`: column `i` of the input against column `j` of the gradient. -/
def grad (H : Vec Ideal S8192x2816 .bf16) (G : Vec Ideal S8192x1024 .bf16) : Vec Ideal S2816x1024 .bf16 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x2816 .bf16 := m ((c.tc : Thread nD τ).loc main_arg0)
/-- The gradient of the result, as the run starts. -/
abbrev argG (c : Dev nD) : Vec Ideal S8192x1024 .bf16 := m ((c.tc : Thread nD τ).loc main_arg1)

/-- The blocks' places at every grid point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- An input block at an index of the whole array. -/
theorem iblk0 (c : Dev nD) (t : Fin cfg0.N) (s : Fin 2048) (i : Fin 1408) :
    iblk m c 0 t (ix2 s i) = argH m c (ix2 ⟨t.val % 4 * 2048 + s.val, by omega⟩ ⟨t.val / 4 * 1408 + i.val, by have : t.val < 8 := t.isLt; omega⟩) := by
  blk_point [iblk, V, idx t]

/-- A gradient block at an index of the whole array. -/
theorem iblk1 (c : Dev nD) (t : Fin cfg0.N) (s : Fin 2048) (j : Fin 1024) :
    iblk m c 1 t (ix2 s j) = argG m c (ix2 ⟨t.val % 4 * 2048 + s.val, by omega⟩ j) := by
  blk_point [iblk, V, idx t]

/-- A product of two blocks at an index. -/
theorem prod_apply (X : Vec Ideal S2048x1408 .bf16) (Y : Vec Ideal S2048x1024 .bf16) (i : Fin 1408) (j : Fin 1024) :
    k0_pay1 (F := Ideal) X Y (ix2 i j) = ∑ s : Fin 2048, X (ix2 s i) * Y (ix2 s j) := tn_apply _ X Y i j

/-- One point's product of its two blocks, at an index. -/
def blkProd (c : Dev nD) (y : S1408x1024.Idx) (t : Nat) (h : t < cfg0.N) : EReal := k0_pay1 (F := Ideal) (iblk m c 0 ⟨t, h⟩) (iblk m c 1 ⟨t, h⟩) y

/-- The scratch after a run's first point. -/
theorem acc_A (c : Dev nD) (y : S1408x1024.Idx) (t : Nat) (h : t < cfg0.N) (h0 : t % 4 = 0) :
    (outsAt0 m c t h).2 y = blkProd m c y t h := by
  rw [outsAt0_A m c ⟨t, h⟩ h0 (by show ¬ 1 ≤ t % 4; omega) (by show ¬ t % 4 = 3; omega)]
  frame_out
  show shapeCast S1408x1024 (k0_pay1 (F := Ideal) (iblk m c 0 ⟨t, h⟩) (iblk m c 1 ⟨t, h⟩)) _ y = _
  exact shapeCast_apply _ _ y y rfl

/-- What a later point adds to the scratch. -/
theorem step (c : Dev nD) (X : Vec Ideal S1408x1024 .f32) (y : S1408x1024.Idx) (t : Nat) (h : t < cfg0.N) :
    k0_pay3 (F := Ideal) (iblk m c 0 ⟨t, h⟩) (iblk m c 1 ⟨t, h⟩) X y = X y + blkProd m c y t h := by
  show shapeCast S1408x1024 (addf (F := Ideal) X (k0_pay1 (F := Ideal) (iblk m c 0 ⟨t, h⟩) (iblk m c 1 ⟨t, h⟩))) _ y = _
  exact shapeCast_apply _ _ y y rfl

/-- The scratch after a later point. -/
theorem acc_B (c : Dev nD) (y : S1408x1024.Idx) (t : Nat) (h : t < cfg0.N) (h0 : ¬ t % 4 = 0) :
    (outsAt0 m c t h).2 y = (outsAt0 m c (t - 1) (Nat.lt_of_le_of_lt (Nat.sub_le _ _) h)).2 y + blkProd m c y t h := by
  by_cases h3 : t % 4 = 3
  · rw [outsAt0_C m c ⟨t, h⟩ h0 (by show 1 ≤ t % 4; omega) h3]
    frame_out
    refine (step m c _ y t h).trans ?_
    exact congrArg (· + blkProd m c y t h) (congrFun (Memref.IsWhole.read_unread (Memref.isWhole_whole cc0_scratch0) _) y)
  · rw [outsAt0_B m c ⟨t, h⟩ h0 (by show 1 ≤ t % 4; omega) h3]
    frame_out
    refine (step m c _ y t h).trans ?_
    exact congrArg (· + blkProd m c y t h) (congrFun (Memref.IsWhole.read_unread (Memref.isWhole_whole cc0_scratch0) _) y)

/-- The output block at a run's last point is the scratch. -/
theorem out_C (c : Dev nD) (y : S1408x1024.Idx) (t : Fin cfg0.N) (h1 : t.val % 4 = 3) :
    (outsAt0 m c t.val t.isLt).1 y = (outsAt0 m c t.val t.isLt).2 y := by
  rw [outsAt0_C m c t (by omega) (by omega) h1]
  frame_out
  rfl

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  have ht : t.val < 8 := t.isLt
  blk_simp
  rw [after0_2, out_C m c y t h1]
  obtain ⟨i, j, rfl⟩ : ∃ (i : Fin 1408) (j : Fin 1024), y = ix2 i j := ⟨y 0, y 1, (ix2_eta y).symm⟩
  have hy : ((cfg0.win 2).blk t).view.emb (ix2 i j) = ix2 (⟨t.val / 4 * 1408 + i.val, by omega⟩ : Fin 2816) j := by
    blk_ext [idx t]
  refine Eq.trans ?_ (congrArg (grad (argH m c) (argG m c)) hy.symm)
  refine sum_blocks 4 2048 (by decide) (by decide) (fun n h => (outsAt0 m c n h).2 (ix2 i j)) (blkProd m c (ix2 i j))
    (acc_A m c _) (acc_B m c _) (fun s => argH m c (ix2 s ⟨t.val / 4 * 1408 + i.val, by omega⟩) * argG m c (ix2 s j)) t.val t.isLt h1 fun u hu hut => ?_
  refine (prod_apply _ _ i j).trans (Finset.sum_congr rfl fun s _ => ?_)
  exact congrArg₂ (· * ·) ((iblk0 m c ⟨u, hu⟩ s i).trans
    (congrArg (fun C => argH m c (ix2 _ C)) (Fin.ext (by show u / 4 * 1408 + _ = _; rw [hut])))) (iblk1 m c ⟨u, hu⟩ s j)

/-- The reference's result. -/
theorem ref (H : Vec Ideal S8192x2816 .bf16) (G : Vec Ideal S8192x1024 .bf16) :
    Cert.DownDwRefIdeal.Read.val_main_v6 (F := Ideal) H G = grad H G := by
  funext j
  refine (Cert.DownDwRefIdeal.Read.val_main_v5_apply H G j).trans ((Cert.DownDwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_DownDwRefIdeal Cert.DownDwRefIdeal.Gen.facts := fun m g _ =>
  (θ_run Cert.DownDwRefIdeal.defs _ _).mono
    (fun r h => ⟨fun c => (h c).2, sem_eq_zero_of_no_sems (by decide) r.2⟩) (Cert.DownDwRefIdeal.Value.run (F := Ideal) m g)

/-- The kernel's product and the reference's agree. -/
theorem value : @Cert.algebraic_DownDwIdeal_DownDwRefIdeal Cert.DownDwIdeal.Gen.facts Cert.DownDwRefIdeal.Gen.facts := by
  pair_intro
  · run_from Cert.DownDwIdeal.Value.run_blocks m g
  · run_from Cert.DownDwRefIdeal.Value.run m' g'
    rw [final m c, Cert.DownDwRefIdeal.Read.val_main_v6_eq]
    exact ref _ _

end Cert.Products.DownDw

end
-- ==== Proof.Products.SquareDx.lean ====
/- The gradient of a square product's input: the gradient of its result times the transposed weight. -/
module

public import proofs.«01_k».proof.Defs
public import proofs.«01_k».proof.Proof.Gen.SquareDx.Frame
public import proofs.«01_k».proof.Proof.Gen.SquareDxIdeal.Value
public import proofs.«01_k».proof.Proof.Gen.SquareDxRefIdeal.Read
public import proofs.«01_k».proof.Proof.Products.Sum

@[expose] public section

set_option maxRecDepth 16384

noncomputable section

namespace Cert.Products.SquareDx

open Idealize.ShloMosaic Idealize.ShloMosaic.TcCoe Idealize.SL.Sem Cert.SquareDxIdeal Cert.SquareDxIdeal.Gen

/-- Entry `(r, i)`: row `r` of the gradient against row `i` of the weight. -/
def grad (G : Vec Ideal S8192x1024 .bf16) (W : Vec Ideal S1024x1024 .bf16) : Vec Ideal S8192x1024 .bf16 := fun j =>
  ∑ e : Fin 1024, G (ix2 (j 0) e) * W (ix2 (j 1) e)

variable (m : (ℓ : Loc nD τ sig) → Buf (Elt Ideal) ℓ)

/-- The gradient of the result, as the run starts. -/
abbrev argG (c : Dev nD) : Vec Ideal S8192x1024 .bf16 := m ((c.tc : Thread nD τ).loc main_arg0)
/-- The weight, as the run starts. -/
abbrev argW (c : Dev nD) : Vec Ideal S1024x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- A gradient block at an index of the whole array. -/
theorem iblk0 (c : Dev nD) (t : Fin cfg0.N) (r : Fin 1024) (e : Fin 1024) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 1024) (i : Fin 1024) :
    iblk m c 1 t (ix2 e i) = argW m c (ix2 i e) := by
  blk_point [iblk, V, idx t]

/-- The result array after the run. -/
theorem final (c : Dev nD) : (dats m 0 c).arrAt 2 cfg0.N = grad (argG m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (grad (argG m c) (argW m c)) hy.symm)
  frame_out
  refine (nn_apply _ _ _ r i).trans (Finset.sum_congr rfl fun e _ => ?_)
  rw [iblk0 m c t r e]
  exact congrArg (_ * ·) ((shapeCast_apply _ _ _ (ix2 e i) rfl).trans (iblk1 m c t e i))

/-- The reference's result. -/
theorem ref (G : Vec Ideal S8192x1024 .bf16) (W : Vec Ideal S1024x1024 .bf16) :
    Cert.SquareDxRefIdeal.Read.val_main_v5 (F := Ideal) G W = grad G W := by
  funext j
  refine (Cert.SquareDxRefIdeal.Read.val_main_v4_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_SquareDxRefIdeal Cert.SquareDxRefIdeal.Gen.facts := fun m g _ =>
  (θ_run Cert.SquareDxRefIdeal.defs _ _).mono
    (fun r h => ⟨fun c => (h c).2, sem_eq_zero_of_no_sems (by decide) r.2⟩) (Cert.SquareDxRefIdeal.Value.run (F := Ideal) m g)

/-- The kernel's product and the reference's agree. -/
theorem value : @Cert.algebraic_SquareDxIdeal_SquareDxRefIdeal Cert.SquareDxIdeal.Gen.facts Cert.SquareDxRefIdeal.Gen.facts := by
  pair_intro
  · run_from Cert.SquareDxIdeal.Value.run_blocks m g
  · run_from Cert.SquareDxRefIdeal.Value.run m' g'
    rw [final m c, Cert.SquareDxRefIdeal.Read.val_main_v5_eq]
    exact ref _ _

end Cert.Products.SquareDx

end
-- ==== Proof.Products.SquareDw.lean ====
/- The gradient of a square product's weight: the transposed input times the gradient of the result, in blocks of rows. -/
module

public import proofs.«01_k».proof.Defs
public import proofs.«01_k».proof.Proof.Gen.SquareDw.Frame
public import proofs.«01_k».proof.Proof.Gen.SquareDwIdeal.Value
public import proofs.«01_k».proof.Proof.Gen.SquareDwRefIdeal.Read
public import proofs.«01_k».proof.Proof.Products.Sum

@[expose] public section

set_option maxRecDepth 16384

noncomputable section

namespace Cert.Products.SquareDw

open Idealize.ShloMosaic Idealize.ShloMosaic.TcCoe Idealize.SL.Sem Cert.SquareDwIdeal Cert.SquareDwIdeal.Gen

/-- Entry `(i, j)`: column `i` of the input against column `j` of the gradient. -/
def grad (H : Vec Ideal S8192x1024 .bf16) (G : Vec Ideal S8192x1024 .bf16) : Vec Ideal S1024x1024 .bf16 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x1024 .bf16 := m ((c.tc : Thread nD τ).loc main_arg0)
/-- The gradient of the result, as the run starts. -/
abbrev argG (c : Dev nD) : Vec Ideal S8192x1024 .bf16 := m ((c.tc : Thread nD τ).loc main_arg1)

/-- The blocks' places at every grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- An input block at an index of the whole array. -/
theorem iblk0 (c : Dev nD) (t : Fin cfg0.N) (s : Fin 2048) (i : Fin 1024) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1024) :
    iblk m c 1 t (ix2 s j) = argG m c (ix2 ⟨t.val % 4 * 2048 + s.val, by omega⟩ j) := by
  blk_point [iblk, V, idx t]

/-- A product of two blocks at an index. -/
theorem prod_apply (X : Vec Ideal S2048x1024 .bf16) (Y : Vec Ideal S2048x1024 .bf16) (i : Fin 1024) (j : Fin 1024) :
    k0_pay1 (F := Ideal) X Y (ix2 i j) = ∑ s : Fin 2048, X (ix2 s i) * Y (ix2 s j) := tn_apply _ X Y i j

/-- One point's product of its two blocks, at an index. -/
def blkProd (c : Dev nD) (y : S1024x1024.Idx) (t : Nat) (h : t < cfg0.N) : EReal := k0_pay1 (F := Ideal) (iblk m c 0 ⟨t, h⟩) (iblk m c 1 ⟨t, h⟩) y

/-- The scratch after a run's first point. -/
theorem acc_A (c : Dev nD) (y : S1024x1024.Idx) (t : Nat) (h : t < cfg0.N) (h0 : t % 4 = 0) :
    (outsAt0 m c t h).2 y = blkProd m c y t h := by
  rw [outsAt0_A m c ⟨t, h⟩ h0 (by show ¬ 1 ≤ t; have : t < 4 := h; omega) (by show ¬ t % 4 = 3; omega)]
  frame_out
  show shapeCast S1024x1024 (k0_pay1 (F := Ideal) (iblk m c 0 ⟨t, h⟩) (iblk m c 1 ⟨t, h⟩)) _ y = _
  exact shapeCast_apply _ _ y y rfl

/-- What a later point adds to the scratch. -/
theorem step (c : Dev nD) (X : Vec Ideal S1024x1024 .f32) (y : S1024x1024.Idx) (t : Nat) (h : t < cfg0.N) :
    k0_pay3 (F := Ideal) (iblk m c 0 ⟨t, h⟩) (iblk m c 1 ⟨t, h⟩) X y = X y + blkProd m c y t h := by
  show shapeCast S1024x1024 (addf (F := Ideal) X (k0_pay1 (F := Ideal) (iblk m c 0 ⟨t, h⟩) (iblk m c 1 ⟨t, h⟩))) _ y = _
  exact shapeCast_apply _ _ y y rfl

/-- The scratch after a later point. -/
theorem acc_B (c : Dev nD) (y : S1024x1024.Idx) (t : Nat) (h : t < cfg0.N) (h0 : ¬ t % 4 = 0) :
    (outsAt0 m c t h).2 y = (outsAt0 m c (t - 1) (Nat.lt_of_le_of_lt (Nat.sub_le _ _) h)).2 y + blkProd m c y t h := by
  by_cases h3 : t % 4 = 3
  · rw [outsAt0_C m c ⟨t, h⟩ h0 (by show 1 ≤ t; omega) h3]
    frame_out
    refine (step m c _ y t h).trans ?_
    exact congrArg (· + blkProd m c y t h) (congrFun (Memref.IsWhole.read_unread (Memref.isWhole_whole cc0_scratch0) _) y)
  · rw [outsAt0_B m c ⟨t, h⟩ h0 (by show 1 ≤ t; omega) h3]
    frame_out
    refine (step m c _ y t h).trans ?_
    exact congrArg (· + blkProd m c y t h) (congrFun (Memref.IsWhole.read_unread (Memref.isWhole_whole cc0_scratch0) _) y)

/-- The output block at a run's last point is the scratch. -/
theorem out_C (c : Dev nD) (y : S1024x1024.Idx) (t : Fin cfg0.N) (h1 : t.val % 4 = 3) :
    (outsAt0 m c t.val t.isLt).1 y = (outsAt0 m c t.val t.isLt).2 y := by
  rw [outsAt0_C m c t (by omega) (by omega) h1]
  frame_out
  rfl

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  blk_simp
  rw [after0_2, out_C m c y t h1]
  obtain ⟨i, j, rfl⟩ : ∃ (i : Fin 1024) (j : Fin 1024), y = ix2 i j := ⟨y 0, y 1, (ix2_eta y).symm⟩
  have hy : ((cfg0.win 2).blk t).view.emb (ix2 i j) = ix2 i j := by
    blk_ext [idx t]
  refine Eq.trans ?_ (congrArg (grad (argH m c) (argG m c)) hy.symm)
  refine sum_blocks 4 2048 (by decide) (by decide) (fun n h => (outsAt0 m c n h).2 (ix2 i j)) (blkProd m c (ix2 i j))
    (acc_A m c _) (acc_B m c _) (fun s => argH m c (ix2 s i) * argG m c (ix2 s j)) t.val t.isLt h1 fun u hu _ => ?_
  refine (prod_apply _ _ i j).trans (Finset.sum_congr rfl fun s _ => ?_)
  exact congrArg₂ (· * ·) (iblk0 m c ⟨u, hu⟩ s i) (iblk1 m c ⟨u, hu⟩ s j)

/-- The reference's result. -/
theorem ref (H : Vec Ideal S8192x1024 .bf16) (G : Vec Ideal S8192x1024 .bf16) :
    Cert.SquareDwRefIdeal.Read.val_main_v6 (F := Ideal) H G = grad H G := by
  funext j
  refine (Cert.SquareDwRefIdeal.Read.val_main_v5_apply H G j).trans ((Cert.SquareDwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_SquareDwRefIdeal Cert.SquareDwRefIdeal.Gen.facts := fun m g _ =>
  (θ_run Cert.SquareDwRefIdeal.defs _ _).mono
    (fun r h => ⟨fun c => (h c).2, sem_eq_zero_of_no_sems (by decide) r.2⟩) (Cert.SquareDwRefIdeal.Value.run (F := Ideal) m g)

/-- The kernel's product and the reference's agree. -/
theorem value : @Cert.algebraic_SquareDwIdeal_SquareDwRefIdeal Cert.SquareDwIdeal.Gen.facts Cert.SquareDwRefIdeal.Gen.facts := by
  pair_intro
  · run_from Cert.SquareDwIdeal.Value.run_blocks m g
  · run_from Cert.SquareDwRefIdeal.Value.run m' g'
    rw [final m c, Cert.SquareDwRefIdeal.Read.val_main_v6_eq]
    exact ref _ _

end Cert.Products.SquareDw

end
-- ==== Proof.Products.InADx.lean ====
/- The gradient of the convolution module's input: the gradient of its projection times the transposed weight. -/
module

public import proofs.«01_k».proof.Defs
public import proofs.«01_k».proof.Proof.Gen.InADx.Frame
public import proofs.«01_k».proof.Proof.Gen.InADxIdeal.Value
public import proofs.«01_k».proof.Proof.Gen.InADxRefIdeal.Read
public import proofs.«01_k».proof.Proof.Products.Sum

@[expose] public section

set_option maxRecDepth 16384

noncomputable section

namespace Cert.Products.InADx

open Idealize.ShloMosaic Idealize.ShloMosaic.TcCoe Idealize.SL.Sem Cert.InADxIdeal Cert.InADxIdeal.Gen

/-- Entry `(r, i)`: row `r` of the gradient against row `i` of the weight. -/
def grad (G : Vec Ideal S8192x1024 .bf16) (W : Vec Ideal S1024x1024 .bf16) : Vec Ideal S8192x1024 .f32 := fun j =>
  ∑ e : Fin 1024, G (ix2 (j 0) e) * W (ix2 (j 1) e)

variable (m : (ℓ : Loc nD τ sig) → Buf (Elt Ideal) ℓ)

/-- The gradient of the result, as the run starts. -/
abbrev argG (c : Dev nD) : Vec Ideal S8192x1024 .bf16 := m ((c.tc : Thread nD τ).loc main_arg0)
/-- The weight, as the run starts. -/
abbrev argW (c : Dev nD) : Vec Ideal S1024x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- A gradient block at an index of the whole array. -/
theorem iblk0 (c : Dev nD) (t : Fin cfg0.N) (r : Fin 1024) (e : Fin 1024) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 1024) (i : Fin 1024) :
    iblk m c 1 t (ix2 e i) = argW m c (ix2 i e) := by
  blk_point [iblk, V, idx t]

/-- The result array after the run. -/
theorem final (c : Dev nD) : (dats m 0 c).arrAt 2 cfg0.N = grad (argG m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (grad (argG m c) (argW m c)) hy.symm)
  frame_out
  refine (nn_apply _ _ _ r i).trans (Finset.sum_congr rfl fun e _ => ?_)
  rw [iblk0 m c t r e]
  exact congrArg (_ * ·) ((shapeCast_apply _ _ _ (ix2 e i) rfl).trans (iblk1 m c t e i))

/-- The reference's result. -/
theorem ref (G : Vec Ideal S8192x1024 .bf16) (W : Vec Ideal S1024x1024 .bf16) :
    Cert.InADxRefIdeal.Read.val_main_v4 (F := Ideal) G W = grad G W := by
  funext j
  refine (Cert.InADxRefIdeal.Read.val_main_v4_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_InADxRefIdeal Cert.InADxRefIdeal.Gen.facts := fun m g _ =>
  (θ_run Cert.InADxRefIdeal.defs _ _).mono
    (fun r h => ⟨fun c => (h c).2, sem_eq_zero_of_no_sems (by decide) r.2⟩) (Cert.InADxRefIdeal.Value.run (F := Ideal) m g)

/-- The kernel's product and the reference's agree. -/
theorem value : @Cert.algebraic_InADxIdeal_InADxRefIdeal Cert.InADxIdeal.Gen.facts Cert.InADxRefIdeal.Gen.facts := by
  pair_intro
  · run_from Cert.InADxIdeal.Value.run_blocks m g
  · run_from Cert.InADxRefIdeal.Value.run m' g'
    rw [final m c]
    exact ref (argG m c) (argW m c)

end Cert.Products.InADx

end
-- ==== Proof.Products.InBDx.lean ====
/- The spatial gating's part of the gradient of the common input, added to the gradient so far. -/
module

public import proofs.«01_k».proof.Defs
public import proofs.«01_k».proof.Proof.Gen.InBDx.Frame
public import proofs.«01_k».proof.Proof.Gen.InBDxIdeal.Value
public import proofs.«01_k».proof.Proof.Gen.InBDxRefIdeal.Read
public import proofs.«01_k».proof.Proof.Products.Sum

@[expose] public section

set_option maxRecDepth 16384

noncomputable section

namespace Cert.Products.InBDx

open Idealize.ShloMosaic Idealize.ShloMosaic.TcCoe Idealize.SL.Sem Cert.InBDxIdeal Cert.InBDxIdeal.Gen

/-- Entry `(r, i)`: the gradient so far, and row `r` of the gradient against row `i` of the weight. -/
def grad (G : Vec Ideal S8192x1024 .bf16) (W : Vec Ideal S1024x1024 .bf16) (D : Vec Ideal S8192x1024 .f32) : Vec Ideal S8192x1024 .f32 := fun j =>
  D j + ∑ e : Fin 1024, G (ix2 (j 0) e) * W (ix2 (j 1) e)

variable (m : (ℓ : Loc nD τ sig) → Buf (Elt Ideal) ℓ)

/-- The gradient of the result, as the run starts. -/
abbrev argG (c : Dev nD) : Vec Ideal S8192x1024 .bf16 := m ((c.tc : Thread nD τ).loc main_arg0)
/-- The weight, as the run starts. -/
abbrev argW (c : Dev nD) : Vec Ideal S1024x1024 .bf16 := m ((c.tc : Thread nD τ).loc main_arg1)

/-- The gradient so far, as the run starts. -/
abbrev argD (c : Dev nD) : Vec Ideal S8192x1024 .f32 := m ((c.tc : Thread nD τ).loc main_arg2)

/-- The blocks' places at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A gradient block at an index of the whole array. -/
theorem iblk0 (c : Dev nD) (t : Fin cfg0.N) (r : Fin 1024) (e : Fin 1024) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 1024) (i : Fin 1024) :
    iblk m c 1 t (ix2 e i) = argW m c (ix2 i e) := by
  blk_point [iblk, V, idx t]

/-- A block of the gradient so far at an index of the whole array. -/
theorem iblk2 (c : Dev nD) (t : Fin cfg0.N) (r : Fin 1024) (i : Fin 1024) :
    iblk m c 2 t (ix2 r i) = argD m c (ix2 ⟨t.val * 1024 + r.val, by have : t.val < 8 := t.isLt; omega⟩ i) := by
  blk_point [iblk, V, idx t]

/-- A block of the result at an index. -/
theorem pay_apply (X : Vec Ideal S1024x1024 .bf16) (Y : Vec Ideal S1024x1024 .bf16) (Z : Vec Ideal S1024x1024 .f32) (r : Fin 1024) (i : Fin 1024) :
    k0_pay1 (F := Ideal) X Y Z (ix2 r i) = Z (ix2 r i) + ∑ e : Fin 1024, X (ix2 r e) * Y (ix2 e i) := by
  show matmul (F := Ideal) dot_S1024x1024_S1024x1024_S1024x1024_1_0_0_1_n_n none X (shapeCast S1024x1024 Y _) (constant S1024x1024 .f32 0x00000000#32) (ix2 r i) + Z (ix2 r i) = _
  refine (add_comm _ _).trans (congrArg (Z (ix2 r i) + ·) ((nn_apply _ X _ r i).trans (Finset.sum_congr rfl fun e _ => ?_)))
  exact congrArg (X (ix2 r e) * ·) (shapeCast_apply _ _ _ (ix2 e i) rfl)

/-- The result array after the run. -/
theorem final (c : Dev nD) : (dats m 0 c).arrAt 3 cfg0.N = grad (argG m c) (argW m c) (argD m c) := by
  refine (dats m 0 c).arrAt_eq_of_covers 3 _ (by decide +kernel) fun t hf y => ?_
  have ht : t.val < 8 := t.isLt
  blk_simp
  rw [after0_3]
  obtain ⟨r, i, rfl⟩ : ∃ (r : Fin 1024) (i : Fin 1024), y = ix2 r i := ⟨y 0, y 1, (ix2_eta y).symm⟩
  have hy : ((cfg0.win 3).blk t).view.emb (ix2 r i) = ix2 (⟨t.val * 1024 + r.val, by omega⟩ : Fin 8192) i := by
    blk_ext [idx t]
  refine Eq.trans ?_ (congrArg (grad (argG m c) (argW m c) (argD m c)) hy.symm)
  frame_out
  refine (pay_apply _ _ _ r i).trans (congrArg₂ (· + ·) (iblk2 m c t r i) (Finset.sum_congr rfl fun e _ => ?_))
  exact congrArg₂ (· * ·) (iblk0 m c t r e) (iblk1 m c t e i)

/-- The reference's result. -/
theorem ref (G : Vec Ideal S8192x1024 .bf16) (W : Vec Ideal S1024x1024 .bf16) (D : Vec Ideal S8192x1024 .f32) :
    Cert.InBDxRefIdeal.Read.val_main_v5 (F := Ideal) G W D = grad G W D := by
  funext j
  refine congrArg (D j + ·) ((Cert.InBDxRefIdeal.Read.val_main_v4_apply G W j).trans (Finset.sum_congr rfl fun e _ => ?_))
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_InBDxRefIdeal Cert.InBDxRefIdeal.Gen.facts := fun m g _ =>
  (θ_run Cert.InBDxRefIdeal.defs _ _).mono
    (fun r h => ⟨fun c => (h c).2, sem_eq_zero_of_no_sems (by decide) r.2⟩) (Cert.InBDxRefIdeal.Value.run (F := Ideal) m g)

/-- The kernel's product and the reference's agree. -/
theorem value : @Cert.algebraic_InBDxIdeal_InBDxRefIdeal Cert.InBDxIdeal.Gen.facts Cert.InBDxRefIdeal.Gen.facts := by
  pair_intro
  · run_from Cert.InBDxIdeal.Value.run_blocks m g
  · run_from Cert.InBDxRefIdeal.Value.run m' g'
    rw [final m c, Cert.InBDxRefIdeal.Read.val_main_v5_eq]
    exact ref _ _ _

end Cert.Products.InBDx

end
-- ==== Proof.Products.InCDx.lean ====
/- The dilated attention's part of the gradient of the common input, added to the gradient so far. -/
module

public import proofs.«01_k».proof.Defs
public import proofs.«01_k».proof.Proof.Gen.InCDx.Frame
public import proofs.«01_k».proof.Proof.Gen.InCDxIdeal.Value
public import proofs.«01_k».proof.Proof.Gen.InCDxRefIdeal.Read
public import proofs.«01_k».proof.Proof.Products.Sum

@[expose] public section

set_option maxRecDepth 16384

noncomputable section

namespace Cert.Products.InCDx

open Idealize.ShloMosaic Idealize.ShloMosaic.TcCoe Idealize.SL.Sem Cert.InCDxIdeal Cert.InCDxIdeal.Gen

/-- Entry `(r, i)`: the gradient so far, and row `r` of the gradient against row `i` of the weight. -/
def grad (G : Vec Ideal S8192x2304 .bf16) (W : Vec Ideal S1024x2304 .bf16) (D : Vec Ideal S8192x1024 .f32) : Vec Ideal S8192x1024 .f32 := fun j =>
  D j + ∑ e : Fin 2304, G (ix2 (j 0) e) * W (ix2 (j 1) e)

variable (m : (ℓ : Loc nD τ sig) → Buf (Elt Ideal) ℓ)

/-- The gradient of the result, as the run starts. -/
abbrev argG (c : Dev nD) : Vec Ideal S8192x2304 .bf16 := m ((c.tc : Thread nD τ).loc main_arg0)
/-- The weight, as the run starts. -/
abbrev argW (c : Dev nD) : Vec Ideal S1024x2304 .bf16 := m ((c.tc : Thread nD τ).loc main_arg1)

/-- The gradient so far, as the run starts. -/
abbrev argD (c : Dev nD) : Vec Ideal S8192x1024 .f32 := m ((c.tc : Thread nD τ).loc main_arg2)

/-- The blocks' places at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A gradient block at an index of the whole array. -/
theorem iblk0 (c : Dev nD) (t : Fin cfg0.N) (r : Fin 1024) (e : Fin 2304) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 2304) (i : Fin 1024) :
    iblk m c 1 t (ix2 e i) = argW m c (ix2 i e) := by
  blk_point [iblk, V, idx t]

/-- A block of the gradient so far at an index of the whole array. -/
theorem iblk2 (c : Dev nD) (t : Fin cfg0.N) (r : Fin 1024) (i : Fin 1024) :
    iblk m c 2 t (ix2 r i) = argD m c (ix2 ⟨t.val * 1024 + r.val, by have : t.val < 8 := t.isLt; omega⟩ i) := by
  blk_point [iblk, V, idx t]

/-- A block of the result at an index. -/
theorem pay_apply (X : Vec Ideal S1024x2304 .bf16) (Y : Vec Ideal S2304x1024 .bf16) (Z : Vec Ideal S1024x1024 .f32) (r : Fin 1024) (i : Fin 1024) :
    k0_pay1 (F := Ideal) X Y Z (ix2 r i) = Z (ix2 r i) + ∑ e : Fin 2304, X (ix2 r e) * Y (ix2 e i) := by
  show matmul (F := Ideal) dot_S1024x2304_S2304x1024_S1024x1024_1_0_0_1_n_n none X (shapeCast S2304x1024 Y _) (constant S1024x1024 .f32 0x00000000#32) (ix2 r i) + Z (ix2 r i) = _
  refine (add_comm _ _).trans (congrArg (Z (ix2 r i) + ·) ((nn_apply _ X _ r i).trans (Finset.sum_congr rfl fun e _ => ?_)))
  exact congrArg (X (ix2 r e) * ·) (shapeCast_apply _ _ _ (ix2 e i) rfl)

/-- The result array after the run. -/
theorem final (c : Dev nD) : (dats m 0 c).arrAt 3 cfg0.N = grad (argG m c) (argW m c) (argD m c) := by
  refine (dats m 0 c).arrAt_eq_of_covers 3 _ (by decide +kernel) fun t hf y => ?_
  have ht : t.val < 8 := t.isLt
  blk_simp
  rw [after0_3]
  obtain ⟨r, i, rfl⟩ : ∃ (r : Fin 1024) (i : Fin 1024), y = ix2 r i := ⟨y 0, y 1, (ix2_eta y).symm⟩
  have hy : ((cfg0.win 3).blk t).view.emb (ix2 r i) = ix2 (⟨t.val * 1024 + r.val, by omega⟩ : Fin 8192) i := by
    blk_ext [idx t]
  refine Eq.trans ?_ (congrArg (grad (argG m c) (argW m c) (argD m c)) hy.symm)
  frame_out
  refine (pay_apply _ _ _ r i).trans (congrArg₂ (· + ·) (iblk2 m c t r i) (Finset.sum_congr rfl fun e _ => ?_))
  exact congrArg₂ (· * ·) (iblk0 m c t r e) (iblk1 m c t e i)

/-- The reference's result. -/
theorem ref (G : Vec Ideal S8192x2304 .bf16) (W : Vec Ideal S1024x2304 .bf16) (D : Vec Ideal S8192x1024 .f32) :
    Cert.InCDxRefIdeal.Read.val_main_v5 (F := Ideal) G W D = grad G W D := by
  funext j
  refine congrArg (D j + ·) ((Cert.InCDxRefIdeal.Read.val_main_v4_apply G W j).trans (Finset.sum_congr rfl fun e _ => ?_))
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_InCDxRefIdeal Cert.InCDxRefIdeal.Gen.facts := fun m g _ =>
  (θ_run Cert.InCDxRefIdeal.defs _ _).mono
    (fun r h => ⟨fun c => (h c).2, sem_eq_zero_of_no_sems (by decide) r.2⟩) (Cert.InCDxRefIdeal.Value.run (F := Ideal) m g)

/-- The kernel's product and the reference's agree. -/
theorem value : @Cert.algebraic_InCDxIdeal_InCDxRefIdeal Cert.InCDxIdeal.Gen.facts Cert.InCDxRefIdeal.Gen.facts := by
  pair_intro
  · run_from Cert.InCDxIdeal.Value.run_blocks m g
  · run_from Cert.InCDxRefIdeal.Value.run m' g'
    rw [final m c, Cert.InCDxRefIdeal.Read.val_main_v5_eq]
    exact ref _ _ _

end Cert.Products.InCDx

end
-- ==== Proof.Products.InGDx.lean ====
/- The gates' part of the gradient of the common input, added to the gradient so far. -/
module

public import proofs.«01_k».proof.Defs
public import proofs.«01_k».proof.Proof.Gen.InGDx.Frame
public import proofs.«01_k».proof.Proof.Gen.InGDxIdeal.Value
public import proofs.«01_k».proof.Proof.Gen.InGDxRefIdeal.Read
public import proofs.«01_k».proof.Proof.Products.Sum

@[expose] public section

set_option maxRecDepth 16384

noncomputable section

namespace Cert.Products.InGDx

open Idealize.ShloMosaic Idealize.ShloMosaic.TcCoe Idealize.SL.Sem Cert.InGDxIdeal Cert.InGDxIdeal.Gen

/-- Entry `(r, i)`: the gradient so far, and row `r` of the gradient against row `i` of the weight. -/
def grad (G : Vec Ideal S8192x3072 .bf16) (W : Vec Ideal S1024x3072 .bf16) (D : Vec Ideal S8192x1024 .f32) : Vec Ideal S8192x1024 .bf16 := fun j =>
  D j + ∑ e : Fin 3072, G (ix2 (j 0) e) * W (ix2 (j 1) e)

variable (m : (ℓ : Loc nD τ sig) → Buf (Elt Ideal) ℓ)

/-- The gradient of the result, as the run starts. -/
abbrev argG (c : Dev nD) : Vec Ideal S8192x3072 .bf16 := m ((c.tc : Thread nD τ).loc main_arg0)
/-- The weight, as the run starts. -/
abbrev argW (c : Dev nD) : Vec Ideal S1024x3072 .bf16 := m ((c.tc : Thread nD τ).loc main_arg1)

/-- The gradient so far, as the run starts. -/
abbrev argD (c : Dev nD) : Vec Ideal S8192x1024 .f32 := m ((c.tc : Thread nD τ).loc main_arg2)

/-- The blocks' places at every grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A gradient block at an index of the whole array. -/
theorem iblk0 (c : Dev nD) (t : Fin cfg0.N) (r : Fin 1024) (e : Fin 3072) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 3072) (i : Fin 1024) :
    iblk m c 1 t (ix2 e i) = argW m c (ix2 i e) := by
  blk_point [iblk, V, idx t]

/-- A block of the gradient so far at an index of the whole array. -/
theorem iblk2 (c : Dev nD) (t : Fin cfg0.N) (r : Fin 1024) (i : Fin 1024) :
    iblk m c 2 t (ix2 r i) = argD m c (ix2 ⟨t.val * 1024 + r.val, by have : t.val < 8 := t.isLt; omega⟩ i) := by
  blk_point [iblk, V, idx t]

/-- A block of the result at an index. -/
theorem pay_apply (X : Vec Ideal S1024x3072 .bf16) (Y : Vec Ideal S3072x1024 .bf16) (Z : Vec Ideal S1024x1024 .f32) (r : Fin 1024) (i : Fin 1024) :
    k0_pay1 (F := Ideal) X Y Z (ix2 r i) = Z (ix2 r i) + ∑ e : Fin 3072, X (ix2 r e) * Y (ix2 e i) := by
  show matmul (F := Ideal) dot_S1024x3072_S3072x1024_S1024x1024_1_0_0_1_n_n none X (shapeCast S3072x1024 Y _) (constant S1024x1024 .f32 0x00000000#32) (ix2 r i) + Z (ix2 r i) = _
  refine (add_comm _ _).trans (congrArg (Z (ix2 r i) + ·) ((nn_apply _ X _ r i).trans (Finset.sum_congr rfl fun e _ => ?_)))
  exact congrArg (X (ix2 r e) * ·) (shapeCast_apply _ _ _ (ix2 e i) rfl)

/-- The result array after the run. -/
theorem final (c : Dev nD) : (dats m 0 c).arrAt 3 cfg0.N = grad (argG m c) (argW m c) (argD m c) := by
  refine (dats m 0 c).arrAt_eq_of_covers 3 _ (by decide +kernel) fun t hf y => ?_
  have ht : t.val < 8 := t.isLt
  blk_simp
  rw [after0_3]
  obtain ⟨r, i, rfl⟩ : ∃ (r : Fin 1024) (i : Fin 1024), y = ix2 r i := ⟨y 0, y 1, (ix2_eta y).symm⟩
  have hy : ((cfg0.win 3).blk t).view.emb (ix2 r i) = ix2 (⟨t.val * 1024 + r.val, by omega⟩ : Fin 8192) i := by
    blk_ext [idx t]
  refine Eq.trans ?_ (congrArg (grad (argG m c) (argW m c) (argD m c)) hy.symm)
  frame_out
  refine (pay_apply _ _ _ r i).trans (congrArg₂ (· + ·) (iblk2 m c t r i) (Finset.sum_congr rfl fun e _ => ?_))
  exact congrArg₂ (· * ·) (iblk0 m c t r e) (iblk1 m c t e i)

/-- The reference's result. -/
theorem ref (G : Vec Ideal S8192x3072 .bf16) (W : Vec Ideal S1024x3072 .bf16) (D : Vec Ideal S8192x1024 .f32) :
    Cert.InGDxRefIdeal.Read.val_main_v6 (F := Ideal) G W D = grad G W D := by
  funext j
  refine congrArg (D j + ·) ((Cert.InGDxRefIdeal.Read.val_main_v4_apply G W j).trans (Finset.sum_congr rfl fun e _ => ?_))
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_InGDxRefIdeal Cert.InGDxRefIdeal.Gen.facts := fun m g _ =>
  (θ_run Cert.InGDxRefIdeal.defs _ _).mono
    (fun r h => ⟨fun c => (h c).2, sem_eq_zero_of_no_sems (by decide) r.2⟩) (Cert.InGDxRefIdeal.Value.run (F := Ideal) m g)

/-- The kernel's product and the reference's agree. -/
theorem value : @Cert.algebraic_InGDxIdeal_InGDxRefIdeal Cert.InGDxIdeal.Gen.facts Cert.InGDxRefIdeal.Gen.facts := by
  pair_intro
  · run_from Cert.InGDxIdeal.Value.run_blocks m g
  · run_from Cert.InGDxRefIdeal.Value.run m' g'
    rw [final m c, Cert.InGDxRefIdeal.Read.val_main_v6_eq]
    exact ref _ _ _

end Cert.Products.InGDx

end
-- ==== Proof.Products.InADw.lean ====
/- The gradient of the weight of the convolution module's projection: the transposed input times the gradient of the result. -/
module

public import proofs.«01_k».proof.Defs
public import proofs.«01_k».proof.Proof.Gen.InADw.Frame
public import proofs.«01_k».proof.Proof.Gen.InADwIdeal.Value
public import proofs.«01_k».proof.Proof.Gen.InADwRefIdeal.Read
public import proofs.«01_k».proof.Proof.Products.Sum

@[expose] public section

set_option maxRecDepth 16384

noncomputable section

namespace Cert.Products.InADw

open Idealize.ShloMosaic Idealize.ShloMosaic.TcCoe Idealize.SL.Sem Cert.InADwIdeal Cert.InADwIdeal.Gen

/-- Entry `(i, j)`: column `i` of the input against column `j` of the gradient. -/
def grad (H : Vec Ideal S8192x1024 .bf16) (G : Vec Ideal S8192x1024 .bf16) : Vec Ideal S1024x1024 .f32 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x1024 .bf16 := m ((c.tc : Thread nD τ).loc main_arg0)
/-- The gradient of the result, as the run starts. -/
abbrev argG (c : Dev nD) : Vec Ideal S8192x1024 .bf16 := m ((c.tc : Thread nD τ).loc main_arg1)

/-- The blocks' places at every grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- An input block at an index of the whole array. -/
theorem iblk0 (c : Dev nD) (t : Fin cfg0.N) (s : Fin 2048) (i : Fin 1024) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1024) :
    iblk m c 1 t (ix2 s j) = argG m c (ix2 ⟨t.val % 4 * 2048 + s.val, by omega⟩ j) := by
  blk_point [iblk, V, idx t]

/-- A product of two blocks at an index. -/
theorem prod_apply (X : Vec Ideal S2048x1024 .bf16) (Y : Vec Ideal S2048x1024 .bf16) (i : Fin 1024) (j : Fin 1024) :
    k0_pay1 (F := Ideal) X Y (ix2 i j) = ∑ s : Fin 2048, X (ix2 s i) * Y (ix2 s j) := tn_apply _ X Y i j

/-- One point's product of its two blocks, at an index. -/
def blkProd (c : Dev nD) (y : S1024x1024.Idx) (t : Nat) (h : t < cfg0.N) : EReal := k0_pay1 (F := Ideal) (iblk m c 0 ⟨t, h⟩) (iblk m c 1 ⟨t, h⟩) y

/-- The output block after a run's first point. -/
theorem acc_A (c : Dev nD) (y : S1024x1024.Idx) (t : Nat) (h : t < cfg0.N) (h0 : t % 4 = 0) :
    outsAt0 m c t h y = blkProd m c y t h := by
  rw [outsAt0_A m c ⟨t, h⟩ h0 (by show ¬ 1 ≤ t; have : t < 4 := h; omega)]
  frame_out
  rfl

/-- The output block after a later point. -/
theorem acc_B (c : Dev nD) (y : S1024x1024.Idx) (t : Nat) (h : t < cfg0.N) (h0 : ¬ t % 4 = 0) :
    outsAt0 m c t h y = outsAt0 m c (t - 1) (Nat.lt_of_le_of_lt (Nat.sub_le _ _) h) y + blkProd m c y t h := by
  rw [outsAt0_B m c ⟨t, h⟩ h0 (by show 1 ≤ t; omega)]
  frame_out
  exact congrArg (· + blkProd m c y t h) (shapeCast_apply _ _ y y rfl)

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  blk_simp
  rw [after0_2]
  obtain ⟨i, j, rfl⟩ : ∃ (i : Fin 1024) (j : Fin 1024), y = ix2 i j := ⟨y 0, y 1, (ix2_eta y).symm⟩
  have hy : ((cfg0.win 2).blk t).view.emb (ix2 i j) = ix2 i j := by
    blk_ext [idx t]
  refine Eq.trans ?_ (congrArg (grad (argH m c) (argG m c)) hy.symm)
  refine sum_blocks 4 2048 (by decide) (by decide) (fun n h => outsAt0 m c n h (ix2 i j)) (blkProd m c (ix2 i j))
    (acc_A m c _) (acc_B m c _) (fun s => argH m c (ix2 s i) * argG m c (ix2 s j)) t.val t.isLt h1 fun u hu _ => ?_
  refine (prod_apply _ _ i j).trans (Finset.sum_congr rfl fun s _ => ?_)
  exact congrArg₂ (· * ·) (iblk0 m c ⟨u, hu⟩ s i) (iblk1 m c ⟨u, hu⟩ s j)

/-- The reference's result. -/
theorem ref (H : Vec Ideal S8192x1024 .bf16) (G : Vec Ideal S8192x1024 .bf16) :
    Cert.InADwRefIdeal.Read.val_main_v5 (F := Ideal) H G = grad H G := by
  funext j
  refine (Cert.InADwRefIdeal.Read.val_main_v5_apply H G j).trans ((Cert.InADwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_InADwRefIdeal Cert.InADwRefIdeal.Gen.facts := fun m g _ =>
  (θ_run Cert.InADwRefIdeal.defs _ _).mono
    (fun r h => ⟨fun c => (h c).2, sem_eq_zero_of_no_sems (by decide) r.2⟩) (Cert.InADwRefIdeal.Value.run (F := Ideal) m g)

/-- The kernel's product and the reference's agree. -/
theorem value : @Cert.algebraic_InADwIdeal_InADwRefIdeal Cert.InADwIdeal.Gen.facts Cert.InADwRefIdeal.Gen.facts := by
  pair_intro
  · run_from Cert.InADwIdeal.Value.run_blocks m g
  · run_from Cert.InADwRefIdeal.Value.run m' g'
    rw [final m c, Cert.InADwRefIdeal.Read.val_main_v5_eq]
    exact ref _ _

end Cert.Products.InADw

end
-- ==== Proof.Products.InCDw.lean ====
/- The gradient of the weight of the dilated attention's projection: the transposed input times the gradient of the result. -/
module

public import proofs.«01_k».proof.Defs
public import proofs.«01_k».proof.Proof.Gen.InCDw.Frame
public import proofs.«01_k».proof.Proof.Gen.InCDwIdeal.Value
public import proofs.«01_k».proof.Proof.Gen.InCDwRefIdeal.Read
public import proofs.«01_k».proof.Proof.Products.Sum

@[expose] public section

set_option maxRecDepth 16384

noncomputable section

namespace Cert.Products.InCDw

open Idealize.ShloMosaic Idealize.ShloMosaic.TcCoe Idealize.SL.Sem Cert.InCDwIdeal Cert.InCDwIdeal.Gen

/-- Entry `(i, j)`: column `i` of the input against column `j` of the gradient. -/
def grad (H : Vec Ideal S8192x1024 .bf16) (G : Vec Ideal S8192x2304 .bf16) : Vec Ideal S1024x2304 .f32 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x1024 .bf16 := m ((c.tc : Thread nD τ).loc main_arg0)
/-- The gradient of the result, as the run starts. -/
abbrev argG (c : Dev nD) : Vec Ideal S8192x2304 .bf16 := m ((c.tc : Thread nD τ).loc main_arg1)

/-- The blocks' places at every grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- An input block at an index of the whole array. -/
theorem iblk0 (c : Dev nD) (t : Fin cfg0.N) (s : Fin 2048) (i : Fin 1024) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1152) :
    iblk m c 1 t (ix2 s j) = argG m c (ix2 ⟨t.val % 4 * 2048 + s.val, by omega⟩ ⟨t.val / 4 * 1152 + j.val, by have : t.val < 8 := t.isLt; omega⟩) := by
  blk_point [iblk, V, idx t]

/-- A product of two blocks at an index. -/
theorem prod_apply (X : Vec Ideal S2048x1024 .bf16) (Y : Vec Ideal S2048x1152 .bf16) (i : Fin 1024) (j : Fin 1152) :
    k0_pay1 (F := Ideal) X Y (ix2 i j) = ∑ s : Fin 2048, X (ix2 s i) * Y (ix2 s j) := tn_apply _ X Y i j

/-- One point's product of its two blocks, at an index. -/
def blkProd (c : Dev nD) (y : S1024x1152.Idx) (t : Nat) (h : t < cfg0.N) : EReal := k0_pay1 (F := Ideal) (iblk m c 0 ⟨t, h⟩) (iblk m c 1 ⟨t, h⟩) y

/-- The output block after a run's first point. -/
theorem acc_A (c : Dev nD) (y : S1024x1152.Idx) (t : Nat) (h : t < cfg0.N) (h0 : t % 4 = 0) :
    outsAt0 m c t h y = blkProd m c y t h := by
  rw [outsAt0_A m c ⟨t, h⟩ h0 (by show ¬ 1 ≤ t % 4; omega)]
  frame_out
  rfl

/-- The output block after a later point. -/
theorem acc_B (c : Dev nD) (y : S1024x1152.Idx) (t : Nat) (h : t < cfg0.N) (h0 : ¬ t % 4 = 0) :
    outsAt0 m c t h y = outsAt0 m c (t - 1) (Nat.lt_of_le_of_lt (Nat.sub_le _ _) h) y + blkProd m c y t h := by
  rw [outsAt0_B m c ⟨t, h⟩ h0 (by show 1 ≤ t % 4; omega)]
  frame_out
  exact congrArg (· + blkProd m c y t h) (shapeCast_apply _ _ y y rfl)

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  have ht : t.val < 8 := t.isLt
  blk_simp
  rw [after0_2]
  obtain ⟨i, j, rfl⟩ : ∃ (i : Fin 1024) (j : Fin 1152), y = ix2 i j := ⟨y 0, y 1, (ix2_eta y).symm⟩
  have hy : ((cfg0.win 2).blk t).view.emb (ix2 i j) = ix2 i (⟨t.val / 4 * 1152 + j.val, by omega⟩ : Fin 2304) := by
    blk_ext [idx t]
  refine Eq.trans ?_ (congrArg (grad (argH m c) (argG m c)) hy.symm)
  refine sum_blocks 4 2048 (by decide) (by decide) (fun n h => outsAt0 m c n h (ix2 i j)) (blkProd m c (ix2 i j))
    (acc_A m c _) (acc_B m c _) (fun s => argH m c (ix2 s i) * argG m c (ix2 s ⟨t.val / 4 * 1152 + j.val, by omega⟩)) t.val t.isLt h1 fun u hu hut => ?_
  refine (prod_apply _ _ i j).trans (Finset.sum_congr rfl fun s _ => ?_)
  exact congrArg₂ (· * ·) (iblk0 m c ⟨u, hu⟩ s i) ((iblk1 m c ⟨u, hu⟩ s j).trans
    (congrArg (fun C => argG m c (ix2 _ C)) (Fin.ext (by show u / 4 * 1152 + _ = _; rw [hut]))))

/-- The reference's result. -/
theorem ref (H : Vec Ideal S8192x1024 .bf16) (G : Vec Ideal S8192x2304 .bf16) :
    Cert.InCDwRefIdeal.Read.val_main_v5 (F := Ideal) H G = grad H G := by
  funext j
  refine (Cert.InCDwRefIdeal.Read.val_main_v5_apply H G j).trans ((Cert.InCDwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_InCDwRefIdeal Cert.InCDwRefIdeal.Gen.facts := fun m g _ =>
  (θ_run Cert.InCDwRefIdeal.defs _ _).mono
    (fun r h => ⟨fun c => (h c).2, sem_eq_zero_of_no_sems (by decide) r.2⟩) (Cert.InCDwRefIdeal.Value.run (F := Ideal) m g)

/-- The kernel's product and the reference's agree. -/
theorem value : @Cert.algebraic_InCDwIdeal_InCDwRefIdeal Cert.InCDwIdeal.Gen.facts Cert.InCDwRefIdeal.Gen.facts := by
  pair_intro
  · run_from Cert.InCDwIdeal.Value.run_blocks m g
  · run_from Cert.InCDwRefIdeal.Value.run m' g'
    rw [final m c, Cert.InCDwRefIdeal.Read.val_main_v5_eq]
    exact ref _ _

end Cert.Products.InCDw

end
-- ==== Proof.Products.InGDw.lean ====
/- The gradient of the weight of the gates' projection: the transposed input times the gradient of the result. -/
module

public import proofs.«01_k».proof.Defs
public import proofs.«01_k».proof.Proof.Gen.InGDw.Frame
public import proofs.«01_k».proof.Proof.Gen.InGDwIdeal.Value
public import proofs.«01_k».proof.Proof.Gen.InGDwRefIdeal.Read
public import proofs.«01_k».proof.Proof.Products.Sum

@[expose] public section

set_option maxRecDepth 16384

noncomputable section

namespace Cert.Products.InGDw

open Idealize.ShloMosaic Idealize.ShloMosaic.TcCoe Idealize.SL.Sem Cert.InGDwIdeal Cert.InGDwIdeal.Gen

/-- Entry `(i, j)`: column `i` of the input against column `j` of the gradient. -/
def grad (H : Vec Ideal S8192x1024 .bf16) (G : Vec Ideal S8192x3072 .bf16) : Vec Ideal S1024x3072 .f32 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x1024 .bf16 := m ((c.tc : Thread nD τ).loc main_arg0)
/-- The gradient of the result, as the run starts. -/
abbrev argG (c : Dev nD) : Vec Ideal S8192x3072 .bf16 := m ((c.tc : Thread nD τ).loc main_arg1)

/-- The blocks' places at every grid point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- An input block at an index of the whole array. -/
theorem iblk0 (c : Dev nD) (t : Fin cfg0.N) (s : Fin 2048) (i : Fin 1024) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1536) :
    iblk m c 1 t (ix2 s j) = argG m c (ix2 ⟨t.val % 4 * 2048 + s.val, by omega⟩ ⟨t.val / 4 * 1536 + j.val, by have : t.val < 8 := t.isLt; omega⟩) := by
  blk_point [iblk, V, idx t]

/-- A product of two blocks at an index. -/
theorem prod_apply (X : Vec Ideal S2048x1024 .bf16) (Y : Vec Ideal S2048x1536 .bf16) (i : Fin 1024) (j : Fin 1536) :
    k0_pay1 (F := Ideal) X Y (ix2 i j) = ∑ s : Fin 2048, X (ix2 s i) * Y (ix2 s j) := tn_apply _ X Y i j

/-- One point's product of its two blocks, at an index. -/
def blkProd (c : Dev nD) (y : S1024x1536.Idx) (t : Nat) (h : t < cfg0.N) : EReal := k0_pay1 (F := Ideal) (iblk m c 0 ⟨t, h⟩) (iblk m c 1 ⟨t, h⟩) y

/-- The output block after a run's first point. -/
theorem acc_A (c : Dev nD) (y : S1024x1536.Idx) (t : Nat) (h : t < cfg0.N) (h0 : t % 4 = 0) :
    outsAt0 m c t h y = blkProd m c y t h := by
  rw [outsAt0_A m c ⟨t, h⟩ h0 (by show ¬ 1 ≤ t % 4; omega)]
  frame_out
  rfl

/-- The output block after a later point. -/
theorem acc_B (c : Dev nD) (y : S1024x1536.Idx) (t : Nat) (h : t < cfg0.N) (h0 : ¬ t % 4 = 0) :
    outsAt0 m c t h y = outsAt0 m c (t - 1) (Nat.lt_of_le_of_lt (Nat.sub_le _ _) h) y + blkProd m c y t h := by
  rw [outsAt0_B m c ⟨t, h⟩ h0 (by show 1 ≤ t % 4; omega)]
  frame_out
  exact congrArg (· + blkProd m c y t h) (shapeCast_apply _ _ y y rfl)

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  have ht : t.val < 8 := t.isLt
  blk_simp
  rw [after0_2]
  obtain ⟨i, j, rfl⟩ : ∃ (i : Fin 1024) (j : Fin 1536), y = ix2 i j := ⟨y 0, y 1, (ix2_eta y).symm⟩
  have hy : ((cfg0.win 2).blk t).view.emb (ix2 i j) = ix2 i (⟨t.val / 4 * 1536 + j.val, by omega⟩ : Fin 3072) := by
    blk_ext [idx t]
  refine Eq.trans ?_ (congrArg (grad (argH m c) (argG m c)) hy.symm)
  refine sum_blocks 4 2048 (by decide) (by decide) (fun n h => outsAt0 m c n h (ix2 i j)) (blkProd m c (ix2 i j))
    (acc_A m c _) (acc_B m c _) (fun s => argH m c (ix2 s i) * argG m c (ix2 s ⟨t.val / 4 * 1536 + j.val, by omega⟩)) t.val t.isLt h1 fun u hu hut => ?_
  refine (prod_apply _ _ i j).trans (Finset.sum_congr rfl fun s _ => ?_)
  exact congrArg₂ (· * ·) (iblk0 m c ⟨u, hu⟩ s i) ((iblk1 m c ⟨u, hu⟩ s j).trans
    (congrArg (fun C => argG m c (ix2 _ C)) (Fin.ext (by show u / 4 * 1536 + _ = _; rw [hut]))))

/-- The reference's result. -/
theorem ref (H : Vec Ideal S8192x1024 .bf16) (G : Vec Ideal S8192x3072 .bf16) :
    Cert.InGDwRefIdeal.Read.val_main_v5 (F := Ideal) H G = grad H G := by
  funext j
  refine (Cert.InGDwRefIdeal.Read.val_main_v5_apply H G j).trans ((Cert.InGDwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_InGDwRefIdeal Cert.InGDwRefIdeal.Gen.facts := fun m g _ =>
  (θ_run Cert.InGDwRefIdeal.defs _ _).mono
    (fun r h => ⟨fun c => (h c).2, sem_eq_zero_of_no_sems (by decide) r.2⟩) (Cert.InGDwRefIdeal.Value.run (F := Ideal) m g)

/-- The kernel's product and the reference's agree. -/
theorem value : @Cert.algebraic_InGDwIdeal_InGDwRefIdeal Cert.InGDwIdeal.Gen.facts Cert.InGDwRefIdeal.Gen.facts := by
  pair_intro
  · run_from Cert.InGDwIdeal.Value.run_blocks m g
  · run_from Cert.InGDwRefIdeal.Value.run m' g'
    rw [final m c, Cert.InGDwRefIdeal.Read.val_main_v5_eq]
    exact ref _ _

end Cert.Products.InGDw

end
-- ==== Proof.Products.AOutDx.lean ====
/- The gradient of the input of a branch's output projection from 512 channels: the gradient of its result times the transposed weight. -/
module

public import proofs.«01_k».proof.Defs
public import proofs.«01_k».proof.Proof.Gen.AOutDx.Frame
public import proofs.«01_k».proof.Proof.Gen.AOutDxIdeal.Value
public import proofs.«01_k».proof.Proof.Gen.AOutDxRefIdeal.Read
public import proofs.«01_k».proof.Proof.Products.Sum

@[expose] public section

set_option maxRecDepth 16384

noncomputable section

namespace Cert.Products.AOutDx

open Idealize.ShloMosaic Idealize.ShloMosaic.TcCoe Idealize.SL.Sem Cert.AOutDxIdeal Cert.AOutDxIdeal.Gen

/-- Entry `(r, i)`: row `r` of the gradient against row `i` of the weight. -/
def grad (G : Vec Ideal S8192x1024 .bf16) (W : Vec Ideal S512x1024 .bf16) : Vec Ideal S8192x512 .bf16 := fun j =>
  ∑ e : Fin 1024, G (ix2 (j 0) e) * W (ix2 (j 1) e)

variable (m : (ℓ : Loc nD τ sig) → Buf (Elt Ideal) ℓ)

/-- The gradient of the result, as the run starts. -/
abbrev argG (c : Dev nD) : Vec Ideal S8192x1024 .bf16 := m ((c.tc : Thread nD τ).loc main_arg0)
/-- The weight, as the run starts. -/
abbrev argW (c : Dev nD) : Vec Ideal S512x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- A gradient block at an index of the whole array. -/
theorem iblk0 (c : Dev nD) (t : Fin cfg0.N) (r : Fin 1024) (e : Fin 1024) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 1024) (i : Fin 512) :
    iblk m c 1 t (ix2 e i) = argW m c (ix2 i e) := by
  blk_point [iblk, V, idx t]

/-- The result array after the run. -/
theorem final (c : Dev nD) : (dats m 0 c).arrAt 2 cfg0.N = grad (argG m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 512), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (grad (argG m c) (argW m c)) hy.symm)
  frame_out
  refine (nn_apply _ _ _ r i).trans (Finset.sum_congr rfl fun e _ => ?_)
  rw [iblk0 m c t r e]
  exact congrArg (_ * ·) ((shapeCast_apply _ _ _ (ix2 e i) rfl).trans (iblk1 m c t e i))

/-- The reference's result. -/
theorem ref (G : Vec Ideal S8192x1024 .bf16) (W : Vec Ideal S512x1024 .bf16) :
    Cert.AOutDxRefIdeal.Read.val_main_v5 (F := Ideal) G W = grad G W := by
  funext j
  refine (Cert.AOutDxRefIdeal.Read.val_main_v4_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_AOutDxRefIdeal Cert.AOutDxRefIdeal.Gen.facts := fun m g _ =>
  (θ_run Cert.AOutDxRefIdeal.defs _ _).mono
    (fun r h => ⟨fun c => (h c).2, sem_eq_zero_of_no_sems (by decide) r.2⟩) (Cert.AOutDxRefIdeal.Value.run (F := Ideal) m g)

/-- The kernel's product and the reference's agree. -/
theorem value : @Cert.algebraic_AOutDxIdeal_AOutDxRefIdeal Cert.AOutDxIdeal.Gen.facts Cert.AOutDxRefIdeal.Gen.facts := by
  pair_intro
  · run_from Cert.AOutDxIdeal.Value.run_blocks m g
  · run_from Cert.AOutDxRefIdeal.Value.run m' g'
    rw [final m c, Cert.AOutDxRefIdeal.Read.val_main_v5_eq]
    exact ref _ _

end Cert.Products.AOutDx

end
-- ==== Proof.Products.AOutDw.lean ====
/- The gradient of the weight of a branch's output projection from 512 channels: the transposed input times the gradient of the result. -/
module

public import proofs.«01_k».proof.Defs
public import proofs.«01_k».proof.Proof.Gen.AOutDw.Frame
public import proofs.«01_k».proof.Proof.Gen.AOutDwIdeal.Value
public import proofs.«01_k».proof.Proof.Gen.AOutDwRefIdeal.Read
public import proofs.«01_k».proof.Proof.Products.Sum

@[expose] public section

set_option maxRecDepth 16384

noncomputable section

namespace Cert.Products.AOutDw

open Idealize.ShloMosaic Idealize.ShloMosaic.TcCoe Idealize.SL.Sem Cert.AOutDwIdeal Cert.AOutDwIdeal.Gen

/-- Entry `(i, j)`: column `i` of the input against column `j` of the gradient. -/
def grad (H : Vec Ideal S8192x512 .bf16) (G : Vec Ideal S8192x1024 .bf16) : Vec Ideal S512x1024 .f32 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x512 .bf16 := m ((c.tc : Thread nD τ).loc main_arg0)
/-- The gradient of the result, as the run starts. -/
abbrev argG (c : Dev nD) : Vec Ideal S8192x1024 .bf16 := m ((c.tc : Thread nD τ).loc main_arg1)

/-- The blocks' places at every grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- An input block at an index of the whole array. -/
theorem iblk0 (c : Dev nD) (t : Fin cfg0.N) (s : Fin 2048) (i : Fin 512) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1024) :
    iblk m c 1 t (ix2 s j) = argG m c (ix2 ⟨t.val % 4 * 2048 + s.val, by omega⟩ j) := by
  blk_point [iblk, V, idx t]

/-- A product of two blocks at an index. -/
theorem prod_apply (X : Vec Ideal S2048x512 .bf16) (Y : Vec Ideal S2048x1024 .bf16) (i : Fin 512) (j : Fin 1024) :
    k0_pay1 (F := Ideal) X Y (ix2 i j) = ∑ s : Fin 2048, X (ix2 s i) * Y (ix2 s j) := tn_apply _ X Y i j

/-- One point's product of its two blocks, at an index. -/
def blkProd (c : Dev nD) (y : S512x1024.Idx) (t : Nat) (h : t < cfg0.N) : EReal := k0_pay1 (F := Ideal) (iblk m c 0 ⟨t, h⟩) (iblk m c 1 ⟨t, h⟩) y

/-- The output block after a run's first point. -/
theorem acc_A (c : Dev nD) (y : S512x1024.Idx) (t : Nat) (h : t < cfg0.N) (h0 : t % 4 = 0) :
    outsAt0 m c t h y = blkProd m c y t h := by
  rw [outsAt0_A m c ⟨t, h⟩ h0 (by show ¬ 1 ≤ t; have : t < 4 := h; omega)]
  frame_out
  rfl

/-- The output block after a later point. -/
theorem acc_B (c : Dev nD) (y : S512x1024.Idx) (t : Nat) (h : t < cfg0.N) (h0 : ¬ t % 4 = 0) :
    outsAt0 m c t h y = outsAt0 m c (t - 1) (Nat.lt_of_le_of_lt (Nat.sub_le _ _) h) y + blkProd m c y t h := by
  rw [outsAt0_B m c ⟨t, h⟩ h0 (by show 1 ≤ t; omega)]
  frame_out
  exact congrArg (· + blkProd m c y t h) (shapeCast_apply _ _ y y rfl)

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  blk_simp
  rw [after0_2]
  obtain ⟨i, j, rfl⟩ : ∃ (i : Fin 512) (j : Fin 1024), y = ix2 i j := ⟨y 0, y 1, (ix2_eta y).symm⟩
  have hy : ((cfg0.win 2).blk t).view.emb (ix2 i j) = ix2 i j := by
    blk_ext [idx t]
  refine Eq.trans ?_ (congrArg (grad (argH m c) (argG m c)) hy.symm)
  refine sum_blocks 4 2048 (by decide) (by decide) (fun n h => outsAt0 m c n h (ix2 i j)) (blkProd m c (ix2 i j))
    (acc_A m c _) (acc_B m c _) (fun s => argH m c (ix2 s i) * argG m c (ix2 s j)) t.val t.isLt h1 fun u hu _ => ?_
  refine (prod_apply _ _ i j).trans (Finset.sum_congr rfl fun s _ => ?_)
  exact congrArg₂ (· * ·) (iblk0 m c ⟨u, hu⟩ s i) (iblk1 m c ⟨u, hu⟩ s j)

/-- The reference's result. -/
theorem ref (H : Vec Ideal S8192x512 .bf16) (G : Vec Ideal S8192x1024 .bf16) :
    Cert.AOutDwRefIdeal.Read.val_main_v5 (F := Ideal) H G = grad H G := by
  funext j
  refine (Cert.AOutDwRefIdeal.Read.val_main_v5_apply H G j).trans ((Cert.AOutDwRefIdeal.Read.val_main_v4_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_AOutDwRefIdeal Cert.AOutDwRefIdeal.Gen.facts := fun m g _ =>
  (θ_run Cert.AOutDwRefIdeal.defs _ _).mono
    (fun r h => ⟨fun c => (h c).2, sem_eq_zero_of_no_sems (by decide) r.2⟩) (Cert.AOutDwRefIdeal.Value.run (F := Ideal) m g)

/-- The kernel's product and the reference's agree. -/
theorem value : @Cert.algebraic_AOutDwIdeal_AOutDwRefIdeal Cert.AOutDwIdeal.Gen.facts Cert.AOutDwRefIdeal.Gen.facts := by
  pair_intro
  · run_from Cert.AOutDwIdeal.Value.run_blocks m g
  · run_from Cert.AOutDwRefIdeal.Value.run m' g'
    rw [final m c, Cert.AOutDwRefIdeal.Read.val_main_v5_eq]
    exact ref _ _

end Cert.Products.AOutDw

end
-- ==== Proof.Products.COutDx.lean ====
/- The gradient of the input of the dilated attention's output projection: the gradient of its result times the transposed weight. -/
module

public import proofs.«01_k».proof.Defs
public import proofs.«01_k».proof.Proof.Gen.COutDx.Frame
public import proofs.«01_k».proof.Proof.Gen.COutDxIdeal.Value
public import proofs.«01_k».proof.Proof.Gen.COutDxRefIdeal.Read
public import proofs.«01_k».proof.Proof.Products.Sum

@[expose] public section

set_option maxRecDepth 16384

noncomputable section

namespace Cert.Products.COutDx

open Idealize.ShloMosaic Idealize.ShloMosaic.TcCoe Idealize.SL.Sem Cert.COutDxIdeal Cert.COutDxIdeal.Gen

/-- Entry `(r, i)`: row `r` of the gradient against row `i` of the weight. -/
def grad (G : Vec Ideal S8192x1024 .bf16) (W : Vec Ideal S256x1024 .bf16) : Vec Ideal S8192x256 .bf16 := fun j =>
  ∑ e : Fin 1024, G (ix2 (j 0) e) * W (ix2 (j 1) e)

variable (m : (ℓ : Loc nD τ sig) → Buf (Elt Ideal) ℓ)

/-- The gradient of the result, as the run starts. -/
abbrev argG (c : Dev nD) : Vec Ideal S8192x1024 .bf16 := m ((c.tc : Thread nD τ).loc main_arg0)
/-- The weight, as the run starts. -/
abbrev argW (c : Dev nD) : Vec Ideal S256x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- A gradient block at an index of the whole array. -/
theorem iblk0 (c : Dev nD) (t : Fin cfg0.N) (r : Fin 1024) (e : Fin 1024) :
    iblk m c 0 t (ix2 r e) = argG m c (ix2 ⟨t.val * 1024 + r.val, by have : t.val < 8 := t.isLt; omega⟩ e) := by
  blk_point [iblk, idx t]

/-- The transposed weight at an index of the weight. -/
theorem iblk1 (c : Dev nD) (t : Fin cfg0.N) (e : Fin 1024) (i : Fin 256) :
    iblk m c 1 t (ix2 e i) = argW m c (ix2 i e) := by
  blk_point [iblk, V, idx t]

/-- The result array after the run. -/
theorem final (c : Dev nD) : (dats m 0 c).arrAt 2 cfg0.N = grad (argG m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 256), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (grad (argG m c) (argW m c)) hy.symm)
  frame_out
  refine (nn_apply _ _ _ r i).trans (Finset.sum_congr rfl fun e _ => ?_)
  rw [iblk0 m c t r e]
  exact congrArg (_ * ·) ((shapeCast_apply _ _ _ (ix2 e i) rfl).trans (iblk1 m c t e i))

/-- The reference's result. -/
theorem ref (G : Vec Ideal S8192x1024 .bf16) (W : Vec Ideal S256x1024 .bf16) :
    Cert.COutDxRefIdeal.Read.val_main_v5 (F := Ideal) G W = grad G W := by
  funext j
  refine (Cert.COutDxRefIdeal.Read.val_main_v4_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_COutDxRefIdeal Cert.COutDxRefIdeal.Gen.facts := fun m g _ =>
  (θ_run Cert.COutDxRefIdeal.defs _ _).mono
    (fun r h => ⟨fun c => (h c).2, sem_eq_zero_of_no_sems (by decide) r.2⟩) (Cert.COutDxRefIdeal.Value.run (F := Ideal) m g)

/-- The kernel's product and the reference's agree. -/
theorem value : @Cert.algebraic_COutDxIdeal_COutDxRefIdeal Cert.COutDxIdeal.Gen.facts Cert.COutDxRefIdeal.Gen.facts := by
  pair_intro
  · run_from Cert.COutDxIdeal.Value.run_blocks m g
  · run_from Cert.COutDxRefIdeal.Value.run m' g'
    rw [final m c, Cert.COutDxRefIdeal.Read.val_main_v5_eq]
    exact ref _ _

end Cert.Products.COutDx

end
-- ==== Proof.Products.COutDw.lean ====
/- The gradient of the weight of the dilated attention's output projection: the transposed input times the gradient of the result. -/
module

public import proofs.«01_k».proof.Defs
public import proofs.«01_k».proof.Proof.Gen.COutDw.Frame
public import proofs.«01_k».proof.Proof.Gen.COutDwIdeal.Value
public import proofs.«01_k».proof.Proof.Gen.COutDwRefIdeal.Read
public import proofs.«01_k».proof.Proof.Products.Sum

@[expose] public section

set_option maxRecDepth 16384

noncomputable section

namespace Cert.Products.COutDw

open Idealize.ShloMosaic Idealize.ShloMosaic.TcCoe Idealize.SL.Sem Cert.COutDwIdeal Cert.COutDwIdeal.Gen

/-- Entry `(i, j)`: column `i` of the input against column `j` of the gradient. -/
def grad (H : Vec Ideal S8192x256 .f32) (G : Vec Ideal S8192x1024 .bf16) : Vec Ideal S256x1024 .f32 := fun j =>
  ∑ s : Fin 8192, H (ix2 s (j 0)) * G (ix2 s (j 1))

variable (m : (ℓ : Loc nD τ sig) → Buf (Elt Ideal) ℓ)

/-- The input, as the run starts. -/
abbrev argH (c : Dev nD) : Vec Ideal S8192x256 .f32 := m ((c.tc : Thread nD τ).loc main_arg0)
/-- The gradient of the result, as the run starts. -/
abbrev argG (c : Dev nD) : Vec Ideal S8192x1024 .bf16 := m ((c.tc : Thread nD τ).loc main_arg1)

/-- The blocks' places at every grid point. -/
theorem idx : ∀ t : Fin cfg0.N, win0_0.index t = ![t.val % 4, 0] ∧ win0_1.index t = ![t.val % 4, 0] ∧ win0_2.index t = ![0, 0] :=
  (by decide +kernel : ∀ t : Fin grid0.N, _)

/-- An input block at an index of the whole array. -/
theorem iblk0 (c : Dev nD) (t : Fin cfg0.N) (s : Fin 2048) (i : Fin 256) :
    iblk m c 0 t (ix2 s i) = argH m c (ix2 ⟨t.val % 4 * 2048 + s.val, by omega⟩ i) := by
  blk_point [iblk, V, idx t]

/-- A gradient block at an index of the whole array. -/
theorem iblk1 (c : Dev nD) (t : Fin cfg0.N) (s : Fin 2048) (j : Fin 1024) :
    iblk m c 1 t (ix2 s j) = argG m c (ix2 ⟨t.val % 4 * 2048 + s.val, by omega⟩ j) := by
  blk_point [iblk, V, idx t]

/-- A product of two blocks at an index. -/
theorem prod_apply (X : Vec Ideal S2048x256 .f32) (Y : Vec Ideal S2048x1024 .bf16) (i : Fin 256) (j : Fin 1024) :
    k0_pay1 (F := Ideal) X Y (ix2 i j) = ∑ s : Fin 2048, X (ix2 s i) * Y (ix2 s j) := tn_apply _ X Y i j

/-- One point's product of its two blocks, at an index. -/
def blkProd (c : Dev nD) (y : S256x1024.Idx) (t : Nat) (h : t < cfg0.N) : EReal := k0_pay1 (F := Ideal) (iblk m c 0 ⟨t, h⟩) (iblk m c 1 ⟨t, h⟩) y

/-- The output block after a run's first point. -/
theorem acc_A (c : Dev nD) (y : S256x1024.Idx) (t : Nat) (h : t < cfg0.N) (h0 : t % 4 = 0) :
    outsAt0 m c t h y = blkProd m c y t h := by
  rw [outsAt0_A m c ⟨t, h⟩ h0 (by show ¬ 1 ≤ t; have : t < 4 := h; omega)]
  frame_out
  rfl

/-- The output block after a later point. -/
theorem acc_B (c : Dev nD) (y : S256x1024.Idx) (t : Nat) (h : t < cfg0.N) (h0 : ¬ t % 4 = 0) :
    outsAt0 m c t h y = outsAt0 m c (t - 1) (Nat.lt_of_le_of_lt (Nat.sub_le _ _) h) y + blkProd m c y t h := by
  rw [outsAt0_B m c ⟨t, h⟩ h0 (by show 1 ≤ t; omega)]
  frame_out
  exact congrArg (· + blkProd m c y t h) (shapeCast_apply _ _ y y rfl)

/-- The result array after the run. -/
theorem final (c : Dev nD) : (dats m 0 c).arrAt 2 cfg0.N = grad (argH m c) (argG m c) := by
  refine (dats m 0 c).arrAt_eq_of_covers 2 _ (by decide +kernel) fun t hf y => ?_
  have h1 : t.val % 4 = 3 := (flush0_2 t).mp hf
  blk_simp
  rw [after0_2]
  obtain ⟨i, j, rfl⟩ : ∃ (i : Fin 256) (j : Fin 1024), y = ix2 i j := ⟨y 0, y 1, (ix2_eta y).symm⟩
  have hy : ((cfg0.win 2).blk t).view.emb (ix2 i j) = ix2 i j := by
    blk_ext [idx t]
  refine Eq.trans ?_ (congrArg (grad (argH m c) (argG m c)) hy.symm)
  refine sum_blocks 4 2048 (by decide) (by decide) (fun n h => outsAt0 m c n h (ix2 i j)) (blkProd m c (ix2 i j))
    (acc_A m c _) (acc_B m c _) (fun s => argH m c (ix2 s i) * argG m c (ix2 s j)) t.val t.isLt h1 fun u hu _ => ?_
  refine (prod_apply _ _ i j).trans (Finset.sum_congr rfl fun s _ => ?_)
  exact congrArg₂ (· * ·) (iblk0 m c ⟨u, hu⟩ s i) (iblk1 m c ⟨u, hu⟩ s j)

/-- The reference's result. -/
theorem ref (H : Vec Ideal S8192x256 .f32) (G : Vec Ideal S8192x1024 .bf16) :
    Cert.COutDwRefIdeal.Read.val_main_v4 (F := Ideal) H G = grad H G := by
  funext j
  refine (Cert.COutDwRefIdeal.Read.val_main_v4_apply H G j).trans ((Cert.COutDwRefIdeal.Read.val_main_v3_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_COutDwRefIdeal Cert.COutDwRefIdeal.Gen.facts := fun m g _ =>
  (θ_run Cert.COutDwRefIdeal.defs _ _).mono
    (fun r h => ⟨fun c => (h c).2, sem_eq_zero_of_no_sems (by decide) r.2⟩) (Cert.COutDwRefIdeal.Value.run (F := Ideal) m g)

/-- The kernel's product and the reference's agree. -/
theorem value : @Cert.algebraic_COutDwIdeal_COutDwRefIdeal Cert.COutDwIdeal.Gen.facts Cert.COutDwRefIdeal.Gen.facts := by
  pair_intro
  · run_from Cert.COutDwIdeal.Value.run_blocks m g
  · run_from Cert.COutDwRefIdeal.Value.run m' g'
    rw [final m c, Cert.COutDwRefIdeal.Read.val_main_v4_eq]
    exact ref _ _

end Cert.Products.COutDw

end
-- ==== Proof.Products.XkvDx.lean ====
/- The gradient of the memory from its key and value projection: the gradient of the projection times the transposed weight. -/
module

public import proofs.«01_k».proof.Defs
public import proofs.«01_k».proof.Proof.Gen.XkvDx.Frame
public import proofs.«01_k».proof.Proof.Gen.XkvDxIdeal.Value
public import proofs.«01_k».proof.Proof.Gen.XkvDxRefIdeal.Read
public import proofs.«01_k».proof.Proof.Products.Sum

@[expose] public section

set_option maxRecDepth 16384

noncomputable section

namespace Cert.Products.XkvDx

open Idealize.ShloMosaic Idealize.ShloMosaic.TcCoe Idealize.SL.Sem Cert.XkvDxIdeal Cert.XkvDxIdeal.Gen

/-- Entry `(r, i)`: row `r` of the gradient against row `i` of the weight. -/
def grad (G : Vec Ideal S1024x2048 .f32) (W : Vec Ideal S1024x2048 .bf16) : Vec Ideal S1024x1024 .f32 := fun j =>
  ∑ e : Fin 2048, G (ix2 (j 0) e) * W (ix2 (j 1) e)

variable (m : (ℓ : Loc nD τ sig) → Buf (Elt Ideal) ℓ)

/-- The gradient of the result, as the run starts. -/
abbrev argG (c : Dev nD) : Vec Ideal S1024x2048 .f32 := m ((c.tc : Thread nD τ).loc main_arg0)
/-- The weight, as the run starts. -/
abbrev argW (c : Dev nD) : Vec Ideal S1024x2048 .bf16 := m ((c.tc : Thread nD τ).loc main_arg1)

/-- The blocks' places at every grid point. -/
theorem idx : ∀ t : Fin cfg0.N, win0_0.index t = ![0, 0] ∧ win0_1.index t = ![0, 0] ∧ win0_2.index t = ![0, 0] :=
  (by decide +kernel : ∀ t : Fin grid0.N, _)

/-- A gradient block at an index of the whole array. -/
theorem iblk0 (c : Dev nD) (t : Fin cfg0.N) (r : Fin 1024) (e : Fin 2048) :
    iblk m c 0 t (ix2 r e) = argG m c (ix2 r e) := by
  blk_point [iblk, idx t]

/-- The transposed weight at an index of the weight. -/
theorem iblk1 (c : Dev nD) (t : Fin cfg0.N) (e : Fin 2048) (i : Fin 1024) :
    iblk m c 1 t (ix2 e i) = argW m c (ix2 i e) := by
  blk_point [iblk, V, idx t]

/-- The result array after the run. -/
theorem final (c : Dev nD) : (dats m 0 c).arrAt 2 cfg0.N = grad (argG m c) (argW m c) := by
  refine (dats m 0 c).arrAt_eq_of_covers 2 _ (by decide +kernel) fun t hf y => ?_
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 r i := by
    blk_ext [idx t]
  refine Eq.trans ?_ (congrArg (grad (argG m c) (argW m c)) hy.symm)
  frame_out
  refine (nn_apply _ _ _ r i).trans (Finset.sum_congr rfl fun e _ => ?_)
  exact congrArg₂ (· * ·) (iblk0 m c t r e) ((shapeCast_apply _ _ _ (ix2 e i) rfl).trans (iblk1 m c t e i))

/-- The reference's result. -/
theorem ref (G : Vec Ideal S1024x2048 .f32) (W : Vec Ideal S1024x2048 .bf16) :
    Cert.XkvDxRefIdeal.Read.val_main_v3 (F := Ideal) G W = grad G W := by
  funext j
  refine (Cert.XkvDxRefIdeal.Read.val_main_v3_apply G W j).trans (Finset.sum_congr rfl fun e _ => ?_)
  refine congrArg₂ (· * ·) (congrArg G (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_XkvDxRefIdeal Cert.XkvDxRefIdeal.Gen.facts := fun m g _ =>
  (θ_run Cert.XkvDxRefIdeal.defs _ _).mono
    (fun r h => ⟨fun c => (h c).2, sem_eq_zero_of_no_sems (by decide) r.2⟩) (Cert.XkvDxRefIdeal.Value.run (F := Ideal) m g)

/-- The kernel's product and the reference's agree. -/
theorem value : @Cert.algebraic_XkvDxIdeal_XkvDxRefIdeal Cert.XkvDxIdeal.Gen.facts Cert.XkvDxRefIdeal.Gen.facts := by
  pair_intro
  · run_from Cert.XkvDxIdeal.Value.run_blocks m g
  · run_from Cert.XkvDxRefIdeal.Value.run m' g'
    rw [final m c]
    exact ref (argG m c) (argW m c)

end Cert.Products.XkvDx

end
-- ==== Proof.Products.XkvDw.lean ====
/- The gradient of the weight of the memory's key and value projection: the transposed input times the gradient of the result. -/
module

public import proofs.«01_k».proof.Defs
public import proofs.«01_k».proof.Proof.Gen.XkvDw.Frame
public import proofs.«01_k».proof.Proof.Gen.XkvDwIdeal.Value
public import proofs.«01_k».proof.Proof.Gen.XkvDwRefIdeal.Read
public import proofs.«01_k».proof.Proof.Products.Sum

@[expose] public section

set_option maxRecDepth 16384

noncomputable section

namespace Cert.Products.XkvDw

open Idealize.ShloMosaic Idealize.ShloMosaic.TcCoe Idealize.SL.Sem Cert.XkvDwIdeal Cert.XkvDwIdeal.Gen

/-- Entry `(i, j)`: column `i` of the input against column `j` of the gradient. -/
def grad (H : Vec Ideal S1024x1024 .bf16) (G : Vec Ideal S1024x2048 .f32) : Vec Ideal S1024x2048 .f32 := fun j =>
  ∑ s : Fin 1024, H (ix2 s (j 0)) * G (ix2 s (j 1))

variable (m : (ℓ : Loc nD τ sig) → Buf (Elt Ideal) ℓ)

/-- The input, as the run starts. -/
abbrev argH (c : Dev nD) : Vec Ideal S1024x1024 .bf16 := m ((c.tc : Thread nD τ).loc main_arg0)
/-- The gradient of the result, as the run starts. -/
abbrev argG (c : Dev nD) : Vec Ideal S1024x2048 .f32 := m ((c.tc : Thread nD τ).loc main_arg1)

/-- The blocks' places at every grid point. -/
theorem idx : ∀ t : Fin cfg0.N, win0_0.index t = ![0, 0] ∧ win0_1.index t = ![0, 0] ∧ win0_2.index t = ![0, 0] :=
  (by decide +kernel : ∀ t : Fin grid0.N, _)

/-- An input block at an index of the whole array. -/
theorem iblk0 (c : Dev nD) (t : Fin cfg0.N) (s : Fin 1024) (i : Fin 1024) :
    iblk m c 0 t (ix2 s i) = argH m c (ix2 s i) := by
  blk_point [iblk, V, idx t]

/-- A gradient block at an index of the whole array. -/
theorem iblk1 (c : Dev nD) (t : Fin cfg0.N) (s : Fin 1024) (j : Fin 2048) :
    iblk m c 1 t (ix2 s j) = argG m c (ix2 s j) := by
  blk_point [iblk, V, idx t]

/-- A product of two blocks at an index. -/
theorem prod_apply (X : Vec Ideal S1024x1024 .bf16) (Y : Vec Ideal S1024x2048 .f32) (i : Fin 1024) (j : Fin 2048) :
    k0_pay1 (F := Ideal) X Y (ix2 i j) = ∑ s : Fin 1024, X (ix2 s i) * Y (ix2 s j) := tn_apply _ X Y i j

/-- The result array after the run. -/
theorem final (c : Dev nD) : (dats m 0 c).arrAt 2 cfg0.N = grad (argH m c) (argG m c) := by
  refine (dats m 0 c).arrAt_eq_of_covers 2 _ (by decide +kernel) fun t hf y => ?_
  blk_simp
  rw [after0_2]
  obtain ⟨i, j, rfl⟩ : ∃ (i : Fin 1024) (j : Fin 2048), y = ix2 i j := ⟨y 0, y 1, (ix2_eta y).symm⟩
  have hy : ((cfg0.win 2).blk t).view.emb (ix2 i j) = ix2 i j := by
    blk_ext [idx t]
  refine Eq.trans ?_ (congrArg (grad (argH m c) (argG m c)) hy.symm)
  unfold outsAt0
  frame_out
  refine (prod_apply _ _ i j).trans (Finset.sum_congr rfl fun s _ => ?_)
  exact congrArg₂ (· * ·) (iblk0 m c t s i) (iblk1 m c t s j)

/-- The reference's result. -/
theorem ref (H : Vec Ideal S1024x1024 .bf16) (G : Vec Ideal S1024x2048 .f32) :
    Cert.XkvDwRefIdeal.Read.val_main_v4 (F := Ideal) H G = grad H G := by
  funext j
  refine (Cert.XkvDwRefIdeal.Read.val_main_v4_apply H G j).trans ((Cert.XkvDwRefIdeal.Read.val_main_v3_apply H G _).trans (Finset.sum_congr rfl fun s _ => ?_))
  refine (mul_comm _ _).trans (congrArg₂ (· * ·) (congrArg H (funext fun a => ?_)) (congrArg G (funext fun a => ?_))) <;>
    match a with
    | ⟨0, _⟩ => rfl
    | ⟨1, _⟩ => rfl

/-- The reference runs to its end and leaves its arguments and the counters as they were; it declares no semaphore. -/
theorem frame_ref : @Cert.quiescent_XkvDwRefIdeal Cert.XkvDwRefIdeal.Gen.facts := fun m g _ =>
  (θ_run Cert.XkvDwRefIdeal.defs _ _).mono
    (fun r h => ⟨fun c => (h c).2, sem_eq_zero_of_no_sems (by decide) r.2⟩) (Cert.XkvDwRefIdeal.Value.run (F := Ideal) m g)

/-- The kernel's product and the reference's agree. -/
theorem value : @Cert.algebraic_XkvDwIdeal_XkvDwRefIdeal Cert.XkvDwIdeal.Gen.facts Cert.XkvDwRefIdeal.Gen.facts := by
  pair_intro
  · run_from Cert.XkvDwIdeal.Value.run_blocks m g
  · run_from Cert.XkvDwRefIdeal.Value.run m' g'
    rw [final m c, Cert.XkvDwRefIdeal.Read.val_main_v4_eq]
    exact ref _ _

end Cert.Products.XkvDw

end
-- ==== Proof.Products.SquareFwd.lean ====
/- A square product of the forward pass: the input times the weight. -/
module

public import proofs.«01_k».proof.Defs
public import proofs.«01_k».proof.Proof.Gen.SquareFwd.Frame
public import proofs.«01_k».proof.Proof.Gen.SquareFwdIdeal.Value
public import proofs.«01_k».proof.Proof.Gen.SquareFwdRefIdeal.Read
public import proofs.«01_k».proof.Proof.Products.Sum

@[expose] public section

set_option maxRecDepth 16384

noncomputable section

namespace Cert.Products.SquareFwd

open Idealize.ShloMosaic Idealize.ShloMosaic.TcCoe Idealize.SL.Sem Cert.SquareFwdIdeal Cert.SquareFwdIdeal.Gen

/-- Entry `(r, i)`: row `r` of the input against column `i` of the weight. -/
def prod (H : Vec Ideal S8192x1024 .bf16) (W : Vec Ideal S1024x1024 .bf16) : Vec Ideal S8192x1024 .bf16 := fun j =>
  ∑ e : Fin 1024, H (ix2 (j 0) e) * W (ix2 e (j 1))

/-- An entry of the product. -/
theorem prod_apply (H : Vec Ideal S8192x1024 .bf16) (W : Vec Ideal S1024x1024 .bf16) (r : Fin 8192) (i : Fin 1024) :
    prod H W (ix2 r i) = ∑ e : Fin 1024, H (ix2 r e) * W (ix2 e i) := rfl

variable (m : (ℓ : Loc nD τ sig) → Buf (Elt Ideal) ℓ)

/-- The input, as the run starts. -/
abbrev argH (c : Dev nD) : Vec Ideal S8192x1024 .bf16 := m ((c.tc : Thread nD τ).loc main_arg0)
/-- The weight, as the run starts. -/
abbrev argW (c : Dev nD) : Vec Ideal S1024x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- An input block at an index of the whole array. -/
theorem iblk0 (c : Dev nD) (t : Fin cfg0.N) (r : Fin 1024) (e : Fin 1024) :
    iblk m c 0 t (ix2 r e) = argH m c (ix2 ⟨t.val * 1024 + r.val, by have : t.val < 8 := t.isLt; omega⟩ e) := by
  blk_point [iblk, idx t]

/-- A block of the weight at an index of the whole array. -/
theorem iblk1 (c : Dev nD) (t : Fin cfg0.N) (e : Fin 1024) (i : Fin 1024) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x1024 .bf16) (W : Vec Ideal S1024x1024 .bf16) :
    Cert.SquareFwdRefIdeal.Read.val_main_v3 (F := Ideal) H W = prod H W := by
  funext j
  refine (Cert.SquareFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_SquareFwdRefIdeal Cert.SquareFwdRefIdeal.Gen.facts := fun m g _ =>
  (θ_run Cert.SquareFwdRefIdeal.defs _ _).mono
    (fun r h => ⟨fun c => (h c).2, sem_eq_zero_of_no_sems (by decide) r.2⟩) (Cert.SquareFwdRefIdeal.Value.run (F := Ideal) m g)

/-- The kernel's product and the reference's agree. -/
theorem value : @Cert.algebraic_SquareFwdIdeal_SquareFwdRefIdeal Cert.SquareFwdIdeal.Gen.facts Cert.SquareFwdRefIdeal.Gen.facts := by
  pair_intro
  · run_from Cert.SquareFwdIdeal.Value.run_blocks m g
  · run_from Cert.SquareFwdRefIdeal.Value.run m' g'
    rw [final m c, Cert.SquareFwdRefIdeal.Read.val_main_v3_eq]
    exact ref _ _

end Cert.Products.SquareFwd

end
-- ==== Proof.Products.InCFwd.lean ====
/- The projection for the dilated attention: the input times the weight. -/
module

public import proofs.«01_k».proof.Defs
public import proofs.«01_k».proof.Proof.Gen.InCFwd.Frame
public import proofs.«01_k».proof.Proof.Gen.InCFwdIdeal.Value
public import proofs.«01_k».proof.Proof.Gen.InCFwdRefIdeal.Read
public import proofs.«01_k».proof.Proof.Products.Sum

@[expose] public section

set_option maxRecDepth 16384

noncomputable section

namespace Cert.Products.InCFwd

open Idealize.ShloMosaic Idealize.ShloMosaic.TcCoe Idealize.SL.Sem Cert.InCFwdIdeal Cert.InCFwdIdeal.Gen

/-- Entry `(r, i)`: row `r` of the input against column `i` of the weight. -/
def prod (H : Vec Ideal S8192x1024 .bf16) (W : Vec Ideal S1024x2304 .bf16) : Vec Ideal S8192x2304 .bf16 := fun j =>
  ∑ e : Fin 1024, H (ix2 (j 0) e) * W (ix2 e (j 1))

/-- An entry of the product. -/
theorem prod_apply (H : Vec Ideal S8192x1024 .bf16) (W : Vec Ideal S1024x2304 .bf16) (r : Fin 8192) (i : Fin 2304) :
    prod H W (ix2 r i) = ∑ e : Fin 1024, H (ix2 r e) * W (ix2 e i) := rfl

variable (m : (ℓ : Loc nD τ sig) → Buf (Elt Ideal) ℓ)

/-- The input, as the run starts. -/
abbrev argH (c : Dev nD) : Vec Ideal S8192x1024 .bf16 := m ((c.tc : Thread nD τ).loc main_arg0)
/-- The weight, as the run starts. -/
abbrev argW (c : Dev nD) : Vec Ideal S1024x2304 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- An input block at an index of the whole array. -/
theorem iblk0 (c : Dev nD) (t : Fin cfg0.N) (r : Fin 1024) (e : Fin 1024) :
    iblk m c 0 t (ix2 r e) = argH m c (ix2 ⟨t.val * 1024 + r.val, by have : t.val < 8 := t.isLt; omega⟩ e) := by
  blk_point [iblk, idx t]

/-- A block of the weight at an index of the whole array. -/
theorem iblk1 (c : Dev nD) (t : Fin cfg0.N) (e : Fin 1024) (i : Fin 2304) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 2304), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x1024 .bf16) (W : Vec Ideal S1024x2304 .bf16) :
    Cert.InCFwdRefIdeal.Read.val_main_v3 (F := Ideal) H W = prod H W := by
  funext j
  refine (Cert.InCFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_InCFwdRefIdeal Cert.InCFwdRefIdeal.Gen.facts := fun m g _ =>
  (θ_run Cert.InCFwdRefIdeal.defs _ _).mono
    (fun r h => ⟨fun c => (h c).2, sem_eq_zero_of_no_sems (by decide) r.2⟩) (Cert.InCFwdRefIdeal.Value.run (F := Ideal) m g)

/-- The kernel's product and the reference's agree. -/
theorem value : @Cert.algebraic_InCFwdIdeal_InCFwdRefIdeal Cert.InCFwdIdeal.Gen.facts Cert.InCFwdRefIdeal.Gen.facts := by
  pair_intro
  · run_from Cert.InCFwdIdeal.Value.run_blocks m g
  · run_from Cert.InCFwdRefIdeal.Value.run m' g'
    rw [final m c, Cert.InCFwdRefIdeal.Read.val_main_v3_eq]
    exact ref _ _

end Cert.Products.InCFwd

end
-- ==== Proof.Products.InGFwd.lean ====
/- The projection for the gates: the input times the weight. -/
module

public import proofs.«01_k».proof.Defs
public import proofs.«01_k».proof.Proof.Gen.InGFwd.Frame
public import proofs.«01_k».proof.Proof.Gen.InGFwdIdeal.Value
public import proofs.«01_k».proof.Proof.Gen.InGFwdRefIdeal.Read
public import proofs.«01_k».proof.Proof.Products.Sum

@[expose] public section

set_option maxRecDepth 16384

noncomputable section

namespace Cert.Products.InGFwd

open Idealize.ShloMosaic Idealize.ShloMosaic.TcCoe Idealize.SL.Sem Cert.InGFwdIdeal Cert.InGFwdIdeal.Gen

/-- Entry `(r, i)`: row `r` of the input against column `i` of the weight. -/
def prod (H : Vec Ideal S8192x1024 .bf16) (W : Vec Ideal S1024x3072 .bf16) : Vec Ideal S8192x3072 .bf16 := fun j =>
  ∑ e : Fin 1024, H (ix2 (j 0) e) * W (ix2 e (j 1))

/-- An entry of the product. -/
theorem prod_apply (H : Vec Ideal S8192x1024 .bf16) (W : Vec Ideal S1024x3072 .bf16) (r : Fin 8192) (i : Fin 3072) :
    prod H W (ix2 r i) = ∑ e : Fin 1024, H (ix2 r e) * W (ix2 e i) := rfl

variable (m : (ℓ : Loc nD τ sig) → Buf (Elt Ideal) ℓ)

/-- The input, as the run starts. -/
abbrev argH (c : Dev nD) : Vec Ideal S8192x1024 .bf16 := m ((c.tc : Thread nD τ).loc main_arg0)
/-- The weight, as the run starts. -/
abbrev argW (c : Dev nD) : Vec Ideal S1024x3072 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- An input block at an index of the whole array. -/
theorem iblk0 (c : Dev nD) (t : Fin cfg0.N) (r : Fin 1024) (e : Fin 1024) :
    iblk m c 0 t (ix2 r e) = argH m c (ix2 ⟨t.val * 1024 + r.val, by have : t.val < 8 := t.isLt; omega⟩ e) := by
  blk_point [iblk, idx t]

/-- A block of the weight at an index of the whole array. -/
theorem iblk1 (c : Dev nD) (t : Fin cfg0.N) (e : Fin 1024) (i : Fin 3072) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 3072), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x1024 .bf16) (W : Vec Ideal S1024x3072 .bf16) :
    Cert.InGFwdRefIdeal.Read.val_main_v3 (F := Ideal) H W = prod H W := by
  funext j
  refine (Cert.InGFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_InGFwdRefIdeal Cert.InGFwdRefIdeal.Gen.facts := fun m g _ =>
  (θ_run Cert.InGFwdRefIdeal.defs _ _).mono
    (fun r h => ⟨fun c => (h c).2, sem_eq_zero_of_no_sems (by decide) r.2⟩) (Cert.InGFwdRefIdeal.Value.run (F := Ideal) m g)

/-- The kernel's product and the reference's agree. -/
theorem value : @Cert.algebraic_InGFwdIdeal_InGFwdRefIdeal Cert.InGFwdIdeal.Gen.facts Cert.InGFwdRefIdeal.Gen.facts := by
  pair_intro
  · run_from Cert.InGFwdIdeal.Value.run_blocks m g
  · run_from Cert.InGFwdRefIdeal.Value.run m' g'
    rw [final m c, Cert.InGFwdRefIdeal.Read.val_main_v3_eq]
    exact ref _ _

end Cert.Products.InGFwd

end
-- ==== Proof.Products.UpFwd.lean ====
/- The up projection, in two blocks of columns: the input times the weight. -/
module

public import proofs.«01_k».proof.Defs
public import proofs.«01_k».proof.Proof.Gen.UpFwd.Frame
public import proofs.«01_k».proof.Proof.Gen.UpFwdIdeal.Value
public import proofs.«01_k».proof.Proof.Gen.UpFwdRefIdeal.Read
public import proofs.«01_k».proof.Proof.Products.Sum

@[expose] public section

set_option maxRecDepth 16384

noncomputable section

namespace Cert.Products.UpFwd

open Idealize.ShloMosaic Idealize.ShloMosaic.TcCoe Idealize.SL.Sem Cert.UpFwdIdeal Cert.UpFwdIdeal.Gen

/-- Entry `(r, i)`: row `r` of the input against column `i` of the weight. -/
def prod (H : Vec Ideal S8192x1024 .bf16) (W : Vec Ideal S1024x5632 .bf16) : Vec Ideal S8192x5632 .bf16 := fun j =>
  ∑ e : Fin 1024, H (ix2 (j 0) e) * W (ix2 e (j 1))

/-- An entry of the product. -/
theorem prod_apply (H : Vec Ideal S8192x1024 .bf16) (W : Vec Ideal S1024x5632 .bf16) (r : Fin 8192) (i : Fin 5632) :
    prod H W (ix2 r i) = ∑ e : Fin 1024, H (ix2 r e) * W (ix2 e i) := rfl

variable (m : (ℓ : Loc nD τ sig) → Buf (Elt Ideal) ℓ)

/-- The input, as the run starts. -/
abbrev argH (c : Dev nD) : Vec Ideal S8192x1024 .bf16 := m ((c.tc : Thread nD τ).loc main_arg0)
/-- The weight, as the run starts. -/
abbrev argW (c : Dev nD) : Vec Ideal S1024x5632 .bf16 := m ((c.tc : Thread nD τ).loc main_arg1)

/-- The blocks' places at every grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- An input block at an index of the whole array. -/
theorem iblk0 (c : Dev nD) (t : Fin cfg0.N) (r : Fin 1024) (e : Fin 1024) :
    iblk m c 0 t (ix2 r e) = argH m c (ix2 ⟨t.val / 2 * 1024 + r.val, by have : t.val < 16 := t.isLt; omega⟩ e) := by
  blk_point [iblk, idx t]

/-- A block of the weight at an index of the whole array. -/
theorem iblk1 (c : Dev nD) (t : Fin cfg0.N) (e : Fin 1024) (i : Fin 2816) :
    iblk m c 1 t (ix2 e i) = argW m c (ix2 e ⟨t.val % 2 * 2816 + i.val, by omega⟩) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 16 := t.isLt
  blk_simp
  rw [after0_2]
  obtain ⟨r, i, rfl⟩ : ∃ (r : Fin 1024) (i : Fin 2816), y = ix2 r i := ⟨y 0, y 1, (ix2_eta y).symm⟩
  have hy : ((cfg0.win 2).blk t).view.emb (ix2 r i) = ix2 (⟨t.val / 2 * 1024 + r.val, by omega⟩ : Fin 8192) (⟨t.val % 2 * 2816 + i.val, by omega⟩ : Fin 5632) := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x1024 .bf16) (W : Vec Ideal S1024x5632 .bf16) :
    Cert.UpFwdRefIdeal.Read.val_main_v3 (F := Ideal) H W = prod H W := by
  funext j
  refine (Cert.UpFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_UpFwdRefIdeal Cert.UpFwdRefIdeal.Gen.facts := fun m g _ =>
  (θ_run Cert.UpFwdRefIdeal.defs _ _).mono
    (fun r h => ⟨fun c => (h c).2, sem_eq_zero_of_no_sems (by decide) r.2⟩) (Cert.UpFwdRefIdeal.Value.run (F := Ideal) m g)

/-- The kernel's product and the reference's agree. -/
theorem value : @Cert.algebraic_UpFwdIdeal_UpFwdRefIdeal Cert.UpFwdIdeal.Gen.facts Cert.UpFwdRefIdeal.Gen.facts := by
  pair_intro
  · run_from Cert.UpFwdIdeal.Value.run_blocks m g
  · run_from Cert.UpFwdRefIdeal.Value.run m' g'
    rw [final m c, Cert.UpFwdRefIdeal.Read.val_main_v3_eq]
    exact ref _ _

end Cert.Products.UpFwd

end
-- ==== Proof.Products.DownFwd.lean ====
/- The down projection: the input times the weight. -/
module

public import proofs.«01_k».proof.Defs
public import proofs.«01_k».proof.Proof.Gen.DownFwd.Frame
public import proofs.«01_k».proof.Proof.Gen.DownFwdIdeal.Value
public import proofs.«01_k».proof.Proof.Gen.DownFwdRefIdeal.Read
public import proofs.«01_k».proof.Proof.Products.Sum

@[expose] public section

set_option maxRecDepth 16384

noncomputable section

namespace Cert.Products.DownFwd

open Idealize.ShloMosaic Idealize.ShloMosaic.TcCoe Idealize.SL.Sem Cert.DownFwdIdeal Cert.DownFwdIdeal.Gen

/-- Entry `(r, i)`: row `r` of the input against column `i` of the weight. -/
def prod (H : Vec Ideal S8192x2816 .bf16) (W : Vec Ideal S2816x1024 .bf16) : Vec Ideal S8192x1024 .bf16 := fun j =>
  ∑ e : Fin 2816, H (ix2 (j 0) e) * W (ix2 e (j 1))

/-- An entry of the product. -/
theorem prod_apply (H : Vec Ideal S8192x2816 .bf16) (W : Vec Ideal S2816x1024 .bf16) (r : Fin 8192) (i : Fin 1024) :
    prod H W (ix2 r i) = ∑ e : Fin 2816, H (ix2 r e) * W (ix2 e i) := rfl

variable (m : (ℓ : Loc nD τ sig) → Buf (Elt Ideal) ℓ)

/-- The input, as the run starts. -/
abbrev argH (c : Dev nD) : Vec Ideal S8192x2816 .bf16 := m ((c.tc : Thread nD τ).loc main_arg0)
/-- The weight, as the run starts. -/
abbrev argW (c : Dev nD) : Vec Ideal S2816x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- An input block at an index of the whole array. -/
theorem iblk0 (c : Dev nD) (t : Fin cfg0.N) (r : Fin 1024) (e : Fin 2816) :
    iblk m c 0 t (ix2 r e) = argH m c (ix2 ⟨t.val * 1024 + r.val, by have : t.val < 8 := t.isLt; omega⟩ e) := by
  blk_point [iblk, idx t]

/-- A block of the weight at an index of the whole array. -/
theorem iblk1 (c : Dev nD) (t : Fin cfg0.N) (e : Fin 2816) (i : Fin 1024) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x2816 .bf16) (W : Vec Ideal S2816x1024 .bf16) :
    Cert.DownFwdRefIdeal.Read.val_main_v3 (F := Ideal) H W = prod H W := by
  funext j
  refine (Cert.DownFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_DownFwdRefIdeal Cert.DownFwdRefIdeal.Gen.facts := fun m g _ =>
  (θ_run Cert.DownFwdRefIdeal.defs _ _).mono
    (fun r h => ⟨fun c => (h c).2, sem_eq_zero_of_no_sems (by decide) r.2⟩) (Cert.DownFwdRefIdeal.Value.run (F := Ideal) m g)

/-- The kernel's product and the reference's agree. -/
theorem value : @Cert.algebraic_DownFwdIdeal_DownFwdRefIdeal Cert.DownFwdIdeal.Gen.facts Cert.DownFwdRefIdeal.Gen.facts := by
  pair_intro
  · run_from Cert.DownFwdIdeal.Value.run_blocks m g
  · run_from Cert.DownFwdRefIdeal.Value.run m' g'
    rw [final m c, Cert.DownFwdRefIdeal.Read.val_main_v3_eq]
    exact ref _ _

end Cert.Products.DownFwd

end
-- ==== Proof.Products.AOutFwd.lean ====
/- A branch's output projection from 512 channels: the input times the weight. -/
module

public import proofs.«01_k».proof.Defs
public import proofs.«01_k».proof.Proof.Gen.AOutFwd.Frame
public import proofs.«01_k».proof.Proof.Gen.AOutFwdIdeal.Value
public import proofs.«01_k».proof.Proof.Gen.AOutFwdRefIdeal.Read
public import proofs.«01_k».proof.Proof.Products.Sum

@[expose] public section

set_option maxRecDepth 16384

noncomputable section

namespace Cert.Products.AOutFwd

open Idealize.ShloMosaic Idealize.ShloMosaic.TcCoe Idealize.SL.Sem Cert.AOutFwdIdeal Cert.AOutFwdIdeal.Gen

/-- Entry `(r, i)`: row `r` of the input against column `i` of the weight. -/
def prod (H : Vec Ideal S8192x512 .bf16) (W : Vec Ideal S512x1024 .bf16) : Vec Ideal S8192x1024 .bf16 := fun j =>
  ∑ e : Fin 512, H (ix2 (j 0) e) * W (ix2 e (j 1))

/-- An entry of the product. -/
theorem prod_apply (H : Vec Ideal S8192x512 .bf16) (W : Vec Ideal S512x1024 .bf16) (r : Fin 8192) (i : Fin 1024) :
    prod H W (ix2 r i) = ∑ e : Fin 512, H (ix2 r e) * W (ix2 e i) := rfl

variable (m : (ℓ : Loc nD τ sig) → Buf (Elt Ideal) ℓ)

/-- The input, as the run starts. -/
abbrev argH (c : Dev nD) : Vec Ideal S8192x512 .bf16 := m ((c.tc : Thread nD τ).loc main_arg0)
/-- The weight, as the run starts. -/
abbrev argW (c : Dev nD) : Vec Ideal S512x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- An input block at an index of the whole array. -/
theorem iblk0 (c : Dev nD) (t : Fin cfg0.N) (r : Fin 1024) (e : Fin 512) :
    iblk m c 0 t (ix2 r e) = argH m c (ix2 ⟨t.val * 1024 + r.val, by have : t.val < 8 := t.isLt; omega⟩ e) := by
  blk_point [iblk, idx t]

/-- A block of the weight at an index of the whole array. -/
theorem iblk1 (c : Dev nD) (t : Fin cfg0.N) (e : Fin 512) (i : Fin 1024) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x512 .bf16) (W : Vec Ideal S512x1024 .bf16) :
    Cert.AOutFwdRefIdeal.Read.val_main_v3 (F := Ideal) H W = prod H W := by
  funext j
  refine (Cert.AOutFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_AOutFwdRefIdeal Cert.AOutFwdRefIdeal.Gen.facts := fun m g _ =>
  (θ_run Cert.AOutFwdRefIdeal.defs _ _).mono
    (fun r h => ⟨fun c => (h c).2, sem_eq_zero_of_no_sems (by decide) r.2⟩) (Cert.AOutFwdRefIdeal.Value.run (F := Ideal) m g)

/-- The kernel's product and the reference's agree. -/
theorem value : @Cert.algebraic_AOutFwdIdeal_AOutFwdRefIdeal Cert.AOutFwdIdeal.Gen.facts Cert.AOutFwdRefIdeal.Gen.facts := by
  pair_intro
  · run_from Cert.AOutFwdIdeal.Value.run_blocks m g
  · run_from Cert.AOutFwdRefIdeal.Value.run m' g'
    rw [final m c, Cert.AOutFwdRefIdeal.Read.val_main_v3_eq]
    exact ref _ _

end Cert.Products.AOutFwd

end
-- ==== Proof.Products.COutFwd.lean ====
/- The dilated attention's output projection: the input times the weight. -/
module

public import proofs.«01_k».proof.Defs
public import proofs.«01_k».proof.Proof.Gen.COutFwd.Frame
public import proofs.«01_k».proof.Proof.Gen.COutFwdIdeal.Value
public import proofs.«01_k».proof.Proof.Gen.COutFwdRefIdeal.Read
public import proofs.«01_k».proof.Proof.Products.Sum

@[expose] public section

set_option maxRecDepth 16384

noncomputable section

namespace Cert.Products.COutFwd

open Idealize.ShloMosaic Idealize.ShloMosaic.TcCoe Idealize.SL.Sem Cert.COutFwdIdeal Cert.COutFwdIdeal.Gen

/-- Entry `(r, i)`: row `r` of the input against column `i` of the weight. -/
def prod (H : Vec Ideal S8192x256 .f32) (W : Vec Ideal S256x1024 .bf16) : Vec Ideal S8192x1024 .bf16 := fun j =>
  ∑ e : Fin 256, H (ix2 (j 0) e) * W (ix2 e (j 1))

/-- An entry of the product. -/
theorem prod_apply (H : Vec Ideal S8192x256 .f32) (W : Vec Ideal S256x1024 .bf16) (r : Fin 8192) (i : Fin 1024) :
    prod H W (ix2 r i) = ∑ e : Fin 256, H (ix2 r e) * W (ix2 e i) := rfl

variable (m : (ℓ : Loc nD τ sig) → Buf (Elt Ideal) ℓ)

/-- The input, as the run starts. -/
abbrev argH (c : Dev nD) : Vec Ideal S8192x256 .f32 := m ((c.tc : Thread nD τ).loc main_arg0)
/-- The weight, as the run starts. -/
abbrev argW (c : Dev nD) : Vec Ideal S256x1024 .bf16 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- An input block at an index of the whole array. -/
theorem iblk0 (c : Dev nD) (t : Fin cfg0.N) (r : Fin 1024) (e : Fin 256) :
    iblk m c 0 t (ix2 r e) = argH m c (ix2 ⟨t.val * 1024 + r.val, by have : t.val < 8 := t.isLt; omega⟩ e) := by
  blk_point [iblk, idx t]

/-- A block of the weight at an index of the whole array. -/
theorem iblk1 (c : Dev nD) (t : Fin cfg0.N) (e : Fin 256) (i : Fin 1024) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  have ht : t.val < 8 := t.isLt
  blk_simp
  rw [after0_2]
  obtain ⟨r, i, rfl⟩ : ∃ (r : Fin 1024) (i : Fin 1024), y = ix2 r i := ⟨y 0, y 1, (ix2_eta y).symm⟩
  have hy : ((cfg0.win 2).blk t).view.emb (ix2 r i) = ix2 (⟨t.val * 1024 + r.val, by omega⟩ : Fin 8192) i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S8192x256 .f32) (W : Vec Ideal S256x1024 .bf16) :
    Cert.COutFwdRefIdeal.Read.val_main_v2 (F := Ideal) H W = prod H W := by
  funext j
  refine (Cert.COutFwdRefIdeal.Read.val_main_v1_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_COutFwdRefIdeal Cert.COutFwdRefIdeal.Gen.facts := fun m g _ =>
  (θ_run Cert.COutFwdRefIdeal.defs _ _).mono
    (fun r h => ⟨fun c => (h c).2, sem_eq_zero_of_no_sems (by decide) r.2⟩) (Cert.COutFwdRefIdeal.Value.run (F := Ideal) m g)

/-- The kernel's product and the reference's agree. -/
theorem value : @Cert.algebraic_COutFwdIdeal_COutFwdRefIdeal Cert.COutFwdIdeal.Gen.facts Cert.COutFwdRefIdeal.Gen.facts := by
  pair_intro
  · run_from Cert.COutFwdIdeal.Value.run_blocks m g
  · run_from Cert.COutFwdRefIdeal.Value.run m' g'
    rw [final m c, Cert.COutFwdRefIdeal.Read.val_main_v2_eq]
    exact ref _ _

end Cert.Products.COutFwd

end
-- ==== Proof.Products.XkvFwd.lean ====
/- The memory's key and value projection: the input times the weight. -/
module

public import proofs.«01_k».proof.Defs
public import proofs.«01_k».proof.Proof.Gen.XkvFwd.Frame
public import proofs.«01_k».proof.Proof.Gen.XkvFwdIdeal.Value
public import proofs.«01_k».proof.Proof.Gen.XkvFwdRefIdeal.Read
public import proofs.«01_k».proof.Proof.Products.Sum

@[expose] public section

set_option maxRecDepth 16384

noncomputable section

namespace Cert.Products.XkvFwd

open Idealize.ShloMosaic Idealize.ShloMosaic.TcCoe Idealize.SL.Sem Cert.XkvFwdIdeal Cert.XkvFwdIdeal.Gen

/-- Entry `(r, i)`: row `r` of the input against column `i` of the weight. -/
def prod (H : Vec Ideal S1024x1024 .bf16) (W : Vec Ideal S1024x2048 .bf16) : Vec Ideal S1024x2048 .bf16 := fun j =>
  ∑ e : Fin 1024, H (ix2 (j 0) e) * W (ix2 e (j 1))

/-- An entry of the product. -/
theorem prod_apply (H : Vec Ideal S1024x1024 .bf16) (W : Vec Ideal S1024x2048 .bf16) (r : Fin 1024) (i : Fin 2048) :
    prod H W (ix2 r i) = ∑ e : Fin 1024, H (ix2 r e) * W (ix2 e i) := rfl

variable (m : (ℓ : Loc nD τ sig) → Buf (Elt Ideal) ℓ)

/-- The input, as the run starts. -/
abbrev argH (c : Dev nD) : Vec Ideal S1024x1024 .bf16 := m ((c.tc : Thread nD τ).loc main_arg0)
/-- The weight, as the run starts. -/
abbrev argW (c : Dev nD) : Vec Ideal S1024x2048 .bf16 := m ((c.tc : Thread nD τ).loc main_arg1)

/-- The blocks' places at every grid point. -/
theorem idx : ∀ t : Fin cfg0.N, win0_0.index t = ![0, 0] ∧ win0_1.index t = ![0, 0] ∧ win0_2.index t = ![0, 0] :=
  (by decide +kernel : ∀ t : Fin grid0.N, _)

/-- An input block at an index of the whole array. -/
theorem iblk0 (c : Dev nD) (t : Fin cfg0.N) (r : Fin 1024) (e : Fin 1024) :
    iblk m c 0 t (ix2 r e) = argH m c (ix2 r e) := by
  blk_point [iblk, idx t]

/-- A block of the weight at an index of the whole array. -/
theorem iblk1 (c : Dev nD) (t : Fin cfg0.N) (e : Fin 1024) (i : Fin 2048) :
    iblk m c 1 t (ix2 e i) = argW m c (ix2 e i) := by
  blk_point [iblk, idx t]

/-- The result array after the run. -/
theorem final (c : Dev nD) : (dats m 0 c).arrAt 2 cfg0.N = prod (argH m c) (argW m c) := by
  refine (dats m 0 c).arrAt_eq_of_covers 2 _ (by decide +kernel) fun t hf y => ?_
  blk_simp
  rw [after0_2]
  obtain ⟨r, i, rfl⟩ : ∃ (r : Fin 1024) (i : Fin 2048), y = ix2 r i := ⟨y 0, y 1, (ix2_eta y).symm⟩
  have hy : ((cfg0.win 2).blk t).view.emb (ix2 r i) = ix2 r i := by
    blk_ext [idx t]
  refine Eq.trans ?_ (congrArg (prod (argH m c) (argW m c)) hy.symm)
  frame_out
  refine (nn_apply (e₁ := .bf16) (e₂ := .bf16) _ _ _ r i).trans (Eq.trans ?_ (prod_apply _ _ _ _).symm)
  exact Finset.sum_congr rfl fun e _ => congrArg₂ (· * ·) (iblk0 m c t r e) (iblk1 m c t e i)

/-- The reference's result. -/
theorem ref (H : Vec Ideal S1024x1024 .bf16) (W : Vec Ideal S1024x2048 .bf16) :
    Cert.XkvFwdRefIdeal.Read.val_main_v3 (F := Ideal) H W = prod H W := by
  funext j
  refine (Cert.XkvFwdRefIdeal.Read.val_main_v2_apply H W j).trans (Finset.sum_congr rfl fun e _ => ?_)
  refine congrArg₂ (· * ·) (congrArg H (funext fun a => ?_)) (congrArg W (funext fun a => ?_)) <;>
    match a with
    | ⟨0, _⟩ => rfl
    | ⟨1, _⟩ => rfl

/-- The reference runs to its end and leaves its arguments and the counters as they were; it declares no semaphore. -/
theorem frame_ref : @Cert.quiescent_XkvFwdRefIdeal Cert.XkvFwdRefIdeal.Gen.facts := fun m g _ =>
  (θ_run Cert.XkvFwdRefIdeal.defs _ _).mono
    (fun r h => ⟨fun c => (h c).2, sem_eq_zero_of_no_sems (by decide) r.2⟩) (Cert.XkvFwdRefIdeal.Value.run (F := Ideal) m g)

/-- The kernel's product and the reference's agree. -/
theorem value : @Cert.algebraic_XkvFwdIdeal_XkvFwdRefIdeal Cert.XkvFwdIdeal.Gen.facts Cert.XkvFwdRefIdeal.Gen.facts := by
  pair_intro
  · run_from Cert.XkvFwdIdeal.Value.run_blocks m g
  · run_from Cert.XkvFwdRefIdeal.Value.run m' g'
    rw [final m c, Cert.XkvFwdRefIdeal.Read.val_main_v3_eq]
    exact ref _ _

end Cert.Products.XkvFwd

end
-- ==== Proof.Point.Rows.lean ====
/- Sums and copies along the rows and columns of a matrix, and the gate of a branch: what the row-by-row passes share. -/
module

public import proofs.«01_k».proof.Proof.Products.Sum

@[expose] public section

noncomputable section

namespace Cert.Point

open Idealize.ShloMosaic Idealize.ShloMosaic.TcCoe

/-- The gate at a value and its bias: the logistic function of their sum. -/
def gateOf (z b : EReal) : EReal := Ideal.div 1 (1 + Ideal.exp (-(z + b)))

/-- The column of branch `k`'s lane `d`, where the three branches stand side by side. -/
abbrev colG (k : Fin 3) (d : Fin 1024) : Fin 3072 := ⟨k.val * 1024 + d.val, by omega⟩

/-- Every such column belongs to a branch and a lane. -/
theorem colG_cases (j : Fin 3072) : ∃ (k : Fin 3) (d : Fin 1024), j = colG k d :=
  ⟨⟨j.val / 1024, by omega⟩, ⟨j.val % 1024, by omega⟩, Fin.ext (by show j.val = j.val / 1024 * 1024 + j.val % 1024; omega)⟩

/-- The constant one. -/
theorem ofBits_one : Ideal.ofBits .f32 0x3F800000#32 = (1 : EReal) := by
  simp [Ideal.ofBits, Ideal.ieee, -EReal.coe_mul]; norm_num

section
variable {n k : Nat} {e : EltTy}

/-- A sum over the rows, at a column. -/
theorem colsum_apply (x : FVec Ideal ⟨2, ![n, k]⟩ .f32) (h h' h'') (d : Fin k) :
    multiReduction (F := Ideal) .add [0] ⟨1, ![k]⟩ x 0x00000000#32 h h' h'' (ix1 d) = ∑ r : Fin n, x (ix2 r d) := by
  refine (Ideal.multiReduction_add_single (a := (0 : Fin (⟨2, ![n, k]⟩ : Shape).rank)) x _ h _ _ (ix1 d)).trans ?_
  refine Finset.sum_congr rfl fun m _ => congrArg x ?_
  funext a
  match a with
  | ⟨0, _⟩ => rfl
  | ⟨1, _⟩ => rfl

/-- A sum over the columns, at a row. -/
theorem rowsum_apply (x : FVec Ideal ⟨2, ![n, k]⟩ .f32) (h h' h'') (r : Fin n) :
    multiReduction (F := Ideal) .add [1] ⟨1, ![n]⟩ x 0x00000000#32 h h' h'' (ix1 r) = ∑ d : Fin k, x (ix2 r d) := by
  refine (Ideal.multiReduction_add_single (a := (1 : Fin (⟨2, ![n, k]⟩ : Shape).rank)) x _ h _ _ (ix1 r)).trans ?_
  refine Finset.sum_congr rfl fun m _ => congrArg x ?_
  funext a
  match a with
  | ⟨0, _⟩ => rfl
  | ⟨1, _⟩ => rfl

/-- A one-row matrix copied down the rows. -/
theorem row_spread (x : Vec Ideal ⟨2, ![1, k]⟩ e) (h) (r : Fin n) (d : Fin k) (hk : k ≠ 1) :
    broadcastTo (⟨2, ![n, k]⟩ : Shape) x h (ix2 r d) = x (ix2 (0 : Fin 1) d) := by
  refine broadcastTo_apply _ _ _ (ix2 (0 : Fin 1) d) fun a => ?_
  match a with
  | ⟨0, _⟩ => exact (if_pos rfl).symm
  | ⟨1, _⟩ => exact (if_neg hk).symm

/-- A one-column matrix copied along the columns. -/
theorem col_spread (x : Vec Ideal ⟨2, ![n, 1]⟩ e) (h) (r : Fin n) (d : Fin k) (hn : n ≠ 1) :
    broadcastTo (⟨2, ![n, k]⟩ : Shape) x h (ix2 r d) = x (ix2 r (0 : Fin 1)) := by
  refine broadcastTo_apply _ _ _ (ix2 r (0 : Fin 1)) fun a => ?_
  match a with
  | ⟨0, _⟩ => exact (if_neg hn).symm
  | ⟨1, _⟩ => exact (if_pos rfl).symm

/-- A vector as a one-row matrix. -/
theorem row_of (x : Vec Ideal ⟨1, ![k]⟩ e) (h) (d : Fin k) : shapeCast (⟨2, ![1, k]⟩ : Shape) x h (ix2 (0 : Fin 1) d) = x (ix1 d) := by
  refine shapeCast_apply _ _ _ (ix1 d) ?_
  rw [Shape.rowMajor_val_one, Shape.rowMajor_val_two]
  show d.val = 0 * k + d.val
  omega

/-- A vector as a one-column matrix. -/
theorem col_of (x : Vec Ideal ⟨1, ![n]⟩ e) (h) (r : Fin n) : shapeCast (⟨2, ![n, 1]⟩ : Shape) x h (ix2 r (0 : Fin 1)) = x (ix1 r) := by
  refine shapeCast_apply _ _ _ (ix1 r) ?_
  rw [Shape.rowMajor_val_one, Shape.rowMajor_val_two]
  show r.val = r.val * 1 + 0
  omega

/-- A block of whole rows loaded from a branch's columns. -/
theorem ld_branch {w : Nat} (x : Vec Ideal ⟨2, ![n, w]⟩ e) (o : Nat) (inb) (r : Fin n) (d : Fin k) (j : Fin w) (hj : j.val = o + d.val) :
    View.ld (Val := Elt Ideal) (S := ⟨2, ![n, w]⟩) (e' := e) x (Rect.unit ![0, o] ![n, k] inb) (ix2 r d) = x (ix2 r j) := by
  refine View.ld_unit_apply_of _ _ _ _ _ _ fun a => ?_
  match a with
  | ⟨0, _⟩ => exact (Nat.zero_add _).symm
  | ⟨1, _⟩ => exact hj

end

end Cert.Point

end
-- ==== Proof.Point.MergeBwd.lean ====
/- The backward pass of the merge of the three branches: what each branch, each gate and the gates' bias receive. -/
module

public import proofs.«01_k».proof.Defs
public import proofs.«01_k».proof.Proof.Gen.MergeBwd.Frame
public import proofs.«01_k».proof.Proof.Gen.MergeBwdIdeal.Value
public import proofs.«01_k».proof.Proof.Gen.MergeBwdRefIdeal.Read
public import proofs.«01_k».proof.Proof.Point.Rows
public import Idealize.ShloMosaic.Lib.KernelVsHost

@[expose] public section

set_option maxRecDepth 16384

noncomputable section

namespace Cert.Point.MergeBwd

open Cert.Products (sum_blocks)
open Cert.Point (gateOf colG colG_cases)
open Idealize.ShloMosaic Idealize.ShloMosaic.TcCoe Idealize.SL.Sem Cert.MergeBwdIdeal Cert.MergeBwdIdeal.Gen

/-- What a gate's argument receives: the gradient against the branch and the logistic function's slope. -/
def dzOf (d y z b : EReal) : EReal := d * y * gateOf z b * (1 - gateOf z b)

section
variable (DM : Vec Ideal S8192x1024 .bf16) (ZG : Vec Ideal S8192x3072 .bf16) (BG : Vec Ideal S3x1024 .f32) (YA YB YC : Vec Ideal S8192x1024 .bf16)

/-- What branch `k` receives. -/
def dyArr (k : Fin 3) : Vec Ideal S8192x1024 .bf16 := fun j => DM j * gateOf (ZG (ix2 (j 0) (colG k (j 1)))) (BG (ix2 k (j 1)))
/-- What the gate of branch `k` receives at a token and a lane. -/
def dzAt (R : Fin 8192) (k : Fin 3) (d : Fin 1024) : EReal :=
  dzOf (DM (ix2 R d)) (![YA, YB, YC] k (ix2 R d)) (ZG (ix2 R (colG k d))) (BG (ix2 k d))
/-- What the gates receive, side by side. -/
def dzgArr : Vec Ideal S8192x3072 .bf16 := fun j =>
  have h1 : (j 1).val < 3072 := (j 1).isLt
  dzAt DM ZG BG YA YB YC (j 0) ⟨(j 1).val / 1024, by omega⟩ ⟨(j 1).val % 1024, by omega⟩
/-- What the bias receives: the sum over the tokens. -/
def dbgArr : Vec Ideal S1x3072 .f32 := fun j =>
  have h1 : (j 1).val < 3072 := (j 1).isLt
  ∑ R : Fin 8192, dzAt DM ZG BG YA YB YC R ⟨(j 1).val / 1024, by omega⟩ ⟨(j 1).val % 1024, by omega⟩

/-- A branch's column gives back the branch and the lane. -/
theorem split_col (k : Fin 3) (d : Fin 1024) : (⟨(k.val * 1024 + d.val) / 1024, by omega⟩ : Fin 3) = k ∧ (⟨(k.val * 1024 + d.val) % 1024, by omega⟩ : Fin 1024) = d :=
  ⟨Fin.ext (by show (k.val * 1024 + d.val) / 1024 = k.val; omega), Fin.ext (by show (k.val * 1024 + d.val) % 1024 = d.val; omega)⟩
/-- The gates' array at a branch's column. -/
theorem dzgArr_at (R : Fin 8192) (k : Fin 3) (d : Fin 1024) : dzgArr DM ZG BG YA YB YC (ix2 R (colG k d)) = dzAt DM ZG BG YA YB YC R k d := by
  show dzAt DM ZG BG YA YB YC R ⟨(k.val * 1024 + d.val) / 1024, _⟩ ⟨(k.val * 1024 + d.val) % 1024, _⟩ = _
  rw [(split_col k d).1, (split_col k d).2]
/-- The bias's array at a branch's column. -/
theorem dbgArr_at (k : Fin 3) (d : Fin 1024) : dbgArr DM ZG BG YA YB YC (ix2 (0 : Fin 1) (colG k d)) = ∑ R : Fin 8192, dzAt DM ZG BG YA YB YC R k d := by
  show ∑ R : Fin 8192, dzAt DM ZG BG YA YB YC R ⟨(k.val * 1024 + d.val) / 1024, _⟩ ⟨(k.val * 1024 + d.val) % 1024, _⟩ = _
  rw [(split_col k d).1, (split_col k d).2]
end

section
variable (dm : Vec Ideal S512x1024 .bf16) (z : Vec Ideal S512x1024 .bf16) (b : Vec Ideal S1x1024 .f32) (y : Vec Ideal S512x1024 .bf16)

/-- The first gate's values. -/
theorem pay6_apply (r : Fin 512) (d : Fin 1024) : k0_pay6 (F := Ideal) z b (ix2 r d) = gateOf (z (ix2 r d)) (b (ix2 (0 : Fin 1) d)) := by
  show Ideal.div (Ideal.ofBits .f32 0x3F800000#32) (Ideal.ofBits .f32 0x3F800000#32
    + Ideal.exp (Ideal.ofBits .f32 0x00000000#32 - (z (ix2 r d) + broadcastTo (⟨2, ![512, 1024]⟩ : Shape) (shapeCast S1x1024 b _) _ (ix2 r d)))) = _
  rw [Cert.Point.row_spread _ _ r d (by decide), shapeCast_apply _ _ _ (ix2 (0 : Fin 1) d) rfl, Cert.Point.ofBits_one, Ideal.ofBits_zero_f32, zero_sub]
  rfl
/-- What the first branch receives. -/
theorem pay7_apply (r : Fin 512) (d : Fin 1024) : k0_pay7 (F := Ideal) dm z b (ix2 r d) = dm (ix2 r d) * gateOf (z (ix2 r d)) (b (ix2 (0 : Fin 1) d)) :=
  congrArg (dm (ix2 r d) * ·) (pay6_apply z b r d)
/-- What the first gate receives. -/
theorem pay8_apply (r : Fin 512) (d : Fin 1024) :
    k0_pay8 (F := Ideal) dm z b y (ix2 r d) = dzOf (dm (ix2 r d)) (y (ix2 r d)) (z (ix2 r d)) (b (ix2 (0 : Fin 1) d)) := by
  show dm (ix2 r d) * y (ix2 r d) * k0_pay6 (F := Ideal) z b (ix2 r d) * (Ideal.ofBits .f32 0x3F800000#32 - k0_pay6 (F := Ideal) z b (ix2 r d)) = _
  rw [pay6_apply, Cert.Point.ofBits_one]
  rfl
/-- Its sum over the block's rows. -/
theorem pay10_apply (d : Fin 1024) : k0_pay10 (F := Ideal) dm z b y (ix2 (0 : Fin 1) d)
    = ∑ r : Fin 512, dzOf (dm (ix2 r d)) (y (ix2 r d)) (z (ix2 r d)) (b (ix2 (0 : Fin 1) d)) := by
  refine (Cert.Point.row_of (e := .f32) (multiReduction (F := Ideal) .add [0] S1024 (k0_pay8 (F := Ideal) dm z b y) 0x00000000#32 reduces_S512x1024_S1024 (.inl rfl) rfl)
    shapeCasts_S1024_S1x1024 d).trans ((Cert.Point.colsum_apply _ _ _ _ d).trans (Finset.sum_congr rfl fun r _ => ?_))
  exact pay8_apply dm z b y r d
end

/-- Three one-row pieces side by side, at a branch's column. -/
theorem concat3_apply (x : Fin 3 → FVec Ideal S1x1024 .f32) (k : Fin 3) (d : Fin 1024) :
    concatenate S1x3072 1 [⟨S1x1024, x 0⟩, ⟨S1x1024, x 1⟩, ⟨S1x1024, x 2⟩] concatenates_S1x1024_S1x1024_S1x1024_S1x3072_d1 (ix2 (0 : Fin 1) (colG k d))
      = x k (ix2 (0 : Fin 1) d) := by
  have off : ∀ (c : Fin 1024) (j : Fin 3072) (b : Fin 2), b.cast rfl ≠ (1 : Fin 2) → (ix2 (0 : Fin 1) c b : ℕ) = (ix2 (0 : Fin 1) j b : ℕ) := fun c j b hb => by
    match b with
    | ⟨0, _⟩ => rfl
    | ⟨1, _⟩ => exact absurd rfl hb
  match k with
  | ⟨0, _⟩ =>
    refine concatenate_apply_piece (t := S1x3072) 1 _ _ _ 0 ?_ S1x1024 (x 0) ?_ (rfl : S1x1024.rank = S1x3072.rank) 0 ?_ (ix2 (0 : Fin 1) d) (off d _) ?_
    · simp
    · rfl
    · rfl
    · show 0 + d.val = 0 * 1024 + d.val
      omega
  | ⟨1, _⟩ =>
    refine concatenate_apply_piece (t := S1x3072) 1 _ _ _ 1 ?_ S1x1024 (x 1) ?_ (rfl : S1x1024.rank = S1x3072.rank) 1024 ?_ (ix2 (0 : Fin 1) d) (off d _) ?_
    · simp
    · rfl
    · rfl
    · show 1024 + d.val = 1 * 1024 + d.val
      omega
  | ⟨2, _⟩ =>
    refine concatenate_apply_piece (t := S1x3072) 1 _ _ _ 2 ?_ S1x1024 (x 2) ?_ (rfl : S1x1024.rank = S1x3072.rank) 2048 ?_ (ix2 (0 : Fin 1) d) (off d _) ?_
    · simp
    · rfl
    · rfl
    · show 2048 + d.val = 2 * 1024 + d.val
      omega

/-- Three blocks stored one beside the other, at a branch's column. -/
theorem canon3_apply (P : Fin 3 → Vec Ideal S512x1024 .bf16) (k : Fin 3) (r : Fin 512) (d : Fin 1024) :
    View.canon (Val := Elt Ideal) (s := S512x3072) (e := .bf16)
      [⟨Rect.unit ![0, 2048] ![512, 1024] inb_S512x3072_S512x1024_0_2048, P 2⟩,
        ⟨Rect.unit ![0, 1024] ![512, 1024] inb_S512x3072_S512x1024_0_1024, P 1⟩,
        ⟨Rect.unit ![0, 0] ![512, 1024] inb_S512x3072_S512x1024_0_0, P 0⟩] (ix2 r (colG k d)) = P k (ix2 r d) := by
  have emb : ∀ (o : Nat) (inb) (j : Fin 3072) (hj : j.val = o + d.val),
      ix2 r j = (Rect.unit (s := S512x3072) ![0, o] ![512, 1024] inb).emb (ix2 r d) := fun o inb j hj => funext fun a => Fin.ext (by
    match a with
    | ⟨0, _⟩ => show r.val = 0 + 1 * r.val; omega
    | ⟨1, _⟩ => show j.val = o + 1 * d.val; omega)
  have out : ∀ (o : Nat) (inb) (j : Fin 3072) (hj : j.val < o), ix2 r j ∉ (Rect.unit (s := S512x3072) ![0, o] ![512, 1024] inb).set := fun o inb j hj h => by
    have := (Rect.mem_set_unit.mp h (1 : Fin 2)).1
    exact absurd this (by show ¬ o ≤ j.val; omega)
  have hj : (colG k d).val = k.val * 1024 + d.val := rfl
  generalize colG k d = j at hj ⊢
  generalize hp2 : P 2 = p2
  generalize hp1 : P 1 = p1
  generalize hp0 : P 0 = p0
  by_cases h2 : 2048 ≤ j.val
  · obtain rfl : k = 2 := Fin.ext (by show k.val = 2; omega)
    rw [emb 2048 inb_S512x3072_S512x1024_0_2048 j (by rw [hj]; rfl), View.canon_cons_emb, hp2]
  · have n2 := out 2048 inb_S512x3072_S512x1024_0_2048 j (by omega)
    refine (View.canon_cons_of_not_mem (Val := Elt Ideal) (e := .bf16) ⟨Rect.unit (s := S512x3072) ![0, 2048] ![512, 1024] inb_S512x3072_S512x1024_0_2048, p2⟩ _ n2).trans ?_
    by_cases h1 : 1024 ≤ j.val
    · obtain rfl : k = 1 := Fin.ext (by show k.val = 1; omega)
      rw [emb 1024 inb_S512x3072_S512x1024_0_1024 j (by rw [hj]; rfl), View.canon_cons_emb, hp1]
    · have n1 := out 1024 inb_S512x3072_S512x1024_0_1024 j (by omega)
      refine (View.canon_cons_of_not_mem (Val := Elt Ideal) (e := .bf16) ⟨Rect.unit (s := S512x3072) ![0, 1024] ![512, 1024] inb_S512x3072_S512x1024_0_1024, p1⟩ _ n1).trans ?_
      obtain rfl : k = 0 := Fin.ext (by show k.val = 0; omega)
      rw [emb 0 inb_S512x3072_S512x1024_0_0 j (by rw [hj]; rfl), View.canon_cons_emb, hp0]

/-- Branch `k`'s columns lie within a row of all three. -/
theorem inb_z (k : Fin 3) : ∀ a : Fin S512x3072.rank, (![0, k.val * 1024] : Fin 2 → Nat) a + (![512, 1024] : Fin 2 → Nat) a ≤ S512x3072.size a := fun a => by
  match a with
  | ⟨0, _⟩ => show 0 + 512 ≤ 512; omega
  | ⟨1, _⟩ => show k.val * 1024 + 1024 ≤ 3072; omega
/-- The same of the bias. -/
theorem inb_b (k : Fin 3) : ∀ a : Fin S1x3072.rank, (![0, k.val * 1024] : Fin 2 → Nat) a + (![1, 1024] : Fin 2 → Nat) a ≤ S1x3072.size a := fun a => by
  match a with
  | ⟨0, _⟩ => show 0 + 1 ≤ 1; omega
  | ⟨1, _⟩ => show k.val * 1024 + 1024 ≤ 3072; omega
/-- The columns of branch `k` in a block of the gates' arguments. -/
abbrev zOf (Z : Vec Ideal S512x3072 .bf16) (k : Fin 3) : Vec Ideal S512x1024 .bf16 := View.ld Z (Rect.unit ![0, k.val * 1024] ![512, 1024] (inb_z k))
/-- The columns of branch `k` in the bias. -/
abbrev bOf (B : Vec Ideal S1x3072 .f32) (k : Fin 3) : Vec Ideal S1x1024 .f32 := View.ld B (Rect.unit ![0, k.val * 1024] ![1, 1024] (inb_b k))

section
variable (dm : Vec Ideal S512x1024 .bf16) (Z : Vec Ideal S512x3072 .bf16) (B : Vec Ideal S1x3072 .f32) (y : Fin 3 → Vec Ideal S512x1024 .bf16)

/-- What the gate of branch `k` receives at a row and a lane of a block. -/
def dzBlk (r : Fin 512) (k : Fin 3) (d : Fin 1024) : EReal :=
  dzOf (dm (ix2 r d)) (y k (ix2 r d)) (Z (ix2 r (colG k d))) (B (ix2 (0 : Fin 1) (colG k d)))
/-- A block's product with a gate, from the gates side by side. -/
theorem dy_apply (k : Fin 3) (r : Fin 512) (d : Fin 1024) :
    k0_pay7 (F := Ideal) dm (zOf Z k) (bOf B k) (ix2 r d) = dm (ix2 r d) * gateOf (Z (ix2 r (colG k d))) (B (ix2 (0 : Fin 1) (colG k d))) := by
  rw [pay7_apply]
  exact congrArg (dm (ix2 r d) * ·) (congrArg₂ gateOf (Cert.Point.ld_branch Z _ (inb_z k) r d _ rfl) (Cert.Point.ld_branch B _ (inb_b k) (0 : Fin 1) d _ rfl))
/-- The gates' block of gradients, from the gates side by side. -/
theorem dz_apply (k : Fin 3) (r : Fin 512) (d : Fin 1024) :
    k0_pay9 (F := Ideal) dm (zOf Z k) (bOf B k) (y k) (ix2 r d) = dzBlk dm Z B y r k d :=
  (pay8_apply dm _ _ (y k) r d).trans
    (congrArg₂ (dzOf _ _) (Cert.Point.ld_branch Z _ (inb_z k) r d _ rfl) (Cert.Point.ld_branch B _ (inb_b k) (0 : Fin 1) d _ rfl))
/-- Its sum over the rows. -/
theorem db_apply (k : Fin 3) (d : Fin 1024) :
    k0_pay10 (F := Ideal) dm (zOf Z k) (bOf B k) (y k) (ix2 (0 : Fin 1) d) = ∑ r : Fin 512, dzBlk dm Z B y r k d := by
  refine (pay10_apply dm _ _ (y k) d).trans (Finset.sum_congr rfl fun r _ => ?_)
  exact congrArg₂ (dzOf _ _) (Cert.Point.ld_branch Z _ (inb_z k) r d _ rfl) (Cert.Point.ld_branch B _ (inb_b k) (0 : Fin 1) d _ rfl)
/-- The three sums side by side. -/
theorem pay3_apply (k : Fin 3) (d : Fin 1024) :
    k0_pay3 (F := Ideal) (k0_pay5 dm) (k0_pay10 dm (zOf Z 0) (bOf B 0) (y 0)) (k0_pay17 (k0_pay5 dm) (k0_pay11 (zOf Z 1)) (k0_pay12 (bOf B 1)) (y 1))
      (k0_pay18 (zOf Z 2) (bOf B 2)) (y 2) (ix2 (0 : Fin 1) (colG k d)) = ∑ r : Fin 512, dzBlk dm Z B y r k d :=
  (concat3_apply (fun k => k0_pay10 (F := Ideal) dm (zOf Z k) (bOf B k) (y k)) k d).trans (db_apply dm Z B y k d)
/-- The three blocks of gate gradients, one beside the other. -/
theorem canon_apply (k : Fin 3) (r : Fin 512) (d : Fin 1024) :
    View.canon (Val := Elt Ideal) (s := S512x3072) (e := .bf16)
      [⟨Rect.unit ![0, 2048] ![512, 1024] inb_S512x3072_S512x1024_0_2048, k0_pay2 (F := Ideal) (k0_pay5 dm) (k0_pay18 (zOf Z 2) (bOf B 2)) (y 2)⟩,
        ⟨Rect.unit ![0, 1024] ![512, 1024] inb_S512x3072_S512x1024_0_1024, k0_pay16 (F := Ideal) (k0_pay5 dm) (k0_pay11 (zOf Z 1)) (k0_pay12 (bOf B 1)) (y 1)⟩,
        ⟨Rect.unit ![0, 0] ![512, 1024] inb_S512x3072_S512x1024_0_0, k0_pay9 (F := Ideal) dm (zOf Z 0) (bOf B 0) (y 0)⟩] (ix2 r (colG k d))
      = dzBlk dm Z B y r k d :=
  (canon3_apply (fun k => k0_pay9 (F := Ideal) dm (zOf Z k) (bOf B k) (y k)) k r d).trans (dz_apply dm Z B y k r d)
end

variable (m : (ℓ : Loc nD τ sig) → Buf (Elt Ideal) ℓ)

/-- The gradient of the merged rows, as the run starts. -/
abbrev argDM (c : Dev nD) : Vec Ideal S8192x1024 .bf16 := m ((c.tc : Thread nD τ).loc main_arg0)
/-- The gates' arguments, as the run starts. -/
abbrev argZG (c : Dev nD) : Vec Ideal S8192x3072 .bf16 := m ((c.tc : Thread nD τ).loc main_arg1)
/-- The gates' bias, as the run starts. -/
abbrev argBG (c : Dev nD) : Vec Ideal S3x1024 .f32 := m ((c.tc : Thread nD τ).loc main_arg2)
/-- The first branch, as the run starts. -/
abbrev argYA (c : Dev nD) : Vec Ideal S8192x1024 .bf16 := m ((c.tc : Thread nD τ).loc main_arg3)
/-- The second branch, as the run starts. -/
abbrev argYB (c : Dev nD) : Vec Ideal S8192x1024 .bf16 := m ((c.tc : Thread nD τ).loc main_arg4)
/-- The third branch, as the run starts. -/
abbrev argYC (c : Dev nD) : Vec Ideal S8192x1024 .bf16 := m ((c.tc : Thread nD τ).loc main_arg5)

/-- The blocks' places at every grid point. -/
theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the merged rows' gradient. -/
theorem iblk0 (c : Dev nD) (t : Fin cfg0.N) (r : Fin 512) (d : Fin 1024) : iblk m c 0 t (ix2 r d) = argDM m c (ix2 (rowAt t r) d) := by
  blk_point [iblk, V, idx t]
/-- A block of the gates' arguments. -/
theorem iblk1 (c : Dev nD) (t : Fin cfg0.N) (r : Fin 512) (j : Fin 3072) : iblk m c 1 t (ix2 r j) = argZG m c (ix2 (rowAt t r) j) := by
  blk_point [iblk, V, idx t]
/-- The bias as one row. -/
theorem iblk2 (c : Dev nD) (t : Fin cfg0.N) (k : Fin 3) (d : Fin 1024) : iblk m c 2 t (ix2 (0 : Fin 1) (colG k d)) = argBG m c (ix2 k d) := by
  blk_point [iblk, V, idx t]
/-- A block of the first branch. -/
theorem iblk3 (c : Dev nD) (t : Fin cfg0.N) (r : Fin 512) (d : Fin 1024) : iblk m c 3 t (ix2 r d) = argYA m c (ix2 (rowAt t r) d) := by
  blk_point [iblk, V, idx t]
/-- A block of the second branch. -/
theorem iblk4 (c : Dev nD) (t : Fin cfg0.N) (r : Fin 512) (d : Fin 1024) : iblk m c 4 t (ix2 r d) = argYB m c (ix2 (rowAt t r) d) := by
  blk_point [iblk, V, idx t]
/-- A block of the third branch. -/
theorem iblk5 (c : Dev nD) (t : Fin cfg0.N) (r : Fin 512) (d : Fin 1024) : iblk m c 5 t (ix2 r d) = argYC m c (ix2 (rowAt t r) d) := by
  blk_point [iblk, V, idx t]

/-- The three branches' blocks. -/
abbrev yBlk (c : Dev nD) (t : Fin cfg0.N) : Fin 3 → Vec Ideal S512x1024 .bf16 := ![iblk m c 3 t, iblk m c 4 t, iblk m c 5 t]

/-- A block's product with a gate is the whole array's. -/
theorem dy_whole (c : Dev nD) (t : Fin cfg0.N) (k : Fin 3) (r : Fin 512) (d : Fin 1024) :
    k0_pay7 (F := Ideal) (iblk m c 0 t) (zOf (iblk m c 1 t) k) (bOf (iblk m c 2 t) k) (ix2 r d)
      = dyArr (argDM m c) (argZG m c) (argBG m c) k (ix2 (rowAt t r) d) := by
  refine (dy_apply (iblk m c 0 t) (iblk m c 1 t) (iblk m c 2 t) k r d).trans ?_
  exact congrArg₂ (· * ·) (iblk0 m c t r d) (congrArg₂ gateOf (iblk1 m c t r (colG k d)) (iblk2 m c t k d))
/-- A block's gate gradient is the whole array's. -/
theorem dz_whole (c : Dev nD) (t : Fin cfg0.N) (k : Fin 3) (r : Fin 512) (d : Fin 1024) :
    dzBlk (iblk m c 0 t) (iblk m c 1 t) (iblk m c 2 t) (yBlk m c t) r k d
      = dzAt (argDM m c) (argZG m c) (argBG m c) (argYA m c) (argYB m c) (argYC m c) (rowAt t r) k d := by
  have hy : yBlk m c t k (ix2 r d) = ![argYA m c, argYB m c, argYC m c] k (ix2 (rowAt t r) d) := by
    match k with
    | ⟨0, _⟩ => exact iblk3 m c t r d
    | ⟨1, _⟩ => exact iblk4 m c t r d
    | ⟨2, _⟩ => exact iblk5 m c t r d
  unfold dzBlk dzAt
  rw [hy]
  exact congrArg₂ (fun f x => f x) (congrArg₂ (fun x z => dzOf x _ z) (iblk0 m c t r d) (iblk1 m c t r (colG k d))) (iblk2 m c t k d)

/-- What every point leaves for the first branch. -/
theorem out6 (c : Dev nD) (t : Fin cfg0.N) : (outsAt0 m c t.val t.isLt).1 = k0_pay7 (F := Ideal) (iblk m c 0 t) (zOf (iblk m c 1 t) 0) (bOf (iblk m c 2 t) 0) := by
  by_cases h0 : t.val % 16 = 0
  · rw [outsAt0_A m c t h0 (by have : t.val < 16 := t.isLt; omega)]
    frame_out
    rfl
  · rw [outsAt0_B m c t h0 (by omega)]
    frame_out
    rfl
/-- What every point leaves for the second branch. -/
theorem out7 (c : Dev nD) (t : Fin cfg0.N) : (outsAt0 m c t.val t.isLt).2.1 = k0_pay7 (F := Ideal) (iblk m c 0 t) (zOf (iblk m c 1 t) 1) (bOf (iblk m c 2 t) 1) := by
  by_cases h0 : t.val % 16 = 0
  · rw [outsAt0_A m c t h0 (by have : t.val < 16 := t.isLt; omega)]
    frame_out
    rfl
  · rw [outsAt0_B m c t h0 (by omega)]
    frame_out
    rfl
/-- What every point leaves for the third branch. -/
theorem out8 (c : Dev nD) (t : Fin cfg0.N) : (outsAt0 m c t.val t.isLt).2.2.1 = k0_pay7 (F := Ideal) (iblk m c 0 t) (zOf (iblk m c 1 t) 2) (bOf (iblk m c 2 t) 2) := by
  by_cases h0 : t.val % 16 = 0
  · rw [outsAt0_A m c t h0 (by have : t.val < 16 := t.isLt; omega)]
    frame_out
    rfl
  · rw [outsAt0_B m c t h0 (by omega)]
    frame_out
    rfl
/-- What every point leaves for the gates. -/
theorem out9 (c : Dev nD) (t : Fin cfg0.N) (k : Fin 3) (r : Fin 512) (d : Fin 1024) :
    (outsAt0 m c t.val t.isLt).2.2.2.1 (ix2 r (colG k d)) = dzBlk (iblk m c 0 t) (iblk m c 1 t) (iblk m c 2 t) (yBlk m c t) r k d := by
  by_cases h0 : t.val % 16 = 0
  · rw [outsAt0_A m c t h0 (by have : t.val < 16 := t.isLt; omega)]
    frame_out
    exact canon_apply (iblk m c 0 t) (iblk m c 1 t) (iblk m c 2 t) (yBlk m c t) k r d
  · rw [outsAt0_B m c t h0 (by omega)]
    frame_out
    exact canon_apply (iblk m c 0 t) (iblk m c 1 t) (iblk m c 2 t) (yBlk m c t) k r d

/-- One point's sums over its rows. -/
def blkSum (c : Dev nD) (k : Fin 3) (d : Fin 1024) (t : Nat) (h : t < cfg0.N) : EReal :=
  ∑ r : Fin 512, dzBlk (iblk m c 0 ⟨t, h⟩) (iblk m c 1 ⟨t, h⟩) (iblk m c 2 ⟨t, h⟩) (yBlk m c ⟨t, h⟩) r k d

/-- The bias's sums after the first point. -/
theorem acc_A (c : Dev nD) (k : Fin 3) (d : Fin 1024) (t : Nat) (h : t < cfg0.N) (h0 : t % 16 = 0) :
    (outsAt0 m c t h).2.2.2.2 (ix2 (0 : Fin 1) (colG k d)) = blkSum m c k d t h := by
  rw [outsAt0_A m c ⟨t, h⟩ h0 (by have : t < 16 := h; show ¬ 1 ≤ t; omega)]
  frame_out
  exact pay3_apply (iblk m c 0 ⟨t, h⟩) (iblk m c 1 ⟨t, h⟩) (iblk m c 2 ⟨t, h⟩) (yBlk m c ⟨t, h⟩) k d
/-- The bias's sums after a later point. -/
theorem acc_B (c : Dev nD) (k : Fin 3) (d : Fin 1024) (t : Nat) (h : t < cfg0.N) (h0 : ¬ t % 16 = 0) :
    (outsAt0 m c t h).2.2.2.2 (ix2 (0 : Fin 1) (colG k d))
      = (outsAt0 m c (t - 1) (Nat.lt_of_le_of_lt (Nat.sub_le _ _) h)).2.2.2.2 (ix2 (0 : Fin 1) (colG k d)) + blkSum m c k d t h := by
  rw [outsAt0_B m c ⟨t, h⟩ h0 (by show 1 ≤ t; omega)]
  frame_out
  exact congrArg₂ (· + ·) (shapeCast_apply _ _ (ix2 (0 : Fin 1) (colG k d)) _ rfl)
    (pay3_apply (iblk m c 0 ⟨t, h⟩) (iblk m c 1 ⟨t, h⟩) (iblk m c 2 ⟨t, h⟩) (yBlk m c ⟨t, h⟩) k d)

/-- The first branch's array after the run. -/
theorem final6 (c : Dev nD) : (dats m 0 c).arrAt 6 cfg0.N = dyArr (argDM m c) (argZG m c) (argBG m c) 0 := by
  refine (dats m 0 c).arrAt_eq_of_covers 6 _ (by decide +kernel) fun t hf y => ?_
  blk_simp
  rw [after0_6, out6]
  obtain ⟨r, d, rfl⟩ : ∃ (r : Fin 512) (d : Fin 1024), y = ix2 r d := ⟨y 0, y 1, (ix2_eta y).symm⟩
  have hy : ((cfg0.win 6).blk t).view.emb (ix2 r d) = ix2 (rowAt t r) d := by
    blk_ext [idx t]
  exact (dy_whole m c t 0 r d).trans (congrArg (dyArr _ _ _ 0) hy.symm)
/-- The second branch's array after the run. -/
theorem final7 (c : Dev nD) : (dats m 0 c).arrAt 7 cfg0.N = dyArr (argDM m c) (argZG m c) (argBG m c) 1 := by
  refine (dats m 0 c).arrAt_eq_of_covers 7 _ (by decide +kernel) fun t hf y => ?_
  blk_simp
  rw [after0_7, out7]
  obtain ⟨r, d, rfl⟩ : ∃ (r : Fin 512) (d : Fin 1024), y = ix2 r d := ⟨y 0, y 1, (ix2_eta y).symm⟩
  have hy : ((cfg0.win 7).blk t).view.emb (ix2 r d) = ix2 (rowAt t r) d := by
    blk_ext [idx t]
  exact (dy_whole m c t 1 r d).trans (congrArg (dyArr _ _ _ 1) hy.symm)
/-- The third branch's array after the run. -/
theorem final8 (c : Dev nD) : (dats m 0 c).arrAt 8 cfg0.N = dyArr (argDM m c) (argZG m c) (argBG m c) 2 := by
  refine (dats m 0 c).arrAt_eq_of_covers 8 _ (by decide +kernel) fun t hf y => ?_
  blk_simp
  rw [after0_8, out8]
  obtain ⟨r, d, rfl⟩ : ∃ (r : Fin 512) (d : Fin 1024), y = ix2 r d := ⟨y 0, y 1, (ix2_eta y).symm⟩
  have hy : ((cfg0.win 8).blk t).view.emb (ix2 r d) = ix2 (rowAt t r) d := by
    blk_ext [idx t]
  exact (dy_whole m c t 2 r d).trans (congrArg (dyArr _ _ _ 2) hy.symm)
/-- The gates' array after the run. -/
theorem final9 (c : Dev nD) : (dats m 0 c).arrAt 9 cfg0.N = dzgArr (argDM m c) (argZG m c) (argBG m c) (argYA m c) (argYB m c) (argYC m c) := by
  refine (dats m 0 c).arrAt_eq_of_covers 9 _ (by decide +kernel) fun t hf y => ?_
  blk_simp
  rw [after0_9]
  obtain ⟨r, j, rfl⟩ : ∃ (r : Fin 512) (j : Fin 3072), y = ix2 r j := ⟨y 0, y 1, (ix2_eta y).symm⟩
  obtain ⟨k, d, rfl⟩ := colG_cases j
  have hy : ((cfg0.win 9).blk t).view.emb (ix2 r (colG k d)) = ix2 (rowAt t r) (colG k d) := by
    blk_ext [idx t]
  exact (out9 m c t k r d).trans ((dz_whole m c t k r d).trans ((dzgArr_at _ _ _ _ _ _ (rowAt t r) k d).symm.trans (congrArg (dzgArr _ _ _ _ _ _) hy.symm)))
/-- The bias's array after the run. -/
theorem final10 (c : Dev nD) : (dats m 0 c).arrAt 10 cfg0.N = dbgArr (argDM m c) (argZG m c) (argBG m c) (argYA m c) (argYB m c) (argYC m c) := by
  refine (dats m 0 c).arrAt_eq_of_covers 10 _ (by decide +kernel) fun t hf y => ?_
  have h1 : t.val % 16 = 15 := (flush0_10 t).mp hf
  blk_simp
  rw [after0_10]
  obtain ⟨r, j, rfl⟩ : ∃ (r : Fin 1) (j : Fin 3072), y = ix2 r j := ⟨y 0, y 1, (ix2_eta y).symm⟩
  obtain ⟨k, d, rfl⟩ := colG_cases j
  obtain rfl : r = 0 := Subsingleton.elim _ _
  have hy : ((cfg0.win 10).blk t).view.emb (ix2 (0 : Fin 1) (colG k d)) = ix2 (0 : Fin 1) (colG k d) := by
    blk_ext [idx t]
  refine Eq.trans ?_ ((dbgArr_at _ _ _ _ _ _ k d).symm.trans (congrArg (dbgArr _ _ _ _ _ _) hy.symm))
  refine sum_blocks 16 512 (by decide) (by decide) (fun n h => (outsAt0 m c n h).2.2.2.2 (ix2 (0 : Fin 1) (colG k d))) (blkSum m c k d)
    (acc_A m c k d) (acc_B m c k d) (fun R => dzAt (argDM m c) (argZG m c) (argBG m c) (argYA m c) (argYB m c) (argYC m c) R k d) t.val t.isLt h1 fun u hu _ => ?_
  refine Finset.sum_congr rfl fun r _ => (dz_whole m c ⟨u, hu⟩ k r d).trans ?_
  have hu' : u < 16 := hu
  exact congrArg (fun R => dzAt (argDM m c) (argZG m c) (argBG m c) (argYA m c) (argYB m c) (argYC m c) R k d)
    (Fin.ext (by show u * 512 + r.val = u % 16 * 512 + r.val; rw [Nat.mod_eq_of_lt hu']))

section
open Cert.MergeBwdRefIdeal.Read
variable (DM : Vec Ideal S8192x1024 .bf16) (ZG : Vec Ideal S8192x3072 .bf16) (BG : Vec Ideal S3x1024 .f32) (YA YB YC : Vec Ideal S8192x1024 .bf16)

/-- The reference's gates. -/
theorem v13_at (R : Fin 8192) (k : Fin 3) (d : Fin 1024) :
    val_main_v13 (F := Ideal) ZG BG (ix3 R k d) = gateOf (ZG (ix2 R (colG k d))) (BG (ix2 k d)) := by
  rw [val_main_v13_apply, val_main_v12_apply, val_main_v11_apply, val_main_v10_apply, val_main_v9_apply, val_main_v8_apply, val_main_v7_apply,
    val_main_v4_apply, val_main_v6_apply, val_main_v5_apply, val_main_v0_apply]
  have hz : idx_main_v4 (ix3 R k d) = ix2 R (colG k d) := funext fun a => by
    match a with
    | ⟨0, _⟩ => exact Fin.ext (by show ((R.val * 3 + k.val) * 1024 + d.val) / 3072 = R.val; omega)
    | ⟨1, _⟩ => exact Fin.ext (by show ((R.val * 3 + k.val) * 1024 + d.val) % 3072 = k.val * 1024 + d.val; omega)
  have hb : idx_main_v5 (idx_main_v6 (ix3 R k d)) = ix2 k d := funext fun a => by
    match a with
    | ⟨0, _⟩ => rfl
    | ⟨1, _⟩ => rfl
  rw [hz, hb]
  show Ideal.div (Ideal.ofBits .f32 0x3F800000#32) (Ideal.ofBits .f32 0x3F800000#32 + Ideal.exp (-(ZG (ix2 R (colG k d)) + BG (ix2 k d)))) = _
  rw [Cert.Point.ofBits_one]
  rfl

/-- One branch's gate as a matrix. -/
theorem gate_at (k : Fin 3) (o : Nat) (ho : o = k.val) (h) (h') (R : Fin 8192) (d : Fin 1024) :
    shapeCast Cert.MergeBwdRefIdeal.S8192x1024 (extractStridedSlice Cert.MergeBwdRefIdeal.S8192x1x1024 ![0, o, 0] (val_main_v13 (F := Ideal) ZG BG) h) h' (ix2 R d)
      = gateOf (ZG (ix2 R (colG k d))) (BG (ix2 k d)) := by
  subst ho
  rw [shapeCast_apply _ _ _ (ix3 R (0 : Fin 1) d) (by
      rw [Shape.rowMajor_val_three, Shape.rowMajor_val_two]; show (R.val * 1 + 0) * 1024 + d.val = R.val * 1024 + d.val; omega),
    extractStridedSlice_apply _ _ _ _ (ix3 R k d) (fun a => match a with
      | ⟨0, _⟩ => by show R.val = 0 + R.val; omega
      | ⟨1, _⟩ => by show k.val = k.val + 0; omega
      | ⟨2, _⟩ => by show d.val = 0 + d.val; omega)]
  exact v13_at ZG BG R k d

/-- The reference's gradient of a branch. -/
theorem dy_at (k : Fin 3) (o : Nat) (ho : o = k.val) (h) (h') (j : S8192x1024.Idx) :
    shapeCast Cert.MergeBwdRefIdeal.S8192x1024 (extractStridedSlice Cert.MergeBwdRefIdeal.S8192x1x1024 ![0, o, 0] (val_main_v13 (F := Ideal) ZG BG) h) h' j * DM j
      = dyArr DM ZG BG k j := by
  obtain ⟨R, d, rfl⟩ : ∃ (R : Fin 8192) (d : Fin 1024), j = ix2 R d := ⟨j 0, j 1, (ix2_eta j).symm⟩
  rw [gate_at ZG BG k o ho h h' R d, mul_comm]
  rfl

/-- The reference's results for the three branches. -/
theorem ref_ya : val_main_v48 (F := Ideal) DM ZG BG = dyArr DM ZG BG 0 := funext fun j => dy_at DM ZG BG 0 0 rfl _ _ j
/-- The second branch. -/
theorem ref_yb : val_main_v49 (F := Ideal) DM ZG BG = dyArr DM ZG BG 1 := funext fun j => dy_at DM ZG BG 1 1 rfl _ _ j
/-- The third branch. -/
theorem ref_yc : val_main_v50 (F := Ideal) DM ZG BG = dyArr DM ZG BG 2 := funext fun j => dy_at DM ZG BG 2 2 rfl _ _ j

/-- A branch's product with the merged rows' gradient, standing at its own place among the three. -/
theorem pad_in (x : Vec Ideal Cert.MergeBwdRefIdeal.S8192x1x1024 .f32) (v : Vec Ideal Cert.MergeBwdRefIdeal.S_ .f32) (hi : Fin 3 → Nat) (k : Fin 3) (h) (h') (R : Fin 8192) (d : Fin 1024) :
    pad Cert.MergeBwdRefIdeal.S8192x3x1024 ![0, k.val, 0] hi ![0, 0, 0] x v h h' (ix3 R k d) = x (ix3 R (0 : Fin 1) d) :=
  pad_apply_of_inside _ _ _ x v h h' _ (ix3 R (0 : Fin 1) d) fun a => match a with
    | ⟨0, _⟩ => by show R.val = 0 + R.val * (0 + 1); omega
    | ⟨1, _⟩ => by show k.val = k.val + 0 * (0 + 1); omega
    | ⟨2, _⟩ => by show d.val = 0 + d.val * (0 + 1); omega
/-- … and nothing at the others'. -/
theorem pad_out (x : Vec Ideal Cert.MergeBwdRefIdeal.S8192x1x1024 .f32) (hi : Fin 3 → Nat) (k l : Fin 3) (hkl : l ≠ k) (h) (h') (R : Fin 8192) (d : Fin 1024) :
    pad Cert.MergeBwdRefIdeal.S8192x3x1024 ![0, k.val, 0] hi ![0, 0, 0] x (constant (F := Ideal) Cert.MergeBwdRefIdeal.S_ .f32 0x00000000#32) h h' (ix3 R l d) = (0 : EReal) := by
  refine (pad_apply_of_not_inside _ _ _ x _ h h' _ (1 : Fin 3) ?_).trans Ideal.ofBits_zero_f32
  show ¬ (k.val ≤ l.val ∧ (l.val - k.val) % (0 + 1) = 0 ∧ (l.val - k.val) / (0 + 1) < 1)
  have := Fin.val_ne_of_ne hkl
  omega

/-- The branches' products with the merged rows' gradient, side by side. -/
theorem v42_at (R : Fin 8192) (k : Fin 3) (d : Fin 1024) :
    val_main_v42 (F := Ideal) DM YA YB YC (ix3 R k d) = DM (ix2 R d) * ![YA, YB, YC] k (ix2 R d) := by
  have hidx : (fun a => match a with | ⟨0, _⟩ => R | ⟨1, _⟩ => d : S8192x1024.Idx) = ix2 R d := funext fun a => by
    match a with
    | ⟨0, _⟩ => rfl
    | ⟨1, _⟩ => rfl
  rw [val_main_v42_apply, val_main_v37_apply]
  unfold val_main_v32 val_main_v36 val_main_v41 val_main_cst_2 val_main_cst_3 val_main_cst_4
  match k with
  | ⟨0, _⟩ =>
    refine (congrArg₂ (fun x y : EReal => x + y) (congrArg₂ (fun x y : EReal => x + y) (pad_out _ _ 2 0 (by decide) _ _ R d) (pad_out _ _ 1 0 (by decide) _ _ R d)) (pad_in _ _ _ 0 _ _ R d)).trans ?_
    rw [zero_add, zero_add, val_main_v40_apply]
    exact congrArg (fun i => DM i * YA i) hidx
  | ⟨1, _⟩ =>
    refine (congrArg₂ (fun x y : EReal => x + y) (congrArg₂ (fun x y : EReal => x + y) (pad_out _ _ 2 1 (by decide) _ _ R d) (pad_in _ _ _ 1 _ _ R d)) (pad_out _ _ 0 1 (by decide) _ _ R d)).trans ?_
    rw [zero_add, add_zero, val_main_v35_apply]
    exact congrArg (fun i => DM i * YB i) hidx
  | ⟨2, _⟩ =>
    refine (congrArg₂ (fun x y : EReal => x + y) (congrArg₂ (fun x y : EReal => x + y) (pad_in _ _ _ 2 _ _ R d) (pad_out _ _ 1 2 (by decide) _ _ R d)) (pad_out _ _ 0 2 (by decide) _ _ R d)).trans ?_
    rw [add_zero, add_zero, val_main_v31_apply]
    exact congrArg (fun i => DM i * YC i) hidx

/-- The reference's gate gradients. -/
theorem v43_at (R : Fin 8192) (k : Fin 3) (d : Fin 1024) :
    val_main_v43 (F := Ideal) DM ZG BG YA YB YC (ix3 R k d) = dzAt DM ZG BG YA YB YC R k d := by
  rw [val_main_v43_apply, v42_at, val_main_v16_apply, val_main_v15_apply, v13_at, val_main_v14_apply]
  show _ * (_ * (Ideal.ofBits .f32 0x3F800000#32 - _)) = _
  rw [Cert.Point.ofBits_one, ← mul_assoc]
  rfl

/-- The reference's result for the gates. -/
theorem ref_zg : val_main_v51 (F := Ideal) DM ZG BG YA YB YC = dzgArr DM ZG BG YA YB YC := by
  funext j
  obtain ⟨R, j, rfl⟩ : ∃ (R : Fin 8192) (k : Fin 3072), j = ix2 R k := ⟨j 0, j 1, (ix2_eta j).symm⟩
  obtain ⟨k, d, rfl⟩ := colG_cases j
  rw [dzgArr_at, val_main_v51_apply, val_main_v47_apply]
  refine Eq.trans (congrArg (val_main_v43 (F := Ideal) DM ZG BG YA YB YC) (funext fun a => ?_)) (v43_at DM ZG BG YA YB YC R k d)
  match a with
  | ⟨0, _⟩ => exact Fin.ext (by simp; omega)
  | ⟨1, _⟩ => exact Fin.ext (by simp; omega)
  | ⟨2, _⟩ => exact Fin.ext (by simp; omega)

/-- The reference's result for the bias. -/
theorem ref_bg : val_main_v52 (F := Ideal) DM ZG BG YA YB YC = dbgArr DM ZG BG YA YB YC := by
  funext j
  obtain ⟨R, j, rfl⟩ : ∃ (R : Fin 1) (k : Fin 3072), j = ix2 R k := ⟨j 0, j 1, (ix2_eta j).symm⟩
  obtain ⟨k, d, rfl⟩ := colG_cases j
  obtain rfl : R = 0 := Subsingleton.elim _ _
  rw [dbgArr_at, val_main_v52_apply, val_main_v46_apply, Fin.sum_univ_one, val_main_v45_apply, val_main_v44_apply]
  show Ideal.ofBits .f32 0x00000000#32 + (Ideal.ofBits .f32 0x00000000#32 + _) = _
  rw [Ideal.ofBits_zero_f32, zero_add, zero_add]
  refine Finset.sum_congr rfl fun R _ => ?_
  refine Eq.trans (congrArg (val_main_v43 (F := Ideal) DM ZG BG YA YB YC) (funext fun a => ?_)) (v43_at DM ZG BG YA YB YC R k d)
  match a with
  | ⟨0, _⟩ => rfl
  | ⟨1, _⟩ => exact Fin.ext (by simp; omega)
  | ⟨2, _⟩ => exact Fin.ext (by simp)
end

/-- The reference runs to its end and leaves its arguments and the counters as they were; it declares no semaphore. -/
theorem frame_ref : @Cert.quiescent_MergeBwdRefIdeal Cert.MergeBwdRefIdeal.Gen.facts := fun m g _ =>
  (θ_run Cert.MergeBwdRefIdeal.defs _ _).mono
    (fun r h => ⟨fun c => (h c).2.2.2.2.2, sem_eq_zero_of_no_sems (by decide) r.2⟩) (Cert.MergeBwdRefIdeal.Value.run (F := Ideal) m g)

/-- The kernel's gradients of the merge and the reference's agree. -/
theorem value : @Cert.algebraic_MergeBwdIdeal_MergeBwdRefIdeal Cert.MergeBwdIdeal.Gen.facts Cert.MergeBwdRefIdeal.Gen.facts := by
  pair_intro
  · run_from Cert.MergeBwdIdeal.Value.run_blocks m g
  · run_from Cert.MergeBwdRefIdeal.Value.run m' g'
    · rw [final6 m c, Cert.MergeBwdRefIdeal.Read.val_main_v48_eq]
      exact ref_ya _ _ _
    · rw [final7 m c, Cert.MergeBwdRefIdeal.Read.val_main_v49_eq]
      exact ref_yb _ _ _
    · rw [final8 m c, Cert.MergeBwdRefIdeal.Read.val_main_v50_eq]
      exact ref_yc _ _ _
    · rw [final9 m c, Cert.MergeBwdRefIdeal.Read.val_main_v51_eq]
      exact ref_zg _ _ _ _ _ _
    · rw [final10 m c, Cert.MergeBwdRefIdeal.Read.val_main_v52_eq]
      exact ref_bg _ _ _ _ _ _

end Cert.Point.MergeBwd

end
-- ==== Proof.Point.MergeFwd.lean ====
/- The forward pass of the merge of the three branches: their gated sum. -/
module

public import proofs.«01_k».proof.Defs
public import proofs.«01_k».proof.Proof.Gen.MergeFwd.Frame
public import proofs.«01_k».proof.Proof.Gen.MergeFwdIdeal.Value
public import proofs.«01_k».proof.Proof.Gen.MergeFwdRefIdeal.Read
public import proofs.«01_k».proof.Proof.Point.Rows

@[expose] public section

set_option maxRecDepth 16384

noncomputable section

namespace Cert.Point.MergeFwd

open Cert.Point (gateOf colG)
open Idealize.ShloMosaic Idealize.ShloMosaic.TcCoe Idealize.SL.Sem Cert.MergeFwdIdeal Cert.MergeFwdIdeal.Gen

section
variable (ZG : Vec Ideal S8192x3072 .bf16) (BG : Vec Ideal S3x1024 .f32) (YA YB YC : Vec Ideal S8192x1024 .bf16)
/-- The gate of branch `k`. -/
abbrev gAt (R : Fin 8192) (k : Fin 3) (d : Fin 1024) : EReal := gateOf (ZG (ix2 R (colG k d))) (BG (ix2 k d))
/-- The gated sum. -/
def mergeAt (R : Fin 8192) (d : Fin 1024) : EReal :=
  gAt ZG BG R 0 d * YA (ix2 R d) + gAt ZG BG R 1 d * YB (ix2 R d) + gAt ZG BG R 2 d * YC (ix2 R d)
/-- It as an array. -/
def mergeArr : Vec Ideal S8192x1024 .bf16 := fun j => mergeAt ZG BG YA YB YC (j 0) (j 1)
end

/-- Branch `k`'s columns lie within a row of all three. -/
theorem inb_z (k : Fin 3) : ∀ a : Fin S512x3072.rank, (![0, k.val * 1024] : Fin 2 → Nat) a + (![512, 1024] : Fin 2 → Nat) a ≤ S512x3072.size a := fun a => by
  match a with
  | ⟨0, _⟩ => show 0 + 512 ≤ 512; omega
  | ⟨1, _⟩ => show k.val * 1024 + 1024 ≤ 3072; omega
/-- The same for the bias. -/
theorem inb_b (k : Fin 3) : ∀ a : Fin S1x3072.rank, (![0, k.val * 1024] : Fin 2 → Nat) a + (![1, 1024] : Fin 2 → Nat) a ≤ S1x3072.size a := fun a => by
  match a with
  | ⟨0, _⟩ => show 0 + 1 ≤ 1; omega
  | ⟨1, _⟩ => show k.val * 1024 + 1024 ≤ 3072; omega
/-- The columns of branch `k` in the gates' arguments. -/
abbrev zOf (Z : Vec Ideal S512x3072 .bf16) (k : Fin 3) : Vec Ideal S512x1024 .bf16 := View.ld Z (Rect.unit ![0, k.val * 1024] ![512, 1024] (inb_z k))
/-- The columns of branch `k` in the bias. -/
abbrev bOf (B : Vec Ideal S1x3072 .f32) (k : Fin 3) : Vec Ideal S1x1024 .f32 := View.ld B (Rect.unit ![0, k.val * 1024] ![1, 1024] (inb_b k))

/-- A block of gates. -/
theorem gate_apply (z : Vec Ideal S512x1024 .bf16) (b : Vec Ideal S1x1024 .f32) (r : Fin 512) (d : Fin 1024) :
    divf (broadcast S512x1024 (Scalar.ofBits (F := Ideal) .f32 0x3F800000#32)) (addf (broadcast S512x1024 (Scalar.ofBits (F := Ideal) .f32 0x3F800000#32))
      (exp (subf (broadcast S512x1024 (Scalar.ofBits (F := Ideal) .f32 0x00000000#32)) (addf (extf (F := Ideal) .f32 z bitsLt_bf16_f32)
        (broadcastTo S512x1024 (shapeCast S1x1024 b shapeCasts_S1x1024_S1x1024) broadcasts_S1x1024_S512x1024))))) (ix2 r d)
      = gateOf (z (ix2 r d)) (b (ix2 (0 : Fin 1) d)) := by
  show Ideal.div (Ideal.ofBits .f32 0x3F800000#32) (Ideal.ofBits .f32 0x3F800000#32
    + Ideal.exp (Ideal.ofBits .f32 0x00000000#32 - (z (ix2 r d) + broadcastTo (⟨2, ![512, 1024]⟩ : Shape) (shapeCast S1x1024 b _) _ (ix2 r d)))) = _
  rw [Cert.Point.row_spread _ _ r d (by decide), shapeCast_apply _ _ _ (ix2 (0 : Fin 1) d) rfl, Cert.Point.ofBits_one, Ideal.ofBits_zero_f32, zero_sub]
  rfl

/-- A block of the gated sum. -/
theorem pay_apply (Z : Vec Ideal S512x3072 .bf16) (B : Vec Ideal S1x3072 .f32) (ya yb yc : Vec Ideal S512x1024 .bf16) (r : Fin 512) (d : Fin 1024) :
    k0_pay1 (F := Ideal) (k0_pay2 (zOf Z 0) (bOf B 0) ya (zOf Z 1) (bOf B 1) yb) (k0_pay3 (zOf Z 2)) (k0_pay4 (bOf B 2)) yc (ix2 r d)
      = gateOf (Z (ix2 r (colG 0 d))) (B (ix2 (0 : Fin 1) (colG 0 d))) * ya (ix2 r d) + gateOf (Z (ix2 r (colG 1 d))) (B (ix2 (0 : Fin 1) (colG 1 d))) * yb (ix2 r d)
        + gateOf (Z (ix2 r (colG 2 d))) (B (ix2 (0 : Fin 1) (colG 2 d))) * yc (ix2 r d) := by
  have g := fun k : Fin 3 => (gate_apply (zOf Z k) (bOf B k) r d).trans
    (congrArg₂ gateOf (Cert.Point.ld_branch Z _ (inb_z k) r d (colG k d) rfl) (Cert.Point.ld_branch B _ (inb_b k) (0 : Fin 1) d (colG k d) rfl))
  exact congrArg₂ (fun a b : EReal => a + b * yc (ix2 r d)) (congrArg₂ (fun a b : EReal => a * ya (ix2 r d) + b * yb (ix2 r d)) (g 0) (g 1)) (g 2)

variable (m : (ℓ : Loc nD τ sig) → Buf (Elt Ideal) ℓ)

/-- The gates' arguments, as the run starts. -/
abbrev argZG (c : Dev nD) : Vec Ideal S8192x3072 .bf16 := m ((c.tc : Thread nD τ).loc main_arg0)
/-- The gates' bias, as the run starts. -/
abbrev argBG (c : Dev nD) : Vec Ideal S3x1024 .f32 := m ((c.tc : Thread nD τ).loc main_arg1)
/-- The first branch, as the run starts. -/
abbrev argYA (c : Dev nD) : Vec Ideal S8192x1024 .bf16 := m ((c.tc : Thread nD τ).loc main_arg2)
/-- The second branch, as the run starts. -/
abbrev argYB (c : Dev nD) : Vec Ideal S8192x1024 .bf16 := m ((c.tc : Thread nD τ).loc main_arg3)
/-- The third branch, as the run starts. -/
abbrev argYC (c : Dev nD) : Vec Ideal S8192x1024 .bf16 := m ((c.tc : Thread nD τ).loc main_arg4)

/-- The blocks' places at every grid point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the gates' arguments. -/
theorem iblk0 (c : Dev nD) (t : Fin cfg0.N) (r : Fin 512) (j : Fin 3072) : iblk m c 0 t (ix2 r j) = argZG m c (ix2 (rowAt t r) j) := by
  blk_point [iblk, V, idx t]
/-- The bias as one row. -/
theorem iblk1 (c : Dev nD) (t : Fin cfg0.N) (k : Fin 3) (d : Fin 1024) : iblk m c 1 t (ix2 (0 : Fin 1) (colG k d)) = argBG m c (ix2 k d) := by
  blk_point [iblk, V, idx t]
/-- A block of the first branch. -/
theorem iblk2 (c : Dev nD) (t : Fin cfg0.N) (r : Fin 512) (d : Fin 1024) : iblk m c 2 t (ix2 r d) = argYA m c (ix2 (rowAt t r) d) := by
  blk_point [iblk, V, idx t]
/-- A block of the second branch. -/
theorem iblk3 (c : Dev nD) (t : Fin cfg0.N) (r : Fin 512) (d : Fin 1024) : iblk m c 3 t (ix2 r d) = argYB m c (ix2 (rowAt t r) d) := by
  blk_point [iblk, V, idx t]
/-- A block of the third branch. -/
theorem iblk4 (c : Dev nD) (t : Fin cfg0.N) (r : Fin 512) (d : Fin 1024) : iblk m c 4 t (ix2 r d) = argYC m c (ix2 (rowAt t r) d) := by
  blk_point [iblk, V, idx t]

/-- The merged rows after the run. -/
theorem final5 (c : Dev nD) : (dats m 0 c).arrAt 5 cfg0.N = mergeArr (argZG m c) (argBG m c) (argYA m c) (argYB m c) (argYC m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, (ix2_eta y).symm⟩
  have hy : ((cfg0.win 5).blk t).view.emb (ix2 r d) = ix2 (rowAt t r) d := by
    blk_ext [idx t]
  refine Eq.trans ?_ (congrArg (mergeArr _ _ _ _ _) hy.symm)
  unfold out0_5
  frame_out
  refine (pay_apply (iblk m c 0 t) (iblk m c 1 t) (iblk m c 2 t) (iblk m c 3 t) (iblk m c 4 t) r d).trans ?_
  have g := fun k : Fin 3 => congrArg₂ gateOf (iblk0 m c t r (colG k d)) (iblk1 m c t k d)
  have p := fun (k : Fin 3) {a b : EReal} (h : a = b) => congrArg₂ (fun x y : EReal => x * y) (g k) h
  exact congrArg₂ (fun x y : EReal => x + y) (congrArg₂ (fun x y : EReal => x + y) (p 0 (iblk2 m c t r d)) (p 1 (iblk3 m c t r d))) (p 2 (iblk4 m c t r d))

section
open Cert.MergeFwdRefIdeal.Read
variable (ZG : Vec Ideal S8192x3072 .bf16) (BG : Vec Ideal S3x1024 .f32) (YA YB YC : Vec Ideal S8192x1024 .bf16)

/-- The reference's gates. -/
theorem v13_at (R : Fin 8192) (k : Fin 3) (d : Fin 1024) : val_main_v13 (F := Ideal) ZG BG (ix3 R k d) = gAt ZG BG R k d := by
  rw [val_main_v13_apply, val_main_v12_apply, val_main_v11_apply, val_main_v10_apply, val_main_v9_apply, val_main_v8_apply, val_main_v7_apply,
    val_main_v4_apply, val_main_v6_apply, val_main_v5_apply, val_main_v0_apply]
  have hz : idx_main_v4 (ix3 R k d) = ix2 R (colG k d) := funext fun a => by
    match a with
    | ⟨0, _⟩ => exact Fin.ext (by show ((R.val * 3 + k.val) * 1024 + d.val) / 3072 = R.val; omega)
    | ⟨1, _⟩ => exact Fin.ext (by show ((R.val * 3 + k.val) * 1024 + d.val) % 3072 = k.val * 1024 + d.val; omega)
  have hb : idx_main_v5 (idx_main_v6 (ix3 R k d)) = ix2 k d := funext fun a => by
    match a with
    | ⟨0, _⟩ => rfl
    | ⟨1, _⟩ => rfl
  rw [hz, hb]
  show Ideal.div (Ideal.ofBits .f32 0x3F800000#32) (Ideal.ofBits .f32 0x3F800000#32 + Ideal.exp (-(ZG (ix2 R (colG k d)) + BG (ix2 k d)))) = _
  rw [Cert.Point.ofBits_one]
  rfl

/-- One branch's gate as a matrix. -/
theorem gate_at (k : Fin 3) (o : Nat) (ho : o = k.val) (h) (h') (R : Fin 8192) (d : Fin 1024) :
    shapeCast Cert.MergeFwdRefIdeal.S8192x1024 (extractStridedSlice Cert.MergeFwdRefIdeal.S8192x1x1024 ![0, o, 0] (val_main_v13 (F := Ideal) ZG BG) h) h' (ix2 R d)
      = gAt ZG BG R k d := by
  subst ho
  rw [shapeCast_apply _ _ _ (ix3 R (0 : Fin 1) d) (by
      rw [Shape.rowMajor_val_three, Shape.rowMajor_val_two]; show (R.val * 1 + 0) * 1024 + d.val = R.val * 1024 + d.val; omega),
    extractStridedSlice_apply _ _ _ _ (ix3 R k d) (fun a => match a with
      | ⟨0, _⟩ => by show R.val = 0 + R.val; omega
      | ⟨1, _⟩ => by show k.val = k.val + 0; omega
      | ⟨2, _⟩ => by show d.val = 0 + d.val; omega)]
  exact v13_at ZG BG R k d

/-- The reference's merged rows. -/
theorem ref : val_main_v25 (F := Ideal) ZG BG YA YB YC = mergeArr ZG BG YA YB YC := funext fun j => by
  obtain ⟨R, d, rfl⟩ : ∃ (R : Fin 8192) (d : Fin 1024), j = ix2 R d := ⟨j 0, j 1, (ix2_eta j).symm⟩
  have g := fun (k : Fin 3) (o : Nat) (ho : o = k.val) (h) (h') (y : EReal) => congrArg (fun z : EReal => z * y) (gate_at ZG BG k o ho h h' R d)
  exact congrArg₂ (fun x y : EReal => x + y) (congrArg₂ (fun x y : EReal => x + y) (g 0 0 rfl _ _ (YA (ix2 R d))) (g 1 1 rfl _ _ (YB (ix2 R d)))) (g 2 2 rfl _ _ (YC (ix2 R d)))
end

/-- The reference runs to its end and leaves its arguments and the counters as they were; it declares no semaphore. -/
theorem frame_ref : @Cert.quiescent_MergeFwdRefIdeal Cert.MergeFwdRefIdeal.Gen.facts := fun m g _ =>
  (θ_run Cert.MergeFwdRefIdeal.defs _ _).mono
    (fun r h => ⟨fun c => (h c).2, sem_eq_zero_of_no_sems (by decide) r.2⟩) (Cert.MergeFwdRefIdeal.Value.run (F := Ideal) m g)

/-- The kernel's merged rows and the reference's agree. -/
theorem value : @Cert.algebraic_MergeFwdIdeal_MergeFwdRefIdeal Cert.MergeFwdIdeal.Gen.facts Cert.MergeFwdRefIdeal.Gen.facts := by
  pair_intro
  · run_from Cert.MergeFwdIdeal.Value.run_blocks m g
  · run_from Cert.MergeFwdRefIdeal.Value.run m' g'
    rw [final5 m c, Cert.MergeFwdRefIdeal.Read.val_main_v25_eq]
    exact ref _ _ _ _ _

end Cert.Point.MergeFwd

end
-- ==== Proof.Point.Norm.lean ====
/- The root-mean-square norm of a row, forward and backward: the mathematics both norm passes share. -/
module

public import proofs.«01_k».proof.Proof.Point.Rows

@[expose] public section

noncomputable section

namespace Cert.Point

open Idealize.ShloMosaic Idealize.ShloMosaic.TcCoe

/-- The width of a row, as the program's constant. -/
abbrev cWidth : EReal := Ideal.ofBits .f32 0x44800000#32
/-- What is added to the mean square. -/
abbrev cEps : EReal := Ideal.ofBits .f32 0x358637BD#32
/-- Minus one half. -/
abbrev cHalf : EReal := Ideal.ofBits .f32 0xBF000000#32

/-- The width is 1024. -/
theorem cWidth_eq : cWidth = ((1024 : ℝ) : EReal) := by
  simp [cWidth, Ideal.ofBits, Ideal.ieee, -EReal.coe_mul]; norm_num
/-- The added constant is a positive real. -/
theorem cEps_eq : ∃ e : ℝ, 0 < e ∧ cEps = (e : EReal) := by
  refine ⟨_, ?_, by simp [cEps, Ideal.ofBits, Ideal.ieee, -EReal.coe_mul]; rfl⟩
  norm_num
/-- Minus one half as a real. -/
theorem cHalf_eq : cHalf = ((-(1 / 2) : ℝ) : EReal) := by
  simp [cHalf, Ideal.ofBits, Ideal.ieee, -EReal.coe_mul]; norm_num

section
variable {ι : Type} [Fintype ι]

/-- The mean square of a row, and the added constant. -/
def msq (x : ι → EReal) : EReal := Ideal.div (∑ d, x d * x d) cWidth + cEps
/-- The scale of a row: one over the root of the mean square. -/
def rsq (x : ι → EReal) : EReal := Ideal.rsqrt (msq x)
/-- What the row receives through its norm, `w` being what the normed row receives. -/
def normBack (x w : ι → EReal) (i : ι) : EReal :=
  rsq x * (w i - x i * rsq x * Ideal.div (∑ k, w k * (x k * rsq x)) cWidth)

/-- A nonnegative real factor goes into a sum. -/
theorem mul_sum_real (c : ℝ) (hc : 0 ≤ c) (s : Finset ι) (f : ι → EReal) : (c : EReal) * ∑ k ∈ s, f k = ∑ k ∈ s, (c : EReal) * f k := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A sum of reals is the real sum. -/
theorem sum_real (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- Half of a multiple twice over. -/
theorem half_twice (c : ℝ) (p : EReal) : ((-(c / 2) : ℝ) : EReal) * p + ((-(c / 2) : ℝ) : EReal) * p = -((c : EReal) * p) := by
  induction p with
  | coe p => rw [← EReal.coe_mul, ← EReal.coe_mul, ← EReal.coe_add, ← EReal.coe_neg]; congr 1; ring
  | top =>
    rcases lt_trichotomy c 0 with h | h | h
    · rw [EReal.coe_mul_top_of_neg h, EReal.coe_mul_top_of_pos (by linarith)]; rfl
    · subst h; simp
    · rw [EReal.coe_mul_top_of_pos h, EReal.coe_mul_top_of_neg (by linarith)]; rfl
  | bot =>
    rcases lt_trichotomy c 0 with h | h | h
    · rw [EReal.coe_mul_bot_of_neg h, EReal.coe_mul_bot_of_pos (by linarith)]; rfl
    · subst h; simp
    · rw [EReal.coe_mul_bot_of_pos h, EReal.coe_mul_bot_of_neg (by linarith)]; rfl

/-- A square is not negative. -/
theorem sq_nonneg' (x : EReal) : 0 ≤ x * x :=
  (le_total 0 x).elim (fun h => EReal.mul_nonneg_iff.mpr (.inl ⟨h, h⟩)) (fun h => EReal.mul_nonneg_iff.mpr (.inr ⟨h, h⟩))

/-- With an infinite entry the mean square is infinite. -/
theorem msq_top (x : ι → EReal) (k : ι) (h : x k * x k = ⊤) : msq x = ⊤ := by
  obtain ⟨e, he, hE⟩ := cEps_eq
  have hS : ∑ d, x d * x d = ⊤ := top_le_iff.mp (h ▸ Finset.single_le_sum (f := fun d => x d * x d) (fun d _ => sq_nonneg' (x d)) (Finset.mem_univ k))
  rw [msq, hS, cWidth_eq, Ideal.div_coe (by norm_num), EReal.top_mul_coe_of_pos (by norm_num), hE, EReal.top_add_coe]

/-- The norm's backward pass, as the rule for the root and the mean gives it: the slope of `1/√s` is `-(1/2)/(s√s)`, and a square has the factor twice. -/
theorem normBack_eq (x w : ι → EReal) (i : ι) :
    w i * rsq x + x i * Ideal.div ((∑ k, x k * w k) * (cHalf * Ideal.div (rsq x) (msq x))) cWidth
        + Ideal.div ((∑ k, x k * w k) * (cHalf * Ideal.div (rsq x) (msq x))) cWidth * x i
      = normBack x w i := by
  by_cases hx : ∃ k, x k * x k = ⊤
  · obtain ⟨k, hk⟩ := hx
    have hm := msq_top x k hk
    have hr : rsq x = 0 := by rw [rsq, hm]; rfl
    have hd : Ideal.div 0 (⊤ : EReal) = 0 := by rw [Ideal.div, if_neg (by simp), zero_mul]
    have hw : Ideal.div 0 cWidth = 0 := by rw [cWidth_eq, Ideal.div_coe (by norm_num), zero_mul]
    rw [normBack, hr, hm, hd]
    simp only [mul_zero, zero_mul, hw, add_zero]
  · have hreal : ∀ k, ∃ a : ℝ, x k = (a : EReal) := fun k => by
      rcases hxk : x k with _ | _ | a
      · exact absurd ⟨k, by rw [hxk]; rfl⟩ hx
      · exact absurd ⟨k, by rw [hxk]; rfl⟩ hx
      · exact ⟨a, rfl⟩
    choose a ha using hreal
    obtain ⟨e, he, hE⟩ := cEps_eq
    obtain rfl : x = fun k => (a k : EReal) := funext ha
    have hm : msq (fun k => (a k : EReal)) = (((∑ k, a k * a k) * (1 / 1024) + e : ℝ) : EReal) := by
      rw [msq, show (∑ d, (a d : EReal) * (a d : EReal)) = ((∑ k, a k * a k : ℝ) : EReal) from
        (Finset.sum_congr rfl fun k _ => (EReal.coe_mul _ _).symm).trans (sum_real _ _), cWidth_eq, Ideal.div_coe (by norm_num), hE,
        ← EReal.coe_mul, ← EReal.coe_add]
    have hpos : 0 < (∑ k, a k * a k) * (1 / 1024) + e := by
      have : 0 ≤ ∑ k, a k * a k := Finset.sum_nonneg fun k _ => mul_self_nonneg _
      positivity
    generalize (∑ k, a k * a k) * (1 / 1024) + e = s at hm hpos
    have hr : rsq (fun k => (a k : EReal)) = (((Real.sqrt s)⁻¹ : ℝ) : EReal) := by
      rw [rsq, hm, Ideal.rsqrt_coe, if_neg (not_lt.mpr hpos.le), if_neg hpos.ne']
    have hρ : 0 ≤ (Real.sqrt s)⁻¹ := inv_nonneg.mpr (Real.sqrt_nonneg s)
    have hs : 1 / s = (Real.sqrt s)⁻¹ * (Real.sqrt s)⁻¹ := by
      rw [← mul_inv, Real.mul_self_sqrt hpos.le, one_div]
    rw [normBack, hr, hm, Ideal.div_coe hpos.ne', hs, cWidth_eq, Ideal.div_coe (by norm_num), Ideal.div_coe (by norm_num), cHalf_eq]
    generalize (Real.sqrt s)⁻¹ = ρ at hρ
    have hP : ∑ k, w k * ((a k : EReal) * (ρ : EReal)) = (ρ : EReal) * ∑ k, (a k : EReal) * w k := by
      rw [mul_sum_real ρ hρ]
      exact Finset.sum_congr rfl fun k _ => by rw [mul_comm (w k), mul_comm (a k : EReal), mul_assoc]
    rw [hP]
    generalize ∑ k, (a k : EReal) * w k = p
    rw [sub_eq_add_neg, EReal.left_distrib_of_nonneg_of_ne_top (by exact_mod_cast hρ) (EReal.coe_ne_top ρ), add_assoc, mul_comm (w i)]
    congr 1
    rw [mul_neg]
    have e1 : (a i : EReal) * (p * (((-(1 / 2) : ℝ) : EReal) * ((ρ : EReal) * ((ρ * ρ : ℝ) : EReal))) * ((1 / 1024 : ℝ) : EReal))
        = ((-((a i * ρ * ρ * ρ * (1 / 1024)) / 2) : ℝ) : EReal) * p := by
      rw [show (-((a i * ρ * ρ * ρ * (1 / 1024)) / 2) : ℝ) = a i * ((-(1 / 2)) * (ρ * (ρ * ρ))) * (1 / 1024) by ring]
      push_cast
      ac_rfl
    have e2 : (ρ : EReal) * ((a i : EReal) * (ρ : EReal) * ((ρ : EReal) * p * ((1 / 1024 : ℝ) : EReal))) = ((a i * ρ * ρ * ρ * (1 / 1024) : ℝ) : EReal) * p := by
      push_cast
      ac_rfl
    rw [mul_comm _ (a i : EReal), e1, e2]
    exact half_twice _ p
end

section
variable {n : Nat}

/-- A row's mean, as a one-column matrix's entry. -/
theorem mean_apply (a : FVec Ideal ⟨2, ![n, 1024]⟩ .f32) (h h' h'' hs) (r : Fin n) :
    divf (shapeCast (⟨2, ![n, 1]⟩ : Shape) (multiReduction (F := Ideal) .add [1] ⟨1, ![n]⟩ a 0x00000000#32 h h' h'') hs)
        (broadcast (⟨2, ![n, 1]⟩ : Shape) (Scalar.ofBits (F := Ideal) .f32 0x44800000#32)) (ix2 r (0 : Fin 1))
      = Ideal.div (∑ d : Fin 1024, a (ix2 r d)) cWidth :=
  congrArg (fun z => Ideal.div z cWidth)
    ((col_of (e := .f32) (multiReduction (F := Ideal) .add [1] ⟨1, ![n]⟩ a 0x00000000#32 h h' h'') hs r).trans (rowsum_apply a h h' h'' r))

/-- A row's scale, as a one-column matrix's entry. -/
theorem rsq_apply (x : FVec Ideal ⟨2, ![n, 1024]⟩ .f32) (h h' h'' hs) (r : Fin n) :
    rsqrt (addf (divf (shapeCast (⟨2, ![n, 1]⟩ : Shape) (multiReduction (F := Ideal) .add [1] ⟨1, ![n]⟩ (mulf x x) 0x00000000#32 h h' h'') hs)
        (broadcast (⟨2, ![n, 1]⟩ : Shape) (Scalar.ofBits (F := Ideal) .f32 0x44800000#32)))
        (broadcast (⟨2, ![n, 1]⟩ : Shape) (Scalar.ofBits (F := Ideal) .f32 0x358637BD#32))) (ix2 r (0 : Fin 1))
      = rsq (fun d : Fin 1024 => (x (ix2 r d) : EReal)) :=
  congrArg (fun z => Ideal.rsqrt (z + cEps)) (mean_apply (mulf x x) h h' h'' hs r)
end

end Cert.Point

end
-- ==== Proof.Point.NormBwd.lean ====
/- The backward pass of the two norms: what the residual row, the branch and the two gains receive. -/
module

public import proofs.«01_k».proof.Defs
public import proofs.«01_k».proof.Proof.Gen.NormBwd.Frame
public import proofs.«01_k».proof.Proof.Gen.NormBwdIdeal.Value
public import proofs.«01_k».proof.Proof.Gen.NormBwdRefIdeal.Read
public import proofs.«01_k».proof.Proof.Point.Norm

@[expose] public section

set_option maxRecDepth 16384

noncomputable section

namespace Cert.Point.NormBwd

open Cert.Products (sum_blocks)
open Cert.Point (rsq msq cWidth cEps cHalf normBack)
open Idealize.ShloMosaic Idealize.ShloMosaic.TcCoe Idealize.SL.Sem Cert.NormBwdIdeal Cert.NormBwdIdeal.Gen

section
variable (DR : Vec Ideal S8192x1024 .f32) (DH : Vec Ideal S8192x1024 .bf16) (X : Vec Ideal S8192x1024 .f32) (GP : Vec Ideal S1024 .f32)
  (Y : Vec Ideal S8192x1024 .bf16) (GQ : Vec Ideal S1024 .f32)
/-- What the residual row receives: its own gradient and that through the norm. -/
def dAt (R : Fin 8192) (d : Fin 1024) : EReal := DR (ix2 R d) + normBack (fun k => X (ix2 R k)) (fun k => DH (ix2 R k) * GP (ix1 k)) d
/-- It as an array. -/
def dArr : Vec Ideal S8192x1024 .f32 := fun j => dAt DR DH X GP (j 0) (j 1)
/-- What the branch receives through its norm. -/
def dyArr : Vec Ideal S8192x1024 .bf16 := fun j => normBack (fun k => Y (ix2 (j 0) k)) (fun k => dAt DR DH X GP (j 0) k * GQ (ix1 k)) (j 1)
/-- A row's part of what a gain receives: its gradient against the normed row. -/
def gainAt (v x : Fin 1024 → EReal) (d : Fin 1024) : EReal := v d * (x d * rsq x)
/-- What the branch's gains receive. -/
def dgqArr : Vec Ideal S1x1024 .f32 := fun j => ∑ R : Fin 8192, gainAt (dAt DR DH X GP R) (fun k => Y (ix2 R k)) (j 1)
/-- What the residual's gains receive. -/
def dgpArr : Vec Ideal S1x1024 .f32 := fun j => ∑ R : Fin 8192, gainAt (fun k => DH (ix2 R k)) (fun k => X (ix2 R k)) (j 1)
end

section
variable (dr : Vec Ideal S512x1024 .f32) (dh : Vec Ideal S512x1024 .bf16) (x : Vec Ideal S512x1024 .f32) (gp : Vec Ideal S1x1024 .f32)
  (y : Vec Ideal S512x1024 .bf16) (gq : Vec Ideal S1x1024 .f32)

/-- A block of the residual rows' scales. -/
theorem pay2_apply (r : Fin 512) : k0_pay2 (F := Ideal) x (ix2 r (0 : Fin 1)) = rsq (fun k => x (ix2 r k)) :=
  Cert.Point.rsq_apply x reduces_S512x1024_S512 (.inl rfl) rfl shapeCasts_S512_S512x1 r
/-- A block of the branch's scales. -/
theorem pay5_apply (r : Fin 512) : k0_pay5 (F := Ideal) y (ix2 r (0 : Fin 1)) = rsq (fun k => y (ix2 r k)) :=
  Cert.Point.rsq_apply (k0_pay4 (F := Ideal) y) reduces_S512x1024_S512 (.inl rfl) rfl shapeCasts_S512_S512x1 r
/-- A block of normed residual rows. -/
theorem pay3_apply (r : Fin 512) (d : Fin 1024) : k0_pay3 (F := Ideal) x (ix2 r d) = x (ix2 r d) * rsq (fun k => x (ix2 r k)) :=
  congrArg (fun z : EReal => x (ix2 r d) * z) ((Cert.Point.col_spread (e := .f32) _ broadcasts_S512x1_S512x1024 r d (by decide)).trans (pay2_apply x r))
/-- A block of normed branch rows. -/
theorem pay6_apply (r : Fin 512) (d : Fin 1024) : k0_pay6 (F := Ideal) y (ix2 r d) = y (ix2 r d) * rsq (fun k => y (ix2 r k)) :=
  congrArg (fun z : EReal => y (ix2 r d) * z) ((Cert.Point.col_spread (e := .f32) _ broadcasts_S512x1_S512x1024 r d (by decide)).trans (pay5_apply y r))
/-- What the normed residual rows receive. -/
theorem pay8_apply (r : Fin 512) (d : Fin 1024) : k0_pay8 (F := Ideal) dh gp (ix2 r d) = dh (ix2 r d) * gp (ix2 (0 : Fin 1) d) :=
  congrArg (fun z : EReal => dh (ix2 r d) * z) ((Cert.Point.row_spread (e := .f32) _ broadcasts_S1x1024_S512x1024 r d (by decide)).trans
    (shapeCast_apply _ _ (ix2 (0 : Fin 1) d) _ rfl))

/-- A norm's backward pass over a block: `v` what the normed rows receive, `xh` the normed rows, `s` the scales. -/
theorem back_apply (s : FVec Ideal S512x1 .f32) (v xh : FVec Ideal S512x1024 .f32) (ξ w : Fin 1024 → EReal) (r : Fin 512) (d : Fin 1024)
    (hs : s (ix2 r (0 : Fin 1)) = rsq ξ) (hv : ∀ k, v (ix2 r k) = w k) (hx : ∀ k, xh (ix2 r k) = ξ k * rsq ξ) :
    mulf (broadcastTo S512x1024 s broadcasts_S512x1_S512x1024) (subf v (mulf xh (broadcastTo S512x1024
      (divf (shapeCast S512x1 (multiReduction (F := Ideal) .add [1] S512 (mulf v xh) 0x00000000#32 reduces_S512x1024_S512 (.inl rfl) rfl) shapeCasts_S512_S512x1)
        (broadcast S512x1 (Scalar.ofBits (F := Ideal) .f32 0x44800000#32))) broadcasts_S512x1_S512x1024))) (ix2 r d)
      = normBack ξ w d := by
  have hm := Cert.Point.mean_apply (mulf v xh) reduces_S512x1024_S512 (.inl rfl) rfl shapeCasts_S512_S512x1 r
  have e1 := (Cert.Point.col_spread (e := .f32) s broadcasts_S512x1_S512x1024 r d (by decide)).trans hs
  have e2 := (Cert.Point.col_spread (e := .f32) _ broadcasts_S512x1_S512x1024 r d (by decide)).trans hm
  refine (congrArg₂ (fun a b : EReal => a * (v (ix2 r d) - xh (ix2 r d) * b)) e1 e2).trans ?_
  show rsq ξ * (v (ix2 r d) - xh (ix2 r d) * Ideal.div (∑ k : Fin 1024, v (ix2 r k) * xh (ix2 r k)) cWidth) = _
  rw [hv d, hx d, Finset.sum_congr rfl fun k _ => congrArg₂ (fun a b : EReal => a * b) (hv k) (hx k)]
  rfl

/-- What the residual rows receive, over a block. -/
abbrev dPay : FVec Ideal S512x1024 .f32 := k0_pay10 (F := Ideal) dr (k0_pay2 x) (k0_pay8 dh gp) (k0_pay9 dh x gp)
/-- What a residual row of a block receives. -/
def dBlk (r : Fin 512) (d : Fin 1024) : EReal := dr (ix2 r d) + normBack (fun k => x (ix2 r k)) (fun k => dh (ix2 r k) * gp (ix2 (0 : Fin 1) k)) d
/-- The block's entries. -/
theorem dPay_apply (r : Fin 512) (d : Fin 1024) : dPay dr dh x gp (ix2 r d) = dBlk dr dh x gp r d :=
  congrArg (fun z : EReal => dr (ix2 r d) + z)
    (back_apply (k0_pay2 x) (k0_pay8 dh gp) (k0_pay3 x) _ _ r d (pay2_apply x r) (fun k => pay8_apply dh gp r k) (fun k => pay3_apply x r k))
/-- What the branch's rows receive, over a block. -/
theorem dyPay_apply (r : Fin 512) (d : Fin 1024) :
    k0_pay12 (F := Ideal) dr (k0_pay2 x) (k0_pay5 y) (k0_pay6 y) (k0_pay7 gq) (k0_pay8 dh gp) (k0_pay9 dh x gp) (ix2 r d)
      = normBack (fun k => y (ix2 r k)) (fun k => dBlk dr dh x gp r k * gq (ix2 (0 : Fin 1) k)) d :=
  back_apply (k0_pay5 y) (mulf (dPay dr dh x gp) (broadcastTo S512x1024 (k0_pay7 gq) broadcasts_S1x1024_S512x1024)) (k0_pay6 y) _ _ r d (pay5_apply y r)
    (fun k => congrArg₂ (fun a b : EReal => a * b) (dPay_apply dr dh x gp r k)
      ((Cert.Point.row_spread (e := .f32) _ broadcasts_S1x1024_S512x1024 r k (by decide)).trans (shapeCast_apply _ _ (ix2 (0 : Fin 1) k) _ rfl)))
    (fun k => pay6_apply y r k)
/-- A block's sum for the branch's gains. -/
theorem gqPay_apply (d : Fin 1024) :
    k0_pay13 (F := Ideal) dr (k0_pay2 x) (k0_pay6 y) (k0_pay8 dh gp) (k0_pay9 dh x gp) (ix2 (0 : Fin 1) d)
      = ∑ r : Fin 512, gainAt (dBlk dr dh x gp r) (fun k => y (ix2 r k)) d := by
  refine (Cert.Point.row_of (e := .f32) (multiReduction (F := Ideal) .add [0] S1024 (mulf (dPay dr dh x gp) (k0_pay6 y)) 0x00000000#32 reduces_S512x1024_S1024 (.inl rfl) rfl)
    shapeCasts_S1024_S1x1024 d).trans ((Cert.Point.colsum_apply _ _ _ _ d).trans (Finset.sum_congr rfl fun r _ => ?_))
  exact congrArg₂ (fun a b : EReal => a * b) (dPay_apply dr dh x gp r d) (pay6_apply y r d)
/-- A block's sum for the residual's gains. -/
theorem gpPay_apply (d : Fin 1024) :
    k0_pay11 (F := Ideal) (k0_pay1 dh) (k0_pay3 x) (ix2 (0 : Fin 1) d) = ∑ r : Fin 512, gainAt (fun k => dh (ix2 r k)) (fun k => x (ix2 r k)) d := by
  refine (Cert.Point.row_of (e := .f32) (multiReduction (F := Ideal) .add [0] S1024 (mulf (k0_pay1 dh) (k0_pay3 x)) 0x00000000#32 reduces_S512x1024_S1024 (.inl rfl) rfl)
    shapeCasts_S1024_S1x1024 d).trans ((Cert.Point.colsum_apply _ _ _ _ d).trans (Finset.sum_congr rfl fun r _ => ?_))
  exact congrArg (fun b : EReal => dh (ix2 r d) * b) (pay3_apply x r d)
end

variable (m : (ℓ : Loc nD τ sig) → Buf (Elt Ideal) ℓ)

/-- The residual's gradient, as the run starts. -/
abbrev argDR (c : Dev nD) : Vec Ideal S8192x1024 .f32 := m ((c.tc : Thread nD τ).loc main_arg0)
/-- The normed rows' gradient, as the run starts. -/
abbrev argDH (c : Dev nD) : Vec Ideal S8192x1024 .bf16 := m ((c.tc : Thread nD τ).loc main_arg1)
/-- The residual rows, as the run starts. -/
abbrev argX (c : Dev nD) : Vec Ideal S8192x1024 .f32 := m ((c.tc : Thread nD τ).loc main_arg2)
/-- The residual's gains, as the run starts. -/
abbrev argGP (c : Dev nD) : Vec Ideal S1024 .f32 := m ((c.tc : Thread nD τ).loc main_arg3)
/-- The branch's rows, as the run starts. -/
abbrev argY (c : Dev nD) : Vec Ideal S8192x1024 .bf16 := m ((c.tc : Thread nD τ).loc main_arg4)
/-- The branch's gains, as the run starts. -/
abbrev argGQ (c : Dev nD) : Vec Ideal S1024 .f32 := m ((c.tc : Thread nD τ).loc main_arg5)

/-- The blocks' places at every grid point. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0]
    ∧ win0_8.index t = ![0, 0] ∧ win0_9.index t = ![0, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the residual's gradient. -/
theorem iblk0 (c : Dev nD) (t : Fin cfg0.N) (r : Fin 512) (d : Fin 1024) : iblk m c 0 t (ix2 r d) = argDR m c (ix2 (rowAt t r) d) := by
  blk_point [iblk, V, idx t]
/-- A block of the normed rows' gradient. -/
theorem iblk1 (c : Dev nD) (t : Fin cfg0.N) (r : Fin 512) (d : Fin 1024) : iblk m c 1 t (ix2 r d) = argDH m c (ix2 (rowAt t r) d) := by
  blk_point [iblk, V, idx t]
/-- A block of the residual rows. -/
theorem iblk2 (c : Dev nD) (t : Fin cfg0.N) (r : Fin 512) (d : Fin 1024) : iblk m c 2 t (ix2 r d) = argX m c (ix2 (rowAt t r) d) := by
  blk_point [iblk, V, idx t]
/-- The residual's gains as one row. -/
theorem iblk3 (c : Dev nD) (t : Fin cfg0.N) (d : Fin 1024) : iblk m c 3 t (ix2 (0 : Fin 1) d) = argGP m c (ix1 d) := by
  blk_point [iblk, V, idx t]
/-- A block of the branch's rows. -/
theorem iblk4 (c : Dev nD) (t : Fin cfg0.N) (r : Fin 512) (d : Fin 1024) : iblk m c 4 t (ix2 r d) = argY m c (ix2 (rowAt t r) d) := by
  blk_point [iblk, V, idx t]
/-- The branch's gains as one row. -/
theorem iblk5 (c : Dev nD) (t : Fin cfg0.N) (d : Fin 1024) : iblk m c 5 t (ix2 (0 : Fin 1) d) = argGQ m c (ix1 d) := by
  blk_point [iblk, V, idx t]

/-- What a block's residual row receives is the whole array's. -/
theorem d_whole (c : Dev nD) (t : Fin cfg0.N) (r : Fin 512) (d : Fin 1024) :
    dBlk (iblk m c 0 t) (iblk m c 1 t) (iblk m c 2 t) (iblk m c 3 t) r d = dAt (argDR m c) (argDH m c) (argX m c) (argGP m c) (rowAt t r) d :=
  congrArg₂ (fun a b : EReal => a + b) (iblk0 m c t r d) (congrArg₂ (fun f g => normBack f g d) (funext fun k => iblk2 m c t r k)
    (funext fun k => congrArg₂ (fun a b : EReal => a * b) (iblk1 m c t r k) (iblk3 m c t k)))

/-- What every point leaves for the residual rows. -/
theorem out6 (c : Dev nD) (t : Fin cfg0.N) : (outsAt0 m c t.val t.isLt).1 = dPay (iblk m c 0 t) (iblk m c 1 t) (iblk m c 2 t) (iblk m c 3 t) := by
  by_cases h0 : t.val % 16 = 0
  · have ht : ¬ 1 ≤ t.val := by have : t.val < 16 := t.isLt; omega
    rw [outsAt0_A m c t h0 ht h0 ht]
    frame_out
  · rw [outsAt0_B m c t h0 (by omega) h0 (by omega)]
    frame_out
/-- What every point leaves for the branch's rows. -/
theorem out7 (c : Dev nD) (t : Fin cfg0.N) : (outsAt0 m c t.val t.isLt).2.1
    = k0_pay12 (F := Ideal) (iblk m c 0 t) (k0_pay2 (iblk m c 2 t)) (k0_pay5 (iblk m c 4 t)) (k0_pay6 (iblk m c 4 t)) (k0_pay7 (iblk m c 5 t))
        (k0_pay8 (iblk m c 1 t) (iblk m c 3 t)) (k0_pay9 (iblk m c 1 t) (iblk m c 2 t) (iblk m c 3 t)) := by
  by_cases h0 : t.val % 16 = 0
  · have ht : ¬ 1 ≤ t.val := by have : t.val < 16 := t.isLt; omega
    rw [outsAt0_A m c t h0 ht h0 ht]
    frame_out
  · rw [outsAt0_B m c t h0 (by omega) h0 (by omega)]
    frame_out

/-- One point's sums for the branch's gains. -/
def sumQ (c : Dev nD) (d : Fin 1024) (t : Nat) (h : t < cfg0.N) : EReal :=
  ∑ r : Fin 512, gainAt (dBlk (iblk m c 0 ⟨t, h⟩) (iblk m c 1 ⟨t, h⟩) (iblk m c 2 ⟨t, h⟩) (iblk m c 3 ⟨t, h⟩) r) (fun k => iblk m c 4 ⟨t, h⟩ (ix2 r k)) d
/-- One point's sums for the residual's gains. -/
def sumP (c : Dev nD) (d : Fin 1024) (t : Nat) (h : t < cfg0.N) : EReal :=
  ∑ r : Fin 512, gainAt (fun k => iblk m c 1 ⟨t, h⟩ (ix2 r k)) (fun k => iblk m c 2 ⟨t, h⟩ (ix2 r k)) d

/-- The gains' sums after the first point. -/
theorem acc_A (c : Dev nD) (d : Fin 1024) (t : Nat) (h : t < cfg0.N) (h0 : t % 16 = 0) :
    (outsAt0 m c t h).2.2.1 (ix2 (0 : Fin 1) d) = sumQ m c d t h ∧ (outsAt0 m c t h).2.2.2 (ix2 (0 : Fin 1) d) = sumP m c d t h := by
  have ht : ¬ 1 ≤ t := by have : t < 16 := h; omega
  rw [outsAt0_A m c ⟨t, h⟩ h0 ht h0 ht]
  constructor
  · frame_out
    exact gqPay_apply (iblk m c 0 ⟨t, h⟩) (iblk m c 1 ⟨t, h⟩) (iblk m c 2 ⟨t, h⟩) (iblk m c 3 ⟨t, h⟩) (iblk m c 4 ⟨t, h⟩) d
  · frame_out
    exact gpPay_apply (iblk m c 1 ⟨t, h⟩) (iblk m c 2 ⟨t, h⟩) d
/-- The gains' sums after a later point. -/
theorem acc_B (c : Dev nD) (d : Fin 1024) (t : Nat) (h : t < cfg0.N) (h0 : ¬ t % 16 = 0) :
    (outsAt0 m c t h).2.2.1 (ix2 (0 : Fin 1) d) = (outsAt0 m c (t - 1) (Nat.lt_of_le_of_lt (Nat.sub_le _ _) h)).2.2.1 (ix2 (0 : Fin 1) d) + sumQ m c d t h
      ∧ (outsAt0 m c t h).2.2.2 (ix2 (0 : Fin 1) d) = (outsAt0 m c (t - 1) (Nat.lt_of_le_of_lt (Nat.sub_le _ _) h)).2.2.2 (ix2 (0 : Fin 1) d) + sumP m c d t h := by
  have ht : 1 ≤ t := by omega
  rw [outsAt0_B m c ⟨t, h⟩ h0 ht h0 ht]
  constructor
  · frame_out
    exact congrArg₂ (· + ·) (shapeCast_apply _ _ (ix2 (0 : Fin 1) d) _ rfl)
      (gqPay_apply (iblk m c 0 ⟨t, h⟩) (iblk m c 1 ⟨t, h⟩) (iblk m c 2 ⟨t, h⟩) (iblk m c 3 ⟨t, h⟩) (iblk m c 4 ⟨t, h⟩) d)
  · frame_out
    exact congrArg₂ (· + ·) (shapeCast_apply _ _ (ix2 (0 : Fin 1) d) _ rfl) (gpPay_apply (iblk m c 1 ⟨t, h⟩) (iblk m c 2 ⟨t, h⟩) d)

/-- What the residual rows receive, after the run. -/
theorem final6 (c : Dev nD) : (dats m 0 c).arrAt 6 cfg0.N = dArr (argDR m c) (argDH m c) (argX m c) (argGP m c) := by
  refine (dats m 0 c).arrAt_eq_of_covers 6 _ (by decide +kernel) fun t hf y => ?_
  blk_simp
  rw [after0_6, out6]
  obtain ⟨r, d, rfl⟩ : ∃ (r : Fin 512) (d : Fin 1024), y = ix2 r d := ⟨y 0, y 1, (ix2_eta y).symm⟩
  have hy : ((cfg0.win 6).blk t).view.emb (ix2 r d) = ix2 (rowAt t r) d := by
    blk_ext [idx t]
  exact (dPay_apply _ _ _ _ r d).trans ((d_whole m c t r d).trans (congrArg (dArr _ _ _ _) hy.symm))
/-- What the branch's rows receive, after the run. -/
theorem final7 (c : Dev nD) : (dats m 0 c).arrAt 7 cfg0.N = dyArr (argDR m c) (argDH m c) (argX m c) (argGP m c) (argY m c) (argGQ m c) := by
  refine (dats m 0 c).arrAt_eq_of_covers 7 _ (by decide +kernel) fun t hf y => ?_
  blk_simp
  rw [after0_7, out7]
  obtain ⟨r, d, rfl⟩ : ∃ (r : Fin 512) (d : Fin 1024), y = ix2 r d := ⟨y 0, y 1, (ix2_eta y).symm⟩
  have hy : ((cfg0.win 7).blk t).view.emb (ix2 r d) = ix2 (rowAt t r) d := by
    blk_ext [idx t]
  refine (dyPay_apply (iblk m c 0 t) (iblk m c 1 t) (iblk m c 2 t) (iblk m c 3 t) (iblk m c 4 t) (iblk m c 5 t) r d).trans (Eq.trans ?_ (congrArg (dyArr _ _ _ _ _ _) hy.symm))
  exact congrArg₂ (fun f g => normBack f g d) (funext fun k => iblk4 m c t r k)
    (funext fun k => congrArg₂ (fun a b : EReal => a * b) (d_whole m c t r k) (iblk5 m c t k))
/-- What the branch's gains receive, after the run. -/
theorem final8 (c : Dev nD) : (dats m 0 c).arrAt 8 cfg0.N = dgqArr (argDR m c) (argDH m c) (argX m c) (argGP m c) (argY m c) := by
  refine (dats m 0 c).arrAt_eq_of_covers 8 _ (by decide +kernel) fun t hf y => ?_
  have h1 : t.val % 16 = 15 := (flush0_8 t).mp hf
  blk_simp
  rw [after0_8]
  obtain ⟨r, d, rfl⟩ : ∃ (r : Fin 1) (d : Fin 1024), y = ix2 r d := ⟨y 0, y 1, (ix2_eta y).symm⟩
  obtain rfl : r = 0 := Subsingleton.elim _ _
  have hy : ((cfg0.win 8).blk t).view.emb (ix2 (0 : Fin 1) d) = ix2 (0 : Fin 1) d := by
    blk_ext [idx t]
  refine Eq.trans ?_ (congrArg (dgqArr _ _ _ _ _) hy.symm)
  refine sum_blocks 16 512 (by decide) (by decide) (fun n h => (outsAt0 m c n h).2.2.1 (ix2 (0 : Fin 1) d)) (sumQ m c d)
    (fun n h h0 => (acc_A m c d n h h0).1) (fun n h h0 => (acc_B m c d n h h0).1)
    (fun R => gainAt (dAt (argDR m c) (argDH m c) (argX m c) (argGP m c) R) (fun k => argY m c (ix2 R k)) d) t.val t.isLt h1 fun u hu _ => ?_
  have hu' : u < 16 := hu
  refine Finset.sum_congr rfl fun r _ => (congrArg₂ (fun f g => gainAt f g d) (funext fun k => d_whole m c ⟨u, hu⟩ r k) (funext fun k => iblk4 m c ⟨u, hu⟩ r k)).trans ?_
  exact congrArg (fun R => gainAt (dAt (argDR m c) (argDH m c) (argX m c) (argGP m c) R) (fun k => argY m c (ix2 R k)) d)
    (Fin.ext (by show u * 512 + r.val = u % 16 * 512 + r.val; rw [Nat.mod_eq_of_lt hu']))
/-- What the residual's gains receive, after the run. -/
theorem final9 (c : Dev nD) : (dats m 0 c).arrAt 9 cfg0.N = dgpArr (argDH m c) (argX m c) := by
  refine (dats m 0 c).arrAt_eq_of_covers 9 _ (by decide +kernel) fun t hf y => ?_
  have h1 : t.val % 16 = 15 := (flush0_9 t).mp hf
  blk_simp
  rw [after0_9]
  obtain ⟨r, d, rfl⟩ : ∃ (r : Fin 1) (d : Fin 1024), y = ix2 r d := ⟨y 0, y 1, (ix2_eta y).symm⟩
  obtain rfl : r = 0 := Subsingleton.elim _ _
  have hy : ((cfg0.win 9).blk t).view.emb (ix2 (0 : Fin 1) d) = ix2 (0 : Fin 1) d := by
    blk_ext [idx t]
  refine Eq.trans ?_ (congrArg (dgpArr _ _) hy.symm)
  refine sum_blocks 16 512 (by decide) (by decide) (fun n h => (outsAt0 m c n h).2.2.2 (ix2 (0 : Fin 1) d)) (sumP m c d)
    (fun n h h0 => (acc_A m c d n h h0).2) (fun n h h0 => (acc_B m c d n h h0).2)
    (fun R => gainAt (fun k => argDH m c (ix2 R k)) (fun k => argX m c (ix2 R k)) d) t.val t.isLt h1 fun u hu _ => ?_
  have hu' : u < 16 := hu
  refine Finset.sum_congr rfl fun r _ => (congrArg₂ (fun f g => gainAt f g d) (funext fun k => iblk1 m c ⟨u, hu⟩ r k) (funext fun k => iblk2 m c ⟨u, hu⟩ r k)).trans ?_
  exact congrArg (fun R => gainAt (fun k => argDH m c (ix2 R k)) (fun k => argX m c (ix2 R k)) d)
    (Fin.ext (by show u * 512 + r.val = u % 16 * 512 + r.val; rw [Nat.mod_eq_of_lt hu']))

section
open Cert.NormBwdRefIdeal.Read
variable (DR : Vec Ideal S8192x1024 .f32) (DH : Vec Ideal S8192x1024 .bf16) (X : Vec Ideal S8192x1024 .f32) (GP : Vec Ideal S1024 .f32)
  (Y : Vec Ideal S8192x1024 .bf16) (GQ : Vec Ideal S1024 .f32)

/-- The mean squares, in the reference. -/
theorem v6_at (R : Fin 8192) (i : Cert.NormBwdRefIdeal.S8192x1.Idx) (hi : i = ix2 R (0 : Fin 1)) : val_main_v6 (F := Ideal) X i = msq (fun k => X (ix2 R k)) := by
  subst hi
  rw [val_main_v6_apply, val_main_v4_apply, val_main_v2_apply, val_main_v1_apply]
  show Ideal.div (Ideal.ofBits .f32 0x00000000#32 + _) cWidth + cEps = _
  rw [Ideal.ofBits_zero_f32, zero_add]
  refine congrArg (fun z => Ideal.div z cWidth + cEps) (Finset.sum_congr rfl fun k _ => ?_)
  have hk : idx_main_v1 (idx_main_v2 (ix2 R (0 : Fin 1))) k = ix2 R k := funext fun a => by
    match a with
    | ⟨0, _⟩ => rfl
    | ⟨1, _⟩ => rfl
  rw [hk]
  rfl
/-- The scales, in the reference. -/
theorem v7_at (R : Fin 8192) (i : Cert.NormBwdRefIdeal.S8192x1.Idx) (hi : i = ix2 R (0 : Fin 1)) : val_main_v7 (F := Ideal) X i = rsq (fun k => X (ix2 R k)) :=
  congrArg Ideal.rsqrt (v6_at X R i hi)
/-- What the normed rows receive, in the reference. -/
theorem v21_at (R : Fin 8192) (d : Fin 1024) : val_main_v21 (F := Ideal) DH GP (ix2 R d) = DH (ix2 R d) * GP (ix1 d) := by
  rw [val_main_v21_apply, val_main_v20_apply, val_main_v13_apply]
  have hg : idx_main_v13 (idx_main_v20 (ix2 R d)) = ix1 d := funext fun a => by
    match a with
    | ⟨0, _⟩ => rfl
  rw [hg]
  rfl
/-- The part every entry of a row receives through the scale, in the reference. -/
theorem v32_at (R : Fin 8192) (d : Fin 1024) : val_main_v32 (F := Ideal) DH X GP (ix2 R d)
    = Ideal.div ((∑ k : Fin 1024, X (ix2 R k) * (DH (ix2 R k) * GP (ix1 k))) * (cHalf * Ideal.div (rsq fun k => X (ix2 R k)) (msq fun k => X (ix2 R k)))) cWidth := by
  have hi : idx_main_v31 (idx_main_v32 (ix2 R d)) 0 = ix2 R (0 : Fin 1) := funext fun a => by
    match a with
    | ⟨0, _⟩ => rfl
    | ⟨1, _⟩ => rfl
  rw [val_main_v32_apply, val_main_v31_apply, Fin.sum_univ_one, hi, val_main_v30_apply, val_main_v28_apply, val_main_v25_apply, val_main_v24_apply, val_main_v10_apply,
    val_main_v8_apply, v6_at X R _ rfl, v7_at X R _ rfl]
  show Ideal.ofBits .f32 0x00000000#32 + Ideal.div ((Ideal.ofBits .f32 0x00000000#32 + _) * (cHalf * Ideal.div _ _)) cWidth = _
  rw [Ideal.ofBits_zero_f32, zero_add, zero_add]
  refine congrArg (fun z => Ideal.div (z * _) cWidth) (Finset.sum_congr rfl fun k _ => ?_)
  have hk : idx_main_v24 (idx_main_v25 (ix2 R (0 : Fin 1))) k = ix2 R k := funext fun a => by
    match a with
    | ⟨0, _⟩ => exact Fin.ext (by simp)
    | ⟨1, _⟩ => rfl
  rw [hk, val_main_v23_apply, v21_at]
  rfl
/-- What a row receives through its norm, in the reference. -/
theorem v36_at (R : Fin 8192) (d : Fin 1024) :
    val_main_v36 (F := Ideal) DH X GP (ix2 R d) = normBack (fun k => X (ix2 R k)) (fun k => DH (ix2 R k) * GP (ix1 k)) d := by
  rw [val_main_v36_apply, val_main_v34_apply, val_main_v35_apply, val_main_v33_apply, val_main_v27_apply, val_main_v26_apply, v21_at, v32_at,
    v7_at X R _ (funext fun a => by match a with | ⟨0, _⟩ => rfl | ⟨1, _⟩ => rfl)]
  exact Cert.Point.normBack_eq (fun k : Fin 1024 => (X (ix2 R k) : EReal)) (fun k => DH (ix2 R k) * GP (ix1 k)) d
/-- What a residual row receives, in the reference. -/
theorem v37_at (R : Fin 8192) (d : Fin 1024) : val_main_v37 (F := Ideal) DR DH X GP (ix2 R d) = dAt DR DH X GP R d :=
  congrArg (fun z : EReal => DR (ix2 R d) + z) (v36_at DH X GP R d)
/-- The reference's gradient of the residual rows. -/
theorem ref_d : val_main_v37 (F := Ideal) DR DH X GP = dArr DR DH X GP := funext fun j => by
  obtain ⟨R, d, rfl⟩ : ∃ (R : Fin 8192) (d : Fin 1024), j = ix2 R d := ⟨j 0, j 1, (ix2_eta j).symm⟩
  exact v37_at DR DH X GP R d

/-- The branch's norm is the same function of its rows and of what the residual rows receive. -/
theorem same_dy : val_main_v75 (F := Ideal) DR DH X GP Y GQ = val_main_v36 (F := Ideal) (val_main_v37 (F := Ideal) DR DH X GP) Y GQ := rfl
/-- So are its gains' sums. -/
theorem same_dg : val_main_v76 (F := Ideal) DR DH X GP Y = val_main_v77 (F := Ideal) (val_main_v37 (F := Ideal) DR DH X GP) Y := rfl

/-- The reference's gradient of the branch's rows. -/
theorem ref_dy : val_main_v75 (F := Ideal) DR DH X GP Y GQ = dyArr DR DH X GP Y GQ := funext fun j => by
  obtain ⟨R, d, rfl⟩ : ∃ (R : Fin 8192) (d : Fin 1024), j = ix2 R d := ⟨j 0, j 1, (ix2_eta j).symm⟩
  rw [same_dy]
  refine (v36_at (val_main_v37 (F := Ideal) DR DH X GP) Y GQ R d).trans ?_
  exact congrArg (fun w => normBack (fun k => (Y (ix2 R k) : EReal)) w d) (funext fun k => congrArg (fun z : EReal => z * GQ (ix1 k)) (v37_at DR DH X GP R k))

/-- The gains' sums, in the reference. -/
theorem v77_at (d : Fin 1024) : val_main_v77 (F := Ideal) DH X (ix2 (0 : Fin 1) d)
    = ∑ R : Fin 8192, gainAt (fun k => DH (ix2 R k)) (fun k => X (ix2 R k)) d := by
  rw [val_main_v77_apply, val_main_v22_apply, Fin.sum_univ_one, val_main_v19_apply, val_main_v18_apply]
  show Ideal.ofBits .f32 0x00000000#32 + (Ideal.ofBits .f32 0x00000000#32 + _) = _
  rw [Ideal.ofBits_zero_f32, zero_add, zero_add]
  refine Finset.sum_congr rfl fun R _ => ?_
  have hk : idx_main_v18 (idx_main_v19 (idx_main_v22 (idx_main_v77 (ix2 (0 : Fin 1) d)) 0)) R = ix2 R d := funext fun a => by
    match a with
    | ⟨0, _⟩ => rfl
    | ⟨1, _⟩ => exact Fin.ext (by simp)
  rw [hk, val_main_v17_apply, val_main_v12_apply, val_main_v11_apply, v7_at X R _ (funext fun a => by match a with | ⟨0, _⟩ => rfl | ⟨1, _⟩ => rfl)]
  exact mul_comm _ _
/-- The reference's gradient of the residual's gains. -/
theorem ref_dgp : val_main_v77 (F := Ideal) DH X = dgpArr DH X := funext fun j => by
  obtain ⟨R, d, rfl⟩ : ∃ (R : Fin 1) (d : Fin 1024), j = ix2 R d := ⟨j 0, j 1, (ix2_eta j).symm⟩
  obtain rfl : R = 0 := Subsingleton.elim _ _
  exact v77_at DH X d
/-- The reference's gradient of the branch's gains. -/
theorem ref_dgq : val_main_v76 (F := Ideal) DR DH X GP Y = dgqArr DR DH X GP Y := funext fun j => by
  obtain ⟨R, d, rfl⟩ : ∃ (R : Fin 1) (d : Fin 1024), j = ix2 R d := ⟨j 0, j 1, (ix2_eta j).symm⟩
  obtain rfl : R = 0 := Subsingleton.elim _ _
  rw [same_dg]
  refine (v77_at (val_main_v37 (F := Ideal) DR DH X GP) Y d).trans (Finset.sum_congr rfl fun R _ => ?_)
  exact congrArg (fun v => gainAt v (fun k => (Y (ix2 R k) : EReal)) d) (funext fun k => v37_at DR DH X GP R k)
end

/-- The reference runs to its end and leaves its arguments and the counters as they were; it declares no semaphore. -/
theorem frame_ref : @Cert.quiescent_NormBwdRefIdeal Cert.NormBwdRefIdeal.Gen.facts := fun m g _ =>
  (θ_run Cert.NormBwdRefIdeal.defs _ _).mono
    (fun r h => ⟨fun c => (h c).2.2.2.2, sem_eq_zero_of_no_sems (by decide) r.2⟩) (Cert.NormBwdRefIdeal.Value.run (F := Ideal) m g)

/-- The kernel's gradients of the two norms and the reference's agree. -/
theorem value : @Cert.algebraic_NormBwdIdeal_NormBwdRefIdeal Cert.NormBwdIdeal.Gen.facts Cert.NormBwdRefIdeal.Gen.facts := by
  pair_intro
  · run_from Cert.NormBwdIdeal.Value.run_blocks m g
  · run_from Cert.NormBwdRefIdeal.Value.run m' g'
    · rw [final6 m c, Cert.NormBwdRefIdeal.Read.val_main_v37_eq]
      exact ref_d _ _ _ _
    · rw [final7 m c, Cert.NormBwdRefIdeal.Read.val_main_v75_eq]
      obtain ⟨h0, h1, h2, h3, h4, h5⟩ := hagree c
      rw [h0, h1, h2, h3, h4, h5]
      exact ref_dy _ _ _ _ _ _
    · rw [final8 m c, Cert.NormBwdRefIdeal.Read.val_main_v76_eq]
      obtain ⟨h0, h1, h2, h3, h4, _⟩ := hagree c
      rw [h0, h1, h2, h3, h4]
      exact ref_dgq _ _ _ _ _
    · rw [final9 m c, Cert.NormBwdRefIdeal.Read.val_main_v77_eq]
      exact ref_dgp _ _

end Cert.Point.NormBwd

end
-- ==== Proof.Point.NormFwd.lean ====
/- The forward pass of the two norms: the residual row takes the normed branch, and the next layer the norm of the sum. -/
module

public import proofs.«01_k».proof.Defs
public import proofs.«01_k».proof.Proof.Gen.NormFwd.Frame
public import proofs.«01_k».proof.Proof.Gen.NormFwdIdeal.Value
public import proofs.«01_k».proof.Proof.Gen.NormFwdRefIdeal.Read
public import proofs.«01_k».proof.Proof.Point.Norm

@[expose] public section

set_option maxRecDepth 16384

noncomputable section

namespace Cert.Point.NormFwd

open Cert.Point (rsq msq cWidth cEps)
open Idealize.ShloMosaic Idealize.ShloMosaic.TcCoe Idealize.SL.Sem Cert.NormFwdIdeal Cert.NormFwdIdeal.Gen

/-- An entry of the normed row, times its gain. -/
def normed (x : Fin 1024 → EReal) (g : Fin 1024 → EReal) (d : Fin 1024) : EReal := x d * rsq x * g d

section
variable (X : Vec Ideal S8192x1024 .f32) (Y : Vec Ideal S8192x1024 .bf16) (GQ GP : Vec Ideal S1024 .f32)
/-- The new residual rows. -/
def newAt (R : Fin 8192) (d : Fin 1024) : EReal := X (ix2 R d) + normed (fun k => Y (ix2 R k)) (fun k => GQ (ix1 k)) d
/-- Them as an array. -/
def newArr : Vec Ideal S8192x1024 .f32 := fun j => newAt X Y GQ (j 0) (j 1)
/-- Their norm. -/
def hArr : Vec Ideal S8192x1024 .bf16 := fun j => normed (newAt X Y GQ (j 0)) (fun k => GP (ix1 k)) (j 1)
end

section
variable (x : Vec Ideal S512x1024 .f32) (y : Vec Ideal S512x1024 .bf16) (gq gp : Vec Ideal S1x1024 .f32)

/-- A block of the new residual rows. -/
theorem pay1_apply (r : Fin 512) (d : Fin 1024) :
    k0_pay1 (F := Ideal) x y gq (ix2 r d) = x (ix2 r d) + normed (fun k => y (ix2 r k)) (fun k => gq (ix2 (0 : Fin 1) k)) d := by
  have hr := Cert.Point.rsq_apply (extf (F := Ideal) .f32 y bitsLt_bf16_f32) reduces_S512x1024_S512 (.inl rfl) rfl shapeCasts_S512_S512x1 r
  refine congrArg (fun z : EReal => x (ix2 r d) + z) (congrArg₂ (fun a b : EReal => y (ix2 r d) * a * b) ?_ ?_)
  · exact (Cert.Point.col_spread (e := .f32) _ broadcasts_S512x1_S512x1024 r d (by decide)).trans hr
  · exact (Cert.Point.row_spread (e := .f32) _ broadcasts_S1x1024_S512x1024 r d (by decide)).trans (shapeCast_apply _ _ (ix2 (0 : Fin 1) d) _ rfl)
/-- A block of their norm. -/
theorem pay2_apply (r : Fin 512) (d : Fin 1024) :
    k0_pay2 (F := Ideal) x y gq gp (ix2 r d)
      = normed (fun k => k0_pay1 (F := Ideal) x y gq (ix2 r k)) (fun k => gp (ix2 (0 : Fin 1) k)) d := by
  have hr := Cert.Point.rsq_apply (k0_pay1 (F := Ideal) x y gq) reduces_S512x1024_S512 (.inl rfl) rfl shapeCasts_S512_S512x1 r
  refine congrArg₂ (fun a b : EReal => k0_pay1 (F := Ideal) x y gq (ix2 r d) * a * b) ?_ ?_
  · exact (Cert.Point.col_spread (e := .f32) _ broadcasts_S512x1_S512x1024 r d (by decide)).trans hr
  · exact (Cert.Point.row_spread (e := .f32) _ broadcasts_S1x1024_S512x1024 r d (by decide)).trans (shapeCast_apply _ _ (ix2 (0 : Fin 1) d) _ rfl)
end

variable (m : (ℓ : Loc nD τ sig) → Buf (Elt Ideal) ℓ)

/-- The residual rows, as the run starts. -/
abbrev argX (c : Dev nD) : Vec Ideal S8192x1024 .f32 := m ((c.tc : Thread nD τ).loc main_arg0)
/-- The branch's rows, as the run starts. -/
abbrev argY (c : Dev nD) : Vec Ideal S8192x1024 .bf16 := m ((c.tc : Thread nD τ).loc main_arg1)
/-- The first norm's gains, as the run starts. -/
abbrev argGQ (c : Dev nD) : Vec Ideal S1024 .f32 := m ((c.tc : Thread nD τ).loc main_arg2)
/-- The second norm's gains, as the run starts. -/
abbrev argGP (c : Dev nD) : Vec Ideal S1024 .f32 := m ((c.tc : Thread nD τ).loc main_arg3)

/-- The blocks' places at every grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the residual rows. -/
theorem iblk0 (c : Dev nD) (t : Fin cfg0.N) (r : Fin 512) (d : Fin 1024) : iblk m c 0 t (ix2 r d) = argX m c (ix2 (rowAt t r) d) := by
  blk_point [iblk, V, idx t]
/-- A block of the branch's rows. -/
theorem iblk1 (c : Dev nD) (t : Fin cfg0.N) (r : Fin 512) (d : Fin 1024) : iblk m c 1 t (ix2 r d) = argY m c (ix2 (rowAt t r) d) := by
  blk_point [iblk, V, idx t]
/-- The first gains as one row. -/
theorem iblk2 (c : Dev nD) (t : Fin cfg0.N) (d : Fin 1024) : iblk m c 2 t (ix2 (0 : Fin 1) d) = argGQ m c (ix1 d) := by
  blk_point [iblk, V, idx t]
/-- The second gains as one row. -/
theorem iblk3 (c : Dev nD) (t : Fin cfg0.N) (d : Fin 1024) : iblk m c 3 t (ix2 (0 : Fin 1) d) = argGP m c (ix1 d) := by
  blk_point [iblk, V, idx t]

/-- A block's new residual row is the whole array's. -/
theorem new_whole (c : Dev nD) (t : Fin cfg0.N) (r : Fin 512) (d : Fin 1024) :
    k0_pay1 (F := Ideal) (iblk m c 0 t) (iblk m c 1 t) (iblk m c 2 t) (ix2 r d) = newAt (argX m c) (argY m c) (argGQ m c) (rowAt t r) d := by
  refine (pay1_apply (iblk m c 0 t) (iblk m c 1 t) (iblk m c 2 t) r d).trans ?_
  exact congrArg₂ (fun a b : EReal => a + b) (iblk0 m c t r d)
    (congrArg₂ (fun f g => normed f g d) (funext fun k => iblk1 m c t r k) (funext fun k => iblk2 m c t k))

/-- The new residual rows after the run. -/
theorem final4 (c : Dev nD) : (dats m 0 c).arrAt 4 cfg0.N = newArr (argX m c) (argY m c) (argGQ m c) := by
  refine (dats m 0 c).arrAt_eq_of_covers 4 _ (by decide +kernel) fun t hf y => ?_
  blk_simp
  rw [after0_4]
  obtain ⟨r, d, rfl⟩ : ∃ (r : Fin 512) (d : Fin 1024), y = ix2 r d := ⟨y 0, y 1, (ix2_eta y).symm⟩
  have hy : ((cfg0.win 4).blk t).view.emb (ix2 r d) = ix2 (rowAt t r) d := by
    blk_ext [idx t]
  refine Eq.trans ?_ (congrArg (newArr _ _ _) hy.symm)
  unfold out0_4
  frame_out
  exact new_whole m c t r d
/-- Their norm after the run. -/
theorem final5 (c : Dev nD) : (dats m 0 c).arrAt 5 cfg0.N = hArr (argX m c) (argY m c) (argGQ m c) (argGP m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, (ix2_eta y).symm⟩
  have hy : ((cfg0.win 5).blk t).view.emb (ix2 r d) = ix2 (rowAt t r) d := by
    blk_ext [idx t]
  refine Eq.trans ?_ (congrArg (hArr _ _ _ _) hy.symm)
  unfold out0_5
  frame_out
  refine (pay2_apply (iblk m c 0 t) (iblk m c 1 t) (iblk m c 2 t) (iblk m c 3 t) r d).trans ?_
  exact congrArg₂ (fun f g => normed f g d) (funext fun k => new_whole m c t r k) (funext fun k => iblk3 m c t k)

section
open Cert.NormFwdRefIdeal.Read
variable (X : Vec Ideal S8192x1024 .f32) (Y : Vec Ideal S8192x1024 .bf16) (GQ GP : Vec Ideal S1024 .f32)

/-- The branch's scale, in the reference. -/
theorem v8_at (R : Fin 8192) (i : Cert.NormFwdRefIdeal.S8192x1.Idx) (hi : i = ix2 R (0 : Fin 1)) : val_main_v8 (F := Ideal) Y i = rsq (fun k => Y (ix2 R k)) := by
  subst hi
  rw [val_main_v8_apply, val_main_v7_apply, val_main_v5_apply, val_main_v3_apply, val_main_v2_apply]
  show Ideal.rsqrt (Ideal.div (Ideal.ofBits .f32 0x00000000#32 + _) cWidth + cEps) = _
  rw [Ideal.ofBits_zero_f32, zero_add]
  refine congrArg (fun z => Ideal.rsqrt (Ideal.div z cWidth + cEps)) (Finset.sum_congr rfl fun k _ => ?_)
  have hk : idx_main_v2 (idx_main_v3 (ix2 R (0 : Fin 1))) k = ix2 R k := funext fun a => by
    match a with
    | ⟨0, _⟩ => rfl
    | ⟨1, _⟩ => rfl
  rw [hk]
  rfl
/-- The new residual rows, in the reference. -/
theorem v14_at (R : Fin 8192) (d : Fin 1024) : val_main_v14 (F := Ideal) X Y GQ (ix2 R d) = newAt X Y GQ R d := by
  rw [val_main_v14_apply, val_main_v13_apply, val_main_v10_apply, val_main_v9_apply, val_main_v12_apply, val_main_v11_apply,
    v8_at Y R _ (funext fun a => by match a with | ⟨0, _⟩ => rfl | ⟨1, _⟩ => rfl)]
  have hg : idx_main_v11 (idx_main_v12 (ix2 R d)) = ix1 d := funext fun a => by
    match a with
    | ⟨0, _⟩ => rfl
  rw [hg]
  rfl
/-- The reference's new residual rows. -/
theorem ref_new : val_main_v14 (F := Ideal) X Y GQ = newArr X Y GQ := funext fun j => by
  obtain ⟨R, d, rfl⟩ : ∃ (R : Fin 8192) (d : Fin 1024), j = ix2 R d := ⟨j 0, j 1, (ix2_eta j).symm⟩
  exact v14_at X Y GQ R d
/-- The reference's norm of them. -/
theorem ref_h : val_main_v28 (F := Ideal) X Y GQ GP = hArr X Y GQ GP := funext fun j => by
  obtain ⟨R, d, rfl⟩ : ∃ (R : Fin 8192) (d : Fin 1024), j = ix2 R d := ⟨j 0, j 1, (ix2_eta j).symm⟩
  rw [val_main_v28_apply, val_main_v27_apply, val_main_v24_apply, val_main_v23_apply, val_main_v26_apply, val_main_v25_apply, v14_at,
    val_main_v22_apply, val_main_v21_apply, val_main_v19_apply, val_main_v17_apply, val_main_v16_apply]
  have hg : idx_main_v25 (idx_main_v26 (ix2 R d)) = ix1 d := funext fun a => by
    match a with
    | ⟨0, _⟩ => rfl
  rw [hg]
  show newAt X Y GQ R d * Ideal.rsqrt (Ideal.div (Ideal.ofBits .f32 0x00000000#32 + _) cWidth + cEps) * GP (ix1 d) = _
  rw [Ideal.ofBits_zero_f32, zero_add]
  refine congrArg (fun z => newAt X Y GQ R d * Ideal.rsqrt (Ideal.div z cWidth + cEps) * GP (ix1 d)) (Finset.sum_congr rfl fun k _ => ?_)
  have hk : idx_main_v16 (idx_main_v17 (idx_main_v23 (ix2 R d))) k = ix2 R k := funext fun a => by
    match a with
    | ⟨0, _⟩ => rfl
    | ⟨1, _⟩ => rfl
  rw [hk, val_main_v15_apply, v14_at]
  rfl
end

/-- The reference runs to its end and leaves its arguments and the counters as they were; it declares no semaphore. -/
theorem frame_ref : @Cert.quiescent_NormFwdRefIdeal Cert.NormFwdRefIdeal.Gen.facts := fun m g _ =>
  (θ_run Cert.NormFwdRefIdeal.defs _ _).mono
    (fun r h => ⟨fun c => (h c).2.2, sem_eq_zero_of_no_sems (by decide) r.2⟩) (Cert.NormFwdRefIdeal.Value.run (F := Ideal) m g)

/-- The kernel's two norms and the reference's agree. -/
theorem value : @Cert.algebraic_NormFwdIdeal_NormFwdRefIdeal Cert.NormFwdIdeal.Gen.facts Cert.NormFwdRefIdeal.Gen.facts := by
  pair_intro
  · run_from Cert.NormFwdIdeal.Value.run_blocks m g
  · run_from Cert.NormFwdRefIdeal.Value.run m' g'
    · rw [final4 m c, Cert.NormFwdRefIdeal.Read.val_main_v14_eq]
      exact ref_new _ _ _
    · rw [final5 m c, Cert.NormFwdRefIdeal.Read.val_main_v28_eq]
      exact ref_h _ _ _ _

end Cert.Point.NormFwd

end
-- ==== Proof.Xattn.XattnFwd.lean ====
/- The forward pass of the memory attention: each token's softmax over the 256 memory rows, against the values. -/
module

public import proofs.«01_k».proof.Defs
public import proofs.«01_k».proof.Proof.Gen.XattnFwd.Frame
public import proofs.«01_k».proof.Proof.Gen.XattnFwdIdeal.Value
public import proofs.«01_k».proof.Proof.Gen.XattnFwdRefIdeal.Read
public import proofs.«01_k».proof.Proof.Xattn.Arrays

@[expose] public section

set_option maxRecDepth 16384

noncomputable section

namespace Cert.Xattn.XattnFwd

open Idealize.ShloMosaic Idealize.ShloMosaic.TcCoe Idealize.SL.Sem Cert.XattnFwdIdeal Cert.XattnFwdIdeal.Gen
open Cert.XattnFwdRefIdeal.Read
open Cert.Xattn (Row Mat prob den wt top score row mat rowOf keysOf valsOf keysAt valsAt col colK colV tokRow memRow col_cases c16)

/-- One row of a head's output: the probabilities against the values. -/
def outRow (q : Row) (k v : Mat) (e : Fin 256) : EReal := ∑ m, prob q k m * v m e

/-- The output as an array: head by head along the columns. -/
def outArr (Q : Vec Ideal S8192x1024 .bf16) (KV : Vec Ideal S1024x2048 .bf16) : Vec Ideal S8192x1024 .bf16 := fun j =>
  have h0 : (j 0).val < 8192 := (j 0).isLt
  have h1 : (j 1).val < 1024 := (j 1).isLt
  outRow (rowOf Q (j 0) ⟨(j 1).val / 256, by omega⟩) (keysAt KV ⟨(j 0).val / 2048, by omega⟩ ⟨(j 1).val / 256, by omega⟩)
    (valsAt KV ⟨(j 0).val / 2048, by omega⟩ ⟨(j 1).val / 256, by omega⟩) ⟨(j 1).val % 256, Nat.mod_lt _ (by decide)⟩

/-- The output's array at a token row of a batch element and a head's column. -/
theorem outArr_at (Q : Vec Ideal S8192x1024 .bf16) (KV : Vec Ideal S1024x2048 .bf16) (R : Fin 8192) (b h : Fin 4) (e : Fin 256) (hb : R.val / 2048 = b.val) :
    outArr Q KV (ix2 R (col h e)) = outRow (rowOf Q R h) (keysAt KV b h) (valsAt KV b h) e := by
  have hh : (⟨(h.val * 256 + e.val) / 256, by omega⟩ : Fin 4) = h := Fin.ext (by show (h.val * 256 + e.val) / 256 = h.val; omega)
  have he : (⟨(h.val * 256 + e.val) % 256, Nat.mod_lt _ (by decide)⟩ : Fin 256) = e := Fin.ext (by show (h.val * 256 + e.val) % 256 = e.val; omega)
  have hb' : (⟨R.val / 2048, by omega⟩ : Fin 4) = b := Fin.ext hb
  show outRow (rowOf Q R ⟨(h.val * 256 + e.val) / 256, _⟩) (keysAt KV ⟨R.val / 2048, _⟩ ⟨(h.val * 256 + e.val) / 256, _⟩)
    (valsAt KV ⟨R.val / 2048, _⟩ ⟨(h.val * 256 + e.val) / 256, _⟩) ⟨(h.val * 256 + e.val) % 256, _⟩ = _
  rw [hh, he, hb']

/-- One head's output from its blocks, entry by entry. -/
theorem pay1_apply (q : FVec Ideal S1024x256 .bf16) (k v : FVec Ideal S256x256 .bf16) (r : Fin 1024) (e : Fin 256) :
    k0_pay1 (F := Ideal) q k v (ix2 r e) = outRow (row q r) (mat k) (mat v) e := by
  refine (Cert.Xattn.nn_apply (Cert.KernelIdeal.Gen.k0_pay6 (F := Ideal) q k) v r e).trans ?_
  exact Finset.sum_congr rfl fun m _ => congrArg (· * v (ix2 m e)) (Cert.Xattn.pay6_apply q k r m)

/-- What one point stores, at a head's column. -/
theorem out_apply (Q : FVec Ideal S1024x1024 .bf16) (KV : FVec Ideal S256x2048 .bf16) (h : Fin 4) (r : Fin 1024) (e : Fin 256) :
    out0_2 (F := Ideal) Q KV (ix2 r (col h e)) = outRow (rowOf Q r h) (keysOf KV h) (valsOf KV h) e := by
  have key : out0_2 (F := Ideal) Q KV (ix2 r (col h e))
      = k0_pay1 (F := Ideal) (Cert.Xattn.sl Q h) (Cert.Xattn.slK KV h) (Cert.Xattn.slV KV h) (ix2 r e) := by
    unfold out0_2
    frame_out
    exact Cert.Xattn.concat4_apply (fun h => k0_pay1 (F := Ideal) (Cert.Xattn.sl Q h) (Cert.Xattn.slK KV h) (Cert.Xattn.slV KV h)) h r e
  rw [key, pay1_apply, Cert.Xattn.row_sl, Cert.Xattn.mat_slK, Cert.Xattn.mat_slV]

variable (m : (ℓ : Loc nD τ sig) → Buf (Elt Ideal) ℓ)

/-- The queries, as the run starts. -/
abbrev argQ (c : Dev nD) : Vec Ideal S8192x1024 .bf16 := m ((c.tc : Thread nD τ).loc main_arg0)
/-- The keys and values side by side, as the run starts. -/
abbrev argKV (c : Dev nD) : Vec Ideal S1024x2048 .bf16 := m ((c.tc : Thread nD τ).loc main_arg1)

/-- The blocks' places at every grid point. -/
theorem idx : ∀ t : Fin cfg0.N, win0_0.index t = ![t.val, 0] ∧ win0_1.index t = ![t.val / 2, 0] ∧ win0_2.index t = ![t.val, 0] :=
  (by decide +kernel : ∀ t : Fin grid0.N, _)

/-- A query block at an index of the whole array. -/
theorem iblk0 (c : Dev nD) (t : Fin cfg0.N) (r : Fin 1024) (k : Fin 1024) :
    iblk m c 0 t (ix2 r k) = argQ m c (ix2 ⟨t.val * 1024 + r.val, by have : t.val < 8 := t.isLt; omega⟩ k) := by
  blk_point [iblk, V, idx t]
/-- A memory block at an index of the whole array. -/
theorem iblk1 (c : Dev nD) (t : Fin cfg0.N) (r : Fin 256) (k : Fin 2048) :
    iblk m c 1 t (ix2 r k) = argKV m c (ix2 ⟨t.val / 2 * 256 + r.val, by have : t.val < 8 := t.isLt; omega⟩ k) := by
  blk_point [iblk, V, idx t]

/-- The output's array after the run. -/
theorem final (c : Dev nD) : (dats m 0 c).arrAt 2 cfg0.N = outArr (argQ m c) (argKV m c) := by
  refine (dats m 0 c).arrAt_eq_of_covers 2 _ (by decide +kernel) fun t hf y => ?_
  blk_simp
  rw [after0_2]
  obtain ⟨r, k, rfl⟩ : ∃ (r : Fin 1024) (k : Fin 1024), y = ix2 r k := ⟨y 0, y 1, (ix2_eta y).symm⟩
  obtain ⟨h, e, rfl⟩ := col_cases k
  have ht : t.val < 8 := t.isLt
  have hy : ((cfg0.win 2).blk t).view.emb (ix2 r (col h e)) = ix2 (⟨t.val * 1024 + r.val, by omega⟩ : Fin 8192) (col h e) := by
    blk_ext [idx t]
  refine (out_apply (iblk m c 0 t) (iblk m c 1 t) h r e).trans (Eq.trans ?_ (congrArg (outArr (argQ m c) (argKV m c)) hy.symm))
  rw [outArr_at _ _ _ ⟨t.val / 2, by omega⟩ h e (by show (t.val * 1024 + r.val) / 2048 = t.val / 2; omega)]
  rw [show rowOf (iblk m c 0 t) r h = rowOf (argQ m c) ⟨t.val * 1024 + r.val, by omega⟩ h from funext fun e => iblk0 m c t r (col h e),
    show keysOf (iblk m c 1 t) h = keysAt (argKV m c) ⟨t.val / 2, by omega⟩ h from funext fun mm => funext fun e => iblk1 m c t mm (colK h e),
    show valsOf (iblk m c 1 t) h = valsAt (argKV m c) ⟨t.val / 2, by omega⟩ h from funext fun mm => funext fun e => iblk1 m c t mm (colV h e)]

section
variable (Q : Vec Ideal S8192x1024 .bf16) (KV : Vec Ideal S1024x2048 .bf16)

/-- The query row of token `s` of batch element `b` at head `h`. -/
abbrev qAt (b h : Fin 4) (s : Fin 2048) : Row := fun e => Q (ix2 (tokRow b s) (col h e))

/-- The queries, split into heads. -/
theorem v2_at (b : Fin 4) (s : Fin 2048) (h : Fin 4) (e : Fin 256) :
    val_main_v2 (F := Ideal) Q (ix4 b s h e) = Q (ix2 (tokRow b s) (col h e)) := by
  rw [val_main_v2_apply, val_main_v0_apply]
  refine congrArg Q (funext fun a => ?_)
  match a with
  | ⟨0, _⟩ => exact Fin.ext (by simp; omega)
  | ⟨1, _⟩ => exact Fin.ext (by simp; omega)

/-- The keys, split into heads. -/
theorem v6_at (b : Fin 4) (m : Fin 256) (h : Fin 4) (e : Fin 256) :
    val_main_v6 (F := Ideal) KV (ix4 b m h e) = KV (ix2 (memRow b m) (colK h e)) := by
  rw [val_main_v6_apply, val_main_v4_apply, val_main_v3_apply, val_main_v1_apply]
  refine congrArg KV (funext fun a => ?_)
  match a with
  | ⟨0, _⟩ => exact Fin.ext (by simp; omega)
  | ⟨1, _⟩ => exact Fin.ext (by simp; omega)

/-- The values, split into heads. -/
theorem v7_at (b : Fin 4) (m : Fin 256) (h : Fin 4) (e : Fin 256) :
    val_main_v7 (F := Ideal) KV (ix4 b m h e) = KV (ix2 (memRow b m) (colV h e)) := by
  rw [val_main_v7_apply, val_main_v5_apply, val_main_v3_apply, val_main_v1_apply]
  refine congrArg KV (funext fun a => ?_)
  match a with
  | ⟨0, _⟩ => exact Fin.ext (by simp; omega)
  | ⟨1, _⟩ => exact Fin.ext (by simp; omega)

/-- The scaled scores. -/
theorem v10_at (b h : Fin 4) (s : Fin 2048) (m : Fin 256) :
    val_main_v10 (F := Ideal) Q KV (ix4 b h s m) = score (qAt Q b h s) (keysAt KV b h) m := by
  rw [val_main_v10_apply, val_main_v8_apply, val_main_v9_apply]
  refine congrArg (fun z : EReal => z * c16) (Finset.sum_congr rfl fun e _ => ?_)
  exact congrArg₂ (fun x y : EReal => x * y) (v2_at Q b s h e) (v6_at KV b m h e)

/-- The row maxima. -/
theorem v11_at (b h : Fin 4) (s : Fin 2048) :
    val_main_v11 (F := Ideal) Q KV (ix3 b h s) = top (qAt Q b h s) (keysAt KV b h) := by
  unfold val_main_v11 top
  have hs := fun m => v10_at Q KV b h s m
  generalize val_main_v10 (F := Ideal) Q KV = x at hs ⊢
  refine (Host.reduce_eq_fold_single (a := (3 : Fin Cert.XattnFwdRefIdeal.S4x4x2048x256.rank)) (max : EReal → EReal → EReal) x _ _ (by decide) _ _).trans ?_
  rw [show val_main_cst_0 (F := Ideal) _ = (⊥ : EReal) from Cert.Xattn.ofBits_neg_inf]
  refine congrArg (fun f => Finset.fold max (⊥ : EReal) f (Finset.univ : Finset (Fin 256))) (funext fun m => ?_)
  refine Eq.trans (congrArg x (funext fun a => ?_)) (hs m)
  match a with
  | ⟨0, _⟩ => rfl
  | ⟨1, _⟩ => rfl
  | ⟨2, _⟩ => rfl
  | ⟨3, _⟩ => rfl

/-- The softmax weights. -/
theorem v17_at (b h : Fin 4) (s : Fin 2048) (m : Fin 256) :
    val_main_v17 (F := Ideal) Q KV (ix4 b h s m) = wt (qAt Q b h s) (keysAt KV b h) m := by
  rw [val_main_v17_apply, val_main_v16_apply, v10_at, val_main_v15_apply, val_main_v14_apply, val_main_v13_apply]
  have hi : idx_main_v14 (idx_main_v15 (ix4 b h s m)) = ix3 b h s := funext fun a => match a with
    | ⟨0, _⟩ => rfl
    | ⟨1, _⟩ => rfl
    | ⟨2, _⟩ => rfl
  rw [hi, v11_at, val_main_v12_apply]
  show Ideal.exp (_ - max (Ideal.ofBits .f32 0xFF800000#32) _) = _
  rw [Cert.Xattn.ofBits_neg_inf, max_eq_right bot_le]
  rfl

/-- The probabilities. -/
theorem v21_at (b h : Fin 4) (s : Fin 2048) (m : Fin 256) :
    val_main_v21 (F := Ideal) Q KV (ix4 b h s m) = prob (qAt Q b h s) (keysAt KV b h) m := by
  rw [val_main_v21_apply, v17_at, val_main_v20_apply, val_main_v19_apply, val_main_v18_apply,
    show val_main_cst_2 (F := Ideal) _ = (0 : EReal) from Ideal.ofBits_zero_f32, zero_add]
  refine congrArg (Ideal.div (wt (qAt Q b h s) (keysAt KV b h) m)) (Finset.sum_congr rfl fun j _ => ?_)
  refine Eq.trans (congrArg _ (funext fun a => ?_)) (v17_at Q KV b h s j)
  match a with
  | ⟨0, _⟩ => rfl
  | ⟨1, _⟩ => rfl
  | ⟨2, _⟩ => rfl
  | ⟨3, _⟩ => rfl

/-- The output, head by head, with the lanes before the tokens. -/
theorem v22_at (b h : Fin 4) (e : Fin 256) (s : Fin 2048) :
    val_main_v22 (F := Ideal) Q KV (ix4 b h e s) = outRow (qAt Q b h s) (keysAt KV b h) (valsAt KV b h) e := by
  rw [val_main_v22_apply]
  refine Finset.sum_congr rfl fun m _ => (mul_comm _ _).trans ?_
  refine congrArg₂ (fun x y : EReal => x * y) (Eq.trans (congrArg _ (funext fun a => ?_)) (v21_at Q KV b h s m))
    (Eq.trans (congrArg _ (funext fun a => ?_)) (v7_at KV b m h e))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- The reference's result. -/
theorem ref : val_main_v25 (F := Ideal) Q KV = outArr Q KV := by
  funext j
  obtain ⟨R, k, rfl⟩ : ∃ (R : Fin 8192) (k : Fin 1024), j = ix2 R k := ⟨j 0, j 1, (ix2_eta j).symm⟩
  obtain ⟨h, e, rfl⟩ := col_cases k
  obtain ⟨b, s, rfl⟩ : ∃ (b : Fin 4) (s : Fin 2048), R = tokRow b s := ⟨⟨R.val / 2048, by omega⟩, ⟨R.val % 2048, by omega⟩, Fin.ext (by simp; omega)⟩
  rw [outArr_at Q KV (tokRow b s) b h e (by show (b.val * 2048 + s.val) / 2048 = b.val; omega)]
  rw [val_main_v25_apply, val_main_v24_apply, val_main_v23_apply]
  refine Eq.trans (congrArg (val_main_v22 (F := Ideal) Q KV) (funext fun a => ?_)) (v22_at Q KV b h e s)
  match a with
  | ⟨0, _⟩ => exact Fin.ext (by simp; omega)
  | ⟨1, _⟩ => exact Fin.ext (by simp; omega)
  | ⟨2, _⟩ => exact Fin.ext (by simp; omega)
  | ⟨3, _⟩ => exact Fin.ext (by simp; omega)

end

/-- The reference runs to its end and leaves its arguments and the counters as they were; it declares no semaphore. -/
theorem frame_ref : @Cert.quiescent_XattnFwdRefIdeal Cert.XattnFwdRefIdeal.Gen.facts := fun m g _ =>
  (θ_run Cert.XattnFwdRefIdeal.defs _ _).mono
    (fun r h => ⟨fun c => (h c).2, sem_eq_zero_of_no_sems (by decide) r.2⟩) (Cert.XattnFwdRefIdeal.Value.run (F := Ideal) m g)

/-- The kernel's memory attention and the reference's agree. -/
theorem value : @Cert.algebraic_XattnFwdIdeal_XattnFwdRefIdeal Cert.XattnFwdIdeal.Gen.facts Cert.XattnFwdRefIdeal.Gen.facts := by
  pair_intro
  · run_from Cert.XattnFwdIdeal.Value.run_blocks m g
  · run_from Cert.XattnFwdRefIdeal.Value.run m' g'
    rw [final m c, val_main_v25_eq]
    exact ref _ _

end Cert.Xattn.XattnFwd

end
-- ==== Proof.Point.NormBwdLast.lean ====
/- The backward pass of the last norm of the step: what the branch and its gains receive. -/
module

public import proofs.«01_k».proof.Defs
public import proofs.«01_k».proof.Proof.Gen.NormBwdLast.Frame
public import proofs.«01_k».proof.Proof.Gen.NormBwdLastIdeal.Value
public import proofs.«01_k».proof.Proof.Gen.NormBwdLastRefIdeal.Read
public import proofs.«01_k».proof.Proof.Point.NormBwd

@[expose] public section

set_option maxRecDepth 16384

noncomputable section

namespace Cert.Point.NormBwdLast

open Cert.Products (sum_blocks)
open Cert.Point (rsq msq cWidth cEps cHalf normBack)
open Cert.Point.NormBwd (gainAt)
open Idealize.ShloMosaic Idealize.ShloMosaic.TcCoe Idealize.SL.Sem Cert.NormBwdLastIdeal Cert.NormBwdLastIdeal.Gen

section
variable (DR : Vec Ideal S8192x1024 .f32) (Y : Vec Ideal S8192x1024 .bf16) (G : Vec Ideal S1024 .f32)
/-- What the branch receives through its norm. -/
def dyArr : Vec Ideal S8192x1024 .bf16 := fun j => normBack (fun k => Y (ix2 (j 0) k)) (fun k => DR (ix2 (j 0) k) * G (ix1 k)) (j 1)
/-- What the gains receive. -/
def dgArr : Vec Ideal S1x1024 .f32 := fun j => ∑ R : Fin 8192, gainAt (fun k => DR (ix2 R k)) (fun k => Y (ix2 R k)) (j 1)
end

section
variable (dr : Vec Ideal S512x1024 .f32) (y : Vec Ideal S512x1024 .bf16) (g : Vec Ideal S1x1024 .f32)
/-- What the branch's rows receive, over a block. -/
theorem dyPay_apply (r : Fin 512) (d : Fin 1024) :
    k0_pay4 (F := Ideal) dr y g (ix2 r d) = normBack (fun k => y (ix2 r k)) (fun k => dr (ix2 r k) * g (ix2 (0 : Fin 1) k)) d :=
  Cert.Point.NormBwd.back_apply (k0_pay2 y) (Cert.NormBwdIdeal.Gen.k0_pay8 (F := Ideal) dr g) (k0_pay3 y) _ _ r d (Cert.Point.NormBwd.pay5_apply y r)
    (fun k => Cert.Point.NormBwd.pay8_apply dr g r k) (fun k => Cert.Point.NormBwd.pay6_apply y r k)
/-- A block's sum for the gains. -/
theorem gPay_apply (d : Fin 1024) :
    k0_pay5 (F := Ideal) dr y (ix2 (0 : Fin 1) d) = ∑ r : Fin 512, gainAt (fun k => dr (ix2 r k)) (fun k => y (ix2 r k)) d :=
  Cert.Point.NormBwd.gpPay_apply dr y d
end

variable (m : (ℓ : Loc nD τ sig) → Buf (Elt Ideal) ℓ)

/-- The residual's gradient, as the run starts. -/
abbrev argDR (c : Dev nD) : Vec Ideal S8192x1024 .f32 := m ((c.tc : Thread nD τ).loc main_arg0)
/-- The branch's rows, as the run starts. -/
abbrev argY (c : Dev nD) : Vec Ideal S8192x1024 .bf16 := m ((c.tc : Thread nD τ).loc main_arg1)
/-- The gains, as the run starts. -/
abbrev argG (c : Dev nD) : Vec Ideal S1024 .f32 := m ((c.tc : Thread nD τ).loc main_arg2)

/-- The blocks' places at every grid point. -/
theorem idx : ∀ t : Fin cfg0.N, win0_0.index t = ![t.val, 0] ∧ win0_1.index t = ![t.val, 0] ∧ win0_2.index t = ![0, 0] ∧ win0_3.index t = ![t.val, 0] ∧ win0_4.index t = ![0, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the residual's gradient. -/
theorem iblk0 (c : Dev nD) (t : Fin cfg0.N) (r : Fin 512) (d : Fin 1024) : iblk m c 0 t (ix2 r d) = argDR m c (ix2 (rowAt t r) d) := by
  blk_point [iblk, V, idx t]
/-- A block of the branch's rows. -/
theorem iblk1 (c : Dev nD) (t : Fin cfg0.N) (r : Fin 512) (d : Fin 1024) : iblk m c 1 t (ix2 r d) = argY m c (ix2 (rowAt t r) d) := by
  blk_point [iblk, V, idx t]
/-- The gains as one row. -/
theorem iblk2 (c : Dev nD) (t : Fin cfg0.N) (d : Fin 1024) : iblk m c 2 t (ix2 (0 : Fin 1) d) = argG m c (ix1 d) := by
  blk_point [iblk, V, idx t]

/-- What every point leaves for the branch's rows. -/
theorem out3 (c : Dev nD) (t : Fin cfg0.N) : (outsAt0 m c t.val t.isLt).1 = k0_pay4 (F := Ideal) (iblk m c 0 t) (iblk m c 1 t) (iblk m c 2 t) := by
  by_cases h0 : t.val % 16 = 0
  · have ht : ¬ 1 ≤ t.val := by have : t.val < 16 := t.isLt; omega
    rw [outsAt0_A m c t h0 ht]
    frame_out
  · rw [outsAt0_B m c t h0 (by omega)]
    frame_out

/-- One point's sums for the gains. -/
def sumG (c : Dev nD) (d : Fin 1024) (t : Nat) (h : t < cfg0.N) : EReal :=
  ∑ r : Fin 512, gainAt (fun k => iblk m c 0 ⟨t, h⟩ (ix2 r k)) (fun k => iblk m c 1 ⟨t, h⟩ (ix2 r k)) d
/-- The gains' sums after the first point. -/
theorem acc_A (c : Dev nD) (d : Fin 1024) (t : Nat) (h : t < cfg0.N) (h0 : t % 16 = 0) :
    (outsAt0 m c t h).2 (ix2 (0 : Fin 1) d) = sumG m c d t h := by
  have ht : ¬ 1 ≤ t := by have : t < 16 := h; omega
  rw [outsAt0_A m c ⟨t, h⟩ h0 ht]
  frame_out
  exact gPay_apply (iblk m c 0 ⟨t, h⟩) (iblk m c 1 ⟨t, h⟩) d
/-- The gains' sums after a later point. -/
theorem acc_B (c : Dev nD) (d : Fin 1024) (t : Nat) (h : t < cfg0.N) (h0 : ¬ t % 16 = 0) :
    (outsAt0 m c t h).2 (ix2 (0 : Fin 1) d) = (outsAt0 m c (t - 1) (Nat.lt_of_le_of_lt (Nat.sub_le _ _) h)).2 (ix2 (0 : Fin 1) d) + sumG m c d t h := by
  have ht : 1 ≤ t := by omega
  rw [outsAt0_B m c ⟨t, h⟩ h0 ht]
  frame_out
  exact congrArg₂ (· + ·) (shapeCast_apply _ _ (ix2 (0 : Fin 1) d) _ rfl) (gPay_apply (iblk m c 0 ⟨t, h⟩) (iblk m c 1 ⟨t, h⟩) d)

/-- What the branch's rows receive, after the run. -/
theorem final3 (c : Dev nD) : (dats m 0 c).arrAt 3 cfg0.N = dyArr (argDR m c) (argY m c) (argG m c) := by
  refine (dats m 0 c).arrAt_eq_of_covers 3 _ (by decide +kernel) fun t hf y => ?_
  blk_simp
  rw [after0_3, out3]
  obtain ⟨r, d, rfl⟩ : ∃ (r : Fin 512) (d : Fin 1024), y = ix2 r d := ⟨y 0, y 1, (ix2_eta y).symm⟩
  have hy : ((cfg0.win 3).blk t).view.emb (ix2 r d) = ix2 (rowAt t r) d := by
    blk_ext [idx t]
  refine (dyPay_apply (iblk m c 0 t) (iblk m c 1 t) (iblk m c 2 t) r d).trans (Eq.trans ?_ (congrArg (dyArr _ _ _) hy.symm))
  exact congrArg₂ (fun f g => normBack f g d) (funext fun k => iblk1 m c t r k)
    (funext fun k => congrArg₂ (fun a b : EReal => a * b) (iblk0 m c t r k) (iblk2 m c t k))
/-- What the gains receive, after the run. -/
theorem final4 (c : Dev nD) : (dats m 0 c).arrAt 4 cfg0.N = dgArr (argDR m c) (argY m c) := by
  refine (dats m 0 c).arrAt_eq_of_covers 4 _ (by decide +kernel) fun t hf y => ?_
  have h1 : t.val % 16 = 15 := (flush0_4 t).mp hf
  blk_simp
  rw [after0_4]
  obtain ⟨r, d, rfl⟩ : ∃ (r : Fin 1) (d : Fin 1024), y = ix2 r d := ⟨y 0, y 1, (ix2_eta y).symm⟩
  obtain rfl : r = 0 := Subsingleton.elim _ _
  have hy : ((cfg0.win 4).blk t).view.emb (ix2 (0 : Fin 1) d) = ix2 (0 : Fin 1) d := by
    blk_ext [idx t]
  refine Eq.trans ?_ (congrArg (dgArr _ _) hy.symm)
  refine sum_blocks 16 512 (by decide) (by decide) (fun n h => (outsAt0 m c n h).2 (ix2 (0 : Fin 1) d)) (sumG m c d)
    (acc_A m c d) (acc_B m c d)
    (fun R => gainAt (fun k => argDR m c (ix2 R k)) (fun k => argY m c (ix2 R k)) d) t.val t.isLt h1 fun u hu _ => ?_
  have hu' : u < 16 := hu
  refine Finset.sum_congr rfl fun r _ => (congrArg₂ (fun f g => gainAt f g d) (funext fun k => iblk0 m c ⟨u, hu⟩ r k) (funext fun k => iblk1 m c ⟨u, hu⟩ r k)).trans ?_
  exact congrArg (fun R => gainAt (fun k => argDR m c (ix2 R k)) (fun k => argY m c (ix2 R k)) d)
    (Fin.ext (by show u * 512 + r.val = u % 16 * 512 + r.val; rw [Nat.mod_eq_of_lt hu']))

section
open Cert.NormBwdLastRefIdeal.Read
variable (DR : Vec Ideal S8192x1024 .f32) (Y : Vec Ideal S8192x1024 .bf16) (G : Vec Ideal S1024 .f32)
/-- The reference's gradient of the branch's rows is the same function as that of a norm between two sub-layers. -/
theorem ref_dy : val_main_v37 (F := Ideal) DR Y G = dyArr DR Y G := funext fun j => by
  obtain ⟨R, d, rfl⟩ : ∃ (R : Fin 8192) (d : Fin 1024), j = ix2 R d := ⟨j 0, j 1, (ix2_eta j).symm⟩
  exact Cert.Point.NormBwd.v36_at DR Y G R d
/-- So is its gradient of the gains. -/
theorem ref_dg : val_main_v38 (F := Ideal) DR Y = dgArr DR Y := Cert.Point.NormBwd.ref_dgp DR Y
end

/-- The reference runs to its end and leaves its arguments and the counters as they were; it declares no semaphore. -/
theorem frame_ref : @Cert.quiescent_NormBwdLastRefIdeal Cert.NormBwdLastRefIdeal.Gen.facts := fun m g _ =>
  (θ_run Cert.NormBwdLastRefIdeal.defs _ _).mono
    (fun r h => ⟨fun c => (h c).2.2, sem_eq_zero_of_no_sems (by decide) r.2⟩) (Cert.NormBwdLastRefIdeal.Value.run (F := Ideal) m g)

/-- The kernel's gradients of the last norm and the reference's agree. -/
theorem value : @Cert.algebraic_NormBwdLastIdeal_NormBwdLastRefIdeal Cert.NormBwdLastIdeal.Gen.facts Cert.NormBwdLastRefIdeal.Gen.facts := by
  pair_intro
  · run_from Cert.NormBwdLastIdeal.Value.run_blocks m g
  · run_from Cert.NormBwdLastRefIdeal.Value.run m' g'
    · rw [final3 m c, Cert.NormBwdLastRefIdeal.Read.val_main_v37_eq]
      obtain ⟨h0, h1, h2⟩ := hagree c
      rw [h0, h1, h2]
      exact ref_dy _ _ _
    · rw [final4 m c, Cert.NormBwdLastRefIdeal.Read.val_main_v38_eq]
      exact ref_dg _ _

end Cert.Point.NormBwdLast

end
-- ==== Proof.Point.NormBwdFirst.lean ====
/- The backward pass of the first norm of the step: what the step's input and the gains receive. -/
module

public import proofs.«01_k».proof.Defs
public import proofs.«01_k».proof.Proof.Gen.NormBwdFirst.Frame
public import proofs.«01_k».proof.Proof.Gen.NormBwdFirstIdeal.Value
public import proofs.«01_k».proof.Proof.Gen.NormBwdFirstRefIdeal.Read
public import proofs.«01_k».proof.Proof.Point.NormBwd

@[expose] public section

set_option maxRecDepth 16384

noncomputable section

namespace Cert.Point.NormBwdFirst

open Cert.Products (sum_blocks)
open Cert.Point (rsq msq cWidth cEps cHalf normBack)
open Cert.Point.NormBwd (gainAt dAt dBlk)
open Idealize.ShloMosaic Idealize.ShloMosaic.TcCoe Idealize.SL.Sem Cert.NormBwdFirstIdeal Cert.NormBwdFirstIdeal.Gen

variable (m : (ℓ : Loc nD τ sig) → Buf (Elt Ideal) ℓ)

/-- The residual's gradient, as the run starts. -/
abbrev argDR (c : Dev nD) : Vec Ideal S8192x1024 .f32 := m ((c.tc : Thread nD τ).loc main_arg0)
/-- The normed rows' gradient, as the run starts. -/
abbrev argDH (c : Dev nD) : Vec Ideal S8192x1024 .bf16 := m ((c.tc : Thread nD τ).loc main_arg1)
/-- The step's input rows, as the run starts. -/
abbrev argX (c : Dev nD) : Vec Ideal S8192x1024 .f32 := m ((c.tc : Thread nD τ).loc main_arg2)
/-- The gains, as the run starts. -/
abbrev argG (c : Dev nD) : Vec Ideal S1024 .f32 := m ((c.tc : Thread nD τ).loc main_arg3)

/-- The blocks' places at every grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the residual's gradient. -/
theorem iblk0 (c : Dev nD) (t : Fin cfg0.N) (r : Fin 512) (d : Fin 1024) : iblk m c 0 t (ix2 r d) = argDR m c (ix2 (rowAt t r) d) := by
  blk_point [iblk, V, idx t]
/-- A block of the normed rows' gradient. -/
theorem iblk1 (c : Dev nD) (t : Fin cfg0.N) (r : Fin 512) (d : Fin 1024) : iblk m c 1 t (ix2 r d) = argDH m c (ix2 (rowAt t r) d) := by
  blk_point [iblk, V, idx t]
/-- A block of the input rows. -/
theorem iblk2 (c : Dev nD) (t : Fin cfg0.N) (r : Fin 512) (d : Fin 1024) : iblk m c 2 t (ix2 r d) = argX m c (ix2 (rowAt t r) d) := by
  blk_point [iblk, V, idx t]
/-- The gains as one row. -/
theorem iblk3 (c : Dev nD) (t : Fin cfg0.N) (d : Fin 1024) : iblk m c 3 t (ix2 (0 : Fin 1) d) = argG m c (ix1 d) := by
  blk_point [iblk, V, idx t]

/-- What every point leaves for the input rows. -/
theorem out4 (c : Dev nD) (t : Fin cfg0.N) :
    (outsAt0 m c t.val t.isLt).1 = k0_pay5 (F := Ideal) (iblk m c 0 t) (iblk m c 1 t) (iblk m c 2 t) (iblk m c 3 t) := by
  by_cases h0 : t.val % 16 = 0
  · have ht : ¬ 1 ≤ t.val := by have : t.val < 16 := t.isLt; omega
    rw [outsAt0_A m c t h0 ht]
    frame_out
  · rw [outsAt0_B m c t h0 (by omega)]
    frame_out

/-- One point's sums for the gains. -/
def sumG (c : Dev nD) (d : Fin 1024) (t : Nat) (h : t < cfg0.N) : EReal :=
  ∑ r : Fin 512, gainAt (fun k => iblk m c 1 ⟨t, h⟩ (ix2 r k)) (fun k => iblk m c 2 ⟨t, h⟩ (ix2 r k)) d
/-- The gains' sums after the first point. -/
theorem acc_A (c : Dev nD) (d : Fin 1024) (t : Nat) (h : t < cfg0.N) (h0 : t % 16 = 0) :
    (outsAt0 m c t h).2 (ix2 (0 : Fin 1) d) = sumG m c d t h := by
  have ht : ¬ 1 ≤ t := by have : t < 16 := h; omega
  rw [outsAt0_A m c ⟨t, h⟩ h0 ht]
  frame_out
  exact Cert.Point.NormBwd.gpPay_apply (iblk m c 1 ⟨t, h⟩) (iblk m c 2 ⟨t, h⟩) d
/-- The gains' sums after a later point. -/
theorem acc_B (c : Dev nD) (d : Fin 1024) (t : Nat) (h : t < cfg0.N) (h0 : ¬ t % 16 = 0) :
    (outsAt0 m c t h).2 (ix2 (0 : Fin 1) d) = (outsAt0 m c (t - 1) (Nat.lt_of_le_of_lt (Nat.sub_le _ _) h)).2 (ix2 (0 : Fin 1) d) + sumG m c d t h := by
  have ht : 1 ≤ t := by omega
  rw [outsAt0_B m c ⟨t, h⟩ h0 ht]
  frame_out
  exact congrArg₂ (· + ·) (shapeCast_apply _ _ (ix2 (0 : Fin 1) d) _ rfl) (Cert.Point.NormBwd.gpPay_apply (iblk m c 1 ⟨t, h⟩) (iblk m c 2 ⟨t, h⟩) d)

/-- What a row of a block receives is what the whole array's row does. -/
theorem d_whole (c : Dev nD) (t : Fin cfg0.N) (r : Fin 512) (d : Fin 1024) :
    dBlk (iblk m c 0 t) (iblk m c 1 t) (iblk m c 2 t) (iblk m c 3 t) r d = dAt (argDR m c) (argDH m c) (argX m c) (argG m c) (rowAt t r) d :=
  congrArg₂ (fun a b : EReal => a + b) (iblk0 m c t r d) (congrArg₂ (fun f g => normBack f g d) (funext fun k => iblk2 m c t r k)
    (funext fun k => congrArg₂ (fun a b : EReal => a * b) (iblk1 m c t r k) (iblk3 m c t k)))

/-- What the input rows receive, after the run. -/
theorem final4 (c : Dev nD) : (dats m 0 c).arrAt 4 cfg0.N = Cert.Point.NormBwd.dArr (argDR m c) (argDH m c) (argX m c) (argG m c) := by
  refine (dats m 0 c).arrAt_eq_of_covers 4 _ (by decide +kernel) fun t hf y => ?_
  blk_simp
  rw [after0_4, out4]
  obtain ⟨r, d, rfl⟩ : ∃ (r : Fin 512) (d : Fin 1024), y = ix2 r d := ⟨y 0, y 1, (ix2_eta y).symm⟩
  have hy : ((cfg0.win 4).blk t).view.emb (ix2 r d) = ix2 (rowAt t r) d := by
    blk_ext [idx t]
  exact (Cert.Point.NormBwd.dPay_apply (iblk m c 0 t) (iblk m c 1 t) (iblk m c 2 t) (iblk m c 3 t) r d).trans
    ((d_whole m c t r d).trans (congrArg (Cert.Point.NormBwd.dArr _ _ _ _) hy.symm))
/-- What the gains receive, after the run. -/
theorem final5 (c : Dev nD) : (dats m 0 c).arrAt 5 cfg0.N = Cert.Point.NormBwd.dgpArr (argDH m c) (argX m c) := by
  refine (dats m 0 c).arrAt_eq_of_covers 5 _ (by decide +kernel) fun t hf y => ?_
  have h1 : t.val % 16 = 15 := (flush0_5 t).mp hf
  blk_simp
  rw [after0_5]
  obtain ⟨r, d, rfl⟩ : ∃ (r : Fin 1) (d : Fin 1024), y = ix2 r d := ⟨y 0, y 1, (ix2_eta y).symm⟩
  obtain rfl : r = 0 := Subsingleton.elim _ _
  have hy : ((cfg0.win 5).blk t).view.emb (ix2 (0 : Fin 1) d) = ix2 (0 : Fin 1) d := by
    blk_ext [idx t]
  refine Eq.trans ?_ (congrArg (Cert.Point.NormBwd.dgpArr _ _) hy.symm)
  refine sum_blocks 16 512 (by decide) (by decide) (fun n h => (outsAt0 m c n h).2 (ix2 (0 : Fin 1) d)) (sumG m c d)
    (acc_A m c d) (acc_B m c d)
    (fun R => gainAt (fun k => argDH m c (ix2 R k)) (fun k => argX m c (ix2 R k)) d) t.val t.isLt h1 fun u hu _ => ?_
  have hu' : u < 16 := hu
  refine Finset.sum_congr rfl fun r _ => (congrArg₂ (fun f g => gainAt f g d) (funext fun k => iblk1 m c ⟨u, hu⟩ r k) (funext fun k => iblk2 m c ⟨u, hu⟩ r k)).trans ?_
  exact congrArg (fun R => gainAt (fun k => argDH m c (ix2 R k)) (fun k => argX m c (ix2 R k)) d)
    (Fin.ext (by show u * 512 + r.val = u % 16 * 512 + r.val; rw [Nat.mod_eq_of_lt hu']))

section
open Cert.NormBwdFirstRefIdeal.Read
variable (DR : Vec Ideal S8192x1024 .f32) (DH : Vec Ideal S8192x1024 .bf16) (X : Vec Ideal S8192x1024 .f32) (G : Vec Ideal S1024 .f32)
/-- The reference's gradient of the input rows is the same function as that of a norm between two sub-layers. -/
theorem ref_d : val_main_v37 (F := Ideal) DR DH X G = Cert.Point.NormBwd.dArr DR DH X G := Cert.Point.NormBwd.ref_d DR DH X G
/-- So is its gradient of the gains. -/
theorem ref_dg : val_main_v38 (F := Ideal) DH X = Cert.Point.NormBwd.dgpArr DH X := Cert.Point.NormBwd.ref_dgp DH X
end

/-- The reference runs to its end and leaves its arguments and the counters as they were; it declares no semaphore. -/
theorem frame_ref : @Cert.quiescent_NormBwdFirstRefIdeal Cert.NormBwdFirstRefIdeal.Gen.facts := fun m g _ =>
  (θ_run Cert.NormBwdFirstRefIdeal.defs _ _).mono
    (fun r h => ⟨fun c => (h c).2.2, sem_eq_zero_of_no_sems (by decide) r.2⟩) (Cert.NormBwdFirstRefIdeal.Value.run (F := Ideal) m g)

/-- The kernel's gradients of the first norm and the reference's agree. -/
theorem value : @Cert.algebraic_NormBwdFirstIdeal_NormBwdFirstRefIdeal Cert.NormBwdFirstIdeal.Gen.facts Cert.NormBwdFirstRefIdeal.Gen.facts := by
  pair_intro
  · run_from Cert.NormBwdFirstIdeal.Value.run_blocks m g
  · run_from Cert.NormBwdFirstRefIdeal.Value.run m' g'
    · rw [final4 m c, Cert.NormBwdFirstRefIdeal.Read.val_main_v37_eq]
      exact ref_d _ _ _ _
    · rw [final5 m c, Cert.NormBwdFirstRefIdeal.Read.val_main_v38_eq]
      exact ref_dg _ _

end Cert.Point.NormBwdFirst

end
-- ==== Proof.Point.NormBwdMem.lean ====
/- The backward pass of the memory rows' norm: what its gains receive. -/
module

public import proofs.«01_k».proof.Defs
public import proofs.«01_k».proof.Proof.Gen.NormBwdMem.Frame
public import proofs.«01_k».proof.Proof.Gen.NormBwdMemIdeal.Value
public import proofs.«01_k».proof.Proof.Gen.NormBwdMemRefIdeal.Read
public import proofs.«01_k».proof.Proof.Point.NormBwd

@[expose] public section

set_option maxRecDepth 16384

noncomputable section

namespace Cert.Point.NormBwdMem

open Cert.Products (sum_blocks)
open Cert.Point (rsq msq cWidth cEps cHalf normBack)
open Cert.Point.NormBwd (gainAt)
open Idealize.ShloMosaic Idealize.ShloMosaic.TcCoe Idealize.SL.Sem Cert.NormBwdMemIdeal Cert.NormBwdMemIdeal.Gen

/-- What the gains receive. -/
def dgArr (DH X : Vec Ideal S1024x1024 .f32) : Vec Ideal S1x1024 .f32 :=
  fun j => ∑ R : Fin 1024, gainAt (fun k => DH (ix2 R k)) (fun k => X (ix2 R k)) (j 1)

variable (m : (ℓ : Loc nD τ sig) → Buf (Elt Ideal) ℓ)

/-- The normed rows' gradient, as the run starts. -/
abbrev argDH (c : Dev nD) : Vec Ideal S1024x1024 .f32 := m ((c.tc : Thread nD τ).loc main_arg0)
/-- The memory rows, as the run starts. -/
abbrev argX (c : Dev nD) : Vec Ideal S1024x1024 .f32 := m ((c.tc : Thread nD τ).loc main_arg1)

/-- The blocks' places at every grid point. -/
theorem idx : ∀ t : Fin cfg0.N, win0_0.index t = ![t.val, 0] ∧ win0_1.index t = ![t.val, 0] ∧ win0_2.index t = ![0, 0] ∧ win0_3.index t = ![0, 0] :=
  (by decide +kernel : ∀ t : Fin grid0.N, _)

/-- The row of the whole array a block's row is. -/
abbrev rowAt (t : Fin cfg0.N) (r : Fin 512) : Fin 1024 := ⟨t.val * 512 + r.val, by have : t.val < 2 := t.isLt; omega⟩

/-- A block of the normed rows' gradient. -/
theorem iblk0 (c : Dev nD) (t : Fin cfg0.N) (r : Fin 512) (d : Fin 1024) : iblk m c 0 t (ix2 r d) = argDH m c (ix2 (rowAt t r) d) := by
  blk_point [iblk, V, idx t]
/-- A block of the memory rows. -/
theorem iblk1 (c : Dev nD) (t : Fin cfg0.N) (r : Fin 512) (d : Fin 1024) : iblk m c 1 t (ix2 r d) = argX m c (ix2 (rowAt t r) d) := by
  blk_point [iblk, V, idx t]

/-- One point's sums for the gains. -/
def sumG (c : Dev nD) (d : Fin 1024) (t : Nat) (h : t < cfg0.N) : EReal :=
  ∑ r : Fin 512, gainAt (fun k => iblk m c 0 ⟨t, h⟩ (ix2 r k)) (fun k => iblk m c 1 ⟨t, h⟩ (ix2 r k)) d
/-- The gains' sums after the first point. -/
theorem acc_A (c : Dev nD) (d : Fin 1024) (t : Nat) (h : t < cfg0.N) (h0 : t % 2 = 0) :
    outsAt0 m c t h (ix2 (0 : Fin 1) d) = sumG m c d t h := by
  rw [outsAt0_A m c ⟨t, h⟩ h0 (by show ¬ t % 2 = 1; omega)]
  frame_out
  exact Cert.Point.NormBwd.gpPay_apply (iblk m c 0 ⟨t, h⟩) (iblk m c 1 ⟨t, h⟩) d
/-- The gains' sums after the second point. -/
theorem acc_B (c : Dev nD) (d : Fin 1024) (t : Nat) (h : t < cfg0.N) (h0 : ¬ t % 2 = 0) :
    outsAt0 m c t h (ix2 (0 : Fin 1) d) = outsAt0 m c (t - 1) (Nat.lt_of_le_of_lt (Nat.sub_le _ _) h) (ix2 (0 : Fin 1) d) + sumG m c d t h := by
  rw [outsAt0_B m c ⟨t, h⟩ h0 (by show t % 2 = 1; omega)]
  frame_out
  exact congrArg₂ (· + ·) (shapeCast_apply _ _ (ix2 (0 : Fin 1) d) _ rfl) (Cert.Point.NormBwd.gpPay_apply (iblk m c 0 ⟨t, h⟩) (iblk m c 1 ⟨t, h⟩) d)

/-- What the gains receive, after the run. -/
theorem final3 (c : Dev nD) : (dats m 0 c).arrAt 3 cfg0.N = dgArr (argDH m c) (argX m c) := by
  refine (dats m 0 c).arrAt_eq_of_covers 3 _ (by decide +kernel) fun t hf y => ?_
  have h1 : t.val % 2 = 1 := (flush0_3 t).mp hf
  blk_simp
  rw [after0_3]
  obtain ⟨r, d, rfl⟩ : ∃ (r : Fin 1) (d : Fin 1024), y = ix2 r d := ⟨y 0, y 1, (ix2_eta y).symm⟩
  obtain rfl : r = 0 := Subsingleton.elim _ _
  have hy : ((cfg0.win 3).blk t).view.emb (ix2 (0 : Fin 1) d) = ix2 (0 : Fin 1) d := by
    blk_ext [idx t]
  refine Eq.trans ?_ (congrArg (dgArr _ _) hy.symm)
  refine sum_blocks 2 512 (by decide) (by decide) (fun n h => outsAt0 m c n h (ix2 (0 : Fin 1) d)) (sumG m c d)
    (acc_A m c d) (acc_B m c d)
    (fun R => gainAt (fun k => argDH m c (ix2 R k)) (fun k => argX m c (ix2 R k)) d) t.val t.isLt h1 fun u hu _ => ?_
  have hu' : u < 2 := hu
  refine Finset.sum_congr rfl fun r _ => (congrArg₂ (fun f g => gainAt f g d) (funext fun k => iblk0 m c ⟨u, hu⟩ r k) (funext fun k => iblk1 m c ⟨u, hu⟩ r k)).trans ?_
  exact congrArg (fun R => gainAt (fun k => argDH m c (ix2 R k)) (fun k => argX m c (ix2 R k)) d)
    (Fin.ext (by show u * 512 + r.val = u % 2 * 512 + r.val; rw [Nat.mod_eq_of_lt hu']))

section
open Cert.NormBwdMemRefIdeal.Read
variable (DH X : Vec Ideal S1024x1024 .f32)
/-- The scales, in the reference. -/
theorem v7_at (R : Fin 1024) (i : Cert.NormBwdMemRefIdeal.S1024x1.Idx) (hi : i = ix2 R (0 : Fin 1)) : val_main_v7 (F := Ideal) X i = rsq (fun k => X (ix2 R k)) := by
  subst hi
  refine congrArg Ideal.rsqrt ?_
  rw [val_main_v6_apply, val_main_v4_apply, val_main_v2_apply, val_main_v1_apply]
  show Ideal.div (Ideal.ofBits .f32 0x00000000#32 + _) cWidth + cEps = _
  rw [Ideal.ofBits_zero_f32, zero_add]
  refine congrArg (fun z => Ideal.div z cWidth + cEps) (Finset.sum_congr rfl fun k _ => ?_)
  have hk : idx_main_v1 (idx_main_v2 (ix2 R (0 : Fin 1))) k = ix2 R k := funext fun a => by
    match a with
    | ⟨0, _⟩ => rfl
    | ⟨1, _⟩ => rfl
  rw [hk]
  rfl
/-- The reference's gradient of the gains. -/
theorem ref_dg : val_main_v17 (F := Ideal) DH X = dgArr DH X := funext fun j => by
  obtain ⟨R, d, rfl⟩ : ∃ (R : Fin 1) (d : Fin 1024), j = ix2 R d := ⟨j 0, j 1, (ix2_eta j).symm⟩
  obtain rfl : R = 0 := Subsingleton.elim _ _
  rw [val_main_v17_apply, val_main_v16_apply, Fin.sum_univ_one, val_main_v15_apply, val_main_v14_apply]
  show Ideal.ofBits .f32 0x00000000#32 + (Ideal.ofBits .f32 0x00000000#32 + _) = _
  rw [Ideal.ofBits_zero_f32, zero_add, zero_add]
  refine Finset.sum_congr rfl fun R _ => ?_
  have hk : idx_main_v14 (idx_main_v15 (idx_main_v16 (idx_main_v17 (ix2 (0 : Fin 1) d)) 0)) R = ix2 R d := funext fun a => by
    match a with
    | ⟨0, _⟩ => rfl
    | ⟨1, _⟩ => exact Fin.ext (by simp)
  rw [hk, val_main_v13_apply, val_main_v9_apply, val_main_v8_apply, v7_at X R _ (funext fun a => by match a with | ⟨0, _⟩ => rfl | ⟨1, _⟩ => rfl)]
  exact mul_comm _ _
end

/-- The reference runs to its end and leaves its arguments and the counters as they were; it declares no semaphore. -/
theorem frame_ref : @Cert.quiescent_NormBwdMemRefIdeal Cert.NormBwdMemRefIdeal.Gen.facts := fun m g _ =>
  (θ_run Cert.NormBwdMemRefIdeal.defs _ _).mono
    (fun r h => ⟨fun c => (h c).2, sem_eq_zero_of_no_sems (by decide) r.2⟩) (Cert.NormBwdMemRefIdeal.Value.run (F := Ideal) m g)

/-- The kernel's gradient of the memory norm's gains and the reference's agree. -/
theorem value : @Cert.algebraic_NormBwdMemIdeal_NormBwdMemRefIdeal Cert.NormBwdMemIdeal.Gen.facts Cert.NormBwdMemRefIdeal.Gen.facts := by
  pair_intro
  · run_from Cert.NormBwdMemIdeal.Value.run_blocks m g
  · run_from Cert.NormBwdMemRefIdeal.Value.run m' g'
    rw [final3 m c, Cert.NormBwdMemRefIdeal.Read.val_main_v17_eq]
    exact ref_dg _ _

end Cert.Point.NormBwdMem

end
-- ==== Proof.Point.NormFwdLast.lean ====
/- The forward pass of the last norm of the step: the residual rows take the normed branch. -/
module

public import proofs.«01_k».proof.Defs
public import proofs.«01_k».proof.Proof.Gen.NormFwdLast.Frame
public import proofs.«01_k».proof.Proof.Gen.NormFwdLastIdeal.Value
public import proofs.«01_k».proof.Proof.Gen.NormFwdLastRefIdeal.Read
public import proofs.«01_k».proof.Proof.Point.NormFwd

@[expose] public section

set_option maxRecDepth 16384

noncomputable section

namespace Cert.Point.NormFwdLast

open Cert.Point (rsq msq cWidth cEps)
open Cert.Point.NormFwd (normed newAt newArr)
open Idealize.ShloMosaic Idealize.ShloMosaic.TcCoe Idealize.SL.Sem Cert.NormFwdLastIdeal Cert.NormFwdLastIdeal.Gen

variable (m : (ℓ : Loc nD τ sig) → Buf (Elt Ideal) ℓ)

/-- The residual rows, as the run starts. -/
abbrev argX (c : Dev nD) : Vec Ideal S8192x1024 .f32 := m ((c.tc : Thread nD τ).loc main_arg0)
/-- The branch's rows, as the run starts. -/
abbrev argY (c : Dev nD) : Vec Ideal S8192x1024 .bf16 := m ((c.tc : Thread nD τ).loc main_arg1)
/-- The gains, as the run starts. -/
abbrev argG (c : Dev nD) : Vec Ideal S1024 .f32 := m ((c.tc : Thread nD τ).loc main_arg2)

/-- The blocks' places at every grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the residual rows. -/
theorem iblk0 (c : Dev nD) (t : Fin cfg0.N) (r : Fin 512) (d : Fin 1024) : iblk m c 0 t (ix2 r d) = argX m c (ix2 (rowAt t r) d) := by
  blk_point [iblk, V, idx t]
/-- A block of the branch's rows. -/
theorem iblk1 (c : Dev nD) (t : Fin cfg0.N) (r : Fin 512) (d : Fin 1024) : iblk m c 1 t (ix2 r d) = argY m c (ix2 (rowAt t r) d) := by
  blk_point [iblk, V, idx t]
/-- The gains as one row. -/
theorem iblk2 (c : Dev nD) (t : Fin cfg0.N) (d : Fin 1024) : iblk m c 2 t (ix2 (0 : Fin 1) d) = argG m c (ix1 d) := by
  blk_point [iblk, V, idx t]

/-- The new residual rows after the run. -/
theorem final3 (c : Dev nD) : (dats m 0 c).arrAt 3 cfg0.N = newArr (argX m c) (argY m c) (argG m c) := by
  refine (dats m 0 c).arrAt_eq_of_covers 3 _ (by decide +kernel) fun t hf y => ?_
  blk_simp
  rw [after0_3]
  obtain ⟨r, d, rfl⟩ : ∃ (r : Fin 512) (d : Fin 1024), y = ix2 r d := ⟨y 0, y 1, (ix2_eta y).symm⟩
  have hy : ((cfg0.win 3).blk t).view.emb (ix2 r d) = ix2 (rowAt t r) d := by
    blk_ext [idx t]
  refine Eq.trans ?_ (congrArg (newArr _ _ _) hy.symm)
  unfold out0_3
  frame_out
  refine (Cert.Point.NormFwd.pay1_apply (iblk m c 0 t) (iblk m c 1 t) (iblk m c 2 t) r d).trans ?_
  exact congrArg₂ (fun a b : EReal => a + b) (iblk0 m c t r d)
    (congrArg₂ (fun f g => normed f g d) (funext fun k => iblk1 m c t r k) (funext fun k => iblk2 m c t k))

/-- The reference's new residual rows are the same function as between two sub-layers. -/
theorem ref_new (X : Vec Ideal S8192x1024 .f32) (Y : Vec Ideal S8192x1024 .bf16) (G : Vec Ideal S1024 .f32) :
    Cert.NormFwdLastRefIdeal.Read.val_main_v14 (F := Ideal) X Y G = newArr X Y G := Cert.Point.NormFwd.ref_new X Y G

/-- The reference runs to its end and leaves its arguments and the counters as they were; it declares no semaphore. -/
theorem frame_ref : @Cert.quiescent_NormFwdLastRefIdeal Cert.NormFwdLastRefIdeal.Gen.facts := fun m g _ =>
  (θ_run Cert.NormFwdLastRefIdeal.defs _ _).mono
    (fun r h => ⟨fun c => (h c).2, sem_eq_zero_of_no_sems (by decide) r.2⟩) (Cert.NormFwdLastRefIdeal.Value.run (F := Ideal) m g)

/-- The kernel's last norm and the reference's agree. -/
theorem value : @Cert.algebraic_NormFwdLastIdeal_NormFwdLastRefIdeal Cert.NormFwdLastIdeal.Gen.facts Cert.NormFwdLastRefIdeal.Gen.facts := by
  pair_intro
  · run_from Cert.NormFwdLastIdeal.Value.run_blocks m g
  · run_from Cert.NormFwdLastRefIdeal.Value.run m' g'
    rw [final3 m c, Cert.NormFwdLastRefIdeal.Read.val_main_v14_eq]
    exact ref_new _ _ _

end Cert.Point.NormFwdLast

end
-- ==== Proof.Point.NormFwdFirst.lean ====
/- The forward pass of the first norm of the step. -/
module

public import proofs.«01_k».proof.Defs
public import proofs.«01_k».proof.Proof.Gen.NormFwdFirst.Frame
public import proofs.«01_k».proof.Proof.Gen.NormFwdFirstIdeal.Value
public import proofs.«01_k».proof.Proof.Gen.NormFwdFirstRefIdeal.Read
public import proofs.«01_k».proof.Proof.Point.NormFwd

@[expose] public section

set_option maxRecDepth 16384

noncomputable section

namespace Cert.Point.NormFwdFirst

open Cert.Point (rsq msq cWidth cEps)
open Cert.Point.NormFwd (normed)
open Idealize.ShloMosaic Idealize.ShloMosaic.TcCoe Idealize.SL.Sem Cert.NormFwdFirstIdeal Cert.NormFwdFirstIdeal.Gen

/-- A block of normed rows. -/
theorem pay1_apply (x : Vec Ideal S512x1024 .f32) (g : Vec Ideal S1x1024 .f32) (r : Fin 512) (d : Fin 1024) :
    k0_pay1 (F := Ideal) x g (ix2 r d) = normed (fun k => x (ix2 r k)) (fun k => g (ix2 (0 : Fin 1) k)) d := by
  have hr := Cert.Point.rsq_apply x reduces_S512x1024_S512 (.inl rfl) rfl shapeCasts_S512_S512x1 r
  refine congrArg₂ (fun a b : EReal => x (ix2 r d) * a * b) ?_ ?_
  · exact (Cert.Point.col_spread (e := .f32) _ broadcasts_S512x1_S512x1024 r d (by decide)).trans hr
  · exact (Cert.Point.row_spread (e := .f32) _ broadcasts_S1x1024_S512x1024 r d (by decide)).trans (shapeCast_apply _ _ (ix2 (0 : Fin 1) d) _ rfl)

/-- The normed rows, each lane under its gain. -/
def hArr (X : Vec Ideal S8192x1024 .f32) (G : Vec Ideal S1024 .f32) : Vec Ideal S8192x1024 .bf16 :=
  fun j => normed (fun k => X (ix2 (j 0) k)) (fun k => G (ix1 k)) (j 1)

variable (m : (ℓ : Loc nD τ sig) → Buf (Elt Ideal) ℓ)

/-- The rows, as the run starts. -/
abbrev argX (c : Dev nD) : Vec Ideal S8192x1024 .f32 := m ((c.tc : Thread nD τ).loc main_arg0)
/-- The gains, as the run starts. -/
abbrev argG (c : Dev nD) : Vec Ideal S1024 .f32 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the rows. -/
theorem iblk0 (c : Dev nD) (t : Fin cfg0.N) (r : Fin 512) (d : Fin 1024) : iblk m c 0 t (ix2 r d) = argX m c (ix2 (rowAt t r) d) := by
  blk_point [iblk, V, idx t]
/-- The gains as one row. -/
theorem iblk1 (c : Dev nD) (t : Fin cfg0.N) (d : Fin 1024) : iblk m c 1 t (ix2 (0 : Fin 1) d) = argG m c (ix1 d) := by
  blk_point [iblk, V, idx t]

/-- The normed rows after the run. -/
theorem final2 (c : Dev nD) : (dats m 0 c).arrAt 2 cfg0.N = hArr (argX m c) (argG m c) := by
  refine (dats m 0 c).arrAt_eq_of_covers 2 _ (by decide +kernel) fun t hf y => ?_
  blk_simp
  rw [after0_2]
  obtain ⟨r, d, rfl⟩ : ∃ (r : Fin 512) (d : Fin 1024), y = ix2 r d := ⟨y 0, y 1, (ix2_eta y).symm⟩
  have hy : ((cfg0.win 2).blk t).view.emb (ix2 r d) = ix2 (rowAt t r) d := by
    blk_ext [idx t]
  refine Eq.trans ?_ (congrArg (hArr _ _) hy.symm)
  unfold out0_2
  frame_out
  refine (Cert.Point.NormFwdFirst.pay1_apply (iblk m c 0 t) (iblk m c 1 t) r d).trans ?_
  exact congrArg₂ (fun f g => normed f g d) (funext fun k => iblk0 m c t r k) (funext fun k => iblk1 m c t k)

section
open Cert.NormFwdFirstRefIdeal.Read
/-- The reference's normed rows. -/
theorem ref_h (X : Vec Ideal S8192x1024 .f32) (G : Vec Ideal S1024 .f32) : val_main_v13 (F := Ideal) X G = hArr X G := funext fun j => by
  obtain ⟨R, d, rfl⟩ : ∃ (R : Fin 8192) (d : Fin 1024), j = ix2 R d := ⟨j 0, j 1, (ix2_eta j).symm⟩
  rw [val_main_v13_apply, val_main_v12_apply, val_main_v9_apply, val_main_v8_apply, val_main_v11_apply, val_main_v10_apply,
    val_main_v7_apply, val_main_v6_apply, val_main_v4_apply, val_main_v2_apply, val_main_v1_apply]
  have hg : idx_main_v10 (idx_main_v11 (ix2 R d)) = ix1 d := funext fun a => by
    match a with
    | ⟨0, _⟩ => rfl
  rw [hg]
  show X (ix2 R d) * Ideal.rsqrt (Ideal.div (Ideal.ofBits .f32 0x00000000#32 + _) cWidth + cEps) * G (ix1 d) = _
  rw [Ideal.ofBits_zero_f32, zero_add]
  refine congrArg (fun z => X (ix2 R d) * Ideal.rsqrt (Ideal.div z cWidth + cEps) * G (ix1 d)) (Finset.sum_congr rfl fun k _ => ?_)
  have hk : idx_main_v1 (idx_main_v2 (idx_main_v8 (ix2 R d))) k = ix2 R k := funext fun a => by
    match a with
    | ⟨0, _⟩ => rfl
    | ⟨1, _⟩ => rfl
  rw [hk]
  rfl
end

/-- The reference runs to its end and leaves its arguments and the counters as they were; it declares no semaphore. -/
theorem frame_ref : @Cert.quiescent_NormFwdFirstRefIdeal Cert.NormFwdFirstRefIdeal.Gen.facts := fun m g _ =>
  (θ_run Cert.NormFwdFirstRefIdeal.defs _ _).mono
    (fun r h => ⟨fun c => (h c).2, sem_eq_zero_of_no_sems (by decide) r.2⟩) (Cert.NormFwdFirstRefIdeal.Value.run (F := Ideal) m g)

/-- The kernel's first norm and the reference's agree. -/
theorem value : @Cert.algebraic_NormFwdFirstIdeal_NormFwdFirstRefIdeal Cert.NormFwdFirstIdeal.Gen.facts Cert.NormFwdFirstRefIdeal.Gen.facts := by
  pair_intro
  · run_from Cert.NormFwdFirstIdeal.Value.run_blocks m g
  · run_from Cert.NormFwdFirstRefIdeal.Value.run m' g'
    rw [final2 m c, Cert.NormFwdFirstRefIdeal.Read.val_main_v13_eq]
    exact ref_h _ _

end Cert.Point.NormFwdFirst

end
-- ==== Proof.Point.NormFwdMem.lean ====
/- The forward pass of the memory rows' norm. -/
module

public import proofs.«01_k».proof.Defs
public import proofs.«01_k».proof.Proof.Gen.NormFwdMem.Frame
public import proofs.«01_k».proof.Proof.Gen.NormFwdMemIdeal.Value
public import proofs.«01_k».proof.Proof.Gen.NormFwdMemRefIdeal.Read
public import proofs.«01_k».proof.Proof.Point.NormFwdFirst

@[expose] public section

set_option maxRecDepth 16384

noncomputable section

namespace Cert.Point.NormFwdMem

open Cert.Point (rsq msq cWidth cEps)
open Cert.Point.NormFwd (normed)
open Idealize.ShloMosaic Idealize.ShloMosaic.TcCoe Idealize.SL.Sem Cert.NormFwdMemIdeal Cert.NormFwdMemIdeal.Gen

/-- The normed rows, each lane under its gain. -/
def hArr (X : Vec Ideal S1024x1024 .f32) (G : Vec Ideal S1024 .f32) : Vec Ideal S1024x1024 .bf16 :=
  fun j => normed (fun k => X (ix2 (j 0) k)) (fun k => G (ix1 k)) (j 1)

variable (m : (ℓ : Loc nD τ sig) → Buf (Elt Ideal) ℓ)

/-- The rows, as the run starts. -/
abbrev argX (c : Dev nD) : Vec Ideal S1024x1024 .f32 := m ((c.tc : Thread nD τ).loc main_arg0)
/-- The gains, as the run starts. -/
abbrev argG (c : Dev nD) : Vec Ideal S1024 .f32 := m ((c.tc : Thread nD τ).loc main_arg1)

/-- The blocks' places at every grid point. -/
theorem idx : ∀ t : Fin cfg0.N, win0_0.index t = ![t.val, 0] ∧ win0_1.index t = ![0, 0] ∧ win0_2.index t = ![t.val, 0] :=
  (by decide +kernel : ∀ t : Fin grid0.N, _)

/-- The row of the whole array a block's row is. -/
abbrev rowAt (t : Fin cfg0.N) (r : Fin 512) : Fin 1024 := ⟨t.val * 512 + r.val, by have : t.val < 2 := t.isLt; omega⟩

/-- A block of the rows. -/
theorem iblk0 (c : Dev nD) (t : Fin cfg0.N) (r : Fin 512) (d : Fin 1024) : iblk m c 0 t (ix2 r d) = argX m c (ix2 (rowAt t r) d) := by
  blk_point [iblk, V, idx t]
/-- The gains as one row. -/
theorem iblk1 (c : Dev nD) (t : Fin cfg0.N) (d : Fin 1024) : iblk m c 1 t (ix2 (0 : Fin 1) d) = argG m c (ix1 d) := by
  blk_point [iblk, V, idx t]

/-- The normed rows after the run. -/
theorem final2 (c : Dev nD) : (dats m 0 c).arrAt 2 cfg0.N = hArr (argX m c) (argG m c) := by
  refine (dats m 0 c).arrAt_eq_of_covers 2 _ (by decide +kernel) fun t hf y => ?_
  blk_simp
  rw [after0_2]
  obtain ⟨r, d, rfl⟩ : ∃ (r : Fin 512) (d : Fin 1024), y = ix2 r d := ⟨y 0, y 1, (ix2_eta y).symm⟩
  have hy : ((cfg0.win 2).blk t).view.emb (ix2 r d) = ix2 (rowAt t r) d := by
    blk_ext [idx t]
  refine Eq.trans ?_ (congrArg (hArr _ _) hy.symm)
  unfold out0_2
  frame_out
  refine (Cert.Point.NormFwdFirst.pay1_apply (iblk m c 0 t) (iblk m c 1 t) r d).trans ?_
  exact congrArg₂ (fun f g => normed f g d) (funext fun k => iblk0 m c t r k) (funext fun k => iblk1 m c t k)

section
open Cert.NormFwdMemRefIdeal.Read
/-- The reference's normed rows. -/
theorem ref_h (X : Vec Ideal S1024x1024 .f32) (G : Vec Ideal S1024 .f32) : val_main_v13 (F := Ideal) X G = hArr X G := funext fun j => by
  obtain ⟨R, d, rfl⟩ : ∃ (R : Fin 1024) (d : Fin 1024), j = ix2 R d := ⟨j 0, j 1, (ix2_eta j).symm⟩
  rw [val_main_v13_apply, val_main_v12_apply, val_main_v9_apply, val_main_v8_apply, val_main_v11_apply, val_main_v10_apply,
    val_main_v7_apply, val_main_v6_apply, val_main_v4_apply, val_main_v2_apply, val_main_v1_apply]
  have hg : idx_main_v10 (idx_main_v11 (ix2 R d)) = ix1 d := funext fun a => by
    match a with
    | ⟨0, _⟩ => rfl
  rw [hg]
  show X (ix2 R d) * Ideal.rsqrt (Ideal.div (Ideal.ofBits .f32 0x00000000#32 + _) cWidth + cEps) * G (ix1 d) = _
  rw [Ideal.ofBits_zero_f32, zero_add]
  refine congrArg (fun z => X (ix2 R d) * Ideal.rsqrt (Ideal.div z cWidth + cEps) * G (ix1 d)) (Finset.sum_congr rfl fun k _ => ?_)
  have hk : idx_main_v1 (idx_main_v2 (idx_main_v8 (ix2 R d))) k = ix2 R k := funext fun a => by
    match a with
    | ⟨0, _⟩ => rfl
    | ⟨1, _⟩ => rfl
  rw [hk]
  rfl
end

/-- The reference runs to its end and leaves its arguments and the counters as they were; it declares no semaphore. -/
theorem frame_ref : @Cert.quiescent_NormFwdMemRefIdeal Cert.NormFwdMemRefIdeal.Gen.facts := fun m g _ =>
  (θ_run Cert.NormFwdMemRefIdeal.defs _ _).mono
    (fun r h => ⟨fun c => (h c).2, sem_eq_zero_of_no_sems (by decide) r.2⟩) (Cert.NormFwdMemRefIdeal.Value.run (F := Ideal) m g)

/-- The kernel's norm of the memory rows and the reference's agree. -/
theorem value : @Cert.algebraic_NormFwdMemIdeal_NormFwdMemRefIdeal Cert.NormFwdMemIdeal.Gen.facts Cert.NormFwdMemRefIdeal.Gen.facts := by
  pair_intro
  · run_from Cert.NormFwdMemIdeal.Value.run_blocks m g
  · run_from Cert.NormFwdMemRefIdeal.Value.run m' g'
    rw [final2 m c, Cert.NormFwdMemRefIdeal.Read.val_main_v13_eq]
    exact ref_h _ _

end Cert.Point.NormFwdMem

end
-- ==== Proof.Point.Layer.lean ====
/- The layer norm of a row and the gate behind it, backward: the mathematics of the convolution module's norm. -/
module

public import proofs.«01_k».proof.Proof.Point.Norm

@[expose] public section

noncomputable section

namespace Cert.Point.Layer

open Cert.Point (cHalf cHalf_eq sq_nonneg' sum_real)
open Idealize.ShloMosaic Idealize.ShloMosaic.TcCoe

/-- The width of a row, as the program's constant. -/
abbrev cWide : EReal := Ideal.ofBits .f32 0x44000000#32
/-- What is added to the variance. -/
abbrev cAdd : EReal := Ideal.ofBits .f32 0x3727C5AC#32
/-- Two. -/
abbrev cTwo : EReal := Ideal.ofBits .f32 0x40000000#32

/-- The width is 512. -/
theorem cWide_eq : cWide = ((512 : ℝ) : EReal) := by
  simp [cWide, Ideal.ofBits, Ideal.ieee, -EReal.coe_mul]; norm_num
/-- The added constant is a positive real. -/
theorem cAdd_eq : ∃ e : ℝ, 0 < e ∧ cAdd = (e : EReal) := by
  refine ⟨_, ?_, by simp [cAdd, Ideal.ofBits, Ideal.ieee, -EReal.coe_mul]; rfl⟩
  norm_num
/-- Two as a real. -/
theorem cTwo_eq : cTwo = ((2 : ℝ) : EReal) := by
  simp [cTwo, Ideal.ofBits, Ideal.ieee, -EReal.coe_mul]; norm_num

/-- A row's mean. -/
def mean (x : Fin 512 → EReal) : EReal := Ideal.div (∑ d, x d) cWide
/-- A row with its mean taken off. -/
def cent (x : Fin 512 → EReal) (i : Fin 512) : EReal := x i - mean x
/-- A row's variance, and the added constant. -/
def vari (x : Fin 512 → EReal) : EReal := Ideal.div (∑ d, cent x d * cent x d) cWide + cAdd
/-- A row's scale: one over the root of the variance. -/
def scale (x : Fin 512 → EReal) : EReal := Ideal.rsqrt (vari x)
/-- A normed row. -/
def unit (x : Fin 512 → EReal) (i : Fin 512) : EReal := cent x i * scale x
/-- What a row receives through its norm, `w` being what the normed row receives. -/
def back (x w : Fin 512 → EReal) (i : Fin 512) : EReal :=
  scale x * (w i - mean w - unit x i * mean (fun k => w k * unit x k))

/-- A mean of reals. -/
theorem mean_real (a : Fin 512 → ℝ) : mean (fun k => (a k : EReal)) = (((∑ k, a k) * (1 / 512) : ℝ) : EReal) := by
  rw [mean, sum_real, cWide_eq, Ideal.div_coe (by norm_num), ← EReal.coe_mul]

/-- A row whose differences from its mean are all real is real itself. -/
theorem real_of_cent (x : Fin 512 → EReal) (h : ∀ k, ∃ a : ℝ, cent x k = (a : EReal)) (k : Fin 512) : ∃ a : ℝ, x k = (a : EReal) := by
  obtain ⟨a, ha⟩ := h k
  rw [cent] at ha
  generalize mean x = μ at ha
  generalize x k = z at ha
  induction z using EReal.rec with
  | coe r => exact ⟨r, rfl⟩
  | top => induction μ using EReal.rec <;> simp [sub_eq_add_neg, ← EReal.coe_neg] at ha
  | bot => induction μ using EReal.rec <;> simp [sub_eq_add_neg, ← EReal.coe_neg] at ha

/-- With an infinite difference the variance is infinite. -/
theorem vari_top (x : Fin 512 → EReal) (k : Fin 512) (h : cent x k * cent x k = ⊤) : vari x = ⊤ := by
  obtain ⟨e, he, hE⟩ := cAdd_eq
  have hS : ∑ d, cent x d * cent x d = ⊤ :=
    top_le_iff.mp (h ▸ Finset.single_le_sum (f := fun d => cent x d * cent x d) (fun d _ => sq_nonneg' (cent x d)) (Finset.mem_univ k))
  rw [vari, hS, cWide_eq, Ideal.div_coe (by norm_num), EReal.top_mul_coe_of_pos (by norm_num), hE, EReal.top_add_coe]

/-- A row is real, or its variance is infinite. -/
theorem real_or_top (x : Fin 512 → EReal) : (∃ a : Fin 512 → ℝ, x = fun k => (a k : EReal)) ∨ vari x = ⊤ := by
  by_cases hx : ∃ k, cent x k * cent x k = ⊤
  · obtain ⟨k, hk⟩ := hx
    exact .inr (vari_top x k hk)
  · have hc : ∀ k, ∃ a : ℝ, cent x k = (a : EReal) := fun k => by
      rcases hxk : cent x k with _ | _ | a
      · exact absurd ⟨k, by rw [hxk]; rfl⟩ hx
      · exact absurd ⟨k, by rw [hxk]; rfl⟩ hx
      · exact ⟨a, rfl⟩
    choose a ha using real_of_cent x hc
    exact .inl ⟨a, funext ha⟩

/-- What the variance receives, spread over the row: the slope of `1/√s` is `-(1/2)/(s√s)`. -/
def slope (x w : Fin 512 → EReal) : EReal :=
  Ideal.div ((∑ k, cent x k * w k) * (cHalf * Ideal.div (scale x) (vari x))) cWide
/-- What a row's difference from its mean receives from the variance. -/
def through (x w : Fin 512 → EReal) (i : Fin 512) : EReal := slope x w * (cTwo * cent x i)

/-- The layer norm's backward pass, as the rules for the root, the square and the two means give it. -/
theorem back_eq (x w : Fin 512 → EReal) (hw : ∀ k, ∃ b : ℝ, w k = (b : EReal)) (i : Fin 512) :
    w i * scale x + through x w i + Ideal.div ((∑ k, -(w k * scale x)) + ∑ k, -(through x w k)) cWide = back x w i := by
  choose b hb using hw
  obtain rfl : w = fun k => (b k : EReal) := funext hb
  rcases real_or_top x with ⟨a, rfl⟩ | hm
  · obtain ⟨e, he, hE⟩ := cAdd_eq
    have hμ := mean_real a
    have hz : ∑ k, (a k - (∑ k, a k) * (1 / 512)) = 0 := by
      rw [Finset.sum_sub_distrib, Finset.sum_const, Finset.card_univ, Fintype.card_fin, nsmul_eq_mul]; push_cast; ring
    generalize (∑ k, a k) * (1 / 512) = μ at hμ hz
    have hc : ∀ k, cent (fun k => (a k : EReal)) k = ((a k - μ : ℝ) : EReal) := fun k => by rw [cent, hμ, ← EReal.coe_sub]
    generalize hy : (fun k => a k - μ) = y
    have hc' : ∀ k, cent (fun k => (a k : EReal)) k = (y k : EReal) := fun k => by rw [hc, ← hy]
    have hz' : ∑ k, y k = 0 := by rw [← hy]; exact hz
    have hv : vari (fun k => (a k : EReal)) = (((∑ k, y k * y k) * (1 / 512) + e : ℝ) : EReal) := by
      rw [vari, hE, cWide_eq, Ideal.div_coe (by norm_num)]
      simp only [hc', ← EReal.coe_mul, sum_real, ← EReal.coe_add]
    have hpos : 0 < (∑ k, y k * y k) * (1 / 512) + e := by
      have : 0 ≤ ∑ k, y k * y k := Finset.sum_nonneg fun k _ => mul_self_nonneg _
      positivity
    generalize (∑ k, y k * y k) * (1 / 512) + e = s at hv hpos
    have hr : scale (fun k => (a k : EReal)) = (((Real.sqrt s)⁻¹ : ℝ) : EReal) := by
      rw [scale, hv, Ideal.rsqrt_coe, if_neg (not_lt.mpr hpos.le), if_neg hpos.ne']
    have hs : 1 / s = (Real.sqrt s)⁻¹ * (Real.sqrt s)⁻¹ := by
      rw [← mul_inv, Real.mul_self_sqrt hpos.le, one_div]
    generalize (Real.sqrt s)⁻¹ = ρ at hr hs
    have hsl : slope (fun k => (a k : EReal)) (fun k => (b k : EReal)) = (((∑ k, y k * b k) * (-(1 / 2) * (ρ * (ρ * ρ))) * (1 / 512) : ℝ) : EReal) := by
      rw [slope, hr, hv, Ideal.div_coe hpos.ne', hs, cWide_eq, Ideal.div_coe (by norm_num), cHalf_eq]
      simp only [hc', ← EReal.coe_mul, sum_real]
    have ht : ∀ k, through (fun k => (a k : EReal)) (fun k => (b k : EReal)) k
        = (((∑ k, y k * b k) * (-(1 / 2) * (ρ * (ρ * ρ))) * (1 / 512) * (2 * y k) : ℝ) : EReal) := fun k => by
      rw [through, hsl, cTwo_eq, hc', ← EReal.coe_mul, ← EReal.coe_mul]
    have hu : ∀ k, unit (fun k => (a k : EReal)) k = ((y k * ρ : ℝ) : EReal) := fun k => by rw [unit, hc', hr, ← EReal.coe_mul]
    have hm2 : mean (fun k => (b k : EReal) * unit (fun k => (a k : EReal)) k) = (((∑ k, b k * (y k * ρ)) * (1 / 512) : ℝ) : EReal) := by
      rw [← mean_real]
      exact congrArg mean (funext fun k => by rw [hu, ← EReal.coe_mul])
    rw [back, hr, hu, hm2, mean_real, cWide_eq, Ideal.div_coe (by norm_num)]
    simp only [ht, ← EReal.coe_mul, ← EReal.coe_neg, sum_real, ← EReal.coe_add, ← EReal.coe_sub]
    congr 1
    have e1 : ∑ k, -(b k * ρ) = -(∑ k, b k) * ρ := by rw [Finset.sum_neg_distrib, ← Finset.sum_mul]; ring
    have e2 : ∑ k, b k * (y k * ρ) = (∑ k, y k * b k) * ρ := by
      rw [Finset.sum_mul]; exact Finset.sum_congr rfl fun k _ => by ring
    have e3 : ∀ v : ℝ, ∑ k, -(v * (2 * y k)) = 0 := fun v => by
      rw [Finset.sum_neg_distrib, ← Finset.mul_sum, ← Finset.mul_sum, hz']; ring
    rw [e1, e2, e3]
    ring
  · have hr : scale x = 0 := by rw [scale, hm]; rfl
    have hd : Ideal.div 0 (⊤ : EReal) = 0 := by rw [Ideal.div, if_neg (by simp), zero_mul]
    have hw : Ideal.div 0 cWide = 0 := by rw [cWide_eq, Ideal.div_coe (by norm_num), zero_mul]
    simp only [back, through, slope, hr, hm, hd, mul_zero, zero_mul, hw, neg_zero, add_zero, Finset.sum_const_zero]

/-- The logistic function. -/
def sig (a : EReal) : EReal := Ideal.div 1 (1 + Ideal.exp (-a))
/-- What the gated row's argument receives, written as the kernel does. -/
def gate (a d : EReal) : EReal := d * (sig a * (1 + a * (1 - sig a)))

/-- The logistic function of a real is real. -/
theorem sig_coe (a : ℝ) : sig (a : EReal) = ((1 / (1 + Real.exp (-a)) : ℝ) : EReal) := by
  have h : 0 < 1 + Real.exp (-a) := by positivity
  rw [sig, ← EReal.coe_neg, Ideal.exp_coe, show (1 : EReal) = ((1 : ℝ) : EReal) from rfl, ← EReal.coe_add, Ideal.div_coe h.ne', ← EReal.coe_mul, one_mul]
/-- Far up it is one. -/
theorem sig_top : sig ⊤ = 1 := by
  rw [sig, show -(⊤ : EReal) = ⊥ from rfl, Ideal.exp_bot, add_zero, show (1 : EReal) = ((1 : ℝ) : EReal) from rfl, Ideal.div_coe one_ne_zero]; simp
/-- Far down it is zero. -/
theorem sig_bot : sig ⊥ = 0 := by
  rw [sig, show -(⊥ : EReal) = ⊤ from rfl, Ideal.exp_top, show (1 : EReal) + ⊤ = ⊤ from EReal.coe_add_top 1, Ideal.div, if_neg (by simp)]; simp

/-- One less one. -/
theorem one_sub_one : (1 : EReal) - 1 = 0 := by
  rw [show (1 : EReal) = ((1 : ℝ) : EReal) from rfl, ← EReal.coe_sub, sub_self]; rfl

/-- The product rule for an argument times its logistic function gives the kernel's form, and a real number wherever the gradient is real. -/
theorem gate_eq (a : EReal) (d : ℝ) : (d : EReal) * sig a + a * (d : EReal) * (sig a * (1 - sig a)) = gate a d ∧ ∃ r : ℝ, gate a d = (r : EReal) := by
  induction a using EReal.rec with
  | coe a =>
    rw [gate, sig_coe]
    generalize 1 / (1 + Real.exp (-a)) = s
    rw [show (1 : EReal) = ((1 : ℝ) : EReal) from rfl]
    simp only [← EReal.coe_mul, ← EReal.coe_sub, ← EReal.coe_add]
    exact ⟨congrArg _ (by ring), _, rfl⟩
  | top =>
    rw [gate, sig_top, one_sub_one]
    simp only [mul_zero, add_zero, mul_one]
    exact ⟨trivial, d, rfl⟩
  | bot =>
    rw [gate, sig_bot]
    simp only [mul_zero, zero_mul, add_zero]
    exact ⟨trivial, 0, rfl⟩

end Cert.Point.Layer

end
-- ==== Proof.Point.ConvRows.lean ====
/- What the convolution module's norm and gate send back, row by row and block by block, in the kernel's run. -/
module

public import proofs.«01_k».proof.Defs
public import proofs.«01_k».proof.Proof.Gen.ConvNormBwd.Frame
public import proofs.«01_k».proof.Proof.Gen.ConvNormBwdIdeal.Value
public import proofs.«01_k».proof.Proof.Point.Layer

@[expose] public section

set_option maxRecDepth 16384

noncomputable section

namespace Cert.Point.ConvNormBwd

open Cert.Products (sum_blocks)
open Cert.Point (cHalf ofBits_one)
open Cert.Point.Layer
open Idealize.ShloMosaic Idealize.ShloMosaic.TcCoe Idealize.SL.Sem Cert.ConvNormBwdIdeal Cert.ConvNormBwdIdeal.Gen

section
variable (da x g b : Fin 512 → EReal)
/-- A normed row with its gains and offsets. -/
def aff (i : Fin 512) : EReal := unit x i * g i + b i
/-- What it receives through the gate. -/
def dAff (i : Fin 512) : EReal := gate (aff x g b i) (da i)
/-- What the row receives through gate and norm. -/
def dRow (i : Fin 512) : EReal := back x (fun k => dAff da x g b k * g k) i
/-- A row's part of what the gains receive. -/
def dGain (i : Fin 512) : EReal := dAff da x g b i * unit x i
end

section
variable (DA : Vec Ideal S8192x512 .bf16) (X : Vec Ideal S8192x512 .f32) (G B : Vec Ideal S512 .f32)
/-- A function of four rows, along the rows of the whole arrays. -/
abbrev along (f : (Fin 512 → EReal) → (Fin 512 → EReal) → (Fin 512 → EReal) → (Fin 512 → EReal) → Fin 512 → EReal) (R : Fin 8192) (d : Fin 512) : EReal :=
  f (fun k => DA (ix2 R k)) (fun k => X (ix2 R k)) (fun k => G (ix1 k)) (fun k => B (ix1 k)) d
/-- What the convolved rows receive. -/
def rowArr : Vec Ideal S8192x512 .f32 := fun j => along DA X G B dRow (j 0) (j 1)
/-- The sum over all rows of such a function, as one row. -/
def sumArr (f : (Fin 512 → EReal) → (Fin 512 → EReal) → (Fin 512 → EReal) → (Fin 512 → EReal) → Fin 512 → EReal) : Vec Ideal S1x512 .f32 :=
  fun j => ∑ R : Fin 8192, along DA X G B f R (j 1)
end

section
variable (da : Vec Ideal S512x512 .bf16) (x : Vec Ideal S512x512 .f32) (g b : Vec Ideal S1x512 .f32)

/-- A function of four rows, along the rows of a block. -/
abbrev onBlk (f : (Fin 512 → EReal) → (Fin 512 → EReal) → (Fin 512 → EReal) → (Fin 512 → EReal) → Fin 512 → EReal) (r d : Fin 512) : EReal :=
  f (fun k => da (ix2 r k)) (fun k => x (ix2 r k)) (fun k => g (ix2 (0 : Fin 1) k)) (fun k => b (ix2 (0 : Fin 1) k)) d

/-- A row's mean, copied along the row. -/
theorem mean_apply (a : FVec Ideal S512x512 .f32) (f : Fin 512 → EReal) (r d : Fin 512) (ha : ∀ k, a (ix2 r k) = f k) :
    broadcastTo S512x512 (divf (shapeCast S512x1 (multiReduction (F := Ideal) .add [1] S512 a 0x00000000#32 reduces_S512x512_S512 (.inl rfl) rfl) shapeCasts_S512_S512x1)
        (broadcast S512x1 (Scalar.ofBits (F := Ideal) .f32 0x44000000#32))) broadcasts_S512x1_S512x512 (ix2 r d) = mean f := by
  refine (Cert.Point.col_spread (e := .f32) _ broadcasts_S512x1_S512x512 r d (by decide)).trans ?_
  refine (congrArg (fun z => Ideal.div z cWide) ((Cert.Point.col_of (e := .f32) _ shapeCasts_S512_S512x1 r).trans (Cert.Point.rowsum_apply a _ _ _ r))).trans ?_
  exact congrArg (fun z => Ideal.div z cWide) (Finset.sum_congr rfl fun k _ => ha k)
/-- A row of one block copied down the rows. -/
theorem spread_apply (v : Vec Ideal S1x512 .f32) (r d : Fin 512) :
    broadcastTo S512x512 (shapeCast S1x512 v shapeCasts_S1x512_S1x512) broadcasts_S1x512_S512x512 (ix2 r d) = v (ix2 (0 : Fin 1) d) :=
  (Cert.Point.row_spread (e := .f32) _ broadcasts_S1x512_S512x512 r d (by decide)).trans (shapeCast_apply _ _ (ix2 (0 : Fin 1) d) _ rfl)
/-- A block's sums over its rows. -/
theorem sums_apply (a : FVec Ideal S512x512 .f32) (f : Fin 512 → EReal) (d : Fin 512) (ha : ∀ r, a (ix2 r d) = f r) :
    shapeCast S1x512 (multiReduction (F := Ideal) .add [0] S512 a 0x00000000#32 reduces_S512x512_S512_2 (.inl rfl) rfl) shapeCasts_S512_S1x512 (ix2 (0 : Fin 1) d)
      = ∑ r : Fin 512, f r :=
  (Cert.Point.row_of (e := .f32) _ shapeCasts_S512_S1x512 d).trans ((Cert.Point.colsum_apply a _ _ _ d).trans (Finset.sum_congr rfl fun r _ => ha r))

/-- A block of rows with their means taken off. -/
theorem pay3_apply (r d : Fin 512) : k0_pay3 (F := Ideal) x (ix2 r d) = cent (fun k => x (ix2 r k)) d :=
  congrArg (fun z : EReal => x (ix2 r d) - z) (mean_apply x (fun k => x (ix2 r k)) r d fun _ => rfl)
/-- A block of scales, copied along the rows. -/
theorem pay4_apply (r d : Fin 512) : broadcastTo S512x512 (k0_pay4 (F := Ideal) x) broadcasts_S512x1_S512x512 (ix2 r d) = scale (fun k => x (ix2 r k)) := by
  refine (Cert.Point.col_spread (e := .f32) _ broadcasts_S512x1_S512x512 r d (by decide)).trans ?_
  refine congrArg (fun z => Ideal.rsqrt (Ideal.div z cWide + cAdd)) ?_
  refine (Cert.Point.col_of (e := .f32) _ shapeCasts_S512_S512x1 r).trans ((Cert.Point.rowsum_apply (mulf (k0_pay3 (F := Ideal) x) (k0_pay3 (F := Ideal) x)) _ _ _ r).trans ?_)
  exact Finset.sum_congr rfl fun k _ => congrArg (fun z : EReal => z * z) (pay3_apply x r k)
/-- A block of normed rows. -/
theorem pay5_apply (r d : Fin 512) : k0_pay5 (F := Ideal) x (ix2 r d) = unit (fun k => x (ix2 r k)) d :=
  congrArg₂ (fun u v : EReal => u * v) (pay3_apply x r d) (pay4_apply x r d)
/-- A block of normed rows with gains and offsets. -/
theorem pay6_apply (r d : Fin 512) : k0_pay6 (F := Ideal) x g b (ix2 r d)
    = aff (fun k => x (ix2 r k)) (fun k => g (ix2 (0 : Fin 1) k)) (fun k => b (ix2 (0 : Fin 1) k)) d :=
  congrArg₂ (fun u v : EReal => u + v) (congrArg₂ (fun u v : EReal => u * v) (pay5_apply x r d) (spread_apply g r d)) (spread_apply b r d)
/-- A block of gates. -/
theorem pay7_apply (r d : Fin 512) : k0_pay7 (F := Ideal) x g b (ix2 r d)
    = sig (aff (fun k => x (ix2 r k)) (fun k => g (ix2 (0 : Fin 1) k)) (fun k => b (ix2 (0 : Fin 1) k)) d) := by
  show Ideal.div (Ideal.ofBits .f32 0x3F800000#32) (Ideal.ofBits .f32 0x3F800000#32
    + Ideal.exp (Ideal.ofBits .f32 0x00000000#32 - k0_pay6 (F := Ideal) x g b (ix2 r d))) = _
  rw [ofBits_one, Ideal.ofBits_zero_f32, pay6_apply, zero_sub]
  rfl
/-- A block of what the gates' arguments receive. -/
abbrev gPay : FVec Ideal S512x512 .f32 := k0_pay10 (F := Ideal) (k0_pay7 x g b) (k0_pay8 da) (k0_pay9 x g b)
/-- Its entries. -/
theorem gPay_apply (r d : Fin 512) : gPay da x g b (ix2 r d) = onBlk da x g b dAff r d := by
  show da (ix2 r d) * (k0_pay7 (F := Ideal) x g b (ix2 r d) * (Ideal.ofBits .f32 0x3F800000#32
    + k0_pay6 (F := Ideal) x g b (ix2 r d) * (Ideal.ofBits .f32 0x3F800000#32 - k0_pay7 (F := Ideal) x g b (ix2 r d)))) = _
  rw [ofBits_one, pay6_apply, pay7_apply]
  rfl
/-- What the rows of a block receive. -/
abbrev rPay : FVec Ideal S512x512 .f32 := k0_pay11 (F := Ideal) (k0_pay4 x) (k0_pay5 x) (k0_pay7 x g b) (k0_pay8 da) (k0_pay9 x g b) g
/-- Its entries. -/
theorem rPay_apply (r d : Fin 512) : rPay da x g b (ix2 r d) = onBlk da x g b dRow r d := by
  have hw : ∀ k, mulf (gPay da x g b) (broadcastTo S512x512 (shapeCast S1x512 g shapeCasts_S1x512_S1x512) broadcasts_S1x512_S512x512) (ix2 r k)
      = onBlk da x g b dAff r k * g (ix2 (0 : Fin 1) k) := fun k =>
    congrArg₂ (fun u v : EReal => u * v) (gPay_apply da x g b r k) (spread_apply g r k)
  have hm := mean_apply _ _ r d hw
  have hv := mean_apply (mulf (mulf (gPay da x g b) (broadcastTo S512x512 (shapeCast S1x512 g shapeCasts_S1x512_S1x512) broadcasts_S1x512_S512x512)) (k0_pay5 x)) _ r d
    fun k => congrArg₂ (fun u v : EReal => u * v) (hw k) (pay5_apply x r k)
  exact congrArg₂ (fun u v : EReal => u * v) (pay4_apply x r d)
    (congrArg₂ (fun u v : EReal => u - v) (congrArg₂ (fun u v : EReal => u - v) (hw d) hm) (congrArg₂ (fun u v : EReal => u * v) (pay5_apply x r d) hv))
/-- A block's sum for the gains. -/
theorem pay12_apply (d : Fin 512) : k0_pay12 (F := Ideal) (k0_pay5 x) (k0_pay7 x g b) (k0_pay8 da) (k0_pay9 x g b) (ix2 (0 : Fin 1) d)
    = ∑ r : Fin 512, onBlk da x g b dGain r d :=
  sums_apply (mulf (gPay da x g b) (k0_pay5 x)) _ d fun r => congrArg₂ (fun u v : EReal => u * v) (gPay_apply da x g b r d) (pay5_apply x r d)
/-- A block's sum for the offsets. -/
theorem pay14_apply (d : Fin 512) : k0_pay14 (F := Ideal) (k0_pay7 x g b) (k0_pay8 da) (k0_pay9 x g b) (ix2 (0 : Fin 1) d)
    = ∑ r : Fin 512, onBlk da x g b dAff r d :=
  sums_apply (gPay da x g b) _ d fun r => gPay_apply da x g b r d
/-- A block's sum for the convolution's bias. -/
theorem pay1_apply (d : Fin 512) : k0_pay1 (F := Ideal) (rPay da x g b) (ix2 (0 : Fin 1) d) = ∑ r : Fin 512, onBlk da x g b dRow r d :=
  sums_apply (rPay da x g b) _ d fun r => rPay_apply da x g b r d
end

variable (m : (ℓ : Loc nD τ sig) → Buf (Elt Ideal) ℓ)

/-- The gated rows' gradient, as the run starts. -/
abbrev argDA (c : Dev nD) : Vec Ideal S8192x512 .bf16 := m ((c.tc : Thread nD τ).loc main_arg0)
/-- The convolved rows, as the run starts. -/
abbrev argX (c : Dev nD) : Vec Ideal S8192x512 .f32 := m ((c.tc : Thread nD τ).loc main_arg1)
/-- The gains, as the run starts. -/
abbrev argG (c : Dev nD) : Vec Ideal S512 .f32 := m ((c.tc : Thread nD τ).loc main_arg2)
/-- The offsets, as the run starts. -/
abbrev argB (c : Dev nD) : Vec Ideal S512 .f32 := m ((c.tc : Thread nD τ).loc main_arg3)

/-- The blocks' places at every grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![0, 0] ∧ win0_7.index t = ![0, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the gated rows' gradient. -/
theorem iblk0 (c : Dev nD) (t : Fin cfg0.N) (r : Fin 512) (d : Fin 512) : iblk m c 0 t (ix2 r d) = argDA m c (ix2 (rowAt t r) d) := by
  blk_point [iblk, V, idx t]
/-- A block of the convolved rows. -/
theorem iblk1 (c : Dev nD) (t : Fin cfg0.N) (r : Fin 512) (d : Fin 512) : iblk m c 1 t (ix2 r d) = argX m c (ix2 (rowAt t r) d) := by
  blk_point [iblk, V, idx t]
/-- The gains as one row. -/
theorem iblk2 (c : Dev nD) (t : Fin cfg0.N) (d : Fin 512) : iblk m c 2 t (ix2 (0 : Fin 1) d) = argG m c (ix1 d) := by
  blk_point [iblk, V, idx t]
/-- The offsets as one row. -/
theorem iblk3 (c : Dev nD) (t : Fin cfg0.N) (d : Fin 512) : iblk m c 3 t (ix2 (0 : Fin 1) d) = argB m c (ix1 d) := by
  blk_point [iblk, V, idx t]

/-- A function of four rows at a block's row is that at the whole arrays' row. -/
theorem whole (f : (Fin 512 → EReal) → (Fin 512 → EReal) → (Fin 512 → EReal) → (Fin 512 → EReal) → Fin 512 → EReal) (c : Dev nD) (t : Fin cfg0.N) (r d : Fin 512) :
    onBlk (iblk m c 0 t) (iblk m c 1 t) (iblk m c 2 t) (iblk m c 3 t) f r d = along (argDA m c) (argX m c) (argG m c) (argB m c) f (rowAt t r) d := by
  have e0 : (fun k => (iblk m c 0 t (ix2 r k) : EReal)) = fun k => (argDA m c (ix2 (rowAt t r) k) : EReal) := funext fun k => iblk0 m c t r k
  have e1 : (fun k => (iblk m c 1 t (ix2 r k) : EReal)) = fun k => (argX m c (ix2 (rowAt t r) k) : EReal) := funext fun k => iblk1 m c t r k
  have e2 : (fun k => (iblk m c 2 t (ix2 (0 : Fin 1) k) : EReal)) = fun k => (argG m c (ix1 k) : EReal) := funext fun k => iblk2 m c t k
  have e3 : (fun k => (iblk m c 3 t (ix2 (0 : Fin 1) k) : EReal)) = fun k => (argB m c (ix1 k) : EReal) := funext fun k => iblk3 m c t k
  exact (congrArg₂ (fun p q => f p q _ _ d) e0 e1).trans (congrArg₂ (fun p q => f _ _ p q d) e2 e3)

/-- What every point leaves for the convolved rows. -/
theorem out4 (c : Dev nD) (t : Fin cfg0.N) : (outsAt0 m c t.val t.isLt).1 = rPay (iblk m c 0 t) (iblk m c 1 t) (iblk m c 2 t) (iblk m c 3 t) := by
  by_cases h0 : t.val % 16 = 0
  · have ht : ¬ 1 ≤ t.val := by have : t.val < 16 := t.isLt; omega
    rw [outsAt0_A m c t h0 ht h0 ht h0 ht]
    frame_out
  · rw [outsAt0_B m c t h0 (by omega) h0 (by omega) h0 (by omega)]
    frame_out

/-- One point's sum of a function of its rows. -/
def part (f : (Fin 512 → EReal) → (Fin 512 → EReal) → (Fin 512 → EReal) → (Fin 512 → EReal) → Fin 512 → EReal) (c : Dev nD) (d : Fin 512) (t : Nat) (h : t < cfg0.N) : EReal :=
  ∑ r : Fin 512, onBlk (iblk m c 0 ⟨t, h⟩) (iblk m c 1 ⟨t, h⟩) (iblk m c 2 ⟨t, h⟩) (iblk m c 3 ⟨t, h⟩) f r d

/-- The three sums after the first point. -/
theorem acc_A (c : Dev nD) (d : Fin 512) (t : Nat) (h : t < cfg0.N) (h0 : t % 16 = 0) :
    (outsAt0 m c t h).2.1 (ix2 (0 : Fin 1) d) = part m dGain c d t h ∧ (outsAt0 m c t h).2.2.1 (ix2 (0 : Fin 1) d) = part m dAff c d t h
      ∧ (outsAt0 m c t h).2.2.2 (ix2 (0 : Fin 1) d) = part m dRow c d t h := by
  have ht : ¬ 1 ≤ t := by have : t < 16 := h; omega
  rw [outsAt0_A m c ⟨t, h⟩ h0 ht h0 ht h0 ht]
  refine ⟨?_, ?_, ?_⟩
  · frame_out
    exact pay12_apply (iblk m c 0 ⟨t, h⟩) (iblk m c 1 ⟨t, h⟩) (iblk m c 2 ⟨t, h⟩) (iblk m c 3 ⟨t, h⟩) d
  · frame_out
    exact pay14_apply (iblk m c 0 ⟨t, h⟩) (iblk m c 1 ⟨t, h⟩) (iblk m c 2 ⟨t, h⟩) (iblk m c 3 ⟨t, h⟩) d
  · frame_out
    exact pay1_apply (iblk m c 0 ⟨t, h⟩) (iblk m c 1 ⟨t, h⟩) (iblk m c 2 ⟨t, h⟩) (iblk m c 3 ⟨t, h⟩) d
/-- The three sums after a later point. -/
theorem acc_B (c : Dev nD) (d : Fin 512) (t : Nat) (h : t < cfg0.N) (h0 : ¬ t % 16 = 0) :
    (outsAt0 m c t h).2.1 (ix2 (0 : Fin 1) d) = (outsAt0 m c (t - 1) (Nat.lt_of_le_of_lt (Nat.sub_le _ _) h)).2.1 (ix2 (0 : Fin 1) d) + part m dGain c d t h
      ∧ (outsAt0 m c t h).2.2.1 (ix2 (0 : Fin 1) d) = (outsAt0 m c (t - 1) (Nat.lt_of_le_of_lt (Nat.sub_le _ _) h)).2.2.1 (ix2 (0 : Fin 1) d) + part m dAff c d t h
      ∧ (outsAt0 m c t h).2.2.2 (ix2 (0 : Fin 1) d) = (outsAt0 m c (t - 1) (Nat.lt_of_le_of_lt (Nat.sub_le _ _) h)).2.2.2 (ix2 (0 : Fin 1) d) + part m dRow c d t h := by
  have ht : 1 ≤ t := by omega
  rw [outsAt0_B m c ⟨t, h⟩ h0 ht h0 ht h0 ht]
  refine ⟨?_, ?_, ?_⟩
  · frame_out
    exact congrArg₂ (· + ·) (shapeCast_apply _ _ (ix2 (0 : Fin 1) d) _ rfl)
      (pay12_apply (iblk m c 0 ⟨t, h⟩) (iblk m c 1 ⟨t, h⟩) (iblk m c 2 ⟨t, h⟩) (iblk m c 3 ⟨t, h⟩) d)
  · frame_out
    exact congrArg₂ (· + ·) (shapeCast_apply _ _ (ix2 (0 : Fin 1) d) _ rfl)
      (pay14_apply (iblk m c 0 ⟨t, h⟩) (iblk m c 1 ⟨t, h⟩) (iblk m c 2 ⟨t, h⟩) (iblk m c 3 ⟨t, h⟩) d)
  · frame_out
    exact congrArg₂ (· + ·) (shapeCast_apply _ _ (ix2 (0 : Fin 1) d) _ rfl)
      (pay1_apply (iblk m c 0 ⟨t, h⟩) (iblk m c 1 ⟨t, h⟩) (iblk m c 2 ⟨t, h⟩) (iblk m c 3 ⟨t, h⟩) d)

/-- A running sum over the points is the sum over all rows, at the last point. -/
theorem total (f : (Fin 512 → EReal) → (Fin 512 → EReal) → (Fin 512 → EReal) → (Fin 512 → EReal) → Fin 512 → EReal) (c : Dev nD) (d : Fin 512)
    (acc : (n : Nat) → n < cfg0.N → EReal) (hA : ∀ n h, n % 16 = 0 → acc n h = part m f c d n h)
    (hB : ∀ n h, ¬ n % 16 = 0 → acc n h = acc (n - 1) (Nat.lt_of_le_of_lt (Nat.sub_le _ _) h) + part m f c d n h) (t : Fin cfg0.N) (h1 : t.val % 16 = 15) :
    acc t.val t.isLt = ∑ R : Fin 8192, along (argDA m c) (argX m c) (argG m c) (argB m c) f R d := by
  refine sum_blocks 16 512 (by decide) (by decide) acc (part m f c d) hA hB
    (fun R => along (argDA m c) (argX m c) (argG m c) (argB m c) f R d) t.val t.isLt h1 fun u hu _ => ?_
  have hu' : u < 16 := hu
  refine Finset.sum_congr rfl fun r _ => (whole m f c ⟨u, hu⟩ r d).trans ?_
  exact congrArg (fun R => along (argDA m c) (argX m c) (argG m c) (argB m c) f R d)
    (Fin.ext (by show u * 512 + r.val = u % 16 * 512 + r.val; rw [Nat.mod_eq_of_lt hu']))

end Cert.Point.ConvNormBwd

end
-- ==== Proof.Point.ConvRef.lean ====
/- The same gradients in the reference. -/
module

public import proofs.«01_k».proof.Proof.Gen.ConvNormBwdRefIdeal.Read
public import proofs.«01_k».proof.Proof.Point.ConvRows

@[expose] public section

set_option maxRecDepth 16384

noncomputable section

namespace Cert.Point.ConvNormBwd

open Cert.Products (sum_blocks)
open Cert.Point (cHalf ofBits_one)
open Cert.Point.Layer
open Idealize.ShloMosaic Idealize.ShloMosaic.TcCoe Idealize.SL.Sem Cert.ConvNormBwdIdeal Cert.ConvNormBwdIdeal.Gen

section
open Cert.ConvNormBwdRefIdeal.Read
variable (DA : Vec Ideal S8192x512 .bf16) (X : Vec Ideal S8192x512 .f32) (G B : Vec Ideal S512 .f32)

/-- The means, in the reference. -/
theorem v3_at (R : Fin 8192) (i : Cert.ConvNormBwdRefIdeal.S8192x1.Idx) (hi : i = ix2 R (0 : Fin 1)) : val_main_v3 (F := Ideal) X i = mean (fun k => X (ix2 R k)) := by
  subst hi
  rw [val_main_v3_apply, val_main_v1_apply, val_main_v0_apply]
  show Ideal.div (Ideal.ofBits .f32 0x00000000#32 + _) cWide = _
  rw [Ideal.ofBits_zero_f32, zero_add]
  refine congrArg (fun z => Ideal.div z cWide) (Finset.sum_congr rfl fun k _ => congrArg X (funext fun a => ?_))
  match a with
  | ⟨0, _⟩ => rfl
  | ⟨1, _⟩ => rfl
/-- The rows less their means, in the reference. -/
theorem v14_at (R : Fin 8192) (d : Fin 512) : val_main_v14 (F := Ideal) X (ix2 R d) = cent (fun k => X (ix2 R k)) d := by
  rw [val_main_v14_apply, val_main_v13_apply, v3_at X R _ (funext fun a => by match a with | ⟨0, _⟩ => rfl | ⟨1, _⟩ => rfl)]
  rfl
/-- They are formed twice. -/
theorem v5_eq : val_main_v5 (F := Ideal) X = val_main_v14 (F := Ideal) X := rfl
/-- The variances, in the reference. -/
theorem v16_at (R : Fin 8192) (i : Cert.ConvNormBwdRefIdeal.S8192x1.Idx) (hi : i = ix2 R (0 : Fin 1)) : val_main_v16 (F := Ideal) X i = vari (fun k => X (ix2 R k)) := by
  subst hi
  rw [val_main_v16_apply, val_main_v12_apply, val_main_v10_apply, val_main_v9_apply]
  show Ideal.div (Ideal.ofBits .f32 0x00000000#32 + _) cWide + cAdd = _
  rw [Ideal.ofBits_zero_f32, zero_add]
  refine congrArg (fun z => Ideal.div z cWide + cAdd) (Finset.sum_congr rfl fun k _ => ?_)
  have hk : idx_main_v9 (idx_main_v10 (ix2 R (0 : Fin 1))) k = ix2 R k := funext fun a => by
    match a with
    | ⟨0, _⟩ => rfl
    | ⟨1, _⟩ => rfl
  rw [hk, val_main_v6_apply, v5_eq, v14_at]
  rfl
/-- The scales, in the reference. -/
theorem v17_at (R : Fin 8192) (i : Cert.ConvNormBwdRefIdeal.S8192x1.Idx) (hi : i = ix2 R (0 : Fin 1)) : val_main_v17 (F := Ideal) X i = scale (fun k => X (ix2 R k)) :=
  congrArg Ideal.rsqrt (v16_at X R i hi)
/-- The normed rows, in the reference. -/
theorem v22_at (R : Fin 8192) (d : Fin 512) : val_main_v22 (F := Ideal) X (ix2 R d) = unit (fun k => X (ix2 R k)) d := by
  rw [val_main_v22_apply, val_main_v21_apply, v14_at, v17_at X R _ (funext fun a => by match a with | ⟨0, _⟩ => rfl | ⟨1, _⟩ => rfl)]
  rfl
/-- The normed rows with gains and offsets, in the reference. -/
theorem v28_at (R : Fin 8192) (d : Fin 512) : val_main_v28 (F := Ideal) X G B (ix2 R d)
    = aff (fun k => X (ix2 R k)) (fun k => G (ix1 k)) (fun k => B (ix1 k)) d := by
  rw [val_main_v28_apply, val_main_v25_apply, v22_at, val_main_v24_apply, val_main_v23_apply, val_main_v27_apply, val_main_v26_apply]
  have hg : idx_main_v23 (idx_main_v24 (ix2 R d)) = ix1 d := funext fun a => by match a with | ⟨0, _⟩ => rfl
  have hb : idx_main_v26 (idx_main_v27 (ix2 R d)) = ix1 d := funext fun a => by match a with | ⟨0, _⟩ => rfl
  rw [hg, hb]
  rfl
/-- The gates, in the reference. -/
theorem gate_at (R : Fin 8192) (d : Fin 512) : val_main_v29_2 (F := Ideal) X G B (ix2 R d)
    = sig (aff (fun k => X (ix2 R k)) (fun k => G (ix1 k)) (fun k => B (ix1 k)) d) := by
  show Ideal.div (Ideal.ofBits .f32 0x3F800000#32) (Ideal.ofBits .f32 0x3F800000#32 + Ideal.exp (-(val_main_v28 (F := Ideal) X G B (ix2 R d)))) = _
  rw [ofBits_one, v28_at]
  rfl

variable (hd : ∀ j, ∃ r : ℝ, DA j = (r : EReal)) (hg : ∀ j, ∃ r : ℝ, G j = (r : EReal))
include hd
/-- What the gates' arguments receive, in the reference. -/
theorem v31_at (R : Fin 8192) (d : Fin 512) : val_main_v31 (F := Ideal) DA X G B (ix2 R d) = along DA X G B dAff R d := by
  obtain ⟨r, hr⟩ := hd (ix2 R d)
  show DA (ix2 R d) * val_main_v29_2 (F := Ideal) X G B (ix2 R d) + val_main_v28 (F := Ideal) X G B (ix2 R d) * DA (ix2 R d)
    * (val_main_v29_2 (F := Ideal) X G B (ix2 R d) * (Ideal.ofBits .f32 0x3F800000#32 - val_main_v29_2 (F := Ideal) X G B (ix2 R d))) = gate _ (DA (ix2 R d))
  rw [ofBits_one, gate_at, v28_at, hr]
  exact (gate_eq _ r).1
/-- They are real. -/
theorem dAff_real (R : Fin 8192) (d : Fin 512) : ∃ r : ℝ, along DA X G B dAff R d = (r : EReal) := by
  obtain ⟨r, hr⟩ := hd (ix2 R d)
  show ∃ s : ℝ, gate _ (DA (ix2 R d)) = (s : EReal)
  rw [hr]
  exact (gate_eq _ r).2
/-- What the normed rows receive, in the reference. -/
theorem v39_at (R : Fin 8192) (d : Fin 512) : val_main_v39 (F := Ideal) DA X G B (ix2 R d) = along DA X G B dAff R d * G (ix1 d) := by
  rw [val_main_v39_apply, v31_at DA X G B hd, val_main_v38_apply, val_main_v23_apply]
  have hk : idx_main_v23 (idx_main_v38 (ix2 R d)) = ix1 d := funext fun a => by match a with | ⟨0, _⟩ => rfl
  rw [hk]
  rfl
/-- What the normed rows receive, times the scale, in the reference. -/
theorem v45_at (R : Fin 8192) (d : Fin 512) : val_main_v45 (F := Ideal) DA X G B (ix2 R d)
    = along DA X G B dAff R d * G (ix1 d) * scale (fun k => X (ix2 R k)) := by
  rw [val_main_v45_apply, v39_at DA X G B hd, val_main_v44_apply, v17_at X R _ (funext fun a => by match a with | ⟨0, _⟩ => rfl | ⟨1, _⟩ => rfl)]
  rfl
/-- What the variances receive, in the reference. -/
theorem v51_at (R : Fin 8192) (i : Cert.ConvNormBwdRefIdeal.S8192x1.Idx) (hi : i = ix2 R (0 : Fin 1)) : val_main_v51 (F := Ideal) DA X G B i
    = slope (fun k => X (ix2 R k)) (fun k => along DA X G B dAff R k * G (ix1 k)) := by
  subst hi
  rw [val_main_v51_apply, val_main_v46_apply, val_main_v43_apply, val_main_v42_apply, val_main_v20_apply, val_main_v18_apply, v16_at X R _ rfl, v17_at X R _ rfl]
  show Ideal.div ((Ideal.ofBits .f32 0x00000000#32 + _) * (cHalf * Ideal.div _ _)) cWide = _
  rw [Ideal.ofBits_zero_f32, zero_add]
  refine congrArg (fun z => Ideal.div (z * _) cWide) (Finset.sum_congr rfl fun k _ => ?_)
  have hk : idx_main_v42 (idx_main_v43 (ix2 R (0 : Fin 1))) k = ix2 R k := funext fun a => by
    match a with
    | ⟨0, _⟩ => exact Fin.ext (by simp)
    | ⟨1, _⟩ => rfl
  rw [hk, val_main_v41_apply, v14_at, v39_at DA X G B hd]
  rfl
/-- What the rows receive through the variances, in the reference. -/
theorem v54_at (R : Fin 8192) (d : Fin 512) : val_main_v54 (F := Ideal) DA X G B (ix2 R d)
    = through (fun k => X (ix2 R k)) (fun k => along DA X G B dAff R k * G (ix1 k)) d := by
  have hi : idx_main_v52 (idx_main_v53 (ix2 R d)) 0 = ix2 R (0 : Fin 1) := funext fun a => by
    match a with
    | ⟨0, _⟩ => rfl
    | ⟨1, _⟩ => rfl
  rw [val_main_v54_apply, val_main_v53_apply, val_main_v52_apply, Fin.sum_univ_one, hi, v51_at DA X G B hd R _ rfl, val_main_v8_apply, v5_eq, v14_at]
  show (Ideal.ofBits .f32 0x00000000#32 + slope _ _) * (cTwo * cent _ d) = _
  rw [Ideal.ofBits_zero_f32, zero_add]
  rfl
/-- What the means receive, spread over the rows, in the reference. -/
theorem v61_at (R : Fin 8192) (i : Cert.ConvNormBwdRefIdeal.S8192x1.Idx) (hi : i = ix2 R (0 : Fin 1)) : val_main_v61 (F := Ideal) DA X G B i
    = Ideal.div ((∑ k, -(along DA X G B dAff R k * G (ix1 k) * scale (fun k => X (ix2 R k))))
        + ∑ k, -(through (fun k => X (ix2 R k)) (fun k => along DA X G B dAff R k * G (ix1 k)) k)) cWide := by
  subst hi
  rw [val_main_v61_apply, val_main_v59_apply, val_main_v49_apply, val_main_v48_apply, val_main_v57_apply, val_main_v56_apply]
  show Ideal.div ((Ideal.ofBits .f32 0x00000000#32 + _) + (Ideal.ofBits .f32 0x00000000#32 + _)) cWide = _
  rw [Ideal.ofBits_zero_f32, zero_add, zero_add]
  refine congrArg (fun z => Ideal.div z cWide) (congrArg₂ (fun u v : EReal => u + v) (Finset.sum_congr rfl fun k _ => ?_) (Finset.sum_congr rfl fun k _ => ?_))
  · have hk : idx_main_v48 (idx_main_v49 (ix2 R (0 : Fin 1))) k = ix2 R k := funext fun a => by
      match a with
      | ⟨0, _⟩ => exact Fin.ext (by simp)
      | ⟨1, _⟩ => rfl
    rw [hk]
    exact congrArg (fun z : EReal => -z) (v45_at DA X G B hd R k)
  · have hk : idx_main_v56 (idx_main_v57 (ix2 R (0 : Fin 1))) k = ix2 R k := funext fun a => by
      match a with
      | ⟨0, _⟩ => exact Fin.ext (by simp)
      | ⟨1, _⟩ => rfl
    rw [hk]
    exact congrArg (fun z : EReal => -z) (v54_at DA X G B hd R k)

/-- The gains' sums, in the reference. -/
theorem ref_dg : val_main_v65 (F := Ideal) DA X G B = sumArr DA X G B dGain := funext fun j => by
  obtain ⟨R, d, rfl⟩ : ∃ (R : Fin 1) (d : Fin 512), j = ix2 R d := ⟨j 0, j 1, (ix2_eta j).symm⟩
  obtain rfl : R = 0 := Subsingleton.elim _ _
  rw [val_main_v65_apply, val_main_v40_apply, Fin.sum_univ_one, val_main_v37_apply, val_main_v36_apply]
  show Ideal.ofBits .f32 0x00000000#32 + (Ideal.ofBits .f32 0x00000000#32 + _) = _
  rw [Ideal.ofBits_zero_f32, zero_add, zero_add]
  refine Finset.sum_congr rfl fun R _ => ?_
  have hk : idx_main_v36 (idx_main_v37 (idx_main_v40 (idx_main_v65 (ix2 (0 : Fin 1) d)) 0)) R = ix2 R d := funext fun a => by
    match a with
    | ⟨0, _⟩ => rfl
    | ⟨1, _⟩ => exact Fin.ext (by simp)
  rw [hk, val_main_v35_apply, v22_at, v31_at DA X G B hd]
  exact mul_comm _ _
/-- The offsets' sums, in the reference. -/
theorem ref_db : val_main_v66 (F := Ideal) DA X G B = sumArr DA X G B dAff := funext fun j => by
  obtain ⟨R, d, rfl⟩ : ∃ (R : Fin 1) (d : Fin 512), j = ix2 R d := ⟨j 0, j 1, (ix2_eta j).symm⟩
  obtain rfl : R = 0 := Subsingleton.elim _ _
  rw [val_main_v66_apply, val_main_v34_apply, Fin.sum_univ_one, val_main_v33_apply, val_main_v32_apply]
  show Ideal.ofBits .f32 0x00000000#32 + (Ideal.ofBits .f32 0x00000000#32 + _) = _
  rw [Ideal.ofBits_zero_f32, zero_add, zero_add]
  refine Finset.sum_congr rfl fun R _ => ?_
  have hk : idx_main_v32 (idx_main_v33 (idx_main_v34 (idx_main_v66 (ix2 (0 : Fin 1) d)) 0)) R = ix2 R d := funext fun a => by
    match a with
    | ⟨0, _⟩ => rfl
    | ⟨1, _⟩ => exact Fin.ext (by simp)
  rw [hk]
  exact v31_at DA X G B hd R d

include hg
/-- What the convolved rows receive, in the reference. -/
theorem v64_at (R : Fin 8192) (d : Fin 512) : val_main_v64 (F := Ideal) DA X G B (ix2 R d) = along DA X G B dRow R d := by
  have hi : idx_main_v62 (idx_main_v63 (ix2 R d)) 0 = ix2 R (0 : Fin 1) := funext fun a => by
    match a with
    | ⟨0, _⟩ => rfl
    | ⟨1, _⟩ => rfl
  rw [val_main_v64_apply, val_main_v58_apply, v45_at DA X G B hd, v54_at DA X G B hd, val_main_v63_apply, val_main_v62_apply, Fin.sum_univ_one, hi,
    v61_at DA X G B hd R _ rfl]
  show _ + (Ideal.ofBits .f32 0x00000000#32 + _) = _
  rw [Ideal.ofBits_zero_f32, zero_add]
  refine back_eq (fun k => (X (ix2 R k) : EReal)) (fun k => along DA X G B dAff R k * G (ix1 k)) (fun k => ?_) d
  obtain ⟨a, ha⟩ := dAff_real DA X G B hd R k
  obtain ⟨b, hb⟩ := hg (ix1 k)
  exact ⟨a * b, by rw [ha, hb, EReal.coe_mul]⟩
/-- The reference's gradient of the convolved rows. -/
theorem ref_rows : val_main_v64 (F := Ideal) DA X G B = rowArr DA X G B := funext fun j => by
  obtain ⟨R, d, rfl⟩ : ∃ (R : Fin 8192) (d : Fin 512), j = ix2 R d := ⟨j 0, j 1, (ix2_eta j).symm⟩
  exact v64_at DA X G B hd hg R d
/-- The reference's gradient of the convolution's bias. -/
theorem ref_bias : val_main_v68 (F := Ideal) DA X G B = sumArr DA X G B dRow := funext fun j => by
  obtain ⟨R, d, rfl⟩ : ∃ (R : Fin 1) (d : Fin 512), j = ix2 R d := ⟨j 0, j 1, (ix2_eta j).symm⟩
  obtain rfl : R = 0 := Subsingleton.elim _ _
  rw [val_main_v68_apply, val_main_v67_apply]
  show Ideal.ofBits .f32 0x00000000#32 + _ = _
  rw [Ideal.ofBits_zero_f32, zero_add]
  refine Finset.sum_congr rfl fun R _ => ?_
  have hk : idx_main_v67 (idx_main_v68 (ix2 (0 : Fin 1) d)) R = ix2 R d := funext fun a => by
    match a with
    | ⟨0, _⟩ => rfl
    | ⟨1, _⟩ => rfl
  rw [hk]
  exact v64_at DA X G B hd hg R d
end

end Cert.Point.ConvNormBwd

end
-- ==== Proof.Point.ConvNormBwd.lean ====
/- The backward pass of the convolution module's layer norm and gate: what the convolved rows, the gains, the offsets and the convolution's bias receive. -/
module

public import proofs.«01_k».proof.Proof.Point.ConvRef
public import proofs.«01_k».proof.Proof.Xattn.Claim

@[expose] public section

set_option maxRecDepth 16384

noncomputable section

namespace Cert.Point.ConvNormBwd

open Cert.Products (sum_blocks)
open Cert.Point (cHalf ofBits_one)
open Cert.Point.Layer
open Idealize.ShloMosaic Idealize.ShloMosaic.TcCoe Idealize.SL.Sem Cert.ConvNormBwdIdeal Cert.ConvNormBwdIdeal.Gen

variable (m : (ℓ : Loc nD τ sig) → Buf (Elt Ideal) ℓ)

/-- What the convolved rows receive, after the run. -/
theorem final4 (c : Dev nD) : (dats m 0 c).arrAt 4 cfg0.N = rowArr (argDA m c) (argX m c) (argG m c) (argB m c) := by
  refine (dats m 0 c).arrAt_eq_of_covers 4 _ (by decide +kernel) fun t hf y => ?_
  blk_simp
  rw [after0_4, out4]
  obtain ⟨r, d, rfl⟩ : ∃ (r : Fin 512) (d : Fin 512), y = ix2 r d := ⟨y 0, y 1, (ix2_eta y).symm⟩
  have hy : ((cfg0.win 4).blk t).view.emb (ix2 r d) = ix2 (rowAt t r) d := by
    blk_ext [idx t]
  refine ((rPay_apply (iblk m c 0 t) (iblk m c 1 t) (iblk m c 2 t) (iblk m c 3 t) r d).trans (whole m dRow c t r d)).trans ?_
  rw [hy]
  rfl
/-- What the gains receive, after the run. -/
theorem final5 (c : Dev nD) : (dats m 0 c).arrAt 5 cfg0.N = sumArr (argDA m c) (argX m c) (argG m c) (argB m c) dGain := by
  refine (dats m 0 c).arrAt_eq_of_covers 5 _ (by decide +kernel) fun t hf y => ?_
  have h1 : t.val % 16 = 15 := (flush0_5 t).mp hf
  blk_simp
  rw [after0_5]
  obtain ⟨r, d, rfl⟩ : ∃ (r : Fin 1) (d : Fin 512), y = ix2 r d := ⟨y 0, y 1, (ix2_eta y).symm⟩
  obtain rfl : r = 0 := Subsingleton.elim _ _
  have hy : ((cfg0.win 5).blk t).view.emb (ix2 (0 : Fin 1) d) = ix2 (0 : Fin 1) d := by
    blk_ext [idx t]
  refine (total m dGain c d (fun n h => (outsAt0 m c n h).2.1 (ix2 (0 : Fin 1) d)) (fun n h h0 => (acc_A m c d n h h0).1) (fun n h h0 => (acc_B m c d n h h0).1) t h1).trans ?_
  rw [hy]
  rfl
/-- What the offsets receive, after the run. -/
theorem final6 (c : Dev nD) : (dats m 0 c).arrAt 6 cfg0.N = sumArr (argDA m c) (argX m c) (argG m c) (argB m c) dAff := by
  refine (dats m 0 c).arrAt_eq_of_covers 6 _ (by decide +kernel) fun t hf y => ?_
  have h1 : t.val % 16 = 15 := (flush0_6 t).mp hf
  blk_simp
  rw [after0_6]
  obtain ⟨r, d, rfl⟩ : ∃ (r : Fin 1) (d : Fin 512), y = ix2 r d := ⟨y 0, y 1, (ix2_eta y).symm⟩
  obtain rfl : r = 0 := Subsingleton.elim _ _
  have hy : ((cfg0.win 6).blk t).view.emb (ix2 (0 : Fin 1) d) = ix2 (0 : Fin 1) d := by
    blk_ext [idx t]
  refine (total m dAff c d (fun n h => (outsAt0 m c n h).2.2.1 (ix2 (0 : Fin 1) d)) (fun n h h0 => (acc_A m c d n h h0).2.1) (fun n h h0 => (acc_B m c d n h h0).2.1) t h1).trans ?_
  rw [hy]
  rfl
/-- What the convolution's bias receives, after the run. -/
theorem final7 (c : Dev nD) : (dats m 0 c).arrAt 7 cfg0.N = sumArr (argDA m c) (argX m c) (argG m c) (argB m c) dRow := by
  refine (dats m 0 c).arrAt_eq_of_covers 7 _ (by decide +kernel) fun t hf y => ?_
  have h1 : t.val % 16 = 15 := (flush0_7 t).mp hf
  blk_simp
  rw [after0_7]
  obtain ⟨r, d, rfl⟩ : ∃ (r : Fin 1) (d : Fin 512), y = ix2 r d := ⟨y 0, y 1, (ix2_eta y).symm⟩
  obtain rfl : r = 0 := Subsingleton.elim _ _
  have hy : ((cfg0.win 7).blk t).view.emb (ix2 (0 : Fin 1) d) = ix2 (0 : Fin 1) d := by
    blk_ext [idx t]
  refine (total m dRow c d (fun n h => (outsAt0 m c n h).2.2.2 (ix2 (0 : Fin 1) d)) (fun n h h0 => (acc_A m c d n h h0).2.2) (fun n h h0 => (acc_B m c d n h h0).2.2) t h1).trans ?_
  rw [hy]
  rfl

/-- The side conditions of the precondition. -/
theorem pre_facts : Cert.Pre_finite_grad.Facts where
  bitsLt_bf16_f32 := by decide
  bcast_S_S8192x512 := by decide
  bcast_S_S512 := by decide

section
variable (DA : FVec Ideal Cert.Pre_finite_grad.S8192x512 .bf16) (X : FVec Ideal Cert.Pre_finite_grad.S8192x512 .f32) (G B : FVec Ideal Cert.Pre_finite_grad.S512 .f32)
/-- The precondition's first half: every gradient entry is real. -/
theorem pre_da (h : (@Cert.Pre_finite_grad.fn pre_facts Ideal _ DA X G B).1 = fun _ => 1#1) (j) : ∃ r : ℝ, DA j = (r : EReal) := by
  refine Cert.Xattn.real_of_lt (DA j) ?_
  rw [← Cert.Xattn.ofBits_inf]
  exact congrFun h j
/-- The precondition's second half: every gain is real. -/
theorem pre_g (h : (@Cert.Pre_finite_grad.fn pre_facts Ideal _ DA X G B).2 = fun _ => 1#1) (j) : ∃ r : ℝ, G j = (r : EReal) := by
  refine Cert.Xattn.real_of_lt (G j) ?_
  rw [← Cert.Xattn.ofBits_inf]
  exact congrFun h j
end

/-- The reference runs to its end and leaves its arguments and the counters as they were; it declares no semaphore. -/
theorem frame_ref : @Cert.quiescent_ConvNormBwdRefIdeal Cert.ConvNormBwdRefIdeal.Gen.facts := fun m g _ =>
  (θ_run Cert.ConvNormBwdRefIdeal.defs _ _).mono
    (fun r h => ⟨fun c => (h c).2.2.2.2, sem_eq_zero_of_no_sems (by decide) r.2⟩) (Cert.ConvNormBwdRefIdeal.Value.run (F := Ideal) m g)

/-- The kernel's gradients of the convolution's norm and the reference's agree wherever the gradient coming in and the gains are finite. -/
theorem value : @Cert.algebraic_ConvNormBwdIdeal_ConvNormBwdRefIdeal_pre_finite_grad Cert.ConvNormBwdIdeal.Gen.facts Cert.ConvNormBwdRefIdeal.Gen.facts pre_facts := by
  pair_intro
  · run_from Cert.ConvNormBwdIdeal.Value.run_blocks m g
  · refine (θ_run Cert.ConvNormBwdRefIdeal.defs _ _).mono (fun r h c => ?_) (Cert.ConvNormBwdRefIdeal.Value.run (F := Ideal) m' g')
    obtain ⟨e0, e1, e2, e3, hr⟩ := h c
    obtain ⟨h0, h1, h2, h3⟩ := hagree c
    have hd := pre_da (argDA m c) (argX m c) (argG m c) (argB m c) (hpre c).1
    have hg := pre_g (argDA m c) (argX m c) (argG m c) (argB m c) (hpre c).2
    refine ⟨e0.trans ?_, e1.trans ?_, e2.trans ?_, e3.trans ?_, hr⟩
    · rw [final4 m c, Cert.ConvNormBwdRefIdeal.Read.val_main_v64_eq, h0, h1, h2, h3]
      exact ref_rows _ _ _ _ hd hg
    · rw [final5 m c, Cert.ConvNormBwdRefIdeal.Read.val_main_v65_eq, h0, h1, h2, h3]
      exact ref_dg _ _ _ _ hd
    · rw [final6 m c, Cert.ConvNormBwdRefIdeal.Read.val_main_v66_eq, h0, h1, h2, h3]
      exact ref_db _ _ _ _ hd
    · rw [final7 m c, Cert.ConvNormBwdRefIdeal.Read.val_main_v68_eq, h0, h1, h2, h3]
      exact ref_bias _ _ _ _ hd hg

end Cert.Point.ConvNormBwd

end
-- ==== Proof.Point.GatingRows.lean ====
/- The spatial gating's forward pass: what one grid point stores, chunk by chunk and group by group. -/
module

public import proofs.«01_k».proof.Defs
public import proofs.«01_k».proof.Proof.Gen.GatingFwd.Frame
public import proofs.«01_k».proof.Proof.Gen.GatingFwdIdeal.Value
public import proofs.«01_k».proof.Proof.Point.ConvRows

@[expose] public section

set_option maxRecDepth 16384

noncomputable section

namespace Cert.Point.GatingFwd

open Cert.Point.ConvNormBwd (aff)
open Idealize.ShloMosaic Idealize.ShloMosaic.TcCoe Idealize.SL.Sem Cert.GatingFwdIdeal Cert.GatingFwdIdeal.Gen
open Idealize.ShloMosaic.ValueIdx (contrEquiv1 contrEquiv1_symm_val)

/-- The smooth rectifier, in its form with the hyperbolic tangent. -/
def gel (x : EReal) : EReal :=
  Ideal.ofBits .f32 0x3F000000#32 * x * (Ideal.ofBits .f32 0x3F800000#32
    + Ideal.tanh (Ideal.ofBits .f32 0x3F4C422A#32 * (x + Ideal.ofBits .f32 0x3D372713#32 * x * x * x)))
/-- A weight where the source row is not behind the target row, and zero elsewhere. -/
def kept (t s : Fin 128) (a : EReal) : EReal :=
  Scalar.select (IntOp.cmpi .sle (BitVec.ofNat 32 s.val) (BitVec.ofNat 32 t.val)) a (Ideal.ofBits .f32 0x00000000#32)

/-- Entry `t` of part `n`, where 512 entries are four parts of 128. -/
abbrev at4 (n : Fin 4) (t : Fin 128) : Fin 512 := ⟨n.val * 128 + t.val, by omega⟩
/-- Every entry belongs to a part. -/
theorem at4_cases (j : Fin 512) : ∃ (n : Fin 4) (t : Fin 128), j = at4 n t :=
  ⟨⟨j.val / 128, by omega⟩, ⟨j.val % 128, by omega⟩, Fin.ext (by show j.val = j.val / 128 * 128 + j.val % 128; omega)⟩
/-- A lane of the left half. -/
abbrev lo (d : Fin 512) : Fin 1024 := ⟨d.val, by omega⟩
/-- A lane of the right half. -/
abbrev hi (d : Fin 512) : Fin 1024 := ⟨512 + d.val, by omega⟩

section
variable (z : Vec Ideal S512x1024 .bf16) (g b : Vec Ideal S1x512 .f32)

/-- The left half of a block, rectified. -/
theorem u_apply (r d : Fin 512) : k0_pay3 (F := Ideal) z (ix2 r d) = gel (z (ix2 r (lo d))) := by
  unfold k0_pay3
  refine (extractStridedSlice_apply _ _ _ (ix2 r d) (ix2 r (lo d)) fun a => ?_).trans rfl
  match a with
  | ⟨0, _⟩ => exact (Nat.zero_add _).symm
  | ⟨1, _⟩ => exact (Nat.zero_add _).symm
/-- The right half of a block, rectified. -/
abbrev right : FVec Ideal S512x512 .f32 := extractStridedSlice S512x512 ![0, 512] (k0_pay2 (F := Ideal) z) slices_S512x1024_o0_512_S512x512
/-- Its entries. -/
theorem right_apply (r d : Fin 512) : right z (ix2 r d) = gel (z (ix2 r (hi d))) := by
  refine (extractStridedSlice_apply _ _ _ (ix2 r d) (ix2 r (hi d)) fun a => ?_).trans rfl
  match a with
  | ⟨0, _⟩ => exact (Nat.zero_add _).symm
  | ⟨1, _⟩ => rfl
/-- The right half, rectified and normed, with its gains and offsets. -/
theorem v_apply (r d : Fin 512) : k0_pay4 (F := Ideal) z g b (ix2 r d)
    = aff (fun k => gel (z (ix2 r (hi k)))) (fun k => g (ix2 (0 : Fin 1) k)) (fun k => b (ix2 (0 : Fin 1) k)) d := by
  have h : k0_pay4 (F := Ideal) z g b = Cert.ConvNormBwdIdeal.Gen.k0_pay6 (F := Ideal) (right z) g b := rfl
  rw [h]
  refine (Cert.Point.ConvNormBwd.pay6_apply (right z) g b r d).trans ?_
  exact congrArg (fun f => aff f _ _ d) (funext fun k => right_apply z r k)
end

/-- A group's weights, kept where the source row is not behind. -/
theorem weight_apply (w : Vec Ideal S1x128x128 .f32) (t s : Fin 128) :
    k0_pay6 (F := Ideal) (iota .tc S128x128 32 [0] iota_S128x128_d0_w32) (iota .tc S128x128 32 [1] iota_S128x128_d1_w32) w (ix2 t s)
      = kept t s (w (ix3 (0 : Fin 1) t s)) := by
  have h0 : iota .tc S128x128 32 [0] iota_S128x128_d0_w32 (ix2 t s) = BitVec.ofNat 32 t.val :=
    congrArg (BitVec.ofNat 32) (by show 0 * 128 + t.val = t.val; omega)
  have h1 : iota .tc S128x128 32 [1] iota_S128x128_d1_w32 (ix2 t s) = BitVec.ofNat 32 s.val :=
    congrArg (BitVec.ofNat 32) (by show 0 * 128 + s.val = s.val; omega)
  have h2 : shapeCast S128x128 w shapeCasts_S1x128x128_S128x128 (ix2 t s) = w (ix3 (0 : Fin 1) t s) := by
    refine shapeCast_apply _ _ _ (ix3 (0 : Fin 1) t s) ?_
    rw [Shape.rowMajor_val_three, Shape.rowMajor_val_two]
    show (0 * 128 + t.val) * 128 + s.val = t.val * 128 + s.val
    omega
  show Scalar.select (IntOp.cmpi .sle (iota .tc S128x128 32 [1] iota_S128x128_d1_w32 (ix2 t s)) (iota .tc S128x128 32 [0] iota_S128x128_d0_w32 (ix2 t s)))
    (shapeCast S128x128 w shapeCasts_S1x128x128_S128x128 (ix2 t s)) _ = _
  rw [h0, h1, h2]
  rfl

/-- Rows mixed within a chunk: entry `(t, c)` is the sum over the chunk's 128 rows. -/
theorem mix_apply (x y : FVec Ideal S128x128 .bf16) (t c : Fin 128) :
    matmul dot_S128x128_S128x128_S128x128_1_0_0_1_n_n none x y (constant S128x128 .f32 0x00000000#32) (ix2 t c)
      = ∑ s : Fin 128, x (ix2 t s) * y (ix2 s c) := by
  show FloatOps.matmul _ none x y _ _ = _
  rw [Ideal.matmul_constant_zero_apply,
    ← Equiv.sum_comp (contrEquiv1 dot_S128x128_S128x128_S128x128_1_0_0_1_n_n 128 rfl rfl).symm]
  refine Finset.sum_congr rfl fun k _ => ?_
  have hc := contrEquiv1_symm_val dot_S128x128_S128x128_S128x128_1_0_0_1_n_n 128 rfl rfl k
  congr 2 <;> funext a <;> apply Fin.ext
  · match a with
    | ⟨0, _⟩ => rfl
    | ⟨1, _⟩ => exact hc
  · match a with
    | ⟨0, _⟩ => exact hc
    | ⟨1, _⟩ => rfl

/-- One group of a chunk: its rows mixed by the weights, with a bias for each row. -/
def cell (w x : FVec Ideal S128x128 .bf16) (s : Vec Ideal S128x1 .f32) : FVec Ideal S128x128 .f32 :=
  addf (matmul dot_S128x128_S128x128_S128x128_1_0_0_1_n_n none w x (constant S128x128 .f32 0x00000000#32))
    (broadcastTo S128x128 s broadcasts_S128x1_S128x128)
/-- Its entries. -/
theorem cell_apply (w x : FVec Ideal S128x128 .bf16) (s : Vec Ideal S128x1 .f32) (t c : Fin 128) :
    cell w x s (ix2 t c) = (∑ k : Fin 128, w (ix2 t k) * x (ix2 k c)) + s (ix2 t (0 : Fin 1)) :=
  congrArg₂ (fun a b : EReal => a + b) (mix_apply w x t c) (Cert.Point.col_spread (e := .f32) s broadcasts_S128x1_S128x128 t c (by decide))

/-- Four groups side by side. -/
theorem beside_apply (x : Fin 4 → FVec Ideal S128x128 .f32) (g : Fin 4) (t c : Fin 128) :
    concatenate S128x512 1 [⟨S128x128, x 0⟩, ⟨S128x128, x 1⟩, ⟨S128x128, x 2⟩, ⟨S128x128, x 3⟩]
      concatenates_S128x128_S128x128_S128x128_S128x128_S128x512_d1 (ix2 t (at4 g c)) = x g (ix2 t c) := by
  have off : ∀ (e : Fin 128) (b : Fin 2), b.cast rfl ≠ (1 : Fin 2) → (ix2 t e b : ℕ) = (ix2 t (at4 g c) b : ℕ) := fun e b hb => by
    match b with
    | ⟨0, _⟩ => rfl
    | ⟨1, _⟩ => exact absurd rfl hb
  match g with
  | ⟨0, _⟩ => refine concatenate_apply_piece (t := S128x512) 1 _ _ _ 0 ?_ S128x128 (x 0) ?_ (rfl : S128x128.rank = S128x512.rank) 0 ?_ (ix2 t c) ?_ ?_ <;> [simp; rfl; rfl; exact off c; rfl]
  | ⟨1, _⟩ => refine concatenate_apply_piece (t := S128x512) 1 _ _ _ 1 ?_ S128x128 (x 1) ?_ (rfl : S128x128.rank = S128x512.rank) 128 ?_ (ix2 t c) ?_ ?_ <;> [simp; rfl; rfl; exact off c; rfl]
  | ⟨2, _⟩ => refine concatenate_apply_piece (t := S128x512) 1 _ _ _ 2 ?_ S128x128 (x 2) ?_ (rfl : S128x128.rank = S128x512.rank) 256 ?_ (ix2 t c) ?_ ?_ <;> [simp; rfl; rfl; exact off c; rfl]
  | ⟨3, _⟩ => refine concatenate_apply_piece (t := S128x512) 1 _ _ _ 3 ?_ S128x128 (x 3) ?_ (rfl : S128x128.rank = S128x512.rank) 384 ?_ (ix2 t c) ?_ ?_ <;> [simp; rfl; rfl; exact off c; rfl]

section
variable (u : FVec Ideal S512x512 .f32) (v : FVec Ideal S512x512 .bf16) (w : Fin 4 → FVec Ideal S128x128 .bf16) (s : Fin 4 → Vec Ideal S128x1 .f32)

/-- The chunks lie in the block. -/
theorem inRows : ∀ n : Fin 4, S512x512.Slices ![n.val * 128, 0] S128x512 := by decide
/-- The groups of the chunks lie in the block. -/
theorem inCells : ∀ n g : Fin 4, S512x512.Slices ![n.val * 128, g.val * 128] S128x128 := by decide
/-- A group of a chunk. -/
abbrev cut (n g : Fin 4) : FVec Ideal S128x128 .bf16 := extractStridedSlice S128x128 ![n.val * 128, g.val * 128] v (inCells n g)
/-- What is stored for a chunk: the left half times the mixed right half. -/
def stored (n : Fin 4) : FVec Ideal S128x512 .bf16 :=
  truncf .bf16 (mulf (extractStridedSlice S128x512 ![n.val * 128, 0] u (inRows n))
    (concatenate S128x512 1 [⟨S128x128, cell (w 0) (cut v n 0) (s 0)⟩, ⟨S128x128, cell (w 1) (cut v n 1) (s 1)⟩,
      ⟨S128x128, cell (w 2) (cut v n 2) (s 2)⟩, ⟨S128x128, cell (w 3) (cut v n 3) (s 3)⟩] concatenates_S128x128_S128x128_S128x128_S128x128_S128x512_d1)) bitsLt_bf16_f32
/-- Its entries. -/
theorem stored_apply (n g : Fin 4) (t c : Fin 128) : stored u v w s n (ix2 t (at4 g c))
    = u (ix2 (at4 n t) (at4 g c)) * ((∑ k : Fin 128, w g (ix2 t k) * v (ix2 (at4 n k) (at4 g c))) + s g (ix2 t (0 : Fin 1))) := by
  have hu : extractStridedSlice S128x512 ![n.val * 128, 0] u (inRows n) (ix2 t (at4 g c)) = u (ix2 (at4 n t) (at4 g c)) := by
    refine extractStridedSlice_apply _ _ _ _ _ fun a => ?_
    match a with
    | ⟨0, _⟩ => rfl
    | ⟨1, _⟩ => exact (Nat.zero_add _).symm
  have hv : ∀ k, cut v n g (ix2 k c) = v (ix2 (at4 n k) (at4 g c)) := fun k => by
    refine extractStridedSlice_apply _ _ _ _ _ fun a => ?_
    match a with
    | ⟨0, _⟩ => rfl
    | ⟨1, _⟩ => rfl
  refine congrArg₂ (fun a b : EReal => a * b) hu ((beside_apply (fun g => cell (w g) (cut v n g) (s g)) g t c).trans ((cell_apply _ _ _ t c).trans ?_))
  exact congrArg (fun z : EReal => z + s g (ix2 t (0 : Fin 1))) (Finset.sum_congr rfl fun k _ => congrArg (fun z : EReal => w g (ix2 t k) * z) (hv k))
end

/-- Four chunks stored one below the other. -/
theorem below_apply (P : Fin 4 → Vec Ideal S128x512 .bf16) (n : Fin 4) (t : Fin 128) (d : Fin 512) :
    View.canon (Val := Elt Ideal) (s := S512x512) (e := .bf16) [⟨r0_13, P 3⟩, ⟨r0_12, P 2⟩, ⟨r0_11, P 1⟩, ⟨r0_10, P 0⟩] (ix2 (at4 n t) d) = P n (ix2 t d) := by
  have emb : ∀ (o : Nat) (inb) (j : Fin 512) (hj : j.val = o + t.val),
      ix2 j d = (Rect.unit (s := S512x512) ![o, 0] S128x512.size inb).emb (ix2 t d) := fun o inb j hj => funext fun a => Fin.ext (by
    match a with
    | ⟨0, _⟩ => show j.val = o + 1 * t.val; omega
    | ⟨1, _⟩ => show d.val = 0 + 1 * d.val; omega)
  have out : ∀ (o : Nat) (inb) (j : Fin 512) (hj : j.val < o), ix2 j d ∉ (Rect.unit (s := S512x512) ![o, 0] S128x512.size inb).set := fun o inb j hj h => by
    have := (Rect.mem_set_unit.mp h (0 : Fin 2)).1
    exact absurd this (by show ¬ o ≤ j.val; omega)
  have hj : (at4 n t).val = n.val * 128 + t.val := rfl
  generalize at4 n t = j at hj ⊢
  generalize hp3 : P 3 = p3
  generalize hp2 : P 2 = p2
  generalize hp1 : P 1 = p1
  generalize hp0 : P 0 = p0
  by_cases h3 : 384 ≤ j.val
  · obtain rfl : n = 3 := Fin.ext (by show n.val = 3; omega)
    rw [emb 384 inb_S512x512_S128x512_384_0 j (by rw [hj]; rfl), View.canon_cons_emb, hp3]
  · refine (View.canon_cons_of_not_mem (Val := Elt Ideal) (e := .bf16) ⟨r0_13, p3⟩ _ (out 384 inb_S512x512_S128x512_384_0 j (by omega))).trans ?_
    by_cases h2 : 256 ≤ j.val
    · obtain rfl : n = 2 := Fin.ext (by show n.val = 2; omega)
      rw [emb 256 inb_S512x512_S128x512_256_0 j (by rw [hj]; rfl), View.canon_cons_emb, hp2]
    · refine (View.canon_cons_of_not_mem (Val := Elt Ideal) (e := .bf16) ⟨r0_12, p2⟩ _ (out 256 inb_S512x512_S128x512_256_0 j (by omega))).trans ?_
      by_cases h1 : 128 ≤ j.val
      · obtain rfl : n = 1 := Fin.ext (by show n.val = 1; omega)
        rw [emb 128 inb_S512x512_S128x512_128_0 j (by rw [hj]; rfl), View.canon_cons_emb, hp1]
      · refine (View.canon_cons_of_not_mem (Val := Elt Ideal) (e := .bf16) ⟨r0_11, p1⟩ _ (out 128 inb_S512x512_S128x512_128_0 j (by omega))).trans ?_
        obtain rfl : n = 0 := Fin.ext (by show n.val = 0; omega)
        rw [emb 0 inb_S512x512_S128x512_0_0 j (by rw [hj]; rfl), View.canon_cons_emb, hp0]

section
variable (x0 : Vec Ideal S512x1024 .bf16) (x1 x2 : Vec Ideal S1x512 .f32) (x3 : Vec Ideal S4x128x128 .f32) (x4 : Vec Ideal S128x4 .f32)

/-- The groups lie among the weights. -/
theorem inWeights : ∀ (g : Fin 4) (a : Fin 3), ![g.val, 0, 0] a + S1x128x128.size a ≤ S4x128x128.size a := by decide
/-- The groups lie among the biases. -/
theorem inBiases : ∀ (g : Fin 4) (a : Fin 2), ![0, g.val] a + S128x1.size a ≤ S128x4.size a := by decide
/-- A group's weights as loaded. -/
abbrev ldW (g : Fin 4) : Vec Ideal S1x128x128 .f32 := View.ld (Val := Elt Ideal) (S := S4x128x128) (e' := .f32) x3 (Rect.unit ![g.val, 0, 0] S1x128x128.size (inWeights g))
/-- A group's biases as loaded. -/
abbrev ldS (g : Fin 4) : Vec Ideal S128x1 .f32 := View.ld (Val := Elt Ideal) (S := S128x4) (e' := .f32) x4 (Rect.unit ![0, g.val] S128x1.size (inBiases g))
/-- A group's weights as used. -/
abbrev useW (g : Fin 4) : FVec Ideal S128x128 .bf16 :=
  k0_pay6 (F := Ideal) (iota .tc S128x128 32 [0] iota_S128x128_d0_w32) (iota .tc S128x128 32 [1] iota_S128x128_d1_w32) (ldW x3 g)
/-- A point's block of gated rows, as its four chunks. -/
theorem out_eq : out0_5 (F := Ideal) x0 x1 x2 x3 x4 = View.canon (Val := Elt Ideal) (s := S512x512) (e := .bf16)
    [⟨r0_13, stored (k0_pay3 x0) (k0_pay4 x0 x1 x2) (useW x3) (ldS x4) 3⟩, ⟨r0_12, stored (k0_pay3 x0) (k0_pay4 x0 x1 x2) (useW x3) (ldS x4) 2⟩,
      ⟨r0_11, stored (k0_pay3 x0) (k0_pay4 x0 x1 x2) (useW x3) (ldS x4) 1⟩, ⟨r0_10, stored (k0_pay3 x0) (k0_pay4 x0 x1 x2) (useW x3) (ldS x4) 0⟩] := by
  have e0 : View.ld (Val := Elt Ideal) x0 r0_0 = x0 := View.ld_unit_lit' _ _ (by decide)
  have e1 : ∀ x : Vec Ideal S1x512 .f32, View.ld (Val := Elt Ideal) x r0_1 = x := fun x => View.ld_unit_lit' _ _ (by decide)
  unfold_out out0_5
  rw [e0, e1, e1]
  rfl

/-- A point's block of gated rows, entry by entry. -/
theorem out_apply (n g : Fin 4) (t c : Fin 128) : out0_5 (F := Ideal) x0 x1 x2 x3 x4 (ix2 (at4 n t) (at4 g c))
    = gel (x0 (ix2 (at4 n t) (lo (at4 g c)))) * ((∑ s : Fin 128, kept t s (x3 (ix3 g t s))
        * aff (fun k => gel (x0 (ix2 (at4 n s) (hi k)))) (fun k => x1 (ix2 (0 : Fin 1) k)) (fun k => x2 (ix2 (0 : Fin 1) k)) (at4 g c)) + x4 (ix2 t g)) := by
  have hw : ∀ s, ldW x3 g (ix3 (0 : Fin 1) t s) = x3 (ix3 g t s) := fun s => by
    refine View.ld_unit_apply_of _ _ _ _ _ _ fun a => ?_
    match a with
    | ⟨0, _⟩ => rfl
    | ⟨1, _⟩ => exact (Nat.zero_add _).symm
    | ⟨2, _⟩ => exact (Nat.zero_add _).symm
  have hs : ldS x4 g (ix2 t (0 : Fin 1)) = x4 (ix2 t g) := by
    refine View.ld_unit_apply_of _ _ _ _ _ _ fun a => ?_
    match a with
    | ⟨0, _⟩ => exact (Nat.zero_add _).symm
    | ⟨1, _⟩ => rfl
  rw [out_eq]
  refine (below_apply (stored (k0_pay3 x0) (k0_pay4 x0 x1 x2) (useW x3) (ldS x4)) n t (at4 g c)).trans ((stored_apply _ _ _ _ n g t c).trans ?_)
  refine congrArg₂ (fun a b : EReal => a * b) (u_apply x0 _ _) (congrArg₂ (fun a b : EReal => a + b) (Finset.sum_congr rfl fun s _ => ?_) hs)
  exact congrArg₂ (fun a b : EReal => a * b) ((weight_apply (ldW x3 g) t s).trans (congrArg (kept t s) (hw s))) (v_apply x0 x1 x2 _ _)
end

end Cert.Point.GatingFwd

end
-- ==== Proof.Point.GatingRef.lean ====
/- The spatial gating in the reference, and the array both programs leave. -/
module

public import proofs.«01_k».proof.Proof.Gen.GatingFwdRefIdeal.Read
public import proofs.«01_k».proof.Proof.Point.ConvRef
public import proofs.«01_k».proof.Proof.Point.GatingRows

@[expose] public section

set_option maxRecDepth 16384

noncomputable section

namespace Cert.Point.GatingFwd

open Cert.Point.ConvNormBwd (aff)
open Idealize.ShloMosaic Idealize.ShloMosaic.TcCoe Idealize.SL.Sem Cert.GatingFwdIdeal Cert.GatingFwdIdeal.Gen

/-- Row `t` of chunk `n`, where 8192 rows are 64 chunks of 128. -/
abbrev at64 (n : Fin 64) (t : Fin 128) : Fin 8192 := ⟨n.val * 128 + t.val, by omega⟩
/-- Every row belongs to a chunk. -/
theorem at64_cases (j : Fin 8192) : ∃ (n : Fin 64) (t : Fin 128), j = at64 n t :=
  ⟨⟨j.val / 128, by omega⟩, ⟨j.val % 128, by omega⟩, Fin.ext (by show j.val = j.val / 128 * 128 + j.val % 128; omega)⟩

section
variable (Z : Vec Ideal S8192x1024 .bf16) (G B : Vec Ideal S512 .f32) (W : Vec Ideal S4x128x128 .f32) (S : Vec Ideal S128x4 .f32)

/-- The right half of a row, rectified and normed, with its gains and offsets. -/
def vAt (R : Fin 8192) (d : Fin 512) : EReal := aff (fun k => gel (Z (ix2 R (hi k)))) (fun k => G (ix1 k)) (fun k => B (ix1 k)) d
/-- The gated rows: the left half, rectified, times the right half's rows mixed within their chunk. -/
def outAt (n : Fin 64) (t : Fin 128) (g : Fin 4) (c : Fin 128) : EReal :=
  gel (Z (ix2 (at64 n t) (lo (at4 g c)))) * ((∑ s : Fin 128, kept t s (W (ix3 g t s)) * vAt Z G B (at64 n s) (at4 g c)) + S (ix2 t g))
/-- The same as an array. -/
def outArr : Vec Ideal S8192x512 .bf16 := fun j =>
  outAt Z G B W S ⟨(j 0).val / 128, by have : (j 0).val < 8192 := (j 0).isLt; omega⟩ ⟨(j 0).val % 128, Nat.mod_lt _ (by decide)⟩
    ⟨(j 1).val / 128, by have : (j 1).val < 512 := (j 1).isLt; omega⟩ ⟨(j 1).val % 128, Nat.mod_lt _ (by decide)⟩
/-- Its entries. -/
theorem outArr_apply (n : Fin 64) (t : Fin 128) (g : Fin 4) (c : Fin 128) : outArr Z G B W S (ix2 (at64 n t) (at4 g c)) = outAt Z G B W S n t g c := by
  have h1 : (⟨(at64 n t).val / 128, by omega⟩ : Fin 64) = n := Fin.ext (by show (n.val * 128 + t.val) / 128 = n.val; omega)
  have h2 : (⟨(at64 n t).val % 128, by omega⟩ : Fin 128) = t := Fin.ext (by show (n.val * 128 + t.val) % 128 = t.val; omega)
  have h3 : (⟨(at4 g c).val / 128, by omega⟩ : Fin 4) = g := Fin.ext (by show (g.val * 128 + c.val) / 128 = g.val; omega)
  have h4 : (⟨(at4 g c).val % 128, by omega⟩ : Fin 128) = c := Fin.ext (by show (g.val * 128 + c.val) % 128 = c.val; omega)
  show outAt Z G B W S ⟨(at64 n t).val / 128, _⟩ ⟨(at64 n t).val % 128, _⟩ ⟨(at4 g c).val / 128, _⟩ ⟨(at4 g c).val % 128, _⟩ = _
  rw [h1, h2, h3, h4]

open Cert.GatingFwdRefIdeal.Read

/-- The rectified entries, in the reference. -/
theorem v13_at (i : S8192x1024.Idx) : val_main_v13 (F := Ideal) Z i = gel (Z i) := by
  have h : val_main_v13 (F := Ideal) Z i = Z i * (Ideal.ofBits .f32 0x3F000000#32 * (Ideal.ofBits .f32 0x3F800000#32
    + Ideal.tanh (Ideal.ofBits .f32 0x3F4C422A#32 * (Z i + Ideal.ofBits .f32 0x3D372713#32 * (Z i * Z i * Z i))))) := by
    rw [val_main_v13_apply, val_main_v12_apply, val_main_v11_apply, val_main_v10_apply, val_main_v9_apply, val_main_v8_apply, val_main_v7_apply,
      val_main_v6_apply, val_main_v5_apply, val_main_v4_apply, val_main_v3_apply]
    rfl
  rw [h, gel, ← mul_assoc, mul_comm (Z i) (Ideal.ofBits .f32 0x3F000000#32), ← mul_assoc (Ideal.ofBits .f32 0x3D372713#32), ← mul_assoc (Ideal.ofBits .f32 0x3D372713#32)]
/-- The normed right half, in the reference. -/
theorem v39_at (R : Fin 8192) (d : Fin 512) : val_main_v39 (F := Ideal) Z G B (ix2 R d) = vAt Z G B R d := by
  have h : val_main_v39 (F := Ideal) Z G B = Cert.ConvNormBwdRefIdeal.Read.val_main_v28 (F := Ideal) (val_main_v15 (F := Ideal) Z) G B := rfl
  rw [h]
  refine (Cert.Point.ConvNormBwd.v28_at _ G B R d).trans ?_
  refine congrArg (fun f => aff f _ _ d) (funext fun k => ?_)
  have hk : idx_main_v15 (ix2 R k) = ix2 R (hi k) := funext fun a => by
    match a with
    | ⟨0, _⟩ => rfl
    | ⟨1, _⟩ => rfl
  rw [val_main_v15_apply, v13_at, hk]
/-- The kept weights, in the reference. -/
theorem v43_at (g : Fin 4) (t s : Fin 128) (i : S4x128x128.Idx) (hi : i = ix3 g t s) : val_main_v43 (F := Ideal) W i = kept t s (W (ix3 g t s)) := by
  subst hi
  rw [val_main_v43_apply, val_main_call1_v1_apply, val_main_v42_apply, val_main_call0_v4_apply, val_main_call0_v2_apply, val_main_call0_v1_apply,
    val_main_v41_apply, val_main_call0_v5_apply, val_main_call1_v2_apply]
  have h : IntOp.cmpi .sge (IntOp.addi (BitVec.ofNat 32 t.val) 0#32) (BitVec.ofNat 32 s.val) = IntOp.cmpi .sle (BitVec.ofNat 32 s.val) (BitVec.ofNat 32 t.val) := by
    show IntOp.cmpi .sge (BitVec.ofNat 32 t.val + 0#32) (BitVec.ofNat 32 s.val) = _
    rw [BitVec.add_zero]
    rfl
  show Scalar.select (Scalar.select (IntOp.cmpi .sge (IntOp.addi (BitVec.ofNat 32 t.val) 0#32) (BitVec.ofNat 32 s.val)) 1#1 0#1) (W (ix3 g t s)) (Ideal.ofBits .f32 0x00000000#32) = _
  rw [h, kept]
  generalize IntOp.cmpi .sle (BitVec.ofNat 32 s.val) (BitVec.ofNat 32 t.val) = q
  have hq : q = 0#1 ∨ q = 1#1 := by
    revert q
    decide
  rcases hq with rfl | rfl <;> rfl

/-- The mixed rows with their bias, in the reference. -/
theorem v49_at (n : Fin 64) (t : Fin 128) (g : Fin 4) (c : Fin 128) (i : Cert.GatingFwdRefIdeal.S4x16x128x4x128.Idx)
    (h01 : (i 0).val * 16 + (i 1).val = n.val) (h2 : (i 2).val = t.val) (h3 : (i 3).val = g.val) (h4 : (i 4).val = c.val) :
    val_main_v49 (F := Ideal) Z G B W S i = (∑ s : Fin 128, kept t s (W (ix3 g t s)) * vAt Z G B (at64 n s) (at4 g c)) + S (ix2 t g) := by
  rw [val_main_v49_apply, val_main_v45_apply, val_main_v44_apply, val_main_v48_apply, val_main_v47_apply, val_main_v46_apply]
  refine congrArg₂ (fun a b : EReal => a + b) (Finset.sum_congr rfl fun s _ => ?_) (congrArg S (funext fun a => ?_))
  · refine (mul_comm _ _).trans (congrArg₂ (fun a b : EReal => a * b) (v43_at W g t s _ (funext fun a => ?_)) ?_)
    · match a with
      | ⟨0, _⟩ => exact Fin.ext h3
      | ⟨1, _⟩ => exact Fin.ext h2
      | ⟨2, _⟩ => rfl
    · rw [val_main_v40_apply, ← v39_at]
      refine congrArg (val_main_v39 (F := Ideal) Z G B) (funext fun a => ?_)
      match a with
      | ⟨0, _⟩ =>
        refine Fin.ext ?_
        show (((((i 0).val * 16 + (i 1).val) * 128 + s.val) * 4 + (i 3).val) * 128 + (i 4).val) / 512 = n.val * 128 + s.val
        rw [h01, h3, h4]
        omega
      | ⟨1, _⟩ =>
        refine Fin.ext ?_
        show (((((i 0).val * 16 + (i 1).val) * 128 + s.val) * 4 + (i 3).val) * 128 + (i 4).val) % 512 = g.val * 128 + c.val
        rw [h01, h3, h4]
        omega
  · match a with
    | ⟨0, _⟩ => exact Fin.ext h2
    | ⟨1, _⟩ => exact Fin.ext h3

/-- The reference's gated rows. -/
theorem ref_out : val_main_v52 (F := Ideal) Z G B W S = outArr Z G B W S := funext fun j => by
  obtain ⟨R, d, rfl⟩ : ∃ (R : Fin 8192) (d : Fin 512), j = ix2 R d := ⟨j 0, j 1, (ix2_eta j).symm⟩
  obtain ⟨n, t, rfl⟩ := at64_cases R
  obtain ⟨g, c, rfl⟩ := at4_cases d
  rw [outArr_apply, val_main_v52_apply]
  show val_main_v51 (F := Ideal) Z G B W S (ix2 (at64 n t) (at4 g c)) = _
  rw [val_main_v51_apply, val_main_v50_apply, val_main_v14_apply, v13_at]
  have hl : idx_main_v14 (ix2 (at64 n t) (at4 g c)) = ix2 (at64 n t) (lo (at4 g c)) := funext fun a => by
    match a with
    | ⟨0, _⟩ => rfl
    | ⟨1, _⟩ => rfl
  rw [hl]
  refine congrArg (fun z : EReal => gel (Z (ix2 (at64 n t) (lo (at4 g c)))) * z) (v49_at Z G B W S n t g c _ ?_ ?_ ?_ ?_)
  · show ((n.val * 128 + t.val) * 512 + (g.val * 128 + c.val)) / 1048576 * 16 + ((n.val * 128 + t.val) * 512 + (g.val * 128 + c.val)) / 65536 % 16 = n.val
    omega
  · show ((n.val * 128 + t.val) * 512 + (g.val * 128 + c.val)) / 512 % 128 = t.val
    omega
  · show ((n.val * 128 + t.val) * 512 + (g.val * 128 + c.val)) / 128 % 4 = g.val
    omega
  · show ((n.val * 128 + t.val) * 512 + (g.val * 128 + c.val)) % 128 = c.val
    omega
end

end Cert.Point.GatingFwd

end
-- ==== Proof.Point.GatingFwd.lean ====
/- The spatial gating's forward pass: the array after the run, and the claim. -/
module

public import proofs.«01_k».proof.Proof.Point.GatingRef

@[expose] public section

set_option maxRecDepth 16384

noncomputable section

namespace Cert.Point.GatingFwd

open Cert.Point.ConvNormBwd (aff)
open Idealize.ShloMosaic Idealize.ShloMosaic.TcCoe Idealize.SL.Sem Cert.GatingFwdIdeal Cert.GatingFwdIdeal.Gen

variable (m : (ℓ : Loc nD τ sig) → Buf (Elt Ideal) ℓ)

/-- The rows to be gated, as the run starts. -/
abbrev argZ (c : Dev nD) : Vec Ideal S8192x1024 .bf16 := m ((c.tc : Thread nD τ).loc main_arg0)
/-- The gains, as the run starts. -/
abbrev argG (c : Dev nD) : Vec Ideal S512 .f32 := m ((c.tc : Thread nD τ).loc main_arg1)
/-- The offsets, as the run starts. -/
abbrev argB (c : Dev nD) : Vec Ideal S512 .f32 := m ((c.tc : Thread nD τ).loc main_arg2)
/-- The weights, as the run starts. -/
abbrev argW (c : Dev nD) : Vec Ideal S4x128x128 .f32 := m ((c.tc : Thread nD τ).loc main_arg3)
/-- The biases, as the run starts. -/
abbrev argS (c : Dev nD) : Vec Ideal S128x4 .f32 := m ((c.tc : Thread nD τ).loc main_arg4)

/-- The blocks' places at every grid point. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- The chunk of the whole array a block's chunk is. -/
abbrev chunkAt (t : Fin cfg0.N) (n : Fin 4) : Fin 64 := ⟨t.val * 4 + n.val, by have : t.val < 16 := t.isLt; omega⟩
/-- The row of the whole array a block's row is. -/
abbrev rowAt (t : Fin cfg0.N) (r : Fin 512) : Fin 8192 := ⟨t.val * 512 + r.val, by have : t.val < 16 := t.isLt; omega⟩
/-- A block's chunk is a chunk of the whole array. -/
theorem rowAt_chunk (t : Fin cfg0.N) (n : Fin 4) (q : Fin 128) : rowAt t (at4 n q) = at64 (chunkAt t n) q :=
  Fin.ext (by show t.val * 512 + (n.val * 128 + q.val) = (t.val * 4 + n.val) * 128 + q.val; omega)

/-- A block of the rows. -/
theorem iblk0 (c : Dev nD) (t : Fin cfg0.N) (r : Fin 512) (d : Fin 1024) : iblk m c 0 t (ix2 r d) = argZ m c (ix2 (rowAt t r) d) := by
  blk_point [iblk, V, idx t]
/-- The gains as one row. -/
theorem iblk1 (c : Dev nD) (t : Fin cfg0.N) (d : Fin 512) : iblk m c 1 t (ix2 (0 : Fin 1) d) = argG m c (ix1 d) := by
  blk_point [iblk, V, idx t]
/-- The offsets as one row. -/
theorem iblk2 (c : Dev nD) (t : Fin cfg0.N) (d : Fin 512) : iblk m c 2 t (ix2 (0 : Fin 1) d) = argB m c (ix1 d) := by
  blk_point [iblk, V, idx t]
/-- The weights, whole. -/
theorem iblk3 (c : Dev nD) (t : Fin cfg0.N) (g : Fin 4) (i j : Fin 128) : iblk m c 3 t (ix3 g i j) = argW m c (ix3 g i j) := by
  blk_point [iblk, V, idx t]
/-- The biases, whole. -/
theorem iblk4 (c : Dev nD) (t : Fin cfg0.N) (i : Fin 128) (g : Fin 4) : iblk m c 4 t (ix2 i g) = argS m c (ix2 i g) := by
  blk_point [iblk, V, idx t]

/-- The gated rows after the run. -/
theorem final5 (c : Dev nD) : (dats m 0 c).arrAt 5 cfg0.N = outArr (argZ m c) (argG m c) (argB m c) (argW m c) (argS m c) := by
  refine (dats m 0 c).arrAt_eq_of_covers 5 _ (by decide +kernel) fun t hf y => ?_
  blk_simp
  rw [after0_5]
  obtain ⟨r, d, rfl⟩ : ∃ (r : Fin 512) (d : Fin 512), y = ix2 r d := ⟨y 0, y 1, (ix2_eta y).symm⟩
  have hy : ((cfg0.win 5).blk t).view.emb (ix2 r d) = ix2 (rowAt t r) d := by
    blk_ext [idx t]
  refine Eq.trans ?_ (congrArg (outArr _ _ _ _ _) hy.symm)
  obtain ⟨n, q, rfl⟩ := at4_cases r
  obtain ⟨g, e, rfl⟩ := at4_cases d
  rw [rowAt_chunk, outArr_apply]
  refine (out_apply (iblk m c 0 t) (iblk m c 1 t) (iblk m c 2 t) (iblk m c 3 t) (iblk m c 4 t) n g q e).trans ?_
  have hz : ∀ (k : Fin 128) (d : Fin 1024), iblk m c 0 t (ix2 (at4 n k) d) = argZ m c (ix2 (at64 (chunkAt t n) k) d) := fun k d => by
    rw [iblk0, rowAt_chunk]
  have hg : (fun k => iblk m c 1 t (ix2 (0 : Fin 1) k)) = fun k => argG m c (ix1 k) := funext fun k => iblk1 m c t k
  have hb : (fun k => iblk m c 2 t (ix2 (0 : Fin 1) k)) = fun k => argB m c (ix1 k) := funext fun k => iblk2 m c t k
  refine congrArg₂ (fun a b : EReal => a * b) (congrArg gel (hz q _)) (congrArg₂ (fun a b : EReal => a + b) (Finset.sum_congr rfl fun s _ => ?_) (iblk4 m c t q g))
  refine congrArg₂ (fun a b : EReal => a * b) (congrArg (kept q s) (iblk3 m c t g q s)) ?_
  rw [hg, hb]
  exact congrArg (fun f => aff f _ _ (at4 g e)) (funext fun k => congrArg gel (hz s _))

/-- The reference runs to its end and leaves its arguments and the counters as they were; it declares no semaphore. -/
theorem frame_ref : @Cert.quiescent_GatingFwdRefIdeal Cert.GatingFwdRefIdeal.Gen.facts := fun m g _ =>
  (θ_run Cert.GatingFwdRefIdeal.defs _ _).mono
    (fun r h => ⟨fun c => (h c).2, sem_eq_zero_of_no_sems (by decide) r.2⟩) (Cert.GatingFwdRefIdeal.Value.run (F := Ideal) m g)

/-- The kernel's gated rows and the reference's agree. -/
theorem value : @Cert.algebraic_GatingFwdIdeal_GatingFwdRefIdeal Cert.GatingFwdIdeal.Gen.facts Cert.GatingFwdRefIdeal.Gen.facts := by
  pair_intro
  · run_from Cert.GatingFwdIdeal.Value.run_blocks m g
  · run_from Cert.GatingFwdRefIdeal.Value.run m' g'
    obtain ⟨h0, h1, h2, h3, h4⟩ := hagree c
    rw [final5 m c, Cert.GatingFwdRefIdeal.Read.val_main_v52_eq, h0, h1, h2, h3, h4]
    exact ref_out _ _ _ _ _

end Cert.Point.GatingFwd

end
-- ==== Proof.Point.AttnCombine.lean ====
/- The outputs of the attention's groups combined under the softmax of their log denominators. -/
module

public import proofs.«01_k».proof.Defs
public import proofs.«01_k».proof.Proof.Gen.AttnCombine.Frame
public import proofs.«01_k».proof.Proof.Gen.AttnCombineIdeal.Value
public import proofs.«01_k».proof.Proof.Gen.AttnCombineRefIdeal.Read
public import proofs.«01_k».proof.Proof.Xattn.Claim

@[expose] public section

set_option maxRecDepth 16384

noncomputable section

namespace Cert.Point.AttnCombine

open Idealize.ShloMosaic Idealize.ShloMosaic.TcCoe Idealize.SL.Sem Cert.AttnCombineIdeal Cert.AttnCombineIdeal.Gen

/-- The greatest of three. -/
abbrev top3 (a b c : EReal) : EReal := max (max a b) c
/-- The sum of three exponentials. -/
abbrev den (a b c : EReal) : EReal := Ideal.exp a + Ideal.exp b + Ideal.exp c
/-- Three values weighted by the softmax of three numbers. -/
def mixed (a b c x y z : EReal) : EReal :=
  Ideal.div (Ideal.exp a) (den a b c) * x + Ideal.div (Ideal.exp b) (den a b c) * y + Ideal.div (Ideal.exp c) (den a b c) * z

section
variable (a b c : ℝ)
/-- The greatest of three reals is a real. -/
theorem top3_real : ∃ r : ℝ, top3 (a : EReal) b c = (r : EReal) :=
  ⟨max (max a b) c, by rw [top3, EReal.coe_strictMono.monotone.map_max, EReal.coe_strictMono.monotone.map_max]⟩
/-- The exponential of a difference of reals. -/
theorem exp_sub (r : ℝ) : Ideal.exp ((a : EReal) - r) = ((Real.exp a * Real.exp (-r) : ℝ) : EReal) := by
  rw [← EReal.coe_sub, ← Real.exp_add, ← sub_eq_add_neg]
  rfl
/-- The sum of three exponentials of reals. -/
theorem den_real : den (a : EReal) b c = ((Real.exp a + Real.exp b + Real.exp c : ℝ) : EReal) := rfl
/-- The same sum, each exponent less one number. -/
theorem den_sub (r : ℝ) : den ((a : EReal) - r) (b - r) (c - r) = (((Real.exp a + Real.exp b + Real.exp c) * Real.exp (-r) : ℝ) : EReal) := by
  rw [den, exp_sub, exp_sub, exp_sub, ← EReal.coe_add, ← EReal.coe_add]
  congr 1
  ring

/-- Weighting first and dividing the sum afterwards, each exponent less the greatest, is the softmax's weighted sum. -/
theorem mixed_eq (x y z : EReal) :
    Ideal.div (Ideal.exp ((a : EReal) - top3 a b c) * x + Ideal.exp ((b : EReal) - top3 a b c) * y + Ideal.exp ((c : EReal) - top3 a b c) * z)
      (den ((a : EReal) - top3 a b c) (b - top3 a b c) (c - top3 a b c)) = mixed a b c x y z := by
  obtain ⟨r, hr⟩ := top3_real a b c
  have hT : 0 < Real.exp a + Real.exp b + Real.exp c := by positivity
  have hk : 0 < Real.exp (-r) := Real.exp_pos _
  have hi : 0 ≤ 1 / ((Real.exp a + Real.exp b + Real.exp c) * Real.exp (-r)) := by positivity
  have w : ∀ s : ℝ, ∀ v : EReal, ((Real.exp s * Real.exp (-r) : ℝ) : EReal) * v * ((1 / ((Real.exp a + Real.exp b + Real.exp c) * Real.exp (-r)) : ℝ) : EReal)
      = ((Real.exp s * (1 / (Real.exp a + Real.exp b + Real.exp c)) : ℝ) : EReal) * v := fun s v => by
    rw [mul_right_comm, ← EReal.coe_mul]
    congr 2
    field_simp
  rw [hr, den_sub, exp_sub, exp_sub, exp_sub, Ideal.div_coe (by positivity), mixed, den_real, Ideal.div_coe hT.ne', Ideal.div_coe hT.ne', Ideal.div_coe hT.ne',
    EReal.right_distrib_of_nonneg_of_ne_top (EReal.coe_nonneg.mpr hi) (EReal.coe_ne_top _),
    EReal.right_distrib_of_nonneg_of_ne_top (EReal.coe_nonneg.mpr hi) (EReal.coe_ne_top _), w, w, w]
  rfl

/-- The greatest and the log of the sum of what is left are the log of the whole sum. -/
theorem log_eq : top3 (a : EReal) b c + Ideal.log (den ((a : EReal) - top3 a b c) (b - top3 a b c) (c - top3 a b c)) = Ideal.log (den (a : EReal) b c) := by
  obtain ⟨r, hr⟩ := top3_real a b c
  have hT : 0 < Real.exp a + Real.exp b + Real.exp c := by positivity
  have hk : 0 < Real.exp (-r) := Real.exp_pos _
  have hl : ∀ s : ℝ, 0 < s → Ideal.log (s : EReal) = (Real.log s : EReal) := fun s hs => if_neg (not_le.mpr hs)
  rw [hr, den_sub, den_real, hl _ (mul_pos hT hk), hl _ hT, Real.log_mul hT.ne' hk.ne', Real.log_exp, ← EReal.coe_add]
  congr 1
  ring
end

/-- The combined outputs. -/
def mixArr (O₀ O₁ O₂ L₀ L₁ L₂ : Vec Ideal S8192x256 .f32) : Vec Ideal S8192x256 .f32 := fun j => mixed (L₀ j) (L₁ j) (L₂ j) (O₀ j) (O₁ j) (O₂ j)
/-- The logs of the summed denominators. -/
def logArr (L₀ L₁ L₂ : Vec Ideal S8192x256 .f32) : Vec Ideal S8192x256 .f32 := fun j => Ideal.log (den (L₀ j) (L₁ j) (L₂ j))

variable (m : (ℓ : Loc nD τ sig) → Buf (Elt Ideal) ℓ)

/-- The first group's output, as the run starts. -/
abbrev argO0 (c : Dev nD) : Vec Ideal S8192x256 .f32 := m ((c.tc : Thread nD τ).loc main_arg0)
/-- The second group's output, as the run starts. -/
abbrev argO1 (c : Dev nD) : Vec Ideal S8192x256 .f32 := m ((c.tc : Thread nD τ).loc main_arg1)
/-- The third group's output, as the run starts. -/
abbrev argO2 (c : Dev nD) : Vec Ideal S8192x256 .f32 := m ((c.tc : Thread nD τ).loc main_arg2)
/-- The first group's log denominators, as the run starts. -/
abbrev argL0 (c : Dev nD) : Vec Ideal S8192x256 .f32 := m ((c.tc : Thread nD τ).loc main_arg3)
/-- The second group's log denominators, as the run starts. -/
abbrev argL1 (c : Dev nD) : Vec Ideal S8192x256 .f32 := m ((c.tc : Thread nD τ).loc main_arg4)
/-- The third group's log denominators, as the run starts. -/
abbrev argL2 (c : Dev nD) : Vec Ideal S8192x256 .f32 := m ((c.tc : Thread nD τ).loc main_arg5)

/-- The blocks' places at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the first output. -/
theorem iblk0 (c : Dev nD) (t : Fin cfg0.N) (r : Fin 512) (d : Fin 256) : iblk m c 0 t (ix2 r d) = argO0 m c (ix2 (rowAt t r) d) := by
  blk_point [iblk, V, idx t]
/-- A block of the second output. -/
theorem iblk1 (c : Dev nD) (t : Fin cfg0.N) (r : Fin 512) (d : Fin 256) : iblk m c 1 t (ix2 r d) = argO1 m c (ix2 (rowAt t r) d) := by
  blk_point [iblk, V, idx t]
/-- A block of the third output. -/
theorem iblk2 (c : Dev nD) (t : Fin cfg0.N) (r : Fin 512) (d : Fin 256) : iblk m c 2 t (ix2 r d) = argO2 m c (ix2 (rowAt t r) d) := by
  blk_point [iblk, V, idx t]
/-- A block of the first log denominators. -/
theorem iblk3 (c : Dev nD) (t : Fin cfg0.N) (r : Fin 512) (d : Fin 256) : iblk m c 3 t (ix2 r d) = argL0 m c (ix2 (rowAt t r) d) := by
  blk_point [iblk, V, idx t]
/-- A block of the second log denominators. -/
theorem iblk4 (c : Dev nD) (t : Fin cfg0.N) (r : Fin 512) (d : Fin 256) : iblk m c 4 t (ix2 r d) = argL1 m c (ix2 (rowAt t r) d) := by
  blk_point [iblk, V, idx t]
/-- A block of the third log denominators. -/
theorem iblk5 (c : Dev nD) (t : Fin cfg0.N) (r : Fin 512) (d : Fin 256) : iblk m c 5 t (ix2 r d) = argL2 m c (ix2 (rowAt t r) d) := by
  blk_point [iblk, V, idx t]

/-- A block of combined outputs, wherever the log denominators are reals. -/
theorem pay6_apply (o₀ o₁ o₂ l₀ l₁ l₂ : Vec Ideal S512x256 .f32) (j : S512x256.Idx) (h₀ : ∃ r : ℝ, l₀ j = (r : EReal)) (h₁ : ∃ r : ℝ, l₁ j = (r : EReal)) (h₂ : ∃ r : ℝ, l₂ j = (r : EReal)) :
    k0_pay6 (F := Ideal) l₀ l₁ l₂ o₀ o₁ o₂ j = mixed (l₀ j) (l₁ j) (l₂ j) (o₀ j) (o₁ j) (o₂ j) := by
  obtain ⟨a, ha⟩ := h₀
  obtain ⟨b, hb⟩ := h₁
  obtain ⟨c, hc⟩ := h₂
  have h := mixed_eq a b c (o₀ j) (o₁ j) (o₂ j)
  rw [← ha, ← hb, ← hc] at h
  exact h
/-- A block of the logs of the summed denominators, wherever the log denominators are reals. -/
theorem pay7_apply (l₀ l₁ l₂ : Vec Ideal S512x256 .f32) (j : S512x256.Idx) (h₀ : ∃ r : ℝ, l₀ j = (r : EReal)) (h₁ : ∃ r : ℝ, l₁ j = (r : EReal)) (h₂ : ∃ r : ℝ, l₂ j = (r : EReal)) :
    k0_pay7 (F := Ideal) l₀ l₁ l₂ j = Ideal.log (den (l₀ j) (l₁ j) (l₂ j)) := by
  obtain ⟨a, ha⟩ := h₀
  obtain ⟨b, hb⟩ := h₁
  obtain ⟨c, hc⟩ := h₂
  have h := log_eq a b c
  rw [← ha, ← hb, ← hc] at h
  exact h

section
variable (c : Dev nD) (h₀ : ∀ j, ∃ r : ℝ, argL0 m c j = (r : EReal)) (h₁ : ∀ j, ∃ r : ℝ, argL1 m c j = (r : EReal)) (h₂ : ∀ j, ∃ r : ℝ, argL2 m c j = (r : EReal))
include h₀ h₁ h₂
/-- The combined outputs after the run. -/
theorem final6 : (dats m 0 c).arrAt 6 cfg0.N = mixArr (argO0 m c) (argO1 m c) (argO2 m c) (argL0 m c) (argL1 m c) (argL2 m c) := by
  refine (dats m 0 c).arrAt_eq_of_covers 6 _ (by decide +kernel) fun t hf y => ?_
  blk_simp
  rw [after0_6]
  obtain ⟨r, d, rfl⟩ : ∃ (r : Fin 512) (d : Fin 256), y = ix2 r d := ⟨y 0, y 1, (ix2_eta y).symm⟩
  have hy : ((cfg0.win 6).blk t).view.emb (ix2 r d) = ix2 (rowAt t r) d := by
    blk_ext [idx t]
  refine Eq.trans ?_ (congrArg (mixArr _ _ _ _ _ _) hy.symm)
  unfold out0_6
  frame_out
  refine (pay6_apply (iblk m c 0 t) (iblk m c 1 t) (iblk m c 2 t) (iblk m c 3 t) (iblk m c 4 t) (iblk m c 5 t) (ix2 r d)
    ((iblk3 m c t r d).symm ▸ h₀ _) ((iblk4 m c t r d).symm ▸ h₁ _) ((iblk5 m c t r d).symm ▸ h₂ _)).trans ?_
  rw [iblk0 m c t r d, iblk1 m c t r d, iblk2 m c t r d, iblk3 m c t r d, iblk4 m c t r d, iblk5 m c t r d]
  rfl
/-- The logs of the summed denominators after the run. -/
theorem final7 : (dats m 0 c).arrAt 7 cfg0.N = logArr (argL0 m c) (argL1 m c) (argL2 m c) := by
  refine (dats m 0 c).arrAt_eq_of_covers 7 _ (by decide +kernel) fun t hf y => ?_
  blk_simp
  rw [after0_7]
  obtain ⟨r, d, rfl⟩ : ∃ (r : Fin 512) (d : Fin 256), y = ix2 r d := ⟨y 0, y 1, (ix2_eta y).symm⟩
  have hy : ((cfg0.win 7).blk t).view.emb (ix2 r d) = ix2 (rowAt t r) d := by
    blk_ext [idx t]
  refine Eq.trans ?_ (congrArg (logArr _ _ _) hy.symm)
  unfold out0_7
  frame_out
  refine (pay7_apply (iblk m c 3 t) (iblk m c 4 t) (iblk m c 5 t) (ix2 r d)
    ((iblk3 m c t r d).symm ▸ h₀ _) ((iblk4 m c t r d).symm ▸ h₁ _) ((iblk5 m c t r d).symm ▸ h₂ _)).trans ?_
  rw [iblk3 m c t r d, iblk4 m c t r d, iblk5 m c t r d]
  rfl
end

section
open Cert.AttnCombineRefIdeal.Read
variable (O₀ O₁ O₂ L₀ L₁ L₂ : Vec Ideal S8192x256 .f32)
/-- The reference's combined outputs. -/
theorem ref_mix : val_main_v12 (F := Ideal) O₀ O₁ O₂ L₀ L₁ L₂ = mixArr O₀ O₁ O₂ L₀ L₁ L₂ := rfl
/-- The reference's logs. -/
theorem ref_log : val_main_v13 (F := Ideal) L₀ L₁ L₂ = logArr L₀ L₁ L₂ := rfl
end

/-- The side conditions of the precondition. -/
theorem pre_facts : Cert.Pre_finite_lse.Facts where
  bcast_S_S8192x256 := by decide

/-- An array whose entries compare below infinity in magnitude holds reals. -/
theorem reals (L : FVec Ideal Cert.Pre_finite_lse.S8192x256 .f32) (h) (e : cmpf .olt (Host.absf L)
    (broadcastInDim Cert.Pre_finite_lse.S8192x256 ![] h (constant (F := Ideal) Cert.Pre_finite_lse.S_ .f32 0x7F800000#32)) = fun _ => 1#1) (j) : ∃ r : ℝ, L j = (r : EReal) := by
  refine Cert.Xattn.real_of_lt (L j) ?_
  rw [← Cert.Xattn.ofBits_inf]
  exact congrFun e j

/-- The reference runs to its end and leaves its arguments and the counters as they were; it declares no semaphore. -/
theorem frame_ref : @Cert.quiescent_AttnCombineRefIdeal Cert.AttnCombineRefIdeal.Gen.facts := fun m g _ =>
  (θ_run Cert.AttnCombineRefIdeal.defs _ _).mono
    (fun r h => ⟨fun c => (h c).2.2, sem_eq_zero_of_no_sems (by decide) r.2⟩) (Cert.AttnCombineRefIdeal.Value.run (F := Ideal) m g)

/-- The kernel's combined outputs and logs and the reference's agree wherever the log denominators are finite. -/
theorem value : @Cert.algebraic_AttnCombineIdeal_AttnCombineRefIdeal_pre_finite_lse Cert.AttnCombineIdeal.Gen.facts Cert.AttnCombineRefIdeal.Gen.facts pre_facts := by
  pair_intro
  · run_from Cert.AttnCombineIdeal.Value.run_blocks m g
  · refine (θ_run Cert.AttnCombineRefIdeal.defs _ _).mono (fun r h c => ?_) (Cert.AttnCombineRefIdeal.Value.run (F := Ideal) m' g')
    obtain ⟨e0, e1, hr⟩ := h c
    obtain ⟨h0, h1, h2, h3, h4, h5⟩ := hagree c
    have p0 := reals (argL0 m c) _ (hpre c).1
    have p1 := reals (argL1 m c) _ (hpre c).2.1
    have p2 := reals (argL2 m c) _ (hpre c).2.2
    refine ⟨e0.trans ?_, e1.trans ?_, hr⟩
    · rw [final6 m c p0 p1 p2, Cert.AttnCombineRefIdeal.Read.val_main_v12_eq, h0, h1, h2, h3, h4, h5]
      exact ref_mix _ _ _ _ _ _
    · rw [final7 m c p0 p1 p2, Cert.AttnCombineRefIdeal.Read.val_main_v13_eq, h3, h4, h5]
      exact ref_log _ _ _

end Cert.Point.AttnCombine

end
-- ==== Proof.Point.AttnRowdot.lean ====
/- The rows' dots of the attention's backward pass: each head's output against its gradient. -/
module

public import proofs.«01_k».proof.Defs
public import proofs.«01_k».proof.Proof.Gen.AttnRowdot.Frame
public import proofs.«01_k».proof.Proof.Gen.AttnRowdotIdeal.Value
public import proofs.«01_k».proof.Proof.Gen.AttnRowdotRefIdeal.Read
public import proofs.«01_k».proof.Proof.Point.Rows

@[expose] public section

set_option maxRecDepth 16384

noncomputable section

namespace Cert.Point.AttnRowdot

open Idealize.ShloMosaic Idealize.ShloMosaic.TcCoe Idealize.SL.Sem Cert.AttnRowdotIdeal Cert.AttnRowdotIdeal.Gen

/-- The lane of head `g` at its lane `c`. -/
abbrev lane (g : Fin 4) (c : Fin 64) : Fin 256 := ⟨g.val * 64 + c.val, by omega⟩
/-- Every lane belongs to a head. -/
theorem lane_cases (d : Fin 256) : ∃ (g : Fin 4) (c : Fin 64), d = lane g c :=
  ⟨⟨d.val / 64, by omega⟩, ⟨d.val % 64, by omega⟩, Fin.ext (by show d.val = d.val / 64 * 64 + d.val % 64; omega)⟩

/-- A head's dot of two rows. -/
def dot (x y : Fin 256 → EReal) (g : Fin 4) : EReal := ∑ k : Fin 64, x (lane g k) * y (lane g k)
/-- The dots at every lane. -/
def dotArr (D : Vec Ideal S8192x256 .bf16) (O : Vec Ideal S8192x256 .f32) : Vec Ideal S8192x256 .f32 :=
  fun j => dot (fun k => D (ix2 (j 0) k)) (fun k => O (ix2 (j 0) k)) ⟨(j 1).val / 64, by have : (j 1).val < 256 := (j 1).isLt; omega⟩

/-- Its entries. -/
theorem dotArr_apply (D : Vec Ideal S8192x256 .bf16) (O : Vec Ideal S8192x256 .f32) (R : Fin 8192) (g : Fin 4) (c : Fin 64) :
    dotArr D O (ix2 R (lane g c)) = dot (fun k => D (ix2 R k)) (fun k => O (ix2 R k)) g :=
  congrArg (dot (fun k => D (ix2 R k)) (fun k => O (ix2 R k))) (Fin.ext (by show (g.val * 64 + c.val) / 64 = g.val; omega))

/-- The heads lie in the row. -/
theorem inHeads : ∀ g : Fin 4, S512x256.Slices ![0, g.val * 64] S512x64 := by decide
/-- A head's sums, copied along its lanes. -/
abbrev spread (p : FVec Ideal S512x256 .f32) (g : Fin 4) : FVec Ideal S512x64 .f32 :=
  broadcastTo S512x64 (shapeCast S512x1 (shapeCast S512x1 (multiReduction .add [1] S512 (extractStridedSlice S512x64 ![0, g.val * 64] p (inHeads g))
    0x00000000#32 reduces_S512x64_S512 (.inl rfl) rfl) shapeCasts_S512_S512x1) shapeCasts_S512x1_S512x1) broadcasts_S512x1_S512x64
/-- Its entries. -/
theorem spread_apply (p : FVec Ideal S512x256 .f32) (g : Fin 4) (r : Fin 512) (c : Fin 64) : spread p g (ix2 r c) = ∑ k : Fin 64, p (ix2 r (lane g k)) := by
  refine (Cert.Point.col_spread (e := .f32) _ broadcasts_S512x1_S512x64 r c (by decide)).trans ?_
  refine (shapeCast_apply _ _ _ (ix2 r (0 : Fin 1)) rfl).trans ?_
  refine (Cert.Point.col_of (e := .f32) _ shapeCasts_S512_S512x1 r).trans ?_
  refine (Cert.Point.rowsum_apply _ reduces_S512x64_S512 (.inl rfl) rfl r).trans (Finset.sum_congr rfl fun k _ => ?_)
  refine extractStridedSlice_apply _ _ _ _ (ix2 r (lane g k)) fun a => ?_
  match a with
  | ⟨0, _⟩ => show r.val = 0 + r.val; omega
  | ⟨1, _⟩ => rfl

/-- Four heads side by side. -/
theorem beside_apply (x : Fin 4 → FVec Ideal S512x64 .f32) (g : Fin 4) (r : Fin 512) (c : Fin 64) :
    concatenate S512x256 1 [⟨S512x64, x 0⟩, ⟨S512x64, x 1⟩, ⟨S512x64, x 2⟩, ⟨S512x64, x 3⟩]
      concatenates_S512x64_S512x64_S512x64_S512x64_S512x256_d1 (ix2 r (lane g c)) = x g (ix2 r c) := by
  have off : ∀ (e : Fin 64) (b : Fin 2), b.cast rfl ≠ (1 : Fin 2) → (ix2 r e b : ℕ) = (ix2 r (lane g c) b : ℕ) := fun e b hb => by
    match b with
    | ⟨0, _⟩ => rfl
    | ⟨1, _⟩ => exact absurd rfl hb
  match g with
  | ⟨0, _⟩ => refine concatenate_apply_piece (t := S512x256) 1 _ _ _ 0 ?_ S512x64 (x 0) ?_ (rfl : S512x64.rank = S512x256.rank) 0 ?_ (ix2 r c) ?_ ?_ <;> [simp; rfl; rfl; exact off c; rfl]
  | ⟨1, _⟩ => refine concatenate_apply_piece (t := S512x256) 1 _ _ _ 1 ?_ S512x64 (x 1) ?_ (rfl : S512x64.rank = S512x256.rank) 64 ?_ (ix2 r c) ?_ ?_ <;> [simp; rfl; rfl; exact off c; rfl]
  | ⟨2, _⟩ => refine concatenate_apply_piece (t := S512x256) 1 _ _ _ 2 ?_ S512x64 (x 2) ?_ (rfl : S512x64.rank = S512x256.rank) 128 ?_ (ix2 r c) ?_ ?_ <;> [simp; rfl; rfl; exact off c; rfl]
  | ⟨3, _⟩ => refine concatenate_apply_piece (t := S512x256) 1 _ _ _ 3 ?_ S512x64 (x 3) ?_ (rfl : S512x64.rank = S512x256.rank) 192 ?_ (ix2 r c) ?_ ?_ <;> [simp; rfl; rfl; exact off c; rfl]

/-- A block of dots. -/
theorem pay_apply (D : Vec Ideal S512x256 .bf16) (O : Vec Ideal S512x256 .f32) (r : Fin 512) (g : Fin 4) (c : Fin 64) :
    k0_pay1 (F := Ideal) D O (ix2 r (lane g c)) = dot (fun k => D (ix2 r k)) (fun k => O (ix2 r k)) g :=
  (beside_apply (spread (mulf (extf (F := Ideal) .f32 D bitsLt_bf16_f32) O)) g r c).trans (spread_apply _ g r c)

variable (m : (ℓ : Loc nD τ sig) → Buf (Elt Ideal) ℓ)

/-- The output's gradient, as the run starts. -/
abbrev argD (c : Dev nD) : Vec Ideal S8192x256 .bf16 := m ((c.tc : Thread nD τ).loc main_arg0)
/-- The output, as the run starts. -/
abbrev argO (c : Dev nD) : Vec Ideal S8192x256 .f32 := m ((c.tc : Thread nD τ).loc main_arg1)

/-- The blocks' places at every grid point. -/
theorem idx : ∀ t : Fin cfg0.N, win0_0.index t = ![t.val, 0] ∧ win0_1.index t = ![t.val, 0] ∧ win0_2.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the output's gradient. -/
theorem iblk0 (c : Dev nD) (t : Fin cfg0.N) (r : Fin 512) (d : Fin 256) : iblk m c 0 t (ix2 r d) = argD m c (ix2 (rowAt t r) d) := by
  blk_point [iblk, V, idx t]
/-- A block of the output. -/
theorem iblk1 (c : Dev nD) (t : Fin cfg0.N) (r : Fin 512) (d : Fin 256) : iblk m c 1 t (ix2 r d) = argO m c (ix2 (rowAt t r) d) := by
  blk_point [iblk, V, idx t]

/-- The dots after the run. -/
theorem final2 (c : Dev nD) : (dats m 0 c).arrAt 2 cfg0.N = dotArr (argD m c) (argO m c) := by
  refine (dats m 0 c).arrAt_eq_of_covers 2 _ (by decide +kernel) fun t hf y => ?_
  blk_simp
  rw [after0_2]
  obtain ⟨r, d, rfl⟩ : ∃ (r : Fin 512) (d : Fin 256), y = ix2 r d := ⟨y 0, y 1, (ix2_eta y).symm⟩
  obtain ⟨g, e, rfl⟩ := lane_cases d
  have hy : ((cfg0.win 2).blk t).view.emb (ix2 r (lane g e)) = ix2 (rowAt t r) (lane g e) := by
    blk_ext [idx t]
  refine Eq.trans ?_ (congrArg (dotArr _ _) hy.symm)
  unfold out0_2
  frame_out
  refine (pay_apply (iblk m c 0 t) (iblk m c 1 t) r g e).trans (Eq.trans ?_ (dotArr_apply _ _ _ g e).symm)
  exact congrArg₂ (fun x y => dot x y g) (funext fun k => iblk0 m c t r k) (funext fun k => iblk1 m c t r k)

section
open Cert.AttnRowdotRefIdeal.Read
/-- The reference's dots. -/
theorem ref (D : Vec Ideal S8192x256 .bf16) (O : Vec Ideal S8192x256 .f32) : val_main_v13 (F := Ideal) D O = dotArr D O := funext fun j => by
  obtain ⟨R, d, rfl⟩ : ∃ (R : Fin 8192) (d : Fin 256), j = ix2 R d := ⟨j 0, j 1, (ix2_eta j).symm⟩
  obtain ⟨g, e, rfl⟩ := lane_cases d
  rw [dotArr_apply, val_main_v13_apply, val_main_v12_apply, val_main_v11_apply, val_main_v10_apply, Fin.sum_univ_one, val_main_v9_apply, val_main_v8_apply]
  show Ideal.ofBits .f32 0x00000000#32 + (Ideal.ofBits .f32 0x00000000#32 + _) = _
  rw [Ideal.ofBits_zero_f32, zero_add, zero_add]
  refine Finset.sum_congr rfl fun k _ => ?_
  have hk : idx_main_v8 (idx_main_v9 (idx_main_v10 (idx_main_v11 (idx_main_v12 (idx_main_v13 (ix2 R (lane g e))))) 0)) k = ix3 R g k := funext fun a => by
    match a with
    | ⟨0, _⟩ => exact Fin.ext (by simp; omega)
    | ⟨1, _⟩ => exact Fin.ext (by simp; omega)
    | ⟨2, _⟩ => rfl
  have h2 : idx_main_v2 (ix3 R g k) = ix2 R (lane g k) := funext fun a => by
    match a with
    | ⟨0, _⟩ => exact Fin.ext (by show ((R.val * 4 + g.val) * 64 + k.val) / 256 = R.val; omega)
    | ⟨1, _⟩ => exact Fin.ext (by show ((R.val * 4 + g.val) * 64 + k.val) % 256 = g.val * 64 + k.val; omega)
  have h6 : idx_main_v6 (ix3 R g k) = ix2 R (lane g k) := h2
  rw [hk, val_main_v7_apply, val_main_v6_apply, val_main_v2_apply, h2, h6]
  rfl
end

/-- The reference runs to its end and leaves its arguments and the counters as they were; it declares no semaphore. -/
theorem frame_ref : @Cert.quiescent_AttnRowdotRefIdeal Cert.AttnRowdotRefIdeal.Gen.facts := fun m g _ =>
  (θ_run Cert.AttnRowdotRefIdeal.defs _ _).mono
    (fun r h => ⟨fun c => (h c).2, sem_eq_zero_of_no_sems (by decide) r.2⟩) (Cert.AttnRowdotRefIdeal.Value.run (F := Ideal) m g)

/-- The kernel's dots and the reference's agree. -/
theorem value : @Cert.algebraic_AttnRowdotIdeal_AttnRowdotRefIdeal Cert.AttnRowdotIdeal.Gen.facts Cert.AttnRowdotRefIdeal.Gen.facts := by
  pair_intro
  · run_from Cert.AttnRowdotIdeal.Value.run_blocks m g
  · run_from Cert.AttnRowdotRefIdeal.Value.run m' g'
    rw [final2 m c, Cert.AttnRowdotRefIdeal.Read.val_main_v13_eq]
    exact ref _ _

end Cert.Point.AttnRowdot

end
-- ==== Proof.Point.LossHead.lean ====
/- The loss and its gradient. -/
module

public import proofs.«01_k».proof.Defs
public import proofs.«01_k».proof.Proof.Gen.LossHead.Frame
public import proofs.«01_k».proof.Proof.Gen.LossHeadIdeal.Value
public import proofs.«01_k».proof.Proof.Gen.LossHeadRefIdeal.Read
public import proofs.«01_k».proof.Proof.Point.Norm

@[expose] public section

set_option maxRecDepth 16384

noncomputable section

namespace Cert.Point.LossHead

open Cert.Products (sum_blocks)
open Cert.Point (cWidth cWidth_eq mul_sum_real)
open Idealize.ShloMosaic Idealize.ShloMosaic.TcCoe Idealize.SL.Sem Cert.LossHeadIdeal Cert.LossHeadIdeal.Gen

/-- One over the width. -/
theorem inv_eq : Ideal.ofBits .f32 0x3A800000#32 = ((1 / 1024 : ℝ) : EReal) := by
  simp [Ideal.ofBits, Ideal.ieee, -EReal.coe_mul]; norm_num
/-- Half of one over the width. -/
theorem invHalf_eq : Ideal.ofBits .f32 0x3A000000#32 = ((1 / 2048 : ℝ) : EReal) := by
  simp [Ideal.ofBits, Ideal.ieee, -EReal.coe_mul]; norm_num
/-- One half. -/
theorem half_eq : Ideal.ofBits .f32 0x3F000000#32 = ((1 / 2 : ℝ) : EReal) := by
  simp [Ideal.ofBits, Ideal.ieee, -EReal.coe_mul]; norm_num
/-- Two. -/
theorem two_eq : Ideal.ofBits .f32 0x40000000#32 = ((2 : ℝ) : EReal) := by
  simp [Ideal.ofBits, Ideal.ieee, -EReal.coe_mul]; norm_num

/-- The squared error of a row. -/
def sq (x y : Fin 1024 → EReal) : EReal := ∑ k, (x k - y k) * (x k - y k)
/-- The loss: half the sum of the rows' mean squared errors, in every lane. -/
def lossArr (X Y : Vec Ideal S8192x1024 .f32) : Vec Ideal S1x128 .f32 :=
  fun _ => ∑ R : Fin 8192, ((1 / 2048 : ℝ) : EReal) * sq (fun k => X (ix2 R k)) (fun k => Y (ix2 R k))
/-- Its gradient: the error over the width. -/
def gradArr (X Y : Vec Ideal S8192x1024 .f32) : Vec Ideal S8192x1024 .f32 := fun j => (X j - Y j) * ((1 / 1024 : ℝ) : EReal)

/-- One number copied along the lanes. -/
theorem lane_spread (z : Vec Ideal S1x1 .f32) (h) (l : Fin 128) : broadcastTo S1x128 z h (ix2 (0 : Fin 1) l) = z (ix2 (0 : Fin 1) (0 : Fin 1)) := by
  refine broadcastTo_apply _ _ _ (ix2 (0 : Fin 1) (0 : Fin 1)) fun a => ?_
  match a with
  | ⟨0, _⟩ => exact (if_pos rfl).symm
  | ⟨1, _⟩ => exact (if_pos rfl).symm

/-- A block's share of the loss. -/
theorem pay3_apply (x y : Vec Ideal S512x1024 .f32) (l : Fin 128) :
    k0_pay3 (F := Ideal) x y (ix2 (0 : Fin 1) l) = ∑ r : Fin 512, ((1 / 2048 : ℝ) : EReal) * sq (fun k => x (ix2 r k)) (fun k => y (ix2 r k)) := by
  unfold k0_pay3
  dsimp only
  refine (lane_spread _ broadcasts_S1x1_S1x128 l).trans ?_
  refine (shapeCast_apply _ _ _ (ix2 (0 : Fin 1) (0 : Fin 1)) rfl).trans ?_
  refine (congrArg₂ (fun a b : EReal => a * b) ((Cert.Point.col_of (e := .f32) _ shapeCasts_S1_S1x1 (0 : Fin 1)).trans
    (Cert.Point.rowsum_apply _ reduces_S1x1024_S1 (.inl rfl) rfl (0 : Fin 1))) invHalf_eq).trans ?_
  rw [mul_comm, ← mul_sum_real _ (by norm_num)]
  refine congrArg (fun z : EReal => ((1 / 2048 : ℝ) : EReal) * z) (Eq.trans ?_ Finset.sum_comm)
  refine Finset.sum_congr rfl fun d _ => ?_
  exact (Cert.Point.row_of (e := .f32) _ shapeCasts_S1024_S1x1024 d).trans (Cert.Point.colsum_apply _ reduces_S512x1024_S1024 (.inl rfl) rfl d)

variable (m : (ℓ : Loc nD τ sig) → Buf (Elt Ideal) ℓ)

/-- The rows, as the run starts. -/
abbrev argX (c : Dev nD) : Vec Ideal S8192x1024 .f32 := m ((c.tc : Thread nD τ).loc main_arg0)
/-- The targets, as the run starts. -/
abbrev argY (c : Dev nD) : Vec Ideal S8192x1024 .f32 := m ((c.tc : Thread nD τ).loc main_arg1)

/-- The blocks' places at every grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- The row of the whole array a block's row is. -/
abbrev rowAt (t : Fin cfg0.N) (r : Fin 512) : Fin 8192 := ⟨t.val * 512 + r.val, by have : t.val < 16 := t.isLt; omega⟩

/-- A block of the rows. -/
theorem iblk0 (c : Dev nD) (t : Fin cfg0.N) (r : Fin 512) (d : Fin 1024) : iblk m c 0 t (ix2 r d) = argX m c (ix2 (rowAt t r) d) := by
  blk_point [iblk, V, idx t]
/-- A block of the targets. -/
theorem iblk1 (c : Dev nD) (t : Fin cfg0.N) (r : Fin 512) (d : Fin 1024) : iblk m c 1 t (ix2 r d) = argY m c (ix2 (rowAt t r) d) := by
  blk_point [iblk, V, idx t]

/-- The gradient's block at every point. -/
theorem out3 (c : Dev nD) (t : Fin cfg0.N) : (outsAt0 m c t.val t.isLt).2 = k0_pay2 (F := Ideal) (iblk m c 0 t) (iblk m c 1 t) := by
  by_cases h0 : t.val % 16 = 0
  · have ht : ¬ 1 ≤ t.val := by have : t.val < 16 := t.isLt; omega
    rw [outsAt0_A m c t h0 ht]
    frame_out
  · rw [outsAt0_B m c t h0 (by omega)]
    frame_out

/-- One point's share of the loss. -/
def part (c : Dev nD) (t : Nat) (h : t < cfg0.N) : EReal :=
  ∑ r : Fin 512, ((1 / 2048 : ℝ) : EReal) * sq (fun k => iblk m c 0 ⟨t, h⟩ (ix2 r k)) (fun k => iblk m c 1 ⟨t, h⟩ (ix2 r k))
/-- The loss after the first point. -/
theorem acc_A (c : Dev nD) (l : Fin 128) (t : Nat) (h : t < cfg0.N) (h0 : t % 16 = 0) : (outsAt0 m c t h).1 (ix2 (0 : Fin 1) l) = part m c t h := by
  have ht : ¬ 1 ≤ t := by have : t < 16 := h; omega
  rw [outsAt0_A m c ⟨t, h⟩ h0 ht]
  frame_out
  exact pay3_apply (iblk m c 0 ⟨t, h⟩) (iblk m c 1 ⟨t, h⟩) l
/-- The loss after a later point. -/
theorem acc_B (c : Dev nD) (l : Fin 128) (t : Nat) (h : t < cfg0.N) (h0 : ¬ t % 16 = 0) :
    (outsAt0 m c t h).1 (ix2 (0 : Fin 1) l) = (outsAt0 m c (t - 1) (Nat.lt_of_le_of_lt (Nat.sub_le _ _) h)).1 (ix2 (0 : Fin 1) l) + part m c t h := by
  have ht : 1 ≤ t := by omega
  rw [outsAt0_B m c ⟨t, h⟩ h0 ht]
  frame_out
  exact congrArg₂ (· + ·) (shapeCast_apply _ _ (ix2 (0 : Fin 1) l) _ rfl) (pay3_apply (iblk m c 0 ⟨t, h⟩) (iblk m c 1 ⟨t, h⟩) l)

/-- The loss after the run. -/
theorem final2 (c : Dev nD) : (dats m 0 c).arrAt 2 cfg0.N = lossArr (argX m c) (argY m c) := by
  refine (dats m 0 c).arrAt_eq_of_covers 2 _ (by decide +kernel) fun t hf y => ?_
  have h1 : t.val % 16 = 15 := (flush0_2 t).mp hf
  blk_simp
  rw [after0_2]
  obtain ⟨r, l, rfl⟩ : ∃ (r : Fin 1) (l : Fin 128), y = ix2 r l := ⟨y 0, y 1, (ix2_eta y).symm⟩
  obtain rfl : r = 0 := Subsingleton.elim _ _
  refine sum_blocks 16 512 (by decide) (by decide) (fun n h => (outsAt0 m c n h).1 (ix2 (0 : Fin 1) l)) (part m c)
    (acc_A m c l) (acc_B m c l)
    (fun R => ((1 / 2048 : ℝ) : EReal) * sq (fun k => argX m c (ix2 R k)) (fun k => argY m c (ix2 R k))) t.val t.isLt h1 fun u hu _ => ?_
  have hu' : u < 16 := hu
  refine Finset.sum_congr rfl fun r _ => (congrArg₂ (fun f g => ((1 / 2048 : ℝ) : EReal) * sq f g) (funext fun k => iblk0 m c ⟨u, hu⟩ r k) (funext fun k => iblk1 m c ⟨u, hu⟩ r k)).trans ?_
  exact congrArg (fun R => ((1 / 2048 : ℝ) : EReal) * sq (fun k => argX m c (ix2 R k)) (fun k => argY m c (ix2 R k)))
    (Fin.ext (by show u * 512 + r.val = u % 16 * 512 + r.val; rw [Nat.mod_eq_of_lt hu']))

/-- The gradient after the run. -/
theorem final3 (c : Dev nD) : (dats m 0 c).arrAt 3 cfg0.N = gradArr (argX m c) (argY m c) := by
  refine (dats m 0 c).arrAt_eq_of_covers 3 _ (by decide +kernel) fun t hf y => ?_
  blk_simp
  rw [after0_3, out3]
  obtain ⟨r, d, rfl⟩ : ∃ (r : Fin 512) (d : Fin 1024), y = ix2 r d := ⟨y 0, y 1, (ix2_eta y).symm⟩
  have hy : ((cfg0.win 3).blk t).view.emb (ix2 r d) = ix2 (rowAt t r) d := by
    blk_ext [idx t]
  refine Eq.trans ?_ (congrArg (gradArr _ _) hy.symm)
  exact congrArg₂ (fun a b : EReal => a * b) (congrArg₂ (fun a b : EReal => a - b) (iblk0 m c t r d) (iblk1 m c t r d)) inv_eq

section
open Cert.LossHeadRefIdeal.Read
variable (X Y : Vec Ideal S8192x1024 .f32)
/-- The reference's mean squared error of a row. -/
theorem v6_at (R : Fin 8192) : val_main_v6 (F := Ideal) X Y (ix1 R) = sq (fun k => X (ix2 R k)) (fun k => Y (ix2 R k)) * ((1 / 1024 : ℝ) : EReal) := by
  rw [val_main_v6_apply, val_main_v4_apply]
  show Ideal.div (Ideal.ofBits .f32 0x00000000#32 + _) cWidth = _
  rw [Ideal.ofBits_zero_f32, zero_add, cWidth_eq, Ideal.div_coe (by norm_num)]
  refine congrArg (fun z : EReal => z * ((1 / 1024 : ℝ) : EReal)) (Finset.sum_congr rfl fun k _ => ?_)
  have hk : idx_main_v4 (ix1 R) k = ix2 R k := funext fun a => by
    match a with
    | ⟨0, _⟩ => rfl
    | ⟨1, _⟩ => rfl
  rw [hk]
  rfl
/-- The rows of a vector are its indices. -/
def rows : Cert.LossHeadRefIdeal.S8192.Idx ≃ Fin 8192 where
  toFun j := j 0
  invFun R := ix1 R
  left_inv j := funext fun a => match a with
    | ⟨0, _⟩ => rfl
  right_inv _ := rfl
/-- The reference's loss. -/
theorem ref_loss : val_main_v9 (F := Ideal) X Y = lossArr X Y := funext fun j => by
  rw [val_main_v9_apply, val_main_v8_apply, val_main_v7_apply]
  show Ideal.ofBits .f32 0x3F000000#32 * (Ideal.ofBits .f32 0x00000000#32 + _) = _
  rw [Ideal.ofBits_zero_f32, zero_add, half_eq, mul_sum_real _ (by norm_num)]
  refine (Equiv.sum_comp rows.symm _).symm.trans (Finset.sum_congr rfl fun R _ => ?_)
  refine (congrArg (fun z : EReal => ((1 / 2 : ℝ) : EReal) * z) (v6_at X Y R)).trans ?_
  rw [mul_comm, mul_assoc, ← EReal.coe_mul, mul_comm]
  norm_num
/-- The reference's gradient. -/
theorem ref_grad : val_main_v15 (F := Ideal) X Y = gradArr X Y := funext fun j => by
  show Ideal.div (Ideal.ofBits .f32 0x3F000000#32 * Ideal.ofBits .f32 0x3F800000#32) cWidth * (Ideal.ofBits .f32 0x40000000#32 * (X j - Y j)) = _
  rw [half_eq, Cert.Point.ofBits_one, mul_one, two_eq, cWidth_eq, Ideal.div_coe (by norm_num), ← mul_assoc, ← EReal.coe_mul, ← EReal.coe_mul, mul_comm]
  refine congrArg (fun z : ℝ => (X j - Y j) * (z : EReal)) ?_
  norm_num
end

/-- The reference runs to its end and leaves its arguments and the counters as they were; it declares no semaphore. -/
theorem frame_ref : @Cert.quiescent_LossHeadRefIdeal Cert.LossHeadRefIdeal.Gen.facts := fun m g _ =>
  (θ_run Cert.LossHeadRefIdeal.defs _ _).mono
    (fun r h => ⟨fun c => (h c).2.2, sem_eq_zero_of_no_sems (by decide) r.2⟩) (Cert.LossHeadRefIdeal.Value.run (F := Ideal) m g)

/-- The kernel's loss and gradient and the reference's agree. -/
theorem value : @Cert.algebraic_LossHeadIdeal_LossHeadRefIdeal Cert.LossHeadIdeal.Gen.facts Cert.LossHeadRefIdeal.Gen.facts := by
  pair_intro
  · run_from Cert.LossHeadIdeal.Value.run_blocks m g
  · run_from Cert.LossHeadRefIdeal.Value.run m' g'
    · rw [final2 m c, Cert.LossHeadRefIdeal.Read.val_main_v9_eq]
      exact ref_loss _ _
    · rw [final3 m c, Cert.LossHeadRefIdeal.Read.val_main_v15_eq]
      exact ref_grad _ _

end Cert.Point.LossHead

end
-- ==== Proof.Point.Adam.lean ====
/- One step of the optimiser at an entry, and the sums over the devices that it and the loss take. -/
module

public import proofs.«01_k».proof.Proof.Point.Rows

@[expose] public section

noncomputable section

namespace Cert.Point

open Idealize.ShloMosaic Idealize.ShloMosaic.TcCoe Idealize.SL.Sem

/-- The first moment after the step. -/
def newM (g m : EReal) : EReal := Ideal.ofBits .f32 0x3F666666#32 * m + Ideal.ofBits .f32 0x3DCCCCCD#32 * g
/-- The second moment after the step. -/
def newV (g v : EReal) : EReal := Ideal.ofBits .f32 0x3F7FBE77#32 * v + Ideal.ofBits .f32 0x3A83126F#32 * (g * g)
/-- The weight's change. -/
def change (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

section
variable {n k : Nat} {e : EltTy}
/-- A stack of one matrix as the matrix. -/
theorem flat_apply (x : Vec Ideal ⟨3, ![1, n, k]⟩ e) (h) (r : Fin n) (d : Fin k) : shapeCast (⟨2, ![n, k]⟩ : Shape) x h (ix2 r d) = x (ix3 (0 : Fin 1) r d) := by
  refine shapeCast_apply _ _ _ (ix3 (0 : Fin 1) r d) ?_
  rw [Shape.rowMajor_val_two, Shape.rowMajor_val_three]
  show (0 * n + r.val) * k + d.val = r.val * k + d.val
  simp only [Nat.zero_mul, Nat.zero_add]
/-- A matrix as a stack of one. -/
theorem stack_apply (x : Vec Ideal ⟨2, ![n, k]⟩ e) (h) (r : Fin n) (d : Fin k) : shapeCast (⟨3, ![1, n, k]⟩ : Shape) x h (ix3 (0 : Fin 1) r d) = x (ix2 r d) := by
  refine shapeCast_apply _ _ _ (ix2 r d) ?_
  rw [Shape.rowMajor_val_two, Shape.rowMajor_val_three]
  show r.val * k + d.val = (0 * n + r.val) * k + d.val
  simp only [Nat.zero_mul, Nat.zero_add]
/-- One device's matrix out of the stack, as a matrix. -/
theorem part_apply (x : Vec Ideal ⟨3, ![8, n, k]⟩ e) (i : Fin 8) (inb) (h) (r : Fin n) (d : Fin k) :
    shapeCast (⟨2, ![n, k]⟩ : Shape) (View.ld (Val := Elt Ideal) (S := ⟨3, ![8, n, k]⟩) (e' := e) x (Rect.unit ![i.val, 0, 0] ![1, n, k] inb)) h (ix2 r d) = x (ix3 i r d) := by
  refine (flat_apply (n := n) (k := k) (e := e) _ h r d).trans (View.ld_unit_apply_of _ _ _ _ _ _ fun a => ?_)
  match a with
  | ⟨0, _⟩ => rfl
  | ⟨1, _⟩ => exact (Nat.zero_add _).symm
  | ⟨2, _⟩ => exact (Nat.zero_add _).symm
/-- One row out of eight. -/
theorem row_apply (x : Vec Ideal ⟨2, ![8, k]⟩ e) (i : Fin 8) (inb) (d : Fin k) :
    View.ld (Val := Elt Ideal) (S := ⟨2, ![8, k]⟩) (e' := e) x (Rect.unit ![i.val, 0] ![1, k] inb) (ix2 (0 : Fin 1) d) = x (ix2 i d) := by
  refine View.ld_unit_apply_of _ _ _ _ _ _ fun a => ?_
  match a with
  | ⟨0, _⟩ => rfl
  | ⟨1, _⟩ => exact (Nat.zero_add _).symm
end

section
variable {k : Nat} (W M V : Vec Ideal ⟨3, ![1, 2, k]⟩ .f32) (P : Vec Ideal ⟨3, ![8, 2, k]⟩ .f32) (g : FVec Ideal ⟨2, ![2, k]⟩ .f32) (r : Fin 2) (d : Fin k)
variable (hf : (⟨3, ![1, 2, k]⟩ : Shape).ShapeCasts ⟨2, ![2, k]⟩) (hs : (⟨2, ![2, k]⟩ : Shape).ShapeCasts ⟨3, ![1, 2, k]⟩)
variable (inb : ∀ i : Fin 8, ∀ a, (![i.val, 0, 0] : Fin 3 → Nat) a + (![1, 2, k] : Fin 3 → Nat) a ≤ (![8, 2, k] : Fin 3 → Nat) a)
/-- The gradient at an entry: the sum of the devices' gradients. -/
abbrev total : EReal := ∑ i : Fin 8, P (ix3 i r d)
/-- One device's gradients. -/
abbrev partOf (i : Fin 8) : FVec Ideal ⟨2, ![2, k]⟩ .f32 :=
  shapeCast (⟨2, ![2, k]⟩ : Shape) (View.ld (Val := Elt Ideal) (S := ⟨3, ![8, 2, k]⟩) (e' := .f32) P (Rect.unit ![i.val, 0, 0] ![1, 2, k] (inb i))) hf
/-- The devices' gradients added one by one. -/
def gradOf : FVec Ideal ⟨2, ![2, k]⟩ .f32 :=
  addf (addf (addf (addf (addf (addf (addf (partOf P hf inb 0) (partOf P hf inb 1)) (partOf P hf inb 2)) (partOf P hf inb 3)) (partOf P hf inb 4))
    (partOf P hf inb 5)) (partOf P hf inb 6)) (partOf P hf inb 7)
/-- Its entries. -/
theorem gradOf_apply : gradOf P hf inb (ix2 r d) = total P r d := by
  have h : ∀ i : Fin 8, partOf P hf inb i (ix2 r d) = P (ix3 i r d) := fun i => part_apply P i (inb i) hf r d
  rw [total, Fin.sum_univ_eight, ← h 0, ← h 1, ← h 2, ← h 3, ← h 4, ← h 5, ← h 6, ← h 7]
  rfl
/-- The first moments, row by row. -/
def mOf : FVec Ideal ⟨2, ![2, k]⟩ .f32 := fun j => newM (g j) (shapeCast (⟨2, ![2, k]⟩ : Shape) M hf j)
/-- The second moments, row by row. -/
def vOf : FVec Ideal ⟨2, ![2, k]⟩ .f32 := fun j => newV (g j) (shapeCast (⟨2, ![2, k]⟩ : Shape) V hf j)
/-- The changes, row by row. -/
def changeOf : FVec Ideal ⟨2, ![2, k]⟩ .f32 := fun j =>
  change (shapeCast (⟨2, ![2, k]⟩ : Shape) W hf j) (g j) (shapeCast (⟨2, ![2, k]⟩ : Shape) M hf j) (shapeCast (⟨2, ![2, k]⟩ : Shape) V hf j)
/-- The gradient's entries in the kernel's result. -/
theorem grad_apply : shapeCast (⟨3, ![1, 2, k]⟩ : Shape) (gradOf P hf inb) hs (ix3 (0 : Fin 1) r d) = total P r d :=
  (stack_apply (e := .f32) _ hs r d).trans (gradOf_apply P r d hf inb)
/-- The first moment's. -/
theorem m_apply : shapeCast (⟨3, ![1, 2, k]⟩ : Shape) (mOf M (gradOf P hf inb) hf) hs (ix3 (0 : Fin 1) r d) = newM (total P r d) (M (ix3 (0 : Fin 1) r d)) :=
  (stack_apply (e := .f32) _ hs r d).trans (congrArg₂ newM (gradOf_apply P r d hf inb) (flat_apply M hf r d))
/-- The second moment's. -/
theorem v_apply : shapeCast (⟨3, ![1, 2, k]⟩ : Shape) (vOf V (gradOf P hf inb) hf) hs (ix3 (0 : Fin 1) r d) = newV (total P r d) (V (ix3 (0 : Fin 1) r d)) :=
  (stack_apply (e := .f32) _ hs r d).trans (congrArg₂ newV (gradOf_apply P r d hf inb) (flat_apply V hf r d))
/-- The change's. -/
theorem change_apply : shapeCast (⟨3, ![1, 2, k]⟩ : Shape) (changeOf W M V (gradOf P hf inb) hf) hs (ix3 (0 : Fin 1) r d)
    = change (W (ix3 (0 : Fin 1) r d)) (total P r d) (M (ix3 (0 : Fin 1) r d)) (V (ix3 (0 : Fin 1) r d)) := by
  refine (stack_apply (e := .f32) _ hs r d).trans ?_
  rw [changeOf, gradOf_apply P r d hf inb, flat_apply W hf r d, flat_apply M hf r d, flat_apply V hf r d]
/-- Every index of an array is a row and a lane. -/
theorem at_cases (j : (⟨3, ![1, 2, k]⟩ : Shape).Idx) : ∃ (r : Fin 2) (d : Fin k), j = ix3 (0 : Fin 1) r d :=
  ⟨j 1, j 2, funext fun a => match a with
    | ⟨0, _⟩ => Subsingleton.elim (α := Fin 1) _ _
    | ⟨1, _⟩ => rfl
    | ⟨2, _⟩ => rfl⟩
end

end Cert.Point

end
-- ==== Proof.Point.AdamGain.lean ====
/- The optimiser's step on the gains of the norms outside the branches. -/
module

public import proofs.«01_k».proof.Defs
public import proofs.«01_k».proof.Proof.Gen.AdamGain.Frame
public import proofs.«01_k».proof.Proof.Gen.AdamGainIdeal.Value
public import proofs.«01_k».proof.Proof.Gen.AdamGainRefIdeal.Read
public import proofs.«01_k».proof.Proof.Point.Adam

@[expose] public section

set_option maxRecDepth 16384

noncomputable section

namespace Cert.Point.AdamGain

open Cert.Point (newM newV change total grad_apply m_apply v_apply change_apply at_cases)
open Idealize.ShloMosaic Idealize.ShloMosaic.TcCoe Idealize.SL.Sem Cert.AdamGainIdeal Cert.AdamGainIdeal.Gen

/-- A device's gradients lie in the stack. -/
theorem inStack : ∀ i : Fin 8, ∀ a, (![i.val, 0, 0] : Fin 3 → Nat) a + (![1, 2, 1024] : Fin 3 → Nat) a ≤ (![8, 2, 1024] : Fin 3 → Nat) a := by decide

section
variable (W : Vec Ideal S1x2x1024 .f32) (P : Vec Ideal S8x2x1024 .f32) (M V : Vec Ideal S1x2x1024 .f32) (r : Fin 2) (d : Fin 1024)
/-- The kernel's gradient. -/
theorem ker_grad : Cert.AdamGainIdeal.Value.G4 (F := Ideal) W P M V (ix3 (0 : Fin 1) r d) = total P r d :=
  grad_apply P r d shapeCasts_S1x2x1024_S2x1024 shapeCasts_S2x1024_S1x2x1024 inStack
/-- The kernel's first moment. -/
theorem ker_m : Cert.AdamGainIdeal.Value.G6 (F := Ideal) W P M V (ix3 (0 : Fin 1) r d) = newM (total P r d) (M (ix3 (0 : Fin 1) r d)) :=
  m_apply M P r d shapeCasts_S1x2x1024_S2x1024 shapeCasts_S2x1024_S1x2x1024 inStack
/-- The kernel's second moment. -/
theorem ker_v : Cert.AdamGainIdeal.Value.G7 (F := Ideal) W P M V (ix3 (0 : Fin 1) r d) = newV (total P r d) (V (ix3 (0 : Fin 1) r d)) :=
  v_apply V P r d shapeCasts_S1x2x1024_S2x1024 shapeCasts_S2x1024_S1x2x1024 inStack
/-- The kernel's change. -/
theorem ker_change : Cert.AdamGainIdeal.Value.G5 (F := Ideal) W P M V (ix3 (0 : Fin 1) r d)
    = change (W (ix3 (0 : Fin 1) r d)) (total P r d) (M (ix3 (0 : Fin 1) r d)) (V (ix3 (0 : Fin 1) r d)) := by
  refine Eq.trans ?_ (change_apply W M V P r d shapeCasts_S1x2x1024_S2x1024 shapeCasts_S2x1024_S1x2x1024 inStack)
  show k0_pay6 (F := Ideal) (k0_pay8 W P M V) M V W (ix3 (0 : Fin 1) r d) = _
  unfold k0_pay6
  rfl
end

section
open Cert.AdamGainRefIdeal.Read
variable (W : Vec Ideal S1x2x1024 .f32) (P : Vec Ideal S8x2x1024 .f32) (M V : Vec Ideal S1x2x1024 .f32) (r : Fin 2) (d : Fin 1024)
/-- The reference's gradient. -/
theorem ref_grad : val_main_v1 (F := Ideal) P (ix3 (0 : Fin 1) r d) = total P r d := by
  rw [val_main_v1_apply, val_main_v0_apply]
  show Ideal.ofBits .f32 0x00000000#32 + _ = _
  rw [Ideal.ofBits_zero_f32, zero_add]
  refine Finset.sum_congr rfl fun i _ => congrArg P (funext fun a => ?_)
  match a with
  | ⟨0, _⟩ => rfl
  | ⟨1, _⟩ => rfl
  | ⟨2, _⟩ => rfl
/-- The reference's first moment. -/
theorem ref_m : val_main_v6 (F := Ideal) P M (ix3 (0 : Fin 1) r d) = newM (total P r d) (M (ix3 (0 : Fin 1) r d)) := by
  rw [← ref_grad]
  rfl
/-- The reference's second moment. -/
theorem ref_v : val_main_v12 (F := Ideal) P V (ix3 (0 : Fin 1) r d) = newV (total P r d) (V (ix3 (0 : Fin 1) r d)) := by
  rw [← ref_grad]
  rfl
/-- The reference's change. -/
theorem ref_change : val_main_v25 (F := Ideal) W P M V (ix3 (0 : Fin 1) r d)
    = change (W (ix3 (0 : Fin 1) r d)) (total P r d) (M (ix3 (0 : Fin 1) r d)) (V (ix3 (0 : Fin 1) r d)) := by
  rw [change, ← ref_m, ← ref_v]
  rfl
end

/-- The reference runs to its end and leaves its arguments and the counters as they were; it declares no semaphore. -/
theorem frame_ref : @Cert.quiescent_AdamGainRefIdeal Cert.AdamGainRefIdeal.Gen.facts := fun m g _ =>
  (θ_run Cert.AdamGainRefIdeal.defs _ _).mono
    (fun r h => ⟨fun c => (h c).2.2.2.2, sem_eq_zero_of_no_sems (by decide) r.2⟩) (Cert.AdamGainRefIdeal.Value.run (F := Ideal) m g)

/-- The kernel's gradient, change and moments and the reference's agree. -/
theorem value : @Cert.algebraic_AdamGainIdeal_AdamGainRefIdeal Cert.AdamGainIdeal.Gen.facts Cert.AdamGainRefIdeal.Gen.facts := by
  pair_intro
  · run_from Cert.AdamGainIdeal.Value.run (F := Ideal) m g
  · refine (θ_run Cert.AdamGainRefIdeal.defs _ _).mono (fun r h c => ?_) (Cert.AdamGainRefIdeal.Value.run (F := Ideal) m' g')
    obtain ⟨e0, e1, e2, e3, hr⟩ := h c
    obtain ⟨h0, h1, h2, h3⟩ := hagree c
    refine ⟨e0.trans ?_, e1.trans ?_, e2.trans ?_, e3.trans ?_, hr⟩
    · rw [Cert.AdamGainRefIdeal.Read.val_main_v1_eq, h1]
      refine funext fun j => ?_
      obtain ⟨r, d, rfl⟩ := at_cases j
      exact (ref_grad _ r d).trans (ker_grad _ _ _ _ r d).symm
    · rw [Cert.AdamGainRefIdeal.Read.val_main_v25_eq, h0, h1, h2, h3]
      refine funext fun j => ?_
      obtain ⟨r, d, rfl⟩ := at_cases j
      exact (ref_change _ _ _ _ r d).trans (ker_change _ _ _ _ r d).symm
    · rw [Cert.AdamGainRefIdeal.Read.val_main_v6_eq, h1, h2]
      refine funext fun j => ?_
      obtain ⟨r, d, rfl⟩ := at_cases j
      exact (ref_m _ _ r d).trans (ker_m _ _ _ _ r d).symm
    · rw [Cert.AdamGainRefIdeal.Read.val_main_v12_eq, h1, h3]
      refine funext fun j => ?_
      obtain ⟨r, d, rfl⟩ := at_cases j
      exact (ref_v _ _ r d).trans (ker_v _ _ _ _ r d).symm

end Cert.Point.AdamGain

end
-- ==== Proof.Point.AdamBranch.lean ====
/- The optimiser's step on the gains, offsets and bias inside the branches. -/
module

public import proofs.«01_k».proof.Defs
public import proofs.«01_k».proof.Proof.Gen.AdamBranch.Frame
public import proofs.«01_k».proof.Proof.Gen.AdamBranchIdeal.Value
public import proofs.«01_k».proof.Proof.Gen.AdamBranchRefIdeal.Read
public import proofs.«01_k».proof.Proof.Point.Adam

@[expose] public section

set_option maxRecDepth 16384

noncomputable section

namespace Cert.Point.AdamBranch

open Cert.Point (newM newV change total grad_apply m_apply v_apply change_apply at_cases)
open Idealize.ShloMosaic Idealize.ShloMosaic.TcCoe Idealize.SL.Sem Cert.AdamBranchIdeal Cert.AdamBranchIdeal.Gen

/-- A device's gradients lie in the stack. -/
theorem inStack : ∀ i : Fin 8, ∀ a, (![i.val, 0, 0] : Fin 3 → Nat) a + (![1, 2, 512] : Fin 3 → Nat) a ≤ (![8, 2, 512] : Fin 3 → Nat) a := by decide

section
variable (W : Vec Ideal S1x2x512 .f32) (P : Vec Ideal S8x2x512 .f32) (M V : Vec Ideal S1x2x512 .f32) (r : Fin 2) (d : Fin 512)
/-- The kernel's gradient. -/
theorem ker_grad : Cert.AdamBranchIdeal.Value.G4 (F := Ideal) W P M V (ix3 (0 : Fin 1) r d) = total P r d :=
  grad_apply P r d shapeCasts_S1x2x512_S2x512 shapeCasts_S2x512_S1x2x512 inStack
/-- The kernel's first moment. -/
theorem ker_m : Cert.AdamBranchIdeal.Value.G6 (F := Ideal) W P M V (ix3 (0 : Fin 1) r d) = newM (total P r d) (M (ix3 (0 : Fin 1) r d)) :=
  m_apply M P r d shapeCasts_S1x2x512_S2x512 shapeCasts_S2x512_S1x2x512 inStack
/-- The kernel's second moment. -/
theorem ker_v : Cert.AdamBranchIdeal.Value.G7 (F := Ideal) W P M V (ix3 (0 : Fin 1) r d) = newV (total P r d) (V (ix3 (0 : Fin 1) r d)) :=
  v_apply V P r d shapeCasts_S1x2x512_S2x512 shapeCasts_S2x512_S1x2x512 inStack
/-- The kernel's change. -/
theorem ker_change : Cert.AdamBranchIdeal.Value.G5 (F := Ideal) W P M V (ix3 (0 : Fin 1) r d)
    = change (W (ix3 (0 : Fin 1) r d)) (total P r d) (M (ix3 (0 : Fin 1) r d)) (V (ix3 (0 : Fin 1) r d)) := by
  refine Eq.trans ?_ (change_apply W M V P r d shapeCasts_S1x2x512_S2x512 shapeCasts_S2x512_S1x2x512 inStack)
  show k0_pay6 (F := Ideal) (k0_pay8 W P M V) M V W (ix3 (0 : Fin 1) r d) = _
  unfold k0_pay6
  rfl
end

section
open Cert.AdamBranchRefIdeal.Read
variable (W : Vec Ideal S1x2x512 .f32) (P : Vec Ideal S8x2x512 .f32) (M V : Vec Ideal S1x2x512 .f32) (r : Fin 2) (d : Fin 512)
/-- The reference's gradient. -/
theorem ref_grad : val_main_v1 (F := Ideal) P (ix3 (0 : Fin 1) r d) = total P r d := by
  rw [val_main_v1_apply, val_main_v0_apply]
  show Ideal.ofBits .f32 0x00000000#32 + _ = _
  rw [Ideal.ofBits_zero_f32, zero_add]
  refine Finset.sum_congr rfl fun i _ => congrArg P (funext fun a => ?_)
  match a with
  | ⟨0, _⟩ => rfl
  | ⟨1, _⟩ => rfl
  | ⟨2, _⟩ => rfl
/-- The reference's first moment. -/
theorem ref_m : val_main_v6 (F := Ideal) P M (ix3 (0 : Fin 1) r d) = newM (total P r d) (M (ix3 (0 : Fin 1) r d)) := by
  rw [← ref_grad]
  rfl
/-- The reference's second moment. -/
theorem ref_v : val_main_v12 (F := Ideal) P V (ix3 (0 : Fin 1) r d) = newV (total P r d) (V (ix3 (0 : Fin 1) r d)) := by
  rw [← ref_grad]
  rfl
/-- The reference's change. -/
theorem ref_change : val_main_v25 (F := Ideal) W P M V (ix3 (0 : Fin 1) r d)
    = change (W (ix3 (0 : Fin 1) r d)) (total P r d) (M (ix3 (0 : Fin 1) r d)) (V (ix3 (0 : Fin 1) r d)) := by
  rw [change, ← ref_m, ← ref_v]
  rfl
end

/-- The reference runs to its end and leaves its arguments and the counters as they were; it declares no semaphore. -/
theorem frame_ref : @Cert.quiescent_AdamBranchRefIdeal Cert.AdamBranchRefIdeal.Gen.facts := fun m g _ =>
  (θ_run Cert.AdamBranchRefIdeal.defs _ _).mono
    (fun r h => ⟨fun c => (h c).2.2.2.2, sem_eq_zero_of_no_sems (by decide) r.2⟩) (Cert.AdamBranchRefIdeal.Value.run (F := Ideal) m g)

/-- The kernel's gradient, change and moments and the reference's agree. -/
theorem value : @Cert.algebraic_AdamBranchIdeal_AdamBranchRefIdeal Cert.AdamBranchIdeal.Gen.facts Cert.AdamBranchRefIdeal.Gen.facts := by
  pair_intro
  · run_from Cert.AdamBranchIdeal.Value.run (F := Ideal) m g
  · refine (θ_run Cert.AdamBranchRefIdeal.defs _ _).mono (fun r h c => ?_) (Cert.AdamBranchRefIdeal.Value.run (F := Ideal) m' g')
    obtain ⟨e0, e1, e2, e3, hr⟩ := h c
    obtain ⟨h0, h1, h2, h3⟩ := hagree c
    refine ⟨e0.trans ?_, e1.trans ?_, e2.trans ?_, e3.trans ?_, hr⟩
    · rw [Cert.AdamBranchRefIdeal.Read.val_main_v1_eq, h1]
      refine funext fun j => ?_
      obtain ⟨r, d, rfl⟩ := at_cases j
      exact (ref_grad _ r d).trans (ker_grad _ _ _ _ r d).symm
    · rw [Cert.AdamBranchRefIdeal.Read.val_main_v25_eq, h0, h1, h2, h3]
      refine funext fun j => ?_
      obtain ⟨r, d, rfl⟩ := at_cases j
      exact (ref_change _ _ _ _ r d).trans (ker_change _ _ _ _ r d).symm
    · rw [Cert.AdamBranchRefIdeal.Read.val_main_v6_eq, h1, h2]
      refine funext fun j => ?_
      obtain ⟨r, d, rfl⟩ := at_cases j
      exact (ref_m _ _ r d).trans (ker_m _ _ _ _ r d).symm
    · rw [Cert.AdamBranchRefIdeal.Read.val_main_v12_eq, h1, h3]
      refine funext fun j => ?_
      obtain ⟨r, d, rfl⟩ := at_cases j
      exact (ref_v _ _ r d).trans (ker_v _ _ _ _ r d).symm

end Cert.Point.AdamBranch

end
-- ==== Proof.Point.AdamConv.lean ====
/- The optimiser's step on the bias of the feed-forward layer's convolution. -/
module

public import proofs.«01_k».proof.Defs
public import proofs.«01_k».proof.Proof.Gen.AdamConv.Frame
public import proofs.«01_k».proof.Proof.Gen.AdamConvIdeal.Value
public import proofs.«01_k».proof.Proof.Gen.AdamConvRefIdeal.Read
public import proofs.«01_k».proof.Proof.Point.Adam

@[expose] public section

set_option maxRecDepth 16384

noncomputable section

namespace Cert.Point.AdamConv

open Cert.Point (newM newV change total grad_apply m_apply v_apply change_apply at_cases)
open Idealize.ShloMosaic Idealize.ShloMosaic.TcCoe Idealize.SL.Sem Cert.AdamConvIdeal Cert.AdamConvIdeal.Gen

/-- A device's gradients lie in the stack. -/
theorem inStack : ∀ i : Fin 8, ∀ a, (![i.val, 0, 0] : Fin 3 → Nat) a + (![1, 2, 2816] : Fin 3 → Nat) a ≤ (![8, 2, 2816] : Fin 3 → Nat) a := by decide

section
variable (W : Vec Ideal S1x2x2816 .f32) (P : Vec Ideal S8x2x2816 .f32) (M V : Vec Ideal S1x2x2816 .f32) (r : Fin 2) (d : Fin 2816)
/-- The kernel's gradient. -/
theorem ker_grad : Cert.AdamConvIdeal.Value.G4 (F := Ideal) W P M V (ix3 (0 : Fin 1) r d) = total P r d :=
  grad_apply P r d shapeCasts_S1x2x2816_S2x2816 shapeCasts_S2x2816_S1x2x2816 inStack
/-- The kernel's first moment. -/
theorem ker_m : Cert.AdamConvIdeal.Value.G6 (F := Ideal) W P M V (ix3 (0 : Fin 1) r d) = newM (total P r d) (M (ix3 (0 : Fin 1) r d)) :=
  m_apply M P r d shapeCasts_S1x2x2816_S2x2816 shapeCasts_S2x2816_S1x2x2816 inStack
/-- The kernel's second moment. -/
theorem ker_v : Cert.AdamConvIdeal.Value.G7 (F := Ideal) W P M V (ix3 (0 : Fin 1) r d) = newV (total P r d) (V (ix3 (0 : Fin 1) r d)) :=
  v_apply V P r d shapeCasts_S1x2x2816_S2x2816 shapeCasts_S2x2816_S1x2x2816 inStack
/-- The kernel's change. -/
theorem ker_change : Cert.AdamConvIdeal.Value.G5 (F := Ideal) W P M V (ix3 (0 : Fin 1) r d)
    = change (W (ix3 (0 : Fin 1) r d)) (total P r d) (M (ix3 (0 : Fin 1) r d)) (V (ix3 (0 : Fin 1) r d)) := by
  refine Eq.trans ?_ (change_apply W M V P r d shapeCasts_S1x2x2816_S2x2816 shapeCasts_S2x2816_S1x2x2816 inStack)
  show k0_pay6 (F := Ideal) (k0_pay8 W P M V) M V W (ix3 (0 : Fin 1) r d) = _
  unfold k0_pay6
  rfl
end

section
open Cert.AdamConvRefIdeal.Read
variable (W : Vec Ideal S1x2x2816 .f32) (P : Vec Ideal S8x2x2816 .f32) (M V : Vec Ideal S1x2x2816 .f32) (r : Fin 2) (d : Fin 2816)
/-- The reference's gradient. -/
theorem ref_grad : val_main_v1 (F := Ideal) P (ix3 (0 : Fin 1) r d) = total P r d := by
  rw [val_main_v1_apply, val_main_v0_apply]
  show Ideal.ofBits .f32 0x00000000#32 + _ = _
  rw [Ideal.ofBits_zero_f32, zero_add]
  refine Finset.sum_congr rfl fun i _ => congrArg P (funext fun a => ?_)
  match a with
  | ⟨0, _⟩ => rfl
  | ⟨1, _⟩ => rfl
  | ⟨2, _⟩ => rfl
/-- The reference's first moment. -/
theorem ref_m : val_main_v6 (F := Ideal) P M (ix3 (0 : Fin 1) r d) = newM (total P r d) (M (ix3 (0 : Fin 1) r d)) := by
  rw [← ref_grad]
  rfl
/-- The reference's second moment. -/
theorem ref_v : val_main_v12 (F := Ideal) P V (ix3 (0 : Fin 1) r d) = newV (total P r d) (V (ix3 (0 : Fin 1) r d)) := by
  rw [← ref_grad]
  rfl
/-- The reference's change. -/
theorem ref_change : val_main_v25 (F := Ideal) W P M V (ix3 (0 : Fin 1) r d)
    = change (W (ix3 (0 : Fin 1) r d)) (total P r d) (M (ix3 (0 : Fin 1) r d)) (V (ix3 (0 : Fin 1) r d)) := by
  rw [change, ← ref_m, ← ref_v]
  rfl
end

/-- The reference runs to its end and leaves its arguments and the counters as they were; it declares no semaphore. -/
theorem frame_ref : @Cert.quiescent_AdamConvRefIdeal Cert.AdamConvRefIdeal.Gen.facts := fun m g _ =>
  (θ_run Cert.AdamConvRefIdeal.defs _ _).mono
    (fun r h => ⟨fun c => (h c).2.2.2.2, sem_eq_zero_of_no_sems (by decide) r.2⟩) (Cert.AdamConvRefIdeal.Value.run (F := Ideal) m g)

/-- The kernel's gradient, change and moments and the reference's agree. -/
theorem value : @Cert.algebraic_AdamConvIdeal_AdamConvRefIdeal Cert.AdamConvIdeal.Gen.facts Cert.AdamConvRefIdeal.Gen.facts := by
  pair_intro
  · run_from Cert.AdamConvIdeal.Value.run (F := Ideal) m g
  · refine (θ_run Cert.AdamConvRefIdeal.defs _ _).mono (fun r h c => ?_) (Cert.AdamConvRefIdeal.Value.run (F := Ideal) m' g')
    obtain ⟨e0, e1, e2, e3, hr⟩ := h c
    obtain ⟨h0, h1, h2, h3⟩ := hagree c
    refine ⟨e0.trans ?_, e1.trans ?_, e2.trans ?_, e3.trans ?_, hr⟩
    · rw [Cert.AdamConvRefIdeal.Read.val_main_v1_eq, h1]
      refine funext fun j => ?_
      obtain ⟨r, d, rfl⟩ := at_cases j
      exact (ref_grad _ r d).trans (ker_grad _ _ _ _ r d).symm
    · rw [Cert.AdamConvRefIdeal.Read.val_main_v25_eq, h0, h1, h2, h3]
      refine funext fun j => ?_
      obtain ⟨r, d, rfl⟩ := at_cases j
      exact (ref_change _ _ _ _ r d).trans (ker_change _ _ _ _ r d).symm
    · rw [Cert.AdamConvRefIdeal.Read.val_main_v6_eq, h1, h2]
      refine funext fun j => ?_
      obtain ⟨r, d, rfl⟩ := at_cases j
      exact (ref_m _ _ r d).trans (ker_m _ _ _ _ r d).symm
    · rw [Cert.AdamConvRefIdeal.Read.val_main_v12_eq, h1, h3]
      refine funext fun j => ?_
      obtain ⟨r, d, rfl⟩ := at_cases j
      exact (ref_v _ _ r d).trans (ker_v _ _ _ _ r d).symm

end Cert.Point.AdamConv

end
-- ==== Proof.Point.LossSum.lean ====
/- The sum of the devices' losses. -/
module

public import proofs.«01_k».proof.Defs
public import proofs.«01_k».proof.Proof.Gen.LossSum.Frame
public import proofs.«01_k».proof.Proof.Gen.LossSumIdeal.Value
public import proofs.«01_k».proof.Proof.Gen.LossSumRefIdeal.Read
public import proofs.«01_k».proof.Proof.Point.Adam

@[expose] public section

set_option maxRecDepth 16384

noncomputable section

namespace Cert.Point.LossSum

open Cert.Point (row_apply)
open Idealize.ShloMosaic Idealize.ShloMosaic.TcCoe Idealize.SL.Sem Cert.LossSumIdeal Cert.LossSumIdeal.Gen

variable (X : Vec Ideal S8x128 .f32) (d : Fin 128)
/-- The kernel's sum. -/
theorem ker : Cert.LossSumIdeal.Value.G1 (F := Ideal) X (ix2 (0 : Fin 1) d) = ∑ i : Fin 8, X (ix2 i d) := by
  have h : ∀ i : Fin 8, ∀ inb, View.ld (Val := Elt Ideal) (S := S8x128) (e' := .f32) X (Rect.unit ![i.val, 0] S1x128.size inb) (ix2 (0 : Fin 1) d) = X (ix2 i d) :=
    fun i inb => row_apply X i inb d
  rw [Fin.sum_univ_eight]
  exact congrArg₂ (· + ·) (congrArg₂ (· + ·) (congrArg₂ (· + ·) (congrArg₂ (· + ·) (congrArg₂ (· + ·) (congrArg₂ (· + ·) (congrArg₂ (· + ·)
    (h 0 _) (h 1 _)) (h 2 _)) (h 3 _)) (h 4 _)) (h 5 _)) (h 6 _)) (h 7 _)

open Cert.LossSumRefIdeal.Read in
/-- The reference's sum. -/
theorem ref : val_main_v1 (F := Ideal) X (ix2 (0 : Fin 1) d) = ∑ i : Fin 8, X (ix2 i d) := by
  rw [val_main_v1_apply, val_main_v0_apply]
  show Ideal.ofBits .f32 0x00000000#32 + _ = _
  rw [Ideal.ofBits_zero_f32, zero_add]
  refine Finset.sum_congr rfl fun i _ => congrArg X (funext fun a => ?_)
  match a with
  | ⟨0, _⟩ => rfl
  | ⟨1, _⟩ => rfl

/-- The reference runs to its end and leaves its arguments and the counters as they were; it declares no semaphore. -/
theorem frame_ref : @Cert.quiescent_LossSumRefIdeal Cert.LossSumRefIdeal.Gen.facts := fun m g _ =>
  (θ_run Cert.LossSumRefIdeal.defs _ _).mono
    (fun r h => ⟨fun c => (h c).2, sem_eq_zero_of_no_sems (by decide) r.2⟩) (Cert.LossSumRefIdeal.Value.run (F := Ideal) m g)

/-- The kernel's sum and the reference's agree. -/
theorem value : @Cert.algebraic_LossSumIdeal_LossSumRefIdeal Cert.LossSumIdeal.Gen.facts Cert.LossSumRefIdeal.Gen.facts := by
  pair_intro
  · run_from Cert.LossSumIdeal.Value.run (F := Ideal) m g
  · run_from Cert.LossSumRefIdeal.Value.run m' g'
    rw [Cert.LossSumRefIdeal.Read.val_main_v1_eq]
    exact funext fun j => by
      obtain ⟨r, d, rfl⟩ : ∃ (r : Fin 1) (d : Fin 128), j = ix2 r d := ⟨j 0, j 1, (ix2_eta j).symm⟩
      obtain rfl : r = 0 := Subsingleton.elim _ _
      exact (ref _ d).trans (ker _ d).symm

end Cert.Point.LossSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.UpDx.Frame
public import proofs.«01_k».proof.Proof.Gen.UpDxIdeal.Value
public import proofs.«01_k».proof.Proof.Gen.UpDxRefIdeal.Read
public import proofs.«01_k».proof.Proof.Gen.UpDw.Frame
public import proofs.«01_k».proof.Proof.Gen.UpDwIdeal.Value
public import proofs.«01_k».proof.Proof.Gen.UpDwRefIdeal.Read
public import proofs.«01_k».proof.Proof.Gen.DownDx.Frame
public import proofs.«01_k».proof.Proof.Gen.DownDxIdeal.Value
public import proofs.«01_k».proof.Proof.Gen.DownDxRefIdeal.Read
public import proofs.«01_k».proof.Proof.Gen.DownDw.Frame
public import proofs.«01_k».proof.Proof.Gen.DownDwIdeal.Value
public import proofs.«01_k».proof.Proof.Gen.DownDwRefIdeal.Read
public import proofs.«01_k».proof.Proof.Gen.SquareDx.Frame
public import proofs.«01_k».proof.Proof.Gen.SquareDxIdeal.Value
public import proofs.«01_k».proof.Proof.Gen.SquareDxRefIdeal.Read
public import proofs.«01_k».proof.Proof.Gen.SquareDw.Frame
public import proofs.«01_k».proof.Proof.Gen.SquareDwIdeal.Value
public import proofs.«01_k».proof.Proof.Gen.SquareDwRefIdeal.Read
public import proofs.«01_k».proof.Proof.Gen.InADx.Frame
public import proofs.«01_k».proof.Proof.Gen.InADxIdeal.Value
public import proofs.«01_k».proof.Proof.Gen.InADxRefIdeal.Read
public import proofs.«01_k».proof.Proof.Gen.InBDx.Frame
public import proofs.«01_k».proof.Proof.Gen.InBDxIdeal.Value
public import proofs.«01_k».proof.Proof.Gen.InBDxRefIdeal.Read
public import proofs.«01_k».proof.Proof.Gen.InCDx.Frame
public import proofs.«01_k».proof.Proof.Gen.InCDxIdeal.Value
public import proofs.«01_k».proof.Proof.Gen.InCDxRefIdeal.Read
public import proofs.«01_k».proof.Proof.Gen.InGDx.Frame
public import proofs.«01_k».proof.Proof.Gen.InGDxIdeal.Value
public import proofs.«01_k».proof.Proof.Gen.InGDxRefIdeal.Read
public import proofs.«01_k».proof.Proof.Gen.InADw.Frame
public import proofs.«01_k».proof.Proof.Gen.InADwIdeal.Value
public import proofs.«01_k».proof.Proof.Gen.InADwRefIdeal.Read
public import proofs.«01_k».proof.Proof.Gen.InCDw.Frame
public import proofs.«01_k».proof.Proof.Gen.InCDwIdeal.Value
public import proofs.«01_k».proof.Proof.Gen.InCDwRefIdeal.Read
public import proofs.«01_k».proof.Proof.Gen.InGDw.Frame
public import proofs.«01_k».proof.Proof.Gen.InGDwIdeal.Value
public import proofs.«01_k».proof.Proof.Gen.InGDwRefIdeal.Read
public import proofs.«01_k».proof.Proof.Gen.AOutDx.Frame
public import proofs.«01_k».proof.Proof.Gen.AOutDxIdeal.Value
public import proofs.«01_k».proof.Proof.Gen.AOutDxRefIdeal.Read
public import proofs.«01_k».proof.Proof.Gen.AOutDw.Frame
public import proofs.«01_k».proof.Proof.Gen.AOutDwIdeal.Value
public import proofs.«01_k».proof.Proof.Gen.AOutDwRefIdeal.Read
public import proofs.«01_k».proof.Proof.Gen.COutDx.Frame
public import proofs.«01_k».proof.Proof.Gen.COutDxIdeal.Value
public import proofs.«01_k».proof.Proof.Gen.COutDxRefIdeal.Read
public import proofs.«01_k».proof.Proof.Gen.COutDw.Frame
public import proofs.«01_k».proof.Proof.Gen.COutDwIdeal.Value
public import proofs.«01_k».proof.Proof.Gen.COutDwRefIdeal.Read
public import proofs.«01_k».proof.Proof.Gen.XkvDx.Frame
public import proofs.«01_k».proof.Proof.Gen.XkvDxIdeal.Value
public import proofs.«01_k».proof.Proof.Gen.XkvDxRefIdeal.Read
public import proofs.«01_k».proof.Proof.Gen.XkvDw.Frame
public import proofs.«01_k».proof.Proof.Gen.XkvDwIdeal.Value
public import proofs.«01_k».proof.Proof.Gen.XkvDwRefIdeal.Read
public import proofs.«01_k».proof.Proof.Gen.SquareFwd.Frame
public import proofs.«01_k».proof.Proof.Gen.SquareFwdIdeal.Value
public import proofs.«01_k».proof.Proof.Gen.SquareFwdRefIdeal.Read
public import proofs.«01_k».proof.Proof.Gen.InCFwd.Frame
public import proofs.«01_k».proof.Proof.Gen.InCFwdIdeal.Value
public import proofs.«01_k».proof.Proof.Gen.InCFwdRefIdeal.Read
public import proofs.«01_k».proof.Proof.Gen.InGFwd.Frame
public import proofs.«01_k».proof.Proof.Gen.InGFwdIdeal.Value
public import proofs.«01_k».proof.Proof.Gen.InGFwdRefIdeal.Read
public import proofs.«01_k».proof.Proof.Gen.UpFwd.Frame
public import proofs.«01_k».proof.Proof.Gen.UpFwdIdeal.Value
public import proofs.«01_k».proof.Proof.Gen.UpFwdRefIdeal.Read
public import proofs.«01_k».proof.Proof.Gen.DownFwd.Frame
public import proofs.«01_k».proof.Proof.Gen.DownFwdIdeal.Value
public import proofs.«01_k».proof.Proof.Gen.DownFwdRefIdeal.Read
public import proofs.«01_k».proof.Proof.Gen.AOutFwd.Frame
public import proofs.«01_k».proof.Proof.Gen.AOutFwdIdeal.Value
public import proofs.«01_k».proof.Proof.Gen.AOutFwdRefIdeal.Read
public import proofs.«01_k».proof.Proof.Gen.COutFwd.Frame
public import proofs.«01_k».proof.Proof.Gen.COutFwdIdeal.Value
public import proofs.«01_k».proof.Proof.Gen.COutFwdRefIdeal.Read
public import proofs.«01_k».proof.Proof.Gen.XkvFwd.Frame
public import proofs.«01_k».proof.Proof.Gen.XkvFwdIdeal.Value
public import proofs.«01_k».proof.Proof.Gen.XkvFwdRefIdeal.Read
public import proofs.«01_k».proof.Proof.Gen.MergeBwd.Frame
public import proofs.«01_k».proof.Proof.Gen.MergeBwdIdeal.Value
public import proofs.«01_k».proof.Proof.Gen.MergeBwdRefIdeal.Read
public import proofs.«01_k».proof.Proof.Gen.MergeFwd.Frame
public import proofs.«01_k».proof.Proof.Gen.MergeFwdIdeal.Value
public import proofs.«01_k».proof.Proof.Gen.MergeFwdRefIdeal.Read
public import proofs.«01_k».proof.Proof.Gen.NormBwd.Frame
public import proofs.«01_k».proof.Proof.Gen.NormBwdIdeal.Value
public import proofs.«01_k».proof.Proof.Gen.NormBwdRefIdeal.Read
public import proofs.«01_k».proof.Proof.Gen.NormFwd.Frame
public import proofs.«01_k».proof.Proof.Gen.NormFwdIdeal.Value
public import proofs.«01_k».proof.Proof.Gen.NormFwdRefIdeal.Read
public import proofs.«01_k».proof.Proof.Gen.XattnFwd.Frame
public import proofs.«01_k».proof.Proof.Gen.XattnFwdIdeal.Value
public import proofs.«01_k».proof.Proof.Gen.XattnFwdRefIdeal.Read
public import proofs.«01_k».proof.Proof.Gen.NormBwdLast.Frame
public import proofs.«01_k».proof.Proof.Gen.NormBwdLastIdeal.Value
public import proofs.«01_k».proof.Proof.Gen.NormBwdLastRefIdeal.Read
public import proofs.«01_k».proof.Proof.Gen.NormBwdFirst.Frame
public import proofs.«01_k».proof.Proof.Gen.NormBwdFirstIdeal.Value
public import proofs.«01_k».proof.Proof.Gen.NormBwdFirstRefIdeal.Read
public import proofs.«01_k».proof.Proof.Gen.NormBwdMem.Frame
public import proofs.«01_k».proof.Proof.Gen.NormBwdMemIdeal.Value
public import proofs.«01_k».proof.Proof.Gen.NormBwdMemRefIdeal.Read
public import proofs.«01_k».proof.Proof.Gen.NormFwdLast.Frame
public import proofs.«01_k».proof.Proof.Gen.NormFwdLastIdeal.Value
public import proofs.«01_k».proof.Proof.Gen.NormFwdLastRefIdeal.Read
public import proofs.«01_k».proof.Proof.Gen.NormFwdFirst.Frame
public import proofs.«01_k».proof.Proof.Gen.NormFwdFirstIdeal.Value
public import proofs.«01_k».proof.Proof.Gen.NormFwdFirstRefIdeal.Read
public import proofs.«01_k».proof.Proof.Gen.NormFwdMem.Frame
public import proofs.«01_k».proof.Proof.Gen.NormFwdMemIdeal.Value
public import proofs.«01_k».proof.Proof.Gen.NormFwdMemRefIdeal.Read
public import proofs.«01_k».proof.Proof.Gen.ConvNormBwd.Frame
public import proofs.«01_k».proof.Proof.Gen.ConvNormBwdIdeal.Value
public import proofs.«01_k».proof.Proof.Gen.ConvNormBwdRefIdeal.Read
public import proofs.«01_k».proof.Proof.Gen.GatingFwd.Frame
public import proofs.«01_k».proof.Proof.Gen.GatingFwdIdeal.Value
public import proofs.«01_k».proof.Proof.Gen.GatingFwdRefIdeal.Read
public import proofs.«01_k».proof.Proof.Gen.AttnCombine.Frame
public import proofs.«01_k».proof.Proof.Gen.AttnCombineIdeal.Value
public import proofs.«01_k».proof.Proof.Gen.AttnCombineRefIdeal.Read
public import proofs.«01_k».proof.Proof.Gen.AttnRowdot.Frame
public import proofs.«01_k».proof.Proof.Gen.AttnRowdotIdeal.Value
public import proofs.«01_k».proof.Proof.Gen.AttnRowdotRefIdeal.Read
public import proofs.«01_k».proof.Proof.Gen.LossHead.Frame
public import proofs.«01_k».proof.Proof.Gen.LossHeadIdeal.Value
public import proofs.«01_k».proof.Proof.Gen.LossHeadRefIdeal.Read
public import proofs.«01_k».proof.Proof.Gen.AdamGain.Frame
public import proofs.«01_k».proof.Proof.Gen.AdamGainIdeal.Value
public import proofs.«01_k».proof.Proof.Gen.AdamGainRefIdeal.Read
public import proofs.«01_k».proof.Proof.Gen.AdamBranch.Frame
public import proofs.«01_k».proof.Proof.Gen.AdamBranchIdeal.Value
public import proofs.«01_k».proof.Proof.Gen.AdamBranchRefIdeal.Read
public import proofs.«01_k».proof.Proof.Gen.AdamConv.Frame
public import proofs.«01_k».proof.Proof.Gen.AdamConvIdeal.Value
public import proofs.«01_k».proof.Proof.Gen.AdamConvRefIdeal.Read
public import proofs.«01_k».proof.Proof.Gen.LossSum.Frame
public import proofs.«01_k».proof.Proof.Gen.LossSumIdeal.Value
public import proofs.«01_k».proof.Proof.Gen.LossSumRefIdeal.Read
public import proofs.«01_k».proof.Proof.Xattn.Claim
public import proofs.«01_k».proof.Proof.Products.UpDx
public import proofs.«01_k».proof.Proof.Products.UpDw
public import proofs.«01_k».proof.Proof.Products.DownDx
public import proofs.«01_k».proof.Proof.Products.DownDw
public import proofs.«01_k».proof.Proof.Products.SquareDx
public import proofs.«01_k».proof.Proof.Products.SquareDw
public import proofs.«01_k».proof.Proof.Products.InADx
public import proofs.«01_k».proof.Proof.Products.InBDx
public import proofs.«01_k».proof.Proof.Products.InCDx
public import proofs.«01_k».proof.Proof.Products.InGDx
public import proofs.«01_k».proof.Proof.Products.InADw
public import proofs.«01_k».proof.Proof.Products.InCDw
public import proofs.«01_k».proof.Proof.Products.InGDw
public import proofs.«01_k».proof.Proof.Products.AOutDx
public import proofs.«01_k».proof.Proof.Products.AOutDw
public import proofs.«01_k».proof.Proof.Products.COutDx
public import proofs.«01_k».proof.Proof.Products.COutDw
public import proofs.«01_k».proof.Proof.Products.XkvDx
public import proofs.«01_k».proof.Proof.Products.XkvDw
public import proofs.«01_k».proof.Proof.Products.SquareFwd
public import proofs.«01_k».proof.Proof.Products.InCFwd
public import proofs.«01_k».proof.Proof.Products.InGFwd
public import proofs.«01_k».proof.Proof.Products.UpFwd
public import proofs.«01_k».proof.Proof.Products.DownFwd
public import proofs.«01_k».proof.Proof.Products.AOutFwd
public import proofs.«01_k».proof.Proof.Products.COutFwd
public import proofs.«01_k».proof.Proof.Products.XkvFwd
public import proofs.«01_k».proof.Proof.Point.MergeBwd
public import proofs.«01_k».proof.Proof.Point.MergeFwd
public import proofs.«01_k».proof.Proof.Point.NormBwd
public import proofs.«01_k».proof.Proof.Point.NormFwd
public import proofs.«01_k».proof.Proof.Xattn.XattnFwd
public import proofs.«01_k».proof.Proof.Point.NormBwdLast
public import proofs.«01_k».proof.Proof.Point.NormBwdFirst
public import proofs.«01_k».proof.Proof.Point.NormBwdMem
public import proofs.«01_k».proof.Proof.Point.NormFwdLast
public import proofs.«01_k».proof.Proof.Point.NormFwdFirst
public import proofs.«01_k».proof.Proof.Point.NormFwdMem
public import proofs.«01_k».proof.Proof.Point.ConvNormBwd
public import proofs.«01_k».proof.Proof.Point.GatingFwd
public import proofs.«01_k».proof.Proof.Point.AttnCombine
public import proofs.«01_k».proof.Proof.Point.AttnRowdot
public import proofs.«01_k».proof.Proof.Point.LossHead
public import proofs.«01_k».proof.Proof.Point.AdamGain
public import proofs.«01_k».proof.Proof.Point.AdamBranch
public import proofs.«01_k».proof.Proof.Point.AdamConv
public import proofs.«01_k».proof.Proof.Point.LossSum
public import Idealize.ShloMosaic.Adequacy
public import Idealize.ShloMosaic.Init

@[expose] public section

noncomputable section

namespace Cert.Proof

open Idealize.ShloMosaic

/-- Every claim of the certificate: the programs run to their end, and each kernel's results are its reference's. -/
theorem claim : Cert.Claim :=
  ⟨Cert.Kernel.Gen.facts,
   Cert.KernelIdeal.Gen.facts,
   Cert.ReferenceIdeal.Gen.facts,
   Cert.UpDx.Gen.facts,
   Cert.UpDxIdeal.Gen.facts,
   Cert.UpDxRefIdeal.Gen.facts,
   Cert.UpDw.Gen.facts,
   Cert.UpDwIdeal.Gen.facts,
   Cert.UpDwRefIdeal.Gen.facts,
   Cert.DownDx.Gen.facts,
   Cert.DownDxIdeal.Gen.facts,
   Cert.DownDxRefIdeal.Gen.facts,
   Cert.DownDw.Gen.facts,
   Cert.DownDwIdeal.Gen.facts,
   Cert.DownDwRefIdeal.Gen.facts,
   Cert.SquareDx.Gen.facts,
   Cert.SquareDxIdeal.Gen.facts,
   Cert.SquareDxRefIdeal.Gen.facts,
   Cert.SquareDw.Gen.facts,
   Cert.SquareDwIdeal.Gen.facts,
   Cert.SquareDwRefIdeal.Gen.facts,
   Cert.InADx.Gen.facts,
   Cert.InADxIdeal.Gen.facts,
   Cert.InADxRefIdeal.Gen.facts,
   Cert.InBDx.Gen.facts,
   Cert.InBDxIdeal.Gen.facts,
   Cert.InBDxRefIdeal.Gen.facts,
   Cert.InCDx.Gen.facts,
   Cert.InCDxIdeal.Gen.facts,
   Cert.InCDxRefIdeal.Gen.facts,
   Cert.InGDx.Gen.facts,
   Cert.InGDxIdeal.Gen.facts,
   Cert.InGDxRefIdeal.Gen.facts,
   Cert.InADw.Gen.facts,
   Cert.InADwIdeal.Gen.facts,
   Cert.InADwRefIdeal.Gen.facts,
   Cert.InCDw.Gen.facts,
   Cert.InCDwIdeal.Gen.facts,
   Cert.InCDwRefIdeal.Gen.facts,
   Cert.InGDw.Gen.facts,
   Cert.InGDwIdeal.Gen.facts,
   Cert.InGDwRefIdeal.Gen.facts,
   Cert.AOutDx.Gen.facts,
   Cert.AOutDxIdeal.Gen.facts,
   Cert.AOutDxRefIdeal.Gen.facts,
   Cert.AOutDw.Gen.facts,
   Cert.AOutDwIdeal.Gen.facts,
   Cert.AOutDwRefIdeal.Gen.facts,
   Cert.COutDx.Gen.facts,
   Cert.COutDxIdeal.Gen.facts,
   Cert.COutDxRefIdeal.Gen.facts,
   Cert.COutDw.Gen.facts,
   Cert.COutDwIdeal.Gen.facts,
   Cert.COutDwRefIdeal.Gen.facts,
   Cert.XkvDx.Gen.facts,
   Cert.XkvDxIdeal.Gen.facts,
   Cert.XkvDxRefIdeal.Gen.facts,
   Cert.XkvDw.Gen.facts,
   Cert.XkvDwIdeal.Gen.facts,
   Cert.XkvDwRefIdeal.Gen.facts,
   Cert.SquareFwd.Gen.facts,
   Cert.SquareFwdIdeal.Gen.facts,
   Cert.SquareFwdRefIdeal.Gen.facts,
   Cert.InCFwd.Gen.facts,
   Cert.InCFwdIdeal.Gen.facts,
   Cert.InCFwdRefIdeal.Gen.facts,
   Cert.InGFwd.Gen.facts,
   Cert.InGFwdIdeal.Gen.facts,
   Cert.InGFwdRefIdeal.Gen.facts,
   Cert.UpFwd.Gen.facts,
   Cert.UpFwdIdeal.Gen.facts,
   Cert.UpFwdRefIdeal.Gen.facts,
   Cert.DownFwd.Gen.facts,
   Cert.DownFwdIdeal.Gen.facts,
   Cert.DownFwdRefIdeal.Gen.facts,
   Cert.AOutFwd.Gen.facts,
   Cert.AOutFwdIdeal.Gen.facts,
   Cert.AOutFwdRefIdeal.Gen.facts,
   Cert.COutFwd.Gen.facts,
   Cert.COutFwdIdeal.Gen.facts,
   Cert.COutFwdRefIdeal.Gen.facts,
   Cert.XkvFwd.Gen.facts,
   Cert.XkvFwdIdeal.Gen.facts,
   Cert.XkvFwdRefIdeal.Gen.facts,
   Cert.MergeBwd.Gen.facts,
   Cert.MergeBwdIdeal.Gen.facts,
   Cert.MergeBwdRefIdeal.Gen.facts,
   Cert.MergeFwd.Gen.facts,
   Cert.MergeFwdIdeal.Gen.facts,
   Cert.MergeFwdRefIdeal.Gen.facts,
   Cert.NormBwd.Gen.facts,
   Cert.NormBwdIdeal.Gen.facts,
   Cert.NormBwdRefIdeal.Gen.facts,
   Cert.NormFwd.Gen.facts,
   Cert.NormFwdIdeal.Gen.facts,
   Cert.NormFwdRefIdeal.Gen.facts,
   Cert.XattnFwd.Gen.facts,
   Cert.XattnFwdIdeal.Gen.facts,
   Cert.XattnFwdRefIdeal.Gen.facts,
   Cert.NormBwdLast.Gen.facts,
   Cert.NormBwdLastIdeal.Gen.facts,
   Cert.NormBwdLastRefIdeal.Gen.facts,
   Cert.NormBwdFirst.Gen.facts,
   Cert.NormBwdFirstIdeal.Gen.facts,
   Cert.NormBwdFirstRefIdeal.Gen.facts,
   Cert.NormBwdMem.Gen.facts,
   Cert.NormBwdMemIdeal.Gen.facts,
   Cert.NormBwdMemRefIdeal.Gen.facts,
   Cert.NormFwdLast.Gen.facts,
   Cert.NormFwdLastIdeal.Gen.facts,
   Cert.NormFwdLastRefIdeal.Gen.facts,
   Cert.NormFwdFirst.Gen.facts,
   Cert.NormFwdFirstIdeal.Gen.facts,
   Cert.NormFwdFirstRefIdeal.Gen.facts,
   Cert.NormFwdMem.Gen.facts,
   Cert.NormFwdMemIdeal.Gen.facts,
   Cert.NormFwdMemRefIdeal.Gen.facts,
   Cert.ConvNormBwd.Gen.facts,
   Cert.ConvNormBwdIdeal.Gen.facts,
   Cert.ConvNormBwdRefIdeal.Gen.facts,
   Cert.GatingFwd.Gen.facts,
   Cert.GatingFwdIdeal.Gen.facts,
   Cert.GatingFwdRefIdeal.Gen.facts,
   Cert.AttnCombine.Gen.facts,
   Cert.AttnCombineIdeal.Gen.facts,
   Cert.AttnCombineRefIdeal.Gen.facts,
   Cert.AttnRowdot.Gen.facts,
   Cert.AttnRowdotIdeal.Gen.facts,
   Cert.AttnRowdotRefIdeal.Gen.facts,
   Cert.LossHead.Gen.facts,
   Cert.LossHeadIdeal.Gen.facts,
   Cert.LossHeadRefIdeal.Gen.facts,
   Cert.AdamGain.Gen.facts,
   Cert.AdamGainIdeal.Gen.facts,
   Cert.AdamGainRefIdeal.Gen.facts,
   Cert.AdamBranch.Gen.facts,
   Cert.AdamBranchIdeal.Gen.facts,
   Cert.AdamBranchRefIdeal.Gen.facts,
   Cert.AdamConv.Gen.facts,
   Cert.AdamConvIdeal.Gen.facts,
   Cert.AdamConvRefIdeal.Gen.facts,
   Cert.LossSum.Gen.facts,
   Cert.LossSumIdeal.Gen.facts,
   Cert.LossSumRefIdeal.Gen.facts,
   Cert.Xattn.pre_facts,
   Cert.Point.ConvNormBwd.pre_facts,
   Cert.Point.AttnCombine.pre_facts,
   fun m ρ _ => Cert.Kernel.Gen.frame m ρ,
   fun m ρ _ => Cert.KernelIdeal.Gen.frame m ρ,
   fun m ρ _ => Cert.KernelIdeal.Gen.frame m ρ,
   fun m ρ _ => Cert.Xattn.frame_ref m ρ,
   fun m ρ _ => Cert.Xattn.frame_ref m ρ,
   fun m ρ _ => Cert.UpDx.Gen.frame m ρ,
   fun m ρ _ => Cert.UpDxIdeal.Gen.frame m ρ,
   Cert.Products.UpDx.frame_ref,
   fun m ρ _ => Cert.UpDw.Gen.frame m ρ,
   fun m ρ _ => Cert.UpDwIdeal.Gen.frame m ρ,
   Cert.Products.UpDw.frame_ref,
   fun m ρ _ => Cert.DownDx.Gen.frame m ρ,
   fun m ρ _ => Cert.DownDxIdeal.Gen.frame m ρ,
   Cert.Products.DownDx.frame_ref,
   fun m ρ _ => Cert.DownDw.Gen.frame m ρ,
   fun m ρ _ => Cert.DownDwIdeal.Gen.frame m ρ,
   Cert.Products.DownDw.frame_ref,
   fun m ρ _ => Cert.SquareDx.Gen.frame m ρ,
   fun m ρ _ => Cert.SquareDxIdeal.Gen.frame m ρ,
   Cert.Products.SquareDx.frame_ref,
   fun m ρ _ => Cert.SquareDw.Gen.frame m ρ,
   fun m ρ _ => Cert.SquareDwIdeal.Gen.frame m ρ,
   Cert.Products.SquareDw.frame_ref,
   fun m ρ _ => Cert.InADx.Gen.frame m ρ,
   fun m ρ _ => Cert.InADxIdeal.Gen.frame m ρ,
   Cert.Products.InADx.frame_ref,
   fun m ρ _ => Cert.InBDx.Gen.frame m ρ,
   fun m ρ _ => Cert.InBDxIdeal.Gen.frame m ρ,
   Cert.Products.InBDx.frame_ref,
   fun m ρ _ => Cert.InCDx.Gen.frame m ρ,
   fun m ρ _ => Cert.InCDxIdeal.Gen.frame m ρ,
   Cert.Products.InCDx.frame_ref,
   fun m ρ _ => Cert.InGDx.Gen.frame m ρ,
   fun m ρ _ => Cert.InGDxIdeal.Gen.frame m ρ,
   Cert.Products.InGDx.frame_ref,
   fun m ρ _ => Cert.InADw.Gen.frame m ρ,
   fun m ρ _ => Cert.InADwIdeal.Gen.frame m ρ,
   Cert.Products.InADw.frame_ref,
   fun m ρ _ => Cert.InCDw.Gen.frame m ρ,
   fun m ρ _ => Cert.InCDwIdeal.Gen.frame m ρ,
   Cert.Products.InCDw.frame_ref,
   fun m ρ _ => Cert.InGDw.Gen.frame m ρ,
   fun m ρ _ => Cert.InGDwIdeal.Gen.frame m ρ,
   Cert.Products.InGDw.frame_ref,
   fun m ρ _ => Cert.AOutDx.Gen.frame m ρ,
   fun m ρ _ => Cert.AOutDxIdeal.Gen.frame m ρ,
   Cert.Products.AOutDx.frame_ref,
   fun m ρ _ => Cert.AOutDw.Gen.frame m ρ,
   fun m ρ _ => Cert.AOutDwIdeal.Gen.frame m ρ,
   Cert.Products.AOutDw.frame_ref,
   fun m ρ _ => Cert.COutDx.Gen.frame m ρ,
   fun m ρ _ => Cert.COutDxIdeal.Gen.frame m ρ,
   Cert.Products.COutDx.frame_ref,
   fun m ρ _ => Cert.COutDw.Gen.frame m ρ,
   fun m ρ _ => Cert.COutDwIdeal.Gen.frame m ρ,
   Cert.Products.COutDw.frame_ref,
   fun m ρ _ => Cert.XkvDx.Gen.frame m ρ,
   fun m ρ _ => Cert.XkvDxIdeal.Gen.frame m ρ,
   Cert.Products.XkvDx.frame_ref,
   fun m ρ _ => Cert.XkvDw.Gen.frame m ρ,
   fun m ρ _ => Cert.XkvDwIdeal.Gen.frame m ρ,
   Cert.Products.XkvDw.frame_ref,
   fun m ρ _ => Cert.SquareFwd.Gen.frame m ρ,
   fun m ρ _ => Cert.SquareFwdIdeal.Gen.frame m ρ,
   Cert.Products.SquareFwd.frame_ref,
   fun m ρ _ => Cert.InCFwd.Gen.frame m ρ,
   fun m ρ _ => Cert.InCFwdIdeal.Gen.frame m ρ,
   Cert.Products.InCFwd.frame_ref,
   fun m ρ _ => Cert.InGFwd.Gen.frame m ρ,
   fun m ρ _ => Cert.InGFwdIdeal.Gen.frame m ρ,
   Cert.Products.InGFwd.frame_ref,
   fun m ρ _ => Cert.UpFwd.Gen.frame m ρ,
   fun m ρ _ => Cert.UpFwdIdeal.Gen.frame m ρ,
   Cert.Products.UpFwd.frame_ref,
   fun m ρ _ => Cert.DownFwd.Gen.frame m ρ,
   fun m ρ _ => Cert.DownFwdIdeal.Gen.frame m ρ,
   Cert.Products.DownFwd.frame_ref,
   fun m ρ _ => Cert.AOutFwd.Gen.frame m ρ,
   fun m ρ _ => Cert.AOutFwdIdeal.Gen.frame m ρ,
   Cert.Products.AOutFwd.frame_ref,
   fun m ρ _ => Cert.COutFwd.Gen.frame m ρ,
   fun m ρ _ => Cert.COutFwdIdeal.Gen.frame m ρ,
   Cert.Products.COutFwd.frame_ref,
   fun m ρ _ => Cert.XkvFwd.Gen.frame m ρ,
   fun m ρ _ => Cert.XkvFwdIdeal.Gen.frame m ρ,
   Cert.Products.XkvFwd.frame_ref,
   fun m ρ _ => Cert.MergeBwd.Gen.frame m ρ,
   fun m ρ _ => Cert.MergeBwdIdeal.Gen.frame m ρ,
   Cert.Point.MergeBwd.frame_ref,
   fun m ρ _ => Cert.MergeFwd.Gen.frame m ρ,
   fun m ρ _ => Cert.MergeFwdIdeal.Gen.frame m ρ,
   Cert.Point.MergeFwd.frame_ref,
   fun m ρ _ => Cert.NormBwd.Gen.frame m ρ,
   fun m ρ _ => Cert.NormBwdIdeal.Gen.frame m ρ,
   Cert.Point.NormBwd.frame_ref,
   fun m ρ _ => Cert.NormFwd.Gen.frame m ρ,
   fun m ρ _ => Cert.NormFwdIdeal.Gen.frame m ρ,
   Cert.Point.NormFwd.frame_ref,
   fun m ρ _ => Cert.XattnFwd.Gen.frame m ρ,
   fun m ρ _ => Cert.XattnFwdIdeal.Gen.frame m ρ,
   Cert.Xattn.XattnFwd.frame_ref,
   fun m ρ _ => Cert.NormBwdLast.Gen.frame m ρ,
   fun m ρ _ => Cert.NormBwdLastIdeal.Gen.frame m ρ,
   Cert.Point.NormBwdLast.frame_ref,
   fun m ρ _ => Cert.NormBwdFirst.Gen.frame m ρ,
   fun m ρ _ => Cert.NormBwdFirstIdeal.Gen.frame m ρ,
   Cert.Point.NormBwdFirst.frame_ref,
   fun m ρ _ => Cert.NormBwdMem.Gen.frame m ρ,
   fun m ρ _ => Cert.NormBwdMemIdeal.Gen.frame m ρ,
   Cert.Point.NormBwdMem.frame_ref,
   fun m ρ _ => Cert.NormFwdLast.Gen.frame m ρ,
   fun m ρ _ => Cert.NormFwdLastIdeal.Gen.frame m ρ,
   Cert.Point.NormFwdLast.frame_ref,
   fun m ρ _ => Cert.NormFwdFirst.Gen.frame m ρ,
   fun m ρ _ => Cert.NormFwdFirstIdeal.Gen.frame m ρ,
   Cert.Point.NormFwdFirst.frame_ref,
   fun m ρ _ => Cert.NormFwdMem.Gen.frame m ρ,
   fun m ρ _ => Cert.NormFwdMemIdeal.Gen.frame m ρ,
   Cert.Point.NormFwdMem.frame_ref,
   fun m ρ _ => Cert.ConvNormBwd.Gen.frame m ρ,
   fun m ρ _ => Cert.ConvNormBwdIdeal.Gen.frame m ρ,
   fun m ρ _ => Cert.ConvNormBwdIdeal.Gen.frame m ρ,
   Cert.Point.ConvNormBwd.frame_ref,
   fun m ρ _ => Cert.Point.ConvNormBwd.frame_ref m ρ trivial,
   fun m ρ _ => Cert.GatingFwd.Gen.frame m ρ,
   fun m ρ _ => Cert.GatingFwdIdeal.Gen.frame m ρ,
   Cert.Point.GatingFwd.frame_ref,
   fun m ρ _ => Cert.AttnCombine.Gen.frame m ρ,
   fun m ρ _ => Cert.AttnCombineIdeal.Gen.frame m ρ,
   fun m ρ _ => Cert.AttnCombineIdeal.Gen.frame m ρ,
   Cert.Point.AttnCombine.frame_ref,
   fun m ρ _ => Cert.Point.AttnCombine.frame_ref m ρ trivial,
   fun m ρ _ => Cert.AttnRowdot.Gen.frame m ρ,
   fun m ρ _ => Cert.AttnRowdotIdeal.Gen.frame m ρ,
   Cert.Point.AttnRowdot.frame_ref,
   fun m ρ _ => Cert.LossHead.Gen.frame m ρ,
   fun m ρ _ => Cert.LossHeadIdeal.Gen.frame m ρ,
   Cert.Point.LossHead.frame_ref,
   fun m ρ _ => Cert.AdamGain.Gen.frame m ρ,
   fun m ρ _ => Cert.AdamGainIdeal.Gen.frame m ρ,
   Cert.Point.AdamGain.frame_ref,
   fun m ρ _ => Cert.AdamBranch.Gen.frame m ρ,
   fun m ρ _ => Cert.AdamBranchIdeal.Gen.frame m ρ,
   Cert.Point.AdamBranch.frame_ref,
   fun m ρ _ => Cert.AdamConv.Gen.frame m ρ,
   fun m ρ _ => Cert.AdamConvIdeal.Gen.frame m ρ,
   Cert.Point.AdamConv.frame_ref,
   fun m ρ _ => Cert.LossSum.Gen.frame m ρ,
   fun m ρ _ => Cert.LossSumIdeal.Gen.frame m ρ,
   Cert.Point.LossSum.frame_ref,
   trivial,
   Cert.Xattn.value,
   trivial,
   Cert.Products.UpDx.value,
   trivial,
   Cert.Products.UpDw.value,
   trivial,
   Cert.Products.DownDx.value,
   trivial,
   Cert.Products.DownDw.value,
   trivial,
   Cert.Products.SquareDx.value,
   trivial,
   Cert.Products.SquareDw.value,
   trivial,
   Cert.Products.InADx.value,
   trivial,
   Cert.Products.InBDx.value,
   trivial,
   Cert.Products.InCDx.value,
   trivial,
   Cert.Products.InGDx.value,
   trivial,
   Cert.Products.InADw.value,
   trivial,
   Cert.Products.InCDw.value,
   trivial,
   Cert.Products.InGDw.value,
   trivial,
   Cert.Products.AOutDx.value,
   trivial,
   Cert.Products.AOutDw.value,
   trivial,
   Cert.Products.COutDx.value,
   trivial,
   Cert.Products.COutDw.value,
   trivial,
   Cert.Products.XkvDx.value,
   trivial,
   Cert.Products.XkvDw.value,
   trivial,
   Cert.Products.SquareFwd.value,
   trivial,
   Cert.Products.InCFwd.value,
   trivial,
   Cert.Products.InGFwd.value,
   trivial,
   Cert.Products.UpFwd.value,
   trivial,
   Cert.Products.DownFwd.value,
   trivial,
   Cert.Products.AOutFwd.value,
   trivial,
   Cert.Products.COutFwd.value,
   trivial,
   Cert.Products.XkvFwd.value,
   trivial,
   Cert.Point.MergeBwd.value,
   trivial,
   Cert.Point.MergeFwd.value,
   trivial,
   Cert.Point.NormBwd.value,
   trivial,
   Cert.Point.NormFwd.value,
   trivial,
   Cert.Xattn.XattnFwd.value,
   trivial,
   Cert.Point.NormBwdLast.value,
   trivial,
   Cert.Point.NormBwdFirst.value,
   trivial,
   Cert.Point.NormBwdMem.value,
   trivial,
   Cert.Point.NormFwdLast.value,
   trivial,
   Cert.Point.NormFwdFirst.value,
   trivial,
   Cert.Point.NormFwdMem.value,
   trivial,
   Cert.Point.ConvNormBwd.value,
   trivial,
   Cert.Point.GatingFwd.value,
   trivial,
   Cert.Point.AttnCombine.value,
   trivial,
   Cert.Point.AttnRowdot.value,
   trivial,
   Cert.Point.LossHead.value,
   trivial,
   Cert.Point.AdamGain.value,
   trivial,
   Cert.Point.AdamBranch.value,
   trivial,
   Cert.Point.AdamConv.value,
   trivial,
   Cert.Point.LossSum.value⟩

end Cert.Proof

end
